-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7)
      ∧ r.2.mem ((c.tc : Thread Cert.Kernel11.nD Cert.Kernel11.τ).loc Cert.Kernel11.main_arg8) = m ((c.tc : Thread Cert.Kernel11.nD Cert.Kernel11.τ).loc Cert.Kernel11.main_arg8)
      ∧ r.2.mem ((c.tc : Thread Cert.Kernel11.nD Cert.Kernel11.τ).loc Cert.Kernel11.main_arg9) = m ((c.tc : Thread Cert.Kernel11.nD Cert.Kernel11.τ).loc Cert.Kernel11.main_arg9)
      ∧ r.2.mem ((c.tc : Thread Cert.Kernel11.nD Cert.Kernel11.τ).loc Cert.Kernel11.main_arg10) = m ((c.tc : Thread Cert.Kernel11.nD Cert.Kernel11.τ).loc Cert.Kernel11.main_arg10)
      ∧ r.2.mem ((c.tc : Thread Cert.Kernel11.nD Cert.Kernel11.τ).loc Cert.Kernel11.main_arg11) = m ((c.tc : Thread Cert.Kernel11.nD Cert.Kernel11.τ).loc Cert.Kernel11.main_arg11)
      ∧ r.2.mem ((c.tc : Thread Cert.Kernel11.nD Cert.Kernel11.τ).loc Cert.Kernel11.main_arg12) = m ((c.tc : Thread Cert.Kernel11.nD Cert.Kernel11.τ).loc Cert.Kernel11.main_arg12)
      ∧ r.2.mem ((c.tc : Thread Cert.Kernel11.nD Cert.Kernel11.τ).loc Cert.Kernel11.main_arg13) = m ((c.tc : Thread Cert.Kernel11.nD Cert.Kernel11.τ).loc Cert.Kernel11.main_arg13)
      ∧ r.2.mem ((c.tc : Thread Cert.Kernel11.nD Cert.Kernel11.τ).loc Cert.Kernel11.main_arg14) = m ((c.tc : Thread Cert.Kernel11.nD Cert.Kernel11.τ).loc Cert.Kernel11.main_arg14)
      ∧ r.2.mem ((c.tc : Thread Cert.Kernel11.nD Cert.Kernel11.τ).loc Cert.Kernel11.main_arg15) = m ((c.tc : Thread Cert.Kernel11.nD Cert.Kernel11.τ).loc Cert.Kernel11.main_arg15)
      ∧ r.2.mem ((c.tc : Thread Cert.Kernel11.nD Cert.Kernel11.τ).loc Cert.Kernel11.main_arg16) = m ((c.tc : Thread Cert.Kernel11.nD Cert.Kernel11.τ).loc Cert.Kernel11.main_arg16)
      ∧ r.2.mem ((c.tc : Thread Cert.Kernel11.nD Cert.Kernel11.τ).loc Cert.Kernel11.main_arg17) = m ((c.tc : Thread Cert.Kernel11.nD Cert.Kernel11.τ).loc Cert.Kernel11.main_arg17)
      ∧ r.2.mem ((c.tc : Thread Cert.Kernel11.nD Cert.Kernel11.τ).loc Cert.Kernel11.main_arg18) = m ((c.tc : Thread Cert.Kernel11.nD Cert.Kernel11.τ).loc Cert.Kernel11.main_arg18)
      ∧ r.2.mem ((c.tc : Thread Cert.Kernel11.nD Cert.Kernel11.τ).loc Cert.Kernel11.main_arg19) = m ((c.tc : Thread Cert.Kernel11.nD Cert.Kernel11.τ).loc Cert.Kernel11.main_arg19)
      ∧ r.2.mem ((c.tc : Thread Cert.Kernel11.nD Cert.Kernel11.τ).loc Cert.Kernel11.main_arg20) = m ((c.tc : Thread Cert.Kernel11.nD Cert.Kernel11.τ).loc Cert.Kernel11.main_arg20)
      ∧ r.2.mem ((c.tc : Thread Cert.Kernel11.nD Cert.Kernel11.τ).loc Cert.Kernel11.main_arg21) = m ((c.tc : Thread Cert.Kernel11.nD Cert.Kernel11.τ).loc Cert.Kernel11.main_arg21)
      ∧ r.2.mem ((c.tc : Thread Cert.Kernel11.nD Cert.Kernel11.τ).loc Cert.Kernel11.main_arg22) = m ((c.tc : Thread Cert.Kernel11.nD Cert.Kernel11.τ).loc Cert.Kernel11.main_arg22)
      ∧ r.2.mem ((c.tc : Thread Cert.Kernel11.nD Cert.Kernel11.τ).loc Cert.Kernel11.main_arg23) = m ((c.tc : Thread Cert.Kernel11.nD Cert.Kernel11.τ).loc Cert.Kernel11.main_arg23)
      ∧ r.2.mem ((c.tc : Thread Cert.Kernel11.nD Cert.Kernel11.τ).loc Cert.Kernel11.main_arg24) = m ((c.tc : Thread Cert.Kernel11.nD Cert.Kernel11.τ).loc Cert.Kernel11.main_arg24)
      ∧ r.2.mem ((c.tc : Thread Cert.Kernel11.nD Cert.Kernel11.τ).loc Cert.Kernel11.main_arg25) = m ((c.tc : Thread Cert.Kernel11.nD Cert.Kernel11.τ).loc Cert.Kernel11.main_arg25)
      ∧ r.2.mem ((c.tc : Thread Cert.Kernel11.nD Cert.Kernel11.τ).loc Cert.Kernel11.main_arg26) = m ((c.tc : Thread Cert.Kernel11.nD Cert.Kernel11.τ).loc Cert.Kernel11.main_arg26)
      ∧ r.2.mem ((c.tc : Thread Cert.Kernel11.nD Cert.Kernel11.τ).loc Cert.Kernel11.main_arg27) = m ((c.tc : Thread Cert.Kernel11.nD Cert.Kernel11.τ).loc Cert.Kernel11.main_arg27)
      ∧ r.2.mem ((c.tc : Thread Cert.Kernel11.nD Cert.Kernel11.τ).loc Cert.Kernel11.main_arg28) = m ((c.tc : Thread Cert.Kernel11.nD Cert.Kernel11.τ).loc Cert.Kernel11.main_arg28)
      ∧ r.2.mem ((c.tc : Thread Cert.Kernel11.nD Cert.Kernel11.τ).loc Cert.Kernel11.main_arg29) = m ((c.tc : Thread Cert.Kernel11.nD Cert.Kernel11.τ).loc Cert.Kernel11.main_arg29)
      ∧ r.2.mem ((c.tc : Thread Cert.Kernel11.nD Cert.Kernel11.τ).loc Cert.Kernel11.main_arg30) = m ((c.tc : Thread Cert.Kernel11.nD Cert.Kernel11.τ).loc Cert.Kernel11.main_arg30)
      ∧ r.2.mem ((c.tc : Thread Cert.Kernel11.nD Cert.Kernel11.τ).loc Cert.Kernel11.main_arg31) = m ((c.tc : Thread Cert.Kernel11.nD Cert.Kernel11.τ).loc Cert.Kernel11.main_arg31)
      ∧ r.2.mem ((c.tc : Thread Cert.Kernel11.nD Cert.Kernel11.τ).loc Cert.Kernel11.main_arg32) = m ((c.tc : Thread Cert.Kernel11.nD Cert.Kernel11.τ).loc Cert.Kernel11.main_arg32)
      ∧ r.2.mem ((c.tc : Thread Cert.Kernel11.nD Cert.Kernel11.τ).loc Cert.Kernel11.main_arg33) = m ((c.tc : Thread Cert.Kernel11.nD Cert.Kernel11.τ).loc Cert.Kernel11.main_arg33)
      ∧ r.2.mem ((c.tc : Thread Cert.Kernel11.nD Cert.Kernel11.τ).loc Cert.Kernel11.main_arg34) = m ((c.tc : Thread Cert.Kernel11.nD Cert.Kernel11.τ).loc Cert.Kernel11.main_arg34)
      ∧ r.2.mem ((c.tc : Thread Cert.Kernel11.nD Cert.Kernel11.τ).loc Cert.Kernel11.main_arg35) = m ((c.tc : Thread Cert.Kernel11.nD Cert.Kernel11.τ).loc Cert.Kernel11.main_arg35)
      ∧ r.2.mem ((c.tc : Thread Cert.Kernel11.nD Cert.Kernel11.τ).loc Cert.Kernel11.main_arg36) = m ((c.tc : Thread Cert.Kernel11.nD Cert.Kernel11.τ).loc Cert.Kernel11.main_arg36)
      ∧ r.2.mem ((c.tc : Thread Cert.Kernel11.nD Cert.Kernel11.τ).loc Cert.Kernel11.main_arg37) = m ((c.tc : Thread Cert.Kernel11.nD Cert.Kernel11.τ).loc Cert.Kernel11.main_arg37)
      ∧ r.2.mem ((c.tc : Thread Cert.Kernel11.nD Cert.Kernel11.τ).loc Cert.Kernel11.main_arg38) = m ((c.tc : Thread Cert.Kernel11.nD Cert.Kernel11.τ).loc Cert.Kernel11.main_arg38)
      ∧ r.2.mem ((c.tc : Thread Cert.Kernel11.nD Cert.Kernel11.τ).loc Cert.Kernel11.main_arg39) = m ((c.tc : Thread Cert.Kernel11.nD Cert.Kernel11.τ).loc Cert.Kernel11.main_arg39)
      ∧ r.2.mem ((c.tc : Thread Cert.Kernel11.nD Cert.Kernel11.τ).loc Cert.Kernel11.main_arg40) = m ((c.tc : Thread Cert.Kernel11.nD Cert.Kernel11.τ).loc Cert.Kernel11.main_arg40)
      ∧ r.2.mem ((c.tc : Thread Cert.Kernel11.nD Cert.Kernel11.τ).loc Cert.Kernel11.main_arg41) = m ((c.tc : Thread Cert.Kernel11.nD Cert.Kernel11.τ).loc Cert.Kernel11.main_arg41)
      ∧ r.2.mem ((c.tc : Thread Cert.Kernel11.nD Cert.Kernel11.τ).loc Cert.Kernel11.main_arg42) = m ((c.tc : Thread Cert.Kernel11.nD Cert.Kernel11.τ).loc Cert.Kernel11.main_arg42)
      ∧ r.2.mem ((c.tc : Thread Cert.Kernel11.nD Cert.Kernel11.τ).loc Cert.Kernel11.main_arg43) = m ((c.tc : Thread Cert.Kernel11.nD Cert.Kernel11.τ).loc Cert.Kernel11.main_arg43)
      ∧ r.2.mem ((c.tc : Thread Cert.Kernel11.nD Cert.Kernel11.τ).loc Cert.Kernel11.main_arg44) = m ((c.tc : Thread Cert.Kernel11.nD Cert.Kernel11.τ).loc Cert.Kernel11.main_arg44)
      ∧ r.2.mem ((c.tc : Thread Cert.Kernel11.nD Cert.Kernel11.τ).loc Cert.Kernel11.main_arg45) = m ((c.tc : Thread Cert.Kernel11.nD Cert.Kernel11.τ).loc Cert.Kernel11.main_arg45)
      ∧ r.2.mem ((c.tc : Thread Cert.Kernel11.nD Cert.Kernel11.τ).loc Cert.Kernel11.main_arg46) = m ((c.tc : Thread Cert.Kernel11.nD Cert.Kernel11.τ).loc Cert.Kernel11.main_arg46)
      ∧ r.2.mem ((c.tc : Thread Cert.Kernel11.nD Cert.Kernel11.τ).loc Cert.Kernel11.main_arg47) = m ((c.tc : Thread Cert.Kernel11.nD Cert.Kernel11.τ).loc Cert.Kernel11.main_arg47)
      ∧ r.2.mem ((c.tc : Thread Cert.Kernel11.nD Cert.Kernel11.τ).loc Cert.Kernel11.main_arg48) = m ((c.tc : Thread Cert.Kernel11.nD Cert.Kernel11.τ).loc Cert.Kernel11.main_arg48)
      ∧ r.2.mem ((c.tc : Thread Cert.Kernel11.nD Cert.Kernel11.τ).loc Cert.Kernel11.main_arg49) = m ((c.tc : Thread Cert.Kernel11.nD Cert.Kernel11.τ).loc Cert.Kernel11.main_arg49)
      ∧ r.2.mem ((c.tc : Thread Cert.Kernel11.nD Cert.Kernel11.τ).loc Cert.Kernel11.main_arg50) = m ((c.tc : Thread Cert.Kernel11.nD Cert.Kernel11.τ).loc Cert.Kernel11.main_arg50)
      ∧ r.2.mem ((c.tc : Thread Cert.Kernel11.nD Cert.Kernel11.τ).loc Cert.Kernel11.main_arg51) = m ((c.tc : Thread Cert.Kernel11.nD Cert.Kernel11.τ).loc Cert.Kernel11.main_arg51))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
      ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
      ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9)
      ∧ r.2.mem ((c.tc : Thread Cert.Kernel11Ideal.nD Cert.Kernel11Ideal.τ).loc Cert.Kernel11Ideal.main_arg10) = m ((c.tc : Thread Cert.Kernel11Ideal.nD Cert.Kernel11Ideal.τ).loc Cert.Kernel11Ideal.main_arg10)
      ∧ r.2.mem ((c.tc : Thread Cert.Kernel11Ideal.nD Cert.Kernel11Ideal.τ).loc Cert.Kernel11Ideal.main_arg11) = m ((c.tc : Thread Cert.Kernel11Ideal.nD Cert.Kernel11Ideal.τ).loc Cert.Kernel11Ideal.main_arg11)
      ∧ r.2.mem ((c.tc : Thread Cert.Kernel11Ideal.nD Cert.Kernel11Ideal.τ).loc Cert.Kernel11Ideal.main_arg12) = m ((c.tc : Thread Cert.Kernel11Ideal.nD Cert.Kernel11Ideal.τ).loc Cert.Kernel11Ideal.main_arg12)
      ∧ r.2.mem ((c.tc : Thread Cert.Kernel11Ideal.nD Cert.Kernel11Ideal.τ).loc Cert.Kernel11Ideal.main_arg13) = m ((c.tc : Thread Cert.Kernel11Ideal.nD Cert.Kernel11Ideal.τ).loc Cert.Kernel11Ideal.main_arg13)
      ∧ r.2.mem ((c.tc : Thread Cert.Kernel11Ideal.nD Cert.Kernel11Ideal.τ).loc Cert.Kernel11Ideal.main_arg14) = m ((c.tc : Thread Cert.Kernel11Ideal.nD Cert.Kernel11Ideal.τ).loc Cert.Kernel11Ideal.main_arg14)
      ∧ r.2.mem ((c.tc : Thread Cert.Kernel11Ideal.nD Cert.Kernel11Ideal.τ).loc Cert.Kernel11Ideal.main_arg15) = m ((c.tc : Thread Cert.Kernel11Ideal.nD Cert.Kernel11Ideal.τ).loc Cert.Kernel11Ideal.main_arg15)
      ∧ r.2.mem ((c.tc : Thread Cert.Kernel11Ideal.nD Cert.Kernel11Ideal.τ).loc Cert.Kernel11Ideal.main_arg16) = m ((c.tc : Thread Cert.Kernel11Ideal.nD Cert.Kernel11Ideal.τ).loc Cert.Kernel11Ideal.main_arg16)
      ∧ r.2.mem ((c.tc : Thread Cert.Kernel11Ideal.nD Cert.Kernel11Ideal.τ).loc Cert.Kernel11Ideal.main_arg17) = m ((c.tc : Thread Cert.Kernel11Ideal.nD Cert.Kernel11Ideal.τ).loc Cert.Kernel11Ideal.main_arg17)
      ∧ r.2.mem ((c.tc : Thread Cert.Kernel11Ideal.nD Cert.Kernel11Ideal.τ).loc Cert.Kernel11Ideal.main_arg18) = m ((c.tc : Thread Cert.Kernel11Ideal.nD Cert.Kernel11Ideal.τ).loc Cert.Kernel11Ideal.main_arg18)
      ∧ r.2.mem ((c.tc : Thread Cert.Kernel11Ideal.nD Cert.Kernel11Ideal.τ).loc Cert.Kernel11Ideal.main_arg19) = m ((c.tc : Thread Cert.Kernel11Ideal.nD Cert.Kernel11Ideal.τ).loc Cert.Kernel11Ideal.main_arg19)
      ∧ r.2.mem ((c.tc : Thread Cert.Kernel11Ideal.nD Cert.Kernel11Ideal.τ).loc Cert.Kernel11Ideal.main_arg20) = m ((c.tc : Thread Cert.Kernel11Ideal.nD Cert.Kernel11Ideal.τ).loc Cert.Kernel11Ideal.main_arg20)
      ∧ r.2.mem ((c.tc : Thread Cert.Kernel11Ideal.nD Cert.Kernel11Ideal.τ).loc Cert.Kernel11Ideal.main_arg21) = m ((c.tc : Thread Cert.Kernel11Ideal.nD Cert.Kernel11Ideal.τ).loc Cert.Kernel11Ideal.main_arg21)
      ∧ r.2.mem ((c.tc : Thread Cert.Kernel11Ideal.nD Cert.Kernel11Ideal.τ).loc Cert.Kernel11Ideal.main_arg22) = m ((c.tc : Thread Cert.Kernel11Ideal.nD Cert.Kernel11Ideal.τ).loc Cert.Kernel11Ideal.main_arg22)
      ∧ r.2.mem ((c.tc : Thread Cert.Kernel11Ideal.nD Cert.Kernel11Ideal.τ).loc Cert.Kernel11Ideal.main_arg23) = m ((c.tc : Thread Cert.Kernel11Ideal.nD Cert.Kernel11Ideal.τ).loc Cert.Kernel11Ideal.main_arg23)
      ∧ r.2.mem ((c.tc : Thread Cert.Kernel11Ideal.nD Cert.Kernel11Ideal.τ).loc Cert.Kernel11Ideal.main_arg24) = m ((c.tc : Thread Cert.Kernel11Ideal.nD Cert.Kernel11Ideal.τ).loc Cert.Kernel11Ideal.main_arg24)
      ∧ r.2.mem ((c.tc : Thread Cert.Kernel11Ideal.nD Cert.Kernel11Ideal.τ).loc Cert.Kernel11Ideal.main_arg25) = m ((c.tc : Thread Cert.Kernel11Ideal.nD Cert.Kernel11Ideal.τ).loc Cert.Kernel11Ideal.main_arg25)
      ∧ r.2.mem ((c.tc : Thread Cert.Kernel11Ideal.nD Cert.Kernel11Ideal.τ).loc Cert.Kernel11Ideal.main_arg26) = m ((c.tc : Thread Cert.Kernel11Ideal.nD Cert.Kernel11Ideal.τ).loc Cert.Kernel11Ideal.main_arg26)
      ∧ r.2.mem ((c.tc : Thread Cert.Kernel11Ideal.nD Cert.Kernel11Ideal.τ).loc Cert.Kernel11Ideal.main_arg27) = m ((c.tc : Thread Cert.Kernel11Ideal.nD Cert.Kernel11Ideal.τ).loc Cert.Kernel11Ideal.main_arg27)
      ∧ r.2.mem ((c.tc : Thread Cert.Kernel11Ideal.nD Cert.Kernel11Ideal.τ).loc Cert.Kernel11Ideal.main_arg28) = m ((c.tc : Thread Cert.Kernel11Ideal.nD Cert.Kernel11Ideal.τ).loc Cert.Kernel11Ideal.main_arg28)
      ∧ r.2.mem ((c.tc : Thread Cert.Kernel11Ideal.nD Cert.Kernel11Ideal.τ).loc Cert.Kernel11Ideal.main_arg29) = m ((c.tc : Thread Cert.Kernel11Ideal.nD Cert.Kernel11Ideal.τ).loc Cert.Kernel11Ideal.main_arg29)
      ∧ r.2.mem ((c.tc : Thread Cert.Kernel11Ideal.nD Cert.Kernel11Ideal.τ).loc Cert.Kernel11Ideal.main_arg30) = m ((c.tc : Thread Cert.Kernel11Ideal.nD Cert.Kernel11Ideal.τ).loc Cert.Kernel11Ideal.main_arg30)
      ∧ r.2.mem ((c.tc : Thread Cert.Kernel11Ideal.nD Cert.Kernel11Ideal.τ).loc Cert.Kernel11Ideal.main_arg31) = m ((c.tc : Thread Cert.Kernel11Ideal.nD Cert.Kernel11Ideal.τ).loc Cert.Kernel11Ideal.main_arg31)
      ∧ r.2.mem ((c.tc : Thread Cert.Kernel11Ideal.nD Cert.Kernel11Ideal.τ).loc Cert.Kernel11Ideal.main_arg32) = m ((c.tc : Thread Cert.Kernel11Ideal.nD Cert.Kernel11Ideal.τ).loc Cert.Kernel11Ideal.main_arg32)
      ∧ r.2.mem ((c.tc : Thread Cert.Kernel11Ideal.nD Cert.Kernel11Ideal.τ).loc Cert.Kernel11Ideal.main_arg33) = m ((c.tc : Thread Cert.Kernel11Ideal.nD Cert.Kernel11Ideal.τ).loc Cert.Kernel11Ideal.main_arg33)
      ∧ r.2.mem ((c.tc : Thread Cert.Kernel11Ideal.nD Cert.Kernel11Ideal.τ).loc Cert.Kernel11Ideal.main_arg34) = m ((c.tc : Thread Cert.Kernel11Ideal.nD Cert.Kernel11Ideal.τ).loc Cert.Kernel11Ideal.main_arg34)
      ∧ r.2.mem ((c.tc : Thread Cert.Kernel11Ideal.nD Cert.Kernel11Ideal.τ).loc Cert.Kernel11Ideal.main_arg35) = m ((c.tc : Thread Cert.Kernel11Ideal.nD Cert.Kernel11Ideal.τ).loc Cert.Kernel11Ideal.main_arg35)
      ∧ r.2.mem ((c.tc : Thread Cert.Kernel11Ideal.nD Cert.Kernel11Ideal.τ).loc Cert.Kernel11Ideal.main_arg36) = m ((c.tc : Thread Cert.Kernel11Ideal.nD Cert.Kernel11Ideal.τ).loc Cert.Kernel11Ideal.main_arg36)
      ∧ r.2.mem ((c.tc : Thread Cert.Kernel11Ideal.nD Cert.Kernel11Ideal.τ).loc Cert.Kernel11Ideal.main_arg37) = m ((c.tc : Thread Cert.Kernel11Ideal.nD Cert.Kernel11Ideal.τ).loc Cert.Kernel11Ideal.main_arg37)
      ∧ r.2.mem ((c.tc : Thread Cert.Kernel11Ideal.nD Cert.Kernel11Ideal.τ).loc Cert.Kernel11Ideal.main_arg38) = m ((c.tc : Thread Cert.Kernel11Ideal.nD Cert.Kernel11Ideal.τ).loc Cert.Kernel11Ideal.main_arg38)
      ∧ r.2.mem ((c.tc : Thread Cert.Kernel11Ideal.nD Cert.Kernel11Ideal.τ).loc Cert.Kernel11Ideal.main_arg39) = m ((c.tc : Thread Cert.Kernel11Ideal.nD Cert.Kernel11Ideal.τ).loc Cert.Kernel11Ideal.main_arg39)
      ∧ r.2.mem ((c.tc : Thread Cert.Kernel11Ideal.nD Cert.Kernel11Ideal.τ).loc Cert.Kernel11Ideal.main_arg40) = m ((c.tc : Thread Cert.Kernel11Ideal.nD Cert.Kernel11Ideal.τ).loc Cert.Kernel11Ideal.main_arg40)
      ∧ r.2.mem ((c.tc : Thread Cert.Kernel11Ideal.nD Cert.Kernel11Ideal.τ).loc Cert.Kernel11Ideal.main_arg41) = m ((c.tc : Thread Cert.Kernel11Ideal.nD Cert.Kernel11Ideal.τ).loc Cert.Kernel11Ideal.main_arg41)
      ∧ r.2.mem ((c.tc : Thread Cert.Kernel11Ideal.nD Cert.Kernel11Ideal.τ).loc Cert.Kernel11Ideal.main_arg42) = m ((c.tc : Thread Cert.Kernel11Ideal.nD Cert.Kernel11Ideal.τ).loc Cert.Kernel11Ideal.main_arg42)
      ∧ r.2.mem ((c.tc : Thread Cert.Kernel11Ideal.nD Cert.Kernel11Ideal.τ).loc Cert.Kernel11Ideal.main_arg43) = m ((c.tc : Thread Cert.Kernel11Ideal.nD Cert.Kernel11Ideal.τ).loc Cert.Kernel11Ideal.main_arg43)
      ∧ r.2.mem ((c.tc : Thread Cert.Kernel11Ideal.nD Cert.Kernel11Ideal.τ).loc Cert.Kernel11Ideal.main_arg44) = m ((c.tc : Thread Cert.Kernel11Ideal.nD Cert.Kernel11Ideal.τ).loc Cert.Kernel11Ideal.main_arg44)
      ∧ r.2.mem ((c.tc : Thread Cert.Kernel11Ideal.nD Cert.Kernel11Ideal.τ).loc Cert.Kernel11Ideal.main_arg45) = m ((c.tc : Thread Cert.Kernel11Ideal.nD Cert.Kernel11Ideal.τ).loc Cert.Kernel11Ideal.main_arg45)
      ∧ r.2.mem ((c.tc : Thread Cert.Kernel11Ideal.nD Cert.Kernel11Ideal.τ).loc Cert.Kernel11Ideal.main_arg46) = m ((c.tc : Thread Cert.Kernel11Ideal.nD Cert.Kernel11Ideal.τ).loc Cert.Kernel11Ideal.main_arg46)
      ∧ r.2.mem ((c.tc : Thread Cert.Kernel11Ideal.nD Cert.Kernel11Ideal.τ).loc Cert.Kernel11Ideal.main_arg47) = m ((c.tc : Thread Cert.Kernel11Ideal.nD Cert.Kernel11Ideal.τ).loc Cert.Kernel11Ideal.main_arg47)
      ∧ r.2.mem ((c.tc : Thread Cert.Kernel11Ideal.nD Cert.Kernel11Ideal.τ).loc Cert.Kernel11Ideal.main_arg48) = m ((c.tc : Thread Cert.Kernel11Ideal.nD Cert.Kernel11Ideal.τ).loc Cert.Kernel11Ideal.main_arg48)
      ∧ r.2.mem ((c.tc : Thread Cert.Kernel11Ideal.nD Cert.Kernel11Ideal.τ).loc Cert.Kernel11Ideal.main_arg49) = m ((c.tc : Thread Cert.Kernel11Ideal.nD Cert.Kernel11Ideal.τ).loc Cert.Kernel11Ideal.main_arg49)
      ∧ r.2.mem ((c.tc : Thread Cert.Kernel11Ideal.nD Cert.Kernel11Ideal.τ).loc Cert.Kernel11Ideal.main_arg50) = m ((c.tc : Thread Cert.Kernel11Ideal.nD Cert.Kernel11Ideal.τ).loc Cert.Kernel11Ideal.main_arg50)
      ∧ r.2.mem ((c.tc : Thread Cert.Kernel11Ideal.nD Cert.Kernel11Ideal.τ).loc Cert.Kernel11Ideal.main_arg51) = m ((c.tc : Thread Cert.Kernel11Ideal.nD Cert.Kernel11Ideal.τ).loc Cert.Kernel11Ideal.main_arg51))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7)
      ∧ r.2.mem ((c.tc : Thread Cert.Reference11Ideal.nD Cert.Reference11Ideal.τ).loc Cert.Reference11Ideal.main_arg8) = m ((c.tc : Thread Cert.Reference11Ideal.nD Cert.Reference11Ideal.τ).loc Cert.Reference11Ideal.main_arg8)
      ∧ r.2.mem ((c.tc : Thread Cert.Reference11Ideal.nD Cert.Reference11Ideal.τ).loc Cert.Reference11Ideal.main_arg9) = m ((c.tc : Thread Cert.Reference11Ideal.nD Cert.Reference11Ideal.τ).loc Cert.Reference11Ideal.main_arg9)
      ∧ r.2.mem ((c.tc : Thread Cert.Reference11Ideal.nD Cert.Reference11Ideal.τ).loc Cert.Reference11Ideal.main_arg10) = m ((c.tc : Thread Cert.Reference11Ideal.nD Cert.Reference11Ideal.τ).loc Cert.Reference11Ideal.main_arg10)
      ∧ r.2.mem ((c.tc : Thread Cert.Reference11Ideal.nD Cert.Reference11Ideal.τ).loc Cert.Reference11Ideal.main_arg11) = m ((c.tc : Thread Cert.Reference11Ideal.nD Cert.Reference11Ideal.τ).loc Cert.Reference11Ideal.main_arg11)
      ∧ r.2.mem ((c.tc : Thread Cert.Reference11Ideal.nD Cert.Reference11Ideal.τ).loc Cert.Reference11Ideal.main_arg12) = m ((c.tc : Thread Cert.Reference11Ideal.nD Cert.Reference11Ideal.τ).loc Cert.Reference11Ideal.main_arg12)
      ∧ r.2.mem ((c.tc : Thread Cert.Reference11Ideal.nD Cert.Reference11Ideal.τ).loc Cert.Reference11Ideal.main_arg13) = m ((c.tc : Thread Cert.Reference11Ideal.nD Cert.Reference11Ideal.τ).loc Cert.Reference11Ideal.main_arg13)
      ∧ r.2.mem ((c.tc : Thread Cert.Reference11Ideal.nD Cert.Reference11Ideal.τ).loc Cert.Reference11Ideal.main_arg14) = m ((c.tc : Thread Cert.Reference11Ideal.nD Cert.Reference11Ideal.τ).loc Cert.Reference11Ideal.main_arg14)
      ∧ r.2.mem ((c.tc : Thread Cert.Reference11Ideal.nD Cert.Reference11Ideal.τ).loc Cert.Reference11Ideal.main_arg15) = m ((c.tc : Thread Cert.Reference11Ideal.nD Cert.Reference11Ideal.τ).loc Cert.Reference11Ideal.main_arg15)
      ∧ r.2.mem ((c.tc : Thread Cert.Reference11Ideal.nD Cert.Reference11Ideal.τ).loc Cert.Reference11Ideal.main_arg16) = m ((c.tc : Thread Cert.Reference11Ideal.nD Cert.Reference11Ideal.τ).loc Cert.Reference11Ideal.main_arg16)
      ∧ r.2.mem ((c.tc : Thread Cert.Reference11Ideal.nD Cert.Reference11Ideal.τ).loc Cert.Reference11Ideal.main_arg17) = m ((c.tc : Thread Cert.Reference11Ideal.nD Cert.Reference11Ideal.τ).loc Cert.Reference11Ideal.main_arg17)
      ∧ r.2.mem ((c.tc : Thread Cert.Reference11Ideal.nD Cert.Reference11Ideal.τ).loc Cert.Reference11Ideal.main_arg18) = m ((c.tc : Thread Cert.Reference11Ideal.nD Cert.Reference11Ideal.τ).loc Cert.Reference11Ideal.main_arg18)
      ∧ r.2.mem ((c.tc : Thread Cert.Reference11Ideal.nD Cert.Reference11Ideal.τ).loc Cert.Reference11Ideal.main_arg19) = m ((c.tc : Thread Cert.Reference11Ideal.nD Cert.Reference11Ideal.τ).loc Cert.Reference11Ideal.main_arg19)
      ∧ r.2.mem ((c.tc : Thread Cert.Reference11Ideal.nD Cert.Reference11Ideal.τ).loc Cert.Reference11Ideal.main_arg20) = m ((c.tc : Thread Cert.Reference11Ideal.nD Cert.Reference11Ideal.τ).loc Cert.Reference11Ideal.main_arg20)
      ∧ r.2.mem ((c.tc : Thread Cert.Reference11Ideal.nD Cert.Reference11Ideal.τ).loc Cert.Reference11Ideal.main_arg21) = m ((c.tc : Thread Cert.Reference11Ideal.nD Cert.Reference11Ideal.τ).loc Cert.Reference11Ideal.main_arg21)
      ∧ r.2.mem ((c.tc : Thread Cert.Reference11Ideal.nD Cert.Reference11Ideal.τ).loc Cert.Reference11Ideal.main_arg22) = m ((c.tc : Thread Cert.Reference11Ideal.nD Cert.Reference11Ideal.τ).loc Cert.Reference11Ideal.main_arg22)
      ∧ r.2.mem ((c.tc : Thread Cert.Reference11Ideal.nD Cert.Reference11Ideal.τ).loc Cert.Reference11Ideal.main_arg23) = m ((c.tc : Thread Cert.Reference11Ideal.nD Cert.Reference11Ideal.τ).loc Cert.Reference11Ideal.main_arg23)
      ∧ r.2.mem ((c.tc : Thread Cert.Reference11Ideal.nD Cert.Reference11Ideal.τ).loc Cert.Reference11Ideal.main_arg24) = m ((c.tc : Thread Cert.Reference11Ideal.nD Cert.Reference11Ideal.τ).loc Cert.Reference11Ideal.main_arg24)
      ∧ r.2.mem ((c.tc : Thread Cert.Reference11Ideal.nD Cert.Reference11Ideal.τ).loc Cert.Reference11Ideal.main_arg25) = m ((c.tc : Thread Cert.Reference11Ideal.nD Cert.Reference11Ideal.τ).loc Cert.Reference11Ideal.main_arg25)
      ∧ r.2.mem ((c.tc : Thread Cert.Reference11Ideal.nD Cert.Reference11Ideal.τ).loc Cert.Reference11Ideal.main_arg26) = m ((c.tc : Thread Cert.Reference11Ideal.nD Cert.Reference11Ideal.τ).loc Cert.Reference11Ideal.main_arg26)
      ∧ r.2.mem ((c.tc : Thread Cert.Reference11Ideal.nD Cert.Reference11Ideal.τ).loc Cert.Reference11Ideal.main_arg27) = m ((c.tc : Thread Cert.Reference11Ideal.nD Cert.Reference11Ideal.τ).loc Cert.Reference11Ideal.main_arg27)
      ∧ r.2.mem ((c.tc : Thread Cert.Reference11Ideal.nD Cert.Reference11Ideal.τ).loc Cert.Reference11Ideal.main_arg28) = m ((c.tc : Thread Cert.Reference11Ideal.nD Cert.Reference11Ideal.τ).loc Cert.Reference11Ideal.main_arg28)
      ∧ r.2.mem ((c.tc : Thread Cert.Reference11Ideal.nD Cert.Reference11Ideal.τ).loc Cert.Reference11Ideal.main_arg29) = m ((c.tc : Thread Cert.Reference11Ideal.nD Cert.Reference11Ideal.τ).loc Cert.Reference11Ideal.main_arg29)
      ∧ r.2.mem ((c.tc : Thread Cert.Reference11Ideal.nD Cert.Reference11Ideal.τ).loc Cert.Reference11Ideal.main_arg30) = m ((c.tc : Thread Cert.Reference11Ideal.nD Cert.Reference11Ideal.τ).loc Cert.Reference11Ideal.main_arg30)
      ∧ r.2.mem ((c.tc : Thread Cert.Reference11Ideal.nD Cert.Reference11Ideal.τ).loc Cert.Reference11Ideal.main_arg31) = m ((c.tc : Thread Cert.Reference11Ideal.nD Cert.Reference11Ideal.τ).loc Cert.Reference11Ideal.main_arg31)
      ∧ r.2.mem ((c.tc : Thread Cert.Reference11Ideal.nD Cert.Reference11Ideal.τ).loc Cert.Reference11Ideal.main_arg32) = m ((c.tc : Thread Cert.Reference11Ideal.nD Cert.Reference11Ideal.τ).loc Cert.Reference11Ideal.main_arg32)
      ∧ r.2.mem ((c.tc : Thread Cert.Reference11Ideal.nD Cert.Reference11Ideal.τ).loc Cert.Reference11Ideal.main_arg33) = m ((c.tc : Thread Cert.Reference11Ideal.nD Cert.Reference11Ideal.τ).loc Cert.Reference11Ideal.main_arg33)
      ∧ r.2.mem ((c.tc : Thread Cert.Reference11Ideal.nD Cert.Reference11Ideal.τ).loc Cert.Reference11Ideal.main_arg34) = m ((c.tc : Thread Cert.Reference11Ideal.nD Cert.Reference11Ideal.τ).loc Cert.Reference11Ideal.main_arg34)
      ∧ r.2.mem ((c.tc : Thread Cert.Reference11Ideal.nD Cert.Reference11Ideal.τ).loc Cert.Reference11Ideal.main_arg35) = m ((c.tc : Thread Cert.Reference11Ideal.nD Cert.Reference11Ideal.τ).loc Cert.Reference11Ideal.main_arg35)
      ∧ r.2.mem ((c.tc : Thread Cert.Reference11Ideal.nD Cert.Reference11Ideal.τ).loc Cert.Reference11Ideal.main_arg36) = m ((c.tc : Thread Cert.Reference11Ideal.nD Cert.Reference11Ideal.τ).loc Cert.Reference11Ideal.main_arg36)
      ∧ r.2.mem ((c.tc : Thread Cert.Reference11Ideal.nD Cert.Reference11Ideal.τ).loc Cert.Reference11Ideal.main_arg37) = m ((c.tc : Thread Cert.Reference11Ideal.nD Cert.Reference11Ideal.τ).loc Cert.Reference11Ideal.main_arg37)
      ∧ r.2.mem ((c.tc : Thread Cert.Reference11Ideal.nD Cert.Reference11Ideal.τ).loc Cert.Reference11Ideal.main_arg38) = m ((c.tc : Thread Cert.Reference11Ideal.nD Cert.Reference11Ideal.τ).loc Cert.Reference11Ideal.main_arg38)
      ∧ r.2.mem ((c.tc : Thread Cert.Reference11Ideal.nD Cert.Reference11Ideal.τ).loc Cert.Reference11Ideal.main_arg39) = m ((c.tc : Thread Cert.Reference11Ideal.nD Cert.Reference11Ideal.τ).loc Cert.Reference11Ideal.main_arg39)
      ∧ r.2.mem ((c.tc : Thread Cert.Reference11Ideal.nD Cert.Reference11Ideal.τ).loc Cert.Reference11Ideal.main_arg40) = m ((c.tc : Thread Cert.Reference11Ideal.nD Cert.Reference11Ideal.τ).loc Cert.Reference11Ideal.main_arg40)
      ∧ r.2.mem ((c.tc : Thread Cert.Reference11Ideal.nD Cert.Reference11Ideal.τ).loc Cert.Reference11Ideal.main_arg41) = m ((c.tc : Thread Cert.Reference11Ideal.nD Cert.Reference11Ideal.τ).loc Cert.Reference11Ideal.main_arg41)
      ∧ r.2.mem ((c.tc : Thread Cert.Reference11Ideal.nD Cert.Reference11Ideal.τ).loc Cert.Reference11Ideal.main_arg42) = m ((c.tc : Thread Cert.Reference11Ideal.nD Cert.Reference11Ideal.τ).loc Cert.Reference11Ideal.main_arg42)
      ∧ r.2.mem ((c.tc : Thread Cert.Reference11Ideal.nD Cert.Reference11Ideal.τ).loc Cert.Reference11Ideal.main_arg43) = m ((c.tc : Thread Cert.Reference11Ideal.nD Cert.Reference11Ideal.τ).loc Cert.Reference11Ideal.main_arg43)
      ∧ r.2.mem ((c.tc : Thread Cert.Reference11Ideal.nD Cert.Reference11Ideal.τ).loc Cert.Reference11Ideal.main_arg44) = m ((c.tc : Thread Cert.Reference11Ideal.nD Cert.Reference11Ideal.τ).loc Cert.Reference11Ideal.main_arg44)
      ∧ r.2.mem ((c.tc : Thread Cert.Reference11Ideal.nD Cert.Reference11Ideal.τ).loc Cert.Reference11Ideal.main_arg45) = m ((c.tc : Thread Cert.Reference11Ideal.nD Cert.Reference11Ideal.τ).loc Cert.Reference11Ideal.main_arg45)
      ∧ r.2.mem ((c.tc : Thread Cert.Reference11Ideal.nD Cert.Reference11Ideal.τ).loc Cert.Reference11Ideal.main_arg46) = m ((c.tc : Thread Cert.Reference11Ideal.nD Cert.Reference11Ideal.τ).loc Cert.Reference11Ideal.main_arg46)
      ∧ r.2.mem ((c.tc : Thread Cert.Reference11Ideal.nD Cert.Reference11Ideal.τ).loc Cert.Reference11Ideal.main_arg47) = m ((c.tc : Thread Cert.Reference11Ideal.nD Cert.Reference11Ideal.τ).loc Cert.Reference11Ideal.main_arg47)
      ∧ r.2.mem ((c.tc : Thread Cert.Reference11Ideal.nD Cert.Reference11Ideal.τ).loc Cert.Reference11Ideal.main_arg48) = m ((c.tc : Thread Cert.Reference11Ideal.nD Cert.Reference11Ideal.τ).loc Cert.Reference11Ideal.main_arg48)
      ∧ r.2.mem ((c.tc : Thread Cert.Reference11Ideal.nD Cert.Reference11Ideal.τ).loc Cert.Reference11Ideal.main_arg49) = m ((c.tc : Thread Cert.Reference11Ideal.nD Cert.Reference11Ideal.τ).loc Cert.Reference11Ideal.main_arg49)
      ∧ r.2.mem ((c.tc : Thread Cert.Reference11Ideal.nD Cert.Reference11Ideal.τ).loc Cert.Reference11Ideal.main_arg50) = m ((c.tc : Thread Cert.Reference11Ideal.nD Cert.Reference11Ideal.τ).loc Cert.Reference11Ideal.main_arg50)
      ∧ r.2.mem ((c.tc : Thread Cert.Reference11Ideal.nD Cert.Reference11Ideal.τ).loc Cert.Reference11Ideal.main_arg51) = m ((c.tc : Thread Cert.Reference11Ideal.nD Cert.Reference11Ideal.τ).loc Cert.Reference11Ideal.main_arg51))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def preserves_Kernel_KernelIdeal : Prop :=
  IdealRules.named_const.Statement Cert.KernelIdeal.κ "scale_log2" .f32 0x3DD53B95#32 (((Real.sqrt 192)⁻¹ * (Real.log 2)⁻¹ : ℝ) : EReal)
  ∧ IdealRules.named_const.Statement Cert.KernelIdeal.κ "scale" .f32 0x3D93CD3A#32 (((Real.sqrt 192)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v77)) (v1 : (c : Dev Cert.KernelIdeal.nD) → Buf (Elt Ideal) ((c.tc : Thread Cert.KernelIdeal.nD Cert.KernelIdeal.τ).loc Cert.KernelIdeal.main_v78)) (v2 : (c : Dev Cert.KernelIdeal.nD) → Buf (Elt Ideal) ((c.tc : Thread Cert.KernelIdeal.nD Cert.KernelIdeal.τ).loc Cert.KernelIdeal.main_v80)) (v3 : (c : Dev Cert.KernelIdeal.nD) → Buf (Elt Ideal) ((c.tc : Thread Cert.KernelIdeal.nD Cert.KernelIdeal.τ).loc Cert.KernelIdeal.main_v75)) (v4 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_v78) = v1 c
          ∧ r.2.mem ((c.tc : Thread Cert.KernelIdeal.nD Cert.KernelIdeal.τ).loc Cert.KernelIdeal.main_v80) = v2 c
          ∧ r.2.mem ((c.tc : Thread Cert.KernelIdeal.nD Cert.KernelIdeal.τ).loc Cert.KernelIdeal.main_v75) = v3 c
          ∧ r.2.mem ((c.tc : Thread Cert.KernelIdeal.nD Cert.KernelIdeal.τ).loc Cert.KernelIdeal.main_v81) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_v69) = v2 c
          ∧ r.2.mem ((c.tc : Thread Cert.ReferenceIdeal.nD Cert.ReferenceIdeal.τ).loc Cert.ReferenceIdeal.main_v67) = v3 c
          ∧ r.2.mem ((c.tc : Thread Cert.ReferenceIdeal.nD Cert.ReferenceIdeal.τ).loc Cert.ReferenceIdeal.main_v49) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v12) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v23) = v0 c
          ∧ r.2.mem ((c.tc : Thread Cert.Reference6Ideal.nD Cert.Reference6Ideal.τ).loc Cert.Reference6Ideal.main_v4) = v1 c
          ∧ r.2.mem ((c.tc : Thread Cert.Reference6Ideal.nD Cert.Reference6Ideal.τ).loc Cert.Reference6Ideal.main_v10) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v23) = v0 c
          ∧ r.2.mem ((c.tc : Thread Cert.Reference7Ideal.nD Cert.Reference7Ideal.τ).loc Cert.Reference7Ideal.main_v4) = v1 c
          ∧ r.2.mem ((c.tc : Thread Cert.Reference7Ideal.nD Cert.Reference7Ideal.τ).loc Cert.Reference7Ideal.main_v10) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v23) = v0 c
          ∧ r.2.mem ((c.tc : Thread Cert.Reference8Ideal.nD Cert.Reference8Ideal.τ).loc Cert.Reference8Ideal.main_v4) = v1 c
          ∧ r.2.mem ((c.tc : Thread Cert.Reference8Ideal.nD Cert.Reference8Ideal.τ).loc Cert.Reference8Ideal.main_v10) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v23) = v0 c
          ∧ r.2.mem ((c.tc : Thread Cert.Reference9Ideal.nD Cert.Reference9Ideal.τ).loc Cert.Reference9Ideal.main_v4) = v1 c
          ∧ r.2.mem ((c.tc : Thread Cert.Reference9Ideal.nD Cert.Reference9Ideal.τ).loc Cert.Reference9Ideal.main_v10) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v23) = v0 c
          ∧ r.2.mem ((c.tc : Thread Cert.Reference10Ideal.nD Cert.Reference10Ideal.τ).loc Cert.Reference10Ideal.main_v4) = v1 c
          ∧ r.2.mem ((c.tc : Thread Cert.Reference10Ideal.nD Cert.Reference10Ideal.τ).loc Cert.Reference10Ideal.main_v10) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)
      ∧ m' ((c.tc : Thread Cert.Reference11Ideal.nD Cert.Reference11Ideal.τ).loc Cert.Reference11Ideal.main_arg8) = m ((c.tc : Thread Cert.Kernel11Ideal.nD Cert.Kernel11Ideal.τ).loc Cert.Kernel11Ideal.main_arg8)
      ∧ m' ((c.tc : Thread Cert.Reference11Ideal.nD Cert.Reference11Ideal.τ).loc Cert.Reference11Ideal.main_arg9) = m ((c.tc : Thread Cert.Kernel11Ideal.nD Cert.Kernel11Ideal.τ).loc Cert.Kernel11Ideal.main_arg9)
      ∧ m' ((c.tc : Thread Cert.Reference11Ideal.nD Cert.Reference11Ideal.τ).loc Cert.Reference11Ideal.main_arg10) = m ((c.tc : Thread Cert.Kernel11Ideal.nD Cert.Kernel11Ideal.τ).loc Cert.Kernel11Ideal.main_arg10)
      ∧ m' ((c.tc : Thread Cert.Reference11Ideal.nD Cert.Reference11Ideal.τ).loc Cert.Reference11Ideal.main_arg11) = m ((c.tc : Thread Cert.Kernel11Ideal.nD Cert.Kernel11Ideal.τ).loc Cert.Kernel11Ideal.main_arg11)
      ∧ m' ((c.tc : Thread Cert.Reference11Ideal.nD Cert.Reference11Ideal.τ).loc Cert.Reference11Ideal.main_arg12) = m ((c.tc : Thread Cert.Kernel11Ideal.nD Cert.Kernel11Ideal.τ).loc Cert.Kernel11Ideal.main_arg12)
      ∧ m' ((c.tc : Thread Cert.Reference11Ideal.nD Cert.Reference11Ideal.τ).loc Cert.Reference11Ideal.main_arg13) = m ((c.tc : Thread Cert.Kernel11Ideal.nD Cert.Kernel11Ideal.τ).loc Cert.Kernel11Ideal.main_arg13)
      ∧ m' ((c.tc : Thread Cert.Reference11Ideal.nD Cert.Reference11Ideal.τ).loc Cert.Reference11Ideal.main_arg14) = m ((c.tc : Thread Cert.Kernel11Ideal.nD Cert.Kernel11Ideal.τ).loc Cert.Kernel11Ideal.main_arg14)
      ∧ m' ((c.tc : Thread Cert.Reference11Ideal.nD Cert.Reference11Ideal.τ).loc Cert.Reference11Ideal.main_arg15) = m ((c.tc : Thread Cert.Kernel11Ideal.nD Cert.Kernel11Ideal.τ).loc Cert.Kernel11Ideal.main_arg15)
      ∧ m' ((c.tc : Thread Cert.Reference11Ideal.nD Cert.Reference11Ideal.τ).loc Cert.Reference11Ideal.main_arg16) = m ((c.tc : Thread Cert.Kernel11Ideal.nD Cert.Kernel11Ideal.τ).loc Cert.Kernel11Ideal.main_arg16)
      ∧ m' ((c.tc : Thread Cert.Reference11Ideal.nD Cert.Reference11Ideal.τ).loc Cert.Reference11Ideal.main_arg17) = m ((c.tc : Thread Cert.Kernel11Ideal.nD Cert.Kernel11Ideal.τ).loc Cert.Kernel11Ideal.main_arg17)
      ∧ m' ((c.tc : Thread Cert.Reference11Ideal.nD Cert.Reference11Ideal.τ).loc Cert.Reference11Ideal.main_arg18) = m ((c.tc : Thread Cert.Kernel11Ideal.nD Cert.Kernel11Ideal.τ).loc Cert.Kernel11Ideal.main_arg18)
      ∧ m' ((c.tc : Thread Cert.Reference11Ideal.nD Cert.Reference11Ideal.τ).loc Cert.Reference11Ideal.main_arg19) = m ((c.tc : Thread Cert.Kernel11Ideal.nD Cert.Kernel11Ideal.τ).loc Cert.Kernel11Ideal.main_arg19)
      ∧ m' ((c.tc : Thread Cert.Reference11Ideal.nD Cert.Reference11Ideal.τ).loc Cert.Reference11Ideal.main_arg20) = m ((c.tc : Thread Cert.Kernel11Ideal.nD Cert.Kernel11Ideal.τ).loc Cert.Kernel11Ideal.main_arg20)
      ∧ m' ((c.tc : Thread Cert.Reference11Ideal.nD Cert.Reference11Ideal.τ).loc Cert.Reference11Ideal.main_arg21) = m ((c.tc : Thread Cert.Kernel11Ideal.nD Cert.Kernel11Ideal.τ).loc Cert.Kernel11Ideal.main_arg21)
      ∧ m' ((c.tc : Thread Cert.Reference11Ideal.nD Cert.Reference11Ideal.τ).loc Cert.Reference11Ideal.main_arg22) = m ((c.tc : Thread Cert.Kernel11Ideal.nD Cert.Kernel11Ideal.τ).loc Cert.Kernel11Ideal.main_arg22)
      ∧ m' ((c.tc : Thread Cert.Reference11Ideal.nD Cert.Reference11Ideal.τ).loc Cert.Reference11Ideal.main_arg23) = m ((c.tc : Thread Cert.Kernel11Ideal.nD Cert.Kernel11Ideal.τ).loc Cert.Kernel11Ideal.main_arg23)
      ∧ m' ((c.tc : Thread Cert.Reference11Ideal.nD Cert.Reference11Ideal.τ).loc Cert.Reference11Ideal.main_arg24) = m ((c.tc : Thread Cert.Kernel11Ideal.nD Cert.Kernel11Ideal.τ).loc Cert.Kernel11Ideal.main_arg24)
      ∧ m' ((c.tc : Thread Cert.Reference11Ideal.nD Cert.Reference11Ideal.τ).loc Cert.Reference11Ideal.main_arg25) = m ((c.tc : Thread Cert.Kernel11Ideal.nD Cert.Kernel11Ideal.τ).loc Cert.Kernel11Ideal.main_arg25)
      ∧ m' ((c.tc : Thread Cert.Reference11Ideal.nD Cert.Reference11Ideal.τ).loc Cert.Reference11Ideal.main_arg26) = m ((c.tc : Thread Cert.Kernel11Ideal.nD Cert.Kernel11Ideal.τ).loc Cert.Kernel11Ideal.main_arg26)
      ∧ m' ((c.tc : Thread Cert.Reference11Ideal.nD Cert.Reference11Ideal.τ).loc Cert.Reference11Ideal.main_arg27) = m ((c.tc : Thread Cert.Kernel11Ideal.nD Cert.Kernel11Ideal.τ).loc Cert.Kernel11Ideal.main_arg27)
      ∧ m' ((c.tc : Thread Cert.Reference11Ideal.nD Cert.Reference11Ideal.τ).loc Cert.Reference11Ideal.main_arg28) = m ((c.tc : Thread Cert.Kernel11Ideal.nD Cert.Kernel11Ideal.τ).loc Cert.Kernel11Ideal.main_arg28)
      ∧ m' ((c.tc : Thread Cert.Reference11Ideal.nD Cert.Reference11Ideal.τ).loc Cert.Reference11Ideal.main_arg29) = m ((c.tc : Thread Cert.Kernel11Ideal.nD Cert.Kernel11Ideal.τ).loc Cert.Kernel11Ideal.main_arg29)
      ∧ m' ((c.tc : Thread Cert.Reference11Ideal.nD Cert.Reference11Ideal.τ).loc Cert.Reference11Ideal.main_arg30) = m ((c.tc : Thread Cert.Kernel11Ideal.nD Cert.Kernel11Ideal.τ).loc Cert.Kernel11Ideal.main_arg30)
      ∧ m' ((c.tc : Thread Cert.Reference11Ideal.nD Cert.Reference11Ideal.τ).loc Cert.Reference11Ideal.main_arg31) = m ((c.tc : Thread Cert.Kernel11Ideal.nD Cert.Kernel11Ideal.τ).loc Cert.Kernel11Ideal.main_arg31)
      ∧ m' ((c.tc : Thread Cert.Reference11Ideal.nD Cert.Reference11Ideal.τ).loc Cert.Reference11Ideal.main_arg32) = m ((c.tc : Thread Cert.Kernel11Ideal.nD Cert.Kernel11Ideal.τ).loc Cert.Kernel11Ideal.main_arg32)
      ∧ m' ((c.tc : Thread Cert.Reference11Ideal.nD Cert.Reference11Ideal.τ).loc Cert.Reference11Ideal.main_arg33) = m ((c.tc : Thread Cert.Kernel11Ideal.nD Cert.Kernel11Ideal.τ).loc Cert.Kernel11Ideal.main_arg33)
      ∧ m' ((c.tc : Thread Cert.Reference11Ideal.nD Cert.Reference11Ideal.τ).loc Cert.Reference11Ideal.main_arg34) = m ((c.tc : Thread Cert.Kernel11Ideal.nD Cert.Kernel11Ideal.τ).loc Cert.Kernel11Ideal.main_arg34)
      ∧ m' ((c.tc : Thread Cert.Reference11Ideal.nD Cert.Reference11Ideal.τ).loc Cert.Reference11Ideal.main_arg35) = m ((c.tc : Thread Cert.Kernel11Ideal.nD Cert.Kernel11Ideal.τ).loc Cert.Kernel11Ideal.main_arg35)
      ∧ m' ((c.tc : Thread Cert.Reference11Ideal.nD Cert.Reference11Ideal.τ).loc Cert.Reference11Ideal.main_arg36) = m ((c.tc : Thread Cert.Kernel11Ideal.nD Cert.Kernel11Ideal.τ).loc Cert.Kernel11Ideal.main_arg36)
      ∧ m' ((c.tc : Thread Cert.Reference11Ideal.nD Cert.Reference11Ideal.τ).loc Cert.Reference11Ideal.main_arg37) = m ((c.tc : Thread Cert.Kernel11Ideal.nD Cert.Kernel11Ideal.τ).loc Cert.Kernel11Ideal.main_arg37)
      ∧ m' ((c.tc : Thread Cert.Reference11Ideal.nD Cert.Reference11Ideal.τ).loc Cert.Reference11Ideal.main_arg38) = m ((c.tc : Thread Cert.Kernel11Ideal.nD Cert.Kernel11Ideal.τ).loc Cert.Kernel11Ideal.main_arg38)
      ∧ m' ((c.tc : Thread Cert.Reference11Ideal.nD Cert.Reference11Ideal.τ).loc Cert.Reference11Ideal.main_arg39) = m ((c.tc : Thread Cert.Kernel11Ideal.nD Cert.Kernel11Ideal.τ).loc Cert.Kernel11Ideal.main_arg39)
      ∧ m' ((c.tc : Thread Cert.Reference11Ideal.nD Cert.Reference11Ideal.τ).loc Cert.Reference11Ideal.main_arg40) = m ((c.tc : Thread Cert.Kernel11Ideal.nD Cert.Kernel11Ideal.τ).loc Cert.Kernel11Ideal.main_arg40)
      ∧ m' ((c.tc : Thread Cert.Reference11Ideal.nD Cert.Reference11Ideal.τ).loc Cert.Reference11Ideal.main_arg41) = m ((c.tc : Thread Cert.Kernel11Ideal.nD Cert.Kernel11Ideal.τ).loc Cert.Kernel11Ideal.main_arg41)
      ∧ m' ((c.tc : Thread Cert.Reference11Ideal.nD Cert.Reference11Ideal.τ).loc Cert.Reference11Ideal.main_arg42) = m ((c.tc : Thread Cert.Kernel11Ideal.nD Cert.Kernel11Ideal.τ).loc Cert.Kernel11Ideal.main_arg42)
      ∧ m' ((c.tc : Thread Cert.Reference11Ideal.nD Cert.Reference11Ideal.τ).loc Cert.Reference11Ideal.main_arg43) = m ((c.tc : Thread Cert.Kernel11Ideal.nD Cert.Kernel11Ideal.τ).loc Cert.Kernel11Ideal.main_arg43)
      ∧ m' ((c.tc : Thread Cert.Reference11Ideal.nD Cert.Reference11Ideal.τ).loc Cert.Reference11Ideal.main_arg44) = m ((c.tc : Thread Cert.Kernel11Ideal.nD Cert.Kernel11Ideal.τ).loc Cert.Kernel11Ideal.main_arg44)
      ∧ m' ((c.tc : Thread Cert.Reference11Ideal.nD Cert.Reference11Ideal.τ).loc Cert.Reference11Ideal.main_arg45) = m ((c.tc : Thread Cert.Kernel11Ideal.nD Cert.Kernel11Ideal.τ).loc Cert.Kernel11Ideal.main_arg45)
      ∧ m' ((c.tc : Thread Cert.Reference11Ideal.nD Cert.Reference11Ideal.τ).loc Cert.Reference11Ideal.main_arg46) = m ((c.tc : Thread Cert.Kernel11Ideal.nD Cert.Kernel11Ideal.τ).loc Cert.Kernel11Ideal.main_arg46)
      ∧ m' ((c.tc : Thread Cert.Reference11Ideal.nD Cert.Reference11Ideal.τ).loc Cert.Reference11Ideal.main_arg47) = m ((c.tc : Thread Cert.Kernel11Ideal.nD Cert.Kernel11Ideal.τ).loc Cert.Kernel11Ideal.main_arg47)
      ∧ m' ((c.tc : Thread Cert.Reference11Ideal.nD Cert.Reference11Ideal.τ).loc Cert.Reference11Ideal.main_arg48) = m ((c.tc : Thread Cert.Kernel11Ideal.nD Cert.Kernel11Ideal.τ).loc Cert.Kernel11Ideal.main_arg48)
      ∧ m' ((c.tc : Thread Cert.Reference11Ideal.nD Cert.Reference11Ideal.τ).loc Cert.Reference11Ideal.main_arg49) = m ((c.tc : Thread Cert.Kernel11Ideal.nD Cert.Kernel11Ideal.τ).loc Cert.Kernel11Ideal.main_arg49)
      ∧ m' ((c.tc : Thread Cert.Reference11Ideal.nD Cert.Reference11Ideal.τ).loc Cert.Reference11Ideal.main_arg50) = m ((c.tc : Thread Cert.Kernel11Ideal.nD Cert.Kernel11Ideal.τ).loc Cert.Kernel11Ideal.main_arg50)
      ∧ m' ((c.tc : Thread Cert.Reference11Ideal.nD Cert.Reference11Ideal.τ).loc Cert.Reference11Ideal.main_arg51) = m ((c.tc : Thread Cert.Kernel11Ideal.nD Cert.Kernel11Ideal.τ).loc Cert.Kernel11Ideal.main_arg51)) →
    ∃ (v0 : (c : Dev Cert.Kernel11Ideal.nD) → Buf (Elt Ideal) ((c.tc : Thread Cert.Kernel11Ideal.nD Cert.Kernel11Ideal.τ).loc Cert.Kernel11Ideal.main_v66)) (v1 : (c : Dev Cert.Kernel11Ideal.nD) → Buf (Elt Ideal) ((c.tc : Thread Cert.Kernel11Ideal.nD Cert.Kernel11Ideal.τ).loc Cert.Kernel11Ideal.main_v68)) (v2 : (c : Dev Cert.Kernel11Ideal.nD) → Buf (Elt Ideal) ((c.tc : Thread Cert.Kernel11Ideal.nD Cert.Kernel11Ideal.τ).loc Cert.Kernel11Ideal.main_v69)) (v3 : (c : Dev Cert.Kernel11Ideal.nD) → Buf (Elt Ideal) ((c.tc : Thread Cert.Kernel11Ideal.nD Cert.Kernel11Ideal.τ).loc Cert.Kernel11Ideal.main_v71)) (v4 : (c : Dev Cert.Kernel11Ideal.nD) → Buf (Elt Ideal) ((c.tc : Thread Cert.Kernel11Ideal.nD Cert.Kernel11Ideal.τ).loc Cert.Kernel11Ideal.main_v73)) (v5 : (c : Dev Cert.Kernel11Ideal.nD) → Buf (Elt Ideal) ((c.tc : Thread Cert.Kernel11Ideal.nD Cert.Kernel11Ideal.τ).loc Cert.Kernel11Ideal.main_v76)) (v6 : (c : Dev Cert.Kernel11Ideal.nD) → Buf (Elt Ideal) ((c.tc : Thread Cert.Kernel11Ideal.nD Cert.Kernel11Ideal.τ).loc Cert.Kernel11Ideal.main_v78)) (v7 : (c : Dev Cert.Kernel11Ideal.nD) → Buf (Elt Ideal) ((c.tc : Thread Cert.Kernel11Ideal.nD Cert.Kernel11Ideal.τ).loc Cert.Kernel11Ideal.main_v80)) (v8 : (c : Dev Cert.Kernel11Ideal.nD) → Buf (Elt Ideal) ((c.tc : Thread Cert.Kernel11Ideal.nD Cert.Kernel11Ideal.τ).loc Cert.Kernel11Ideal.main_v82)) (v9 : (c : Dev Cert.Kernel11Ideal.nD) → Buf (Elt Ideal) ((c.tc : Thread Cert.Kernel11Ideal.nD Cert.Kernel11Ideal.τ).loc Cert.Kernel11Ideal.main_v83)) (v10 : (c : Dev Cert.Kernel11Ideal.nD) → Buf (Elt Ideal) ((c.tc : Thread Cert.Kernel11Ideal.nD Cert.Kernel11Ideal.τ).loc Cert.Kernel11Ideal.main_v84)) (v11 : (c : Dev Cert.Kernel11Ideal.nD) → Buf (Elt Ideal) ((c.tc : Thread Cert.Kernel11Ideal.nD Cert.Kernel11Ideal.τ).loc Cert.Kernel11Ideal.main_v85)) (v12 : (c : Dev Cert.Kernel11Ideal.nD) → Buf (Elt Ideal) ((c.tc : Thread Cert.Kernel11Ideal.nD Cert.Kernel11Ideal.τ).loc Cert.Kernel11Ideal.main_v86)) (v13 : (c : Dev Cert.Kernel11Ideal.nD) → Buf (Elt Ideal) ((c.tc : Thread Cert.Kernel11Ideal.nD Cert.Kernel11Ideal.τ).loc Cert.Kernel11Ideal.main_v88)) (v14 : (c : Dev Cert.Kernel11Ideal.nD) → Buf (Elt Ideal) ((c.tc : Thread Cert.Kernel11Ideal.nD Cert.Kernel11Ideal.τ).loc Cert.Kernel11Ideal.main_v90)) (v15 : (c : Dev Cert.Kernel11Ideal.nD) → Buf (Elt Ideal) ((c.tc : Thread Cert.Kernel11Ideal.nD Cert.Kernel11Ideal.τ).loc Cert.Kernel11Ideal.main_v91)) (v16 : (c : Dev Cert.Kernel11Ideal.nD) → Buf (Elt Ideal) ((c.tc : Thread Cert.Kernel11Ideal.nD Cert.Kernel11Ideal.τ).loc Cert.Kernel11Ideal.main_v93)) (v17 : (c : Dev Cert.Kernel11Ideal.nD) → Buf (Elt Ideal) ((c.tc : Thread Cert.Kernel11Ideal.nD Cert.Kernel11Ideal.τ).loc Cert.Kernel11Ideal.main_v95)) (v18 : (c : Dev Cert.Kernel11Ideal.nD) → Buf (Elt Ideal) ((c.tc : Thread Cert.Kernel11Ideal.nD Cert.Kernel11Ideal.τ).loc Cert.Kernel11Ideal.main_v98)) (v19 : (c : Dev Cert.Kernel11Ideal.nD) → Buf (Elt Ideal) ((c.tc : Thread Cert.Kernel11Ideal.nD Cert.Kernel11Ideal.τ).loc Cert.Kernel11Ideal.main_v100)) (v20 : (c : Dev Cert.Kernel11Ideal.nD) → Buf (Elt Ideal) ((c.tc : Thread Cert.Kernel11Ideal.nD Cert.Kernel11Ideal.τ).loc Cert.Kernel11Ideal.main_v102)) (v21 : (c : Dev Cert.Kernel11Ideal.nD) → Buf (Elt Ideal) ((c.tc : Thread Cert.Kernel11Ideal.nD Cert.Kernel11Ideal.τ).loc Cert.Kernel11Ideal.main_v104)) (v22 : (c : Dev Cert.Kernel11Ideal.nD) → Buf (Elt Ideal) ((c.tc : Thread Cert.Kernel11Ideal.nD Cert.Kernel11Ideal.τ).loc Cert.Kernel11Ideal.main_v105)) (v23 : (c : Dev Cert.Kernel11Ideal.nD) → Buf (Elt Ideal) ((c.tc : Thread Cert.Kernel11Ideal.nD Cert.Kernel11Ideal.τ).loc Cert.Kernel11Ideal.main_v106)) (v24 : (c : Dev Cert.Kernel11Ideal.nD) → Buf (Elt Ideal) ((c.tc : Thread Cert.Kernel11Ideal.nD Cert.Kernel11Ideal.τ).loc Cert.Kernel11Ideal.main_v107)) (v25 : (c : Dev Cert.Kernel11Ideal.nD) → Buf (Elt Ideal) ((c.tc : Thread Cert.Kernel11Ideal.nD Cert.Kernel11Ideal.τ).loc Cert.Kernel11Ideal.main_v108)) (v26 : (c : Dev Cert.Kernel11Ideal.nD) → Buf (Elt Ideal) ((c.tc : Thread Cert.Kernel11Ideal.nD Cert.Kernel11Ideal.τ).loc Cert.Kernel11Ideal.main_v110)) (v27 : (c : Dev Cert.Kernel11Ideal.nD) → Buf (Elt Ideal) ((c.tc : Thread Cert.Kernel11Ideal.nD Cert.Kernel11Ideal.τ).loc Cert.Kernel11Ideal.main_v112)) (v28 : (c : Dev Cert.Kernel11Ideal.nD) → Buf (Elt Ideal) ((c.tc : Thread Cert.Kernel11Ideal.nD Cert.Kernel11Ideal.τ).loc Cert.Kernel11Ideal.main_v113)) (v29 : (c : Dev Cert.Kernel11Ideal.nD) → Buf (Elt Ideal) ((c.tc : Thread Cert.Kernel11Ideal.nD Cert.Kernel11Ideal.τ).loc Cert.Kernel11Ideal.main_v115)) (v30 : (c : Dev Cert.Kernel11Ideal.nD) → Buf (Elt Ideal) ((c.tc : Thread Cert.Kernel11Ideal.nD Cert.Kernel11Ideal.τ).loc Cert.Kernel11Ideal.main_v117)) (v31 : (c : Dev Cert.Kernel11Ideal.nD) → Buf (Elt Ideal) ((c.tc : Thread Cert.Kernel11Ideal.nD Cert.Kernel11Ideal.τ).loc Cert.Kernel11Ideal.main_v120)) (v32 : (c : Dev Cert.Kernel11Ideal.nD) → Buf (Elt Ideal) ((c.tc : Thread Cert.Kernel11Ideal.nD Cert.Kernel11Ideal.τ).loc Cert.Kernel11Ideal.main_v122)) (v33 : (c : Dev Cert.Kernel11Ideal.nD) → Buf (Elt Ideal) ((c.tc : Thread Cert.Kernel11Ideal.nD Cert.Kernel11Ideal.τ).loc Cert.Kernel11Ideal.main_v124)) (v34 : (c : Dev Cert.Kernel11Ideal.nD) → Buf (Elt Ideal) ((c.tc : Thread Cert.Kernel11Ideal.nD Cert.Kernel11Ideal.τ).loc Cert.Kernel11Ideal.main_v126)) (v35 : (c : Dev Cert.Kernel11Ideal.nD) → Buf (Elt Ideal) ((c.tc : Thread Cert.Kernel11Ideal.nD Cert.Kernel11Ideal.τ).loc Cert.Kernel11Ideal.main_v127)) (v36 : (c : Dev Cert.Kernel11Ideal.nD) → Buf (Elt Ideal) ((c.tc : Thread Cert.Kernel11Ideal.nD Cert.Kernel11Ideal.τ).loc Cert.Kernel11Ideal.main_v128)) (v37 : (c : Dev Cert.Kernel11Ideal.nD) → Buf (Elt Ideal) ((c.tc : Thread Cert.Kernel11Ideal.nD Cert.Kernel11Ideal.τ).loc Cert.Kernel11Ideal.main_v129)) (v38 : (c : Dev Cert.Kernel11Ideal.nD) → Buf (Elt Ideal) ((c.tc : Thread Cert.Kernel11Ideal.nD Cert.Kernel11Ideal.τ).loc Cert.Kernel11Ideal.main_v130)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v66) = v0 c
          ∧ r.2.mem ((c.tc : Thread Cert.Kernel11Ideal.nD Cert.Kernel11Ideal.τ).loc Cert.Kernel11Ideal.main_v68) = v1 c
          ∧ r.2.mem ((c.tc : Thread Cert.Kernel11Ideal.nD Cert.Kernel11Ideal.τ).loc Cert.Kernel11Ideal.main_v69) = v2 c
          ∧ r.2.mem ((c.tc : Thread Cert.Kernel11Ideal.nD Cert.Kernel11Ideal.τ).loc Cert.Kernel11Ideal.main_v71) = v3 c
          ∧ r.2.mem ((c.tc : Thread Cert.Kernel11Ideal.nD Cert.Kernel11Ideal.τ).loc Cert.Kernel11Ideal.main_v73) = v4 c
          ∧ r.2.mem ((c.tc : Thread Cert.Kernel11Ideal.nD Cert.Kernel11Ideal.τ).loc Cert.Kernel11Ideal.main_v76) = v5 c
          ∧ r.2.mem ((c.tc : Thread Cert.Kernel11Ideal.nD Cert.Kernel11Ideal.τ).loc Cert.Kernel11Ideal.main_v78) = v6 c
          ∧ r.2.mem ((c.tc : Thread Cert.Kernel11Ideal.nD Cert.Kernel11Ideal.τ).loc Cert.Kernel11Ideal.main_v80) = v7 c
          ∧ r.2.mem ((c.tc : Thread Cert.Kernel11Ideal.nD Cert.Kernel11Ideal.τ).loc Cert.Kernel11Ideal.main_v82) = v8 c
          ∧ r.2.mem ((c.tc : Thread Cert.Kernel11Ideal.nD Cert.Kernel11Ideal.τ).loc Cert.Kernel11Ideal.main_v83) = v9 c
          ∧ r.2.mem ((c.tc : Thread Cert.Kernel11Ideal.nD Cert.Kernel11Ideal.τ).loc Cert.Kernel11Ideal.main_v84) = v10 c
          ∧ r.2.mem ((c.tc : Thread Cert.Kernel11Ideal.nD Cert.Kernel11Ideal.τ).loc Cert.Kernel11Ideal.main_v85) = v11 c
          ∧ r.2.mem ((c.tc : Thread Cert.Kernel11Ideal.nD Cert.Kernel11Ideal.τ).loc Cert.Kernel11Ideal.main_v86) = v12 c
          ∧ r.2.mem ((c.tc : Thread Cert.Kernel11Ideal.nD Cert.Kernel11Ideal.τ).loc Cert.Kernel11Ideal.main_v88) = v13 c
          ∧ r.2.mem ((c.tc : Thread Cert.Kernel11Ideal.nD Cert.Kernel11Ideal.τ).loc Cert.Kernel11Ideal.main_v90) = v14 c
          ∧ r.2.mem ((c.tc : Thread Cert.Kernel11Ideal.nD Cert.Kernel11Ideal.τ).loc Cert.Kernel11Ideal.main_v91) = v15 c
          ∧ r.2.mem ((c.tc : Thread Cert.Kernel11Ideal.nD Cert.Kernel11Ideal.τ).loc Cert.Kernel11Ideal.main_v93) = v16 c
          ∧ r.2.mem ((c.tc : Thread Cert.Kernel11Ideal.nD Cert.Kernel11Ideal.τ).loc Cert.Kernel11Ideal.main_v95) = v17 c
          ∧ r.2.mem ((c.tc : Thread Cert.Kernel11Ideal.nD Cert.Kernel11Ideal.τ).loc Cert.Kernel11Ideal.main_v98) = v18 c
          ∧ r.2.mem ((c.tc : Thread Cert.Kernel11Ideal.nD Cert.Kernel11Ideal.τ).loc Cert.Kernel11Ideal.main_v100) = v19 c
          ∧ r.2.mem ((c.tc : Thread Cert.Kernel11Ideal.nD Cert.Kernel11Ideal.τ).loc Cert.Kernel11Ideal.main_v102) = v20 c
          ∧ r.2.mem ((c.tc : Thread Cert.Kernel11Ideal.nD Cert.Kernel11Ideal.τ).loc Cert.Kernel11Ideal.main_v104) = v21 c
          ∧ r.2.mem ((c.tc : Thread Cert.Kernel11Ideal.nD Cert.Kernel11Ideal.τ).loc Cert.Kernel11Ideal.main_v105) = v22 c
          ∧ r.2.mem ((c.tc : Thread Cert.Kernel11Ideal.nD Cert.Kernel11Ideal.τ).loc Cert.Kernel11Ideal.main_v106) = v23 c
          ∧ r.2.mem ((c.tc : Thread Cert.Kernel11Ideal.nD Cert.Kernel11Ideal.τ).loc Cert.Kernel11Ideal.main_v107) = v24 c
          ∧ r.2.mem ((c.tc : Thread Cert.Kernel11Ideal.nD Cert.Kernel11Ideal.τ).loc Cert.Kernel11Ideal.main_v108) = v25 c
          ∧ r.2.mem ((c.tc : Thread Cert.Kernel11Ideal.nD Cert.Kernel11Ideal.τ).loc Cert.Kernel11Ideal.main_v110) = v26 c
          ∧ r.2.mem ((c.tc : Thread Cert.Kernel11Ideal.nD Cert.Kernel11Ideal.τ).loc Cert.Kernel11Ideal.main_v112) = v27 c
          ∧ r.2.mem ((c.tc : Thread Cert.Kernel11Ideal.nD Cert.Kernel11Ideal.τ).loc Cert.Kernel11Ideal.main_v113) = v28 c
          ∧ r.2.mem ((c.tc : Thread Cert.Kernel11Ideal.nD Cert.Kernel11Ideal.τ).loc Cert.Kernel11Ideal.main_v115) = v29 c
          ∧ r.2.mem ((c.tc : Thread Cert.Kernel11Ideal.nD Cert.Kernel11Ideal.τ).loc Cert.Kernel11Ideal.main_v117) = v30 c
          ∧ r.2.mem ((c.tc : Thread Cert.Kernel11Ideal.nD Cert.Kernel11Ideal.τ).loc Cert.Kernel11Ideal.main_v120) = v31 c
          ∧ r.2.mem ((c.tc : Thread Cert.Kernel11Ideal.nD Cert.Kernel11Ideal.τ).loc Cert.Kernel11Ideal.main_v122) = v32 c
          ∧ r.2.mem ((c.tc : Thread Cert.Kernel11Ideal.nD Cert.Kernel11Ideal.τ).loc Cert.Kernel11Ideal.main_v124) = v33 c
          ∧ r.2.mem ((c.tc : Thread Cert.Kernel11Ideal.nD Cert.Kernel11Ideal.τ).loc Cert.Kernel11Ideal.main_v126) = v34 c
          ∧ r.2.mem ((c.tc : Thread Cert.Kernel11Ideal.nD Cert.Kernel11Ideal.τ).loc Cert.Kernel11Ideal.main_v127) = v35 c
          ∧ r.2.mem ((c.tc : Thread Cert.Kernel11Ideal.nD Cert.Kernel11Ideal.τ).loc Cert.Kernel11Ideal.main_v128) = v36 c
          ∧ r.2.mem ((c.tc : Thread Cert.Kernel11Ideal.nD Cert.Kernel11Ideal.τ).loc Cert.Kernel11Ideal.main_v129) = v37 c
          ∧ r.2.mem ((c.tc : Thread Cert.Kernel11Ideal.nD Cert.Kernel11Ideal.τ).loc Cert.Kernel11Ideal.main_v130) = v38 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
          ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
          ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9)
          ∧ r.2.mem ((c.tc : Thread Cert.Kernel11Ideal.nD Cert.Kernel11Ideal.τ).loc Cert.Kernel11Ideal.main_arg10) = m ((c.tc : Thread Cert.Kernel11Ideal.nD Cert.Kernel11Ideal.τ).loc Cert.Kernel11Ideal.main_arg10)
          ∧ r.2.mem ((c.tc : Thread Cert.Kernel11Ideal.nD Cert.Kernel11Ideal.τ).loc Cert.Kernel11Ideal.main_arg11) = m ((c.tc : Thread Cert.Kernel11Ideal.nD Cert.Kernel11Ideal.τ).loc Cert.Kernel11Ideal.main_arg11)
          ∧ r.2.mem ((c.tc : Thread Cert.Kernel11Ideal.nD Cert.Kernel11Ideal.τ).loc Cert.Kernel11Ideal.main_arg12) = m ((c.tc : Thread Cert.Kernel11Ideal.nD Cert.Kernel11Ideal.τ).loc Cert.Kernel11Ideal.main_arg12)
          ∧ r.2.mem ((c.tc : Thread Cert.Kernel11Ideal.nD Cert.Kernel11Ideal.τ).loc Cert.Kernel11Ideal.main_arg13) = m ((c.tc : Thread Cert.Kernel11Ideal.nD Cert.Kernel11Ideal.τ).loc Cert.Kernel11Ideal.main_arg13)
          ∧ r.2.mem ((c.tc : Thread Cert.Kernel11Ideal.nD Cert.Kernel11Ideal.τ).loc Cert.Kernel11Ideal.main_arg14) = m ((c.tc : Thread Cert.Kernel11Ideal.nD Cert.Kernel11Ideal.τ).loc Cert.Kernel11Ideal.main_arg14)
          ∧ r.2.mem ((c.tc : Thread Cert.Kernel11Ideal.nD Cert.Kernel11Ideal.τ).loc Cert.Kernel11Ideal.main_arg15) = m ((c.tc : Thread Cert.Kernel11Ideal.nD Cert.Kernel11Ideal.τ).loc Cert.Kernel11Ideal.main_arg15)
          ∧ r.2.mem ((c.tc : Thread Cert.Kernel11Ideal.nD Cert.Kernel11Ideal.τ).loc Cert.Kernel11Ideal.main_arg16) = m ((c.tc : Thread Cert.Kernel11Ideal.nD Cert.Kernel11Ideal.τ).loc Cert.Kernel11Ideal.main_arg16)
          ∧ r.2.mem ((c.tc : Thread Cert.Kernel11Ideal.nD Cert.Kernel11Ideal.τ).loc Cert.Kernel11Ideal.main_arg17) = m ((c.tc : Thread Cert.Kernel11Ideal.nD Cert.Kernel11Ideal.τ).loc Cert.Kernel11Ideal.main_arg17)
          ∧ r.2.mem ((c.tc : Thread Cert.Kernel11Ideal.nD Cert.Kernel11Ideal.τ).loc Cert.Kernel11Ideal.main_arg18) = m ((c.tc : Thread Cert.Kernel11Ideal.nD Cert.Kernel11Ideal.τ).loc Cert.Kernel11Ideal.main_arg18)
          ∧ r.2.mem ((c.tc : Thread Cert.Kernel11Ideal.nD Cert.Kernel11Ideal.τ).loc Cert.Kernel11Ideal.main_arg19) = m ((c.tc : Thread Cert.Kernel11Ideal.nD Cert.Kernel11Ideal.τ).loc Cert.Kernel11Ideal.main_arg19)
          ∧ r.2.mem ((c.tc : Thread Cert.Kernel11Ideal.nD Cert.Kernel11Ideal.τ).loc Cert.Kernel11Ideal.main_arg20) = m ((c.tc : Thread Cert.Kernel11Ideal.nD Cert.Kernel11Ideal.τ).loc Cert.Kernel11Ideal.main_arg20)
          ∧ r.2.mem ((c.tc : Thread Cert.Kernel11Ideal.nD Cert.Kernel11Ideal.τ).loc Cert.Kernel11Ideal.main_arg21) = m ((c.tc : Thread Cert.Kernel11Ideal.nD Cert.Kernel11Ideal.τ).loc Cert.Kernel11Ideal.main_arg21)
          ∧ r.2.mem ((c.tc : Thread Cert.Kernel11Ideal.nD Cert.Kernel11Ideal.τ).loc Cert.Kernel11Ideal.main_arg22) = m ((c.tc : Thread Cert.Kernel11Ideal.nD Cert.Kernel11Ideal.τ).loc Cert.Kernel11Ideal.main_arg22)
          ∧ r.2.mem ((c.tc : Thread Cert.Kernel11Ideal.nD Cert.Kernel11Ideal.τ).loc Cert.Kernel11Ideal.main_arg23) = m ((c.tc : Thread Cert.Kernel11Ideal.nD Cert.Kernel11Ideal.τ).loc Cert.Kernel11Ideal.main_arg23)
          ∧ r.2.mem ((c.tc : Thread Cert.Kernel11Ideal.nD Cert.Kernel11Ideal.τ).loc Cert.Kernel11Ideal.main_arg24) = m ((c.tc : Thread Cert.Kernel11Ideal.nD Cert.Kernel11Ideal.τ).loc Cert.Kernel11Ideal.main_arg24)
          ∧ r.2.mem ((c.tc : Thread Cert.Kernel11Ideal.nD Cert.Kernel11Ideal.τ).loc Cert.Kernel11Ideal.main_arg25) = m ((c.tc : Thread Cert.Kernel11Ideal.nD Cert.Kernel11Ideal.τ).loc Cert.Kernel11Ideal.main_arg25)
          ∧ r.2.mem ((c.tc : Thread Cert.Kernel11Ideal.nD Cert.Kernel11Ideal.τ).loc Cert.Kernel11Ideal.main_arg26) = m ((c.tc : Thread Cert.Kernel11Ideal.nD Cert.Kernel11Ideal.τ).loc Cert.Kernel11Ideal.main_arg26)
          ∧ r.2.mem ((c.tc : Thread Cert.Kernel11Ideal.nD Cert.Kernel11Ideal.τ).loc Cert.Kernel11Ideal.main_arg27) = m ((c.tc : Thread Cert.Kernel11Ideal.nD Cert.Kernel11Ideal.τ).loc Cert.Kernel11Ideal.main_arg27)
          ∧ r.2.mem ((c.tc : Thread Cert.Kernel11Ideal.nD Cert.Kernel11Ideal.τ).loc Cert.Kernel11Ideal.main_arg28) = m ((c.tc : Thread Cert.Kernel11Ideal.nD Cert.Kernel11Ideal.τ).loc Cert.Kernel11Ideal.main_arg28)
          ∧ r.2.mem ((c.tc : Thread Cert.Kernel11Ideal.nD Cert.Kernel11Ideal.τ).loc Cert.Kernel11Ideal.main_arg29) = m ((c.tc : Thread Cert.Kernel11Ideal.nD Cert.Kernel11Ideal.τ).loc Cert.Kernel11Ideal.main_arg29)
          ∧ r.2.mem ((c.tc : Thread Cert.Kernel11Ideal.nD Cert.Kernel11Ideal.τ).loc Cert.Kernel11Ideal.main_arg30) = m ((c.tc : Thread Cert.Kernel11Ideal.nD Cert.Kernel11Ideal.τ).loc Cert.Kernel11Ideal.main_arg30)
          ∧ r.2.mem ((c.tc : Thread Cert.Kernel11Ideal.nD Cert.Kernel11Ideal.τ).loc Cert.Kernel11Ideal.main_arg31) = m ((c.tc : Thread Cert.Kernel11Ideal.nD Cert.Kernel11Ideal.τ).loc Cert.Kernel11Ideal.main_arg31)
          ∧ r.2.mem ((c.tc : Thread Cert.Kernel11Ideal.nD Cert.Kernel11Ideal.τ).loc Cert.Kernel11Ideal.main_arg32) = m ((c.tc : Thread Cert.Kernel11Ideal.nD Cert.Kernel11Ideal.τ).loc Cert.Kernel11Ideal.main_arg32)
          ∧ r.2.mem ((c.tc : Thread Cert.Kernel11Ideal.nD Cert.Kernel11Ideal.τ).loc Cert.Kernel11Ideal.main_arg33) = m ((c.tc : Thread Cert.Kernel11Ideal.nD Cert.Kernel11Ideal.τ).loc Cert.Kernel11Ideal.main_arg33)
          ∧ r.2.mem ((c.tc : Thread Cert.Kernel11Ideal.nD Cert.Kernel11Ideal.τ).loc Cert.Kernel11Ideal.main_arg34) = m ((c.tc : Thread Cert.Kernel11Ideal.nD Cert.Kernel11Ideal.τ).loc Cert.Kernel11Ideal.main_arg34)
          ∧ r.2.mem ((c.tc : Thread Cert.Kernel11Ideal.nD Cert.Kernel11Ideal.τ).loc Cert.Kernel11Ideal.main_arg35) = m ((c.tc : Thread Cert.Kernel11Ideal.nD Cert.Kernel11Ideal.τ).loc Cert.Kernel11Ideal.main_arg35)
          ∧ r.2.mem ((c.tc : Thread Cert.Kernel11Ideal.nD Cert.Kernel11Ideal.τ).loc Cert.Kernel11Ideal.main_arg36) = m ((c.tc : Thread Cert.Kernel11Ideal.nD Cert.Kernel11Ideal.τ).loc Cert.Kernel11Ideal.main_arg36)
          ∧ r.2.mem ((c.tc : Thread Cert.Kernel11Ideal.nD Cert.Kernel11Ideal.τ).loc Cert.Kernel11Ideal.main_arg37) = m ((c.tc : Thread Cert.Kernel11Ideal.nD Cert.Kernel11Ideal.τ).loc Cert.Kernel11Ideal.main_arg37)
          ∧ r.2.mem ((c.tc : Thread Cert.Kernel11Ideal.nD Cert.Kernel11Ideal.τ).loc Cert.Kernel11Ideal.main_arg38) = m ((c.tc : Thread Cert.Kernel11Ideal.nD Cert.Kernel11Ideal.τ).loc Cert.Kernel11Ideal.main_arg38)
          ∧ r.2.mem ((c.tc : Thread Cert.Kernel11Ideal.nD Cert.Kernel11Ideal.τ).loc Cert.Kernel11Ideal.main_arg39) = m ((c.tc : Thread Cert.Kernel11Ideal.nD Cert.Kernel11Ideal.τ).loc Cert.Kernel11Ideal.main_arg39)
          ∧ r.2.mem ((c.tc : Thread Cert.Kernel11Ideal.nD Cert.Kernel11Ideal.τ).loc Cert.Kernel11Ideal.main_arg40) = m ((c.tc : Thread Cert.Kernel11Ideal.nD Cert.Kernel11Ideal.τ).loc Cert.Kernel11Ideal.main_arg40)
          ∧ r.2.mem ((c.tc : Thread Cert.Kernel11Ideal.nD Cert.Kernel11Ideal.τ).loc Cert.Kernel11Ideal.main_arg41) = m ((c.tc : Thread Cert.Kernel11Ideal.nD Cert.Kernel11Ideal.τ).loc Cert.Kernel11Ideal.main_arg41)
          ∧ r.2.mem ((c.tc : Thread Cert.Kernel11Ideal.nD Cert.Kernel11Ideal.τ).loc Cert.Kernel11Ideal.main_arg42) = m ((c.tc : Thread Cert.Kernel11Ideal.nD Cert.Kernel11Ideal.τ).loc Cert.Kernel11Ideal.main_arg42)
          ∧ r.2.mem ((c.tc : Thread Cert.Kernel11Ideal.nD Cert.Kernel11Ideal.τ).loc Cert.Kernel11Ideal.main_arg43) = m ((c.tc : Thread Cert.Kernel11Ideal.nD Cert.Kernel11Ideal.τ).loc Cert.Kernel11Ideal.main_arg43)
          ∧ r.2.mem ((c.tc : Thread Cert.Kernel11Ideal.nD Cert.Kernel11Ideal.τ).loc Cert.Kernel11Ideal.main_arg44) = m ((c.tc : Thread Cert.Kernel11Ideal.nD Cert.Kernel11Ideal.τ).loc Cert.Kernel11Ideal.main_arg44)
          ∧ r.2.mem ((c.tc : Thread Cert.Kernel11Ideal.nD Cert.Kernel11Ideal.τ).loc Cert.Kernel11Ideal.main_arg45) = m ((c.tc : Thread Cert.Kernel11Ideal.nD Cert.Kernel11Ideal.τ).loc Cert.Kernel11Ideal.main_arg45)
          ∧ r.2.mem ((c.tc : Thread Cert.Kernel11Ideal.nD Cert.Kernel11Ideal.τ).loc Cert.Kernel11Ideal.main_arg46) = m ((c.tc : Thread Cert.Kernel11Ideal.nD Cert.Kernel11Ideal.τ).loc Cert.Kernel11Ideal.main_arg46)
          ∧ r.2.mem ((c.tc : Thread Cert.Kernel11Ideal.nD Cert.Kernel11Ideal.τ).loc Cert.Kernel11Ideal.main_arg47) = m ((c.tc : Thread Cert.Kernel11Ideal.nD Cert.Kernel11Ideal.τ).loc Cert.Kernel11Ideal.main_arg47)
          ∧ r.2.mem ((c.tc : Thread Cert.Kernel11Ideal.nD Cert.Kernel11Ideal.τ).loc Cert.Kernel11Ideal.main_arg48) = m ((c.tc : Thread Cert.Kernel11Ideal.nD Cert.Kernel11Ideal.τ).loc Cert.Kernel11Ideal.main_arg48)
          ∧ r.2.mem ((c.tc : Thread Cert.Kernel11Ideal.nD Cert.Kernel11Ideal.τ).loc Cert.Kernel11Ideal.main_arg49) = m ((c.tc : Thread Cert.Kernel11Ideal.nD Cert.Kernel11Ideal.τ).loc Cert.Kernel11Ideal.main_arg49)
          ∧ r.2.mem ((c.tc : Thread Cert.Kernel11Ideal.nD Cert.Kernel11Ideal.τ).loc Cert.Kernel11Ideal.main_arg50) = m ((c.tc : Thread Cert.Kernel11Ideal.nD Cert.Kernel11Ideal.τ).loc Cert.Kernel11Ideal.main_arg50)
          ∧ r.2.mem ((c.tc : Thread Cert.Kernel11Ideal.nD Cert.Kernel11Ideal.τ).loc Cert.Kernel11Ideal.main_arg51) = m ((c.tc : Thread Cert.Kernel11Ideal.nD Cert.Kernel11Ideal.τ).loc Cert.Kernel11Ideal.main_arg51))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v23) = v0 c
          ∧ r.2.mem ((c.tc : Thread Cert.Reference11Ideal.nD Cert.Reference11Ideal.τ).loc Cert.Reference11Ideal.main_v47) = v1 c
          ∧ r.2.mem ((c.tc : Thread Cert.Reference11Ideal.nD Cert.Reference11Ideal.τ).loc Cert.Reference11Ideal.main_v71) = v2 c
          ∧ r.2.mem ((c.tc : Thread Cert.Reference11Ideal.nD Cert.Reference11Ideal.τ).loc Cert.Reference11Ideal.main_v95) = v3 c
          ∧ r.2.mem ((c.tc : Thread Cert.Reference11Ideal.nD Cert.Reference11Ideal.τ).loc Cert.Reference11Ideal.main_v119) = v4 c
          ∧ r.2.mem ((c.tc : Thread Cert.Reference11Ideal.nD Cert.Reference11Ideal.τ).loc Cert.Reference11Ideal.main_v143) = v5 c
          ∧ r.2.mem ((c.tc : Thread Cert.Reference11Ideal.nD Cert.Reference11Ideal.τ).loc Cert.Reference11Ideal.main_v167) = v6 c
          ∧ r.2.mem ((c.tc : Thread Cert.Reference11Ideal.nD Cert.Reference11Ideal.τ).loc Cert.Reference11Ideal.main_v191) = v7 c
          ∧ r.2.mem ((c.tc : Thread Cert.Reference11Ideal.nD Cert.Reference11Ideal.τ).loc Cert.Reference11Ideal.main_v215) = v8 c
          ∧ r.2.mem ((c.tc : Thread Cert.Reference11Ideal.nD Cert.Reference11Ideal.τ).loc Cert.Reference11Ideal.main_v239) = v9 c
          ∧ r.2.mem ((c.tc : Thread Cert.Reference11Ideal.nD Cert.Reference11Ideal.τ).loc Cert.Reference11Ideal.main_v263) = v10 c
          ∧ r.2.mem ((c.tc : Thread Cert.Reference11Ideal.nD Cert.Reference11Ideal.τ).loc Cert.Reference11Ideal.main_v287) = v11 c
          ∧ r.2.mem ((c.tc : Thread Cert.Reference11Ideal.nD Cert.Reference11Ideal.τ).loc Cert.Reference11Ideal.main_v311) = v12 c
          ∧ r.2.mem ((c.tc : Thread Cert.Reference11Ideal.nD Cert.Reference11Ideal.τ).loc Cert.Reference11Ideal.main_v4) = v13 c
          ∧ r.2.mem ((c.tc : Thread Cert.Reference11Ideal.nD Cert.Reference11Ideal.τ).loc Cert.Reference11Ideal.main_v28) = v14 c
          ∧ r.2.mem ((c.tc : Thread Cert.Reference11Ideal.nD Cert.Reference11Ideal.τ).loc Cert.Reference11Ideal.main_v52) = v15 c
          ∧ r.2.mem ((c.tc : Thread Cert.Reference11Ideal.nD Cert.Reference11Ideal.τ).loc Cert.Reference11Ideal.main_v76) = v16 c
          ∧ r.2.mem ((c.tc : Thread Cert.Reference11Ideal.nD Cert.Reference11Ideal.τ).loc Cert.Reference11Ideal.main_v100) = v17 c
          ∧ r.2.mem ((c.tc : Thread Cert.Reference11Ideal.nD Cert.Reference11Ideal.τ).loc Cert.Reference11Ideal.main_v124) = v18 c
          ∧ r.2.mem ((c.tc : Thread Cert.Reference11Ideal.nD Cert.Reference11Ideal.τ).loc Cert.Reference11Ideal.main_v148) = v19 c
          ∧ r.2.mem ((c.tc : Thread Cert.Reference11Ideal.nD Cert.Reference11Ideal.τ).loc Cert.Reference11Ideal.main_v172) = v20 c
          ∧ r.2.mem ((c.tc : Thread Cert.Reference11Ideal.nD Cert.Reference11Ideal.τ).loc Cert.Reference11Ideal.main_v196) = v21 c
          ∧ r.2.mem ((c.tc : Thread Cert.Reference11Ideal.nD Cert.Reference11Ideal.τ).loc Cert.Reference11Ideal.main_v220) = v22 c
          ∧ r.2.mem ((c.tc : Thread Cert.Reference11Ideal.nD Cert.Reference11Ideal.τ).loc Cert.Reference11Ideal.main_v244) = v23 c
          ∧ r.2.mem ((c.tc : Thread Cert.Reference11Ideal.nD Cert.Reference11Ideal.τ).loc Cert.Reference11Ideal.main_v268) = v24 c
          ∧ r.2.mem ((c.tc : Thread Cert.Reference11Ideal.nD Cert.Reference11Ideal.τ).loc Cert.Reference11Ideal.main_v292) = v25 c
          ∧ r.2.mem ((c.tc : Thread Cert.Reference11Ideal.nD Cert.Reference11Ideal.τ).loc Cert.Reference11Ideal.main_v10) = v26 c
          ∧ r.2.mem ((c.tc : Thread Cert.Reference11Ideal.nD Cert.Reference11Ideal.τ).loc Cert.Reference11Ideal.main_v34) = v27 c
          ∧ r.2.mem ((c.tc : Thread Cert.Reference11Ideal.nD Cert.Reference11Ideal.τ).loc Cert.Reference11Ideal.main_v58) = v28 c
          ∧ r.2.mem ((c.tc : Thread Cert.Reference11Ideal.nD Cert.Reference11Ideal.τ).loc Cert.Reference11Ideal.main_v82) = v29 c
          ∧ r.2.mem ((c.tc : Thread Cert.Reference11Ideal.nD Cert.Reference11Ideal.τ).loc Cert.Reference11Ideal.main_v106) = v30 c
          ∧ r.2.mem ((c.tc : Thread Cert.Reference11Ideal.nD Cert.Reference11Ideal.τ).loc Cert.Reference11Ideal.main_v130) = v31 c
          ∧ r.2.mem ((c.tc : Thread Cert.Reference11Ideal.nD Cert.Reference11Ideal.τ).loc Cert.Reference11Ideal.main_v154) = v32 c
          ∧ r.2.mem ((c.tc : Thread Cert.Reference11Ideal.nD Cert.Reference11Ideal.τ).loc Cert.Reference11Ideal.main_v178) = v33 c
          ∧ r.2.mem ((c.tc : Thread Cert.Reference11Ideal.nD Cert.Reference11Ideal.τ).loc Cert.Reference11Ideal.main_v202) = v34 c
          ∧ r.2.mem ((c.tc : Thread Cert.Reference11Ideal.nD Cert.Reference11Ideal.τ).loc Cert.Reference11Ideal.main_v226) = v35 c
          ∧ r.2.mem ((c.tc : Thread Cert.Reference11Ideal.nD Cert.Reference11Ideal.τ).loc Cert.Reference11Ideal.main_v250) = v36 c
          ∧ r.2.mem ((c.tc : Thread Cert.Reference11Ideal.nD Cert.Reference11Ideal.τ).loc Cert.Reference11Ideal.main_v274) = v37 c
          ∧ r.2.mem ((c.tc : Thread Cert.Reference11Ideal.nD Cert.Reference11Ideal.τ).loc Cert.Reference11Ideal.main_v298) = v38 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7)
          ∧ r.2.mem ((c.tc : Thread Cert.Reference11Ideal.nD Cert.Reference11Ideal.τ).loc Cert.Reference11Ideal.main_arg8) = m' ((c.tc : Thread Cert.Reference11Ideal.nD Cert.Reference11Ideal.τ).loc Cert.Reference11Ideal.main_arg8)
          ∧ r.2.mem ((c.tc : Thread Cert.Reference11Ideal.nD Cert.Reference11Ideal.τ).loc Cert.Reference11Ideal.main_arg9) = m' ((c.tc : Thread Cert.Reference11Ideal.nD Cert.Reference11Ideal.τ).loc Cert.Reference11Ideal.main_arg9)
          ∧ r.2.mem ((c.tc : Thread Cert.Reference11Ideal.nD Cert.Reference11Ideal.τ).loc Cert.Reference11Ideal.main_arg10) = m' ((c.tc : Thread Cert.Reference11Ideal.nD Cert.Reference11Ideal.τ).loc Cert.Reference11Ideal.main_arg10)
          ∧ r.2.mem ((c.tc : Thread Cert.Reference11Ideal.nD Cert.Reference11Ideal.τ).loc Cert.Reference11Ideal.main_arg11) = m' ((c.tc : Thread Cert.Reference11Ideal.nD Cert.Reference11Ideal.τ).loc Cert.Reference11Ideal.main_arg11)
          ∧ r.2.mem ((c.tc : Thread Cert.Reference11Ideal.nD Cert.Reference11Ideal.τ).loc Cert.Reference11Ideal.main_arg12) = m' ((c.tc : Thread Cert.Reference11Ideal.nD Cert.Reference11Ideal.τ).loc Cert.Reference11Ideal.main_arg12)
          ∧ r.2.mem ((c.tc : Thread Cert.Reference11Ideal.nD Cert.Reference11Ideal.τ).loc Cert.Reference11Ideal.main_arg13) = m' ((c.tc : Thread Cert.Reference11Ideal.nD Cert.Reference11Ideal.τ).loc Cert.Reference11Ideal.main_arg13)
          ∧ r.2.mem ((c.tc : Thread Cert.Reference11Ideal.nD Cert.Reference11Ideal.τ).loc Cert.Reference11Ideal.main_arg14) = m' ((c.tc : Thread Cert.Reference11Ideal.nD Cert.Reference11Ideal.τ).loc Cert.Reference11Ideal.main_arg14)
          ∧ r.2.mem ((c.tc : Thread Cert.Reference11Ideal.nD Cert.Reference11Ideal.τ).loc Cert.Reference11Ideal.main_arg15) = m' ((c.tc : Thread Cert.Reference11Ideal.nD Cert.Reference11Ideal.τ).loc Cert.Reference11Ideal.main_arg15)
          ∧ r.2.mem ((c.tc : Thread Cert.Reference11Ideal.nD Cert.Reference11Ideal.τ).loc Cert.Reference11Ideal.main_arg16) = m' ((c.tc : Thread Cert.Reference11Ideal.nD Cert.Reference11Ideal.τ).loc Cert.Reference11Ideal.main_arg16)
          ∧ r.2.mem ((c.tc : Thread Cert.Reference11Ideal.nD Cert.Reference11Ideal.τ).loc Cert.Reference11Ideal.main_arg17) = m' ((c.tc : Thread Cert.Reference11Ideal.nD Cert.Reference11Ideal.τ).loc Cert.Reference11Ideal.main_arg17)
          ∧ r.2.mem ((c.tc : Thread Cert.Reference11Ideal.nD Cert.Reference11Ideal.τ).loc Cert.Reference11Ideal.main_arg18) = m' ((c.tc : Thread Cert.Reference11Ideal.nD Cert.Reference11Ideal.τ).loc Cert.Reference11Ideal.main_arg18)
          ∧ r.2.mem ((c.tc : Thread Cert.Reference11Ideal.nD Cert.Reference11Ideal.τ).loc Cert.Reference11Ideal.main_arg19) = m' ((c.tc : Thread Cert.Reference11Ideal.nD Cert.Reference11Ideal.τ).loc Cert.Reference11Ideal.main_arg19)
          ∧ r.2.mem ((c.tc : Thread Cert.Reference11Ideal.nD Cert.Reference11Ideal.τ).loc Cert.Reference11Ideal.main_arg20) = m' ((c.tc : Thread Cert.Reference11Ideal.nD Cert.Reference11Ideal.τ).loc Cert.Reference11Ideal.main_arg20)
          ∧ r.2.mem ((c.tc : Thread Cert.Reference11Ideal.nD Cert.Reference11Ideal.τ).loc Cert.Reference11Ideal.main_arg21) = m' ((c.tc : Thread Cert.Reference11Ideal.nD Cert.Reference11Ideal.τ).loc Cert.Reference11Ideal.main_arg21)
          ∧ r.2.mem ((c.tc : Thread Cert.Reference11Ideal.nD Cert.Reference11Ideal.τ).loc Cert.Reference11Ideal.main_arg22) = m' ((c.tc : Thread Cert.Reference11Ideal.nD Cert.Reference11Ideal.τ).loc Cert.Reference11Ideal.main_arg22)
          ∧ r.2.mem ((c.tc : Thread Cert.Reference11Ideal.nD Cert.Reference11Ideal.τ).loc Cert.Reference11Ideal.main_arg23) = m' ((c.tc : Thread Cert.Reference11Ideal.nD Cert.Reference11Ideal.τ).loc Cert.Reference11Ideal.main_arg23)
          ∧ r.2.mem ((c.tc : Thread Cert.Reference11Ideal.nD Cert.Reference11Ideal.τ).loc Cert.Reference11Ideal.main_arg24) = m' ((c.tc : Thread Cert.Reference11Ideal.nD Cert.Reference11Ideal.τ).loc Cert.Reference11Ideal.main_arg24)
          ∧ r.2.mem ((c.tc : Thread Cert.Reference11Ideal.nD Cert.Reference11Ideal.τ).loc Cert.Reference11Ideal.main_arg25) = m' ((c.tc : Thread Cert.Reference11Ideal.nD Cert.Reference11Ideal.τ).loc Cert.Reference11Ideal.main_arg25)
          ∧ r.2.mem ((c.tc : Thread Cert.Reference11Ideal.nD Cert.Reference11Ideal.τ).loc Cert.Reference11Ideal.main_arg26) = m' ((c.tc : Thread Cert.Reference11Ideal.nD Cert.Reference11Ideal.τ).loc Cert.Reference11Ideal.main_arg26)
          ∧ r.2.mem ((c.tc : Thread Cert.Reference11Ideal.nD Cert.Reference11Ideal.τ).loc Cert.Reference11Ideal.main_arg27) = m' ((c.tc : Thread Cert.Reference11Ideal.nD Cert.Reference11Ideal.τ).loc Cert.Reference11Ideal.main_arg27)
          ∧ r.2.mem ((c.tc : Thread Cert.Reference11Ideal.nD Cert.Reference11Ideal.τ).loc Cert.Reference11Ideal.main_arg28) = m' ((c.tc : Thread Cert.Reference11Ideal.nD Cert.Reference11Ideal.τ).loc Cert.Reference11Ideal.main_arg28)
          ∧ r.2.mem ((c.tc : Thread Cert.Reference11Ideal.nD Cert.Reference11Ideal.τ).loc Cert.Reference11Ideal.main_arg29) = m' ((c.tc : Thread Cert.Reference11Ideal.nD Cert.Reference11Ideal.τ).loc Cert.Reference11Ideal.main_arg29)
          ∧ r.2.mem ((c.tc : Thread Cert.Reference11Ideal.nD Cert.Reference11Ideal.τ).loc Cert.Reference11Ideal.main_arg30) = m' ((c.tc : Thread Cert.Reference11Ideal.nD Cert.Reference11Ideal.τ).loc Cert.Reference11Ideal.main_arg30)
          ∧ r.2.mem ((c.tc : Thread Cert.Reference11Ideal.nD Cert.Reference11Ideal.τ).loc Cert.Reference11Ideal.main_arg31) = m' ((c.tc : Thread Cert.Reference11Ideal.nD Cert.Reference11Ideal.τ).loc Cert.Reference11Ideal.main_arg31)
          ∧ r.2.mem ((c.tc : Thread Cert.Reference11Ideal.nD Cert.Reference11Ideal.τ).loc Cert.Reference11Ideal.main_arg32) = m' ((c.tc : Thread Cert.Reference11Ideal.nD Cert.Reference11Ideal.τ).loc Cert.Reference11Ideal.main_arg32)
          ∧ r.2.mem ((c.tc : Thread Cert.Reference11Ideal.nD Cert.Reference11Ideal.τ).loc Cert.Reference11Ideal.main_arg33) = m' ((c.tc : Thread Cert.Reference11Ideal.nD Cert.Reference11Ideal.τ).loc Cert.Reference11Ideal.main_arg33)
          ∧ r.2.mem ((c.tc : Thread Cert.Reference11Ideal.nD Cert.Reference11Ideal.τ).loc Cert.Reference11Ideal.main_arg34) = m' ((c.tc : Thread Cert.Reference11Ideal.nD Cert.Reference11Ideal.τ).loc Cert.Reference11Ideal.main_arg34)
          ∧ r.2.mem ((c.tc : Thread Cert.Reference11Ideal.nD Cert.Reference11Ideal.τ).loc Cert.Reference11Ideal.main_arg35) = m' ((c.tc : Thread Cert.Reference11Ideal.nD Cert.Reference11Ideal.τ).loc Cert.Reference11Ideal.main_arg35)
          ∧ r.2.mem ((c.tc : Thread Cert.Reference11Ideal.nD Cert.Reference11Ideal.τ).loc Cert.Reference11Ideal.main_arg36) = m' ((c.tc : Thread Cert.Reference11Ideal.nD Cert.Reference11Ideal.τ).loc Cert.Reference11Ideal.main_arg36)
          ∧ r.2.mem ((c.tc : Thread Cert.Reference11Ideal.nD Cert.Reference11Ideal.τ).loc Cert.Reference11Ideal.main_arg37) = m' ((c.tc : Thread Cert.Reference11Ideal.nD Cert.Reference11Ideal.τ).loc Cert.Reference11Ideal.main_arg37)
          ∧ r.2.mem ((c.tc : Thread Cert.Reference11Ideal.nD Cert.Reference11Ideal.τ).loc Cert.Reference11Ideal.main_arg38) = m' ((c.tc : Thread Cert.Reference11Ideal.nD Cert.Reference11Ideal.τ).loc Cert.Reference11Ideal.main_arg38)
          ∧ r.2.mem ((c.tc : Thread Cert.Reference11Ideal.nD Cert.Reference11Ideal.τ).loc Cert.Reference11Ideal.main_arg39) = m' ((c.tc : Thread Cert.Reference11Ideal.nD Cert.Reference11Ideal.τ).loc Cert.Reference11Ideal.main_arg39)
          ∧ r.2.mem ((c.tc : Thread Cert.Reference11Ideal.nD Cert.Reference11Ideal.τ).loc Cert.Reference11Ideal.main_arg40) = m' ((c.tc : Thread Cert.Reference11Ideal.nD Cert.Reference11Ideal.τ).loc Cert.Reference11Ideal.main_arg40)
          ∧ r.2.mem ((c.tc : Thread Cert.Reference11Ideal.nD Cert.Reference11Ideal.τ).loc Cert.Reference11Ideal.main_arg41) = m' ((c.tc : Thread Cert.Reference11Ideal.nD Cert.Reference11Ideal.τ).loc Cert.Reference11Ideal.main_arg41)
          ∧ r.2.mem ((c.tc : Thread Cert.Reference11Ideal.nD Cert.Reference11Ideal.τ).loc Cert.Reference11Ideal.main_arg42) = m' ((c.tc : Thread Cert.Reference11Ideal.nD Cert.Reference11Ideal.τ).loc Cert.Reference11Ideal.main_arg42)
          ∧ r.2.mem ((c.tc : Thread Cert.Reference11Ideal.nD Cert.Reference11Ideal.τ).loc Cert.Reference11Ideal.main_arg43) = m' ((c.tc : Thread Cert.Reference11Ideal.nD Cert.Reference11Ideal.τ).loc Cert.Reference11Ideal.main_arg43)
          ∧ r.2.mem ((c.tc : Thread Cert.Reference11Ideal.nD Cert.Reference11Ideal.τ).loc Cert.Reference11Ideal.main_arg44) = m' ((c.tc : Thread Cert.Reference11Ideal.nD Cert.Reference11Ideal.τ).loc Cert.Reference11Ideal.main_arg44)
          ∧ r.2.mem ((c.tc : Thread Cert.Reference11Ideal.nD Cert.Reference11Ideal.τ).loc Cert.Reference11Ideal.main_arg45) = m' ((c.tc : Thread Cert.Reference11Ideal.nD Cert.Reference11Ideal.τ).loc Cert.Reference11Ideal.main_arg45)
          ∧ r.2.mem ((c.tc : Thread Cert.Reference11Ideal.nD Cert.Reference11Ideal.τ).loc Cert.Reference11Ideal.main_arg46) = m' ((c.tc : Thread Cert.Reference11Ideal.nD Cert.Reference11Ideal.τ).loc Cert.Reference11Ideal.main_arg46)
          ∧ r.2.mem ((c.tc : Thread Cert.Reference11Ideal.nD Cert.Reference11Ideal.τ).loc Cert.Reference11Ideal.main_arg47) = m' ((c.tc : Thread Cert.Reference11Ideal.nD Cert.Reference11Ideal.τ).loc Cert.Reference11Ideal.main_arg47)
          ∧ r.2.mem ((c.tc : Thread Cert.Reference11Ideal.nD Cert.Reference11Ideal.τ).loc Cert.Reference11Ideal.main_arg48) = m' ((c.tc : Thread Cert.Reference11Ideal.nD Cert.Reference11Ideal.τ).loc Cert.Reference11Ideal.main_arg48)
          ∧ r.2.mem ((c.tc : Thread Cert.Reference11Ideal.nD Cert.Reference11Ideal.τ).loc Cert.Reference11Ideal.main_arg49) = m' ((c.tc : Thread Cert.Reference11Ideal.nD Cert.Reference11Ideal.τ).loc Cert.Reference11Ideal.main_arg49)
          ∧ r.2.mem ((c.tc : Thread Cert.Reference11Ideal.nD Cert.Reference11Ideal.τ).loc Cert.Reference11Ideal.main_arg50) = m' ((c.tc : Thread Cert.Reference11Ideal.nD Cert.Reference11Ideal.τ).loc Cert.Reference11Ideal.main_arg50)
          ∧ r.2.mem ((c.tc : Thread Cert.Reference11Ideal.nD Cert.Reference11Ideal.τ).loc Cert.Reference11Ideal.main_arg51) = m' ((c.tc : Thread Cert.Reference11Ideal.nD Cert.Reference11Ideal.τ).loc Cert.Reference11Ideal.main_arg51))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v4)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v4) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v2_0)) (v1 : (c : Dev Cert.Kernel13Ideal.nD) → Buf (Elt Ideal) ((c.tc : Thread Cert.Kernel13Ideal.nD Cert.Kernel13Ideal.τ).loc Cert.Kernel13Ideal.main_v2_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2_0) = v0 c
          ∧ r.2.mem ((c.tc : Thread Cert.Kernel13Ideal.nD Cert.Kernel13Ideal.τ).loc Cert.Kernel13Ideal.main_v2_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_v3) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v4)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v4) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v0) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v3) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v1) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v2) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v0) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v4)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v4) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v3) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v4)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v4) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v3) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v2) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v2) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v2) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v2) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v2) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v0) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v2) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v1) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
-- ==== Pre_finite.lean ====
abbrev S16400x8x128 : Shape := ⟨3, ![16400, 8, 128]⟩
abbrev S16400x8x64 : Shape := ⟨3, ![16400, 8, 64]⟩
abbrev S16400x64 : Shape := ⟨2, ![16400, 64]⟩
abbrev S16400x2048 : Shape := ⟨2, ![16400, 2048]⟩
abbrev S_ : Shape := ⟨0, ![]⟩
abbrev S16400x1024 : Shape := ⟨2, ![16400, 1024]⟩

class Facts : Prop where
  bcast_S_S16400x8x128 : S_.BroadcastsInDim S16400x8x128 (![] : Fin 0 → Fin S16400x8x128.rank)
  reducesTo_S16400x8x128_S_d0_1_2 : S16400x8x128.ReducesTo [0, 1, 2] S_
  h_S_ : 0 < S_.numel
  bcast_S_S16400x8x64 : S_.BroadcastsInDim S16400x8x64 (![] : Fin 0 → Fin S16400x8x64.rank)
  reducesTo_S16400x8x64_S_d0_1_2 : S16400x8x64.ReducesTo [0, 1, 2] S_
  bcast_S_S16400x64 : S_.BroadcastsInDim S16400x64 (![] : Fin 0 → Fin S16400x64.rank)
  reducesTo_S16400x64_S_d0_1 : S16400x64.ReducesTo [0, 1] S_
  slices_S16400x2048_S16400x1024_0_0 : S16400x2048.Slices ![0, 0] S16400x1024
  bcast_S_S16400x1024 : S_.BroadcastsInDim S16400x1024 (![] : Fin 0 → Fin S16400x1024.rank)
  reducesTo_S16400x1024_S_d0_1 : S16400x1024.ReducesTo [0, 1] S_

variable [Facts]

def fn_part1 {F : FTy → Type} [FloatOps F] (main_arg4 : FVec F S16400x8x128 .f32) (main_arg5 : FVec F S16400x2048 .f32) (main_v13 : IVec S_ 1) (main_v16 : IVec S16400x64 1) : IVec S_ 1 :=
  let main_c_5 : IVec S_ 1 := constantI S_ 1 1#1
  let main_v17 : IVec S_ 1 := (fun x v => Host.reduce IntOp.andi x v reducesTo_S16400x64_S_d0_1 h_S_) main_v16 main_c_5
  let main_v18 : IVec S_ 1 := andi main_v13 main_v17
  let main_v19 : FVec F S16400x8x128 .f32 := Host.absf main_arg4
  let main_cst_6 : FVec F S_ .f32 := constant S_ .f32 0x7F800000#32
  let main_v20 : FVec F S16400x8x128 .f32 := broadcastInDim S16400x8x128 ![] bcast_S_S16400x8x128 main_cst_6
  let main_v21 : IVec S16400x8x128 1 := cmpf .olt main_v19 main_v20
  let main_c_7 : IVec S_ 1 := constantI S_ 1 1#1
  let main_v22 : IVec S_ 1 := (fun x v => Host.reduce IntOp.andi x v reducesTo_S16400x8x128_S_d0_1_2 h_S_) main_v21 main_c_7
  let main_v23 : IVec S_ 1 := andi main_v18 main_v22
  let main_v24 : FVec F S16400x1024 .f32 := (extractStridedSlice S16400x1024 ![0, 0] · slices_S16400x2048_S16400x1024_0_0) main_arg5
  let main_v25 : FVec F S16400x1024 .f32 := Host.absf main_v24
  let main_cst_8 : FVec F S_ .f32 := constant S_ .f32 0x7F800000#32
  let main_v26 : FVec F S16400x1024 .f32 := broadcastInDim S16400x1024 ![] bcast_S_S16400x1024 main_cst_8
  let main_v27 : IVec S16400x1024 1 := cmpf .olt main_v25 main_v26
  let main_c_9 : IVec S_ 1 := constantI S_ 1 1#1
  let main_v28 : IVec S_ 1 := (fun x v => Host.reduce IntOp.andi x v reducesTo_S16400x1024_S_d0_1 h_S_) main_v27 main_c_9
  let main_v29 : IVec S_ 1 := andi main_v23 main_v28
  main_v29

def fn {F : FTy → Type} [FloatOps F] (main_arg0 : FVec F S16400x8x128 .f32) (main_arg1 : FVec F S16400x8x64 .f32) (main_arg2 : FVec F S16400x8x128 .f32) (main_arg3 : FVec F S16400x64 .f32) (main_arg4 : FVec F S16400x8x128 .f32) (main_arg5 : FVec F S16400x2048 .f32) : IVec S_ 1 :=
  let main_v0 : FVec F S16400x8x128 .f32 := Host.absf main_arg0
  let main_cst : FVec F S_ .f32 := constant S_ .f32 0x7F800000#32
  let main_v1 : FVec F S16400x8x128 .f32 := broadcastInDim S16400x8x128 ![] bcast_S_S16400x8x128 main_cst
  let main_v2 : IVec S16400x8x128 1 := cmpf .olt main_v0 main_v1
  let main_c : IVec S_ 1 := constantI S_ 1 1#1
  let main_v3 : IVec S_ 1 := (fun x v => Host.reduce IntOp.andi x v reducesTo_S16400x8x128_S_d0_1_2 h_S_) main_v2 main_c
  let main_v4 : FVec F S16400x8x64 .f32 := Host.absf main_arg1
  let main_cst_0 : FVec F S_ .f32 := constant S_ .f32 0x7F800000#32
  let main_v5 : FVec F S16400x8x64 .f32 := broadcastInDim S16400x8x64 ![] bcast_S_S16400x8x64 main_cst_0
  let main_v6 : IVec S16400x8x64 1 := cmpf .olt main_v4 main_v5
  let main_c_1 : IVec S_ 1 := constantI S_ 1 1#1
  let main_v7 : IVec S_ 1 := (fun x v => Host.reduce IntOp.andi x v reducesTo_S16400x8x64_S_d0_1_2 h_S_) main_v6 main_c_1
  let main_v8 : IVec S_ 1 := andi main_v3 main_v7
  let main_v9 : FVec F S16400x8x128 .f32 := Host.absf main_arg2
  let main_cst_2 : FVec F S_ .f32 := constant S_ .f32 0x7F800000#32
  let main_v10 : FVec F S16400x8x128 .f32 := broadcastInDim S16400x8x128 ![] bcast_S_S16400x8x128 main_cst_2
  let main_v11 : IVec S16400x8x128 1 := cmpf .olt main_v9 main_v10
  let main_c_3 : IVec S_ 1 := constantI S_ 1 1#1
  let main_v12 : IVec S_ 1 := (fun x v => Host.reduce IntOp.andi x v reducesTo_S16400x8x128_S_d0_1_2 h_S_) main_v11 main_c_3
  let main_v13 : IVec S_ 1 := andi main_v8 main_v12
  let main_v14 : FVec F S16400x64 .f32 := Host.absf main_arg3
  let main_cst_4 : FVec F S_ .f32 := constant S_ .f32 0x7F800000#32
  let main_v15 : FVec F S16400x64 .f32 := broadcastInDim S16400x64 ![] bcast_S_S16400x64 main_cst_4
  let main_v16 : IVec S16400x64 1 := cmpf .olt main_v14 main_v15
  fn_part1 (F := F) main_arg4 main_arg5 main_v13 main_v16
-- ==== Kernel.lean ====
abbrev S16400x8x128 : Shape := ⟨3, ![16400, 8, 128]⟩
abbrev S16400x8x64 : Shape := ⟨3, ![16400, 8, 64]⟩
abbrev S16400x64 : Shape := ⟨2, ![16400, 64]⟩
abbrev S16400x2048 : Shape := ⟨2, ![16400, 2048]⟩
abbrev S132 : Shape := ⟨1, ![132]⟩
abbrev S16400x1024 : Shape := ⟨2, ![16400, 1024]⟩
abbrev S8x16400x128 : Shape := ⟨3, ![8, 16400, 128]⟩
abbrev S8x16400x64 : Shape := ⟨3, ![8, 16400, 64]⟩
abbrev S8x1x1 : Shape := ⟨3, ![8, 1, 1]⟩
abbrev S_ : Shape := ⟨0, ![]⟩
abbrev S1x16400x64 : Shape := ⟨3, ![1, 16400, 64]⟩
abbrev S8x16400x256 : Shape := ⟨3, ![8, 16400, 256]⟩
abbrev S8x16896x256 : Shape := ⟨3, ![8, 16896, 256]⟩
abbrev S8x16896x128 : Shape := ⟨3, ![8, 16896, 128]⟩
abbrev S8x16400x16400 : Shape := ⟨3, ![8, 16400, 16400]⟩
abbrev S16400x16400x8 : Shape := ⟨3, ![16400, 16400, 8]⟩
abbrev S16400 : Shape := ⟨1, ![16400]⟩
abbrev S1x1x16400 : Shape := ⟨3, ![1, 1, 16400]⟩
abbrev S1x16400x1 : Shape := ⟨3, ![1, 16400, 1]⟩
abbrev S1x16400x16400 : Shape := ⟨3, ![1, 16400, 16400]⟩
abbrev S8x16400 : Shape := ⟨2, ![8, 16400]⟩
abbrev S8x16400x1 : Shape := ⟨3, ![8, 16400, 1]⟩
abbrev S8x16896x1 : Shape := ⟨3, ![8, 16896, 1]⟩
abbrev S8x1x16896 : Shape := ⟨3, ![8, 1, 16896]⟩
abbrev S16896x2048 : Shape := ⟨2, ![16896, 2048]⟩
abbrev S1x768x256 : Shape := ⟨3, ![1, 768, 256]⟩
abbrev S1 : Shape := ⟨1, ![1]⟩
abbrev S1x768x128 : Shape := ⟨3, ![1, 768, 128]⟩
abbrev S1x1536x256 : Shape := ⟨3, ![1, 1536, 256]⟩
abbrev S1536x128 : Shape := ⟨2, ![1536, 128]⟩
abbrev S1x1x1536 : Shape := ⟨3, ![1, 1, 1536]⟩
abbrev S16896x256 : Shape := ⟨2, ![16896, 256]⟩
abbrev S768x256 : Shape := ⟨2, ![768, 256]⟩
abbrev S768x128 : Shape := ⟨2, ![768, 128]⟩
abbrev S1536x256 : Shape := ⟨2, ![1536, 256]⟩
abbrev S768x1536 : Shape := ⟨2, ![768, 1536]⟩
abbrev S1x1536 : Shape := ⟨2, ![1, 1536]⟩
abbrev S768x768 : Shape := ⟨2, ![768, 768]⟩
abbrev S1x1x768 : Shape := ⟨3, ![1, 1, 768]⟩
abbrev S1x768 : Shape := ⟨2, ![1, 768]⟩
abbrev S1x16896x256 : Shape := ⟨3, ![1, 16896, 256]⟩

abbrev nBuf : Space → Nat
  | .hbm => 165
  | .vmem => 19
  | .smem => 2
  | _ => 0

abbrev hbmTy0_0 (i : Nat) : BufTy := match i % 128 with
  | 0 => ⟨S16400x8x128, .f32⟩
  | 1 => ⟨S16400x8x64, .f32⟩
  | 2 => ⟨S16400x8x128, .f32⟩
  | 3 => ⟨S16400x64, .f32⟩
  | 4 => ⟨S16400x8x128, .f32⟩
  | 5 => ⟨S16400x2048, .f32⟩
  | 6 => ⟨S16400x1024, .f32⟩
  | 7 => ⟨S16400x8x128, .f32⟩
  | 8 => ⟨S8x16400x128, .f32⟩
  | 9 => ⟨S8x16400x64, .f32⟩
  | 10 => ⟨S8x16400x128, .f32⟩
  | 11 => ⟨S8x1x1, .i32⟩
  | 12 => ⟨S_, .i32⟩
  | 13 => ⟨S_, .i32⟩
  | 14 => ⟨S_, .i32⟩
  | 15 => ⟨S_, .i1⟩
  | 16 => ⟨S_, .i32⟩
  | 17 => ⟨S_, .i32⟩
  | 18 => ⟨S8x1x1, .i32⟩
  | 19 => ⟨S8x1x1, .i32⟩
  | 20 => ⟨S_, .i32⟩
  | 21 => ⟨S8x1x1, .i32⟩
  | 22 => ⟨S8x1x1, .i1⟩
  | 23 => ⟨S_, .i32⟩
  | 24 => ⟨S8x1x1, .i32⟩
  | 25 => ⟨S8x1x1, .i1⟩
  | 26 => ⟨S_, .i32⟩
  | 27 => ⟨S_, .i1⟩
  | 28 => ⟨S8x1x1, .i1⟩
  | 29 => ⟨S8x1x1, .i1⟩
  | 30 => ⟨S8x1x1, .i1⟩
  | 31 => ⟨S8x1x1, .i32⟩
  | 32 => ⟨S8x1x1, .i32⟩
  | 33 => ⟨S8x1x1, .i32⟩
  | 34 => ⟨S_, .i32⟩
  | 35 => ⟨S8x1x1, .i32⟩
  | 36 => ⟨S8x1x1, .i1⟩
  | 37 => ⟨S1x16400x64, .f32⟩
  | 38 => ⟨S8x16400x64, .f32⟩
  | 39 => ⟨S_, .f32⟩
  | 40 => ⟨S_, .f32⟩
  | 41 => ⟨S8x16400x64, .i1⟩
  | 42 => ⟨S8x16400x64, .f32⟩
  | 43 => ⟨S8x16400x64, .f32⟩
  | 44 => ⟨S_, .f32⟩
  | 45 => ⟨S_, .f32⟩
  | 46 => ⟨S8x16400x64, .i1⟩
  | 47 => ⟨S8x16400x64, .f32⟩
  | 48 => ⟨S8x16400x64, .f32⟩
  | 49 => ⟨S8x16400x256, .f32⟩
  | 50 => ⟨S8x16400x256, .f32⟩
  | 51 => ⟨S8x16400x128, .f32⟩
  | 52 => ⟨S_, .i32⟩
  | 53 => ⟨S_, .f32⟩
  | 54 => ⟨S8x16896x256, .f32⟩
  | 55 => ⟨S8x16896x256, .bf16⟩
  | 56 => ⟨S_, .i32⟩
  | 57 => ⟨S_, .f32⟩
  | 58 => ⟨S8x16896x256, .f32⟩
  | 59 => ⟨S8x16896x256, .bf16⟩
  | 60 => ⟨S_, .i32⟩
  | 61 => ⟨S_, .f32⟩
  | 62 => ⟨S8x16896x128, .f32⟩
  | 63 => ⟨S8x16896x128, .bf16⟩
  | 64 => ⟨S8x16400x16400, .f32⟩
  | 65 => ⟨S16400x16400x8, .f32⟩
  | 66 => ⟨S8x16400x16400, .f32⟩
  | 67 => ⟨S8x16400x16400, .f32⟩
  | 68 => ⟨S_, .f32⟩
  | 69 => ⟨S_, .f32⟩
  | 70 => ⟨S8x16400x16400, .f32⟩
  | 71 => ⟨S8x16400x16400, .f32⟩
  | 72 => ⟨S16400, .i32⟩
  | 73 => ⟨S1x1x16400, .i32⟩
  | 74 => ⟨S1x16400x1, .i32⟩
  | 75 => ⟨S1x16400x16400, .i32⟩
  | 76 => ⟨S1x16400x16400, .i32⟩
  | 77 => ⟨S1x16400x16400, .i1⟩
  | 78 => ⟨S_, .f32⟩
  | 79 => ⟨S_, .f32⟩
  | 80 => ⟨S8x16400x16400, .i1⟩
  | 81 => ⟨S8x16400x16400, .f32⟩
  | 82 => ⟨S8x16400x16400, .f32⟩
  | 83 => ⟨S_, .f32⟩
  | 84 => ⟨S8x16400, .f32⟩
  | 85 => ⟨S8x16400x1, .f32⟩
  | 86 => ⟨S8x16400x16400, .f32⟩
  | 87 => ⟨S8x16400x16400, .f32⟩
  | 88 => ⟨S8x16400x16400, .f32⟩
  | 89 => ⟨S_, .f32⟩
  | 90 => ⟨S8x16400, .f32⟩
  | 91 => ⟨S8x16400x1, .f32⟩
  | 92 => ⟨S8x16400x16400, .f32⟩
  | 93 => ⟨S8x16400x16400, .f32⟩
  | 94 => ⟨S8x16400x128, .f32⟩
  | 95 => ⟨S8x16400x1, .f32⟩
  | 96 => ⟨S8x16400x1, .f32⟩
  | 97 => ⟨S_, .f32⟩
  | 98 => ⟨S_, .f32⟩
  | 99 => ⟨S8x16400x1, .f32⟩
  | 100 => ⟨S8x16400x1, .f32⟩
  | 101 => ⟨S8x16400x128, .f32⟩
  | 102 => ⟨S8x16400x128, .f32⟩
  | 103 => ⟨S_, .f32⟩
  | 104 => ⟨S8x16400, .f32⟩
  | 105 => ⟨S8x16400x1, .f32⟩
  | 106 => ⟨S_, .i32⟩
  | 107 => ⟨S_, .f32⟩
  | 108 => ⟨S8x16896x1, .f32⟩
  | 109 => ⟨S8x1x16896, .f32⟩
  | 110 => ⟨S_, .i32⟩
  | 111 => ⟨S_, .f32⟩
  | 112 => ⟨S8x16896x1, .f32⟩
  | 113 => ⟨S8x1x16896, .f32⟩
  | 114 => ⟨S_, .i32⟩
  | 115 => ⟨S_, .f32⟩
  | 116 => ⟨S16896x2048, .f32⟩
  | 117 => ⟨S16896x2048, .bf16⟩
  | 118 => ⟨S8x16896x256, .f32⟩
  | 119 => ⟨S8x16896x256, .f32⟩
  | 120 => ⟨S8x16896x128, .f32⟩
  | 121 => ⟨S8x16400x256, .f32⟩
  | 122 => ⟨S8x16400x256, .f32⟩
  | 123 => ⟨S8x16400x128, .f32⟩
  | 124 => ⟨S8x1x1, .i32⟩
  | 125 => ⟨S_, .i32⟩
  | 126 => ⟨S_, .i32⟩
  | 127 => ⟨S_, .i32⟩
  | _ => ⟨S16400x8x128, .f32⟩

abbrev hbmTy0_1 (i : Nat) : BufTy := match i % 128 with
  | 0 => ⟨S_, .i1⟩
  | 1 => ⟨S_, .i32⟩
  | 2 => ⟨S_, .i32⟩
  | 3 => ⟨S8x1x1, .i32⟩
  | 4 => ⟨S8x1x1, .i32⟩
  | 5 => ⟨S_, .i32⟩
  | 6 => ⟨S8x1x1, .i32⟩
  | 7 => ⟨S8x1x1, .i1⟩
  | 8 => ⟨S_, .i32⟩
  | 9 => ⟨S8x1x1, .i32⟩
  | 10 => ⟨S8x1x1, .i1⟩
  | 11 => ⟨S_, .i32⟩
  | 12 => ⟨S_, .i1⟩
  | 13 => ⟨S8x1x1, .i1⟩
  | 14 => ⟨S8x1x1, .i1⟩
  | 15 => ⟨S8x1x1, .i1⟩
  | 16 => ⟨S8x1x1, .i32⟩
  | 17 => ⟨S8x1x1, .i32⟩
  | 18 => ⟨S8x1x1, .i32⟩
  | 19 => ⟨S_, .i32⟩
  | 20 => ⟨S8x1x1, .i32⟩
  | 21 => ⟨S8x1x1, .i1⟩
  | 22 => ⟨S8x16400x64, .f32⟩
  | 23 => ⟨S8x16400x64, .f32⟩
  | 24 => ⟨S8x16400x64, .i1⟩
  | 25 => ⟨S8x16400x64, .f32⟩
  | 26 => ⟨S8x16400x64, .f32⟩
  | 27 => ⟨S8x16400x64, .f32⟩
  | 28 => ⟨S8x16400x64, .f32⟩
  | 29 => ⟨S_, .f32⟩
  | 30 => ⟨S16400x64, .f32⟩
  | 31 => ⟨S8x16400x128, .f32⟩
  | 32 => ⟨S16400x8x128, .f32⟩
  | 33 => ⟨S16400x8x64, .f32⟩
  | 34 => ⟨S8x16400x128, .f32⟩
  | 35 => ⟨S16400x8x128, .f32⟩
  | 36 => ⟨S16400x8x128, .f32⟩
  | _ => ⟨S16400x8x128, .f32⟩

abbrev hbmTy (i : Nat) : BufTy := match i / 128 with
  | 0 => hbmTy0_0 i
  | 1 => hbmTy0_1 i
  | _ => ⟨S16400x8x128, .f32⟩

abbrev bufTy : (tb : Table) → Fin (tcTables nBuf tb) → BufTy
  | .hbm, ⟨i, _⟩ => hbmTy i
  | .local _ .vmem, ⟨0, _⟩ => ⟨S1x768x256, .bf16⟩
  | .local _ .vmem, ⟨1, _⟩ => ⟨S1x768x256, .bf16⟩
  | .local _ .vmem, ⟨2, _⟩ => ⟨S1x768x128, .bf16⟩
  | .local _ .vmem, ⟨3, _⟩ => ⟨S1x768x128, .bf16⟩
  | .local _ .vmem, ⟨4, _⟩ => ⟨S1x1536x256, .bf16⟩
  | .local _ .vmem, ⟨5, _⟩ => ⟨S1x1536x256, .bf16⟩
  | .local _ .vmem, ⟨6, _⟩ => ⟨S1536x128, .bf16⟩
  | .local _ .vmem, ⟨7, _⟩ => ⟨S1536x128, .bf16⟩
  | .local _ .vmem, ⟨8, _⟩ => ⟨S1x1x1536, .f32⟩
  | .local _ .vmem, ⟨9, _⟩ => ⟨S1x1x1536, .f32⟩
  | .local _ .vmem, ⟨10, _⟩ => ⟨S1x1x1536, .f32⟩
  | .local _ .vmem, ⟨11, _⟩ => ⟨S1x1x1536, .f32⟩
  | .local _ .vmem, ⟨12, _⟩ => ⟨S1x768x256, .f32⟩
  | .local _ .vmem, ⟨13, _⟩ => ⟨S1x768x256, .f32⟩
  | .local _ .vmem, ⟨14, _⟩ => ⟨S1x768x128, .f32⟩
  | .local _ .vmem, ⟨15, _⟩ => ⟨S1x768x128, .f32⟩
  | .local _ .vmem, ⟨16, _⟩ => ⟨S16896x256, .f32⟩
  | .local _ .vmem, ⟨17, _⟩ => ⟨S768x256, .f32⟩
  | .local _ .vmem, ⟨18, _⟩ => ⟨S768x128, .f32⟩
  | .local _ .smem, ⟨0, _⟩ => ⟨S132, .i32⟩
  | .local _ .smem, ⟨1, _⟩ => ⟨S132, .i32⟩
  | _, _ => ⟨S16400x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_c_1 : Ref sig .tc := ⟨.hbm, 20, rfl⟩
abbrev main_call0_v5 : Ref sig .tc := ⟨.hbm, 21, rfl⟩
abbrev main_call0_v6 : Ref sig .tc := ⟨.hbm, 22, rfl⟩
abbrev main_call0_c_2 : Ref sig .tc := ⟨.hbm, 23, rfl⟩
abbrev main_call0_v7 : Ref sig .tc := ⟨.hbm, 24, rfl⟩
abbrev main_call0_v8 : Ref sig .tc := ⟨.hbm, 25, rfl⟩
abbrev main_call0_c_3 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_v6 : Ref sig .tc := ⟨.hbm, 33, rfl⟩
abbrev main_c_2 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_cst : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v11 : Ref sig .tc := ⟨.hbm, 43, rfl⟩
abbrev main_cst_3 : Ref sig .tc := ⟨.hbm, 44, rfl⟩
abbrev main_call2_v0 : Ref sig .tc := ⟨.hbm, 45, rfl⟩
abbrev main_call2_v1 : Ref sig .tc := ⟨.hbm, 46, rfl⟩
abbrev main_call2_v2 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_c_4 : Ref sig .tc := ⟨.hbm, 52, rfl⟩
abbrev main_call3_v0 : Ref sig .tc := ⟨.hbm, 53, rfl⟩
abbrev main_v16 : Ref sig .tc := ⟨.hbm, 54, rfl⟩
abbrev main_v17 : Ref sig .tc := ⟨.hbm, 55, rfl⟩
abbrev main_c_5 : Ref sig .tc := ⟨.hbm, 56, rfl⟩
abbrev main_call4_v0 : Ref sig .tc := ⟨.hbm, 57, rfl⟩
abbrev main_v18 : Ref sig .tc := ⟨.hbm, 58, rfl⟩
abbrev main_v19 : Ref sig .tc := ⟨.hbm, 59, rfl⟩
abbrev main_c_6 : Ref sig .tc := ⟨.hbm, 60, rfl⟩
abbrev main_call5_v0 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_cst_7 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_cst_8 : Ref sig .tc := ⟨.hbm, 78, rfl⟩
abbrev main_call6_v0 : Ref sig .tc := ⟨.hbm, 79, rfl⟩
abbrev main_call6_v1 : Ref sig .tc := ⟨.hbm, 80, rfl⟩
abbrev main_call6_v2 : Ref sig .tc := ⟨.hbm, 81, rfl⟩
abbrev main_v35 : Ref sig .tc := ⟨.hbm, 82, rfl⟩
abbrev main_cst_9 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_cst_10 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_cst_11 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_cst_12 : Ref sig .tc := ⟨.hbm, 103, rfl⟩
abbrev main_v53 : Ref sig .tc := ⟨.hbm, 104, rfl⟩
abbrev main_v54 : Ref sig .tc := ⟨.hbm, 105, rfl⟩
abbrev main_c_13 : Ref sig .tc := ⟨.hbm, 106, rfl⟩
abbrev main_call7_v0 : Ref sig .tc := ⟨.hbm, 107, rfl⟩
abbrev main_v55 : Ref sig .tc := ⟨.hbm, 108, rfl⟩
abbrev main_v56 : Ref sig .tc := ⟨.hbm, 109, rfl⟩
abbrev main_c_14 : Ref sig .tc := ⟨.hbm, 110, rfl⟩
abbrev main_call8_v0 : Ref sig .tc := ⟨.hbm, 111, rfl⟩
abbrev main_v57 : Ref sig .tc := ⟨.hbm, 112, rfl⟩
abbrev main_v58 : Ref sig .tc := ⟨.hbm, 113, rfl⟩
abbrev main_c_15 : Ref sig .tc := ⟨.hbm, 114, rfl⟩
abbrev main_call9_v0 : Ref sig .tc := ⟨.hbm, 115, rfl⟩
abbrev main_v59 : Ref sig .tc := ⟨.hbm, 116, rfl⟩
abbrev main_v60 : Ref sig .tc := ⟨.hbm, 117, rfl⟩
abbrev main_v61_0 : Ref sig .tc := ⟨.hbm, 118, rfl⟩
abbrev main_v61_1 : Ref sig .tc := ⟨.hbm, 119, rfl⟩
abbrev main_v61_2 : Ref sig .tc := ⟨.hbm, 120, rfl⟩
abbrev main_v62 : Ref sig .tc := ⟨.hbm, 121, rfl⟩
abbrev main_v63 : Ref sig .tc := ⟨.hbm, 122, rfl⟩
abbrev main_v64 : Ref sig .tc := ⟨.hbm, 123, rfl⟩
abbrev main_v65 : Ref sig .tc := ⟨.hbm, 124, rfl⟩
abbrev main_c_16 : Ref sig .tc := ⟨.hbm, 125, rfl⟩
abbrev main_call10_v0 : Ref sig .tc := ⟨.hbm, 126, rfl⟩
abbrev main_call10_c : Ref sig .tc := ⟨.hbm, 127, rfl⟩
abbrev main_call10_v1 : Ref sig .tc := ⟨.hbm, 128, rfl⟩
abbrev main_call10_c_0 : Ref sig .tc := ⟨.hbm, 129, rfl⟩
abbrev main_call10_v2 : Ref sig .tc := ⟨.hbm, 130, rfl⟩
abbrev main_call10_v3 : Ref sig .tc := ⟨.hbm, 131, rfl⟩
abbrev main_call10_v4 : Ref sig .tc := ⟨.hbm, 132, rfl⟩
abbrev main_call10_c_1 : Ref sig .tc := ⟨.hbm, 133, rfl⟩
abbrev main_call10_v5 : Ref sig .tc := ⟨.hbm, 134, rfl⟩
abbrev main_call10_v6 : Ref sig .tc := ⟨.hbm, 135, rfl⟩
abbrev main_call10_c_2 : Ref sig .tc := ⟨.hbm, 136, rfl⟩
abbrev main_call10_v7 : Ref sig .tc := ⟨.hbm, 137, rfl⟩
abbrev main_call10_v8 : Ref sig .tc := ⟨.hbm, 138, rfl⟩
abbrev main_call10_c_3 : Ref sig .tc := ⟨.hbm, 139, rfl⟩
abbrev main_call10_v9 : Ref sig .tc := ⟨.hbm, 140, rfl⟩
abbrev main_call10_v10 : Ref sig .tc := ⟨.hbm, 141, rfl⟩
abbrev main_call10_v11 : Ref sig .tc := ⟨.hbm, 142, rfl⟩
abbrev main_call10_v12 : Ref sig .tc := ⟨.hbm, 143, rfl⟩
abbrev main_call10_v13 : Ref sig .tc := ⟨.hbm, 144, rfl⟩
abbrev main_call10_v14 : Ref sig .tc := ⟨.hbm, 145, rfl⟩
abbrev main_v66 : Ref sig .tc := ⟨.hbm, 146, rfl⟩
abbrev main_c_17 : Ref sig .tc := ⟨.hbm, 147, rfl⟩
abbrev main_v67 : Ref sig .tc := ⟨.hbm, 148, rfl⟩
abbrev main_v68 : Ref sig .tc := ⟨.hbm, 149, rfl⟩
abbrev main_v69 : Ref sig .tc := ⟨.hbm, 150, rfl⟩
abbrev main_v70 : Ref sig .tc := ⟨.hbm, 151, rfl⟩
abbrev main_call11_v0 : Ref sig .tc := ⟨.hbm, 152, rfl⟩
abbrev main_v71 : Ref sig .tc := ⟨.hbm, 153, rfl⟩
abbrev main_v72 : Ref sig .tc := ⟨.hbm, 154, rfl⟩
abbrev main_v73 : Ref sig .tc := ⟨.hbm, 155, rfl⟩
abbrev main_v74 : Ref sig .tc := ⟨.hbm, 156, rfl⟩
abbrev main_cst_18 : Ref sig .tc := ⟨.hbm, 157, rfl⟩
abbrev main_v75 : Ref sig .tc := ⟨.hbm, 158, rfl⟩
abbrev main_v76 : Ref sig .tc := ⟨.hbm, 159, rfl⟩
abbrev main_v77 : Ref sig .tc := ⟨.hbm, 160, rfl⟩
abbrev main_v78 : Ref sig .tc := ⟨.hbm, 161, rfl⟩
abbrev main_v79 : Ref sig .tc := ⟨.hbm, 162, rfl⟩
abbrev main_v80 : Ref sig .tc := ⟨.hbm, 163, rfl⟩
abbrev main_v81 : Ref sig .tc := ⟨.hbm, 164, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 132], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (v1 : BitVec 32) : BitVec 32 :=
  let c1536_i32 : BitVec 32 := 1536#32
  let v102 : BitVec 32 := Scalar.muli v1 c1536_i32
  let c0_i32_55 : BitVec 32 := 0#32
  let v103 : BitVec 32 := Scalar.addi v102 c0_i32_55
  v103
def k0_cond3 (v1 : BitVec 32) (v3 : BitVec 32) : BitVec 1 :=
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c2_i32 : BitVec 32 := 2#32
  let c0_i32_1 : BitVec 32 := 0#32
  let v10 : BitVec 1 := Scalar.cmpi .sgt c2_i32 c0_i32_1
  let v11 : BitVec 32 := Scalar.extui v10
  let c0_i32_2 : BitVec 32 := 0#32
  let v12 : BitVec 1 := Scalar.cmpi .slt c2_i32 c0_i32_2
  let v13 : BitVec 32 := Scalar.extui v12
  let v14 : BitVec 32 := Scalar.subi v11 v13
  let v15 : BitVec 1 := Scalar.cmpi .ne v9 v14
  let v16 : BitVec 32 := Scalar.remsi v3 c2_i32
  let c0_i32_3 : BitVec 32 := 0#32
  let v17 : BitVec 1 := Scalar.cmpi .ne v16 c0_i32_3
  let v18 : BitVec 1 := Scalar.andi v15 v17
  let v4 : BitVec 32 := Scalar.divsi v3 c2_i32
  let c1_i32 : BitVec 32 := 1#32
  let v19 : BitVec 32 := Scalar.subi v4 c1_i32
  let v20 : BitVec 32 := Scalar.select v18 v19 v4
  let v21 : BitVec 1 := Scalar.cmpi .eq v1 v20
  let v_true : BitVec 1 := 1#1
  let v27 : BitVec 1 := Scalar.xori v21 v_true
  let v28 : BitVec 32 := Scalar.extui v27
  let c0_i32_7 : BitVec 32 := 0#32
  let v29 : BitVec 1 := Scalar.cmpi .ne v28 c0_i32_7
  v29

def k0_off2 (v1 : BitVec 32) : Fin 2 → Nat :=
  let c1536_i32 : BitVec 32 := 1536#32
  let v102 : BitVec 32 := Scalar.muli v1 c1536_i32
  let c0_i32_55 : BitVec 32 := 0#32
  let v103 : BitVec 32 := Scalar.addi v102 c0_i32_55
  let v104 : BitVec 32 := v103
  let v105 : Index := Scalar.indexCast v104
  let c0_56 : Index := 0#32
  ![v105.toNat, 0]
def k0_mult2 (v1 : BitVec 32) : BitVec 32 :=
  let c1536_i32 : BitVec 32 := 1536#32
  let v107 : BitVec 32 := Scalar.muli v1 c1536_i32
  let c0_i32_56 : BitVec 32 := 0#32
  let v108 : BitVec 32 := Scalar.addi v107 c0_i32_56
  v108
def k0_cond4 (v1 : BitVec 32) (v3 : BitVec 32) : BitVec 1 :=
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c2_i32 : BitVec 32 := 2#32
  let c0_i32_1 : BitVec 32 := 0#32
  let v10 : BitVec 1 := Scalar.cmpi .sgt c2_i32 c0_i32_1
  let v11 : BitVec 32 := Scalar.extui v10
  let c0_i32_2 : BitVec 32 := 0#32
  let v12 : BitVec 1 := Scalar.cmpi .slt c2_i32 c0_i32_2
  let v13 : BitVec 32 := Scalar.extui v12
  let v14 : BitVec 32 := Scalar.subi v11 v13
  let v15 : BitVec 1 := Scalar.cmpi .ne v9 v14
  let v16 : BitVec 32 := Scalar.remsi v3 c2_i32
  let c0_i32_3 : BitVec 32 := 0#32
  let v17 : BitVec 1 := Scalar.cmpi .ne v16 c0_i32_3
  let v18 : BitVec 1 := Scalar.andi v15 v17
  let v4 : BitVec 32 := Scalar.divsi v3 c2_i32
  let c1_i32 : BitVec 32 := 1#32
  let v19 : BitVec 32 := Scalar.subi v4 c1_i32
  let v20 : BitVec 32 := Scalar.select v18 v19 v4
  let v21 : BitVec 1 := Scalar.cmpi .eq v1 v20
  let c2_i32_8 : BitVec 32 := 2#32
  let c0_i32_9 : BitVec 32 := 0#32
  let v30 : BitVec 1 := Scalar.cmpi .eq c2_i32_8 c0_i32_9
  let c1_i32_10 : BitVec 32 := 1#32
  let v31 : BitVec 32 := Scalar.select v30 c1_i32_10 c2_i32_8
  let v32 : BitVec 32 := Scalar.remsi v3 v31
  let c0_i32_12 : BitVec 32 := 0#32
  let v34 : BitVec 1 := Scalar.cmpi .slt v32 c0_i32_12
  let c0_i32_13 : BitVec 32 := 0#32
  let v35 : BitVec 1 := Scalar.cmpi .slt v31 c0_i32_13
  let v36 : BitVec 1 := Scalar.xori v34 v35
  let c0_i32_11 : BitVec 32 := 0#32
  let v33 : BitVec 1 := Scalar.cmpi .ne v32 c0_i32_11
  let v37 : BitVec 1 := Scalar.andi v36 v33
  let v38 : BitVec 32 := Scalar.addi v32 v31
  let v39 : BitVec 32 := Scalar.select v37 v38 v32
  let c0_i32_14 : BitVec 32 := 0#32
  let v40 : BitVec 1 := Scalar.cmpi .eq v39 c0_i32_14
  let v41 : BitVec 1 := Scalar.andi v21 v40
  let v42 : BitVec 32 := Scalar.extui v41
  let c0_i32_15 : BitVec 32 := 0#32
  let v43 : BitVec 1 := Scalar.cmpi .ne v42 c0_i32_15
  v43

def k0_off3 (v1 : BitVec 32) : Fin 2 → Nat :=
  let c1536_i32 : BitVec 32 := 1536#32
  let v107 : BitVec 32 := Scalar.muli v1 c1536_i32
  let c0_i32_56 : BitVec 32 := 0#32
  let v108 : BitVec 32 := Scalar.addi v107 c0_i32_56
  let v109 : BitVec 32 := v108
  let v110 : Index := Scalar.indexCast v109
  let c0_57 : Index := 0#32
  ![v110.toNat, 0]
def k0_mult3 (v1 : BitVec 32) : BitVec 32 :=
  let c1536_i32 : BitVec 32 := 1536#32
  let v107 : BitVec 32 := Scalar.muli v1 c1536_i32
  let c768_i32 : BitVec 32 := 768#32
  let v108 : BitVec 32 := Scalar.addi v107 c768_i32
  v108
def k0_cond5 (v1 : BitVec 32) (v3 : BitVec 32) : BitVec 1 :=
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c2_i32 : BitVec 32 := 2#32
  let c0_i32_1 : BitVec 32 := 0#32
  let v10 : BitVec 1 := Scalar.cmpi .sgt c2_i32 c0_i32_1
  let v11 : BitVec 32 := Scalar.extui v10
  let c0_i32_2 : BitVec 32 := 0#32
  let v12 : BitVec 1 := Scalar.cmpi .slt c2_i32 c0_i32_2
  let v13 : BitVec 32 := Scalar.extui v12
  let v14 : BitVec 32 := Scalar.subi v11 v13
  let v15 : BitVec 1 := Scalar.cmpi .ne v9 v14
  let v16 : BitVec 32 := Scalar.remsi v3 c2_i32
  let c0_i32_3 : BitVec 32 := 0#32
  let v17 : BitVec 1 := Scalar.cmpi .ne v16 c0_i32_3
  let v18 : BitVec 1 := Scalar.andi v15 v17
  let v4 : BitVec 32 := Scalar.divsi v3 c2_i32
  let c1_i32 : BitVec 32 := 1#32
  let v19 : BitVec 32 := Scalar.subi v4 c1_i32
  let v20 : BitVec 32 := Scalar.select v18 v19 v4
  let v21 : BitVec 1 := Scalar.cmpi .eq v1 v20
  let c2_i32_16 : BitVec 32 := 2#32
  let c0_i32_17 : BitVec 32 := 0#32
  let v44 : BitVec 1 := Scalar.cmpi .eq c2_i32_16 c0_i32_17
  let c1_i32_18 : BitVec 32 := 1#32
  let v45 : BitVec 32 := Scalar.select v44 c1_i32_18 c2_i32_16
  let v46 : BitVec 32 := Scalar.remsi v3 v45
  let c0_i32_20 : BitVec 32 := 0#32
  let v48 : BitVec 1 := Scalar.cmpi .slt v46 c0_i32_20
  let c0_i32_21 : BitVec 32 := 0#32
  let v49 : BitVec 1 := Scalar.cmpi .slt v45 c0_i32_21
  let v50 : BitVec 1 := Scalar.xori v48 v49
  let c0_i32_19 : BitVec 32 := 0#32
  let v47 : BitVec 1 := Scalar.cmpi .ne v46 c0_i32_19
  let v51 : BitVec 1 := Scalar.andi v50 v47
  let v52 : BitVec 32 := Scalar.addi v46 v45
  let v53 : BitVec 32 := Scalar.select v51 v52 v46
  let c1_i32_22 : BitVec 32 := 1#32
  let v54 : BitVec 1 := Scalar.cmpi .eq v53 c1_i32_22
  let v55 : BitVec 1 := Scalar.andi v21 v54
  let v56 : BitVec 32 := Scalar.extui v55
  let c0_i32_23 : BitVec 32 := 0#32
  let v57 : BitVec 1 := Scalar.cmpi .ne v56 c0_i32_23
  v57

def k0_off4 (v1 : BitVec 32) : Fin 2 → Nat :=
  let c1536_i32 : BitVec 32 := 1536#32
  let v107 : BitVec 32 := Scalar.muli v1 c1536_i32
  let c768_i32 : BitVec 32 := 768#32
  let v108 : BitVec 32 := Scalar.addi v107 c768_i32
  let v109 : BitVec 32 := v108
  let v110 : Index := Scalar.indexCast v109
  let c0_55 : Index := 0#32
  ![v110.toNat, 0]

def k0_chk1 (v1 : BitVec 32) (v3 : BitVec 32) : Prop :=
  (∀ (k0_h3 : k0_cond3 v1 v3 = 1#1), 768 ∣ (k0_mult1 v1).toNat) ∧
  (∀ (k0_h3 : k0_cond3 v1 v3 = 1#1), ∀ a, (k0_off2 v1) a + S1536x256.size a ≤ S16896x256.size a) ∧
  (∀ (k0_h4 : k0_cond4 v1 v3 = 1#1), 768 ∣ (k0_mult2 v1).toNat) ∧
  (∀ (k0_h4 : k0_cond4 v1 v3 = 1#1), ∀ a, (k0_off3 v1) a + S1536x256.size a ≤ S16896x256.size a) ∧
  (∀ (k0_h5 : k0_cond5 v1 v3 = 1#1), 768 ∣ (k0_mult3 v1).toNat) ∧
  (∀ (k0_h5 : k0_cond5 v1 v3 = 1#1), ∀ a, (k0_off4 v1) a + S768x256.size a ≤ S16896x256.size a)
theorem k0_mult1_dvd : ∀ (v1 : BitVec 32) (v3 : BitVec 32) (k0_hw1 : k0_chk1 v1 v3), ∀ (k0_h3 : k0_cond3 v1 v3 = 1#1), 768 ∣ (k0_mult1 v1).toNat := fun v1 v3 k0_hw1 k0_h3 => k0_hw1.1 k0_h3
theorem k0_off2_inb : ∀ (v1 : BitVec 32) (v3 : BitVec 32) (k0_hw1 : k0_chk1 v1 v3), ∀ (k0_h3 : k0_cond3 v1 v3 = 1#1), ∀ a, (k0_off2 v1) a + S1536x256.size a ≤ S16896x256.size a := fun v1 v3 k0_hw1 k0_h3 => k0_hw1.2.1 k0_h3
theorem k0_mult2_dvd : ∀ (v1 : BitVec 32) (v3 : BitVec 32) (k0_hw1 : k0_chk1 v1 v3), ∀ (k0_h4 : k0_cond4 v1 v3 = 1#1), 768 ∣ (k0_mult2 v1).toNat := fun v1 v3 k0_hw1 k0_h4 => k0_hw1.2.2.1 k0_h4
theorem k0_off3_inb : ∀ (v1 : BitVec 32) (v3 : BitVec 32) (k0_hw1 : k0_chk1 v1 v3), ∀ (k0_h4 : k0_cond4 v1 v3 = 1#1), ∀ a, (k0_off3 v1) a + S1536x256.size a ≤ S16896x256.size a := fun v1 v3 k0_hw1 k0_h4 => k0_hw1.2.2.2.1 k0_h4
theorem k0_mult3_dvd : ∀ (v1 : BitVec 32) (v3 : BitVec 32) (k0_hw1 : k0_chk1 v1 v3), ∀ (k0_h5 : k0_cond5 v1 v3 = 1#1), 768 ∣ (k0_mult3 v1).toNat := fun v1 v3 k0_hw1 k0_h5 => k0_hw1.2.2.2.2.1 k0_h5
theorem k0_off4_inb : ∀ (v1 : BitVec 32) (v3 : BitVec 32) (k0_hw1 : k0_chk1 v1 v3), ∀ (k0_h5 : k0_cond5 v1 v3 = 1#1), ∀ a, (k0_off4 v1) a + S768x256.size a ≤ S16896x256.size a := fun v1 v3 k0_hw1 k0_h5 => k0_hw1.2.2.2.2.2 k0_h5

def k0_cond7 (i : grid0.Coords) : BitVec 1 :=
  let arg1 : BitVec 32 := BitVec.ofNat 32 (i 1).val
  let c131_i32 : BitVec 32 := 131#32
  let v61 : BitVec 1 := Scalar.cmpi .eq arg1 c131_i32
  let v62 : BitVec 32 := Scalar.extui v61
  let c0_i32_25 : BitVec 32 := 0#32
  let v63 : BitVec 1 := Scalar.cmpi .ne v62 c0_i32_25
  v63

def k0_off5 (i : grid0.Coords) : Fin 3 → Nat :=
  let arg0 : BitVec 32 := BitVec.ofNat 32 (i 0).val
  let c0_i32_26 : BitVec 32 := 0#32
  let c0_i32_27 : BitVec 32 := 0#32
  ![arg0.toNat, 0, 0]
def k0_cond6 (v1 : BitVec 32) : BitVec 1 :=
  let c10_i32 : BitVec 32 := 10#32
  let v58 : BitVec 1 := Scalar.cmpi .eq v1 c10_i32
  let v59 : BitVec 32 := Scalar.extui v58
  let c0_i32_24 : BitVec 32 := 0#32
  let v60 : BitVec 1 := Scalar.cmpi .ne v59 c0_i32_24
  v60

def cc0_transform_0 (k0_off1_inb : ∀ i : grid0.Coords, ∀ a, (k0_off1 i) a + S1.size a ≤ S132.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S132) ![v0.toNat] S1.size (k0_off1_inb i)) numel1_S1
  let c0_i32 : BitVec 32 := 0#32
  let c0_i32_0 : BitVec 32 := 0#32
  ![arg0.toNat, v1.toNat, c0_i32.toNat]

def cc0_transform_1 (k0_off1_inb : ∀ i : grid0.Coords, ∀ a, (k0_off1 i) a + S1.size a ≤ S132.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S132) ![v0.toNat] S1.size (k0_off1_inb i)) numel1_S1
  let c0_i32 : BitVec 32 := 0#32
  let c0_i32_0 : BitVec 32 := 0#32
  ![arg0.toNat, v1.toNat, c0_i32.toNat]

def cc0_transform_2 (k0_off1_inb : ∀ i : grid0.Coords, ∀ a, (k0_off1 i) a + S1.size a ≤ S132.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S132) ![v0.toNat] S1.size (k0_off1_inb i)) numel1_S1
  let c0_i32 : BitVec 32 := 0#32
  let c0_i32_0 : BitVec 32 := 0#32
  ![arg0.toNat, v1.toNat, c0_i32.toNat]

def cc0_transform_3 (k0_off1_inb : ∀ i : grid0.Coords, ∀ a, (k0_off1 i) a + S1.size a ≤ S132.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S132) ![v0.toNat] S1.size (k0_off1_inb i)) numel1_S1
  let c0_i32 : BitVec 32 := 0#32
  ![v1.toNat, arg0.toNat]

def cc0_transform_4 (k0_off1_inb : ∀ i : grid0.Coords, ∀ a, (k0_off1 i) a + S1.size a ≤ S132.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S132) ![v0.toNat] S1.size (k0_off1_inb i)) numel1_S1
  let c0_i32 : BitVec 32 := 0#32
  let c0_i32_0 : BitVec 32 := 0#32
  ![arg0.toNat, c0_i32.toNat, v1.toNat]

def cc0_transform_5 (k0_off1_inb : ∀ i : grid0.Coords, ∀ a, (k0_off1 i) a + S1.size a ≤ S132.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S132) ![v0.toNat] S1.size (k0_off1_inb i)) numel1_S1
  let c0_i32 : BitVec 32 := 0#32
  let c0_i32_0 : BitVec 32 := 0#32
  ![arg0.toNat, c0_i32.toNat, v1.toNat]

def cc0_transform_7 (k0_off1_inb : ∀ i : grid0.Coords, ∀ a, (k0_off1 i) a + S1.size a ≤ S132.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S132) ![v0.toNat] S1.size (k0_off1_inb i)) numel1_S1
  let c0_i32 : BitVec 32 := 0#32
  let c0_i32_0 : BitVec 32 := 0#32
  ![arg0.toNat, v1.toNat, c0_i32.toNat]

def cc0_transform_8 (k0_off1_inb : ∀ i : grid0.Coords, ∀ a, (k0_off1 i) a + S1.size a ≤ S132.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S132) ![v0.toNat] S1.size (k0_off1_inb i)) numel1_S1
  let c0_i32 : BitVec 32 := 0#32
  let c0_i32_0 : BitVec 32 := 0#32
  ![arg0.toNat, v1.toNat, c0_i32.toNat]

abbrev stage0_0 : Fin 2 → Memref sig .tc .vmem S1x768x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x768x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1536x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1536x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x768x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x768x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "scale" => some (((Real.sqrt 192)⁻¹ : ℝ) : EReal)
  | "scale_log2" => some (((Real.sqrt 192)⁻¹ * (Real.log 2)⁻¹ : ℝ) : EReal)
  | _ => none
-- ==== ReferenceIdeal.lean ====
abbrev S16400x8x128 : Shape := ⟨3, ![16400, 8, 128]⟩
abbrev S16400x8x64 : Shape := ⟨3, ![16400, 8, 64]⟩
abbrev S16400x64 : Shape := ⟨2, ![16400, 64]⟩
abbrev S16400x2048 : Shape := ⟨2, ![16400, 2048]⟩
abbrev S16400x1024 : Shape := ⟨2, ![16400, 1024]⟩
abbrev S16400 : Shape := ⟨1, ![16400]⟩
abbrev S8x16400x16400 : Shape := ⟨3, ![8, 16400, 16400]⟩
abbrev S16400x16400x8 : Shape := ⟨3, ![16400, 16400, 8]⟩
abbrev S_ : Shape := ⟨0, ![]⟩
abbrev S1x1x16400 : Shape := ⟨3, ![1, 1, 16400]⟩
abbrev S1x16400x1 : Shape := ⟨3, ![1, 16400, 1]⟩
abbrev S1x16400x16400 : Shape := ⟨3, ![1, 16400, 16400]⟩
abbrev S8x16400 : Shape := ⟨2, ![8, 16400]⟩
abbrev S8x16400x1 : Shape := ⟨3, ![8, 16400, 1]⟩
abbrev S8x128x16400 : Shape := ⟨3, ![8, 128, 16400]⟩
abbrev S8x16400x128 : Shape := ⟨3, ![8, 16400, 128]⟩

abbrev nBuf : Space → Nat
  | .hbm => 99
  | .vmem => 0
  | .smem => 0
  | _ => 0

abbrev bufTy : (tb : Table) → Fin (tcTables nBuf tb) → BufTy
  | .hbm, ⟨0, _⟩ => ⟨S16400x8x128, .f32⟩
  | .hbm, ⟨1, _⟩ => ⟨S16400x8x64, .f32⟩
  | .hbm, ⟨2, _⟩ => ⟨S16400x8x128, .f32⟩
  | .hbm, ⟨3, _⟩ => ⟨S16400x64, .f32⟩
  | .hbm, ⟨4, _⟩ => ⟨S16400x8x128, .f32⟩
  | .hbm, ⟨5, _⟩ => ⟨S16400x2048, .f32⟩
  | .hbm, ⟨6, _⟩ => ⟨S16400x1024, .f32⟩
  | .hbm, ⟨7, _⟩ => ⟨S16400x8x128, .f32⟩
  | .hbm, ⟨8, _⟩ => ⟨S16400, .i32⟩
  | .hbm, ⟨9, _⟩ => ⟨S8x16400x16400, .f32⟩
  | .hbm, ⟨10, _⟩ => ⟨S16400x16400x8, .f32⟩
  | .hbm, ⟨11, _⟩ => ⟨S8x16400x16400, .f32⟩
  | .hbm, ⟨12, _⟩ => ⟨S8x16400x16400, .f32⟩
  | .hbm, ⟨13, _⟩ => ⟨S_, .f32⟩
  | .hbm, ⟨14, _⟩ => ⟨S_, .f32⟩
  | .hbm, ⟨15, _⟩ => ⟨S8x16400x16400, .f32⟩
  | .hbm, ⟨16, _⟩ => ⟨S8x16400x16400, .f32⟩
  | .hbm, ⟨17, _⟩ => ⟨S1x1x16400, .i32⟩
  | .hbm, ⟨18, _⟩ => ⟨S1x16400x1, .i32⟩
  | .hbm, ⟨19, _⟩ => ⟨S1x16400x16400, .i32⟩
  | .hbm, ⟨20, _⟩ => ⟨S1x16400x16400, .i32⟩
  | .hbm, ⟨21, _⟩ => ⟨S1x16400x16400, .i1⟩
  | .hbm, ⟨22, _⟩ => ⟨S_, .f32⟩
  | .hbm, ⟨23, _⟩ => ⟨S_, .f32⟩
  | .hbm, ⟨24, _⟩ => ⟨S8x16400x16400, .i1⟩
  | .hbm, ⟨25, _⟩ => ⟨S8x16400x16400, .f32⟩
  | .hbm, ⟨26, _⟩ => ⟨S8x16400x16400, .f32⟩
  | .hbm, ⟨27, _⟩ => ⟨S_, .f32⟩
  | .hbm, ⟨28, _⟩ => ⟨S8x16400x16400, .f32⟩
  | .hbm, ⟨29, _⟩ => ⟨S_, .f32⟩
  | .hbm, ⟨30, _⟩ => ⟨S8x16400, .f32⟩
  | .hbm, ⟨31, _⟩ => ⟨S8x16400x1, .f32⟩
  | .hbm, ⟨32, _⟩ => ⟨S8x16400x16400, .f32⟩
  | .hbm, ⟨33, _⟩ => ⟨S8x16400x16400, .i1⟩
  | .hbm, ⟨34, _⟩ => ⟨S8x16400x16400, .f32⟩
  | .hbm, ⟨35, _⟩ => ⟨S_, .f32⟩
  | .hbm, ⟨36, _⟩ => ⟨S8x16400, .f32⟩
  | .hbm, ⟨37, _⟩ => ⟨S_, .f32⟩
  | .hbm, ⟨38, _⟩ => ⟨S8x16400, .f32⟩
  | .hbm, ⟨39, _⟩ => ⟨S8x16400, .f32⟩
  | .hbm, ⟨40, _⟩ => ⟨S_, .f32⟩
  | .hbm, ⟨41, _⟩ => ⟨S8x16400, .f32⟩
  | .hbm, ⟨42, _⟩ => ⟨S8x16400, .i1⟩
  | .hbm, ⟨43, _⟩ => ⟨S_, .f32⟩
  | .hbm, ⟨44, _⟩ => ⟨S8x16400, .f32⟩
  | .hbm, ⟨45, _⟩ => ⟨S8x16400, .i1⟩
  | .hbm, ⟨46, _⟩ => ⟨S_, .f32⟩
  | .hbm, ⟨47, _⟩ => ⟨S8x16400, .f32⟩
  | .hbm, ⟨48, _⟩ => ⟨S_, .f32⟩
  | .hbm, ⟨49, _⟩ => ⟨S8x16400, .f32⟩
  | .hbm, ⟨50, _⟩ => ⟨S_, .f32⟩
  | .hbm, ⟨51, _⟩ => ⟨S8x16400, .f32⟩
  | .hbm, ⟨52, _⟩ => ⟨S8x16400, .f32⟩
  | .hbm, ⟨53, _⟩ => ⟨S8x16400, .f32⟩
  | .hbm, ⟨54, _⟩ => ⟨S8x16400x1, .f32⟩
  | .hbm, ⟨55, _⟩ => ⟨S8x16400x16400, .f32⟩
  | .hbm, ⟨56, _⟩ => ⟨S8x16400x16400, .f32⟩
  | .hbm, ⟨57, _⟩ => ⟨S8x16400x16400, .f32⟩
  | .hbm, ⟨58, _⟩ => ⟨S_, .f32⟩
  | .hbm, ⟨59, _⟩ => ⟨S8x16400, .f32⟩
  | .hbm, ⟨60, _⟩ => ⟨S8x16400x1, .f32⟩
  | .hbm, ⟨61, _⟩ => ⟨S8x16400x16400, .f32⟩
  | .hbm, ⟨62, _⟩ => ⟨S8x16400x16400, .f32⟩
  | .hbm, ⟨63, _⟩ => ⟨S8x16400x1, .f32⟩
  | .hbm, ⟨64, _⟩ => ⟨S_, .f32⟩
  | .hbm, ⟨65, _⟩ => ⟨S8x16400x1, .f32⟩
  | .hbm, ⟨66, _⟩ => ⟨S8x16400x1, .f32⟩
  | .hbm, ⟨67, _⟩ => ⟨S8x128x16400, .f32⟩
  | .hbm, ⟨68, _⟩ => ⟨S16400x8x128, .f32⟩
  | .hbm, ⟨69, _⟩ => ⟨S8x128x16400, .f32⟩
  | .hbm, ⟨70, _⟩ => ⟨S8x16400x16400, .f32⟩
  | .hbm, ⟨71, _⟩ => ⟨S8x128x16400, .f32⟩
  | .hbm, ⟨72, _⟩ => ⟨S16400x8x128, .f32⟩
  | .hbm, ⟨73, _⟩ => ⟨S8x16400x16400, .f32⟩
  | .hbm, ⟨74, _⟩ => ⟨S8x16400x16400, .f32⟩
  | .hbm, ⟨75, _⟩ => ⟨S8x16400x16400, .f32⟩
  | .hbm, ⟨76, _⟩ => ⟨S_, .f32⟩
  | .hbm, ⟨77, _⟩ => ⟨S8x16400, .f32⟩
  | .hbm, ⟨78, _⟩ => ⟨S8x16400x1, .f32⟩
  | .hbm, ⟨79, _⟩ => ⟨S8x16400x1, .f32⟩
  | .hbm, ⟨80, _⟩ => ⟨S8x16400x16400, .f32⟩
  | .hbm, ⟨81, _⟩ => ⟨S8x16400x16400, .f32⟩
  | .hbm, ⟨82, _⟩ => ⟨S_, .f32⟩
  | .hbm, ⟨83, _⟩ => ⟨S8x16400, .f32⟩
  | .hbm, ⟨84, _⟩ => ⟨S8x16400x16400, .f32⟩
  | .hbm, ⟨85, _⟩ => ⟨S8x16400x16400, .f32⟩
  | .hbm, ⟨86, _⟩ => ⟨S8x16400x16400, .f32⟩
  | .hbm, ⟨87, _⟩ => ⟨S_, .f32⟩
  | .hbm, ⟨88, _⟩ => ⟨S8x16400x16400, .f32⟩
  | .hbm, ⟨89, _⟩ => ⟨S8x16400x16400, .f32⟩
  | .hbm, ⟨90, _⟩ => ⟨S8x16400x16400, .f32⟩
  | .hbm, ⟨91, _⟩ => ⟨S8x16400x16400, .f32⟩
  | .hbm, ⟨92, _⟩ => ⟨S16400x16400x8, .f32⟩
  | .hbm, ⟨93, _⟩ => ⟨S16400x8x64, .f32⟩
  | .hbm, ⟨94, _⟩ => ⟨S16400x64, .f32⟩
  | .hbm, ⟨95, _⟩ => ⟨S8x16400x128, .f32⟩
  | .hbm, ⟨96, _⟩ => ⟨S16400x8x128, .f32⟩
  | .hbm, ⟨97, _⟩ => ⟨S8x16400x128, .f32⟩
  | .hbm, ⟨98, _⟩ => ⟨S16400x8x128, .f32⟩
  | _, _ => ⟨S16400x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_call0_v0 : Ref sig .tc := ⟨.hbm, 23, rfl⟩
abbrev main_v15_1 : Ref sig .tc := ⟨.hbm, 24, rfl⟩
abbrev main_call0_v2 : Ref sig .tc := ⟨.hbm, 25, rfl⟩
abbrev main_v15_0 : Ref sig .tc := ⟨.hbm, 26, rfl⟩
abbrev main_call0_cst : Ref sig .tc := ⟨.hbm, 27, rfl⟩
abbrev main_v15_2 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_v27 : Ref sig .tc := ⟨.hbm, 45, rfl⟩
abbrev main_cst_6 : Ref sig .tc := ⟨.hbm, 46, rfl⟩
abbrev main_v28 : Ref sig .tc := ⟨.hbm, 47, rfl⟩
abbrev main_cst_7 : Ref sig .tc := ⟨.hbm, 48, rfl⟩
abbrev main_v29 : Ref sig .tc := ⟨.hbm, 49, rfl⟩
abbrev main_cst_8 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_9 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_10 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_call1_cst : Ref sig .tc := ⟨.hbm, 87, rfl⟩
abbrev main_call1_v0 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩

abbrev nD : Nat := 1
abbrev τ : Topo := Topo.v7x

variable {F : FTy → Type} [FloatOps F]
-- ==== Kernel2.lean ====
abbrev S16400x4096 : Shape := ⟨2, ![16400, 4096]⟩
abbrev S16400x1024 : Shape := ⟨2, ![16400, 1024]⟩
abbrev S_ : Shape := ⟨0, ![]⟩
abbrev S16896x4096 : Shape := ⟨2, ![16896, 4096]⟩
abbrev S16896x1024 : Shape := ⟨2, ![16896, 1024]⟩
abbrev S4096x1024 : Shape := ⟨2, ![4096, 1024]⟩
abbrev S1536x1024 : Shape := ⟨2, ![1536, 1024]⟩
abbrev S1024x1024 : Shape := ⟨2, ![1024, 1024]⟩

abbrev nBuf : Space → Nat
  | .hbm => 11
  | .vmem => 6
  | .smem => 0
  | _ => 0

abbrev bufTy : (tb : Table) → Fin (tcTables nBuf tb) → BufTy
  | .hbm, ⟨0, _⟩ => ⟨S16400x4096, .f32⟩
  | .hbm, ⟨1, _⟩ => ⟨S16400x1024, .f32⟩
  | .hbm, ⟨2, _⟩ => ⟨S_, .i32⟩
  | .hbm, ⟨3, _⟩ => ⟨S_, .f32⟩
  | .hbm, ⟨4, _⟩ => ⟨S16896x4096, .f32⟩
  | .hbm, ⟨5, _⟩ => ⟨S16896x4096, .bf16⟩
  | .hbm, ⟨6, _⟩ => ⟨S_, .i32⟩
  | .hbm, ⟨7, _⟩ => ⟨S_, .f32⟩
  | .hbm, ⟨8, _⟩ => ⟨S16896x1024, .f32⟩
  | .hbm, ⟨9, _⟩ => ⟨S16896x1024, .bf16⟩
  | .hbm, ⟨10, _⟩ => ⟨S4096x1024, .f32⟩
  | .local _ .vmem, ⟨0, _⟩ => ⟨S1536x1024, .bf16⟩
  | .local _ .vmem, ⟨1, _⟩ => ⟨S1536x1024, .bf16⟩
  | .local _ .vmem, ⟨2, _⟩ => ⟨S1536x1024, .bf16⟩
  | .local _ .vmem, ⟨3, _⟩ => ⟨S1536x1024, .bf16⟩
  | .local _ .vmem, ⟨4, _⟩ => ⟨S1024x1024, .f32⟩
  | .local _ .vmem, ⟨5, _⟩ => ⟨S1024x1024, .f32⟩
  | _, _ => ⟨S16400x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_call1_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 11], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S16400x4096 : Shape := ⟨2, ![16400, 4096]⟩
abbrev S16400x1024 : Shape := ⟨2, ![16400, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 7
  | .vmem => 0
  | .smem => 0
  | _ => 0

abbrev bufTy : (tb : Table) → Fin (tcTables nBuf tb) → BufTy
  | .hbm, ⟨0, _⟩ => ⟨S16400x4096, .f32⟩
  | .hbm, ⟨1, _⟩ => ⟨S16400x1024, .f32⟩
  | .hbm, ⟨2, _⟩ => ⟨S_, .f32⟩
  | .hbm, ⟨3, _⟩ => ⟨S4096x1024, .f32⟩
  | .hbm, ⟨4, _⟩ => ⟨S16400x1024, .f32⟩
  | .hbm, ⟨5, _⟩ => ⟨S1024x4096, .f32⟩
  | .hbm, ⟨6, _⟩ => ⟨S4096x1024, .f32⟩
  | _, _ => ⟨S16400x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel3.lean ====
abbrev S16400x1024 : Shape := ⟨2, ![16400, 1024]⟩
abbrev S16400x4096 : Shape := ⟨2, ![16400, 4096]⟩
abbrev S_ : Shape := ⟨0, ![]⟩
abbrev S16896x1024 : Shape := ⟨2, ![16896, 1024]⟩
abbrev S16896x4096 : Shape := ⟨2, ![16896, 4096]⟩
abbrev S1024x4096 : Shape := ⟨2, ![1024, 4096]⟩
abbrev S1536x1024 : Shape := ⟨2, ![1536, 1024]⟩
abbrev S1024x1024 : Shape := ⟨2, ![1024, 1024]⟩

abbrev nBuf : Space → Nat
  | .hbm => 11
  | .vmem => 6
  | .smem => 0
  | _ => 0

abbrev bufTy : (tb : Table) → Fin (tcTables nBuf tb) → BufTy
  | .hbm, ⟨0, _⟩ => ⟨S16400x1024, .f32⟩
  | .hbm, ⟨1, _⟩ => ⟨S16400x4096, .f32⟩
  | .hbm, ⟨2, _⟩ => ⟨S_, .i32⟩
  | .hbm, ⟨3, _⟩ => ⟨S_, .f32⟩
  | .hbm, ⟨4, _⟩ => ⟨S16896x1024, .f32⟩
  | .hbm, ⟨5, _⟩ => ⟨S16896x1024, .bf16⟩
  | .hbm, ⟨6, _⟩ => ⟨S_, .i32⟩
  | .hbm, ⟨7, _⟩ => ⟨S_, .f32⟩
  | .hbm, ⟨8, _⟩ => ⟨S16896x4096, .f32⟩
  | .hbm, ⟨9, _⟩ => ⟨S16896x4096, .bf16⟩
  | .hbm, ⟨10, _⟩ => ⟨S1024x4096, .f32⟩
  | .local _ .vmem, ⟨0, _⟩ => ⟨S1536x1024, .bf16⟩
  | .local _ .vmem, ⟨1, _⟩ => ⟨S1536x1024, .bf16⟩
  | .local _ .vmem, ⟨2, _⟩ => ⟨S1536x1024, .bf16⟩
  | .local _ .vmem, ⟨3, _⟩ => ⟨S1536x1024, .bf16⟩
  | .local _ .vmem, ⟨4, _⟩ => ⟨S1024x1024, .f32⟩
  | .local _ .vmem, ⟨5, _⟩ => ⟨S1024x1024, .f32⟩
  | _, _ => ⟨S16400x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_call1_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 11], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S16400x1024 : Shape := ⟨2, ![16400, 1024]⟩
abbrev S16400x4096 : Shape := ⟨2, ![16400, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16400x1024, .f32⟩
  | .hbm, ⟨1, _⟩ => ⟨S16400x4096, .f32⟩
  | .hbm, ⟨2, _⟩ => ⟨S_, .f32⟩
  | .hbm, ⟨3, _⟩ => ⟨S1024x4096, .f32⟩
  | .hbm, ⟨4, _⟩ => ⟨S16400x4096, .f32⟩
  | .hbm, ⟨5, _⟩ => ⟨S4096x1024, .f32⟩
  | .hbm, ⟨6, _⟩ => ⟨S1024x4096, .f32⟩
  | _, _ => ⟨S16400x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel4.lean ====
abbrev S16896x4096 : Shape := ⟨2, ![16896, 4096]⟩
abbrev S4096x1024 : Shape := ⟨2, ![4096, 1024]⟩
abbrev S16896x1024 : Shape := ⟨2, ![16896, 1024]⟩
abbrev S_ : Shape := ⟨0, ![]⟩
abbrev S512x1024 : Shape := ⟨2, ![512, 1024]⟩
abbrev S512x4096 : Shape := ⟨2, ![512, 4096]⟩

abbrev nBuf : Space → Nat
  | .hbm => 11
  | .vmem => 7
  | .smem => 0
  | _ => 0

abbrev bufTy : (tb : Table) → Fin (tcTables nBuf tb) → BufTy
  | .hbm, ⟨0, _⟩ => ⟨S16896x4096, .f32⟩
  | .hbm, ⟨1, _⟩ => ⟨S4096x1024, .f32⟩
  | .hbm, ⟨2, _⟩ => ⟨S16896x1024, .f32⟩
  | .hbm, ⟨3, _⟩ => ⟨S_, .f32⟩
  | .hbm, ⟨4, _⟩ => ⟨S16896x4096, .f32⟩
  | .hbm, ⟨5, _⟩ => ⟨S16896x4096, .f32⟩
  | .hbm, ⟨6, _⟩ => ⟨S16896x4096, .f32⟩
  | .hbm, ⟨7, _⟩ => ⟨S16896x4096, .bf16⟩
  | .hbm, ⟨8, _⟩ => ⟨S16896x1024, .bf16⟩
  | .hbm, ⟨9, _⟩ => ⟨S4096x1024, .bf16⟩
  | .hbm, ⟨10, _⟩ => ⟨S16896x4096, .bf16⟩
  | .local _ .vmem, ⟨0, _⟩ => ⟨S512x1024, .bf16⟩
  | .local _ .vmem, ⟨1, _⟩ => ⟨S512x1024, .bf16⟩
  | .local _ .vmem, ⟨2, _⟩ => ⟨S4096x1024, .bf16⟩
  | .local _ .vmem, ⟨3, _⟩ => ⟨S512x4096, .bf16⟩
  | .local _ .vmem, ⟨4, _⟩ => ⟨S512x4096, .bf16⟩
  | .local _ .vmem, ⟨5, _⟩ => ⟨S512x4096, .bf16⟩
  | .local _ .vmem, ⟨6, _⟩ => ⟨S512x4096, .bf16⟩
  | _, _ => ⟨S16896x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 33], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S16896x4096 : Shape := ⟨2, ![16896, 4096]⟩
abbrev S4096x1024 : Shape := ⟨2, ![4096, 1024]⟩
abbrev S16896x1024 : Shape := ⟨2, ![16896, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S16896x4096, .f32⟩
  | .hbm, ⟨1, _⟩ => ⟨S4096x1024, .f32⟩
  | .hbm, ⟨2, _⟩ => ⟨S16896x1024, .f32⟩
  | .hbm, ⟨3, _⟩ => ⟨S_, .f32⟩
  | .hbm, ⟨4, _⟩ => ⟨S16896x4096, .f32⟩
  | .hbm, ⟨5, _⟩ => ⟨S16896x4096, .f32⟩
  | .hbm, ⟨6, _⟩ => ⟨S_, .f32⟩
  | .hbm, ⟨7, _⟩ => ⟨S16896x4096, .f32⟩
  | .hbm, ⟨8, _⟩ => ⟨S16896x4096, .i1⟩
  | .hbm, ⟨9, _⟩ => ⟨S_, .f32⟩
  | .hbm, ⟨10, _⟩ => ⟨S16896x4096, .f32⟩
  | .hbm, ⟨11, _⟩ => ⟨S16896x4096, .f32⟩
  | .hbm, ⟨12, _⟩ => ⟨S_, .f32⟩
  | .hbm, ⟨13, _⟩ => ⟨S16896x4096, .f32⟩
  | .hbm, ⟨14, _⟩ => ⟨S16896x4096, .f32⟩
  | .hbm, ⟨15, _⟩ => ⟨S16896x1024, .f32⟩
  | .hbm, ⟨16, _⟩ => ⟨S16896x4096, .f32⟩
  | .hbm, ⟨17, _⟩ => ⟨S16896x4096, .f32⟩
  | .hbm, ⟨18, _⟩ => ⟨S_, .f32⟩
  | .hbm, ⟨19, _⟩ => ⟨S16896x4096, .f32⟩
  | .hbm, ⟨20, _⟩ => ⟨S16896x4096, .f32⟩
  | .hbm, ⟨21, _⟩ => ⟨S16896x4096, .bf16⟩
  | _, _ => ⟨S16896x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== Kernel5.lean ====
abbrev S1024x4096 : Shape := ⟨2, ![1024, 4096]⟩
abbrev S16896x4096 : Shape := ⟨2, ![16896, 4096]⟩
abbrev S16896x1024 : Shape := ⟨2, ![16896, 1024]⟩
abbrev S768x4096 : Shape := ⟨2, ![768, 4096]⟩
abbrev S768x1024 : Shape := ⟨2, ![768, 1024]⟩

abbrev nBuf : Space → Nat
  | .hbm => 5
  | .vmem => 5
  | .smem => 0
  | _ => 0

abbrev bufTy : (tb : Table) → Fin (tcTables nBuf tb) → BufTy
  | .hbm, ⟨0, _⟩ => ⟨S1024x4096, .f32⟩
  | .hbm, ⟨1, _⟩ => ⟨S16896x4096, .f32⟩
  | .hbm, ⟨2, _⟩ => ⟨S16896x4096, .bf16⟩
  | .hbm, ⟨3, _⟩ => ⟨S1024x4096, .bf16⟩
  | .hbm, ⟨4, _⟩ => ⟨S16896x1024, .f32⟩
  | .local _ .vmem, ⟨0, _⟩ => ⟨S768x4096, .bf16⟩
  | .local _ .vmem, ⟨1, _⟩ => ⟨S768x4096, .bf16⟩
  | .local _ .vmem, ⟨2, _⟩ => ⟨S1024x4096, .bf16⟩
  | .local _ .vmem, ⟨3, _⟩ => ⟨S768x1024, .f32⟩
  | .local _ .vmem, ⟨4, _⟩ => ⟨S768x1024, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S768x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S1024x4096 : Shape := ⟨2, ![1024, 4096]⟩
abbrev S16896x4096 : Shape := ⟨2, ![16896, 4096]⟩
abbrev S_ : Shape := ⟨0, ![]⟩
abbrev S16896x1024 : Shape := ⟨2, ![16896, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S16896x4096, .f32⟩
  | .hbm, ⟨2, _⟩ => ⟨S_, .f32⟩
  | .hbm, ⟨3, _⟩ => ⟨S16896x1024, .f32⟩
  | .hbm, ⟨4, _⟩ => ⟨S16896x4096, .f32⟩
  | .hbm, ⟨5, _⟩ => ⟨S16896x1024, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel6.lean ====
abbrev S1024x820 : Shape := ⟨2, ![1024, 820]⟩
abbrev S256x820 : Shape := ⟨2, ![256, 820]⟩

abbrev nBuf : Space → Nat
  | .hbm => 7
  | .vmem => 14
  | .smem => 0
  | _ => 0

abbrev bufTy : (tb : Table) → Fin (tcTables nBuf tb) → BufTy
  | .hbm, ⟨0, _⟩ => ⟨S1024x820, .f32⟩
  | .hbm, ⟨1, _⟩ => ⟨S1024x820, .f32⟩
  | .hbm, ⟨2, _⟩ => ⟨S1024x820, .f32⟩
  | .hbm, ⟨3, _⟩ => ⟨S1024x820, .f32⟩
  | .hbm, ⟨4, _⟩ => ⟨S1024x820, .f32⟩
  | .hbm, ⟨5, _⟩ => ⟨S1024x820, .f32⟩
  | .hbm, ⟨6, _⟩ => ⟨S1024x820, .f32⟩
  | .local _ .vmem, ⟨0, _⟩ => ⟨S256x820, .f32⟩
  | .local _ .vmem, ⟨1, _⟩ => ⟨S256x820, .f32⟩
  | .local _ .vmem, ⟨2, _⟩ => ⟨S256x820, .f32⟩
  | .local _ .vmem, ⟨3, _⟩ => ⟨S256x820, .f32⟩
  | .local _ .vmem, ⟨4, _⟩ => ⟨S256x820, .f32⟩
  | .local _ .vmem, ⟨5, _⟩ => ⟨S256x820, .f32⟩
  | .local _ .vmem, ⟨6, _⟩ => ⟨S256x820, .f32⟩
  | .local _ .vmem, ⟨7, _⟩ => ⟨S256x820, .f32⟩
  | .local _ .vmem, ⟨8, _⟩ => ⟨S256x820, .f32⟩
  | .local _ .vmem, ⟨9, _⟩ => ⟨S256x820, .f32⟩
  | .local _ .vmem, ⟨10, _⟩ => ⟨S256x820, .f32⟩
  | .local _ .vmem, ⟨11, _⟩ => ⟨S256x820, .f32⟩
  | .local _ .vmem, ⟨12, _⟩ => ⟨S256x820, .f32⟩
  | .local _ .vmem, ⟨13, _⟩ => ⟨S256x820, .f32⟩
  | _, _ => ⟨S1024x820, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x820 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x820 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x820 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x820 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x820 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x820 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x820 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel6Ideal.lean ====
abbrev S1024x820 : Shape := ⟨2, ![1024, 820]⟩
abbrev S256x820 : Shape := ⟨2, ![256, 820]⟩

abbrev nBuf : Space → Nat
  | .hbm => 7
  | .vmem => 14
  | .smem => 0
  | _ => 0

abbrev bufTy : (tb : Table) → Fin (tcTables nBuf tb) → BufTy
  | .hbm, ⟨0, _⟩ => ⟨S1024x820, .f32⟩
  | .hbm, ⟨1, _⟩ => ⟨S1024x820, .f32⟩
  | .hbm, ⟨2, _⟩ => ⟨S1024x820, .f32⟩
  | .hbm, ⟨3, _⟩ => ⟨S1024x820, .f32⟩
  | .hbm, ⟨4, _⟩ => ⟨S1024x820, .f32⟩
  | .hbm, ⟨5, _⟩ => ⟨S1024x820, .f32⟩
  | .hbm, ⟨6, _⟩ => ⟨S1024x820, .f32⟩
  | .local _ .vmem, ⟨0, _⟩ => ⟨S256x820, .f32⟩
  | .local _ .vmem, ⟨1, _⟩ => ⟨S256x820, .f32⟩
  | .local _ .vmem, ⟨2, _⟩ => ⟨S256x820, .f32⟩
  | .local _ .vmem, ⟨3, _⟩ => ⟨S256x820, .f32⟩
  | .local _ .vmem, ⟨4, _⟩ => ⟨S256x820, .f32⟩
  | .local _ .vmem, ⟨5, _⟩ => ⟨S256x820, .f32⟩
  | .local _ .vmem, ⟨6, _⟩ => ⟨S256x820, .f32⟩
  | .local _ .vmem, ⟨7, _⟩ => ⟨S256x820, .f32⟩
  | .local _ .vmem, ⟨8, _⟩ => ⟨S256x820, .f32⟩
  | .local _ .vmem, ⟨9, _⟩ => ⟨S256x820, .f32⟩
  | .local _ .vmem, ⟨10, _⟩ => ⟨S256x820, .f32⟩
  | .local _ .vmem, ⟨11, _⟩ => ⟨S256x820, .f32⟩
  | .local _ .vmem, ⟨12, _⟩ => ⟨S256x820, .f32⟩
  | .local _ .vmem, ⟨13, _⟩ => ⟨S256x820, .f32⟩
  | _, _ => ⟨S1024x820, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x820 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x820 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x820 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x820 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x820 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x820 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x820 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S1024x820 : Shape := ⟨2, ![1024, 820]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x820, .f32⟩
  | .hbm, ⟨1, _⟩ => ⟨S1024x820, .f32⟩
  | .hbm, ⟨2, _⟩ => ⟨S1024x820, .f32⟩
  | .hbm, ⟨3, _⟩ => ⟨S1024x820, .f32⟩
  | .hbm, ⟨4, _⟩ => ⟨S_, .f32⟩
  | .hbm, ⟨5, _⟩ => ⟨S1024x820, .f32⟩
  | .hbm, ⟨6, _⟩ => ⟨S1024x820, .f32⟩
  | .hbm, ⟨7, _⟩ => ⟨S_, .f32⟩
  | .hbm, ⟨8, _⟩ => ⟨S1024x820, .f32⟩
  | .hbm, ⟨9, _⟩ => ⟨S1024x820, .f32⟩
  | .hbm, ⟨10, _⟩ => ⟨S1024x820, .f32⟩
  | .hbm, ⟨11, _⟩ => ⟨S_, .f32⟩
  | .hbm, ⟨12, _⟩ => ⟨S1024x820, .f32⟩
  | .hbm, ⟨13, _⟩ => ⟨S1024x820, .f32⟩
  | .hbm, ⟨14, _⟩ => ⟨S1024x820, .f32⟩
  | .hbm, ⟨15, _⟩ => ⟨S_, .f32⟩
  | .hbm, ⟨16, _⟩ => ⟨S1024x820, .f32⟩
  | .hbm, ⟨17, _⟩ => ⟨S1024x820, .f32⟩
  | .hbm, ⟨18, _⟩ => ⟨S1024x820, .f32⟩
  | .hbm, ⟨19, _⟩ => ⟨S_, .f32⟩
  | .hbm, ⟨20, _⟩ => ⟨S1024x820, .f32⟩
  | .hbm, ⟨21, _⟩ => ⟨S1024x820, .f32⟩
  | .hbm, ⟨22, _⟩ => ⟨S_, .f32⟩
  | .hbm, ⟨23, _⟩ => ⟨S1024x820, .f32⟩
  | .hbm, ⟨24, _⟩ => ⟨S1024x820, .f32⟩
  | .hbm, ⟨25, _⟩ => ⟨S1024x820, .f32⟩
  | .hbm, ⟨26, _⟩ => ⟨S_, .f32⟩
  | .hbm, ⟨27, _⟩ => ⟨S1024x820, .f32⟩
  | .hbm, ⟨28, _⟩ => ⟨S1024x820, .f32⟩
  | .hbm, ⟨29, _⟩ => ⟨S1024x820, .f32⟩
  | .hbm, ⟨30, _⟩ => ⟨S_, .f32⟩
  | .hbm, ⟨31, _⟩ => ⟨S1024x820, .f32⟩
  | .hbm, ⟨32, _⟩ => ⟨S1024x820, .f32⟩
  | .hbm, ⟨33, _⟩ => ⟨S1024x820, .f32⟩
  | .hbm, ⟨34, _⟩ => ⟨S_, .f32⟩
  | .hbm, ⟨35, _⟩ => ⟨S1024x820, .f32⟩
  | .hbm, ⟨36, _⟩ => ⟨S1024x820, .f32⟩
  | _, _ => ⟨S1024x820, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel7.lean ====
abbrev S384x384 : Shape := ⟨2, ![384, 384]⟩
abbrev S192x384 : Shape := ⟨2, ![192, 384]⟩

abbrev nBuf : Space → Nat
  | .hbm => 7
  | .vmem => 14
  | .smem => 0
  | _ => 0

abbrev bufTy : (tb : Table) → Fin (tcTables nBuf tb) → BufTy
  | .hbm, ⟨0, _⟩ => ⟨S384x384, .f32⟩
  | .hbm, ⟨1, _⟩ => ⟨S384x384, .f32⟩
  | .hbm, ⟨2, _⟩ => ⟨S384x384, .f32⟩
  | .hbm, ⟨3, _⟩ => ⟨S384x384, .f32⟩
  | .hbm, ⟨4, _⟩ => ⟨S384x384, .f32⟩
  | .hbm, ⟨5, _⟩ => ⟨S384x384, .f32⟩
  | .hbm, ⟨6, _⟩ => ⟨S384x384, .f32⟩
  | .local _ .vmem, ⟨0, _⟩ => ⟨S192x384, .f32⟩
  | .local _ .vmem, ⟨1, _⟩ => ⟨S192x384, .f32⟩
  | .local _ .vmem, ⟨2, _⟩ => ⟨S192x384, .f32⟩
  | .local _ .vmem, ⟨3, _⟩ => ⟨S192x384, .f32⟩
  | .local _ .vmem, ⟨4, _⟩ => ⟨S192x384, .f32⟩
  | .local _ .vmem, ⟨5, _⟩ => ⟨S192x384, .f32⟩
  | .local _ .vmem, ⟨6, _⟩ => ⟨S192x384, .f32⟩
  | .local _ .vmem, ⟨7, _⟩ => ⟨S192x384, .f32⟩
  | .local _ .vmem, ⟨8, _⟩ => ⟨S192x384, .f32⟩
  | .local _ .vmem, ⟨9, _⟩ => ⟨S192x384, .f32⟩
  | .local _ .vmem, ⟨10, _⟩ => ⟨S192x384, .f32⟩
  | .local _ .vmem, ⟨11, _⟩ => ⟨S192x384, .f32⟩
  | .local _ .vmem, ⟨12, _⟩ => ⟨S192x384, .f32⟩
  | .local _ .vmem, ⟨13, _⟩ => ⟨S192x384, .f32⟩
  | _, _ => ⟨S384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S192x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S192x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S192x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S192x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S192x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S192x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S192x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel7Ideal.lean ====
abbrev S384x384 : Shape := ⟨2, ![384, 384]⟩
abbrev S192x384 : Shape := ⟨2, ![192, 384]⟩

abbrev nBuf : Space → Nat
  | .hbm => 7
  | .vmem => 14
  | .smem => 0
  | _ => 0

abbrev bufTy : (tb : Table) → Fin (tcTables nBuf tb) → BufTy
  | .hbm, ⟨0, _⟩ => ⟨S384x384, .f32⟩
  | .hbm, ⟨1, _⟩ => ⟨S384x384, .f32⟩
  | .hbm, ⟨2, _⟩ => ⟨S384x384, .f32⟩
  | .hbm, ⟨3, _⟩ => ⟨S384x384, .f32⟩
  | .hbm, ⟨4, _⟩ => ⟨S384x384, .f32⟩
  | .hbm, ⟨5, _⟩ => ⟨S384x384, .f32⟩
  | .hbm, ⟨6, _⟩ => ⟨S384x384, .f32⟩
  | .local _ .vmem, ⟨0, _⟩ => ⟨S192x384, .f32⟩
  | .local _ .vmem, ⟨1, _⟩ => ⟨S192x384, .f32⟩
  | .local _ .vmem, ⟨2, _⟩ => ⟨S192x384, .f32⟩
  | .local _ .vmem, ⟨3, _⟩ => ⟨S192x384, .f32⟩
  | .local _ .vmem, ⟨4, _⟩ => ⟨S192x384, .f32⟩
  | .local _ .vmem, ⟨5, _⟩ => ⟨S192x384, .f32⟩
  | .local _ .vmem, ⟨6, _⟩ => ⟨S192x384, .f32⟩
  | .local _ .vmem, ⟨7, _⟩ => ⟨S192x384, .f32⟩
  | .local _ .vmem, ⟨8, _⟩ => ⟨S192x384, .f32⟩
  | .local _ .vmem, ⟨9, _⟩ => ⟨S192x384, .f32⟩
  | .local _ .vmem, ⟨10, _⟩ => ⟨S192x384, .f32⟩
  | .local _ .vmem, ⟨11, _⟩ => ⟨S192x384, .f32⟩
  | .local _ .vmem, ⟨12, _⟩ => ⟨S192x384, .f32⟩
  | .local _ .vmem, ⟨13, _⟩ => ⟨S192x384, .f32⟩
  | _, _ => ⟨S384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S192x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S192x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S192x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S192x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S192x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S192x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S192x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference7Ideal.lean ====
abbrev S384x384 : Shape := ⟨2, ![384, 384]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S384x384, .f32⟩
  | .hbm, ⟨1, _⟩ => ⟨S384x384, .f32⟩
  | .hbm, ⟨2, _⟩ => ⟨S384x384, .f32⟩
  | .hbm, ⟨3, _⟩ => ⟨S384x384, .f32⟩
  | .hbm, ⟨4, _⟩ => ⟨S_, .f32⟩
  | .hbm, ⟨5, _⟩ => ⟨S384x384, .f32⟩
  | .hbm, ⟨6, _⟩ => ⟨S384x384, .f32⟩
  | .hbm, ⟨7, _⟩ => ⟨S_, .f32⟩
  | .hbm, ⟨8, _⟩ => ⟨S384x384, .f32⟩
  | .hbm, ⟨9, _⟩ => ⟨S384x384, .f32⟩
  | .hbm, ⟨10, _⟩ => ⟨S384x384, .f32⟩
  | .hbm, ⟨11, _⟩ => ⟨S_, .f32⟩
  | .hbm, ⟨12, _⟩ => ⟨S384x384, .f32⟩
  | .hbm, ⟨13, _⟩ => ⟨S384x384, .f32⟩
  | .hbm, ⟨14, _⟩ => ⟨S384x384, .f32⟩
  | .hbm, ⟨15, _⟩ => ⟨S_, .f32⟩
  | .hbm, ⟨16, _⟩ => ⟨S384x384, .f32⟩
  | .hbm, ⟨17, _⟩ => ⟨S384x384, .f32⟩
  | .hbm, ⟨18, _⟩ => ⟨S384x384, .f32⟩
  | .hbm, ⟨19, _⟩ => ⟨S_, .f32⟩
  | .hbm, ⟨20, _⟩ => ⟨S384x384, .f32⟩
  | .hbm, ⟨21, _⟩ => ⟨S384x384, .f32⟩
  | .hbm, ⟨22, _⟩ => ⟨S_, .f32⟩
  | .hbm, ⟨23, _⟩ => ⟨S384x384, .f32⟩
  | .hbm, ⟨24, _⟩ => ⟨S384x384, .f32⟩
  | .hbm, ⟨25, _⟩ => ⟨S384x384, .f32⟩
  | .hbm, ⟨26, _⟩ => ⟨S_, .f32⟩
  | .hbm, ⟨27, _⟩ => ⟨S384x384, .f32⟩
  | .hbm, ⟨28, _⟩ => ⟨S384x384, .f32⟩
  | .hbm, ⟨29, _⟩ => ⟨S384x384, .f32⟩
  | .hbm, ⟨30, _⟩ => ⟨S_, .f32⟩
  | .hbm, ⟨31, _⟩ => ⟨S384x384, .f32⟩
  | .hbm, ⟨32, _⟩ => ⟨S384x384, .f32⟩
  | .hbm, ⟨33, _⟩ => ⟨S384x384, .f32⟩
  | .hbm, ⟨34, _⟩ => ⟨S_, .f32⟩
  | .hbm, ⟨35, _⟩ => ⟨S384x384, .f32⟩
  | .hbm, ⟨36, _⟩ => ⟨S384x384, .f32⟩
  | _, _ => ⟨S384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel8.lean ====
abbrev S256x512 : Shape := ⟨2, ![256, 512]⟩

abbrev nBuf : Space → Nat
  | .hbm => 7
  | .vmem => 7
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S256x512, .f32⟩
  | .hbm, ⟨5, _⟩ => ⟨S256x512, .f32⟩
  | .hbm, ⟨6, _⟩ => ⟨S256x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel8Ideal.lean ====
abbrev S256x512 : Shape := ⟨2, ![256, 512]⟩

abbrev nBuf : Space → Nat
  | .hbm => 7
  | .vmem => 7
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S256x512, .f32⟩
  | .hbm, ⟨5, _⟩ => ⟨S256x512, .f32⟩
  | .hbm, ⟨6, _⟩ => ⟨S256x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference8Ideal.lean ====
abbrev S256x512 : Shape := ⟨2, ![256, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S_, .f32⟩
  | .hbm, ⟨5, _⟩ => ⟨S256x512, .f32⟩
  | .hbm, ⟨6, _⟩ => ⟨S256x512, .f32⟩
  | .hbm, ⟨7, _⟩ => ⟨S_, .f32⟩
  | .hbm, ⟨8, _⟩ => ⟨S256x512, .f32⟩
  | .hbm, ⟨9, _⟩ => ⟨S256x512, .f32⟩
  | .hbm, ⟨10, _⟩ => ⟨S256x512, .f32⟩
  | .hbm, ⟨11, _⟩ => ⟨S_, .f32⟩
  | .hbm, ⟨12, _⟩ => ⟨S256x512, .f32⟩
  | .hbm, ⟨13, _⟩ => ⟨S256x512, .f32⟩
  | .hbm, ⟨14, _⟩ => ⟨S256x512, .f32⟩
  | .hbm, ⟨15, _⟩ => ⟨S_, .f32⟩
  | .hbm, ⟨16, _⟩ => ⟨S256x512, .f32⟩
  | .hbm, ⟨17, _⟩ => ⟨S256x512, .f32⟩
  | .hbm, ⟨18, _⟩ => ⟨S256x512, .f32⟩
  | .hbm, ⟨19, _⟩ => ⟨S_, .f32⟩
  | .hbm, ⟨20, _⟩ => ⟨S256x512, .f32⟩
  | .hbm, ⟨21, _⟩ => ⟨S256x512, .f32⟩
  | .hbm, ⟨22, _⟩ => ⟨S_, .f32⟩
  | .hbm, ⟨23, _⟩ => ⟨S256x512, .f32⟩
  | .hbm, ⟨24, _⟩ => ⟨S256x512, .f32⟩
  | .hbm, ⟨25, _⟩ => ⟨S256x512, .f32⟩
  | .hbm, ⟨26, _⟩ => ⟨S_, .f32⟩
  | .hbm, ⟨27, _⟩ => ⟨S256x512, .f32⟩
  | .hbm, ⟨28, _⟩ => ⟨S256x512, .f32⟩
  | .hbm, ⟨29, _⟩ => ⟨S256x512, .f32⟩
  | .hbm, ⟨30, _⟩ => ⟨S_, .f32⟩
  | .hbm, ⟨31, _⟩ => ⟨S256x512, .f32⟩
  | .hbm, ⟨32, _⟩ => ⟨S256x512, .f32⟩
  | .hbm, ⟨33, _⟩ => ⟨S256x512, .f32⟩
  | .hbm, ⟨34, _⟩ => ⟨S_, .f32⟩
  | .hbm, ⟨35, _⟩ => ⟨S256x512, .f32⟩
  | .hbm, ⟨36, _⟩ => ⟨S256x512, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel9.lean ====
abbrev S512x1024 : Shape := ⟨2, ![512, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel9Ideal.lean ====
abbrev S512x1024 : Shape := ⟨2, ![512, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference9Ideal.lean ====
abbrev S512x1024 : Shape := ⟨2, ![512, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512x1024, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S_, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel10.lean ====
abbrev S1024x1024 : Shape := ⟨2, ![1024, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference10Ideal.lean ====
abbrev S1024x1024 : Shape := ⟨2, ![1024, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S_, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S_, .f32⟩
  | .hbm, ⟨35, _⟩ => ⟨S1024x1024, .f32⟩
  | .hbm, ⟨36, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel11.lean ====
abbrev S16x256 : Shape := ⟨2, ![16, 256]⟩
abbrev S4x384 : Shape := ⟨2, ![4, 384]⟩
abbrev S1x1024 : Shape := ⟨2, ![1, 1024]⟩
abbrev S1x384 : Shape := ⟨2, ![1, 384]⟩
abbrev S1x256 : Shape := ⟨2, ![1, 256]⟩
abbrev S1x1536 : Shape := ⟨2, ![1, 1536]⟩
abbrev S1x16 : Shape := ⟨2, ![1, 16]⟩
abbrev S_ : Shape := ⟨0, ![]⟩
abbrev S16x1024 : Shape := ⟨2, ![16, 1024]⟩
abbrev S8x1024 : Shape := ⟨2, ![8, 1024]⟩
abbrev S1x2048 : Shape := ⟨2, ![1, 2048]⟩
abbrev S2x1024 : Shape := ⟨2, ![2, 1024]⟩
abbrev S112x1024 : Shape := ⟨2, ![112, 1024]⟩
abbrev S4x1024 : Shape := ⟨2, ![4, 1024]⟩

abbrev nBuf : Space → Nat
  | .hbm => 297
  | .vmem => 7
  | .smem => 0
  | _ => 0

abbrev hbmTy0_0 (i : Nat) : BufTy := match i % 128 with
  | 0 => ⟨S16x256, .f32⟩
  | 1 => ⟨S4x384, .f32⟩
  | 2 => ⟨S1x1024, .f32⟩
  | 3 => ⟨S1x384, .f32⟩
  | 4 => ⟨S1x256, .f32⟩
  | 5 => ⟨S1x1536, .f32⟩
  | 6 => ⟨S1x16, .f32⟩
  | 7 => ⟨S1x16, .f32⟩
  | 8 => ⟨S1x16, .f32⟩
  | 9 => ⟨S1x1024, .f32⟩
  | 10 => ⟨S1x1024, .f32⟩
  | 11 => ⟨S1x1024, .f32⟩
  | 12 => ⟨S1x1024, .f32⟩
  | 13 => ⟨S16x256, .f32⟩
  | 14 => ⟨S4x384, .f32⟩
  | 15 => ⟨S1x1024, .f32⟩
  | 16 => ⟨S1x384, .f32⟩
  | 17 => ⟨S1x256, .f32⟩
  | 18 => ⟨S1x1536, .f32⟩
  | 19 => ⟨S1x16, .f32⟩
  | 20 => ⟨S1x16, .f32⟩
  | 21 => ⟨S1x16, .f32⟩
  | 22 => ⟨S1x1024, .f32⟩
  | 23 => ⟨S1x1024, .f32⟩
  | 24 => ⟨S1x1024, .f32⟩
  | 25 => ⟨S1x1024, .f32⟩
  | 26 => ⟨S16x256, .f32⟩
  | 27 => ⟨S4x384, .f32⟩
  | 28 => ⟨S1x1024, .f32⟩
  | 29 => ⟨S1x384, .f32⟩
  | 30 => ⟨S1x256, .f32⟩
  | 31 => ⟨S1x1536, .f32⟩
  | 32 => ⟨S1x16, .f32⟩
  | 33 => ⟨S1x16, .f32⟩
  | 34 => ⟨S1x16, .f32⟩
  | 35 => ⟨S1x1024, .f32⟩
  | 36 => ⟨S1x1024, .f32⟩
  | 37 => ⟨S1x1024, .f32⟩
  | 38 => ⟨S1x1024, .f32⟩
  | 39 => ⟨S16x256, .f32⟩
  | 40 => ⟨S4x384, .f32⟩
  | 41 => ⟨S1x1024, .f32⟩
  | 42 => ⟨S1x384, .f32⟩
  | 43 => ⟨S1x256, .f32⟩
  | 44 => ⟨S1x1536, .f32⟩
  | 45 => ⟨S1x16, .f32⟩
  | 46 => ⟨S1x16, .f32⟩
  | 47 => ⟨S1x16, .f32⟩
  | 48 => ⟨S1x1024, .f32⟩
  | 49 => ⟨S1x1024, .f32⟩
  | 50 => ⟨S1x1024, .f32⟩
  | 51 => ⟨S1x1024, .f32⟩
  | 52 => ⟨S_, .i32⟩
  | 53 => ⟨S_, .f32⟩
  | 54 => ⟨S16x1024, .f32⟩
  | 55 => ⟨S_, .i32⟩
  | 56 => ⟨S_, .f32⟩
  | 57 => ⟨S8x1024, .f32⟩
  | 58 => ⟨S_, .i32⟩
  | 59 => ⟨S_, .f32⟩
  | 60 => ⟨S8x1024, .f32⟩
  | 61 => ⟨S_, .i32⟩
  | 62 => ⟨S_, .f32⟩
  | 63 => ⟨S8x1024, .f32⟩
  | 64 => ⟨S_, .i32⟩
  | 65 => ⟨S_, .f32⟩
  | 66 => ⟨S8x1024, .f32⟩
  | 67 => ⟨S_, .i32⟩
  | 68 => ⟨S_, .f32⟩
  | 69 => ⟨S1x2048, .f32⟩
  | 70 => ⟨S2x1024, .f32⟩
  | 71 => ⟨S_, .i32⟩
  | 72 => ⟨S_, .f32⟩
  | 73 => ⟨S8x1024, .f32⟩
  | 74 => ⟨S_, .i32⟩
  | 75 => ⟨S_, .f32⟩
  | 76 => ⟨S8x1024, .f32⟩
  | 77 => ⟨S_, .i32⟩
  | 78 => ⟨S_, .f32⟩
  | 79 => ⟨S8x1024, .f32⟩
  | 80 => ⟨S_, .i32⟩
  | 81 => ⟨S_, .f32⟩
  | 82 => ⟨S8x1024, .f32⟩
  | 83 => ⟨S_, .i32⟩
  | 84 => ⟨S_, .f32⟩
  | 85 => ⟨S8x1024, .f32⟩
  | 86 => ⟨S_, .i32⟩
  | 87 => ⟨S_, .f32⟩
  | 88 => ⟨S8x1024, .f32⟩
  | 89 => ⟨S_, .i32⟩
  | 90 => ⟨S_, .f32⟩
  | 91 => ⟨S8x1024, .f32⟩
  | 92 => ⟨S_, .i32⟩
  | 93 => ⟨S_, .f32⟩
  | 94 => ⟨S8x1024, .f32⟩
  | 95 => ⟨S112x1024, .f32⟩
  | 96 => ⟨S_, .i32⟩
  | 97 => ⟨S_, .f32⟩
  | 98 => ⟨S16x1024, .f32⟩
  | 99 => ⟨S_, .i32⟩
  | 100 => ⟨S_, .f32⟩
  | 101 => ⟨S8x1024, .f32⟩
  | 102 => ⟨S_, .i32⟩
  | 103 => ⟨S_, .f32⟩
  | 104 => ⟨S8x1024, .f32⟩
  | 105 => ⟨S_, .i32⟩
  | 106 => ⟨S_, .f32⟩
  | 107 => ⟨S8x1024, .f32⟩
  | 108 => ⟨S_, .i32⟩
  | 109 => ⟨S_, .f32⟩
  | 110 => ⟨S8x1024, .f32⟩
  | 111 => ⟨S_, .i32⟩
  | 112 => ⟨S_, .f32⟩
  | 113 => ⟨S1x2048, .f32⟩
  | 114 => ⟨S2x1024, .f32⟩
  | 115 => ⟨S_, .i32⟩
  | 116 => ⟨S_, .f32⟩
  | 117 => ⟨S8x1024, .f32⟩
  | 118 => ⟨S_, .i32⟩
  | 119 => ⟨S_, .f32⟩
  | 120 => ⟨S8x1024, .f32⟩
  | 121 => ⟨S_, .i32⟩
  | 122 => ⟨S_, .f32⟩
  | 123 => ⟨S8x1024, .f32⟩
  | 124 => ⟨S_, .i32⟩
  | 125 => ⟨S_, .f32⟩
  | 126 => ⟨S8x1024, .f32⟩
  | 127 => ⟨S_, .i32⟩
  | _ => ⟨S16x256, .f32⟩

abbrev hbmTy0_1 (i : Nat) : BufTy := match i % 128 with
  | 0 => ⟨S_, .f32⟩
  | 1 => ⟨S8x1024, .f32⟩
  | 2 => ⟨S_, .i32⟩
  | 3 => ⟨S_, .f32⟩
  | 4 => ⟨S8x1024, .f32⟩
  | 5 => ⟨S_, .i32⟩
  | 6 => ⟨S_, .f32⟩
  | 7 => ⟨S8x1024, .f32⟩
  | 8 => ⟨S_, .i32⟩
  | 9 => ⟨S_, .f32⟩
  | 10 => ⟨S8x1024, .f32⟩
  | 11 => ⟨S112x1024, .f32⟩
  | 12 => ⟨S_, .i32⟩
  | 13 => ⟨S_, .f32⟩
  | 14 => ⟨S16x1024, .f32⟩
  | 15 => ⟨S_, .i32⟩
  | 16 => ⟨S_, .f32⟩
  | 17 => ⟨S8x1024, .f32⟩
  | 18 => ⟨S_, .i32⟩
  | 19 => ⟨S_, .f32⟩
  | 20 => ⟨S8x1024, .f32⟩
  | 21 => ⟨S_, .i32⟩
  | 22 => ⟨S_, .f32⟩
  | 23 => ⟨S8x1024, .f32⟩
  | 24 => ⟨S_, .i32⟩
  | 25 => ⟨S_, .f32⟩
  | 26 => ⟨S8x1024, .f32⟩
  | 27 => ⟨S_, .i32⟩
  | 28 => ⟨S_, .f32⟩
  | 29 => ⟨S1x2048, .f32⟩
  | 30 => ⟨S2x1024, .f32⟩
  | 31 => ⟨S_, .i32⟩
  | 32 => ⟨S_, .f32⟩
  | 33 => ⟨S8x1024, .f32⟩
  | 34 => ⟨S_, .i32⟩
  | 35 => ⟨S_, .f32⟩
  | 36 => ⟨S8x1024, .f32⟩
  | 37 => ⟨S_, .i32⟩
  | 38 => ⟨S_, .f32⟩
  | 39 => ⟨S8x1024, .f32⟩
  | 40 => ⟨S_, .i32⟩
  | 41 => ⟨S_, .f32⟩
  | 42 => ⟨S8x1024, .f32⟩
  | 43 => ⟨S_, .i32⟩
  | 44 => ⟨S_, .f32⟩
  | 45 => ⟨S8x1024, .f32⟩
  | 46 => ⟨S_, .i32⟩
  | 47 => ⟨S_, .f32⟩
  | 48 => ⟨S8x1024, .f32⟩
  | 49 => ⟨S_, .i32⟩
  | 50 => ⟨S_, .f32⟩
  | 51 => ⟨S8x1024, .f32⟩
  | 52 => ⟨S_, .i32⟩
  | 53 => ⟨S_, .f32⟩
  | 54 => ⟨S8x1024, .f32⟩
  | 55 => ⟨S112x1024, .f32⟩
  | 56 => ⟨S_, .i32⟩
  | 57 => ⟨S_, .f32⟩
  | 58 => ⟨S16x1024, .f32⟩
  | 59 => ⟨S_, .i32⟩
  | 60 => ⟨S_, .f32⟩
  | 61 => ⟨S8x1024, .f32⟩
  | 62 => ⟨S_, .i32⟩
  | 63 => ⟨S_, .f32⟩
  | 64 => ⟨S8x1024, .f32⟩
  | 65 => ⟨S_, .i32⟩
  | 66 => ⟨S_, .f32⟩
  | 67 => ⟨S8x1024, .f32⟩
  | 68 => ⟨S_, .i32⟩
  | 69 => ⟨S_, .f32⟩
  | 70 => ⟨S8x1024, .f32⟩
  | 71 => ⟨S_, .i32⟩
  | 72 => ⟨S_, .f32⟩
  | 73 => ⟨S1x2048, .f32⟩
  | 74 => ⟨S2x1024, .f32⟩
  | 75 => ⟨S_, .i32⟩
  | 76 => ⟨S_, .f32⟩
  | 77 => ⟨S8x1024, .f32⟩
  | 78 => ⟨S_, .i32⟩
  | 79 => ⟨S_, .f32⟩
  | 80 => ⟨S8x1024, .f32⟩
  | 81 => ⟨S_, .i32⟩
  | 82 => ⟨S_, .f32⟩
  | 83 => ⟨S8x1024, .f32⟩
  | 84 => ⟨S_, .i32⟩
  | 85 => ⟨S_, .f32⟩
  | 86 => ⟨S8x1024, .f32⟩
  | 87 => ⟨S_, .i32⟩
  | 88 => ⟨S_, .f32⟩
  | 89 => ⟨S8x1024, .f32⟩
  | 90 => ⟨S_, .i32⟩
  | 91 => ⟨S_, .f32⟩
  | 92 => ⟨S8x1024, .f32⟩
  | 93 => ⟨S_, .i32⟩
  | 94 => ⟨S_, .f32⟩
  | 95 => ⟨S8x1024, .f32⟩
  | 96 => ⟨S_, .i32⟩
  | 97 => ⟨S_, .f32⟩
  | 98 => ⟨S8x1024, .f32⟩
  | 99 => ⟨S112x1024, .f32⟩
  | 100 => ⟨S112x1024, .f32⟩
  | 101 => ⟨S112x1024, .f32⟩
  | 102 => ⟨S112x1024, .f32⟩
  | 103 => ⟨S16x1024, .f32⟩
  | 104 => ⟨S16x256, .f32⟩
  | 105 => ⟨S4x1024, .f32⟩
  | 106 => ⟨S4x384, .f32⟩
  | 107 => ⟨S1x1024, .f32⟩
  | 108 => ⟨S1x1024, .f32⟩
  | 109 => ⟨S1x384, .f32⟩
  | 110 => ⟨S1x1024, .f32⟩
  | 111 => ⟨S1x256, .f32⟩
  | 112 => ⟨S2x1024, .f32⟩
  | 113 => ⟨S1x2048, .f32⟩
  | 114 => ⟨S1x1536, .f32⟩
  | 115 => ⟨S1x1024, .f32⟩
  | 116 => ⟨S1x16, .f32⟩
  | 117 => ⟨S1x1024, .f32⟩
  | 118 => ⟨S1x16, .f32⟩
  | 119 => ⟨S1x1024, .f32⟩
  | 120 => ⟨S1x16, .f32⟩
  | 121 => ⟨S1x1024, .f32⟩
  | 122 => ⟨S1x1024, .f32⟩
  | 123 => ⟨S1x1024, .f32⟩
  | 124 => ⟨S1x1024, .f32⟩
  | 125 => ⟨S16x1024, .f32⟩
  | 126 => ⟨S16x256, .f32⟩
  | 127 => ⟨S4x1024, .f32⟩
  | _ => ⟨S16x256, .f32⟩

abbrev hbmTy0_2 (i : Nat) : BufTy := match i % 128 with
  | 0 => ⟨S4x384, .f32⟩
  | 1 => ⟨S1x1024, .f32⟩
  | 2 => ⟨S1x1024, .f32⟩
  | 3 => ⟨S1x384, .f32⟩
  | 4 => ⟨S1x1024, .f32⟩
  | 5 => ⟨S1x256, .f32⟩
  | 6 => ⟨S2x1024, .f32⟩
  | 7 => ⟨S1x2048, .f32⟩
  | 8 => ⟨S1x1536, .f32⟩
  | 9 => ⟨S1x1024, .f32⟩
  | 10 => ⟨S1x16, .f32⟩
  | 11 => ⟨S1x1024, .f32⟩
  | 12 => ⟨S1x16, .f32⟩
  | 13 => ⟨S1x1024, .f32⟩
  | 14 => ⟨S1x16, .f32⟩
  | 15 => ⟨S1x1024, .f32⟩
  | 16 => ⟨S1x1024, .f32⟩
  | 17 => ⟨S1x1024, .f32⟩
  | 18 => ⟨S1x1024, .f32⟩
  | 19 => ⟨S16x1024, .f32⟩
  | 20 => ⟨S16x256, .f32⟩
  | 21 => ⟨S4x1024, .f32⟩
  | 22 => ⟨S4x384, .f32⟩
  | 23 => ⟨S1x1024, .f32⟩
  | 24 => ⟨S1x1024, .f32⟩
  | 25 => ⟨S1x384, .f32⟩
  | 26 => ⟨S1x1024, .f32⟩
  | 27 => ⟨S1x256, .f32⟩
  | 28 => ⟨S2x1024, .f32⟩
  | 29 => ⟨S1x2048, .f32⟩
  | 30 => ⟨S1x1536, .f32⟩
  | 31 => ⟨S1x1024, .f32⟩
  | 32 => ⟨S1x16, .f32⟩
  | 33 => ⟨S1x1024, .f32⟩
  | 34 => ⟨S1x16, .f32⟩
  | 35 => ⟨S1x1024, .f32⟩
  | 36 => ⟨S1x16, .f32⟩
  | 37 => ⟨S1x1024, .f32⟩
  | 38 => ⟨S1x1024, .f32⟩
  | 39 => ⟨S1x1024, .f32⟩
  | 40 => ⟨S1x1024, .f32⟩
  | _ => ⟨S16x256, .f32⟩

abbrev hbmTy (i : Nat) : BufTy := match i / 128 with
  | 0 => hbmTy0_0 i
  | 1 => hbmTy0_1 i
  | 2 => hbmTy0_2 i
  | _ => ⟨S16x256, .f32⟩

abbrev bufTy : (tb : Table) → Fin (tcTables nBuf tb) → BufTy
  | .hbm, ⟨i, _⟩ => hbmTy i
  | .local _ .vmem, ⟨0, _⟩ => ⟨S112x1024, .f32⟩
  | .local _ .vmem, ⟨1, _⟩ => ⟨S112x1024, .f32⟩
  | .local _ .vmem, ⟨2, _⟩ => ⟨S112x1024, .f32⟩
  | .local _ .vmem, ⟨3, _⟩ => ⟨S112x1024, .f32⟩
  | .local _ .vmem, ⟨4, _⟩ => ⟨S112x1024, .f32⟩
  | .local _ .vmem, ⟨5, _⟩ => ⟨S112x1024, .f32⟩
  | .local _ .vmem, ⟨6, _⟩ => ⟨S112x1024, .f32⟩
  | _, _ => ⟨S16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_c : Ref sig .tc := ⟨.hbm, 52, rfl⟩
abbrev main_call0_v0 : Ref sig .tc := ⟨.hbm, 53, rfl⟩
abbrev main_v0 : Ref sig .tc := ⟨.hbm, 54, rfl⟩
abbrev main_c_0 : Ref sig .tc := ⟨.hbm, 55, rfl⟩
abbrev main_call1_v0 : Ref sig .tc := ⟨.hbm, 56, rfl⟩
abbrev main_v1 : Ref sig .tc := ⟨.hbm, 57, rfl⟩
abbrev main_c_1 : Ref sig .tc := ⟨.hbm, 58, rfl⟩
abbrev main_call2_v0 : Ref sig .tc := ⟨.hbm, 59, rfl⟩
abbrev main_v2 : Ref sig .tc := ⟨.hbm, 60, rfl⟩
abbrev main_c_2 : Ref sig .tc := ⟨.hbm, 61, rfl⟩
abbrev main_call3_v0 : Ref sig .tc := ⟨.hbm, 62, rfl⟩
abbrev main_v3 : Ref sig .tc := ⟨.hbm, 63, rfl⟩
abbrev main_c_3 : Ref sig .tc := ⟨.hbm, 64, rfl⟩
abbrev main_call4_v0 : Ref sig .tc := ⟨.hbm, 65, rfl⟩
abbrev main_v4 : Ref sig .tc := ⟨.hbm, 66, rfl⟩
abbrev main_c_4 : Ref sig .tc := ⟨.hbm, 67, rfl⟩
abbrev main_call5_v0 : Ref sig .tc := ⟨.hbm, 68, rfl⟩
abbrev main_v5 : Ref sig .tc := ⟨.hbm, 69, rfl⟩
abbrev main_v6 : Ref sig .tc := ⟨.hbm, 70, rfl⟩
abbrev main_c_5 : Ref sig .tc := ⟨.hbm, 71, rfl⟩
abbrev main_call6_v0 : Ref sig .tc := ⟨.hbm, 72, rfl⟩
abbrev main_v7 : Ref sig .tc := ⟨.hbm, 73, rfl⟩
abbrev main_c_6 : Ref sig .tc := ⟨.hbm, 74, rfl⟩
abbrev main_call7_v0 : Ref sig .tc := ⟨.hbm, 75, rfl⟩
abbrev main_v8 : Ref sig .tc := ⟨.hbm, 76, rfl⟩
abbrev main_c_7 : Ref sig .tc := ⟨.hbm, 77, rfl⟩
abbrev main_call8_v0 : Ref sig .tc := ⟨.hbm, 78, rfl⟩
abbrev main_v9 : Ref sig .tc := ⟨.hbm, 79, rfl⟩
abbrev main_c_8 : Ref sig .tc := ⟨.hbm, 80, rfl⟩
abbrev main_call9_v0 : Ref sig .tc := ⟨.hbm, 81, rfl⟩
abbrev main_v10 : Ref sig .tc := ⟨.hbm, 82, rfl⟩
abbrev main_c_9 : Ref sig .tc := ⟨.hbm, 83, rfl⟩
abbrev main_call10_v0 : Ref sig .tc := ⟨.hbm, 84, rfl⟩
abbrev main_v11 : Ref sig .tc := ⟨.hbm, 85, rfl⟩
abbrev main_c_10 : Ref sig .tc := ⟨.hbm, 86, rfl⟩
abbrev main_call11_v0 : Ref sig .tc := ⟨.hbm, 87, rfl⟩
abbrev main_v12 : Ref sig .tc := ⟨.hbm, 88, rfl⟩
abbrev main_c_11 : Ref sig .tc := ⟨.hbm, 89, rfl⟩
abbrev main_call12_v0 : Ref sig .tc := ⟨.hbm, 90, rfl⟩
abbrev main_v13 : Ref sig .tc := ⟨.hbm, 91, rfl⟩
abbrev main_c_12 : Ref sig .tc := ⟨.hbm, 92, rfl⟩
abbrev main_call13_v0 : Ref sig .tc := ⟨.hbm, 93, rfl⟩
abbrev main_v14 : Ref sig .tc := ⟨.hbm, 94, rfl⟩
abbrev main_v15 : Ref sig .tc := ⟨.hbm, 95, rfl⟩
abbrev main_c_13 : Ref sig .tc := ⟨.hbm, 96, rfl⟩
abbrev main_call14_v0 : Ref sig .tc := ⟨.hbm, 97, rfl⟩
abbrev main_v16 : Ref sig .tc := ⟨.hbm, 98, rfl⟩
abbrev main_c_14 : Ref sig .tc := ⟨.hbm, 99, rfl⟩
abbrev main_call15_v0 : Ref sig .tc := ⟨.hbm, 100, rfl⟩
abbrev main_v17 : Ref sig .tc := ⟨.hbm, 101, rfl⟩
abbrev main_c_15 : Ref sig .tc := ⟨.hbm, 102, rfl⟩
abbrev main_call16_v0 : Ref sig .tc := ⟨.hbm, 103, rfl⟩
abbrev main_v18 : Ref sig .tc := ⟨.hbm, 104, rfl⟩
abbrev main_c_16 : Ref sig .tc := ⟨.hbm, 105, rfl⟩
abbrev main_call17_v0 : Ref sig .tc := ⟨.hbm, 106, rfl⟩
abbrev main_v19 : Ref sig .tc := ⟨.hbm, 107, rfl⟩
abbrev main_c_17 : Ref sig .tc := ⟨.hbm, 108, rfl⟩
abbrev main_call18_v0 : Ref sig .tc := ⟨.hbm, 109, rfl⟩
abbrev main_v20 : Ref sig .tc := ⟨.hbm, 110, rfl⟩
abbrev main_c_18 : Ref sig .tc := ⟨.hbm, 111, rfl⟩
abbrev main_call19_v0 : Ref sig .tc := ⟨.hbm, 112, rfl⟩
abbrev main_v21 : Ref sig .tc := ⟨.hbm, 113, rfl⟩
abbrev main_v22 : Ref sig .tc := ⟨.hbm, 114, rfl⟩
abbrev main_c_19 : Ref sig .tc := ⟨.hbm, 115, rfl⟩
abbrev main_call20_v0 : Ref sig .tc := ⟨.hbm, 116, rfl⟩
abbrev main_v23 : Ref sig .tc := ⟨.hbm, 117, rfl⟩
abbrev main_c_20 : Ref sig .tc := ⟨.hbm, 118, rfl⟩
abbrev main_call21_v0 : Ref sig .tc := ⟨.hbm, 119, rfl⟩
abbrev main_v24 : Ref sig .tc := ⟨.hbm, 120, rfl⟩
abbrev main_c_21 : Ref sig .tc := ⟨.hbm, 121, rfl⟩
abbrev main_call22_v0 : Ref sig .tc := ⟨.hbm, 122, rfl⟩
abbrev main_v25 : Ref sig .tc := ⟨.hbm, 123, rfl⟩
abbrev main_c_22 : Ref sig .tc := ⟨.hbm, 124, rfl⟩
abbrev main_call23_v0 : Ref sig .tc := ⟨.hbm, 125, rfl⟩
abbrev main_v26 : Ref sig .tc := ⟨.hbm, 126, rfl⟩
abbrev main_c_23 : Ref sig .tc := ⟨.hbm, 127, rfl⟩
abbrev main_call24_v0 : Ref sig .tc := ⟨.hbm, 128, rfl⟩
abbrev main_v27 : Ref sig .tc := ⟨.hbm, 129, rfl⟩
abbrev main_c_24 : Ref sig .tc := ⟨.hbm, 130, rfl⟩
abbrev main_call25_v0 : Ref sig .tc := ⟨.hbm, 131, rfl⟩
abbrev main_v28 : Ref sig .tc := ⟨.hbm, 132, rfl⟩
abbrev main_c_25 : Ref sig .tc := ⟨.hbm, 133, rfl⟩
abbrev main_call26_v0 : Ref sig .tc := ⟨.hbm, 134, rfl⟩
abbrev main_v29 : Ref sig .tc := ⟨.hbm, 135, rfl⟩
abbrev main_c_26 : Ref sig .tc := ⟨.hbm, 136, rfl⟩
abbrev main_call27_v0 : Ref sig .tc := ⟨.hbm, 137, rfl⟩
abbrev main_v30 : Ref sig .tc := ⟨.hbm, 138, rfl⟩
abbrev main_v31 : Ref sig .tc := ⟨.hbm, 139, rfl⟩
abbrev main_c_27 : Ref sig .tc := ⟨.hbm, 140, rfl⟩
abbrev main_call28_v0 : Ref sig .tc := ⟨.hbm, 141, rfl⟩
abbrev main_v32 : Ref sig .tc := ⟨.hbm, 142, rfl⟩
abbrev main_c_28 : Ref sig .tc := ⟨.hbm, 143, rfl⟩
abbrev main_call29_v0 : Ref sig .tc := ⟨.hbm, 144, rfl⟩
abbrev main_v33 : Ref sig .tc := ⟨.hbm, 145, rfl⟩
abbrev main_c_29 : Ref sig .tc := ⟨.hbm, 146, rfl⟩
abbrev main_call30_v0 : Ref sig .tc := ⟨.hbm, 147, rfl⟩
abbrev main_v34 : Ref sig .tc := ⟨.hbm, 148, rfl⟩
abbrev main_c_30 : Ref sig .tc := ⟨.hbm, 149, rfl⟩
abbrev main_call31_v0 : Ref sig .tc := ⟨.hbm, 150, rfl⟩
abbrev main_v35 : Ref sig .tc := ⟨.hbm, 151, rfl⟩
abbrev main_c_31 : Ref sig .tc := ⟨.hbm, 152, rfl⟩
abbrev main_call32_v0 : Ref sig .tc := ⟨.hbm, 153, rfl⟩
abbrev main_v36 : Ref sig .tc := ⟨.hbm, 154, rfl⟩
abbrev main_c_32 : Ref sig .tc := ⟨.hbm, 155, rfl⟩
abbrev main_call33_v0 : Ref sig .tc := ⟨.hbm, 156, rfl⟩
abbrev main_v37 : Ref sig .tc := ⟨.hbm, 157, rfl⟩
abbrev main_v38 : Ref sig .tc := ⟨.hbm, 158, rfl⟩
abbrev main_c_33 : Ref sig .tc := ⟨.hbm, 159, rfl⟩
abbrev main_call34_v0 : Ref sig .tc := ⟨.hbm, 160, rfl⟩
abbrev main_v39 : Ref sig .tc := ⟨.hbm, 161, rfl⟩
abbrev main_c_34 : Ref sig .tc := ⟨.hbm, 162, rfl⟩
abbrev main_call35_v0 : Ref sig .tc := ⟨.hbm, 163, rfl⟩
abbrev main_v40 : Ref sig .tc := ⟨.hbm, 164, rfl⟩
abbrev main_c_35 : Ref sig .tc := ⟨.hbm, 165, rfl⟩
abbrev main_call36_v0 : Ref sig .tc := ⟨.hbm, 166, rfl⟩
abbrev main_v41 : Ref sig .tc := ⟨.hbm, 167, rfl⟩
abbrev main_c_36 : Ref sig .tc := ⟨.hbm, 168, rfl⟩
abbrev main_call37_v0 : Ref sig .tc := ⟨.hbm, 169, rfl⟩
abbrev main_v42 : Ref sig .tc := ⟨.hbm, 170, rfl⟩
abbrev main_c_37 : Ref sig .tc := ⟨.hbm, 171, rfl⟩
abbrev main_call38_v0 : Ref sig .tc := ⟨.hbm, 172, rfl⟩
abbrev main_v43 : Ref sig .tc := ⟨.hbm, 173, rfl⟩
abbrev main_c_38 : Ref sig .tc := ⟨.hbm, 174, rfl⟩
abbrev main_call39_v0 : Ref sig .tc := ⟨.hbm, 175, rfl⟩
abbrev main_v44 : Ref sig .tc := ⟨.hbm, 176, rfl⟩
abbrev main_c_39 : Ref sig .tc := ⟨.hbm, 177, rfl⟩
abbrev main_call40_v0 : Ref sig .tc := ⟨.hbm, 178, rfl⟩
abbrev main_v45 : Ref sig .tc := ⟨.hbm, 179, rfl⟩
abbrev main_c_40 : Ref sig .tc := ⟨.hbm, 180, rfl⟩
abbrev main_call41_v0 : Ref sig .tc := ⟨.hbm, 181, rfl⟩
abbrev main_v46 : Ref sig .tc := ⟨.hbm, 182, rfl⟩
abbrev main_v47 : Ref sig .tc := ⟨.hbm, 183, rfl⟩
abbrev main_c_41 : Ref sig .tc := ⟨.hbm, 184, rfl⟩
abbrev main_call42_v0 : Ref sig .tc := ⟨.hbm, 185, rfl⟩
abbrev main_v48 : Ref sig .tc := ⟨.hbm, 186, rfl⟩
abbrev main_c_42 : Ref sig .tc := ⟨.hbm, 187, rfl⟩
abbrev main_call43_v0 : Ref sig .tc := ⟨.hbm, 188, rfl⟩
abbrev main_v49 : Ref sig .tc := ⟨.hbm, 189, rfl⟩
abbrev main_c_43 : Ref sig .tc := ⟨.hbm, 190, rfl⟩
abbrev main_call44_v0 : Ref sig .tc := ⟨.hbm, 191, rfl⟩
abbrev main_v50 : Ref sig .tc := ⟨.hbm, 192, rfl⟩
abbrev main_c_44 : Ref sig .tc := ⟨.hbm, 193, rfl⟩
abbrev main_call45_v0 : Ref sig .tc := ⟨.hbm, 194, rfl⟩
abbrev main_v51 : Ref sig .tc := ⟨.hbm, 195, rfl⟩
abbrev main_c_45 : Ref sig .tc := ⟨.hbm, 196, rfl⟩
abbrev main_call46_v0 : Ref sig .tc := ⟨.hbm, 197, rfl⟩
abbrev main_v52 : Ref sig .tc := ⟨.hbm, 198, rfl⟩
abbrev main_c_46 : Ref sig .tc := ⟨.hbm, 199, rfl⟩
abbrev main_call47_v0 : Ref sig .tc := ⟨.hbm, 200, rfl⟩
abbrev main_v53 : Ref sig .tc := ⟨.hbm, 201, rfl⟩
abbrev main_v54 : Ref sig .tc := ⟨.hbm, 202, rfl⟩
abbrev main_c_47 : Ref sig .tc := ⟨.hbm, 203, rfl⟩
abbrev main_call48_v0 : Ref sig .tc := ⟨.hbm, 204, rfl⟩
abbrev main_v55 : Ref sig .tc := ⟨.hbm, 205, rfl⟩
abbrev main_c_48 : Ref sig .tc := ⟨.hbm, 206, rfl⟩
abbrev main_call49_v0 : Ref sig .tc := ⟨.hbm, 207, rfl⟩
abbrev main_v56 : Ref sig .tc := ⟨.hbm, 208, rfl⟩
abbrev main_c_49 : Ref sig .tc := ⟨.hbm, 209, rfl⟩
abbrev main_call50_v0 : Ref sig .tc := ⟨.hbm, 210, rfl⟩
abbrev main_v57 : Ref sig .tc := ⟨.hbm, 211, rfl⟩
abbrev main_c_50 : Ref sig .tc := ⟨.hbm, 212, rfl⟩
abbrev main_call51_v0 : Ref sig .tc := ⟨.hbm, 213, rfl⟩
abbrev main_v58 : Ref sig .tc := ⟨.hbm, 214, rfl⟩
abbrev main_c_51 : Ref sig .tc := ⟨.hbm, 215, rfl⟩
abbrev main_call52_v0 : Ref sig .tc := ⟨.hbm, 216, rfl⟩
abbrev main_v59 : Ref sig .tc := ⟨.hbm, 217, rfl⟩
abbrev main_c_52 : Ref sig .tc := ⟨.hbm, 218, rfl⟩
abbrev main_call53_v0 : Ref sig .tc := ⟨.hbm, 219, rfl⟩
abbrev main_v60 : Ref sig .tc := ⟨.hbm, 220, rfl⟩
abbrev main_c_53 : Ref sig .tc := ⟨.hbm, 221, rfl⟩
abbrev main_call54_v0 : Ref sig .tc := ⟨.hbm, 222, rfl⟩
abbrev main_v61 : Ref sig .tc := ⟨.hbm, 223, rfl⟩
abbrev main_c_54 : Ref sig .tc := ⟨.hbm, 224, rfl⟩
abbrev main_call55_v0 : Ref sig .tc := ⟨.hbm, 225, rfl⟩
abbrev main_v62 : Ref sig .tc := ⟨.hbm, 226, rfl⟩
abbrev main_v63 : Ref sig .tc := ⟨.hbm, 227, rfl⟩
abbrev main_v64_0 : Ref sig .tc := ⟨.hbm, 228, rfl⟩
abbrev main_v64_1 : Ref sig .tc := ⟨.hbm, 229, rfl⟩
abbrev main_v64_2 : Ref sig .tc := ⟨.hbm, 230, rfl⟩
abbrev main_v65 : Ref sig .tc := ⟨.hbm, 231, rfl⟩
abbrev main_v66 : Ref sig .tc := ⟨.hbm, 232, rfl⟩
abbrev main_v67 : Ref sig .tc := ⟨.hbm, 233, rfl⟩
abbrev main_v68 : Ref sig .tc := ⟨.hbm, 234, rfl⟩
abbrev main_v69 : Ref sig .tc := ⟨.hbm, 235, rfl⟩
abbrev main_v70 : Ref sig .tc := ⟨.hbm, 236, rfl⟩
abbrev main_v71 : Ref sig .tc := ⟨.hbm, 237, rfl⟩
abbrev main_v72 : Ref sig .tc := ⟨.hbm, 238, rfl⟩
abbrev main_v73 : Ref sig .tc := ⟨.hbm, 239, rfl⟩
abbrev main_v74 : Ref sig .tc := ⟨.hbm, 240, rfl⟩
abbrev main_v75 : Ref sig .tc := ⟨.hbm, 241, rfl⟩
abbrev main_v76 : Ref sig .tc := ⟨.hbm, 242, rfl⟩
abbrev main_v77 : Ref sig .tc := ⟨.hbm, 243, rfl⟩
abbrev main_v78 : Ref sig .tc := ⟨.hbm, 244, rfl⟩
abbrev main_v79 : Ref sig .tc := ⟨.hbm, 245, rfl⟩
abbrev main_v80 : Ref sig .tc := ⟨.hbm, 246, rfl⟩
abbrev main_v81 : Ref sig .tc := ⟨.hbm, 247, rfl⟩
abbrev main_v82 : Ref sig .tc := ⟨.hbm, 248, rfl⟩
abbrev main_v83 : Ref sig .tc := ⟨.hbm, 249, rfl⟩
abbrev main_v84 : Ref sig .tc := ⟨.hbm, 250, rfl⟩
abbrev main_v85 : Ref sig .tc := ⟨.hbm, 251, rfl⟩
abbrev main_v86 : Ref sig .tc := ⟨.hbm, 252, rfl⟩
abbrev main_v87 : Ref sig .tc := ⟨.hbm, 253, rfl⟩
abbrev main_v88 : Ref sig .tc := ⟨.hbm, 254, rfl⟩
abbrev main_v89 : Ref sig .tc := ⟨.hbm, 255, rfl⟩
abbrev main_v90 : Ref sig .tc := ⟨.hbm, 256, rfl⟩
abbrev main_v91 : Ref sig .tc := ⟨.hbm, 257, rfl⟩
abbrev main_v92 : Ref sig .tc := ⟨.hbm, 258, rfl⟩
abbrev main_v93 : Ref sig .tc := ⟨.hbm, 259, rfl⟩
abbrev main_v94 : Ref sig .tc := ⟨.hbm, 260, rfl⟩
abbrev main_v95 : Ref sig .tc := ⟨.hbm, 261, rfl⟩
abbrev main_v96 : Ref sig .tc := ⟨.hbm, 262, rfl⟩
abbrev main_v97 : Ref sig .tc := ⟨.hbm, 263, rfl⟩
abbrev main_v98 : Ref sig .tc := ⟨.hbm, 264, rfl⟩
abbrev main_v99 : Ref sig .tc := ⟨.hbm, 265, rfl⟩
abbrev main_v100 : Ref sig .tc := ⟨.hbm, 266, rfl⟩
abbrev main_v101 : Ref sig .tc := ⟨.hbm, 267, rfl⟩
abbrev main_v102 : Ref sig .tc := ⟨.hbm, 268, rfl⟩
abbrev main_v103 : Ref sig .tc := ⟨.hbm, 269, rfl⟩
abbrev main_v104 : Ref sig .tc := ⟨.hbm, 270, rfl⟩
abbrev main_v105 : Ref sig .tc := ⟨.hbm, 271, rfl⟩
abbrev main_v106 : Ref sig .tc := ⟨.hbm, 272, rfl⟩
abbrev main_v107 : Ref sig .tc := ⟨.hbm, 273, rfl⟩
abbrev main_v108 : Ref sig .tc := ⟨.hbm, 274, rfl⟩
abbrev main_v109 : Ref sig .tc := ⟨.hbm, 275, rfl⟩
abbrev main_v110 : Ref sig .tc := ⟨.hbm, 276, rfl⟩
abbrev main_v111 : Ref sig .tc := ⟨.hbm, 277, rfl⟩
abbrev main_v112 : Ref sig .tc := ⟨.hbm, 278, rfl⟩
abbrev main_v113 : Ref sig .tc := ⟨.hbm, 279, rfl⟩
abbrev main_v114 : Ref sig .tc := ⟨.hbm, 280, rfl⟩
abbrev main_v115 : Ref sig .tc := ⟨.hbm, 281, rfl⟩
abbrev main_v116 : Ref sig .tc := ⟨.hbm, 282, rfl⟩
abbrev main_v117 : Ref sig .tc := ⟨.hbm, 283, rfl⟩
abbrev main_v118 : Ref sig .tc := ⟨.hbm, 284, rfl⟩
abbrev main_v119 : Ref sig .tc := ⟨.hbm, 285, rfl⟩
abbrev main_v120 : Ref sig .tc := ⟨.hbm, 286, rfl⟩
abbrev main_v121 : Ref sig .tc := ⟨.hbm, 287, rfl⟩
abbrev main_v122 : Ref sig .tc := ⟨.hbm, 288, rfl⟩
abbrev main_v123 : Ref sig .tc := ⟨.hbm, 289, rfl⟩
abbrev main_v124 : Ref sig .tc := ⟨.hbm, 290, rfl⟩
abbrev main_v125 : Ref sig .tc := ⟨.hbm, 291, rfl⟩
abbrev main_v126 : Ref sig .tc := ⟨.hbm, 292, rfl⟩
abbrev main_v127 : Ref sig .tc := ⟨.hbm, 293, rfl⟩
abbrev main_v128 : Ref sig .tc := ⟨.hbm, 294, rfl⟩
abbrev main_v129 : Ref sig .tc := ⟨.hbm, 295, rfl⟩
abbrev main_v130 : Ref sig .tc := ⟨.hbm, 296, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S112x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S112x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S112x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S112x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S112x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S112x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S112x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference11Ideal.lean ====
abbrev S16x256 : Shape := ⟨2, ![16, 256]⟩
abbrev S4x384 : Shape := ⟨2, ![4, 384]⟩
abbrev S1x1024 : Shape := ⟨2, ![1, 1024]⟩
abbrev S1x384 : Shape := ⟨2, ![1, 384]⟩
abbrev S1x256 : Shape := ⟨2, ![1, 256]⟩
abbrev S1x1536 : Shape := ⟨2, ![1, 1536]⟩
abbrev S1x16 : Shape := ⟨2, ![1, 16]⟩
abbrev S_ : Shape := ⟨0, ![]⟩

abbrev nBuf : Space → Nat
  | .hbm => 481
  | .vmem => 0
  | .smem => 0
  | _ => 0

abbrev hbmTy0_0 (i : Nat) : BufTy := match i % 128 with
  | 0 => ⟨S16x256, .f32⟩
  | 1 => ⟨S4x384, .f32⟩
  | 2 => ⟨S1x1024, .f32⟩
  | 3 => ⟨S1x384, .f32⟩
  | 4 => ⟨S1x256, .f32⟩
  | 5 => ⟨S1x1536, .f32⟩
  | 6 => ⟨S1x16, .f32⟩
  | 7 => ⟨S1x16, .f32⟩
  | 8 => ⟨S1x16, .f32⟩
  | 9 => ⟨S1x1024, .f32⟩
  | 10 => ⟨S1x1024, .f32⟩
  | 11 => ⟨S1x1024, .f32⟩
  | 12 => ⟨S1x1024, .f32⟩
  | 13 => ⟨S16x256, .f32⟩
  | 14 => ⟨S4x384, .f32⟩
  | 15 => ⟨S1x1024, .f32⟩
  | 16 => ⟨S1x384, .f32⟩
  | 17 => ⟨S1x256, .f32⟩
  | 18 => ⟨S1x1536, .f32⟩
  | 19 => ⟨S1x16, .f32⟩
  | 20 => ⟨S1x16, .f32⟩
  | 21 => ⟨S1x16, .f32⟩
  | 22 => ⟨S1x1024, .f32⟩
  | 23 => ⟨S1x1024, .f32⟩
  | 24 => ⟨S1x1024, .f32⟩
  | 25 => ⟨S1x1024, .f32⟩
  | 26 => ⟨S16x256, .f32⟩
  | 27 => ⟨S4x384, .f32⟩
  | 28 => ⟨S1x1024, .f32⟩
  | 29 => ⟨S1x384, .f32⟩
  | 30 => ⟨S1x256, .f32⟩
  | 31 => ⟨S1x1536, .f32⟩
  | 32 => ⟨S1x16, .f32⟩
  | 33 => ⟨S1x16, .f32⟩
  | 34 => ⟨S1x16, .f32⟩
  | 35 => ⟨S1x1024, .f32⟩
  | 36 => ⟨S1x1024, .f32⟩
  | 37 => ⟨S1x1024, .f32⟩
  | 38 => ⟨S1x1024, .f32⟩
  | 39 => ⟨S16x256, .f32⟩
  | 40 => ⟨S4x384, .f32⟩
  | 41 => ⟨S1x1024, .f32⟩
  | 42 => ⟨S1x384, .f32⟩
  | 43 => ⟨S1x256, .f32⟩
  | 44 => ⟨S1x1536, .f32⟩
  | 45 => ⟨S1x16, .f32⟩
  | 46 => ⟨S1x16, .f32⟩
  | 47 => ⟨S1x16, .f32⟩
  | 48 => ⟨S1x1024, .f32⟩
  | 49 => ⟨S1x1024, .f32⟩
  | 50 => ⟨S1x1024, .f32⟩
  | 51 => ⟨S1x1024, .f32⟩
  | 52 => ⟨S_, .f32⟩
  | 53 => ⟨S16x256, .f32⟩
  | 54 => ⟨S16x256, .f32⟩
  | 55 => ⟨S_, .f32⟩
  | 56 => ⟨S16x256, .f32⟩
  | 57 => ⟨S16x256, .f32⟩
  | 58 => ⟨S16x256, .f32⟩
  | 59 => ⟨S_, .f32⟩
  | 60 => ⟨S16x256, .f32⟩
  | 61 => ⟨S16x256, .f32⟩
  | 62 => ⟨S16x256, .f32⟩
  | 63 => ⟨S_, .f32⟩
  | 64 => ⟨S16x256, .f32⟩
  | 65 => ⟨S16x256, .f32⟩
  | 66 => ⟨S16x256, .f32⟩
  | 67 => ⟨S_, .f32⟩
  | 68 => ⟨S16x256, .f32⟩
  | 69 => ⟨S16x256, .f32⟩
  | 70 => ⟨S_, .f32⟩
  | 71 => ⟨S16x256, .f32⟩
  | 72 => ⟨S16x256, .f32⟩
  | 73 => ⟨S16x256, .f32⟩
  | 74 => ⟨S_, .f32⟩
  | 75 => ⟨S16x256, .f32⟩
  | 76 => ⟨S16x256, .f32⟩
  | 77 => ⟨S16x256, .f32⟩
  | 78 => ⟨S_, .f32⟩
  | 79 => ⟨S16x256, .f32⟩
  | 80 => ⟨S16x256, .f32⟩
  | 81 => ⟨S16x256, .f32⟩
  | 82 => ⟨S_, .f32⟩
  | 83 => ⟨S16x256, .f32⟩
  | 84 => ⟨S16x256, .f32⟩
  | 85 => ⟨S_, .f32⟩
  | 86 => ⟨S4x384, .f32⟩
  | 87 => ⟨S4x384, .f32⟩
  | 88 => ⟨S_, .f32⟩
  | 89 => ⟨S4x384, .f32⟩
  | 90 => ⟨S4x384, .f32⟩
  | 91 => ⟨S4x384, .f32⟩
  | 92 => ⟨S_, .f32⟩
  | 93 => ⟨S4x384, .f32⟩
  | 94 => ⟨S4x384, .f32⟩
  | 95 => ⟨S4x384, .f32⟩
  | 96 => ⟨S_, .f32⟩
  | 97 => ⟨S4x384, .f32⟩
  | 98 => ⟨S4x384, .f32⟩
  | 99 => ⟨S4x384, .f32⟩
  | 100 => ⟨S_, .f32⟩
  | 101 => ⟨S4x384, .f32⟩
  | 102 => ⟨S4x384, .f32⟩
  | 103 => ⟨S_, .f32⟩
  | 104 => ⟨S4x384, .f32⟩
  | 105 => ⟨S4x384, .f32⟩
  | 106 => ⟨S4x384, .f32⟩
  | 107 => ⟨S_, .f32⟩
  | 108 => ⟨S4x384, .f32⟩
  | 109 => ⟨S4x384, .f32⟩
  | 110 => ⟨S4x384, .f32⟩
  | 111 => ⟨S_, .f32⟩
  | 112 => ⟨S4x384, .f32⟩
  | 113 => ⟨S4x384, .f32⟩
  | 114 => ⟨S4x384, .f32⟩
  | 115 => ⟨S_, .f32⟩
  | 116 => ⟨S4x384, .f32⟩
  | 117 => ⟨S4x384, .f32⟩
  | 118 => ⟨S_, .f32⟩
  | 119 => ⟨S1x1024, .f32⟩
  | 120 => ⟨S1x1024, .f32⟩
  | 121 => ⟨S_, .f32⟩
  | 122 => ⟨S1x1024, .f32⟩
  | 123 => ⟨S1x1024, .f32⟩
  | 124 => ⟨S1x1024, .f32⟩
  | 125 => ⟨S_, .f32⟩
  | 126 => ⟨S1x1024, .f32⟩
  | 127 => ⟨S1x1024, .f32⟩
  | _ => ⟨S16x256, .f32⟩

abbrev hbmTy0_1 (i : Nat) : BufTy := match i % 128 with
  | 0 => ⟨S1x1024, .f32⟩
  | 1 => ⟨S_, .f32⟩
  | 2 => ⟨S1x1024, .f32⟩
  | 3 => ⟨S1x1024, .f32⟩
  | 4 => ⟨S1x1024, .f32⟩
  | 5 => ⟨S_, .f32⟩
  | 6 => ⟨S1x1024, .f32⟩
  | 7 => ⟨S1x1024, .f32⟩
  | 8 => ⟨S_, .f32⟩
  | 9 => ⟨S1x1024, .f32⟩
  | 10 => ⟨S1x1024, .f32⟩
  | 11 => ⟨S1x1024, .f32⟩
  | 12 => ⟨S_, .f32⟩
  | 13 => ⟨S1x1024, .f32⟩
  | 14 => ⟨S1x1024, .f32⟩
  | 15 => ⟨S1x1024, .f32⟩
  | 16 => ⟨S_, .f32⟩
  | 17 => ⟨S1x1024, .f32⟩
  | 18 => ⟨S1x1024, .f32⟩
  | 19 => ⟨S1x1024, .f32⟩
  | 20 => ⟨S_, .f32⟩
  | 21 => ⟨S1x1024, .f32⟩
  | 22 => ⟨S1x1024, .f32⟩
  | 23 => ⟨S_, .f32⟩
  | 24 => ⟨S1x384, .f32⟩
  | 25 => ⟨S1x384, .f32⟩
  | 26 => ⟨S_, .f32⟩
  | 27 => ⟨S1x384, .f32⟩
  | 28 => ⟨S1x384, .f32⟩
  | 29 => ⟨S1x384, .f32⟩
  | 30 => ⟨S_, .f32⟩
  | 31 => ⟨S1x384, .f32⟩
  | 32 => ⟨S1x384, .f32⟩
  | 33 => ⟨S1x384, .f32⟩
  | 34 => ⟨S_, .f32⟩
  | 35 => ⟨S1x384, .f32⟩
  | 36 => ⟨S1x384, .f32⟩
  | 37 => ⟨S1x384, .f32⟩
  | 38 => ⟨S_, .f32⟩
  | 39 => ⟨S1x384, .f32⟩
  | 40 => ⟨S1x384, .f32⟩
  | 41 => ⟨S_, .f32⟩
  | 42 => ⟨S1x384, .f32⟩
  | 43 => ⟨S1x384, .f32⟩
  | 44 => ⟨S1x384, .f32⟩
  | 45 => ⟨S_, .f32⟩
  | 46 => ⟨S1x384, .f32⟩
  | 47 => ⟨S1x384, .f32⟩
  | 48 => ⟨S1x384, .f32⟩
  | 49 => ⟨S_, .f32⟩
  | 50 => ⟨S1x384, .f32⟩
  | 51 => ⟨S1x384, .f32⟩
  | 52 => ⟨S1x384, .f32⟩
  | 53 => ⟨S_, .f32⟩
  | 54 => ⟨S1x384, .f32⟩
  | 55 => ⟨S1x384, .f32⟩
  | 56 => ⟨S_, .f32⟩
  | 57 => ⟨S1x256, .f32⟩
  | 58 => ⟨S1x256, .f32⟩
  | 59 => ⟨S_, .f32⟩
  | 60 => ⟨S1x256, .f32⟩
  | 61 => ⟨S1x256, .f32⟩
  | 62 => ⟨S1x256, .f32⟩
  | 63 => ⟨S_, .f32⟩
  | 64 => ⟨S1x256, .f32⟩
  | 65 => ⟨S1x256, .f32⟩
  | 66 => ⟨S1x256, .f32⟩
  | 67 => ⟨S_, .f32⟩
  | 68 => ⟨S1x256, .f32⟩
  | 69 => ⟨S1x256, .f32⟩
  | 70 => ⟨S1x256, .f32⟩
  | 71 => ⟨S_, .f32⟩
  | 72 => ⟨S1x256, .f32⟩
  | 73 => ⟨S1x256, .f32⟩
  | 74 => ⟨S_, .f32⟩
  | 75 => ⟨S1x256, .f32⟩
  | 76 => ⟨S1x256, .f32⟩
  | 77 => ⟨S1x256, .f32⟩
  | 78 => ⟨S_, .f32⟩
  | 79 => ⟨S1x256, .f32⟩
  | 80 => ⟨S1x256, .f32⟩
  | 81 => ⟨S1x256, .f32⟩
  | 82 => ⟨S_, .f32⟩
  | 83 => ⟨S1x256, .f32⟩
  | 84 => ⟨S1x256, .f32⟩
  | 85 => ⟨S1x256, .f32⟩
  | 86 => ⟨S_, .f32⟩
  | 87 => ⟨S1x256, .f32⟩
  | 88 => ⟨S1x256, .f32⟩
  | 89 => ⟨S_, .f32⟩
  | 90 => ⟨S1x1536, .f32⟩
  | 91 => ⟨S1x1536, .f32⟩
  | 92 => ⟨S_, .f32⟩
  | 93 => ⟨S1x1536, .f32⟩
  | 94 => ⟨S1x1536, .f32⟩
  | 95 => ⟨S1x1536, .f32⟩
  | 96 => ⟨S_, .f32⟩
  | 97 => ⟨S1x1536, .f32⟩
  | 98 => ⟨S1x1536, .f32⟩
  | 99 => ⟨S1x1536, .f32⟩
  | 100 => ⟨S_, .f32⟩
  | 101 => ⟨S1x1536, .f32⟩
  | 102 => ⟨S1x1536, .f32⟩
  | 103 => ⟨S1x1536, .f32⟩
  | 104 => ⟨S_, .f32⟩
  | 105 => ⟨S1x1536, .f32⟩
  | 106 => ⟨S1x1536, .f32⟩
  | 107 => ⟨S_, .f32⟩
  | 108 => ⟨S1x1536, .f32⟩
  | 109 => ⟨S1x1536, .f32⟩
  | 110 => ⟨S1x1536, .f32⟩
  | 111 => ⟨S_, .f32⟩
  | 112 => ⟨S1x1536, .f32⟩
  | 113 => ⟨S1x1536, .f32⟩
  | 114 => ⟨S1x1536, .f32⟩
  | 115 => ⟨S_, .f32⟩
  | 116 => ⟨S1x1536, .f32⟩
  | 117 => ⟨S1x1536, .f32⟩
  | 118 => ⟨S1x1536, .f32⟩
  | 119 => ⟨S_, .f32⟩
  | 120 => ⟨S1x1536, .f32⟩
  | 121 => ⟨S1x1536, .f32⟩
  | 122 => ⟨S_, .f32⟩
  | 123 => ⟨S1x16, .f32⟩
  | 124 => ⟨S1x16, .f32⟩
  | 125 => ⟨S_, .f32⟩
  | 126 => ⟨S1x16, .f32⟩
  | 127 => ⟨S1x16, .f32⟩
  | _ => ⟨S16x256, .f32⟩

abbrev hbmTy0_2 (i : Nat) : BufTy := match i % 128 with
  | 0 => ⟨S1x16, .f32⟩
  | 1 => ⟨S_, .f32⟩
  | 2 => ⟨S1x16, .f32⟩
  | 3 => ⟨S1x16, .f32⟩
  | 4 => ⟨S1x16, .f32⟩
  | 5 => ⟨S_, .f32⟩
  | 6 => ⟨S1x16, .f32⟩
  | 7 => ⟨S1x16, .f32⟩
  | 8 => ⟨S1x16, .f32⟩
  | 9 => ⟨S_, .f32⟩
  | 10 => ⟨S1x16, .f32⟩
  | 11 => ⟨S1x16, .f32⟩
  | 12 => ⟨S_, .f32⟩
  | 13 => ⟨S1x16, .f32⟩
  | 14 => ⟨S1x16, .f32⟩
  | 15 => ⟨S1x16, .f32⟩
  | 16 => ⟨S_, .f32⟩
  | 17 => ⟨S1x16, .f32⟩
  | 18 => ⟨S1x16, .f32⟩
  | 19 => ⟨S1x16, .f32⟩
  | 20 => ⟨S_, .f32⟩
  | 21 => ⟨S1x16, .f32⟩
  | 22 => ⟨S1x16, .f32⟩
  | 23 => ⟨S1x16, .f32⟩
  | 24 => ⟨S_, .f32⟩
  | 25 => ⟨S1x16, .f32⟩
  | 26 => ⟨S1x16, .f32⟩
  | 27 => ⟨S_, .f32⟩
  | 28 => ⟨S1x16, .f32⟩
  | 29 => ⟨S1x16, .f32⟩
  | 30 => ⟨S_, .f32⟩
  | 31 => ⟨S1x16, .f32⟩
  | 32 => ⟨S1x16, .f32⟩
  | 33 => ⟨S1x16, .f32⟩
  | 34 => ⟨S_, .f32⟩
  | 35 => ⟨S1x16, .f32⟩
  | 36 => ⟨S1x16, .f32⟩
  | 37 => ⟨S1x16, .f32⟩
  | 38 => ⟨S_, .f32⟩
  | 39 => ⟨S1x16, .f32⟩
  | 40 => ⟨S1x16, .f32⟩
  | 41 => ⟨S1x16, .f32⟩
  | 42 => ⟨S_, .f32⟩
  | 43 => ⟨S1x16, .f32⟩
  | 44 => ⟨S1x16, .f32⟩
  | 45 => ⟨S_, .f32⟩
  | 46 => ⟨S1x16, .f32⟩
  | 47 => ⟨S1x16, .f32⟩
  | 48 => ⟨S1x16, .f32⟩
  | 49 => ⟨S_, .f32⟩
  | 50 => ⟨S1x16, .f32⟩
  | 51 => ⟨S1x16, .f32⟩
  | 52 => ⟨S1x16, .f32⟩
  | 53 => ⟨S_, .f32⟩
  | 54 => ⟨S1x16, .f32⟩
  | 55 => ⟨S1x16, .f32⟩
  | 56 => ⟨S1x16, .f32⟩
  | 57 => ⟨S_, .f32⟩
  | 58 => ⟨S1x16, .f32⟩
  | 59 => ⟨S1x16, .f32⟩
  | 60 => ⟨S_, .f32⟩
  | 61 => ⟨S1x16, .f32⟩
  | 62 => ⟨S1x16, .f32⟩
  | 63 => ⟨S_, .f32⟩
  | 64 => ⟨S1x16, .f32⟩
  | 65 => ⟨S1x16, .f32⟩
  | 66 => ⟨S1x16, .f32⟩
  | 67 => ⟨S_, .f32⟩
  | 68 => ⟨S1x16, .f32⟩
  | 69 => ⟨S1x16, .f32⟩
  | 70 => ⟨S1x16, .f32⟩
  | 71 => ⟨S_, .f32⟩
  | 72 => ⟨S1x16, .f32⟩
  | 73 => ⟨S1x16, .f32⟩
  | 74 => ⟨S1x16, .f32⟩
  | 75 => ⟨S_, .f32⟩
  | 76 => ⟨S1x16, .f32⟩
  | 77 => ⟨S1x16, .f32⟩
  | 78 => ⟨S_, .f32⟩
  | 79 => ⟨S1x16, .f32⟩
  | 80 => ⟨S1x16, .f32⟩
  | 81 => ⟨S1x16, .f32⟩
  | 82 => ⟨S_, .f32⟩
  | 83 => ⟨S1x16, .f32⟩
  | 84 => ⟨S1x16, .f32⟩
  | 85 => ⟨S1x16, .f32⟩
  | 86 => ⟨S_, .f32⟩
  | 87 => ⟨S1x16, .f32⟩
  | 88 => ⟨S1x16, .f32⟩
  | 89 => ⟨S1x16, .f32⟩
  | 90 => ⟨S_, .f32⟩
  | 91 => ⟨S1x16, .f32⟩
  | 92 => ⟨S1x16, .f32⟩
  | 93 => ⟨S_, .f32⟩
  | 94 => ⟨S1x1024, .f32⟩
  | 95 => ⟨S1x1024, .f32⟩
  | 96 => ⟨S_, .f32⟩
  | 97 => ⟨S1x1024, .f32⟩
  | 98 => ⟨S1x1024, .f32⟩
  | 99 => ⟨S1x1024, .f32⟩
  | 100 => ⟨S_, .f32⟩
  | 101 => ⟨S1x1024, .f32⟩
  | 102 => ⟨S1x1024, .f32⟩
  | 103 => ⟨S1x1024, .f32⟩
  | 104 => ⟨S_, .f32⟩
  | 105 => ⟨S1x1024, .f32⟩
  | 106 => ⟨S1x1024, .f32⟩
  | 107 => ⟨S1x1024, .f32⟩
  | 108 => ⟨S_, .f32⟩
  | 109 => ⟨S1x1024, .f32⟩
  | 110 => ⟨S1x1024, .f32⟩
  | 111 => ⟨S_, .f32⟩
  | 112 => ⟨S1x1024, .f32⟩
  | 113 => ⟨S1x1024, .f32⟩
  | 114 => ⟨S1x1024, .f32⟩
  | 115 => ⟨S_, .f32⟩
  | 116 => ⟨S1x1024, .f32⟩
  | 117 => ⟨S1x1024, .f32⟩
  | 118 => ⟨S1x1024, .f32⟩
  | 119 => ⟨S_, .f32⟩
  | 120 => ⟨S1x1024, .f32⟩
  | 121 => ⟨S1x1024, .f32⟩
  | 122 => ⟨S1x1024, .f32⟩
  | 123 => ⟨S_, .f32⟩
  | 124 => ⟨S1x1024, .f32⟩
  | 125 => ⟨S1x1024, .f32⟩
  | 126 => ⟨S_, .f32⟩
  | 127 => ⟨S1x1024, .f32⟩
  | _ => ⟨S16x256, .f32⟩

abbrev hbmTy0_3 (i : Nat) : BufTy := match i % 128 with
  | 0 => ⟨S1x1024, .f32⟩
  | 1 => ⟨S_, .f32⟩
  | 2 => ⟨S1x1024, .f32⟩
  | 3 => ⟨S1x1024, .f32⟩
  | 4 => ⟨S1x1024, .f32⟩
  | 5 => ⟨S_, .f32⟩
  | 6 => ⟨S1x1024, .f32⟩
  | 7 => ⟨S1x1024, .f32⟩
  | 8 => ⟨S1x1024, .f32⟩
  | 9 => ⟨S_, .f32⟩
  | 10 => ⟨S1x1024, .f32⟩
  | 11 => ⟨S1x1024, .f32⟩
  | 12 => ⟨S1x1024, .f32⟩
  | 13 => ⟨S_, .f32⟩
  | 14 => ⟨S1x1024, .f32⟩
  | 15 => ⟨S1x1024, .f32⟩
  | 16 => ⟨S_, .f32⟩
  | 17 => ⟨S1x1024, .f32⟩
  | 18 => ⟨S1x1024, .f32⟩
  | 19 => ⟨S1x1024, .f32⟩
  | 20 => ⟨S_, .f32⟩
  | 21 => ⟨S1x1024, .f32⟩
  | 22 => ⟨S1x1024, .f32⟩
  | 23 => ⟨S1x1024, .f32⟩
  | 24 => ⟨S_, .f32⟩
  | 25 => ⟨S1x1024, .f32⟩
  | 26 => ⟨S1x1024, .f32⟩
  | 27 => ⟨S1x1024, .f32⟩
  | 28 => ⟨S_, .f32⟩
  | 29 => ⟨S1x1024, .f32⟩
  | 30 => ⟨S1x1024, .f32⟩
  | 31 => ⟨S_, .f32⟩
  | 32 => ⟨S1x1024, .f32⟩
  | 33 => ⟨S1x1024, .f32⟩
  | 34 => ⟨S_, .f32⟩
  | 35 => ⟨S1x1024, .f32⟩
  | 36 => ⟨S1x1024, .f32⟩
  | 37 => ⟨S1x1024, .f32⟩
  | 38 => ⟨S_, .f32⟩
  | 39 => ⟨S1x1024, .f32⟩
  | 40 => ⟨S1x1024, .f32⟩
  | 41 => ⟨S1x1024, .f32⟩
  | 42 => ⟨S_, .f32⟩
  | 43 => ⟨S1x1024, .f32⟩
  | 44 => ⟨S1x1024, .f32⟩
  | 45 => ⟨S1x1024, .f32⟩
  | 46 => ⟨S_, .f32⟩
  | 47 => ⟨S1x1024, .f32⟩
  | 48 => ⟨S1x1024, .f32⟩
  | 49 => ⟨S_, .f32⟩
  | 50 => ⟨S1x1024, .f32⟩
  | 51 => ⟨S1x1024, .f32⟩
  | 52 => ⟨S1x1024, .f32⟩
  | 53 => ⟨S_, .f32⟩
  | 54 => ⟨S1x1024, .f32⟩
  | 55 => ⟨S1x1024, .f32⟩
  | 56 => ⟨S1x1024, .f32⟩
  | 57 => ⟨S_, .f32⟩
  | 58 => ⟨S1x1024, .f32⟩
  | 59 => ⟨S1x1024, .f32⟩
  | 60 => ⟨S1x1024, .f32⟩
  | 61 => ⟨S_, .f32⟩
  | 62 => ⟨S1x1024, .f32⟩
  | 63 => ⟨S1x1024, .f32⟩
  | 64 => ⟨S_, .f32⟩
  | 65 => ⟨S1x1024, .f32⟩
  | 66 => ⟨S1x1024, .f32⟩
  | 67 => ⟨S_, .f32⟩
  | 68 => ⟨S1x1024, .f32⟩
  | 69 => ⟨S1x1024, .f32⟩
  | 70 => ⟨S1x1024, .f32⟩
  | 71 => ⟨S_, .f32⟩
  | 72 => ⟨S1x1024, .f32⟩
  | 73 => ⟨S1x1024, .f32⟩
  | 74 => ⟨S1x1024, .f32⟩
  | 75 => ⟨S_, .f32⟩
  | 76 => ⟨S1x1024, .f32⟩
  | 77 => ⟨S1x1024, .f32⟩
  | 78 => ⟨S1x1024, .f32⟩
  | 79 => ⟨S_, .f32⟩
  | 80 => ⟨S1x1024, .f32⟩
  | 81 => ⟨S1x1024, .f32⟩
  | 82 => ⟨S_, .f32⟩
  | 83 => ⟨S1x1024, .f32⟩
  | 84 => ⟨S1x1024, .f32⟩
  | 85 => ⟨S1x1024, .f32⟩
  | 86 => ⟨S_, .f32⟩
  | 87 => ⟨S1x1024, .f32⟩
  | 88 => ⟨S1x1024, .f32⟩
  | 89 => ⟨S1x1024, .f32⟩
  | 90 => ⟨S_, .f32⟩
  | 91 => ⟨S1x1024, .f32⟩
  | 92 => ⟨S1x1024, .f32⟩
  | 93 => ⟨S1x1024, .f32⟩
  | 94 => ⟨S_, .f32⟩
  | 95 => ⟨S1x1024, .f32⟩
  | 96 => ⟨S1x1024, .f32⟩
  | _ => ⟨S16x256, .f32⟩

abbrev hbmTy (i : Nat) : BufTy := match i / 128 with
  | 0 => hbmTy0_0 i
  | 1 => hbmTy0_1 i
  | 2 => hbmTy0_2 i
  | 3 => hbmTy0_3 i
  | _ => ⟨S16x256, .f32⟩

abbrev bufTy : (tb : Table) → Fin (tcTables nBuf tb) → BufTy
  | .hbm, ⟨i, _⟩ => hbmTy i
  | _, _ => ⟨S16x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_cst : Ref sig .tc := ⟨.hbm, 52, rfl⟩
abbrev main_v0 : Ref sig .tc := ⟨.hbm, 53, rfl⟩
abbrev main_v1 : Ref sig .tc := ⟨.hbm, 54, rfl⟩
abbrev main_cst_0 : Ref sig .tc := ⟨.hbm, 55, rfl⟩
abbrev main_v2 : Ref sig .tc := ⟨.hbm, 56, rfl⟩
abbrev main_v3 : Ref sig .tc := ⟨.hbm, 57, rfl⟩
abbrev main_v4 : Ref sig .tc := ⟨.hbm, 58, rfl⟩
abbrev main_cst_1 : Ref sig .tc := ⟨.hbm, 59, rfl⟩
abbrev main_v5 : Ref sig .tc := ⟨.hbm, 60, rfl⟩
abbrev main_v6 : Ref sig .tc := ⟨.hbm, 61, rfl⟩
abbrev main_v7 : Ref sig .tc := ⟨.hbm, 62, rfl⟩
abbrev main_cst_2 : Ref sig .tc := ⟨.hbm, 63, rfl⟩
abbrev main_v8 : Ref sig .tc := ⟨.hbm, 64, rfl⟩
abbrev main_v9 : Ref sig .tc := ⟨.hbm, 65, rfl⟩
abbrev main_v10 : Ref sig .tc := ⟨.hbm, 66, rfl⟩
abbrev main_cst_3 : Ref sig .tc := ⟨.hbm, 67, rfl⟩
abbrev main_v11 : Ref sig .tc := ⟨.hbm, 68, rfl⟩
abbrev main_v12 : Ref sig .tc := ⟨.hbm, 69, rfl⟩
abbrev main_cst_4 : Ref sig .tc := ⟨.hbm, 70, rfl⟩
abbrev main_v13 : Ref sig .tc := ⟨.hbm, 71, rfl⟩
abbrev main_v14 : Ref sig .tc := ⟨.hbm, 72, rfl⟩
abbrev main_v15 : Ref sig .tc := ⟨.hbm, 73, rfl⟩
abbrev main_cst_5 : Ref sig .tc := ⟨.hbm, 74, rfl⟩
abbrev main_v16 : Ref sig .tc := ⟨.hbm, 75, rfl⟩
abbrev main_v17 : Ref sig .tc := ⟨.hbm, 76, rfl⟩
abbrev main_v18 : Ref sig .tc := ⟨.hbm, 77, rfl⟩
abbrev main_cst_6 : Ref sig .tc := ⟨.hbm, 78, rfl⟩
abbrev main_v19 : Ref sig .tc := ⟨.hbm, 79, rfl⟩
abbrev main_v20 : Ref sig .tc := ⟨.hbm, 80, rfl⟩
abbrev main_v21 : Ref sig .tc := ⟨.hbm, 81, rfl⟩
abbrev main_cst_7 : Ref sig .tc := ⟨.hbm, 82, rfl⟩
abbrev main_v22 : Ref sig .tc := ⟨.hbm, 83, rfl⟩
abbrev main_v23 : Ref sig .tc := ⟨.hbm, 84, rfl⟩
abbrev main_cst_8 : Ref sig .tc := ⟨.hbm, 85, rfl⟩
abbrev main_v24 : Ref sig .tc := ⟨.hbm, 86, rfl⟩
abbrev main_v25 : Ref sig .tc := ⟨.hbm, 87, rfl⟩
abbrev main_cst_9 : Ref sig .tc := ⟨.hbm, 88, rfl⟩
abbrev main_v26 : Ref sig .tc := ⟨.hbm, 89, rfl⟩
abbrev main_v27 : Ref sig .tc := ⟨.hbm, 90, rfl⟩
abbrev main_v28 : Ref sig .tc := ⟨.hbm, 91, rfl⟩
abbrev main_cst_10 : Ref sig .tc := ⟨.hbm, 92, rfl⟩
abbrev main_v29 : Ref sig .tc := ⟨.hbm, 93, rfl⟩
abbrev main_v30 : Ref sig .tc := ⟨.hbm, 94, rfl⟩
abbrev main_v31 : Ref sig .tc := ⟨.hbm, 95, rfl⟩
abbrev main_cst_11 : Ref sig .tc := ⟨.hbm, 96, rfl⟩
abbrev main_v32 : Ref sig .tc := ⟨.hbm, 97, rfl⟩
abbrev main_v33 : Ref sig .tc := ⟨.hbm, 98, rfl⟩
abbrev main_v34 : Ref sig .tc := ⟨.hbm, 99, rfl⟩
abbrev main_cst_12 : Ref sig .tc := ⟨.hbm, 100, rfl⟩
abbrev main_v35 : Ref sig .tc := ⟨.hbm, 101, rfl⟩
abbrev main_v36 : Ref sig .tc := ⟨.hbm, 102, rfl⟩
abbrev main_cst_13 : Ref sig .tc := ⟨.hbm, 103, rfl⟩
abbrev main_v37 : Ref sig .tc := ⟨.hbm, 104, rfl⟩
abbrev main_v38 : Ref sig .tc := ⟨.hbm, 105, rfl⟩
abbrev main_v39 : Ref sig .tc := ⟨.hbm, 106, rfl⟩
abbrev main_cst_14 : Ref sig .tc := ⟨.hbm, 107, rfl⟩
abbrev main_v40 : Ref sig .tc := ⟨.hbm, 108, rfl⟩
abbrev main_v41 : Ref sig .tc := ⟨.hbm, 109, rfl⟩
abbrev main_v42 : Ref sig .tc := ⟨.hbm, 110, rfl⟩
abbrev main_cst_15 : Ref sig .tc := ⟨.hbm, 111, rfl⟩
abbrev main_v43 : Ref sig .tc := ⟨.hbm, 112, rfl⟩
abbrev main_v44 : Ref sig .tc := ⟨.hbm, 113, rfl⟩
abbrev main_v45 : Ref sig .tc := ⟨.hbm, 114, rfl⟩
abbrev main_cst_16 : Ref sig .tc := ⟨.hbm, 115, rfl⟩
abbrev main_v46 : Ref sig .tc := ⟨.hbm, 116, rfl⟩
abbrev main_v47 : Ref sig .tc := ⟨.hbm, 117, rfl⟩
abbrev main_cst_17 : Ref sig .tc := ⟨.hbm, 118, rfl⟩
abbrev main_v48 : Ref sig .tc := ⟨.hbm, 119, rfl⟩
abbrev main_v49 : Ref sig .tc := ⟨.hbm, 120, rfl⟩
abbrev main_cst_18 : Ref sig .tc := ⟨.hbm, 121, rfl⟩
abbrev main_v50 : Ref sig .tc := ⟨.hbm, 122, rfl⟩
abbrev main_v51 : Ref sig .tc := ⟨.hbm, 123, rfl⟩
abbrev main_v52 : Ref sig .tc := ⟨.hbm, 124, rfl⟩
abbrev main_cst_19 : Ref sig .tc := ⟨.hbm, 125, rfl⟩
abbrev main_v53 : Ref sig .tc := ⟨.hbm, 126, rfl⟩
abbrev main_v54 : Ref sig .tc := ⟨.hbm, 127, rfl⟩
abbrev main_v55 : Ref sig .tc := ⟨.hbm, 128, rfl⟩
abbrev main_cst_20 : Ref sig .tc := ⟨.hbm, 129, rfl⟩
abbrev main_v56 : Ref sig .tc := ⟨.hbm, 130, rfl⟩
abbrev main_v57 : Ref sig .tc := ⟨.hbm, 131, rfl⟩
abbrev main_v58 : Ref sig .tc := ⟨.hbm, 132, rfl⟩
abbrev main_cst_21 : Ref sig .tc := ⟨.hbm, 133, rfl⟩
abbrev main_v59 : Ref sig .tc := ⟨.hbm, 134, rfl⟩
abbrev main_v60 : Ref sig .tc := ⟨.hbm, 135, rfl⟩
abbrev main_cst_22 : Ref sig .tc := ⟨.hbm, 136, rfl⟩
abbrev main_v61 : Ref sig .tc := ⟨.hbm, 137, rfl⟩
abbrev main_v62 : Ref sig .tc := ⟨.hbm, 138, rfl⟩
abbrev main_v63 : Ref sig .tc := ⟨.hbm, 139, rfl⟩
abbrev main_cst_23 : Ref sig .tc := ⟨.hbm, 140, rfl⟩
abbrev main_v64 : Ref sig .tc := ⟨.hbm, 141, rfl⟩
abbrev main_v65 : Ref sig .tc := ⟨.hbm, 142, rfl⟩
abbrev main_v66 : Ref sig .tc := ⟨.hbm, 143, rfl⟩
abbrev main_cst_24 : Ref sig .tc := ⟨.hbm, 144, rfl⟩
abbrev main_v67 : Ref sig .tc := ⟨.hbm, 145, rfl⟩
abbrev main_v68 : Ref sig .tc := ⟨.hbm, 146, rfl⟩
abbrev main_v69 : Ref sig .tc := ⟨.hbm, 147, rfl⟩
abbrev main_cst_25 : Ref sig .tc := ⟨.hbm, 148, rfl⟩
abbrev main_v70 : Ref sig .tc := ⟨.hbm, 149, rfl⟩
abbrev main_v71 : Ref sig .tc := ⟨.hbm, 150, rfl⟩
abbrev main_cst_26 : Ref sig .tc := ⟨.hbm, 151, rfl⟩
abbrev main_v72 : Ref sig .tc := ⟨.hbm, 152, rfl⟩
abbrev main_v73 : Ref sig .tc := ⟨.hbm, 153, rfl⟩
abbrev main_cst_27 : Ref sig .tc := ⟨.hbm, 154, rfl⟩
abbrev main_v74 : Ref sig .tc := ⟨.hbm, 155, rfl⟩
abbrev main_v75 : Ref sig .tc := ⟨.hbm, 156, rfl⟩
abbrev main_v76 : Ref sig .tc := ⟨.hbm, 157, rfl⟩
abbrev main_cst_28 : Ref sig .tc := ⟨.hbm, 158, rfl⟩
abbrev main_v77 : Ref sig .tc := ⟨.hbm, 159, rfl⟩
abbrev main_v78 : Ref sig .tc := ⟨.hbm, 160, rfl⟩
abbrev main_v79 : Ref sig .tc := ⟨.hbm, 161, rfl⟩
abbrev main_cst_29 : Ref sig .tc := ⟨.hbm, 162, rfl⟩
abbrev main_v80 : Ref sig .tc := ⟨.hbm, 163, rfl⟩
abbrev main_v81 : Ref sig .tc := ⟨.hbm, 164, rfl⟩
abbrev main_v82 : Ref sig .tc := ⟨.hbm, 165, rfl⟩
abbrev main_cst_30 : Ref sig .tc := ⟨.hbm, 166, rfl⟩
abbrev main_v83 : Ref sig .tc := ⟨.hbm, 167, rfl⟩
abbrev main_v84 : Ref sig .tc := ⟨.hbm, 168, rfl⟩
abbrev main_cst_31 : Ref sig .tc := ⟨.hbm, 169, rfl⟩
abbrev main_v85 : Ref sig .tc := ⟨.hbm, 170, rfl⟩
abbrev main_v86 : Ref sig .tc := ⟨.hbm, 171, rfl⟩
abbrev main_v87 : Ref sig .tc := ⟨.hbm, 172, rfl⟩
abbrev main_cst_32 : Ref sig .tc := ⟨.hbm, 173, rfl⟩
abbrev main_v88 : Ref sig .tc := ⟨.hbm, 174, rfl⟩
abbrev main_v89 : Ref sig .tc := ⟨.hbm, 175, rfl⟩
abbrev main_v90 : Ref sig .tc := ⟨.hbm, 176, rfl⟩
abbrev main_cst_33 : Ref sig .tc := ⟨.hbm, 177, rfl⟩
abbrev main_v91 : Ref sig .tc := ⟨.hbm, 178, rfl⟩
abbrev main_v92 : Ref sig .tc := ⟨.hbm, 179, rfl⟩
abbrev main_v93 : Ref sig .tc := ⟨.hbm, 180, rfl⟩
abbrev main_cst_34 : Ref sig .tc := ⟨.hbm, 181, rfl⟩
abbrev main_v94 : Ref sig .tc := ⟨.hbm, 182, rfl⟩
abbrev main_v95 : Ref sig .tc := ⟨.hbm, 183, rfl⟩
abbrev main_cst_35 : Ref sig .tc := ⟨.hbm, 184, rfl⟩
abbrev main_v96 : Ref sig .tc := ⟨.hbm, 185, rfl⟩
abbrev main_v97 : Ref sig .tc := ⟨.hbm, 186, rfl⟩
abbrev main_cst_36 : Ref sig .tc := ⟨.hbm, 187, rfl⟩
abbrev main_v98 : Ref sig .tc := ⟨.hbm, 188, rfl⟩
abbrev main_v99 : Ref sig .tc := ⟨.hbm, 189, rfl⟩
abbrev main_v100 : Ref sig .tc := ⟨.hbm, 190, rfl⟩
abbrev main_cst_37 : Ref sig .tc := ⟨.hbm, 191, rfl⟩
abbrev main_v101 : Ref sig .tc := ⟨.hbm, 192, rfl⟩
abbrev main_v102 : Ref sig .tc := ⟨.hbm, 193, rfl⟩
abbrev main_v103 : Ref sig .tc := ⟨.hbm, 194, rfl⟩
abbrev main_cst_38 : Ref sig .tc := ⟨.hbm, 195, rfl⟩
abbrev main_v104 : Ref sig .tc := ⟨.hbm, 196, rfl⟩
abbrev main_v105 : Ref sig .tc := ⟨.hbm, 197, rfl⟩
abbrev main_v106 : Ref sig .tc := ⟨.hbm, 198, rfl⟩
abbrev main_cst_39 : Ref sig .tc := ⟨.hbm, 199, rfl⟩
abbrev main_v107 : Ref sig .tc := ⟨.hbm, 200, rfl⟩
abbrev main_v108 : Ref sig .tc := ⟨.hbm, 201, rfl⟩
abbrev main_cst_40 : Ref sig .tc := ⟨.hbm, 202, rfl⟩
abbrev main_v109 : Ref sig .tc := ⟨.hbm, 203, rfl⟩
abbrev main_v110 : Ref sig .tc := ⟨.hbm, 204, rfl⟩
abbrev main_v111 : Ref sig .tc := ⟨.hbm, 205, rfl⟩
abbrev main_cst_41 : Ref sig .tc := ⟨.hbm, 206, rfl⟩
abbrev main_v112 : Ref sig .tc := ⟨.hbm, 207, rfl⟩
abbrev main_v113 : Ref sig .tc := ⟨.hbm, 208, rfl⟩
abbrev main_v114 : Ref sig .tc := ⟨.hbm, 209, rfl⟩
abbrev main_cst_42 : Ref sig .tc := ⟨.hbm, 210, rfl⟩
abbrev main_v115 : Ref sig .tc := ⟨.hbm, 211, rfl⟩
abbrev main_v116 : Ref sig .tc := ⟨.hbm, 212, rfl⟩
abbrev main_v117 : Ref sig .tc := ⟨.hbm, 213, rfl⟩
abbrev main_cst_43 : Ref sig .tc := ⟨.hbm, 214, rfl⟩
abbrev main_v118 : Ref sig .tc := ⟨.hbm, 215, rfl⟩
abbrev main_v119 : Ref sig .tc := ⟨.hbm, 216, rfl⟩
abbrev main_cst_44 : Ref sig .tc := ⟨.hbm, 217, rfl⟩
abbrev main_v120 : Ref sig .tc := ⟨.hbm, 218, rfl⟩
abbrev main_v121 : Ref sig .tc := ⟨.hbm, 219, rfl⟩
abbrev main_cst_45 : Ref sig .tc := ⟨.hbm, 220, rfl⟩
abbrev main_v122 : Ref sig .tc := ⟨.hbm, 221, rfl⟩
abbrev main_v123 : Ref sig .tc := ⟨.hbm, 222, rfl⟩
abbrev main_v124 : Ref sig .tc := ⟨.hbm, 223, rfl⟩
abbrev main_cst_46 : Ref sig .tc := ⟨.hbm, 224, rfl⟩
abbrev main_v125 : Ref sig .tc := ⟨.hbm, 225, rfl⟩
abbrev main_v126 : Ref sig .tc := ⟨.hbm, 226, rfl⟩
abbrev main_v127 : Ref sig .tc := ⟨.hbm, 227, rfl⟩
abbrev main_cst_47 : Ref sig .tc := ⟨.hbm, 228, rfl⟩
abbrev main_v128 : Ref sig .tc := ⟨.hbm, 229, rfl⟩
abbrev main_v129 : Ref sig .tc := ⟨.hbm, 230, rfl⟩
abbrev main_v130 : Ref sig .tc := ⟨.hbm, 231, rfl⟩
abbrev main_cst_48 : Ref sig .tc := ⟨.hbm, 232, rfl⟩
abbrev main_v131 : Ref sig .tc := ⟨.hbm, 233, rfl⟩
abbrev main_v132 : Ref sig .tc := ⟨.hbm, 234, rfl⟩
abbrev main_cst_49 : Ref sig .tc := ⟨.hbm, 235, rfl⟩
abbrev main_v133 : Ref sig .tc := ⟨.hbm, 236, rfl⟩
abbrev main_v134 : Ref sig .tc := ⟨.hbm, 237, rfl⟩
abbrev main_v135 : Ref sig .tc := ⟨.hbm, 238, rfl⟩
abbrev main_cst_50 : Ref sig .tc := ⟨.hbm, 239, rfl⟩
abbrev main_v136 : Ref sig .tc := ⟨.hbm, 240, rfl⟩
abbrev main_v137 : Ref sig .tc := ⟨.hbm, 241, rfl⟩
abbrev main_v138 : Ref sig .tc := ⟨.hbm, 242, rfl⟩
abbrev main_cst_51 : Ref sig .tc := ⟨.hbm, 243, rfl⟩
abbrev main_v139 : Ref sig .tc := ⟨.hbm, 244, rfl⟩
abbrev main_v140 : Ref sig .tc := ⟨.hbm, 245, rfl⟩
abbrev main_v141 : Ref sig .tc := ⟨.hbm, 246, rfl⟩
abbrev main_cst_52 : Ref sig .tc := ⟨.hbm, 247, rfl⟩
abbrev main_v142 : Ref sig .tc := ⟨.hbm, 248, rfl⟩
abbrev main_v143 : Ref sig .tc := ⟨.hbm, 249, rfl⟩
abbrev main_cst_53 : Ref sig .tc := ⟨.hbm, 250, rfl⟩
abbrev main_v144 : Ref sig .tc := ⟨.hbm, 251, rfl⟩
abbrev main_v145 : Ref sig .tc := ⟨.hbm, 252, rfl⟩
abbrev main_cst_54 : Ref sig .tc := ⟨.hbm, 253, rfl⟩
abbrev main_v146 : Ref sig .tc := ⟨.hbm, 254, rfl⟩
abbrev main_v147 : Ref sig .tc := ⟨.hbm, 255, rfl⟩
abbrev main_v148 : Ref sig .tc := ⟨.hbm, 256, rfl⟩
abbrev main_cst_55 : Ref sig .tc := ⟨.hbm, 257, rfl⟩
abbrev main_v149 : Ref sig .tc := ⟨.hbm, 258, rfl⟩
abbrev main_v150 : Ref sig .tc := ⟨.hbm, 259, rfl⟩
abbrev main_v151 : Ref sig .tc := ⟨.hbm, 260, rfl⟩
abbrev main_cst_56 : Ref sig .tc := ⟨.hbm, 261, rfl⟩
abbrev main_v152 : Ref sig .tc := ⟨.hbm, 262, rfl⟩
abbrev main_v153 : Ref sig .tc := ⟨.hbm, 263, rfl⟩
abbrev main_v154 : Ref sig .tc := ⟨.hbm, 264, rfl⟩
abbrev main_cst_57 : Ref sig .tc := ⟨.hbm, 265, rfl⟩
abbrev main_v155 : Ref sig .tc := ⟨.hbm, 266, rfl⟩
abbrev main_v156 : Ref sig .tc := ⟨.hbm, 267, rfl⟩
abbrev main_cst_58 : Ref sig .tc := ⟨.hbm, 268, rfl⟩
abbrev main_v157 : Ref sig .tc := ⟨.hbm, 269, rfl⟩
abbrev main_v158 : Ref sig .tc := ⟨.hbm, 270, rfl⟩
abbrev main_v159 : Ref sig .tc := ⟨.hbm, 271, rfl⟩
abbrev main_cst_59 : Ref sig .tc := ⟨.hbm, 272, rfl⟩
abbrev main_v160 : Ref sig .tc := ⟨.hbm, 273, rfl⟩
abbrev main_v161 : Ref sig .tc := ⟨.hbm, 274, rfl⟩
abbrev main_v162 : Ref sig .tc := ⟨.hbm, 275, rfl⟩
abbrev main_cst_60 : Ref sig .tc := ⟨.hbm, 276, rfl⟩
abbrev main_v163 : Ref sig .tc := ⟨.hbm, 277, rfl⟩
abbrev main_v164 : Ref sig .tc := ⟨.hbm, 278, rfl⟩
abbrev main_v165 : Ref sig .tc := ⟨.hbm, 279, rfl⟩
abbrev main_cst_61 : Ref sig .tc := ⟨.hbm, 280, rfl⟩
abbrev main_v166 : Ref sig .tc := ⟨.hbm, 281, rfl⟩
abbrev main_v167 : Ref sig .tc := ⟨.hbm, 282, rfl⟩
abbrev main_cst_62 : Ref sig .tc := ⟨.hbm, 283, rfl⟩
abbrev main_v168 : Ref sig .tc := ⟨.hbm, 284, rfl⟩
abbrev main_v169 : Ref sig .tc := ⟨.hbm, 285, rfl⟩
abbrev main_cst_63 : Ref sig .tc := ⟨.hbm, 286, rfl⟩
abbrev main_v170 : Ref sig .tc := ⟨.hbm, 287, rfl⟩
abbrev main_v171 : Ref sig .tc := ⟨.hbm, 288, rfl⟩
abbrev main_v172 : Ref sig .tc := ⟨.hbm, 289, rfl⟩
abbrev main_cst_64 : Ref sig .tc := ⟨.hbm, 290, rfl⟩
abbrev main_v173 : Ref sig .tc := ⟨.hbm, 291, rfl⟩
abbrev main_v174 : Ref sig .tc := ⟨.hbm, 292, rfl⟩
abbrev main_v175 : Ref sig .tc := ⟨.hbm, 293, rfl⟩
abbrev main_cst_65 : Ref sig .tc := ⟨.hbm, 294, rfl⟩
abbrev main_v176 : Ref sig .tc := ⟨.hbm, 295, rfl⟩
abbrev main_v177 : Ref sig .tc := ⟨.hbm, 296, rfl⟩
abbrev main_v178 : Ref sig .tc := ⟨.hbm, 297, rfl⟩
abbrev main_cst_66 : Ref sig .tc := ⟨.hbm, 298, rfl⟩
abbrev main_v179 : Ref sig .tc := ⟨.hbm, 299, rfl⟩
abbrev main_v180 : Ref sig .tc := ⟨.hbm, 300, rfl⟩
abbrev main_cst_67 : Ref sig .tc := ⟨.hbm, 301, rfl⟩
abbrev main_v181 : Ref sig .tc := ⟨.hbm, 302, rfl⟩
abbrev main_v182 : Ref sig .tc := ⟨.hbm, 303, rfl⟩
abbrev main_v183 : Ref sig .tc := ⟨.hbm, 304, rfl⟩
abbrev main_cst_68 : Ref sig .tc := ⟨.hbm, 305, rfl⟩
abbrev main_v184 : Ref sig .tc := ⟨.hbm, 306, rfl⟩
abbrev main_v185 : Ref sig .tc := ⟨.hbm, 307, rfl⟩
abbrev main_v186 : Ref sig .tc := ⟨.hbm, 308, rfl⟩
abbrev main_cst_69 : Ref sig .tc := ⟨.hbm, 309, rfl⟩
abbrev main_v187 : Ref sig .tc := ⟨.hbm, 310, rfl⟩
abbrev main_v188 : Ref sig .tc := ⟨.hbm, 311, rfl⟩
abbrev main_v189 : Ref sig .tc := ⟨.hbm, 312, rfl⟩
abbrev main_cst_70 : Ref sig .tc := ⟨.hbm, 313, rfl⟩
abbrev main_v190 : Ref sig .tc := ⟨.hbm, 314, rfl⟩
abbrev main_v191 : Ref sig .tc := ⟨.hbm, 315, rfl⟩
abbrev main_cst_71 : Ref sig .tc := ⟨.hbm, 316, rfl⟩
abbrev main_v192 : Ref sig .tc := ⟨.hbm, 317, rfl⟩
abbrev main_v193 : Ref sig .tc := ⟨.hbm, 318, rfl⟩
abbrev main_cst_72 : Ref sig .tc := ⟨.hbm, 319, rfl⟩
abbrev main_v194 : Ref sig .tc := ⟨.hbm, 320, rfl⟩
abbrev main_v195 : Ref sig .tc := ⟨.hbm, 321, rfl⟩
abbrev main_v196 : Ref sig .tc := ⟨.hbm, 322, rfl⟩
abbrev main_cst_73 : Ref sig .tc := ⟨.hbm, 323, rfl⟩
abbrev main_v197 : Ref sig .tc := ⟨.hbm, 324, rfl⟩
abbrev main_v198 : Ref sig .tc := ⟨.hbm, 325, rfl⟩
abbrev main_v199 : Ref sig .tc := ⟨.hbm, 326, rfl⟩
abbrev main_cst_74 : Ref sig .tc := ⟨.hbm, 327, rfl⟩
abbrev main_v200 : Ref sig .tc := ⟨.hbm, 328, rfl⟩
abbrev main_v201 : Ref sig .tc := ⟨.hbm, 329, rfl⟩
abbrev main_v202 : Ref sig .tc := ⟨.hbm, 330, rfl⟩
abbrev main_cst_75 : Ref sig .tc := ⟨.hbm, 331, rfl⟩
abbrev main_v203 : Ref sig .tc := ⟨.hbm, 332, rfl⟩
abbrev main_v204 : Ref sig .tc := ⟨.hbm, 333, rfl⟩
abbrev main_cst_76 : Ref sig .tc := ⟨.hbm, 334, rfl⟩
abbrev main_v205 : Ref sig .tc := ⟨.hbm, 335, rfl⟩
abbrev main_v206 : Ref sig .tc := ⟨.hbm, 336, rfl⟩
abbrev main_v207 : Ref sig .tc := ⟨.hbm, 337, rfl⟩
abbrev main_cst_77 : Ref sig .tc := ⟨.hbm, 338, rfl⟩
abbrev main_v208 : Ref sig .tc := ⟨.hbm, 339, rfl⟩
abbrev main_v209 : Ref sig .tc := ⟨.hbm, 340, rfl⟩
abbrev main_v210 : Ref sig .tc := ⟨.hbm, 341, rfl⟩
abbrev main_cst_78 : Ref sig .tc := ⟨.hbm, 342, rfl⟩
abbrev main_v211 : Ref sig .tc := ⟨.hbm, 343, rfl⟩
abbrev main_v212 : Ref sig .tc := ⟨.hbm, 344, rfl⟩
abbrev main_v213 : Ref sig .tc := ⟨.hbm, 345, rfl⟩
abbrev main_cst_79 : Ref sig .tc := ⟨.hbm, 346, rfl⟩
abbrev main_v214 : Ref sig .tc := ⟨.hbm, 347, rfl⟩
abbrev main_v215 : Ref sig .tc := ⟨.hbm, 348, rfl⟩
abbrev main_cst_80 : Ref sig .tc := ⟨.hbm, 349, rfl⟩
abbrev main_v216 : Ref sig .tc := ⟨.hbm, 350, rfl⟩
abbrev main_v217 : Ref sig .tc := ⟨.hbm, 351, rfl⟩
abbrev main_cst_81 : Ref sig .tc := ⟨.hbm, 352, rfl⟩
abbrev main_v218 : Ref sig .tc := ⟨.hbm, 353, rfl⟩
abbrev main_v219 : Ref sig .tc := ⟨.hbm, 354, rfl⟩
abbrev main_v220 : Ref sig .tc := ⟨.hbm, 355, rfl⟩
abbrev main_cst_82 : Ref sig .tc := ⟨.hbm, 356, rfl⟩
abbrev main_v221 : Ref sig .tc := ⟨.hbm, 357, rfl⟩
abbrev main_v222 : Ref sig .tc := ⟨.hbm, 358, rfl⟩
abbrev main_v223 : Ref sig .tc := ⟨.hbm, 359, rfl⟩
abbrev main_cst_83 : Ref sig .tc := ⟨.hbm, 360, rfl⟩
abbrev main_v224 : Ref sig .tc := ⟨.hbm, 361, rfl⟩
abbrev main_v225 : Ref sig .tc := ⟨.hbm, 362, rfl⟩
abbrev main_v226 : Ref sig .tc := ⟨.hbm, 363, rfl⟩
abbrev main_cst_84 : Ref sig .tc := ⟨.hbm, 364, rfl⟩
abbrev main_v227 : Ref sig .tc := ⟨.hbm, 365, rfl⟩
abbrev main_v228 : Ref sig .tc := ⟨.hbm, 366, rfl⟩
abbrev main_cst_85 : Ref sig .tc := ⟨.hbm, 367, rfl⟩
abbrev main_v229 : Ref sig .tc := ⟨.hbm, 368, rfl⟩
abbrev main_v230 : Ref sig .tc := ⟨.hbm, 369, rfl⟩
abbrev main_v231 : Ref sig .tc := ⟨.hbm, 370, rfl⟩
abbrev main_cst_86 : Ref sig .tc := ⟨.hbm, 371, rfl⟩
abbrev main_v232 : Ref sig .tc := ⟨.hbm, 372, rfl⟩
abbrev main_v233 : Ref sig .tc := ⟨.hbm, 373, rfl⟩
abbrev main_v234 : Ref sig .tc := ⟨.hbm, 374, rfl⟩
abbrev main_cst_87 : Ref sig .tc := ⟨.hbm, 375, rfl⟩
abbrev main_v235 : Ref sig .tc := ⟨.hbm, 376, rfl⟩
abbrev main_v236 : Ref sig .tc := ⟨.hbm, 377, rfl⟩
abbrev main_v237 : Ref sig .tc := ⟨.hbm, 378, rfl⟩
abbrev main_cst_88 : Ref sig .tc := ⟨.hbm, 379, rfl⟩
abbrev main_v238 : Ref sig .tc := ⟨.hbm, 380, rfl⟩
abbrev main_v239 : Ref sig .tc := ⟨.hbm, 381, rfl⟩
abbrev main_cst_89 : Ref sig .tc := ⟨.hbm, 382, rfl⟩
abbrev main_v240 : Ref sig .tc := ⟨.hbm, 383, rfl⟩
abbrev main_v241 : Ref sig .tc := ⟨.hbm, 384, rfl⟩
abbrev main_cst_90 : Ref sig .tc := ⟨.hbm, 385, rfl⟩
abbrev main_v242 : Ref sig .tc := ⟨.hbm, 386, rfl⟩
abbrev main_v243 : Ref sig .tc := ⟨.hbm, 387, rfl⟩
abbrev main_v244 : Ref sig .tc := ⟨.hbm, 388, rfl⟩
abbrev main_cst_91 : Ref sig .tc := ⟨.hbm, 389, rfl⟩
abbrev main_v245 : Ref sig .tc := ⟨.hbm, 390, rfl⟩
abbrev main_v246 : Ref sig .tc := ⟨.hbm, 391, rfl⟩
abbrev main_v247 : Ref sig .tc := ⟨.hbm, 392, rfl⟩
abbrev main_cst_92 : Ref sig .tc := ⟨.hbm, 393, rfl⟩
abbrev main_v248 : Ref sig .tc := ⟨.hbm, 394, rfl⟩
abbrev main_v249 : Ref sig .tc := ⟨.hbm, 395, rfl⟩
abbrev main_v250 : Ref sig .tc := ⟨.hbm, 396, rfl⟩
abbrev main_cst_93 : Ref sig .tc := ⟨.hbm, 397, rfl⟩
abbrev main_v251 : Ref sig .tc := ⟨.hbm, 398, rfl⟩
abbrev main_v252 : Ref sig .tc := ⟨.hbm, 399, rfl⟩
abbrev main_cst_94 : Ref sig .tc := ⟨.hbm, 400, rfl⟩
abbrev main_v253 : Ref sig .tc := ⟨.hbm, 401, rfl⟩
abbrev main_v254 : Ref sig .tc := ⟨.hbm, 402, rfl⟩
abbrev main_v255 : Ref sig .tc := ⟨.hbm, 403, rfl⟩
abbrev main_cst_95 : Ref sig .tc := ⟨.hbm, 404, rfl⟩
abbrev main_v256 : Ref sig .tc := ⟨.hbm, 405, rfl⟩
abbrev main_v257 : Ref sig .tc := ⟨.hbm, 406, rfl⟩
abbrev main_v258 : Ref sig .tc := ⟨.hbm, 407, rfl⟩
abbrev main_cst_96 : Ref sig .tc := ⟨.hbm, 408, rfl⟩
abbrev main_v259 : Ref sig .tc := ⟨.hbm, 409, rfl⟩
abbrev main_v260 : Ref sig .tc := ⟨.hbm, 410, rfl⟩
abbrev main_v261 : Ref sig .tc := ⟨.hbm, 411, rfl⟩
abbrev main_cst_97 : Ref sig .tc := ⟨.hbm, 412, rfl⟩
abbrev main_v262 : Ref sig .tc := ⟨.hbm, 413, rfl⟩
abbrev main_v263 : Ref sig .tc := ⟨.hbm, 414, rfl⟩
abbrev main_cst_98 : Ref sig .tc := ⟨.hbm, 415, rfl⟩
abbrev main_v264 : Ref sig .tc := ⟨.hbm, 416, rfl⟩
abbrev main_v265 : Ref sig .tc := ⟨.hbm, 417, rfl⟩
abbrev main_cst_99 : Ref sig .tc := ⟨.hbm, 418, rfl⟩
abbrev main_v266 : Ref sig .tc := ⟨.hbm, 419, rfl⟩
abbrev main_v267 : Ref sig .tc := ⟨.hbm, 420, rfl⟩
abbrev main_v268 : Ref sig .tc := ⟨.hbm, 421, rfl⟩
abbrev main_cst_100 : Ref sig .tc := ⟨.hbm, 422, rfl⟩
abbrev main_v269 : Ref sig .tc := ⟨.hbm, 423, rfl⟩
abbrev main_v270 : Ref sig .tc := ⟨.hbm, 424, rfl⟩
abbrev main_v271 : Ref sig .tc := ⟨.hbm, 425, rfl⟩
abbrev main_cst_101 : Ref sig .tc := ⟨.hbm, 426, rfl⟩
abbrev main_v272 : Ref sig .tc := ⟨.hbm, 427, rfl⟩
abbrev main_v273 : Ref sig .tc := ⟨.hbm, 428, rfl⟩
abbrev main_v274 : Ref sig .tc := ⟨.hbm, 429, rfl⟩
abbrev main_cst_102 : Ref sig .tc := ⟨.hbm, 430, rfl⟩
abbrev main_v275 : Ref sig .tc := ⟨.hbm, 431, rfl⟩
abbrev main_v276 : Ref sig .tc := ⟨.hbm, 432, rfl⟩
abbrev main_cst_103 : Ref sig .tc := ⟨.hbm, 433, rfl⟩
abbrev main_v277 : Ref sig .tc := ⟨.hbm, 434, rfl⟩
abbrev main_v278 : Ref sig .tc := ⟨.hbm, 435, rfl⟩
abbrev main_v279 : Ref sig .tc := ⟨.hbm, 436, rfl⟩
abbrev main_cst_104 : Ref sig .tc := ⟨.hbm, 437, rfl⟩
abbrev main_v280 : Ref sig .tc := ⟨.hbm, 438, rfl⟩
abbrev main_v281 : Ref sig .tc := ⟨.hbm, 439, rfl⟩
abbrev main_v282 : Ref sig .tc := ⟨.hbm, 440, rfl⟩
abbrev main_cst_105 : Ref sig .tc := ⟨.hbm, 441, rfl⟩
abbrev main_v283 : Ref sig .tc := ⟨.hbm, 442, rfl⟩
abbrev main_v284 : Ref sig .tc := ⟨.hbm, 443, rfl⟩
abbrev main_v285 : Ref sig .tc := ⟨.hbm, 444, rfl⟩
abbrev main_cst_106 : Ref sig .tc := ⟨.hbm, 445, rfl⟩
abbrev main_v286 : Ref sig .tc := ⟨.hbm, 446, rfl⟩
abbrev main_v287 : Ref sig .tc := ⟨.hbm, 447, rfl⟩
abbrev main_cst_107 : Ref sig .tc := ⟨.hbm, 448, rfl⟩
abbrev main_v288 : Ref sig .tc := ⟨.hbm, 449, rfl⟩
abbrev main_v289 : Ref sig .tc := ⟨.hbm, 450, rfl⟩
abbrev main_cst_108 : Ref sig .tc := ⟨.hbm, 451, rfl⟩
abbrev main_v290 : Ref sig .tc := ⟨.hbm, 452, rfl⟩
abbrev main_v291 : Ref sig .tc := ⟨.hbm, 453, rfl⟩
abbrev main_v292 : Ref sig .tc := ⟨.hbm, 454, rfl⟩
abbrev main_cst_109 : Ref sig .tc := ⟨.hbm, 455, rfl⟩
abbrev main_v293 : Ref sig .tc := ⟨.hbm, 456, rfl⟩
abbrev main_v294 : Ref sig .tc := ⟨.hbm, 457, rfl⟩
abbrev main_v295 : Ref sig .tc := ⟨.hbm, 458, rfl⟩
abbrev main_cst_110 : Ref sig .tc := ⟨.hbm, 459, rfl⟩
abbrev main_v296 : Ref sig .tc := ⟨.hbm, 460, rfl⟩
abbrev main_v297 : Ref sig .tc := ⟨.hbm, 461, rfl⟩
abbrev main_v298 : Ref sig .tc := ⟨.hbm, 462, rfl⟩
abbrev main_cst_111 : Ref sig .tc := ⟨.hbm, 463, rfl⟩
abbrev main_v299 : Ref sig .tc := ⟨.hbm, 464, rfl⟩
abbrev main_v300 : Ref sig .tc := ⟨.hbm, 465, rfl⟩
abbrev main_cst_112 : Ref sig .tc := ⟨.hbm, 466, rfl⟩
abbrev main_v301 : Ref sig .tc := ⟨.hbm, 467, rfl⟩
abbrev main_v302 : Ref sig .tc := ⟨.hbm, 468, rfl⟩
abbrev main_v303 : Ref sig .tc := ⟨.hbm, 469, rfl⟩
abbrev main_cst_113 : Ref sig .tc := ⟨.hbm, 470, rfl⟩
abbrev main_v304 : Ref sig .tc := ⟨.hbm, 471, rfl⟩
abbrev main_v305 : Ref sig .tc := ⟨.hbm, 472, rfl⟩
abbrev main_v306 : Ref sig .tc := ⟨.hbm, 473, rfl⟩
abbrev main_cst_114 : Ref sig .tc := ⟨.hbm, 474, rfl⟩
abbrev main_v307 : Ref sig .tc := ⟨.hbm, 475, rfl⟩
abbrev main_v308 : Ref sig .tc := ⟨.hbm, 476, rfl⟩
abbrev main_v309 : Ref sig .tc := ⟨.hbm, 477, rfl⟩
abbrev main_cst_115 : Ref sig .tc := ⟨.hbm, 478, rfl⟩
abbrev main_v310 : Ref sig .tc := ⟨.hbm, 479, rfl⟩
abbrev main_v311 : Ref sig .tc := ⟨.hbm, 480, rfl⟩

abbrev nD : Nat := 1
abbrev τ : Topo := Topo.v7x

variable {F : FTy → Type} [FloatOps F]
-- ==== Kernel12.lean ====
abbrev S16400x1024 : Shape := ⟨2, ![16400, 1024]⟩
abbrev S_ : Shape := ⟨0, ![]⟩
abbrev S16896x1024 : Shape := ⟨2, ![16896, 1024]⟩
abbrev S1024x1024 : Shape := ⟨2, ![1024, 1024]⟩
abbrev S1536x1024 : Shape := ⟨2, ![1536, 1024]⟩

abbrev nBuf : Space → Nat
  | .hbm => 11
  | .vmem => 5
  | .smem => 0
  | _ => 0

abbrev bufTy : (tb : Table) → Fin (tcTables nBuf tb) → BufTy
  | .hbm, ⟨0, _⟩ => ⟨S16400x1024, .f32⟩
  | .hbm, ⟨1, _⟩ => ⟨S16400x1024, .f32⟩
  | .hbm, ⟨2, _⟩ => ⟨S_, .i32⟩
  | .hbm, ⟨3, _⟩ => ⟨S_, .f32⟩
  | .hbm, ⟨4, _⟩ => ⟨S16896x1024, .f32⟩
  | .hbm, ⟨5, _⟩ => ⟨S16896x1024, .bf16⟩
  | .hbm, ⟨6, _⟩ => ⟨S_, .i32⟩
  | .hbm, ⟨7, _⟩ => ⟨S_, .f32⟩
  | .hbm, ⟨8, _⟩ => ⟨S16896x1024, .f32⟩
  | .hbm, ⟨9, _⟩ => ⟨S16896x1024, .bf16⟩
  | .hbm, ⟨10, _⟩ => ⟨S1024x1024, .f32⟩
  | .local _ .vmem, ⟨0, _⟩ => ⟨S1536x1024, .bf16⟩
  | .local _ .vmem, ⟨1, _⟩ => ⟨S1536x1024, .bf16⟩
  | .local _ .vmem, ⟨2, _⟩ => ⟨S1536x1024, .bf16⟩
  | .local _ .vmem, ⟨3, _⟩ => ⟨S1536x1024, .bf16⟩
  | .local _ .vmem, ⟨4, _⟩ => ⟨S1024x1024, .f32⟩
  | _, _ => ⟨S16400x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_call1_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 11], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference12Ideal.lean ====
abbrev S16400x1024 : Shape := ⟨2, ![16400, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16400x1024, .f32⟩
  | .hbm, ⟨1, _⟩ => ⟨S16400x1024, .f32⟩
  | .hbm, ⟨2, _⟩ => ⟨S_, .f32⟩
  | .hbm, ⟨3, _⟩ => ⟨S1024x1024, .f32⟩
  | .hbm, ⟨4, _⟩ => ⟨S16400x1024, .f32⟩
  | .hbm, ⟨5, _⟩ => ⟨S1024x1024, .f32⟩
  | .hbm, ⟨6, _⟩ => ⟨S1024x1024, .f32⟩
  | _, _ => ⟨S16400x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel13.lean ====
abbrev S2048x1024 : Shape := ⟨2, ![2048, 1024]⟩
abbrev S16896x1024 : Shape := ⟨2, ![16896, 1024]⟩
abbrev S16896x2048 : Shape := ⟨2, ![16896, 2048]⟩
abbrev S768x1024 : Shape := ⟨2, ![768, 1024]⟩
abbrev S768x2048 : Shape := ⟨2, ![768, 2048]⟩

abbrev nBuf : Space → Nat
  | .hbm => 6
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S16896x1024, .f32⟩
  | .hbm, ⟨2, _⟩ => ⟨S16896x1024, .bf16⟩
  | .hbm, ⟨3, _⟩ => ⟨S2048x1024, .bf16⟩
  | .hbm, ⟨4, _⟩ => ⟨S16896x2048, .f32⟩
  | .hbm, ⟨5, _⟩ => ⟨S16896x2048, .bf16⟩
  | .local _ .vmem, ⟨0, _⟩ => ⟨S768x1024, .bf16⟩
  | .local _ .vmem, ⟨1, _⟩ => ⟨S768x1024, .bf16⟩
  | .local _ .vmem, ⟨2, _⟩ => ⟨S2048x1024, .bf16⟩
  | .local _ .vmem, ⟨3, _⟩ => ⟨S768x2048, .f32⟩
  | .local _ .vmem, ⟨4, _⟩ => ⟨S768x2048, .f32⟩
  | .local _ .vmem, ⟨5, _⟩ => ⟨S768x2048, .bf16⟩
  | .local _ .vmem, ⟨6, _⟩ => ⟨S768x2048, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S768x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S768x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference13Ideal.lean ====
abbrev S2048x1024 : Shape := ⟨2, ![2048, 1024]⟩
abbrev S16896x1024 : Shape := ⟨2, ![16896, 1024]⟩
abbrev S_ : Shape := ⟨0, ![]⟩
abbrev S16896x2048 : Shape := ⟨2, ![16896, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S16896x1024, .f32⟩
  | .hbm, ⟨2, _⟩ => ⟨S_, .f32⟩
  | .hbm, ⟨3, _⟩ => ⟨S16896x2048, .f32⟩
  | .hbm, ⟨4, _⟩ => ⟨S16896x1024, .f32⟩
  | .hbm, ⟨5, _⟩ => ⟨S16896x2048, .f32⟩
  | .hbm, ⟨6, _⟩ => ⟨S16896x2048, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel14.lean ====
abbrev S16400x1024 : Shape := ⟨2, ![16400, 1024]⟩
abbrev S16400x3584 : Shape := ⟨2, ![16400, 3584]⟩
abbrev S_ : Shape := ⟨0, ![]⟩
abbrev S16896x1024 : Shape := ⟨2, ![16896, 1024]⟩
abbrev S16896x3584 : Shape := ⟨2, ![16896, 3584]⟩
abbrev S1024x3584 : Shape := ⟨2, ![1024, 3584]⟩
abbrev S1536x1024 : Shape := ⟨2, ![1536, 1024]⟩
abbrev S1536x896 : Shape := ⟨2, ![1536, 896]⟩
abbrev S1024x896 : Shape := ⟨2, ![1024, 896]⟩

abbrev nBuf : Space → Nat
  | .hbm => 11
  | .vmem => 6
  | .smem => 0
  | _ => 0

abbrev bufTy : (tb : Table) → Fin (tcTables nBuf tb) → BufTy
  | .hbm, ⟨0, _⟩ => ⟨S16400x1024, .f32⟩
  | .hbm, ⟨1, _⟩ => ⟨S16400x3584, .f32⟩
  | .hbm, ⟨2, _⟩ => ⟨S_, .i32⟩
  | .hbm, ⟨3, _⟩ => ⟨S_, .f32⟩
  | .hbm, ⟨4, _⟩ => ⟨S16896x1024, .f32⟩
  | .hbm, ⟨5, _⟩ => ⟨S16896x1024, .bf16⟩
  | .hbm, ⟨6, _⟩ => ⟨S_, .i32⟩
  | .hbm, ⟨7, _⟩ => ⟨S_, .f32⟩
  | .hbm, ⟨8, _⟩ => ⟨S16896x3584, .f32⟩
  | .hbm, ⟨9, _⟩ => ⟨S16896x3584, .bf16⟩
  | .hbm, ⟨10, _⟩ => ⟨S1024x3584, .f32⟩
  | .local _ .vmem, ⟨0, _⟩ => ⟨S1536x1024, .bf16⟩
  | .local _ .vmem, ⟨1, _⟩ => ⟨S1536x1024, .bf16⟩
  | .local _ .vmem, ⟨2, _⟩ => ⟨S1536x896, .bf16⟩
  | .local _ .vmem, ⟨3, _⟩ => ⟨S1536x896, .bf16⟩
  | .local _ .vmem, ⟨4, _⟩ => ⟨S1024x896, .f32⟩
  | .local _ .vmem, ⟨5, _⟩ => ⟨S1024x896, .f32⟩
  | _, _ => ⟨S16400x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_call1_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 11], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S16400x1024 : Shape := ⟨2, ![16400, 1024]⟩
abbrev S16400x3584 : Shape := ⟨2, ![16400, 3584]⟩
abbrev S_ : Shape := ⟨0, ![]⟩
abbrev S1024x3584 : Shape := ⟨2, ![1024, 3584]⟩
abbrev S3584x1024 : Shape := ⟨2, ![3584, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16400x1024, .f32⟩
  | .hbm, ⟨1, _⟩ => ⟨S16400x3584, .f32⟩
  | .hbm, ⟨2, _⟩ => ⟨S_, .f32⟩
  | .hbm, ⟨3, _⟩ => ⟨S1024x3584, .f32⟩
  | .hbm, ⟨4, _⟩ => ⟨S16400x3584, .f32⟩
  | .hbm, ⟨5, _⟩ => ⟨S3584x1024, .f32⟩
  | .hbm, ⟨6, _⟩ => ⟨S1024x3584, .f32⟩
  | _, _ => ⟨S16400x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel15.lean ====
abbrev S1024x3584 : Shape := ⟨2, ![1024, 3584]⟩
abbrev S16896x3584 : Shape := ⟨2, ![16896, 3584]⟩
abbrev S16896x1024 : Shape := ⟨2, ![16896, 1024]⟩
abbrev S768x3584 : Shape := ⟨2, ![768, 3584]⟩
abbrev S768x1024 : Shape := ⟨2, ![768, 1024]⟩

abbrev nBuf : Space → Nat
  | .hbm => 5
  | .vmem => 5
  | .smem => 0
  | _ => 0

abbrev bufTy : (tb : Table) → Fin (tcTables nBuf tb) → BufTy
  | .hbm, ⟨0, _⟩ => ⟨S1024x3584, .f32⟩
  | .hbm, ⟨1, _⟩ => ⟨S16896x3584, .f32⟩
  | .hbm, ⟨2, _⟩ => ⟨S16896x3584, .bf16⟩
  | .hbm, ⟨3, _⟩ => ⟨S1024x3584, .bf16⟩
  | .hbm, ⟨4, _⟩ => ⟨S16896x1024, .f32⟩
  | .local _ .vmem, ⟨0, _⟩ => ⟨S768x3584, .bf16⟩
  | .local _ .vmem, ⟨1, _⟩ => ⟨S768x3584, .bf16⟩
  | .local _ .vmem, ⟨2, _⟩ => ⟨S1024x3584, .bf16⟩
  | .local _ .vmem, ⟨3, _⟩ => ⟨S768x1024, .f32⟩
  | .local _ .vmem, ⟨4, _⟩ => ⟨S768x1024, .f32⟩
  | _, _ => ⟨S1024x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S768x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference15Ideal.lean ====
abbrev S1024x3584 : Shape := ⟨2, ![1024, 3584]⟩
abbrev S16896x3584 : Shape := ⟨2, ![16896, 3584]⟩
abbrev S_ : Shape := ⟨0, ![]⟩
abbrev S16896x1024 : Shape := ⟨2, ![16896, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1024x3584, .f32⟩
  | .hbm, ⟨1, _⟩ => ⟨S16896x3584, .f32⟩
  | .hbm, ⟨2, _⟩ => ⟨S_, .f32⟩
  | .hbm, ⟨3, _⟩ => ⟨S16896x1024, .f32⟩
  | .hbm, ⟨4, _⟩ => ⟨S16896x3584, .f32⟩
  | .hbm, ⟨5, _⟩ => ⟨S16896x1024, .f32⟩
  | _, _ => ⟨S1024x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel16.lean ====
abbrev S16896x1024 : Shape := ⟨2, ![16896, 1024]⟩
abbrev S1024x4096 : Shape := ⟨2, ![1024, 4096]⟩
abbrev S16896x4096 : Shape := ⟨2, ![16896, 4096]⟩
abbrev S512x1024 : Shape := ⟨2, ![512, 1024]⟩
abbrev S512x4096 : Shape := ⟨2, ![512, 4096]⟩

abbrev nBuf : Space → Nat
  | .hbm => 5
  | .vmem => 5
  | .smem => 0
  | _ => 0

abbrev bufTy : (tb : Table) → Fin (tcTables nBuf tb) → BufTy
  | .hbm, ⟨0, _⟩ => ⟨S16896x1024, .f32⟩
  | .hbm, ⟨1, _⟩ => ⟨S1024x4096, .f32⟩
  | .hbm, ⟨2, _⟩ => ⟨S16896x1024, .bf16⟩
  | .hbm, ⟨3, _⟩ => ⟨S1024x4096, .bf16⟩
  | .hbm, ⟨4, _⟩ => ⟨S16896x4096, .bf16⟩
  | .local _ .vmem, ⟨0, _⟩ => ⟨S512x1024, .bf16⟩
  | .local _ .vmem, ⟨1, _⟩ => ⟨S512x1024, .bf16⟩
  | .local _ .vmem, ⟨2, _⟩ => ⟨S1024x4096, .bf16⟩
  | .local _ .vmem, ⟨3, _⟩ => ⟨S512x4096, .bf16⟩
  | .local _ .vmem, ⟨4, _⟩ => ⟨S512x4096, .bf16⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 33], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference16Ideal.lean ====
abbrev S16896x1024 : Shape := ⟨2, ![16896, 1024]⟩
abbrev S1024x4096 : Shape := ⟨2, ![1024, 4096]⟩
abbrev S16896x4096 : Shape := ⟨2, ![16896, 4096]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S1024x4096, .f32⟩
  | .hbm, ⟨2, _⟩ => ⟨S16896x4096, .f32⟩
  | .hbm, ⟨3, _⟩ => ⟨S_, .f32⟩
  | .hbm, ⟨4, _⟩ => ⟨S16896x4096, .f32⟩
  | .hbm, ⟨5, _⟩ => ⟨S16896x4096, .f32⟩
  | .hbm, ⟨6, _⟩ => ⟨S16896x4096, .f32⟩
  | .hbm, ⟨7, _⟩ => ⟨S16896x4096, .bf16⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel17.lean ====
abbrev S16896x4096 : Shape := ⟨2, ![16896, 4096]⟩
abbrev S4096x1024 : Shape := ⟨2, ![4096, 1024]⟩
abbrev S16896x1024 : Shape := ⟨2, ![16896, 1024]⟩
abbrev S768x4096 : Shape := ⟨2, ![768, 4096]⟩
abbrev S768x1024 : Shape := ⟨2, ![768, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16896x4096, .f32⟩
  | .hbm, ⟨1, _⟩ => ⟨S4096x1024, .f32⟩
  | .hbm, ⟨2, _⟩ => ⟨S16896x4096, .bf16⟩
  | .hbm, ⟨3, _⟩ => ⟨S4096x1024, .bf16⟩
  | .hbm, ⟨4, _⟩ => ⟨S16896x1024, .f32⟩
  | .local _ .vmem, ⟨0, _⟩ => ⟨S768x4096, .bf16⟩
  | .local _ .vmem, ⟨1, _⟩ => ⟨S768x4096, .bf16⟩
  | .local _ .vmem, ⟨2, _⟩ => ⟨S4096x1024, .bf16⟩
  | .local _ .vmem, ⟨3, _⟩ => ⟨S768x1024, .f32⟩
  | .local _ .vmem, ⟨4, _⟩ => ⟨S768x1024, .f32⟩
  | _, _ => ⟨S16896x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S768x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference17Ideal.lean ====
abbrev S16896x4096 : Shape := ⟨2, ![16896, 4096]⟩
abbrev S4096x1024 : Shape := ⟨2, ![4096, 1024]⟩
abbrev S16896x1024 : Shape := ⟨2, ![16896, 1024]⟩

abbrev nBuf : Space → Nat
  | .hbm => 3
  | .vmem => 0
  | .smem => 0
  | _ => 0

abbrev bufTy : (tb : Table) → Fin (tcTables nBuf tb) → BufTy
  | .hbm, ⟨0, _⟩ => ⟨S16896x4096, .f32⟩
  | .hbm, ⟨1, _⟩ => ⟨S4096x1024, .f32⟩
  | .hbm, ⟨2, _⟩ => ⟨S16896x1024, .f32⟩
  | _, _ => ⟨S16896x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel18.lean ====
abbrev S16896x1024 : Shape := ⟨2, ![16896, 1024]⟩
abbrev S2048x1024 : Shape := ⟨2, ![2048, 1024]⟩
abbrev S1536x1024 : Shape := ⟨2, ![1536, 1024]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S16896x1024, .f32⟩
  | .hbm, ⟨1, _⟩ => ⟨S16896x1024, .f32⟩
  | .hbm, ⟨2, _⟩ => ⟨S2048x1024, .f32⟩
  | .hbm, ⟨3, _⟩ => ⟨S16896x1024, .bf16⟩
  | .hbm, ⟨4, _⟩ => ⟨S16896x1024, .bf16⟩
  | .hbm, ⟨5, _⟩ => ⟨S2048x1024, .bf16⟩
  | .hbm, ⟨6, _⟩ => ⟨S16896x1024, .f32⟩
  | .local _ .vmem, ⟨0, _⟩ => ⟨S1536x1024, .bf16⟩
  | .local _ .vmem, ⟨1, _⟩ => ⟨S1536x1024, .bf16⟩
  | .local _ .vmem, ⟨2, _⟩ => ⟨S1536x1024, .bf16⟩
  | .local _ .vmem, ⟨3, _⟩ => ⟨S1536x1024, .bf16⟩
  | .local _ .vmem, ⟨4, _⟩ => ⟨S2048x1024, .bf16⟩
  | .local _ .vmem, ⟨5, _⟩ => ⟨S1536x1024, .f32⟩
  | .local _ .vmem, ⟨6, _⟩ => ⟨S1536x1024, .f32⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1536x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference18Ideal.lean ====
abbrev S16896x1024 : Shape := ⟨2, ![16896, 1024]⟩
abbrev S2048x1024 : Shape := ⟨2, ![2048, 1024]⟩
abbrev S16896x2048 : Shape := ⟨2, ![16896, 2048]⟩

abbrev nBuf : Space → Nat
  | .hbm => 5
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S16896x1024, .f32⟩
  | .hbm, ⟨2, _⟩ => ⟨S2048x1024, .f32⟩
  | .hbm, ⟨3, _⟩ => ⟨S16896x2048, .f32⟩
  | .hbm, ⟨4, _⟩ => ⟨S16896x1024, .f32⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel19.lean ====
abbrev S16896x1024 : Shape := ⟨2, ![16896, 1024]⟩
abbrev S1024x3584 : Shape := ⟨2, ![1024, 3584]⟩
abbrev S16896x3584 : Shape := ⟨2, ![16896, 3584]⟩
abbrev S512x1024 : Shape := ⟨2, ![512, 1024]⟩
abbrev S512x3584 : Shape := ⟨2, ![512, 3584]⟩

abbrev nBuf : Space → Nat
  | .hbm => 5
  | .vmem => 5
  | .smem => 0
  | _ => 0

abbrev bufTy : (tb : Table) → Fin (tcTables nBuf tb) → BufTy
  | .hbm, ⟨0, _⟩ => ⟨S16896x1024, .f32⟩
  | .hbm, ⟨1, _⟩ => ⟨S1024x3584, .f32⟩
  | .hbm, ⟨2, _⟩ => ⟨S16896x1024, .bf16⟩
  | .hbm, ⟨3, _⟩ => ⟨S1024x3584, .bf16⟩
  | .hbm, ⟨4, _⟩ => ⟨S16896x3584, .f32⟩
  | .local _ .vmem, ⟨0, _⟩ => ⟨S512x1024, .bf16⟩
  | .local _ .vmem, ⟨1, _⟩ => ⟨S512x1024, .bf16⟩
  | .local _ .vmem, ⟨2, _⟩ => ⟨S1024x3584, .bf16⟩
  | .local _ .vmem, ⟨3, _⟩ => ⟨S512x3584, .f32⟩
  | .local _ .vmem, ⟨4, _⟩ => ⟨S512x3584, .f32⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 33], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x3584 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference19Ideal.lean ====
abbrev S16896x1024 : Shape := ⟨2, ![16896, 1024]⟩
abbrev S1024x3584 : Shape := ⟨2, ![1024, 3584]⟩
abbrev S16896x3584 : Shape := ⟨2, ![16896, 3584]⟩

abbrev nBuf : Space → Nat
  | .hbm => 3
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S1024x3584, .f32⟩
  | .hbm, ⟨2, _⟩ => ⟨S16896x3584, .f32⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel20.lean ====
abbrev S16400x384 : Shape := ⟨2, ![16400, 384]⟩
abbrev S16400x1536 : Shape := ⟨2, ![16400, 1536]⟩
abbrev S_ : Shape := ⟨0, ![]⟩
abbrev S16896x384 : Shape := ⟨2, ![16896, 384]⟩
abbrev S16896x1536 : Shape := ⟨2, ![16896, 1536]⟩
abbrev S384x1536 : Shape := ⟨2, ![384, 1536]⟩
abbrev S1536x384 : Shape := ⟨2, ![1536, 384]⟩
abbrev S1536x768 : Shape := ⟨2, ![1536, 768]⟩
abbrev S384x768 : Shape := ⟨2, ![384, 768]⟩

abbrev nBuf : Space → Nat
  | .hbm => 11
  | .vmem => 6
  | .smem => 0
  | _ => 0

abbrev bufTy : (tb : Table) → Fin (tcTables nBuf tb) → BufTy
  | .hbm, ⟨0, _⟩ => ⟨S16400x384, .f32⟩
  | .hbm, ⟨1, _⟩ => ⟨S16400x1536, .f32⟩
  | .hbm, ⟨2, _⟩ => ⟨S_, .i32⟩
  | .hbm, ⟨3, _⟩ => ⟨S_, .f32⟩
  | .hbm, ⟨4, _⟩ => ⟨S16896x384, .f32⟩
  | .hbm, ⟨5, _⟩ => ⟨S16896x384, .bf16⟩
  | .hbm, ⟨6, _⟩ => ⟨S_, .i32⟩
  | .hbm, ⟨7, _⟩ => ⟨S_, .f32⟩
  | .hbm, ⟨8, _⟩ => ⟨S16896x1536, .f32⟩
  | .hbm, ⟨9, _⟩ => ⟨S16896x1536, .bf16⟩
  | .hbm, ⟨10, _⟩ => ⟨S384x1536, .f32⟩
  | .local _ .vmem, ⟨0, _⟩ => ⟨S1536x384, .bf16⟩
  | .local _ .vmem, ⟨1, _⟩ => ⟨S1536x384, .bf16⟩
  | .local _ .vmem, ⟨2, _⟩ => ⟨S1536x768, .bf16⟩
  | .local _ .vmem, ⟨3, _⟩ => ⟨S1536x768, .bf16⟩
  | .local _ .vmem, ⟨4, _⟩ => ⟨S384x768, .f32⟩
  | .local _ .vmem, ⟨5, _⟩ => ⟨S384x768, .f32⟩
  | _, _ => ⟨S16400x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_call1_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 11], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S384x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S16400x384 : Shape := ⟨2, ![16400, 384]⟩
abbrev S16400x1536 : Shape := ⟨2, ![16400, 1536]⟩
abbrev S_ : Shape := ⟨0, ![]⟩
abbrev S384x1536 : Shape := ⟨2, ![384, 1536]⟩
abbrev S1536x384 : Shape := ⟨2, ![1536, 384]⟩

abbrev nBuf : Space → Nat
  | .hbm => 7
  | .vmem => 0
  | .smem => 0
  | _ => 0

abbrev bufTy : (tb : Table) → Fin (tcTables nBuf tb) → BufTy
  | .hbm, ⟨0, _⟩ => ⟨S16400x384, .f32⟩
  | .hbm, ⟨1, _⟩ => ⟨S16400x1536, .f32⟩
  | .hbm, ⟨2, _⟩ => ⟨S_, .f32⟩
  | .hbm, ⟨3, _⟩ => ⟨S384x1536, .f32⟩
  | .hbm, ⟨4, _⟩ => ⟨S16400x1536, .f32⟩
  | .hbm, ⟨5, _⟩ => ⟨S1536x384, .f32⟩
  | .hbm, ⟨6, _⟩ => ⟨S384x1536, .f32⟩
  | _, _ => ⟨S16400x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel21.lean ====
abbrev S16400x256 : Shape := ⟨2, ![16400, 256]⟩
abbrev S16400x2048 : Shape := ⟨2, ![16400, 2048]⟩
abbrev S_ : Shape := ⟨0, ![]⟩
abbrev S16896x256 : Shape := ⟨2, ![16896, 256]⟩
abbrev S16896x2048 : Shape := ⟨2, ![16896, 2048]⟩
abbrev S256x2048 : Shape := ⟨2, ![256, 2048]⟩
abbrev S1536x256 : Shape := ⟨2, ![1536, 256]⟩
abbrev S1536x1024 : Shape := ⟨2, ![1536, 1024]⟩
abbrev S256x1024 : Shape := ⟨2, ![256, 1024]⟩

abbrev nBuf : Space → Nat
  | .hbm => 11
  | .vmem => 6
  | .smem => 0
  | _ => 0

abbrev bufTy : (tb : Table) → Fin (tcTables nBuf tb) → BufTy
  | .hbm, ⟨0, _⟩ => ⟨S16400x256, .f32⟩
  | .hbm, ⟨1, _⟩ => ⟨S16400x2048, .f32⟩
  | .hbm, ⟨2, _⟩ => ⟨S_, .i32⟩
  | .hbm, ⟨3, _⟩ => ⟨S_, .f32⟩
  | .hbm, ⟨4, _⟩ => ⟨S16896x256, .f32⟩
  | .hbm, ⟨5, _⟩ => ⟨S16896x256, .bf16⟩
  | .hbm, ⟨6, _⟩ => ⟨S_, .i32⟩
  | .hbm, ⟨7, _⟩ => ⟨S_, .f32⟩
  | .hbm, ⟨8, _⟩ => ⟨S16896x2048, .f32⟩
  | .hbm, ⟨9, _⟩ => ⟨S16896x2048, .bf16⟩
  | .hbm, ⟨10, _⟩ => ⟨S256x2048, .f32⟩
  | .local _ .vmem, ⟨0, _⟩ => ⟨S1536x256, .bf16⟩
  | .local _ .vmem, ⟨1, _⟩ => ⟨S1536x256, .bf16⟩
  | .local _ .vmem, ⟨2, _⟩ => ⟨S1536x1024, .bf16⟩
  | .local _ .vmem, ⟨3, _⟩ => ⟨S1536x1024, .bf16⟩
  | .local _ .vmem, ⟨4, _⟩ => ⟨S256x1024, .f32⟩
  | .local _ .vmem, ⟨5, _⟩ => ⟨S256x1024, .f32⟩
  | _, _ => ⟨S16400x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_call1_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 11], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S16400x256 : Shape := ⟨2, ![16400, 256]⟩
abbrev S16400x2048 : Shape := ⟨2, ![16400, 2048]⟩
abbrev S_ : Shape := ⟨0, ![]⟩
abbrev S256x2048 : Shape := ⟨2, ![256, 2048]⟩
abbrev S2048x256 : Shape := ⟨2, ![2048, 256]⟩

abbrev nBuf : Space → Nat
  | .hbm => 7
  | .vmem => 0
  | .smem => 0
  | _ => 0

abbrev bufTy : (tb : Table) → Fin (tcTables nBuf tb) → BufTy
  | .hbm, ⟨0, _⟩ => ⟨S16400x256, .f32⟩
  | .hbm, ⟨1, _⟩ => ⟨S16400x2048, .f32⟩
  | .hbm, ⟨2, _⟩ => ⟨S_, .f32⟩
  | .hbm, ⟨3, _⟩ => ⟨S256x2048, .f32⟩
  | .hbm, ⟨4, _⟩ => ⟨S16400x2048, .f32⟩
  | .hbm, ⟨5, _⟩ => ⟨S2048x256, .f32⟩
  | .hbm, ⟨6, _⟩ => ⟨S256x2048, .f32⟩
  | _, _ => ⟨S16400x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel22.lean ====
abbrev S384x1536 : Shape := ⟨2, ![384, 1536]⟩
abbrev S16896x1536 : Shape := ⟨2, ![16896, 1536]⟩
abbrev S16896x384 : Shape := ⟨2, ![16896, 384]⟩
abbrev S1536x1536 : Shape := ⟨2, ![1536, 1536]⟩
abbrev S1536x384 : Shape := ⟨2, ![1536, 384]⟩

abbrev nBuf : Space → Nat
  | .hbm => 5
  | .vmem => 5
  | .smem => 0
  | _ => 0

abbrev bufTy : (tb : Table) → Fin (tcTables nBuf tb) → BufTy
  | .hbm, ⟨0, _⟩ => ⟨S384x1536, .f32⟩
  | .hbm, ⟨1, _⟩ => ⟨S16896x1536, .f32⟩
  | .hbm, ⟨2, _⟩ => ⟨S16896x1536, .bf16⟩
  | .hbm, ⟨3, _⟩ => ⟨S384x1536, .bf16⟩
  | .hbm, ⟨4, _⟩ => ⟨S16896x384, .f32⟩
  | .local _ .vmem, ⟨0, _⟩ => ⟨S1536x1536, .bf16⟩
  | .local _ .vmem, ⟨1, _⟩ => ⟨S1536x1536, .bf16⟩
  | .local _ .vmem, ⟨2, _⟩ => ⟨S384x1536, .bf16⟩
  | .local _ .vmem, ⟨3, _⟩ => ⟨S1536x384, .f32⟩
  | .local _ .vmem, ⟨4, _⟩ => ⟨S1536x384, .f32⟩
  | _, _ => ⟨S384x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1536x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S384x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1536x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference22Ideal.lean ====
abbrev S384x1536 : Shape := ⟨2, ![384, 1536]⟩
abbrev S16896x1536 : Shape := ⟨2, ![16896, 1536]⟩
abbrev S_ : Shape := ⟨0, ![]⟩
abbrev S16896x384 : Shape := ⟨2, ![16896, 384]⟩

abbrev nBuf : Space → Nat
  | .hbm => 6
  | .vmem => 0
  | .smem => 0
  | _ => 0

abbrev bufTy : (tb : Table) → Fin (tcTables nBuf tb) → BufTy
  | .hbm, ⟨0, _⟩ => ⟨S384x1536, .f32⟩
  | .hbm, ⟨1, _⟩ => ⟨S16896x1536, .f32⟩
  | .hbm, ⟨2, _⟩ => ⟨S_, .f32⟩
  | .hbm, ⟨3, _⟩ => ⟨S16896x384, .f32⟩
  | .hbm, ⟨4, _⟩ => ⟨S16896x1536, .f32⟩
  | .hbm, ⟨5, _⟩ => ⟨S16896x384, .f32⟩
  | _, _ => ⟨S384x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel23.lean ====
abbrev S256x2048 : Shape := ⟨2, ![256, 2048]⟩
abbrev S16896x2048 : Shape := ⟨2, ![16896, 2048]⟩
abbrev S16896x256 : Shape := ⟨2, ![16896, 256]⟩
abbrev S1536x2048 : Shape := ⟨2, ![1536, 2048]⟩
abbrev S1536x256 : Shape := ⟨2, ![1536, 256]⟩

abbrev nBuf : Space → Nat
  | .hbm => 5
  | .vmem => 5
  | .smem => 0
  | _ => 0

abbrev bufTy : (tb : Table) → Fin (tcTables nBuf tb) → BufTy
  | .hbm, ⟨0, _⟩ => ⟨S256x2048, .f32⟩
  | .hbm, ⟨1, _⟩ => ⟨S16896x2048, .f32⟩
  | .hbm, ⟨2, _⟩ => ⟨S16896x2048, .bf16⟩
  | .hbm, ⟨3, _⟩ => ⟨S256x2048, .bf16⟩
  | .hbm, ⟨4, _⟩ => ⟨S16896x256, .f32⟩
  | .local _ .vmem, ⟨0, _⟩ => ⟨S1536x2048, .bf16⟩
  | .local _ .vmem, ⟨1, _⟩ => ⟨S1536x2048, .bf16⟩
  | .local _ .vmem, ⟨2, _⟩ => ⟨S256x2048, .bf16⟩
  | .local _ .vmem, ⟨3, _⟩ => ⟨S1536x256, .f32⟩
  | .local _ .vmem, ⟨4, _⟩ => ⟨S1536x256, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1536x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1536x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference23Ideal.lean ====
abbrev S256x2048 : Shape := ⟨2, ![256, 2048]⟩
abbrev S16896x2048 : Shape := ⟨2, ![16896, 2048]⟩
abbrev S_ : Shape := ⟨0, ![]⟩
abbrev S16896x256 : Shape := ⟨2, ![16896, 256]⟩

abbrev nBuf : Space → Nat
  | .hbm => 6
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S16896x2048, .f32⟩
  | .hbm, ⟨2, _⟩ => ⟨S_, .f32⟩
  | .hbm, ⟨3, _⟩ => ⟨S16896x256, .f32⟩
  | .hbm, ⟨4, _⟩ => ⟨S16896x2048, .f32⟩
  | .hbm, ⟨5, _⟩ => ⟨S16896x256, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel24.lean ====
abbrev S16896x384 : Shape := ⟨2, ![16896, 384]⟩
abbrev S384x1536 : Shape := ⟨2, ![384, 1536]⟩
abbrev S16896x1536 : Shape := ⟨2, ![16896, 1536]⟩
abbrev S1536x384 : Shape := ⟨2, ![1536, 384]⟩
abbrev S1536x1536 : Shape := ⟨2, ![1536, 1536]⟩

abbrev nBuf : Space → Nat
  | .hbm => 5
  | .vmem => 5
  | .smem => 0
  | _ => 0

abbrev bufTy : (tb : Table) → Fin (tcTables nBuf tb) → BufTy
  | .hbm, ⟨0, _⟩ => ⟨S16896x384, .f32⟩
  | .hbm, ⟨1, _⟩ => ⟨S384x1536, .f32⟩
  | .hbm, ⟨2, _⟩ => ⟨S16896x384, .bf16⟩
  | .hbm, ⟨3, _⟩ => ⟨S384x1536, .bf16⟩
  | .hbm, ⟨4, _⟩ => ⟨S16896x1536, .f32⟩
  | .local _ .vmem, ⟨0, _⟩ => ⟨S1536x384, .bf16⟩
  | .local _ .vmem, ⟨1, _⟩ => ⟨S1536x384, .bf16⟩
  | .local _ .vmem, ⟨2, _⟩ => ⟨S384x1536, .bf16⟩
  | .local _ .vmem, ⟨3, _⟩ => ⟨S1536x1536, .f32⟩
  | .local _ .vmem, ⟨4, _⟩ => ⟨S1536x1536, .f32⟩
  | _, _ => ⟨S16896x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1536x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S384x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1536x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference24Ideal.lean ====
abbrev S16896x384 : Shape := ⟨2, ![16896, 384]⟩
abbrev S384x1536 : Shape := ⟨2, ![384, 1536]⟩
abbrev S16896x1536 : Shape := ⟨2, ![16896, 1536]⟩

abbrev nBuf : Space → Nat
  | .hbm => 3
  | .vmem => 0
  | .smem => 0
  | _ => 0

abbrev bufTy : (tb : Table) → Fin (tcTables nBuf tb) → BufTy
  | .hbm, ⟨0, _⟩ => ⟨S16896x384, .f32⟩
  | .hbm, ⟨1, _⟩ => ⟨S384x1536, .f32⟩
  | .hbm, ⟨2, _⟩ => ⟨S16896x1536, .f32⟩
  | _, _ => ⟨S16896x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel25.lean ====
abbrev S16896x256 : Shape := ⟨2, ![16896, 256]⟩
abbrev S256x2048 : Shape := ⟨2, ![256, 2048]⟩
abbrev S16896x2048 : Shape := ⟨2, ![16896, 2048]⟩
abbrev S1536x256 : Shape := ⟨2, ![1536, 256]⟩
abbrev S1536x2048 : Shape := ⟨2, ![1536, 2048]⟩

abbrev nBuf : Space → Nat
  | .hbm => 5
  | .vmem => 5
  | .smem => 0
  | _ => 0

abbrev bufTy : (tb : Table) → Fin (tcTables nBuf tb) → BufTy
  | .hbm, ⟨0, _⟩ => ⟨S16896x256, .f32⟩
  | .hbm, ⟨1, _⟩ => ⟨S256x2048, .f32⟩
  | .hbm, ⟨2, _⟩ => ⟨S16896x256, .bf16⟩
  | .hbm, ⟨3, _⟩ => ⟨S256x2048, .bf16⟩
  | .hbm, ⟨4, _⟩ => ⟨S16896x2048, .bf16⟩
  | .local _ .vmem, ⟨0, _⟩ => ⟨S1536x256, .bf16⟩
  | .local _ .vmem, ⟨1, _⟩ => ⟨S1536x256, .bf16⟩
  | .local _ .vmem, ⟨2, _⟩ => ⟨S256x2048, .bf16⟩
  | .local _ .vmem, ⟨3, _⟩ => ⟨S1536x2048, .bf16⟩
  | .local _ .vmem, ⟨4, _⟩ => ⟨S1536x2048, .bf16⟩
  | _, _ => ⟨S16896x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1536x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1536x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference25Ideal.lean ====
abbrev S16896x256 : Shape := ⟨2, ![16896, 256]⟩
abbrev S256x2048 : Shape := ⟨2, ![256, 2048]⟩
abbrev S16896x2048 : Shape := ⟨2, ![16896, 2048]⟩

abbrev nBuf : Space → Nat
  | .hbm => 4
  | .vmem => 0
  | .smem => 0
  | _ => 0

abbrev bufTy : (tb : Table) → Fin (tcTables nBuf tb) → BufTy
  | .hbm, ⟨0, _⟩ => ⟨S16896x256, .f32⟩
  | .hbm, ⟨1, _⟩ => ⟨S256x2048, .f32⟩
  | .hbm, ⟨2, _⟩ => ⟨S16896x2048, .f32⟩
  | .hbm, ⟨3, _⟩ => ⟨S16896x2048, .bf16⟩
  | _, _ => ⟨S16896x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Blocks.lean ====
/- The conditional blocks of the kernel's body, one by one: each as a program of its own, and what each leaves in the
   buffers it touches, as a pure function of what they held (`VecWindow.put` for a store into some rows). -/
module

public import proofs.«01_k».proof.Proof.Gen.KernelIdeal.Skeleton
public import proofs.«01_k».proof.Proof.Gen.KernelIdeal.Launch
public import Idealize.ShloMosaic.Lib.Pipeline.FrameSuffixV
public import Idealize.ShloMosaic.Lib.Pipeline.TableIdle
public import Idealize.ShloMosaic.Lib.VecWindow
public import Idealize.ShloMosaic.Lib.Tactic.Stretches

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf UD)

variable {F : FTy → Type} [FloatOps F] [Named F]

local notation "𝕄" => MT nD τ sig Unit (Elt F) ℕ (UD sig nD τ) ℕ

/-- A memref held at some contents is owned at any vector it reads of them. -/
theorem owns_of_read (c : Thread nD τ) {sp : Space} {sh : Shape} {e : EltTy} (m : Memref sig c.2.kind sp sh e)
    (f : m.view.ty.Contents (Elt F)) (X : sh.Idx → Elt F e) (h : m.view.read (Elt F) f = X) :
    (m.view.loc c ↦[m.view.set]{fullShare} f : sProp 𝕄) ⊢ owns c m fullShare X := by
  subst h; exact owns_intro c m fullShare f

/-- A store into some rows over contents read as `x` leaves `x` with the payload put there. -/
theorem read_writes_put {sp : Space} {s : Shape} {e : EltTy} (v : View sig .tc sp s e) (x : s.Idx → Elt F e) {off size : Fin s.rank → ℕ}
    (inb : ∀ a, off a + size a ≤ s.size a) (w : (Rect.unit off size inb).shape.Idx → Elt F e) :
    v.read (Elt F) (v.writes (Elt F) (v.rep x) [⟨Rect.unit off size inb, w⟩]) = VecWindow.put x off size w :=
  View.read_writes_rep_unit v x inb w rfl

/-- A load of some rows of contents read as `x` reads those rows of `x`. -/
theorem readAt_rep_window {sp : Space} {s : Shape} {e : EltTy} (v : View sig .tc sp s e) (x : s.Idx → Elt F e) {off size : Fin s.rank → ℕ}
    (inb : ∀ a, off a + size a ≤ s.size a) :
    v.readAt (Elt F) (Rect.unit off size inb).toLoadRect (v.rep x) = VecWindow.window x off size inb :=
  View.readAt_rep_unit v x inb rfl inb

/-- Any stores over other stores put their payload over what those left. -/
theorem read_writes_cons {sp : Space} {s : Shape} {e : EltTy} (v : View sig .tc sp s e) (f : v.ty.Contents (Elt F)) {off size : Fin s.rank → ℕ}
    (inb : ∀ a, off a + size a ≤ s.size a) (w : (Rect.unit off size inb).shape.Idx → Elt F e) (L : List (View.Piece (Elt F) s e)) :
    v.read (Elt F) (v.writes (Elt F) f (⟨Rect.unit off size inb, w⟩ :: L)) = VecWindow.put (v.read (Elt F) (v.writes (Elt F) f L)) off size w :=
  View.read_writes_cons_put v f inb w L rfl

/-- Putting a whole vector leaves that vector. -/
theorem put_whole {α : Type} {s : Shape} (x w : s.Idx → α) (off : Fin s.rank → ℕ) (ho : ∀ a, off a = 0) : VecWindow.put x off s.size w = w := by
  funext y
  have h : ∀ a, off a ≤ (y a).val ∧ (y a).val < off a + s.size a := fun a => by have := (y a).isLt; have := ho a; omega
  show (if h : _ then w (Rect.unitLocal (s := s) (off := off) (size := s.size) y h) else _) = w y
  rw [dif_pos h]
  exact congrArg w (funext fun a => Fin.ext (by
    show (y a).val - off a = (y a).val
    have := ho a
    omega))

/-- The window of a whole vector is that vector. -/
theorem window_whole {α : Type} {s : Shape} (x : s.Idx → α) (off : Fin s.rank → ℕ) (inb : ∀ a, off a + s.size a ≤ s.size a) :
    VecWindow.window x off s.size inb = x := by
  funext y
  exact congrArg x (funext fun a => Fin.ext (by
    show off a + 1 * (y a).val = (y a).val
    have := inb a; omega))

section Whole

variable {α : Type}

theorem put_S768x256 (x w : S768x256.Idx → α) : VecWindow.put (s := S768x256) x ![0, 0] ![768, 256] w = w := put_whole (s := S768x256) x w ![0, 0] (by decide)
theorem window_S768x256 (x : S768x256.Idx → α) (inb : ∀ a, (![0, 0] : Fin 2 → ℕ) a + (![768, 256] : Fin 2 → ℕ) a ≤ S768x256.size a) :
    VecWindow.window (s := S768x256) x ![0, 0] ![768, 256] inb = x := window_whole (s := S768x256) x ![0, 0] inb
theorem put_S768x128 (x w : S768x128.Idx → α) : VecWindow.put (s := S768x128) x ![0, 0] ![768, 128] w = w := put_whole (s := S768x128) x w ![0, 0] (by decide)
theorem window_S768x128 (x : S768x128.Idx → α) (inb : ∀ a, (![0, 0] : Fin 2 → ℕ) a + (![768, 128] : Fin 2 → ℕ) a ≤ S768x128.size a) :
    VecWindow.window (s := S768x128) x ![0, 0] ![768, 128] inb = x := window_whole (s := S768x128) x ![0, 0] inb
theorem put_S16896x256 (x w : S16896x256.Idx → α) : VecWindow.put (s := S16896x256) x ![0, 0] ![16896, 256] w = w := put_whole (s := S16896x256) x w ![0, 0] (by decide)
theorem window_S16896x256 (x : S16896x256.Idx → α) (inb : ∀ a, (![0, 0] : Fin 2 → ℕ) a + (![16896, 256] : Fin 2 → ℕ) a ≤ S16896x256.size a) :
    VecWindow.window (s := S16896x256) x ![0, 0] ![16896, 256] inb = x := window_whole (s := S16896x256) x ![0, 0] inb
theorem put_S1x768x256 (x w : S1x768x256.Idx → α) : VecWindow.put (s := S1x768x256) x ![0, 0, 0] ![1, 768, 256] w = w := put_whole (s := S1x768x256) x w ![0, 0, 0] (by decide)
theorem window_S1x768x256 (x : S1x768x256.Idx → α) (inb : ∀ a, (![0, 0, 0] : Fin 3 → ℕ) a + (![1, 768, 256] : Fin 3 → ℕ) a ≤ S1x768x256.size a) :
    VecWindow.window (s := S1x768x256) x ![0, 0, 0] ![1, 768, 256] inb = x := window_whole (s := S1x768x256) x ![0, 0, 0] inb
theorem put_S1x768x128 (x w : S1x768x128.Idx → α) : VecWindow.put (s := S1x768x128) x ![0, 0, 0] ![1, 768, 128] w = w := put_whole (s := S1x768x128) x w ![0, 0, 0] (by decide)
theorem window_S1x768x128 (x : S1x768x128.Idx → α) (inb : ∀ a, (![0, 0, 0] : Fin 3 → ℕ) a + (![1, 768, 128] : Fin 3 → ℕ) a ≤ S1x768x128.size a) :
    VecWindow.window (s := S1x768x128) x ![0, 0, 0] ![1, 768, 128] inb = x := window_whole (s := S1x768x128) x ![0, 0, 0] inb
theorem put_S1x1536x256 (x w : S1x1536x256.Idx → α) : VecWindow.put (s := S1x1536x256) x ![0, 0, 0] ![1, 1536, 256] w = w := put_whole (s := S1x1536x256) x w ![0, 0, 0] (by decide)
theorem window_S1x1536x256 (x : S1x1536x256.Idx → α) (inb : ∀ a, (![0, 0, 0] : Fin 3 → ℕ) a + (![1, 1536, 256] : Fin 3 → ℕ) a ≤ S1x1536x256.size a) :
    VecWindow.window (s := S1x1536x256) x ![0, 0, 0] ![1, 1536, 256] inb = x := window_whole (s := S1x1536x256) x ![0, 0, 0] inb
theorem put_S1536x128 (x w : S1536x128.Idx → α) : VecWindow.put (s := S1536x128) x ![0, 0] ![1536, 128] w = w := put_whole (s := S1536x128) x w ![0, 0] (by decide)
theorem window_S1536x128 (x : S1536x128.Idx → α) (inb : ∀ a, (![0, 0] : Fin 2 → ℕ) a + (![1536, 128] : Fin 2 → ℕ) a ≤ S1536x128.size a) :
    VecWindow.window (s := S1536x128) x ![0, 0] ![1536, 128] inb = x := window_whole (s := S1536x128) x ![0, 0] inb
theorem put_S1x1x1536 (x w : S1x1x1536.Idx → α) : VecWindow.put (s := S1x1x1536) x ![0, 0, 0] ![1, 1, 1536] w = w := put_whole (s := S1x1x1536) x w ![0, 0, 0] (by decide)
theorem window_S1x1x1536 (x : S1x1x1536.Idx → α) (inb : ∀ a, (![0, 0, 0] : Fin 3 → ℕ) a + (![1, 1, 1536] : Fin 3 → ℕ) a ≤ S1x1x1536.size a) :
    VecWindow.window (s := S1x1x1536) x ![0, 0, 0] ![1, 1, 1536] inb = x := window_whole (s := S1x1x1536) x ![0, 0, 0] inb

end Whole

/-- A copy into a squeezed slice of contents read as `x` leaves `x` with the re-indexed payload put there. -/
theorem read_write_squeezed {sp : Space} {s s' : Shape} {e : EltTy} (m : Memref sig .tc sp s e) (x : s.Idx → Elt F e) {off size : Fin s.rank → ℕ}
    (inb : ∀ a, off a + size a ≤ s.size a) (h₀ : ∀ a, (Rect.unit off size inb).stride a = 1)
    (hq : (Rect.unit off size inb).shape.Squeezes s') (w : s'.Idx → Elt F e) :
    m.view.read (Elt F) (((m.slice (Rect.unit off size inb) h₀).squeeze s' hq).view.write (Elt F) (m.view.rep x) w Finset.univ)
      = VecWindow.put x off size fun y => w ((Shape.reshapeEquiv hq.numel_eq).symm y) := by
  refine (congrArg (m.view.read (Elt F)) (View.write_reshape_univ (m.view.slice (Rect.unit off size inb)) hq.numel_eq (m.view.rep x) w)).trans ?_
  exact read_writes_put m.view x inb _

section Progs

variable (i : grid0.Coords) (arg2 : Memref sig .tc .smem S132 .i32) (harg2 : arg2.IsWhole) (arg3 : Memref sig .tc .smem S132 .i32) (harg3 : arg3.IsWhole)
  (arg4 : Memref sig .tc .vmem S1x768x256 .bf16) (harg4 : arg4.IsWhole) (arg5 : Memref sig .tc .vmem S1x768x128 .bf16) (harg5 : arg5.IsWhole)
  (arg6 : Memref sig .tc .vmem S1x1536x256 .bf16) (harg6 : arg6.IsWhole) (arg7 : Memref sig .tc .vmem S1536x128 .bf16) (harg7 : arg7.IsWhole)
  (arg8 : Memref sig .tc .vmem S1x1x1536 .f32) (harg8 : arg8.IsWhole) (arg9 : Memref sig .tc .vmem S1x1x1536 .f32) (harg9 : arg9.IsWhole)
  (arg10 : Memref sig .tc .hbm S8x16896x256 .f32) (harg10 : arg10.IsWhole) (arg11 : Memref sig .tc .vmem S1x768x256 .f32) (harg11 : arg11.IsWhole)
  (arg12 : Memref sig .tc .vmem S1x768x128 .f32) (harg12 : arg12.IsWhole) (arg13 : Memref sig .tc .vmem S16896x256 .f32) (harg13 : arg13.IsWhole)
  (arg14 : Memref sig .tc .vmem S768x256 .f32) (harg14 : arg14.IsWhole) (arg15 : Memref sig .tc .vmem S768x128 .f32) (harg15 : arg15.IsWhole)
  (arg16 : DmaSems sig S_)

/-- Whether a head begins here. -/
def cond1 : BitVec 1 := Scalar.cmpi .ne (Scalar.extui (Scalar.cmpi .eq (BitVec.ofNat 32 (i 1).val) 0#32)) 0#32

/-- Whether the block of keys begins here: the block of queries is the one on the diagonal. -/
def cond2 (v1 v3 : BitVec 32) : BitVec 1 :=
  let v4 : BitVec 32 := Scalar.divsi v3 2#32
  let v5 : BitVec 1 := Scalar.cmpi .sgt v3 0#32
  let v6 : BitVec 32 := Scalar.extui v5
  let v7 : BitVec 1 := Scalar.cmpi .slt v3 0#32
  let v8 : BitVec 32 := Scalar.extui v7
  let v9 : BitVec 32 := Scalar.subi v6 v8
  let v10 : BitVec 1 := Scalar.cmpi .sgt 2#32 0#32
  let v11 : BitVec 32 := Scalar.extui v10
  let v12 : BitVec 1 := Scalar.cmpi .slt 2#32 0#32
  let v13 : BitVec 32 := Scalar.extui v12
  let v14 : BitVec 32 := Scalar.subi v11 v13
  let v15 : BitVec 1 := Scalar.cmpi .ne v9 v14
  let v16 : BitVec 32 := Scalar.remsi v3 2#32
  let v17 : BitVec 1 := Scalar.cmpi .ne v16 0#32
  let v18 : BitVec 1 := Scalar.andi v15 v17
  let v19 : BitVec 32 := Scalar.subi v4 1#32
  let v20 : BitVec 32 := Scalar.select v18 v19 v4
  Scalar.cmpi .ne (Scalar.extui (Scalar.cmpi .eq v1 v20)) 0#32

/-- At a head's first point the queries' gradient is set to zero. -/
def blkZero : Prog (TpuEff nD τ sig (Elt F) Λ₀ .tc) PUnit :=
  if cond1 i = 1#1 then do
    let v65 : Vec F S16896x256 .f32 ← Prog.lift (.load arg13 (Rect.unit (s := S16896x256) ![0, 0] S16896x256.size inb_S16896x256_S16896x256_0_0).toLoadRect (View.loadsAt_vmem h_S16896x256))
    Prog.lift (.store arg13 (Rect.unit (s := S16896x256) ![0, 0] S16896x256.size inb_S16896x256_S16896x256_0_0) (k0_pay24 (F := F)) Finset.univ (View.stores_vmem_bits_univ h_S16896x256 rfl) (.inl rfl))
    pure ⟨⟩
  else do
    pure ⟨⟩

/-- At a block of keys' first point its gradients are set to zero. -/
def blkInit (v1 v3 : BitVec 32) : Prog (TpuEff nD τ sig (Elt F) Λ₀ .tc) PUnit :=
  if cond2 v1 v3 = 1#1 then do
    let v65 : Vec F S768x256 .f32 ← Prog.lift (.load arg14 (Rect.unit (s := S768x256) ![0, 0] S768x256.size inb_S768x256_S768x256_0_0).toLoadRect (View.loadsAt_vmem h_S768x256))
    Prog.lift (.store arg14 (Rect.unit (s := S768x256) ![0, 0] S768x256.size inb_S768x256_S768x256_0_0) (k0_pay25 (F := F)) Finset.univ (View.stores_vmem_bits_univ h_S768x256 rfl) (.inl rfl))
    let v69 : Vec F S768x128 .f32 ← Prog.lift (.load arg15 (Rect.unit (s := S768x128) ![0, 0] S768x128.size inb_S768x128_S768x128_0_0).toLoadRect (View.loadsAt_vmem h_S768x128))
    Prog.lift (.store arg15 (Rect.unit (s := S768x128) ![0, 0] S768x128.size inb_S768x128_S768x128_0_0) (k0_pay26 (F := F)) Finset.univ (View.stores_vmem_bits_univ h_S768x128 rfl) (.inl rfl))
    pure ⟨⟩
  else do
    pure ⟨⟩

/-- The tile strictly below the diagonal: the accumulators of the keys' and values' gradients, and the rows of the
    queries' gradient. -/
def blkFull (v1 v3 : BitVec 32) (k0_hw1 : k0_chk1 v1 v3) : Prog (TpuEff nD τ sig (Elt F) Λ₀ .tc) PUnit :=
  if k0_h3 : k0_cond3 v1 v3 = 1#1 then do
    let ⟨v65, v88⟩ : Σ' (v65 : FVec F S1536x256 .bf16), FVec F S768x1536 .bf16 ← k0_part1 i arg2 harg2 arg3 harg3 arg4 harg4 arg5 harg5 arg6 harg6 arg7 harg7 arg8 harg8 arg9 harg9 arg10 harg10 arg11 harg11 arg12 harg12 arg13 harg13 arg14 harg14 arg15 harg15 arg16
    let v96 : Vec F S768x256 .f32 ← Prog.lift (.load arg14 (Rect.unit (s := S768x256) ![0, 0] S768x256.size inb_S768x256_S768x256_0_0).toLoadRect (View.loadsAt_vmem h_S768x256))
    let v99 : Vec F S768x256 .f32 ← Prog.lift (.load arg14 (Rect.unit (s := S768x256) ![0, 0] S768x256.size inb_S768x256_S768x256_0_0).toLoadRect (View.loadsAt_vmem h_S768x256))
    Prog.lift (.store arg14 (Rect.unit (s := S768x256) ![0, 0] S768x256.size inb_S768x256_S768x256_0_0) (k0_pay27 v65 v88 v96) Finset.univ (View.stores_vmem_bits_univ h_S768x256 rfl) (.inl rfl))
    let v106 : Vec F S1536x256 .f32 ← Prog.lift (.load arg13 (Rect.unit (s := S16896x256) (k0_off2 v1) S1536x256.size (k0_off2_inb v1 v3 k0_hw1 k0_h3)).toLoadRect (View.loadsAt_vmem h_S1536x256))
    let v107 : Vec F S1x768x256 .bf16 ← Prog.lift (.load arg4 (Rect.unit (s := S1x768x256) ![0, 0, 0] S1x768x256.size inb_S1x768x256_S1x768x256_0_0_0).toLoadRect (View.loadsAt_vmem h_S1x768x256))
    let v112 : Vec F S1536x256 .f32 ← Prog.lift (.load arg13 (Rect.unit (s := S16896x256) (k0_off2 v1) S1536x256.size (k0_off2_inb v1 v3 k0_hw1 k0_h3)).toLoadRect (View.loadsAt_vmem h_S1536x256))
    Prog.lift (.store arg13 (Rect.unit (s := S16896x256) (k0_off2 v1) S1536x256.size (k0_off2_inb v1 v3 k0_hw1 k0_h3)) (k0_pay28 v88 v106 v107) Finset.univ (View.stores_vmem_bits_univ h_S1536x256 rfl) (.inl rfl))
    pure ⟨⟩
  else do
    pure ⟨⟩

/-- The tile on the diagonal whose keys are the upper half of the queries' rows, masked. -/
def blkDiag0 (v1 v3 : BitVec 32) (k0_hw1 : k0_chk1 v1 v3) : Prog (TpuEff nD τ sig (Elt F) Λ₀ .tc) PUnit :=
  if k0_h4 : k0_cond4 v1 v3 = 1#1 then do
    let ⟨v65, v93, v97⟩ : Σ' (v65 : FVec F S1536x256 .bf16) (v93 : FVec F S768x1536 .bf16), FVec F S768x128 .f32 ← k0_part2 i arg2 harg2 arg3 harg3 arg4 harg4 arg5 harg5 arg6 harg6 arg7 harg7 arg8 harg8 arg9 harg9 arg10 harg10 arg11 harg11 arg12 harg12 arg13 harg13 arg14 harg14 arg15 harg15 arg16
    let v98 : Vec F S768x128 .f32 ← Prog.lift (.load arg15 (Rect.unit (s := S768x128) ![0, 0] S768x128.size inb_S768x128_S768x128_0_0).toLoadRect (View.loadsAt_vmem h_S768x128))
    Prog.lift (.store arg15 (Rect.unit (s := S768x128) ![0, 0] S768x128.size inb_S768x128_S768x128_0_0) (k0_pay1 v97) Finset.univ (View.stores_vmem_bits_univ h_S768x128 rfl) (.inl rfl))
    let v101 : Vec F S768x256 .f32 ← Prog.lift (.load arg14 (Rect.unit (s := S768x256) ![0, 0] S768x256.size inb_S768x256_S768x256_0_0).toLoadRect (View.loadsAt_vmem h_S768x256))
    let v104 : Vec F S768x256 .f32 ← Prog.lift (.load arg14 (Rect.unit (s := S768x256) ![0, 0] S768x256.size inb_S768x256_S768x256_0_0).toLoadRect (View.loadsAt_vmem h_S768x256))
    Prog.lift (.store arg14 (Rect.unit (s := S768x256) ![0, 0] S768x256.size inb_S768x256_S768x256_0_0) (k0_pay2 v65 v93 v101) Finset.univ (View.stores_vmem_bits_univ h_S768x256 rfl) (.inl rfl))
    let v111 : Vec F S1536x256 .f32 ← Prog.lift (.load arg13 (Rect.unit (s := S16896x256) (k0_off3 v1) S1536x256.size (k0_off3_inb v1 v3 k0_hw1 k0_h4)).toLoadRect (View.loadsAt_vmem h_S1536x256))
    let v112 : Vec F S1x768x256 .bf16 ← Prog.lift (.load arg4 (Rect.unit (s := S1x768x256) ![0, 0, 0] S1x768x256.size inb_S1x768x256_S1x768x256_0_0_0).toLoadRect (View.loadsAt_vmem h_S1x768x256))
    let v117 : Vec F S1536x256 .f32 ← Prog.lift (.load arg13 (Rect.unit (s := S16896x256) (k0_off3 v1) S1536x256.size (k0_off3_inb v1 v3 k0_hw1 k0_h4)).toLoadRect (View.loadsAt_vmem h_S1536x256))
    Prog.lift (.store arg13 (Rect.unit (s := S16896x256) (k0_off3 v1) S1536x256.size (k0_off3_inb v1 v3 k0_hw1 k0_h4)) (k0_pay3 v93 v111 v112) Finset.univ (View.stores_vmem_bits_univ h_S1536x256 rfl) (.inl rfl))
    pure ⟨⟩
  else do
    pure ⟨⟩

/-- The tile on the diagonal whose keys are the lower half of the queries' rows, masked: those rows alone. -/
def blkDiag1 (v1 v3 : BitVec 32) (k0_hw1 : k0_chk1 v1 v3) : Prog (TpuEff nD τ sig (Elt F) Λ₀ .tc) PUnit :=
  if k0_h5 : k0_cond5 v1 v3 = 1#1 then do
    let ⟨v65, v93, v97⟩ : Σ' (v65 : FVec F S768x256 .bf16) (v93 : FVec F S768x768 .bf16), FVec F S768x128 .f32 ← k0_part3 i arg2 harg2 arg3 harg3 arg4 harg4 arg5 harg5 arg6 harg6 arg7 harg7 arg8 harg8 arg9 harg9 arg10 harg10 arg11 harg11 arg12 harg12 arg13 harg13 arg14 harg14 arg15 harg15 arg16
    let v98 : Vec F S768x128 .f32 ← Prog.lift (.load arg15 (Rect.unit (s := S768x128) ![0, 0] S768x128.size inb_S768x128_S768x128_0_0).toLoadRect (View.loadsAt_vmem h_S768x128))
    Prog.lift (.store arg15 (Rect.unit (s := S768x128) ![0, 0] S768x128.size inb_S768x128_S768x128_0_0) (k0_pay4 v97) Finset.univ (View.stores_vmem_bits_univ h_S768x128 rfl) (.inl rfl))
    let v101 : Vec F S768x256 .f32 ← Prog.lift (.load arg14 (Rect.unit (s := S768x256) ![0, 0] S768x256.size inb_S768x256_S768x256_0_0).toLoadRect (View.loadsAt_vmem h_S768x256))
    let v104 : Vec F S768x256 .f32 ← Prog.lift (.load arg14 (Rect.unit (s := S768x256) ![0, 0] S768x256.size inb_S768x256_S768x256_0_0).toLoadRect (View.loadsAt_vmem h_S768x256))
    Prog.lift (.store arg14 (Rect.unit (s := S768x256) ![0, 0] S768x256.size inb_S768x256_S768x256_0_0) (k0_pay5 v65 v93 v101) Finset.univ (View.stores_vmem_bits_univ h_S768x256 rfl) (.inl rfl))
    let v111 : Vec F S768x256 .f32 ← Prog.lift (.load arg13 (Rect.unit (s := S16896x256) (k0_off4 v1) S768x256.size (k0_off4_inb v1 v3 k0_hw1 k0_h5)).toLoadRect (View.loadsAt_vmem h_S768x256))
    let v112 : Vec F S1x768x256 .bf16 ← Prog.lift (.load arg4 (Rect.unit (s := S1x768x256) ![0, 0, 0] S1x768x256.size inb_S1x768x256_S1x768x256_0_0_0).toLoadRect (View.loadsAt_vmem h_S1x768x256))
    let v117 : Vec F S768x256 .f32 ← Prog.lift (.load arg13 (Rect.unit (s := S16896x256) (k0_off4 v1) S768x256.size (k0_off4_inb v1 v3 k0_hw1 k0_h5)).toLoadRect (View.loadsAt_vmem h_S768x256))
    Prog.lift (.store arg13 (Rect.unit (s := S16896x256) (k0_off4 v1) S768x256.size (k0_off4_inb v1 v3 k0_hw1 k0_h5)) (k0_pay6 v93 v111 v112) Finset.univ (View.stores_vmem_bits_univ h_S768x256 rfl) (.inl rfl))
    pure ⟨⟩
  else do
    pure ⟨⟩

/-- At a block of keys' last point its gradients go to the output windows. -/
def blkOut (v1 : BitVec 32) : Prog (TpuEff nD τ sig (Elt F) Λ₀ .tc) PUnit :=
  if k0_h6 : k0_cond6 v1 = 1#1 then do
    let v64 : Vec F S768x256 .f32 ← Prog.lift (.load arg14 (Rect.unit (s := S768x256) ![0, 0] S768x256.size inb_S768x256_S768x256_0_0).toLoadRect (View.loadsAt_vmem h_S768x256))
    let v65 : Vec F S1x768x256 .f32 ← Prog.lift (.load arg11 (Rect.unit (s := S1x768x256) ![0, 0, 0] S1x768x256.size inb_S1x768x256_S1x768x256_0_0_0).toLoadRect (View.loadsAt_vmem h_S1x768x256))
    Prog.lift (.store arg11 (Rect.unit (s := S1x768x256) ![0, 0, 0] S1x768x256.size inb_S1x768x256_S1x768x256_0_0_0) (k0_pay7 v64) Finset.univ (View.stores_vmem_bits_univ h_S1x768x256 rfl) (.inl rfl))
    let v68 : Vec F S768x128 .f32 ← Prog.lift (.load arg15 (Rect.unit (s := S768x128) ![0, 0] S768x128.size inb_S768x128_S768x128_0_0).toLoadRect (View.loadsAt_vmem h_S768x128))
    let v69 : Vec F S1x768x128 .f32 ← Prog.lift (.load arg12 (Rect.unit (s := S1x768x128) ![0, 0, 0] S1x768x128.size inb_S1x768x128_S1x768x128_0_0_0).toLoadRect (View.loadsAt_vmem h_S1x768x128))
    Prog.lift (.store arg12 (Rect.unit (s := S1x768x128) ![0, 0, 0] S1x768x128.size inb_S1x768x128_S1x768x128_0_0_0) (k0_pay8 v68) Finset.univ (View.stores_vmem_bits_univ h_S1x768x128 rfl) (.inl rfl))
    pure ⟨⟩
  else do
    pure ⟨⟩

/-- At a head's last point the queries' gradient is copied to the head's part of the array in main memory. -/
def blkDma : Prog (TpuEff nD τ sig (Elt F) Λ₀ .tc) PUnit :=
  if k0_h7 : k0_cond7 i = 1#1 then do
    let v64 : Memref sig .tc .hbm S1x16896x256 .f32 := arg10.slice (Rect.unit (s := S8x16896x256) (k0_off5 i) S1x16896x256.size (k0_off5_inb i k0_h7)) (fun _ => rfl)
    let v65 : Memref sig .tc .hbm S16896x256 .f32 := v64.squeeze S16896x256 squeezes_S1x16896x256_S16896x256
    Prog.lift (.enqueueDma arg13 (.here v65) (.dma arg16.sem) harg13.wordExact ((View.wordExact_bits rfl).reshape _ _) ⟨Or.inl rfl, trivial⟩)
    let v66 : Memref sig .tc .hbm S1x16896x256 .f32 := arg10.slice (Rect.unit (s := S8x16896x256) (k0_off5 i) S1x16896x256.size (k0_off5_inb i k0_h7)) (fun _ => rfl)
    let v67 : Memref sig .tc .hbm S16896x256 .f32 := v66.squeeze S16896x256 squeezes_S1x16896x256_S16896x256
    Prog.lift (.waitDma2 arg16.sem arg13 v67 harg13.wordExact ((View.wordExact_bits rfl).reshape _ _))
    pure ⟨⟩
  else do
    pure ⟨⟩

end Progs

/-- What the three scratch buffers hold: the gradient of the head's queries, and of the block of keys and of values. -/
structure St (F : FTy → Type) where
  /-- the queries' gradient, all rows of the head -/
  dq : S16896x256.Idx → Elt F .f32
  /-- the keys' gradient, the block's rows -/
  dk : S768x256.Idx → Elt F .f32
  /-- the values' gradient, the block's rows -/
  dv : S768x128.Idx → Elt F .f32

/-- The six input blocks of a point. -/
structure Ins (F : FTy → Type) where
  /-- keys -/
  k : S1x768x256.Idx → Elt F .bf16
  /-- values -/
  v : S1x768x128.Idx → Elt F .bf16
  /-- queries -/
  q : S1x1536x256.Idx → Elt F .bf16
  /-- the cotangent of the output -/
  o : S1536x128.Idx → Elt F .bf16
  /-- the row's log-sum, base two -/
  l : S1x1x1536.Idx → Elt F .f32
  /-- the row's sum of cotangent times output -/
  d : S1x1x1536.Idx → Elt F .f32

section States

variable (x : Ins F) (s : St F)

/-- The state after `blkZero`. -/
def stZero (i : grid0.Coords) : St F := if cond1 i = 1#1 then { s with dq := k0_pay24 (F := F) } else s

/-- The state after `blkInit`. -/
def stInit (v1 v3 : BitVec 32) : St F := if cond2 v1 v3 = 1#1 then { s with dk := k0_pay25 (F := F), dv := k0_pay26 (F := F) } else s

/-- The state after `blkFull`. -/
def stFull (v1 v3 : BitVec 32) (hw : k0_chk1 v1 v3) : St F :=
  if h : k0_cond3 v1 v3 = 1#1 then
    { dq := VecWindow.put s.dq (k0_off2 v1) S1536x256.size (k0_pay28 (k0_pay12 x.q x.o x.k x.l x.v x.d)
        (VecWindow.window s.dq (k0_off2 v1) S1536x256.size (k0_off2_inb v1 v3 hw h)) x.k)
      dk := k0_pay27 (k0_pay9 x.q) (k0_pay12 x.q x.o x.k x.l x.v x.d) s.dk
      dv := k0_pay13 x.q x.o x.k x.l s.dv }
  else s

/-- The state after `blkDiag0`. -/
def stDiag0 (v1 v3 : BitVec 32) (hw : k0_chk1 v1 v3) : St F :=
  if h : k0_cond4 v1 v3 = 1#1 then
    { dq := VecWindow.put s.dq (k0_off3 v1) S1536x256.size (k0_pay3 (k0_pay17 x.q x.o x.k x.l x.v x.d)
        (VecWindow.window s.dq (k0_off3 v1) S1536x256.size (k0_off3_inb v1 v3 hw h)) x.k)
      dk := k0_pay2 (k0_pay14 x.q) (k0_pay17 x.q x.o x.k x.l x.v x.d) s.dk
      dv := k0_pay1 (k0_pay18 x.q x.o x.k x.l s.dv) }
  else s

/-- The lower half of the rows of a point's queries, -/
def loQ : S1x768x256.Idx → Elt F .bf16 := VecWindow.window x.q ![0, 768, 0] S1x768x256.size inb_S1x1536x256_S1x768x256_0_768_0
/-- of their cotangents, -/
def loO : S768x128.Idx → Elt F .bf16 := VecWindow.window x.o ![768, 0] S768x128.size inb_S1536x128_S768x128_768_0
/-- of their log-sums, -/
def loL : S1x1x768.Idx → Elt F .f32 := VecWindow.window x.l ![0, 0, 768] S1x1x768.size inb_S1x1x1536_S1x1x768_0_0_768
/-- and of their sums. -/
def loD : S1x1x768.Idx → Elt F .f32 := VecWindow.window x.d ![0, 0, 768] S1x1x768.size inb_S1x1x1536_S1x1x768_0_0_768

/-- The state after `blkDiag1`. -/
def stDiag1 (v1 v3 : BitVec 32) (hw : k0_chk1 v1 v3) : St F :=
  if h : k0_cond5 v1 v3 = 1#1 then
    { dq := VecWindow.put s.dq (k0_off4 v1) S768x256.size (k0_pay6 (k0_pay22 (loQ x) (loO x) x.k (loL x) x.v (loD x))
        (VecWindow.window s.dq (k0_off4 v1) S768x256.size (k0_off4_inb v1 v3 hw h)) x.k)
      dk := k0_pay5 (k0_pay19 (loQ x)) (k0_pay22 (loQ x) (loO x) x.k (loL x) x.v (loD x)) s.dk
      dv := k0_pay4 (k0_pay23 (loQ x) (loO x) x.k (loL x) s.dv) }
  else s

/-- The state after a point. -/
def stStep (i : grid0.Coords) (v1 v3 : BitVec 32) (hw : k0_chk1 v1 v3) : St F :=
  stDiag1 x (stDiag0 x (stFull x (stInit (stZero s i) v1 v3) v1 v3 hw) v1 v3 hw) v1 v3 hw

/-- The array in main memory after `blkDma`. -/
def dqOut (i : grid0.Coords) (g : S8x16896x256.Idx → Elt F .f32) : S8x16896x256.Idx → Elt F .f32 :=
  if k0_cond7 i = 1#1 then
    VecWindow.put g (k0_off5 i) S1x16896x256.size fun y => s.dq ((Shape.reshapeEquiv (squeezes_S1x16896x256_S16896x256).numel_eq).symm y)
  else g

end States

section Specs

variable (c : Dev nD)
variable (i : grid0.Coords) (arg2 : Memref sig .tc .smem S132 .i32) (harg2 : arg2.IsWhole) (arg3 : Memref sig .tc .smem S132 .i32) (harg3 : arg3.IsWhole)
  (arg4 : Memref sig .tc .vmem S1x768x256 .bf16) (harg4 : arg4.IsWhole) (arg5 : Memref sig .tc .vmem S1x768x128 .bf16) (harg5 : arg5.IsWhole)
  (arg6 : Memref sig .tc .vmem S1x1536x256 .bf16) (harg6 : arg6.IsWhole) (arg7 : Memref sig .tc .vmem S1536x128 .bf16) (harg7 : arg7.IsWhole)
  (arg8 : Memref sig .tc .vmem S1x1x1536 .f32) (harg8 : arg8.IsWhole) (arg9 : Memref sig .tc .vmem S1x1x1536 .f32) (harg9 : arg9.IsWhole)
  (arg10 : Memref sig .tc .hbm S8x16896x256 .f32) (harg10 : arg10.IsWhole) (arg11 : Memref sig .tc .vmem S1x768x256 .f32) (harg11 : arg11.IsWhole)
  (arg12 : Memref sig .tc .vmem S1x768x128 .f32) (harg12 : arg12.IsWhole) (arg13 : Memref sig .tc .vmem S16896x256 .f32) (harg13 : arg13.IsWhole)
  (arg14 : Memref sig .tc .vmem S768x256 .f32) (harg14 : arg14.IsWhole) (arg15 : Memref sig .tc .vmem S768x128 .f32) (harg15 : arg15.IsWhole)
  (arg16 : DmaSems sig S_)

/-- The input blocks, owned. -/
def insOwn (x : Ins F) : sProp 𝕄 :=
  iprop(owns (c : Thread nD τ) arg4 fullShare x.k ∗ owns (c : Thread nD τ) arg5 fullShare x.v ∗ owns (c : Thread nD τ) arg6 fullShare x.q
    ∗ owns (c : Thread nD τ) arg7 fullShare x.o ∗ owns (c : Thread nD τ) arg8 fullShare x.l ∗ owns (c : Thread nD τ) arg9 fullShare x.d)

/-- The scratch buffers, owned. -/
def stOwn (s : St F) : sProp 𝕄 :=
  iprop(owns (c : Thread nD τ) arg13 fullShare s.dq ∗ owns (c : Thread nD τ) arg14 fullShare s.dk ∗ owns (c : Thread nD τ) arg15 fullShare s.dv)

set_option backward.proofsInPublic true in
set_option maxHeartbeats 4000000 in
theorem blkFull_spec (x : Ins F) (s : St F) (v1 v3 : BitVec 32) (hw : k0_chk1 v1 v3) (K : PUnit → sProp 𝕄) :
    iprop(insOwn c arg4 arg5 arg6 arg7 arg8 arg9 x ∗ stOwn c arg13 arg14 arg15 s
        ∗ ((insOwn c arg4 arg5 arg6 arg7 arg8 arg9 x ∗ stOwn c arg13 arg14 arg15 (stFull x s v1 v3 hw)) -∗ K ⟨⟩))
      ⊢ wp frame (wpE (defs₀ (F := F)) Variants.none c none) Set.univ
          (blkFull i arg2 harg2 arg3 harg3 arg4 harg4 arg5 harg5 arg6 harg6 arg7 harg7 arg8 harg8 arg9 harg9 arg10 harg10 arg11 harg11 arg12 harg12 arg13 harg13 arg14 harg14 arg15 harg15 arg16 v1 v3 hw) K := by
  unfold blkFull stFull
  by_cases h : k0_cond3 v1 v3 = 1#1
  · simp only [dif_pos h]
    unfold insOwn stOwn
    iintro ⟨⟨H4, H5, H6, H7, H8, H9⟩, ⟨H13, H14, H15⟩, Hk⟩
    ihave H4 := (rep_of_owns (c : Thread nD τ) arg4 fullShare x.k) $$ H4
    ihave H5 := (rep_of_owns (c : Thread nD τ) arg5 fullShare x.v) $$ H5
    ihave H6 := (rep_of_owns (c : Thread nD τ) arg6 fullShare x.q) $$ H6
    ihave H7 := (rep_of_owns (c : Thread nD τ) arg7 fullShare x.o) $$ H7
    ihave H8 := (rep_of_owns (c : Thread nD τ) arg8 fullShare x.l) $$ H8
    ihave H9 := (rep_of_owns (c : Thread nD τ) arg9 fullShare x.d) $$ H9
    ihave H13 := (rep_of_owns (c : Thread nD τ) arg13 fullShare s.dq) $$ H13
    ihave H14 := (rep_of_owns (c : Thread nD τ) arg14 fullShare s.dk) $$ H14
    ihave H15 := (rep_of_owns (c : Thread nD τ) arg15 fullShare s.dv) $$ H15
    sl_exec! (disch := first | (guard_target = k0_cond3 _ _ = _; exact h))
    sl_step
    ihave H4 := (owns_of_rep (c : Thread nD τ) arg4 fullShare x.k) $$ H4
    ihave H5 := (owns_of_rep (c : Thread nD τ) arg5 fullShare x.v) $$ H5
    ihave H6 := (owns_of_rep (c : Thread nD τ) arg6 fullShare x.q) $$ H6
    ihave H7 := (owns_of_rep (c : Thread nD τ) arg7 fullShare x.o) $$ H7
    ihave H8 := (owns_of_rep (c : Thread nD τ) arg8 fullShare x.l) $$ H8
    ihave H9 := (owns_of_rep (c : Thread nD τ) arg9 fullShare x.d) $$ H9
    ihave H13 := (owns_intro (c : Thread nD τ) arg13 fullShare _) $$ H13
    ihave H14 := (owns_intro (c : Thread nD τ) arg14 fullShare _) $$ H14
    ihave H15 := (owns_intro (c : Thread nD τ) arg15 fullShare _) $$ H15
    sl_open_run
    simp only [View.readAt_rep_full, View.read_writes_full, read_writes_put, read_writes_cons, View.writes_nil, View.read_rep, readAt_rep_window,
      put_S768x256, window_S768x256, put_S768x128, window_S768x128, put_S16896x256, window_S16896x256, put_S1x768x256, window_S1x768x256, put_S1x768x128, window_S1x768x128, put_S1x1536x256, window_S1x1536x256, put_S1536x128, window_S1536x128, put_S1x1x1536, window_S1x1x1536]
    iapply Hk
    isplitl [H4 H5 H6 H7 H8 H9]
    · iframe
    · isplitl [H13]; · iexact H13
      isplitl [H14]; · iexact H14
      iexact H15
  · simp only [dif_neg h]
    rw [wp_pure]
    iintro ⟨Hi, Hs, Hk⟩
    imodintro
    iapply Hk
    isplitl [Hi]; · iexact Hi
    iexact Hs

set_option backward.proofsInPublic true in
set_option maxHeartbeats 4000000 in
theorem blkDiag0_spec (x : Ins F) (s : St F) (v1 v3 : BitVec 32) (hw : k0_chk1 v1 v3) (K : PUnit → sProp 𝕄) :
    iprop(insOwn c arg4 arg5 arg6 arg7 arg8 arg9 x ∗ stOwn c arg13 arg14 arg15 s
        ∗ ((insOwn c arg4 arg5 arg6 arg7 arg8 arg9 x ∗ stOwn c arg13 arg14 arg15 (stDiag0 x s v1 v3 hw)) -∗ K ⟨⟩))
      ⊢ wp frame (wpE (defs₀ (F := F)) Variants.none c none) Set.univ
          (blkDiag0 i arg2 harg2 arg3 harg3 arg4 harg4 arg5 harg5 arg6 harg6 arg7 harg7 arg8 harg8 arg9 harg9 arg10 harg10 arg11 harg11 arg12 harg12 arg13 harg13 arg14 harg14 arg15 harg15 arg16 v1 v3 hw) K := by
  unfold blkDiag0 stDiag0
  by_cases h : k0_cond4 v1 v3 = 1#1
  · simp only [dif_pos h]
    unfold insOwn stOwn
    iintro ⟨⟨H4, H5, H6, H7, H8, H9⟩, ⟨H13, H14, H15⟩, Hk⟩
    ihave H4 := (rep_of_owns (c : Thread nD τ) arg4 fullShare x.k) $$ H4
    ihave H5 := (rep_of_owns (c : Thread nD τ) arg5 fullShare x.v) $$ H5
    ihave H6 := (rep_of_owns (c : Thread nD τ) arg6 fullShare x.q) $$ H6
    ihave H7 := (rep_of_owns (c : Thread nD τ) arg7 fullShare x.o) $$ H7
    ihave H8 := (rep_of_owns (c : Thread nD τ) arg8 fullShare x.l) $$ H8
    ihave H9 := (rep_of_owns (c : Thread nD τ) arg9 fullShare x.d) $$ H9
    ihave H13 := (rep_of_owns (c : Thread nD τ) arg13 fullShare s.dq) $$ H13
    ihave H14 := (rep_of_owns (c : Thread nD τ) arg14 fullShare s.dk) $$ H14
    ihave H15 := (rep_of_owns (c : Thread nD τ) arg15 fullShare s.dv) $$ H15
    sl_exec! (disch := first | (guard_target = k0_cond4 _ _ = _; exact h))
    sl_step
    ihave H4 := (owns_of_rep (c : Thread nD τ) arg4 fullShare x.k) $$ H4
    ihave H5 := (owns_of_rep (c : Thread nD τ) arg5 fullShare x.v) $$ H5
    ihave H6 := (owns_of_rep (c : Thread nD τ) arg6 fullShare x.q) $$ H6
    ihave H7 := (owns_of_rep (c : Thread nD τ) arg7 fullShare x.o) $$ H7
    ihave H8 := (owns_of_rep (c : Thread nD τ) arg8 fullShare x.l) $$ H8
    ihave H9 := (owns_of_rep (c : Thread nD τ) arg9 fullShare x.d) $$ H9
    ihave H13 := (owns_intro (c : Thread nD τ) arg13 fullShare _) $$ H13
    ihave H14 := (owns_intro (c : Thread nD τ) arg14 fullShare _) $$ H14
    ihave H15 := (owns_intro (c : Thread nD τ) arg15 fullShare _) $$ H15
    sl_open_run
    simp only [View.readAt_rep_full, View.read_writes_full, read_writes_put, read_writes_cons, View.writes_nil, View.read_rep, readAt_rep_window,
      put_S768x256, window_S768x256, put_S768x128, window_S768x128, put_S16896x256, window_S16896x256, put_S1x768x256, window_S1x768x256, put_S1x768x128, window_S1x768x128, put_S1x1536x256, window_S1x1536x256, put_S1536x128, window_S1536x128, put_S1x1x1536, window_S1x1x1536]
    iapply Hk
    isplitl [H4 H5 H6 H7 H8 H9]
    · iframe
    · isplitl [H13]; · iexact H13
      isplitl [H14]; · iexact H14
      iexact H15
  · simp only [dif_neg h]
    rw [wp_pure]
    iintro ⟨Hi, Hs, Hk⟩
    imodintro
    iapply Hk
    isplitl [Hi]; · iexact Hi
    iexact Hs

set_option backward.proofsInPublic true in
set_option maxHeartbeats 4000000 in
theorem blkDiag1_spec (x : Ins F) (s : St F) (v1 v3 : BitVec 32) (hw : k0_chk1 v1 v3) (K : PUnit → sProp 𝕄) :
    iprop(insOwn c arg4 arg5 arg6 arg7 arg8 arg9 x ∗ stOwn c arg13 arg14 arg15 s
        ∗ ((insOwn c arg4 arg5 arg6 arg7 arg8 arg9 x ∗ stOwn c arg13 arg14 arg15 (stDiag1 x s v1 v3 hw)) -∗ K ⟨⟩))
      ⊢ wp frame (wpE (defs₀ (F := F)) Variants.none c none) Set.univ
          (blkDiag1 i arg2 harg2 arg3 harg3 arg4 harg4 arg5 harg5 arg6 harg6 arg7 harg7 arg8 harg8 arg9 harg9 arg10 harg10 arg11 harg11 arg12 harg12 arg13 harg13 arg14 harg14 arg15 harg15 arg16 v1 v3 hw) K := by
  unfold blkDiag1 stDiag1
  by_cases h : k0_cond5 v1 v3 = 1#1
  · simp only [dif_pos h]; unfold loQ loO loL loD
    unfold insOwn stOwn
    iintro ⟨⟨H4, H5, H6, H7, H8, H9⟩, ⟨H13, H14, H15⟩, Hk⟩
    ihave H4 := (rep_of_owns (c : Thread nD τ) arg4 fullShare x.k) $$ H4
    ihave H5 := (rep_of_owns (c : Thread nD τ) arg5 fullShare x.v) $$ H5
    ihave H6 := (rep_of_owns (c : Thread nD τ) arg6 fullShare x.q) $$ H6
    ihave H7 := (rep_of_owns (c : Thread nD τ) arg7 fullShare x.o) $$ H7
    ihave H8 := (rep_of_owns (c : Thread nD τ) arg8 fullShare x.l) $$ H8
    ihave H9 := (rep_of_owns (c : Thread nD τ) arg9 fullShare x.d) $$ H9
    ihave H13 := (rep_of_owns (c : Thread nD τ) arg13 fullShare s.dq) $$ H13
    ihave H14 := (rep_of_owns (c : Thread nD τ) arg14 fullShare s.dk) $$ H14
    ihave H15 := (rep_of_owns (c : Thread nD τ) arg15 fullShare s.dv) $$ H15
    sl_exec! (disch := first | (guard_target = k0_cond5 _ _ = _; exact h))
    sl_step
    ihave H4 := (owns_of_rep (c : Thread nD τ) arg4 fullShare x.k) $$ H4
    ihave H5 := (owns_of_rep (c : Thread nD τ) arg5 fullShare x.v) $$ H5
    ihave H6 := (owns_of_rep (c : Thread nD τ) arg6 fullShare x.q) $$ H6
    ihave H7 := (owns_of_rep (c : Thread nD τ) arg7 fullShare x.o) $$ H7
    ihave H8 := (owns_of_rep (c : Thread nD τ) arg8 fullShare x.l) $$ H8
    ihave H9 := (owns_of_rep (c : Thread nD τ) arg9 fullShare x.d) $$ H9
    ihave H13 := (owns_intro (c : Thread nD τ) arg13 fullShare _) $$ H13
    ihave H14 := (owns_intro (c : Thread nD τ) arg14 fullShare _) $$ H14
    ihave H15 := (owns_intro (c : Thread nD τ) arg15 fullShare _) $$ H15
    sl_open_run
    simp only [View.readAt_rep_full, View.read_writes_full, read_writes_put, read_writes_cons, View.writes_nil, View.read_rep, readAt_rep_window,
      put_S768x256, window_S768x256, put_S768x128, window_S768x128, put_S16896x256, window_S16896x256, put_S1x768x256, window_S1x768x256, put_S1x768x128, window_S1x768x128, put_S1x1536x256, window_S1x1536x256, put_S1536x128, window_S1536x128, put_S1x1x1536, window_S1x1x1536]
    iapply Hk
    isplitl [H4 H5 H6 H7 H8 H9]
    · iframe
    · isplitl [H13]; · iexact H13
      isplitl [H14]; · iexact H14
      iexact H15
  · simp only [dif_neg h]
    rw [wp_pure]
    iintro ⟨Hi, Hs, Hk⟩
    imodintro
    iapply Hk
    isplitl [Hi]; · iexact Hi
    iexact Hs

set_option backward.proofsInPublic true in
set_option maxHeartbeats 4000000 in
theorem blkZero_spec (s : St F) (K : PUnit → sProp 𝕄) :
    iprop(stOwn c arg13 arg14 arg15 s ∗ (stOwn c arg13 arg14 arg15 (stZero s i) -∗ K ⟨⟩))
      ⊢ wp frame (wpE (defs₀ (F := F)) Variants.none c none) Set.univ (blkZero i arg13) K := by
  unfold blkZero stZero
  by_cases h : cond1 i = 1#1
  · simp only [dif_pos h, if_pos h]
    unfold stOwn
    iintro ⟨⟨H13, H14, H15⟩, Hk⟩
    ihave H13 := (rep_of_owns (c : Thread nD τ) arg13 fullShare s.dq) $$ H13
    sl_exec! (disch := first | (guard_target = cond1 _ = _; exact h))
    sl_step
    ihave H13 := (owns_intro (c : Thread nD τ) arg13 fullShare _) $$ H13
    sl_open_run
    simp only [View.readAt_rep_full, View.read_writes_full, read_writes_put, read_writes_cons, View.writes_nil, View.read_rep, readAt_rep_window,
      put_S768x256, window_S768x256, put_S768x128, window_S768x128, put_S16896x256, window_S16896x256, put_S1x768x256, window_S1x768x256, put_S1x768x128, window_S1x768x128, put_S1x1536x256, window_S1x1536x256, put_S1536x128, window_S1536x128, put_S1x1x1536, window_S1x1x1536]
    iapply Hk
    isplitl [H13]; · iexact H13
    isplitl [H14]; · iexact H14
    iexact H15
  · simp only [dif_neg h, if_neg h]
    rw [wp_pure]
    iintro ⟨Hs, Hk⟩
    imodintro
    iapply Hk
    iexact Hs

set_option backward.proofsInPublic true in
set_option maxHeartbeats 4000000 in
theorem blkInit_spec (s : St F) (v1 v3 : BitVec 32) (K : PUnit → sProp 𝕄) :
    iprop(stOwn c arg13 arg14 arg15 s ∗ (stOwn c arg13 arg14 arg15 (stInit s v1 v3) -∗ K ⟨⟩))
      ⊢ wp frame (wpE (defs₀ (F := F)) Variants.none c none) Set.univ (blkInit arg14 arg15 v1 v3) K := by
  unfold blkInit stInit
  by_cases h : cond2 v1 v3 = 1#1
  · simp only [if_pos h]
    unfold stOwn
    iintro ⟨⟨H13, H14, H15⟩, Hk⟩
    ihave H14 := (rep_of_owns (c : Thread nD τ) arg14 fullShare s.dk) $$ H14
    ihave H15 := (rep_of_owns (c : Thread nD τ) arg15 fullShare s.dv) $$ H15
    sl_exec! (disch := first | (guard_target = cond2 _ _ = _; exact h))
    sl_step
    ihave H14 := (owns_intro (c : Thread nD τ) arg14 fullShare _) $$ H14
    ihave H15 := (owns_intro (c : Thread nD τ) arg15 fullShare _) $$ H15
    sl_open_run
    simp only [View.readAt_rep_full, View.read_writes_full, read_writes_put, read_writes_cons, View.writes_nil, View.read_rep, readAt_rep_window,
      put_S768x256, window_S768x256, put_S768x128, window_S768x128, put_S16896x256, window_S16896x256, put_S1x768x256, window_S1x768x256, put_S1x768x128, window_S1x768x128, put_S1x1536x256, window_S1x1536x256, put_S1536x128, window_S1536x128, put_S1x1x1536, window_S1x1x1536]
    iapply Hk
    isplitl [H13]; · iexact H13
    isplitl [H14]; · iexact H14
    iexact H15
  · simp only [if_neg h]
    rw [wp_pure]
    iintro ⟨Hs, Hk⟩
    imodintro
    iapply Hk
    iexact Hs

set_option backward.proofsInPublic true in
set_option maxHeartbeats 4000000 in
theorem blkOut_spec (s : St F) (v1 : BitVec 32) (yk : S1x768x256.Idx → Elt F .f32) (yv : S1x768x128.Idx → Elt F .f32) (K : PUnit → sProp 𝕄) :
    iprop(stOwn c arg13 arg14 arg15 s ∗ owns (c : Thread nD τ) arg11 fullShare yk ∗ owns (c : Thread nD τ) arg12 fullShare yv
        ∗ ((stOwn c arg13 arg14 arg15 s
            ∗ owns (c : Thread nD τ) arg11 fullShare (if k0_cond6 v1 = 1#1 then k0_pay7 s.dk else yk)
            ∗ owns (c : Thread nD τ) arg12 fullShare (if k0_cond6 v1 = 1#1 then k0_pay8 s.dv else yv)) -∗ K ⟨⟩))
      ⊢ wp frame (wpE (defs₀ (F := F)) Variants.none c none) Set.univ (blkOut arg11 arg12 arg14 arg15 v1) K := by
  unfold blkOut
  by_cases h : k0_cond6 v1 = 1#1
  · simp only [dif_pos h, if_pos h]
    unfold stOwn
    iintro ⟨⟨H13, H14, H15⟩, H11, H12, Hk⟩
    ihave H14 := (rep_of_owns (c : Thread nD τ) arg14 fullShare s.dk) $$ H14
    ihave H15 := (rep_of_owns (c : Thread nD τ) arg15 fullShare s.dv) $$ H15
    ihave H11 := (rep_of_owns (c : Thread nD τ) arg11 fullShare yk) $$ H11
    ihave H12 := (rep_of_owns (c : Thread nD τ) arg12 fullShare yv) $$ H12
    sl_exec! (disch := first | (guard_target = k0_cond6 _ = _; exact h))
    sl_step
    ihave H14 := (owns_of_rep (c : Thread nD τ) arg14 fullShare s.dk) $$ H14
    ihave H15 := (owns_of_rep (c : Thread nD τ) arg15 fullShare s.dv) $$ H15
    ihave H11 := (owns_intro (c : Thread nD τ) arg11 fullShare _) $$ H11
    ihave H12 := (owns_intro (c : Thread nD τ) arg12 fullShare _) $$ H12
    sl_open_run
    simp only [View.readAt_rep_full, View.read_writes_full, read_writes_put, read_writes_cons, View.writes_nil, View.read_rep, readAt_rep_window,
      put_S768x256, window_S768x256, put_S768x128, window_S768x128, put_S16896x256, window_S16896x256, put_S1x768x256, window_S1x768x256, put_S1x768x128, window_S1x768x128, put_S1x1536x256, window_S1x1536x256, put_S1536x128, window_S1536x128, put_S1x1x1536, window_S1x1x1536]
    iapply Hk
    isplitl [H13 H14 H15]
    · iframe
    isplitl [H11]; · iexact H11
    iexact H12
  · simp only [dif_neg h, if_neg h]
    rw [wp_pure]
    iintro ⟨Hs, H11, H12, Hk⟩
    imodintro
    iapply Hk
    iframe

set_option backward.proofsInPublic true in
set_option maxHeartbeats 4000000 in
theorem blkDma_spec (s : St F) (g : S8x16896x256.Idx → Elt F .f32) (W : Waits sig Unit) (K : PUnit → sProp 𝕄) :
    iprop(owns (c : Thread nD τ) arg13 fullShare s.dq ∗ owns (c : Thread nD τ) arg10 fullShare g
        ∗ semVal ((c : Thread nD τ), SemLoc.dma arg16.sem) 0 ∗ owes (c : Thread nD τ) 0 W
        ∗ ((owns (c : Thread nD τ) arg13 fullShare s.dq ∗ owns (c : Thread nD τ) arg10 fullShare (dqOut s i g)
            ∗ semVal ((c : Thread nD τ), SemLoc.dma arg16.sem) 0 ∗ ∃ W', owes (c : Thread nD τ) 0 W') -∗ K ⟨⟩))
      ⊢ wp frame (wpE (defs₀ (F := F)) Variants.none c none) Set.univ (blkDma i arg10 arg13 harg13 arg16) K := by
  unfold blkDma dqOut
  by_cases h : k0_cond7 i = 1#1
  · simp only [dif_pos h, if_pos h]
    iintro ⟨H13, H10, Hsem, Howes, Hk⟩
    ihave H13 := (rep_of_owns (c : Thread nD τ) arg13 fullShare s.dq) $$ H13
    ihave H10 := (rep_of_owns (c : Thread nD τ) arg10 fullShare g) $$ H10
    sl_exec! (disch := first | (guard_target = k0_cond7 _ = _; exact h))
    sl_step
    ihave H13 := (owns_of_rep (c : Thread nD τ) arg13 fullShare s.dq) $$ H13
    ihave H10 := (owns_of_read (c : Thread nD τ) arg10 _ (VecWindow.put g (k0_off5 i) S1x16896x256.size
      fun y => s.dq ((Shape.reshapeEquiv (squeezes_S1x16896x256_S16896x256).numel_eq).symm y)) (by
        sl_open_run
        rw [View.read_rep]
        exact read_write_squeezed arg10 g (k0_off5_inb i h) (fun _ => rfl) squeezes_S1x16896x256_S16896x256 s.dq)) $$ H10
    iapply Hk
    iframe
    iexists _; iexact Howes
  · simp only [dif_neg h, if_neg h]
    rw [wp_pure]
    iintro ⟨Hs, H10, Hsem, Ho, Hk⟩
    imodintro
    iapply Hk
    iframe
    iexists W; iexact Ho

end Specs

end Cert.KernelIdeal.Attn

end
-- ==== Proof.Tables.lean ====
/- The two prefetched tables, the grid points' words, and what is decided of them once and for all points. -/
module

public import proofs.«01_k».proof.Proof.Gen.KernelIdeal.Skeleton
public import proofs.«01_k».proof.Proof.Gen.KernelIdeal.Launch
public import Idealize.ShloMosaic.Lib.Pipeline.FrameSuffixV
public import Idealize.ShloMosaic.Lib.Pipeline.TableIdle
public import Idealize.ShloMosaic.PureOps.Ideal

@[expose] public section

set_option maxRecDepth 16384
set_option Elab.async false

noncomputable section

namespace Cert.KernelIdeal.Attn

open Cert.KernelIdeal Cert.KernelIdeal.Gen
open Idealize.ShloMosaic
open Idealize.ShloMosaic.TcCoe

/-- Point `p`'s block of queries, -/
def wq (i : grid0.Coords) : BitVec 32 := lit0 (i 1)
/-- and its block of keys. -/
def wk (i : grid0.Coords) : BitVec 32 := lit1 (i 1)

/-- The block of queries of each pair, -/
def tab0 : S132.Idx → BitVec 32 := fun i => lit0 (S132.rowMajor i)
/-- and its block of keys. -/
def tab1 : S132.Idx → BitVec 32 := fun i => lit1 (S132.rowMajor i)

variable {F : FTy → Type} [FloatOps F] [Named F]

set_option backward.proofsInPublic true in
/-- The tables' contents. -/
def pfN : pre0.Contents (Elt F) := fun | ⟨0, _⟩ => tab0 | ⟨1, _⟩ => tab1 | ⟨_ + 2, h⟩ => absurd h (by simp)

/-! ## Each window's block at a point -/

theorem tr0_ideal : ∀ i : grid0.Coords, ∀ a, cc0_transform_0 k0_off1_inb numel1_S1 (pfN (F := Ideal)) i a = (![(i 0).val, (wk i).toNat, 0] : Fin 3 → ℕ) a := by decide +kernel
theorem tr0 : ∀ i : grid0.Coords, ∀ a, cc0_transform_0 k0_off1_inb numel1_S1 (pfN (F := F)) i a = (![(i 0).val, (wk i).toNat, 0] : Fin 3 → ℕ) a := tr0_ideal
theorem tr1_ideal : ∀ i : grid0.Coords, ∀ a, cc0_transform_1 k0_off1_inb numel1_S1 (pfN (F := Ideal)) i a = (![(i 0).val, (wk i).toNat, 0] : Fin 3 → ℕ) a := by decide +kernel
theorem tr1 : ∀ i : grid0.Coords, ∀ a, cc0_transform_1 k0_off1_inb numel1_S1 (pfN (F := F)) i a = (![(i 0).val, (wk i).toNat, 0] : Fin 3 → ℕ) a := tr1_ideal
theorem tr2_ideal : ∀ i : grid0.Coords, ∀ a, cc0_transform_2 k0_off1_inb numel1_S1 (pfN (F := Ideal)) i a = (![(i 0).val, (wq i).toNat, 0] : Fin 3 → ℕ) a := by decide +kernel
theorem tr2 : ∀ i : grid0.Coords, ∀ a, cc0_transform_2 k0_off1_inb numel1_S1 (pfN (F := F)) i a = (![(i 0).val, (wq i).toNat, 0] : Fin 3 → ℕ) a := tr2_ideal
theorem tr3_ideal : ∀ i : grid0.Coords, ∀ a, cc0_transform_3 k0_off1_inb numel1_S1 (pfN (F := Ideal)) i a = (![(wq i).toNat, (i 0).val] : Fin 2 → ℕ) a := by decide +kernel
theorem tr3 : ∀ i : grid0.Coords, ∀ a, cc0_transform_3 k0_off1_inb numel1_S1 (pfN (F := F)) i a = (![(wq i).toNat, (i 0).val] : Fin 2 → ℕ) a := tr3_ideal
theorem tr4_ideal : ∀ i : grid0.Coords, ∀ a, cc0_transform_4 k0_off1_inb numel1_S1 (pfN (F := Ideal)) i a = (![(i 0).val, 0, (wq i).toNat] : Fin 3 → ℕ) a := by decide +kernel
theorem tr4 : ∀ i : grid0.Coords, ∀ a, cc0_transform_4 k0_off1_inb numel1_S1 (pfN (F := F)) i a = (![(i 0).val, 0, (wq i).toNat] : Fin 3 → ℕ) a := tr4_ideal
theorem tr5_ideal : ∀ i : grid0.Coords, ∀ a, cc0_transform_5 k0_off1_inb numel1_S1 (pfN (F := Ideal)) i a = (![(i 0).val, 0, (wq i).toNat] : Fin 3 → ℕ) a := by decide +kernel
theorem tr5 : ∀ i : grid0.Coords, ∀ a, cc0_transform_5 k0_off1_inb numel1_S1 (pfN (F := F)) i a = (![(i 0).val, 0, (wq i).toNat] : Fin 3 → ℕ) a := tr5_ideal
theorem tr7_ideal : ∀ i : grid0.Coords, ∀ a, cc0_transform_7 k0_off1_inb numel1_S1 (pfN (F := Ideal)) i a = (![(i 0).val, (wk i).toNat, 0] : Fin 3 → ℕ) a := by decide +kernel
theorem tr7 : ∀ i : grid0.Coords, ∀ a, cc0_transform_7 k0_off1_inb numel1_S1 (pfN (F := F)) i a = (![(i 0).val, (wk i).toNat, 0] : Fin 3 → ℕ) a := tr7_ideal
theorem tr8_ideal : ∀ i : grid0.Coords, ∀ a, cc0_transform_8 k0_off1_inb numel1_S1 (pfN (F := Ideal)) i a = (![(i 0).val, (wk i).toNat, 0] : Fin 3 → ℕ) a := by decide +kernel
theorem tr8 : ∀ i : grid0.Coords, ∀ a, cc0_transform_8 k0_off1_inb numel1_S1 (pfN (F := F)) i a = (![(i 0).val, (wk i).toNat, 0] : Fin 3 → ℕ) a := tr8_ideal

/-! ## The blocks lie inside the arrays -/

theorem in0 : ∀ i : grid0.Coords, ∀ a, ((![(i 0).val, (wk i).toNat, 0] : Fin 3 → ℕ) a + 1) * S1x768x256.size a ≤ S8x16896x256.size a := by decide +kernel
theorem ok0' : ∀ i : grid0.Coords, ∃ h : (∀ a, (cc0_transform_0 k0_off1_inb numel1_S1 (pfN (F := F)) i a + 1) * S1x768x256.size a ≤ S8x16896x256.size a), EltTy.bits .bf16 = 32 ∨ (Rect.block (s := S8x16896x256) S1x768x256.size (cc0_transform_0 k0_off1_inb numel1_S1 (pfN (F := F)) i) h).WholeWords (EltTy.packing .bf16) :=
  fun i => ⟨fun a => by rw [tr0]; exact in0 i a, .inr (Affine.block_words_dvd (by decide) (by decide))⟩
theorem in1 : ∀ i : grid0.Coords, ∀ a, ((![(i 0).val, (wk i).toNat, 0] : Fin 3 → ℕ) a + 1) * S1x768x128.size a ≤ S8x16896x128.size a := by decide +kernel
theorem ok1 : ∀ i : grid0.Coords, ∃ h : (∀ a, (cc0_transform_1 k0_off1_inb numel1_S1 (pfN (F := F)) i a + 1) * S1x768x128.size a ≤ S8x16896x128.size a), EltTy.bits .bf16 = 32 ∨ (Rect.block (s := S8x16896x128) S1x768x128.size (cc0_transform_1 k0_off1_inb numel1_S1 (pfN (F := F)) i) h).WholeWords (EltTy.packing .bf16) :=
  fun i => ⟨fun a => by rw [tr1]; exact in1 i a, .inr (Affine.block_words_dvd (by decide) (by decide))⟩
theorem in2 : ∀ i : grid0.Coords, ∀ a, ((![(i 0).val, (wq i).toNat, 0] : Fin 3 → ℕ) a + 1) * S1x1536x256.size a ≤ S8x16896x256.size a := by decide +kernel
theorem ok2 : ∀ i : grid0.Coords, ∃ h : (∀ a, (cc0_transform_2 k0_off1_inb numel1_S1 (pfN (F := F)) i a + 1) * S1x1536x256.size a ≤ S8x16896x256.size a), EltTy.bits .bf16 = 32 ∨ (Rect.block (s := S8x16896x256) S1x1536x256.size (cc0_transform_2 k0_off1_inb numel1_S1 (pfN (F := F)) i) h).WholeWords (EltTy.packing .bf16) :=
  fun i => ⟨fun a => by rw [tr2]; exact in2 i a, .inr (Affine.block_words_dvd (by decide) (by decide))⟩
theorem in3 : ∀ i : grid0.Coords, ∀ a, ((![(wq i).toNat, (i 0).val] : Fin 2 → ℕ) a + 1) * S1536x128.size a ≤ S16896x2048.size a := by decide +kernel
theorem ok3 : ∀ i : grid0.Coords, ∃ h : (∀ a, (cc0_transform_3 k0_off1_inb numel1_S1 (pfN (F := F)) i a + 1) * S1536x128.size a ≤ S16896x2048.size a), EltTy.bits .bf16 = 32 ∨ (Rect.block (s := S16896x2048) S1536x128.size (cc0_transform_3 k0_off1_inb numel1_S1 (pfN (F := F)) i) h).WholeWords (EltTy.packing .bf16) :=
  fun i => ⟨fun a => by rw [tr3]; exact in3 i a, .inr (Affine.block_words_dvd (by decide) (by decide))⟩
theorem in4 : ∀ i : grid0.Coords, ∀ a, ((![(i 0).val, 0, (wq i).toNat] : Fin 3 → ℕ) a + 1) * S1x1x1536.size a ≤ S8x1x16896.size a := by decide +kernel
theorem ok4 : ∀ i : grid0.Coords, ∃ h : (∀ a, (cc0_transform_4 k0_off1_inb numel1_S1 (pfN (F := F)) i a + 1) * S1x1x1536.size a ≤ S8x1x16896.size a), EltTy.bits .f32 = 32 ∨ (Rect.block (s := S8x1x16896) S1x1x1536.size (cc0_transform_4 k0_off1_inb numel1_S1 (pfN (F := F)) i) h).WholeWords (EltTy.packing .f32) :=
  fun i => ⟨fun a => by rw [tr4]; exact in4 i a, .inl rfl⟩
theorem ok5 : ∀ i : grid0.Coords, ∃ h : (∀ a, (cc0_transform_5 k0_off1_inb numel1_S1 (pfN (F := F)) i a + 1) * S1x1x1536.size a ≤ S8x1x16896.size a), EltTy.bits .f32 = 32 ∨ (Rect.block (s := S8x1x16896) S1x1x1536.size (cc0_transform_5 k0_off1_inb numel1_S1 (pfN (F := F)) i) h).WholeWords (EltTy.packing .f32) :=
  fun i => ⟨fun a => by rw [tr5]; exact in4 i a, .inl rfl⟩
theorem ok7 : ∀ i : grid0.Coords, ∃ h : (∀ a, (cc0_transform_7 k0_off1_inb numel1_S1 (pfN (F := F)) i a + 1) * S1x768x256.size a ≤ S8x16896x256.size a), EltTy.bits .f32 = 32 ∨ (Rect.block (s := S8x16896x256) S1x768x256.size (cc0_transform_7 k0_off1_inb numel1_S1 (pfN (F := F)) i) h).WholeWords (EltTy.packing .f32) :=
  fun i => ⟨fun a => by rw [tr7]; exact in0 i a, .inl rfl⟩
theorem ok8 : ∀ i : grid0.Coords, ∃ h : (∀ a, (cc0_transform_8 k0_off1_inb numel1_S1 (pfN (F := F)) i a + 1) * S1x768x128.size a ≤ S8x16896x128.size a), EltTy.bits .f32 = 32 ∨ (Rect.block (s := S8x16896x128) S1x768x128.size (cc0_transform_8 k0_off1_inb numel1_S1 (pfN (F := F)) i) h).WholeWords (EltTy.packing .f32) :=
  fun i => ⟨fun a => by rw [tr8]; exact in1 i a, .inl rfl⟩

/-- The region's side condition on the tables. -/
theorem ok_pfN : ok0 (pfN (F := F)) := ⟨ok0', ok1, ok2, ok3, ok4, ok5, ok7, ok8⟩

/-- The tables, admitted. -/
def adm : (pcfg0 (F := F)).Adm := ⟨pfN, ok_pfN⟩
/-- The pipeline at them. -/
abbrev cfgA : Pipeline.Cfg sig Λ₀ := cfg0 (F := F) adm
/-- The program's pipelines at them. -/
abbrev pcs : Fin 1 → Pipeline.Cfg sig Λ₀ := Pipeline.pin (pcfgs (F := F)) fun _ => adm

/-! ## The words the body reads, and its checks -/

theorem read0_ideal : ∀ i : grid0.Coords, View.readAt (Elt Ideal) (Memref.whole main_c).view (Rect.unit (s := S132) (k0_off1 i) S1.size (k0_off1_inb i)).toLoadRect tab0 (Shape.Idx.first (numel1_S1.symm ▸ Nat.one_pos)) = wq i := by decide +kernel
theorem read0 : ∀ i : grid0.Coords, View.readAt (Elt F) (Memref.whole main_c).view (Rect.unit (s := S132) (k0_off1 i) S1.size (k0_off1_inb i)).toLoadRect tab0 (Shape.Idx.first (numel1_S1.symm ▸ Nat.one_pos)) = wq i := read0_ideal
theorem read1_ideal : ∀ i : grid0.Coords, View.readAt (Elt Ideal) (Memref.whole main_c_0).view (Rect.unit (s := S132) (k0_off1 i) S1.size (k0_off1_inb i)).toLoadRect tab1 (Shape.Idx.first (numel1_S1.symm ▸ Nat.one_pos)) = wk i := by decide +kernel
theorem read1 : ∀ i : grid0.Coords, View.readAt (Elt F) (Memref.whole main_c_0).view (Rect.unit (s := S132) (k0_off1 i) S1.size (k0_off1_inb i)).toLoadRect tab1 (Shape.Idx.first (numel1_S1.symm ▸ Nat.one_pos)) = wk i := read1_ideal

theorem chkP : ∀ p : Fin 132, k0_chk1 (lit0 p) (lit1 p) := by decide +kernel
/-- The words pass the body's check. -/
theorem chk (i : grid0.Coords) : k0_chk1 (wq i) (wk i) := chkP (i 1)

/-! ## When an output block is written and sent back -/

theorem idle6_ideal : ∀ i : grid0.Coords, idle0 (pfN (F := Ideal)) (6 : Fin 8) i = !(decide (k0_cond6 (wq i) = 1#1)) := by decide +kernel
theorem idle6 : ∀ i : grid0.Coords, idle0 (pfN (F := F)) (6 : Fin 8) i = !(decide (k0_cond6 (wq i) = 1#1)) := idle6_ideal
theorem idle7_ideal : ∀ i : grid0.Coords, idle0 (pfN (F := Ideal)) (7 : Fin 8) i = !(decide (k0_cond6 (wq i) = 1#1)) := by decide +kernel
theorem idle7 : ∀ i : grid0.Coords, idle0 (pfN (F := F)) (7 : Fin 8) i = !(decide (k0_cond6 (wq i) = 1#1)) := idle7_ideal

/-- A point's head, -/
theorem coords0 : ∀ t : Fin grid0.N, (grid0.coords t 0).val = t.val / 132 := by decide +kernel
/-- and its pair. -/
theorem coords1 : ∀ t : Fin grid0.N, (grid0.coords t 1).val = t.val % 132 := by decide +kernel

/-- Where the output blocks are not written the next point has the same ones. -/
theorem stays : ∀ t : Fin grid0.N, k0_cond6 (wq (grid0.coords t)) ≠ 1#1 → ∃ h : t.val + 1 < grid0.N,
    (grid0.coords ⟨t.val + 1, h⟩ 0).val = (grid0.coords t 0).val ∧ (wk (grid0.coords ⟨t.val + 1, h⟩)).toNat = (wk (grid0.coords t)).toNat := by decide +kernel

end Cert.KernelIdeal.Attn

end
-- ==== Proof.Body.lean ====
/- The kernel's body as the run of its blocks, and what one point does: the scratch buffers step (`stStep`), the output
   windows take the keys' and values' gradients at a block's last point, the head's gradient of the queries is copied out
   at the head's last point. -/
module

public import proofs.«01_k».proof.Proof.Blocks
public import proofs.«01_k».proof.Proof.Tables

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf UD)

variable {F : FTy → Type} [FloatOps F] [Named F]

local notation "𝕄" => MT nD τ sig Unit (Elt F) ℕ (UD sig nD τ) ℕ

section Compose

variable (i : grid0.Coords) (arg2 : Memref sig .tc .smem S132 .i32) (harg2 : arg2.IsWhole) (arg3 : Memref sig .tc .smem S132 .i32) (harg3 : arg3.IsWhole)
  (arg4 : Memref sig .tc .vmem S1x768x256 .bf16) (harg4 : arg4.IsWhole) (arg5 : Memref sig .tc .vmem S1x768x128 .bf16) (harg5 : arg5.IsWhole)
  (arg6 : Memref sig .tc .vmem S1x1536x256 .bf16) (harg6 : arg6.IsWhole) (arg7 : Memref sig .tc .vmem S1536x128 .bf16) (harg7 : arg7.IsWhole)
  (arg8 : Memref sig .tc .vmem S1x1x1536 .f32) (harg8 : arg8.IsWhole) (arg9 : Memref sig .tc .vmem S1x1x1536 .f32) (harg9 : arg9.IsWhole)
  (arg10 : Memref sig .tc .hbm S8x16896x256 .f32) (harg10 : arg10.IsWhole) (arg11 : Memref sig .tc .vmem S1x768x256 .f32) (harg11 : arg11.IsWhole)
  (arg12 : Memref sig .tc .vmem S1x768x128 .f32) (harg12 : arg12.IsWhole) (arg13 : Memref sig .tc .vmem S16896x256 .f32) (harg13 : arg13.IsWhole)
  (arg14 : Memref sig .tc .vmem S768x256 .f32) (harg14 : arg14.IsWhole) (arg15 : Memref sig .tc .vmem S768x128 .f32) (harg15 : arg15.IsWhole)
  (arg16 : DmaSems sig S_)

/-- The body: the point's two words, their check, and the blocks. -/
def body : Prog (TpuEff nD τ sig (Elt F) Λ₀ .tc) PUnit := do
  let v1 : Elt F .i32 ← smemLoad arg2 (Rect.unit (s := S132) (k0_off1 i) S1.size (k0_off1_inb i)) numel1_S1 rfl
  let v3 : Elt F .i32 ← smemLoad arg3 (Rect.unit (s := S132) (k0_off1 i) S1.size (k0_off1_inb i)) numel1_S1 rfl
  let hw ← Prog.lift (TpuEff.assume (k0_chk1 v1 v3) (k0_chk1.dec v1 v3))
  blkZero i arg13
  blkInit arg14 arg15 v1 v3
  blkFull i arg2 harg2 arg3 harg3 arg4 harg4 arg5 harg5 arg6 harg6 arg7 harg7 arg8 harg8 arg9 harg9 arg10 harg10 arg11 harg11 arg12 harg12 arg13 harg13 arg14 harg14 arg15 harg15 arg16 v1 v3 hw.down
  blkDiag0 i arg2 harg2 arg3 harg3 arg4 harg4 arg5 harg5 arg6 harg6 arg7 harg7 arg8 harg8 arg9 harg9 arg10 harg10 arg11 harg11 arg12 harg12 arg13 harg13 arg14 harg14 arg15 harg15 arg16 v1 v3 hw.down
  blkDiag1 i arg2 harg2 arg3 harg3 arg4 harg4 arg5 harg5 arg6 harg6 arg7 harg7 arg8 harg8 arg9 harg9 arg10 harg10 arg11 harg11 arg12 harg12 arg13 harg13 arg14 harg14 arg15 harg15 arg16 v1 v3 hw.down
  blkOut arg11 arg12 arg14 arg15 v1
  blkDma i arg10 arg13 harg13 arg16

theorem bind_ite {α β : Type} {E : Type → Type} (c : Prop) [Decidable c] (a b : Prog E α) (k : α → Prog E β) :
    (if c then a else b) >>= k = if c then a >>= k else b >>= k := by split <;> rfl

theorem bind_dite {α β : Type} {E : Type → Type} (c : Prop) [Decidable c] (a : c → Prog E α) (b : ¬ c → Prog E α) (k : α → Prog E β) :
    (dite c a b) >>= k = dite c (fun h => a h >>= k) (fun h => b h >>= k) := by split <;> rfl

theorem body_eq : cc0_attn_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 = body i arg2 harg2 arg3 harg3 arg4 harg4 arg5 harg5 arg6 harg6 arg7 harg7 arg8 harg8 arg9 harg9 arg10 harg10 arg11 harg11 arg12 harg12 arg13 harg13 arg14 harg14 arg15 harg15 arg16 := by
  rw [cc0_attn_bwd_eq_skeleton]
  unfold cc0_attn_bwd_skel
  rw [k0_part4_eq_skeleton]
  unfold k0_part4_skel body blkZero blkInit blkFull blkDiag0 blkDiag1 blkOut blkDma
  simp only [bind_assoc, pure_bind, bind_ite, bind_dite]
  refine congrArg _ (funext fun v1 => congrArg _ (funext fun v3 => congrArg _ (funext fun hw => ?_)))
  rfl

end Compose

/-- The body's halves of the two tables. -/
def tabOwn (c : Dev nD) : sProp 𝕄 :=
  iprop(((Memref.whole main_c : Memref sig .tc .smem S132 .i32).view.loc (c : Thread nD τ) ↦{fullShare.right} tab0)
    ∗ ((Memref.whole main_c_0 : Memref sig .tc .smem S132 .i32).view.loc (c : Thread nD τ) ↦{fullShare.right} tab1))

theorem load0_spec (c : Dev nD) (i : grid0.Coords) (K : Elt F .i32 → sProp 𝕄) :
    iprop(((Memref.whole main_c : Memref sig .tc .smem S132 .i32).view.loc (c : Thread nD τ) ↦{fullShare.right} tab0)
        ∗ (((Memref.whole main_c : Memref sig .tc .smem S132 .i32).view.loc (c : Thread nD τ) ↦{fullShare.right} tab0) -∗ K (wq i)))
      ⊢ wp frame (wpE (defs₀ (F := F)) Variants.none c none) Set.univ
          (smemLoad (Memref.whole main_c) (Rect.unit (s := S132) (k0_off1 i) S1.size (k0_off1_inb i)) numel1_S1 rfl) K := by
  unfold smemLoad smemLoadElt
  iintro ⟨HT, Hk⟩
  sl_step
  rw [wp_ret]
  imodintro
  ispecialize Hk $$ HT
  rw [← read0 (F := F) i]
  iexact Hk

theorem load1_spec (c : Dev nD) (i : grid0.Coords) (K : Elt F .i32 → sProp 𝕄) :
    iprop(((Memref.whole main_c_0 : Memref sig .tc .smem S132 .i32).view.loc (c : Thread nD τ) ↦{fullShare.right} tab1)
        ∗ (((Memref.whole main_c_0 : Memref sig .tc .smem S132 .i32).view.loc (c : Thread nD τ) ↦{fullShare.right} tab1) -∗ K (wk i)))
      ⊢ wp frame (wpE (defs₀ (F := F)) Variants.none c none) Set.univ
          (smemLoad (Memref.whole main_c_0) (Rect.unit (s := S132) (k0_off1 i) S1.size (k0_off1_inb i)) numel1_S1 rfl) K := by
  unfold smemLoad smemLoadElt
  iintro ⟨HT, Hk⟩
  sl_step
  rw [wp_ret]
  imodintro
  ispecialize Hk $$ HT
  rw [← read1 (F := F) i]
  iexact Hk

section Spec

variable (c : Dev nD) (i : grid0.Coords)
  (arg4 : Memref sig .tc .vmem S1x768x256 .bf16) (harg4 : arg4.IsWhole) (arg5 : Memref sig .tc .vmem S1x768x128 .bf16) (harg5 : arg5.IsWhole)
  (arg6 : Memref sig .tc .vmem S1x1536x256 .bf16) (harg6 : arg6.IsWhole) (arg7 : Memref sig .tc .vmem S1536x128 .bf16) (harg7 : arg7.IsWhole)
  (arg8 : Memref sig .tc .vmem S1x1x1536 .f32) (harg8 : arg8.IsWhole) (arg9 : Memref sig .tc .vmem S1x1x1536 .f32) (harg9 : arg9.IsWhole)
  (arg10 : Memref sig .tc .hbm S8x16896x256 .f32) (harg10 : arg10.IsWhole) (arg11 : Memref sig .tc .vmem S1x768x256 .f32) (harg11 : arg11.IsWhole)
  (arg12 : Memref sig .tc .vmem S1x768x128 .f32) (harg12 : arg12.IsWhole) (arg13 : Memref sig .tc .vmem S16896x256 .f32) (harg13 : arg13.IsWhole)
  (arg14 : Memref sig .tc .vmem S768x256 .f32) (harg14 : arg14.IsWhole) (arg15 : Memref sig .tc .vmem S768x128 .f32) (harg15 : arg15.IsWhole)
  (arg16 : DmaSems sig S_)

/-- What one point does. -/
theorem body_spec (x : Ins F) (s : St F) (yk : S1x768x256.Idx → Elt F .f32) (yv : S1x768x128.Idx → Elt F .f32)
    (g : S8x16896x256.Idx → Elt F .f32) (W : Waits sig Unit) (K : PUnit → sProp 𝕄) :
    iprop(tabOwn c ∗ insOwn c arg4 arg5 arg6 arg7 arg8 arg9 x ∗ stOwn c arg13 arg14 arg15 s
        ∗ owns (c : Thread nD τ) arg11 fullShare yk ∗ owns (c : Thread nD τ) arg12 fullShare yv
        ∗ owns (c : Thread nD τ) arg10 fullShare g ∗ semVal ((c : Thread nD τ), SemLoc.dma arg16.sem) 0 ∗ owes (c : Thread nD τ) 0 W
        ∗ ((tabOwn c ∗ insOwn c arg4 arg5 arg6 arg7 arg8 arg9 x ∗ stOwn c arg13 arg14 arg15 (stStep x s i (wq i) (wk i) (chk i))
            ∗ owns (c : Thread nD τ) arg11 fullShare (if k0_cond6 (wq i) = 1#1 then k0_pay7 (stStep x s i (wq i) (wk i) (chk i)).dk else yk)
            ∗ owns (c : Thread nD τ) arg12 fullShare (if k0_cond6 (wq i) = 1#1 then k0_pay8 (stStep x s i (wq i) (wk i) (chk i)).dv else yv)
            ∗ owns (c : Thread nD τ) arg10 fullShare (dqOut (stStep x s i (wq i) (wk i) (chk i)) i g)
            ∗ semVal ((c : Thread nD τ), SemLoc.dma arg16.sem) 0 ∗ ∃ W', owes (c : Thread nD τ) 0 W') -∗ K ⟨⟩))
      ⊢ wp frame (wpE (defs₀ (F := F)) Variants.none c none) Set.univ
          (cc0_attn_bwd i (Memref.whole main_c) (Memref.isWhole_whole _) (Memref.whole main_c_0) (Memref.isWhole_whole _) arg4 harg4 arg5 harg5 arg6 harg6 arg7 harg7 arg8 harg8 arg9 harg9 arg10 harg10 arg11 harg11 arg12 harg12 arg13 harg13 arg14 harg14 arg15 harg15 arg16) K := by
  rw [body_eq]
  unfold body tabOwn
  iintro ⟨⟨HT0, HT1⟩, Hin, Hst, H11, H12, H10, Hsem, Howes, Hk⟩
  rw [wp_bind]
  iapply (load0_spec c i)
  isplitl [HT0]; · iexact HT0
  iintro HT0
  rw [wp_bind]
  iapply (load1_spec c i)
  isplitl [HT1]; · iexact HT1
  iintro HT1
  rw [wp_bind]
  iapply (wp_assume Variants.none (c : Thread nD τ) none Set.univ (chk i))
  rw [wp_ret]
  imodintro
  rw [wp_bind]
  iapply (blkZero_spec (c := c) (i := i) (arg13 := arg13) (arg14 := arg14) (arg15 := arg15) (s := s))
  isplitl [Hst]; · iexact Hst
  iintro Hst
  rw [wp_bind]
  iapply (blkInit_spec (c := c) (arg13 := arg13) (arg14 := arg14) (arg15 := arg15))
  isplitl [Hst]; · iexact Hst
  iintro Hst
  rw [wp_bind]
  iapply (blkFull_spec (c := c) (x := x))
  isplitl [Hin]; · iexact Hin
  isplitl [Hst]; · iexact Hst
  iintro ⟨Hin, Hst⟩
  rw [wp_bind]
  iapply (blkDiag0_spec (c := c) (x := x))
  isplitl [Hin]; · iexact Hin
  isplitl [Hst]; · iexact Hst
  iintro ⟨Hin, Hst⟩
  rw [wp_bind]
  iapply (blkDiag1_spec (c := c) (x := x))
  isplitl [Hin]; · iexact Hin
  isplitl [Hst]; · iexact Hst
  iintro ⟨Hin, Hst⟩
  rw [wp_bind]
  iapply (blkOut_spec (c := c) (arg13 := arg13) (yk := yk) (yv := yv))
  isplitl [Hst]; · iexact Hst
  isplitl [H11]; · iexact H11
  isplitl [H12]; · iexact H12
  rw [show stDiag1 x (stDiag0 x (stFull x (stInit (stZero s i) (wq i) (wk i)) (wq i) (wk i) (chk i)) (wq i) (wk i) (chk i)) (wq i) (wk i) (chk i)
    = stStep x s i (wq i) (wk i) (chk i) from rfl]
  generalize stStep x s i (wq i) (wk i) (chk i) = s'
  unfold stOwn
  iintro ⟨⟨H13, H14, H15⟩, H11, H12⟩
  iapply (blkDma_spec (c := c) (s := s') (g := g) (W := W))
  isplitl [H13]; · iexact H13
  isplitl [H10]; · iexact H10
  isplitl [Hsem]; · iexact Hsem
  isplitl [Howes]; · iexact Howes
  iintro ⟨H13, H10, Hsem, Howes⟩
  iapply Hk
  isplitl [HT0 HT1]
  · isplitl [HT0]; · iexact HT0
    iexact HT1
  isplitl [Hin]; · iexact Hin
  isplitl [H13 H14 H15]
  · isplitl [H13]; · iexact H13
    isplitl [H14]; · iexact H14
    iexact H15
  isplitl [H11]; · iexact H11
  isplitl [H12]; · iexact H12
  isplitl [H10]; · iexact H10
  isplitl [Hsem]; · iexact Hsem
  iexact Howes

end Spec

end Cert.KernelIdeal.Attn

end
-- ==== Proof.Frame.lean ====
/- The pipeline's data: what each point reads and leaves, the invariant between points, and the launch. -/
module

public import proofs.«01_k».proof.Proof.Body

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf UD)

open Idealize.ShloMosaic.Pipeline (Dat Cfg Window BodyObligation BodyObligationLoose cellOf)

variable {F : FTy → Type} [FloatOps F] [Named F]

local notation "𝕄" => MT nD τ sig Unit (Elt F) ℕ (UD sig nD τ) ℕ

variable (V₀ : Dev nD → Valuation τ sig (Elt F))

abbrev crd (t : Fin (cfgA (F := F)).N) : grid0.Coords := (cfgA (F := F)).grid.coords t

abbrev ms0_0 (t : Fin (cfgA (F := F)).N) : Memref sig .tc .vmem S1x768x256 .bf16 := spec0_0.stage ((cfgA (F := F)).slots t ((0 : Fin 8)))
abbrev hs0_0 (t : Fin (cfgA (F := F)).N) : (ms0_0 (F := F) t).IsWhole := hstage0_0 (((cfgA (F := F)).slots t ((0 : Fin 8))).cast nbuf0_0)
abbrev ms0_1 (t : Fin (cfgA (F := F)).N) : Memref sig .tc .vmem S1x768x128 .bf16 := spec0_1.stage ((cfgA (F := F)).slots t ((1 : Fin 8)))
abbrev hs0_1 (t : Fin (cfgA (F := F)).N) : (ms0_1 (F := F) t).IsWhole := hstage0_1 (((cfgA (F := F)).slots t ((1 : Fin 8))).cast nbuf0_1)
abbrev ms0_2 (t : Fin (cfgA (F := F)).N) : Memref sig .tc .vmem S1x1536x256 .bf16 := spec0_2.stage ((cfgA (F := F)).slots t ((2 : Fin 8)))
abbrev hs0_2 (t : Fin (cfgA (F := F)).N) : (ms0_2 (F := F) t).IsWhole := hstage0_2 (((cfgA (F := F)).slots t ((2 : Fin 8))).cast nbuf0_2)
abbrev ms0_3 (t : Fin (cfgA (F := F)).N) : Memref sig .tc .vmem S1536x128 .bf16 := spec0_3.stage ((cfgA (F := F)).slots t ((3 : Fin 8)))
abbrev hs0_3 (t : Fin (cfgA (F := F)).N) : (ms0_3 (F := F) t).IsWhole := hstage0_3 (((cfgA (F := F)).slots t ((3 : Fin 8))).cast nbuf0_3)
abbrev ms0_4 (t : Fin (cfgA (F := F)).N) : Memref sig .tc .vmem S1x1x1536 .f32 := spec0_4.stage ((cfgA (F := F)).slots t ((4 : Fin 8)))
abbrev hs0_4 (t : Fin (cfgA (F := F)).N) : (ms0_4 (F := F) t).IsWhole := hstage0_4 (((cfgA (F := F)).slots t ((4 : Fin 8))).cast nbuf0_4)
abbrev ms0_5 (t : Fin (cfgA (F := F)).N) : Memref sig .tc .vmem S1x1x1536 .f32 := spec0_5.stage ((cfgA (F := F)).slots t ((5 : Fin 8)))
abbrev hs0_5 (t : Fin (cfgA (F := F)).N) : (ms0_5 (F := F) t).IsWhole := hstage0_5 (((cfgA (F := F)).slots t ((5 : Fin 8))).cast nbuf0_5)
abbrev ms0_6 (t : Fin (cfgA (F := F)).N) : Memref sig .tc .vmem S1x768x256 .f32 := spec0_6.stage ((cfgA (F := F)).slots t ((6 : Fin 8)))
abbrev hs0_6 (t : Fin (cfgA (F := F)).N) : (ms0_6 (F := F) t).IsWhole := hstage0_6 (((cfgA (F := F)).slots t ((6 : Fin 8))).cast nbuf0_6)
abbrev ms0_7 (t : Fin (cfgA (F := F)).N) : Memref sig .tc .vmem S1x768x128 .f32 := spec0_7.stage ((cfgA (F := F)).slots t ((7 : Fin 8)))
abbrev hs0_7 (t : Fin (cfgA (F := F)).N) : (ms0_7 (F := F) t).IsWhole := hstage0_7 (((cfgA (F := F)).slots t ((7 : Fin 8))).cast nbuf0_7)

/-- Window `w`'s block of its array at point `t`. -/
def iblk (c : Dev nD) (w : Fin (cfgA (F := F)).W) (t : Fin (cfgA (F := F)).N) : (((cfgA (F := F)).win w).xblock (crd t)).Idx → Elt F ((cfgA (F := F)).win w).elt :=
  (((cfgA (F := F)).win w).blk t).view.read (Elt F) (V₀ c (Proc.devRef .tc (Pipeline.arrRef (cfgA (F := F)).spec w)))

/-- What point `t` reads. -/
def ins (c : Dev nD) (t : Fin (cfgA (F := F)).N) : Ins F where
  k := iblk V₀ c (0 : Fin 8) t
  v := iblk V₀ c (1 : Fin 8) t
  q := iblk V₀ c (2 : Fin 8) t
  o := iblk V₀ c (3 : Fin 8) t
  l := iblk V₀ c (4 : Fin 8) t
  d := iblk V₀ c (5 : Fin 8) t

/-- Point `t`'s step. -/
def stepAt (c : Dev nD) (t : Fin (cfgA (F := F)).N) (s : St F) : St F :=
  stStep (ins V₀ c t) s (crd t) (wq (crd t)) (wk (crd t)) (chk (crd t))

/-- The scratch buffers after `n` points. -/
def traj (c : Dev nD) : ℕ → St F
  | 0 => ⟨k0_pay24 (F := F), k0_pay25 (F := F), k0_pay26 (F := F)⟩
  | n + 1 => if h : n < (cfgA (F := F)).N then stepAt V₀ c ⟨n, h⟩ (traj c n) else traj c n

/-- The queries' gradient in main memory after `n` points. -/
def gtraj (c : Dev nD) : ℕ → (S8x16896x256.Idx → Elt F .f32)
  | 0 => V₀ c (Proc.devRef .tc main_v61_0)
  | n + 1 => if h : n < (cfgA (F := F)).N then dqOut (traj V₀ c (n + 1)) (crd ⟨n, h⟩) (gtraj c n) else gtraj c n

theorem traj_succ (c : Dev nD) (t : Fin (cfgA (F := F)).N) : traj V₀ c (t.val + 1) = stepAt V₀ c t (traj V₀ c t.val) := by
  rw [traj, dif_pos t.isLt]

theorem gtraj_succ (c : Dev nD) (t : Fin (cfgA (F := F)).N) :
    gtraj V₀ c (t.val + 1) = dqOut (traj V₀ c (t.val + 1)) (crd t) (gtraj V₀ c t.val) := by
  rw [gtraj, dif_pos t.isLt]

theorem cond_first : cond1 (grid0.coords ⟨0, by decide⟩) = 1#1 ∧ cond2 (wq (grid0.coords ⟨0, by decide⟩)) (wk (grid0.coords ⟨0, by decide⟩)) = 1#1 := by
  decide +kernel

/-- The first point sets every scratch buffer, so nothing they held before matters. -/
theorem stepAt_first (c : Dev nD) (t : Fin (cfgA (F := F)).N) (ht : t.val = 0) (s s' : St F) : stepAt V₀ c t s = stepAt V₀ c t s' := by
  obtain ⟨n, h⟩ := t
  cases ht
  have h1 : cond1 (crd (F := F) ⟨0, h⟩) = 1#1 := cond_first.1
  have h2 : cond2 (wq (crd (F := F) ⟨0, h⟩)) (wk (crd (F := F) ⟨0, h⟩)) = 1#1 := cond_first.2
  unfold stepAt stStep stInit stZero
  simp only [if_pos h1, if_pos h2]

/-- The invariant before point `n`. -/
def Phi (c : Dev nD) (n : ℕ) : sProp 𝕄 :=
  iprop((∃ s : St F, ⌜n ≠ 0 → s = traj V₀ c n⌝ ∗ stOwn c (Memref.whole cc0_scratch0) (Memref.whole cc0_scratch1) (Memref.whole cc0_scratch2) s)
    ∗ tabOwn c ∗ owns (c : Thread nD τ) (Memref.whole main_v61_0) fullShare (gtraj V₀ c n)
    ∗ semVal ((c : Thread nD τ), SemLoc.dma cc0_scratch3.sem) 0)

/-- The proof data of the one pipeline. -/
def dats (p : Fin 1) (c : Dev nD) : Dat τ (Elt F) Unit ℕ (UD sig nD τ) ℕ (pcs (F := F) p) c :=
  match p with
  | 0 =>
    { A := fun w => V₀ c (Proc.devRef .tc (Pipeline.arrRef (cfgA (F := F)).spec w))
      after := fun w t => match w with
        | ⟨0, _⟩ => iblk V₀ c (0 : Fin 8) t
        | ⟨1, _⟩ => iblk V₀ c (1 : Fin 8) t
        | ⟨2, _⟩ => iblk V₀ c (2 : Fin 8) t
        | ⟨3, _⟩ => iblk V₀ c (3 : Fin 8) t
        | ⟨4, _⟩ => iblk V₀ c (4 : Fin 8) t
        | ⟨5, _⟩ => iblk V₀ c (5 : Fin 8) t
        | ⟨6, _⟩ => k0_pay7 (traj V₀ c (t.val + 1)).dk
        | ⟨7, _⟩ => k0_pay8 (traj V₀ c (t.val + 1)).dv
      Φ := fun t => Phi V₀ c t.val
      q := fun _ => fullShare
      owed := fun _ => 0 }

theorem after0_0 (c : Dev nD) (t : Fin (cfgA (F := F)).N) : (dats V₀ 0 c).after (0 : Fin 8) t = iblk V₀ c (0 : Fin 8) t := rfl
theorem after0_1 (c : Dev nD) (t : Fin (cfgA (F := F)).N) : (dats V₀ 0 c).after (1 : Fin 8) t = iblk V₀ c (1 : Fin 8) t := rfl
theorem after0_2 (c : Dev nD) (t : Fin (cfgA (F := F)).N) : (dats V₀ 0 c).after (2 : Fin 8) t = iblk V₀ c (2 : Fin 8) t := rfl
theorem after0_3 (c : Dev nD) (t : Fin (cfgA (F := F)).N) : (dats V₀ 0 c).after (3 : Fin 8) t = iblk V₀ c (3 : Fin 8) t := rfl
theorem after0_4 (c : Dev nD) (t : Fin (cfgA (F := F)).N) : (dats V₀ 0 c).after (4 : Fin 8) t = iblk V₀ c (4 : Fin 8) t := rfl
theorem after0_5 (c : Dev nD) (t : Fin (cfgA (F := F)).N) : (dats V₀ 0 c).after (5 : Fin 8) t = iblk V₀ c (5 : Fin 8) t := rfl
theorem after0_6 (c : Dev nD) (t : Fin (cfgA (F := F)).N) : (dats V₀ 0 c).after (6 : Fin 8) t = k0_pay7 (traj V₀ c (t.val + 1)).dk := rfl
theorem after0_7 (c : Dev nD) (t : Fin (cfgA (F := F)).N) : (dats V₀ 0 c).after (7 : Fin 8) t = k0_pay8 (traj V₀ c (t.val + 1)).dv := rfl

theorem before0_0 (c : Dev nD) (t : Fin (cfgA (F := F)).N) (d) : (dats V₀ 0 c).before (0 : Fin 8) t d = iblk V₀ c (0 : Fin 8) t :=
  ((dats V₀ 0 c).before_in_eq_fetched (0 : Fin 8) rfl (fun _ => rfl) (fun _ _ _ => rfl)
    (fun t => by rw [after0_0]; unfold Dat.blockOf iblk; rfl) t d).trans (by unfold Dat.fetched Dat.blockOf iblk; rfl)
theorem before0_1 (c : Dev nD) (t : Fin (cfgA (F := F)).N) (d) : (dats V₀ 0 c).before (1 : Fin 8) t d = iblk V₀ c (1 : Fin 8) t :=
  ((dats V₀ 0 c).before_in_eq_fetched (1 : Fin 8) rfl (fun _ => rfl) (fun _ _ _ => rfl)
    (fun t => by rw [after0_1]; unfold Dat.blockOf iblk; rfl) t d).trans (by unfold Dat.fetched Dat.blockOf iblk; rfl)
theorem before0_2 (c : Dev nD) (t : Fin (cfgA (F := F)).N) (d) : (dats V₀ 0 c).before (2 : Fin 8) t d = iblk V₀ c (2 : Fin 8) t :=
  ((dats V₀ 0 c).before_in_eq_fetched (2 : Fin 8) rfl (fun _ => rfl) (fun _ _ _ => rfl)
    (fun t => by rw [after0_2]; unfold Dat.blockOf iblk; rfl) t d).trans (by unfold Dat.fetched Dat.blockOf iblk; rfl)
theorem before0_3 (c : Dev nD) (t : Fin (cfgA (F := F)).N) (d) : (dats V₀ 0 c).before (3 : Fin 8) t d = iblk V₀ c (3 : Fin 8) t :=
  ((dats V₀ 0 c).before_in_eq_fetched (3 : Fin 8) rfl (fun _ => rfl) (fun _ _ _ => rfl)
    (fun t => by rw [after0_3]; unfold Dat.blockOf iblk; rfl) t d).trans (by unfold Dat.fetched Dat.blockOf iblk; rfl)
theorem before0_4 (c : Dev nD) (t : Fin (cfgA (F := F)).N) (d) : (dats V₀ 0 c).before (4 : Fin 8) t d = iblk V₀ c (4 : Fin 8) t :=
  ((dats V₀ 0 c).before_in_eq_fetched (4 : Fin 8) rfl (fun _ => rfl) (fun _ _ _ => rfl)
    (fun t => by rw [after0_4]; unfold Dat.blockOf iblk; rfl) t d).trans (by unfold Dat.fetched Dat.blockOf iblk; rfl)
theorem before0_5 (c : Dev nD) (t : Fin (cfgA (F := F)).N) (d) : (dats V₀ 0 c).before (5 : Fin 8) t d = iblk V₀ c (5 : Fin 8) t :=
  ((dats V₀ 0 c).before_in_eq_fetched (5 : Fin 8) rfl (fun _ => rfl) (fun _ _ _ => rfl)
    (fun t => by rw [after0_5]; unfold Dat.blockOf iblk; rfl) t d).trans (by unfold Dat.fetched Dat.blockOf iblk; rfl)

theorem Phi_at (c : Dev nD) (n : Fin ((cfgA (F := F)).N + 1)) : (dats V₀ 0 c).Φ n = Phi V₀ c n.val := rfl

/-- Where the output blocks are not written they are not flushed either. -/
theorem flush6 (t : Fin (cfgA (F := F)).N) (h : k0_cond6 (wq (crd t)) ≠ 1#1) : ((cfgA (F := F)).win (6 : Fin 8)).flush t = false := by
  obtain ⟨h1, h2, h3⟩ := stays t h
  rw [Pipeline.Window.flush_eq_flushF]
  unfold Pipeline.Window.flushF
  have e : ∀ a, ((cfgA (F := F)).win (6 : Fin 8)).index ⟨t.val + 1, h1⟩ a = ((cfgA (F := F)).win (6 : Fin 8)).index t a := fun a =>
    (tr7 (F := F) _ a).trans (((congrFun (show (![(grid0.coords ⟨t.val + 1, h1⟩ 0).val, (wk (grid0.coords ⟨t.val + 1, h1⟩)).toNat, 0] : Fin 3 → ℕ)
      = ![(grid0.coords t 0).val, (wk (grid0.coords t)).toNat, 0] by rw [h2, h3]) a)).trans (tr7 (F := F) _ a).symm)
  have e1 : ¬ (t.val + 1 = (cfgA (F := F)).grid.N) := fun hh => absurd (hh ▸ h1) (lt_irrefl _)
  have e2 : ¬ (∃ h : t.val + 1 < (cfgA (F := F)).grid.N, ∃ a, ((cfgA (F := F)).win (6 : Fin 8)).index ⟨t.val + 1, h⟩ a ≠ ((cfgA (F := F)).win (6 : Fin 8)).index t a) :=
    fun ⟨_, a, ha⟩ => ha (e a)
  rw [decide_eq_false e2, decide_eq_false e1]
  rfl

theorem flush7 (t : Fin (cfgA (F := F)).N) (h : k0_cond6 (wq (crd t)) ≠ 1#1) : ((cfgA (F := F)).win (7 : Fin 8)).flush t = false := by
  obtain ⟨h1, h2, h3⟩ := stays t h
  rw [Pipeline.Window.flush_eq_flushF]
  unfold Pipeline.Window.flushF
  have e : ∀ a, ((cfgA (F := F)).win (7 : Fin 8)).index ⟨t.val + 1, h1⟩ a = ((cfgA (F := F)).win (7 : Fin 8)).index t a := fun a =>
    (tr8 (F := F) _ a).trans (((congrFun (show (![(grid0.coords ⟨t.val + 1, h1⟩ 0).val, (wk (grid0.coords ⟨t.val + 1, h1⟩)).toNat, 0] : Fin 3 → ℕ)
      = ![(grid0.coords t 0).val, (wk (grid0.coords t)).toNat, 0] by rw [h2, h3]) a)).trans (tr8 (F := F) _ a).symm)
  have e1 : ¬ (t.val + 1 = (cfgA (F := F)).grid.N) := fun hh => absurd (hh ▸ h1) (lt_irrefl _)
  have e2 : ¬ (∃ h : t.val + 1 < (cfgA (F := F)).grid.N, ∃ a, ((cfgA (F := F)).win (7 : Fin 8)).index ⟨t.val + 1, h⟩ a ≠ ((cfgA (F := F)).win (7 : Fin 8)).index t a) :=
    fun ⟨_, a, ha⟩ => ha (e a)
  rw [decide_eq_false e2, decide_eq_false e1]
  rfl

abbrev bodyAt (t : Fin (cfgA (F := F)).N) : Prog (TpuEff nD τ sig (Elt F) Λ₀ .tc) PUnit :=
  cc0_attn_bwd (crd t) (Memref.whole main_c) (Memref.isWhole_whole _) (Memref.whole main_c_0) (Memref.isWhole_whole _)
    (ms0_0 t) (hs0_0 t) (ms0_1 t) (hs0_1 t) (ms0_2 t) (hs0_2 t) (ms0_3 t) (hs0_3 t) (ms0_4 t) (hs0_4 t) (ms0_5 t) (hs0_5 t) (Memref.whole main_v61_0) (Memref.isWhole_whole _) (ms0_6 t) (hs0_6 t) (ms0_7 t) (hs0_7 t) (Memref.whole cc0_scratch0) (Memref.isWhole_whole _) (Memref.whole cc0_scratch1) (Memref.isWhole_whole _) (Memref.whole cc0_scratch2) (Memref.isWhole_whole _) cc0_scratch3

set_option maxHeartbeats 2000000 in
/-- One point of the pipeline, from the invariant before it to the invariant after it. -/
theorem sound_body (c : Dev nD) (t : Fin (cfgA (F := F)).N) :
    iprop((dats V₀ 0 c).Φ t.castSucc ∗ (dats V₀ 0 c).owesAt () t.castSucc
        ∗ (∃ d, owns (c : Thread nD τ) (ms0_0 t) fullShare ((dats V₀ 0 c).before (0 : Fin 8) t d))
        ∗ (∃ d, owns (c : Thread nD τ) (ms0_1 t) fullShare ((dats V₀ 0 c).before (1 : Fin 8) t d))
        ∗ (∃ d, owns (c : Thread nD τ) (ms0_2 t) fullShare ((dats V₀ 0 c).before (2 : Fin 8) t d))
        ∗ (∃ d, owns (c : Thread nD τ) (ms0_3 t) fullShare ((dats V₀ 0 c).before (3 : Fin 8) t d))
        ∗ (∃ d, owns (c : Thread nD τ) (ms0_4 t) fullShare ((dats V₀ 0 c).before (4 : Fin 8) t d))
        ∗ (∃ d, owns (c : Thread nD τ) (ms0_5 t) fullShare ((dats V₀ 0 c).before (5 : Fin 8) t d))
        ∗ (∃ d, owns (c : Thread nD τ) (ms0_6 t) fullShare ((dats V₀ 0 c).before (6 : Fin 8) t d))
        ∗ (∃ d, owns (c : Thread nD τ) (ms0_7 t) fullShare ((dats V₀ 0 c).before (7 : Fin 8) t d)))
      ⊢ wp frame (wpE (defs₀ (F := F)) Variants.none c none) Set.univ (bodyAt t) fun _ =>
          iprop((dats V₀ 0 c).Φ t.succ ∗ (dats V₀ 0 c).owesAt () t.succ
            ∗ bigSep Finset.univ fun w : Fin (cfgA (F := F)).W =>
                match (cfgA (F := F)).idle w ((cfgA (F := F)).grid.coords t) with
                | true =>
                  match ((cfgA (F := F)).win w).flush t with
                  | false => iprop(∃ d, owns (c : Thread nD τ) (((cfgA (F := F)).win w).stage ((cfgA (F := F)).slots t w)) fullShare ((dats V₀ 0 c).before w t d))
                  | true => owns (c : Thread nD τ) (((cfgA (F := F)).win w).stage ((cfgA (F := F)).slots t w)) fullShare ((dats V₀ 0 c).after w t)
                | false => owns (c : Thread nD τ) (((cfgA (F := F)).win w).stage ((cfgA (F := F)).slots t w)) fullShare ((dats V₀ 0 c).after w t)) := by
  rw [bigSep_W0]
  by_cases hc : k0_cond6 (wq (crd t)) = 1#1
  · have i6 : (cfgA (F := F)).idle (6 : Fin 8) ((cfgA (F := F)).grid.coords t) = false := by
      rw [show (cfgA (F := F)).idle (6 : Fin 8) ((cfgA (F := F)).grid.coords t) = _ from idle6 (F := F) (crd t), decide_eq_true hc]; rfl
    have i7 : (cfgA (F := F)).idle (7 : Fin 8) ((cfgA (F := F)).grid.coords t) = false := by
      rw [show (cfgA (F := F)).idle (7 : Fin 8) ((cfgA (F := F)).grid.coords t) = _ from idle7 (F := F) (crd t), decide_eq_true hc]; rfl
    rewrite [i6]
    try rewrite [i7]
    simp only [before0_0, before0_1, before0_2, before0_3, before0_4, before0_5, after0_0, after0_1, after0_2, after0_3, after0_4, after0_5, after0_6, after0_7]
    rw [Phi_at V₀ c t.succ, Phi_at V₀ c t.castSucc, Fin.val_succ, Fin.val_castSucc,
      show (dats V₀ 0 c).owesAt () t.succ = (dats V₀ 0 c).owesAt () t.castSucc from rfl]
    unfold Phi
    iintro ⟨⟨⟨%s, %hs, Hst⟩, Htab, Hg, Hsem⟩, ⟨%W, %hW, Ho⟩, ⟨%d0, H0⟩, ⟨%d1, H1⟩, ⟨%d2, H2⟩, ⟨%d3, H3⟩, ⟨%d4, H4⟩, ⟨%d5, H5⟩, ⟨%d6, H6⟩, ⟨%d7, H7⟩⟩
    have hstep : stStep (ins V₀ c t) s (crd t) (wq (crd t)) (wk (crd t)) (chk (crd t)) = traj V₀ c (t.val + 1) := by
      rw [traj_succ]
      by_cases h0 : t.val = 0
      · exact stepAt_first V₀ c t h0 _ _
      · rw [hs h0]; rfl
    iapply (body_spec c (crd t) (ms0_0 t) (hs0_0 t) (ms0_1 t) (hs0_1 t) (ms0_2 t) (hs0_2 t) (ms0_3 t) (hs0_3 t) (ms0_4 t) (hs0_4 t) (ms0_5 t) (hs0_5 t) (Memref.whole main_v61_0) (Memref.isWhole_whole _) (ms0_6 t) (hs0_6 t) (ms0_7 t) (hs0_7 t) (Memref.whole cc0_scratch0) (Memref.isWhole_whole _) (Memref.whole cc0_scratch1) (Memref.isWhole_whole _) (Memref.whole cc0_scratch2) (Memref.isWhole_whole _) cc0_scratch3 (ins V₀ c t) s _ _ (gtraj V₀ c t.val) W)
    rw [hstep, gtraj_succ]
    isplitl [Htab]; · iexact Htab
    isplitl [H0 H1 H2 H3 H4 H5]
    · unfold insOwn
      isplitl [H0]; · iexact H0
      isplitl [H1]; · iexact H1
      isplitl [H2]; · iexact H2
      isplitl [H3]; · iexact H3
      isplitl [H4]; · iexact H4
      iexact H5
    isplitl [Hst]; · iexact Hst
    isplitl [H6]; · iexact H6
    isplitl [H7]; · iexact H7
    isplitl [Hg]; · iexact Hg
    isplitl [Hsem]; · iexact Hsem
    isplitl [Ho]; · iexact Ho
    unfold insOwn
    iintro ⟨Htab, ⟨H0, H1, H2, H3, H4, H5⟩, Hst, H6, H7, Hg, Hsem, ⟨%W', Ho⟩⟩
    isplitl [Hst Htab Hg Hsem]
    · isplitl [Hst]
      · iexists _; isplitr; swap
        · iexact Hst
        · ipureintro; exact fun _ => rfl
      isplitl [Htab]; · iexact Htab
      isplitl [Hg]; · iexact Hg
      iexact Hsem
    isplitl [Ho]
    · iexists W'; isplitr; swap
      · iexact Ho
      · ipureintro; exact fun _ _ => Or.inl trivial
    isplitl [H0]; · iexact H0
    isplitl [H1]; · iexact H1
    isplitl [H2]; · iexact H2
    isplitl [H3]; · iexact H3
    isplitl [H4]; · iexact H4
    isplitl [H5]; · iexact H5
    rw [if_pos hc, if_pos hc]
    isplitl [H6]; · iexact H6
    iexact H7
  · have i6 : (cfgA (F := F)).idle (6 : Fin 8) ((cfgA (F := F)).grid.coords t) = true := by
      rw [show (cfgA (F := F)).idle (6 : Fin 8) ((cfgA (F := F)).grid.coords t) = _ from idle6 (F := F) (crd t), decide_eq_false hc]; rfl
    have i7 : (cfgA (F := F)).idle (7 : Fin 8) ((cfgA (F := F)).grid.coords t) = true := by
      rw [show (cfgA (F := F)).idle (7 : Fin 8) ((cfgA (F := F)).grid.coords t) = _ from idle7 (F := F) (crd t), decide_eq_false hc]; rfl
    rewrite [i6]
    try rewrite [i7]
    have f6 : ((cfgA (F := F)).win (6 : Fin 8)).flush t = false := flush6 t hc
    have f7 : ((cfgA (F := F)).win (7 : Fin 8)).flush t = false := flush7 t hc
    simp only [before0_0, before0_1, before0_2, before0_3, before0_4, before0_5, after0_0, after0_1, after0_2, after0_3, after0_4, after0_5, after0_6, after0_7, f6, f7]
    rw [Phi_at V₀ c t.succ, Phi_at V₀ c t.castSucc, Fin.val_succ, Fin.val_castSucc,
      show (dats V₀ 0 c).owesAt () t.succ = (dats V₀ 0 c).owesAt () t.castSucc from rfl]
    unfold Phi
    iintro ⟨⟨⟨%s, %hs, Hst⟩, Htab, Hg, Hsem⟩, ⟨%W, %hW, Ho⟩, ⟨%d0, H0⟩, ⟨%d1, H1⟩, ⟨%d2, H2⟩, ⟨%d3, H3⟩, ⟨%d4, H4⟩, ⟨%d5, H5⟩, ⟨%d6, H6⟩, ⟨%d7, H7⟩⟩
    have hstep : stStep (ins V₀ c t) s (crd t) (wq (crd t)) (wk (crd t)) (chk (crd t)) = traj V₀ c (t.val + 1) := by
      rw [traj_succ]
      by_cases h0 : t.val = 0
      · exact stepAt_first V₀ c t h0 _ _
      · rw [hs h0]; rfl
    iapply (body_spec c (crd t) (ms0_0 t) (hs0_0 t) (ms0_1 t) (hs0_1 t) (ms0_2 t) (hs0_2 t) (ms0_3 t) (hs0_3 t) (ms0_4 t) (hs0_4 t) (ms0_5 t) (hs0_5 t) (Memref.whole main_v61_0) (Memref.isWhole_whole _) (ms0_6 t) (hs0_6 t) (ms0_7 t) (hs0_7 t) (Memref.whole cc0_scratch0) (Memref.isWhole_whole _) (Memref.whole cc0_scratch1) (Memref.isWhole_whole _) (Memref.whole cc0_scratch2) (Memref.isWhole_whole _) cc0_scratch3 (ins V₀ c t) s _ _ (gtraj V₀ c t.val) W)
    rw [hstep, gtraj_succ]
    isplitl [Htab]; · iexact Htab
    isplitl [H0 H1 H2 H3 H4 H5]
    · unfold insOwn
      isplitl [H0]; · iexact H0
      isplitl [H1]; · iexact H1
      isplitl [H2]; · iexact H2
      isplitl [H3]; · iexact H3
      isplitl [H4]; · iexact H4
      iexact H5
    isplitl [Hst]; · iexact Hst
    isplitl [H6]; · iexact H6
    isplitl [H7]; · iexact H7
    isplitl [Hg]; · iexact Hg
    isplitl [Hsem]; · iexact Hsem
    isplitl [Ho]; · iexact Ho
    unfold insOwn
    iintro ⟨Htab, ⟨H0, H1, H2, H3, H4, H5⟩, Hst, H6, H7, Hg, Hsem, ⟨%W', Ho⟩⟩
    isplitl [Hst Htab Hg Hsem]
    · isplitl [Hst]
      · iexists _; isplitr; swap
        · iexact Hst
        · ipureintro; exact fun _ => rfl
      isplitl [Htab]; · iexact Htab
      isplitl [Hg]; · iexact Hg
      iexact Hsem
    isplitl [Ho]
    · iexists W'; isplitr; swap
      · iexact Ho
      · ipureintro; exact fun _ _ => Or.inl trivial
    isplitl [H0]; · iexact H0
    isplitl [H1]; · iexact H1
    isplitl [H2]; · iexact H2
    isplitl [H3]; · iexact H3
    isplitl [H4]; · iexact H4
    isplitl [H5]; · iexact H5
    rw [if_neg hc, if_neg hc]
    isplitl [H6]; · iexists d6; iexact H6
    iexists d7; iexact H7

theorem body_obligation (c : Dev nD) : BodyObligation (dats V₀ 0 c) (defs₀ (F := F)) Variants.none () Set.univ := fun t => by
  rw [bigSep_W0]
  exact sound_body V₀ c t

end Cert.KernelIdeal.Attn

end
-- ==== Proof.HostFacts.lean ====
/- What the host lines around the kernel's launch write: neither the arguments, nor the tables, nor a window's array. -/
module

public import proofs.«01_k».proof.Proof.Gen.KernelIdeal.Launch
public import Idealize.ShloMosaic.Lib.StableHlo.RunRead
public import Idealize.ShloMosaic.Lib.Pipeline.FrameSuffixV

@[expose] public section

set_option maxRecDepth 32768
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.Sem

variable {F : FTy → Type} [FloatOps F] [Named F]

/-- The host lines before the launch, stretch by stretch. -/
abbrev preOps : List (List (HloOp τ sig (Elt F))) := [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20]
/-- What they write, in order. -/
abbrev preW : List (Ref sig .tc) :=
  [main_c, main_c_0, main_v0, main_v1, main_v2, main_v3, main_v4, main_v5, main_c_1, main_call0_v0, main_call0_c, main_call0_v1, main_call0_c_0, main_call0_v2, main_call0_v3, main_call0_v4, main_call0_c_1, main_call0_v5, main_call0_v6, main_call0_c_2, main_call0_v7, main_call0_v8, main_call0_c_3, main_call0_v9, main_call0_v10, main_call0_v11, main_call0_v12, main_call0_v13, main_call0_v14, main_v6, main_c_2, main_v7, main_v8, main_v9, main_v10, main_cst, main_call1_v0, main_call1_v1, main_call1_v2, main_v11, main_cst_3, main_call2_v0, main_call2_v1, main_call2_v2, main_v12, main_v13, main_v14, main_v15, main_c_4, main_call3_v0, main_v16, main_v17, main_c_5, main_call4_v0, main_v18, main_v19, main_c_6, main_call5_v0, main_v20, main_v21, main_v22, main_v23, main_v24, main_v25, main_cst_7, main_v26, main_v27, main_v28, main_v29, main_v30, main_v31, main_v32, main_v33, main_v34, main_cst_8, main_call6_v0, main_call6_v1, main_call6_v2, main_v35, main_cst_9, main_v36, main_v37, main_v38, main_v39, main_v40, main_cst_10, main_v41, main_v42, main_v43, main_v44, main_v45, main_v46, main_v47, main_cst_11, main_v48, main_v49, main_v50, main_v51, main_v52, main_cst_12, main_v53, main_v54, main_c_13, main_call7_v0, main_v55, main_v56, main_c_14, main_call8_v0, main_v57, main_v58, main_c_15, main_call9_v0, main_v59, main_v60]
theorem pre_writes : (preOps (F := F)).flatten.Forall fun op => op.writes ⊆ (preW.map (Proc.devRef (τ := τ) .tc)).toFinset :=
  StableHlo.forall_writes_sub_of_map rfl
theorem hostOps0_none : ((hostOps0 : List (HloOp τ sig (Elt F)))).Forall fun op => op.fresh = ∅ := StableHlo.forall_fresh_of_map rfl
theorem hostOps0_1_none : ((hostOps0_1 : List (HloOp τ sig (Elt F)))).Forall fun op => op.fresh = ∅ := StableHlo.forall_fresh_of_map rfl
theorem hostOps0_2_none : ((hostOps0_2 : List (HloOp τ sig (Elt F)))).Forall fun op => op.fresh = ∅ := StableHlo.forall_fresh_of_map rfl
theorem hostOps0_3_none : ((hostOps0_3 : List (HloOp τ sig (Elt F)))).Forall fun op => op.fresh = ∅ := StableHlo.forall_fresh_of_map rfl
theorem hostOps0_4_none : ((hostOps0_4 : List (HloOp τ sig (Elt F)))).Forall fun op => op.fresh = ∅ := StableHlo.forall_fresh_of_map rfl
theorem hostOps0_5_none : ((hostOps0_5 : List (HloOp τ sig (Elt F)))).Forall fun op => op.fresh = ∅ := StableHlo.forall_fresh_of_map rfl
theorem hostOps0_6_none : ((hostOps0_6 : List (HloOp τ sig (Elt F)))).Forall fun op => op.fresh = ∅ := StableHlo.forall_fresh_of_map rfl
theorem hostOps0_7_none : ((hostOps0_7 : List (HloOp τ sig (Elt F)))).Forall fun op => op.fresh = ∅ := StableHlo.forall_fresh_of_map rfl
theorem hostOps0_8_none : ((hostOps0_8 : List (HloOp τ sig (Elt F)))).Forall fun op => op.fresh = ∅ := StableHlo.forall_fresh_of_map rfl
theorem hostOps0_9_none : ((hostOps0_9 : List (HloOp τ sig (Elt F)))).Forall fun op => op.fresh = ∅ := StableHlo.forall_fresh_of_map rfl
theorem hostOps0_10_none : ((hostOps0_10 : List (HloOp τ sig (Elt F)))).Forall fun op => op.fresh = ∅ := StableHlo.forall_fresh_of_map rfl
theorem hostOps0_11_none : ((hostOps0_11 : List (HloOp τ sig (Elt F)))).Forall fun op => op.fresh = ∅ := StableHlo.forall_fresh_of_map rfl
theorem hostOps0_12_none : ((hostOps0_12 : List (HloOp τ sig (Elt F)))).Forall fun op => op.fresh = ∅ := StableHlo.forall_fresh_of_map rfl
theorem hostOps0_13_none : ((hostOps0_13 : List (HloOp τ sig (Elt F)))).Forall fun op => op.fresh = ∅ := StableHlo.forall_fresh_of_map rfl
theorem hostOps0_14_none : ((hostOps0_14 : List (HloOp τ sig (Elt F)))).Forall fun op => op.fresh = ∅ := StableHlo.forall_fresh_of_map rfl
theorem hostOps0_15_none : ((hostOps0_15 : List (HloOp τ sig (Elt F)))).Forall fun op => op.fresh = ∅ := StableHlo.forall_fresh_of_map rfl
theorem hostOps0_16_none : ((hostOps0_16 : List (HloOp τ sig (Elt F)))).Forall fun op => op.fresh = ∅ := StableHlo.forall_fresh_of_map rfl
theorem hostOps0_17_none : ((hostOps0_17 : List (HloOp τ sig (Elt F)))).Forall fun op => op.fresh = ∅ := StableHlo.forall_fresh_of_map rfl
theorem hostOps0_18_none : ((hostOps0_18 : List (HloOp τ sig (Elt F)))).Forall fun op => op.fresh = ∅ := StableHlo.forall_fresh_of_map rfl
theorem hostOps0_19_none : ((hostOps0_19 : List (HloOp τ sig (Elt F)))).Forall fun op => op.fresh = ∅ := StableHlo.forall_fresh_of_map rfl
theorem hostOps0_20_none : ((hostOps0_20 : List (HloOp τ sig (Elt F)))).Forall fun op => op.fresh = ∅ := StableHlo.forall_fresh_of_map rfl
theorem pre_fresh : ((preOps (F := F))).Forall fun ops => ops.Forall fun op => op.fresh = ∅ := by
  simp only [preOps, List.Forall]; exact ⟨hostOps0_none, hostOps0_1_none, hostOps0_2_none, hostOps0_3_none, hostOps0_4_none, hostOps0_5_none, hostOps0_6_none, hostOps0_7_none, hostOps0_8_none, hostOps0_9_none, hostOps0_10_none, hostOps0_11_none, hostOps0_12_none, hostOps0_13_none, hostOps0_14_none, hostOps0_15_none, hostOps0_16_none, hostOps0_17_none, hostOps0_18_none, hostOps0_19_none, hostOps0_20_none⟩
theorem pre_sub : ((preOps (F := F))).Forall fun ops => ops.Forall fun op => op.bufs ⊆ StableHlo.tcRefs τ sig := by
  simp only [preOps, List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub⟩

/-- The host lines after the launch, stretch by stretch. -/
abbrev postOps : List (List (HloOp τ sig (Elt F))) := [hostOps1, hostOps1_1, hostOps1_2, hostOps1_3, hostOps1_4]
/-- What they write, in order. -/
abbrev postW : List (Ref sig .tc) :=
  [main_v62, main_v63, main_v64, main_v65, main_c_16, main_call10_v0, main_call10_c, main_call10_v1, main_call10_c_0, main_call10_v2, main_call10_v3, main_call10_v4, main_call10_c_1, main_call10_v5, main_call10_v6, main_call10_c_2, main_call10_v7, main_call10_v8, main_call10_c_3, main_call10_v9, main_call10_v10, main_call10_v11, main_call10_v12, main_call10_v13, main_call10_v14, main_v66, main_c_17, main_v67, main_v68, main_v69, main_v70, main_call11_v0, main_v71, main_v72, main_v73, main_v74, main_cst_18, main_v75, main_v76, main_v77, main_v78, main_v79, main_v80, main_v81]
theorem post_writes : (postOps (F := F)).flatten.Forall fun op => op.writes ⊆ (postW.map (Proc.devRef (τ := τ) .tc)).toFinset :=
  StableHlo.forall_writes_sub_of_map rfl
theorem hostOps1_none : ((hostOps1 : List (HloOp τ sig (Elt F)))).Forall fun op => op.fresh = ∅ := StableHlo.forall_fresh_of_map rfl
theorem hostOps1_1_none : ((hostOps1_1 : List (HloOp τ sig (Elt F)))).Forall fun op => op.fresh = ∅ := StableHlo.forall_fresh_of_map rfl
theorem hostOps1_2_none : ((hostOps1_2 : List (HloOp τ sig (Elt F)))).Forall fun op => op.fresh = ∅ := StableHlo.forall_fresh_of_map rfl
theorem hostOps1_3_none : ((hostOps1_3 : List (HloOp τ sig (Elt F)))).Forall fun op => op.fresh = ∅ := StableHlo.forall_fresh_of_map rfl
theorem hostOps1_4_none : ((hostOps1_4 : List (HloOp τ sig (Elt F)))).Forall fun op => op.fresh = ∅ := StableHlo.forall_fresh_of_map rfl
theorem post_fresh : ((postOps (F := F))).Forall fun ops => ops.Forall fun op => op.fresh = ∅ := by
  simp only [postOps, List.Forall]; exact ⟨hostOps1_none, hostOps1_1_none, hostOps1_2_none, hostOps1_3_none, hostOps1_4_none⟩
theorem post_sub : ((postOps (F := F))).Forall fun ops => ops.Forall fun op => op.bufs ⊆ StableHlo.tcRefs τ sig := by
  simp only [postOps, List.Forall]; exact ⟨hostOps1_sub, hostOps1_1_sub, hostOps1_2_sub, hostOps1_3_sub, hostOps1_4_sub⟩

theorem after_app (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih _

theorem pre_keeps (V : Valuation τ sig (Elt F)) (r : Ref sig .tc) (hr : r ∉ preW) :
    StableHlo.after (preOps (F := F)).flatten V (Proc.devRef .tc r) = V (Proc.devRef .tc r) :=
  StableHlo.after_of_writes_sub _ V pre_writes hr

theorem post_keeps (V : Valuation τ sig (Elt F)) (r : Ref sig .tc) (hr : r ∉ postW) :
    StableHlo.after (postOps (F := F)).flatten V (Proc.devRef .tc r) = V (Proc.devRef .tc r) :=
  StableHlo.after_of_writes_sub _ V post_writes hr

/-- The lines after the launch write no window's array. -/
theorem post_keep : ∀ ops ∈ postOps (F := F), ∀ op ∈ ops, ∀ w, Proc.devRef .tc (Pipeline.arrRef spec0 w) ∉ op.writes := by
  intro ops ho op hop w hb
  obtain ⟨y, hy, he⟩ := List.mem_map.mp (List.mem_toFinset.mp ((List.forall_iff_forall_mem.mp post_writes) op (List.mem_flatten.mpr ⟨ops, ho, hop⟩) hb))
  exact (by decide +kernel : ∀ w, Pipeline.arrRef spec0 w ∉ postW) w (Proc.devRef_injective _ he ▸ hy)

theorem hostOps1_tab : ∀ op ∈ (hostOps1 : List (HloOp τ sig (Elt F))), ∀ k, Proc.devRef .tc (pre0.ref k) ∉ op.bufs := by
  intro op hop
  simp only [hostOps1, List.mem_cons, List.mem_nil_iff, or_false] at hop
  rcases hop with rfl | rfl | rfl | rfl | rfl <;> intro j <;> fin_cases j <;>
    simp only [StableHlo.nullary_bufs, StableHlo.unary_bufs, StableHlo.binary_bufs, StableHlo.ternary_bufs, Finset.mem_insert, Finset.mem_singleton, not_or] <;>
    and_intros <;> exact StableHlo.devRef_ne_of_ne (by decide)
theorem hostOps1_1_tab : ∀ op ∈ (hostOps1_1 : List (HloOp τ sig (Elt F))), ∀ k, Proc.devRef .tc (pre0.ref k) ∉ op.bufs := by
  intro op hop
  simp only [hostOps1_1, List.mem_cons, List.mem_nil_iff, or_false] at hop
  rcases hop with rfl | rfl | rfl | rfl | rfl | rfl | rfl | rfl | rfl | rfl | rfl | rfl | rfl | rfl | rfl | rfl | rfl | rfl | rfl | rfl | rfl <;> intro j <;> fin_cases j <;>
    simp only [StableHlo.nullary_bufs, StableHlo.unary_bufs, StableHlo.binary_bufs, StableHlo.ternary_bufs, Finset.mem_insert, Finset.mem_singleton, not_or] <;>
    and_intros <;> exact StableHlo.devRef_ne_of_ne (by decide)
theorem hostOps1_2_tab : ∀ op ∈ (hostOps1_2 : List (HloOp τ sig (Elt F))), ∀ k, Proc.devRef .tc (pre0.ref k) ∉ op.bufs := by
  intro op hop
  simp only [hostOps1_2, List.mem_cons, List.mem_nil_iff, or_false] at hop
  rcases hop with rfl | rfl | rfl | rfl | rfl <;> intro j <;> fin_cases j <;>
    simp only [StableHlo.nullary_bufs, StableHlo.unary_bufs, StableHlo.binary_bufs, StableHlo.ternary_bufs, Finset.mem_insert, Finset.mem_singleton, not_or] <;>
    and_intros <;> exact StableHlo.devRef_ne_of_ne (by decide)
theorem hostOps1_3_tab : ∀ op ∈ (hostOps1_3 : List (HloOp τ sig (Elt F))), ∀ k, Proc.devRef .tc (pre0.ref k) ∉ op.bufs := by
  intro op hop
  simp only [hostOps1_3, List.mem_cons, List.mem_nil_iff, or_false] at hop
  rcases hop with rfl | rfl <;> intro j <;> fin_cases j <;>
    simp only [StableHlo.nullary_bufs, StableHlo.unary_bufs, StableHlo.binary_bufs, StableHlo.ternary_bufs, Finset.mem_insert, Finset.mem_singleton, not_or] <;>
    and_intros <;> exact StableHlo.devRef_ne_of_ne (by decide)
theorem hostOps1_4_tab : ∀ op ∈ (hostOps1_4 : List (HloOp τ sig (Elt F))), ∀ k, Proc.devRef .tc (pre0.ref k) ∉ op.bufs := by
  intro op hop
  simp only [hostOps1_4, List.mem_cons, List.mem_nil_iff, or_false] at hop
  rcases hop with rfl | rfl | rfl | rfl | rfl | rfl | rfl | rfl | rfl | rfl | rfl <;> intro j <;> fin_cases j <;>
    simp only [StableHlo.nullary_bufs, StableHlo.unary_bufs, StableHlo.binary_bufs, StableHlo.ternary_bufs, Finset.mem_insert, Finset.mem_singleton, not_or] <;>
    and_intros <;> exact StableHlo.devRef_ne_of_ne (by decide)
/-- The lines after the launch touch no table. -/
theorem post_tail : ∀ ops ∈ postOps (F := F), ∀ op ∈ ops, op.bufs ⊆ Pipeline.tailRefs sig pre0 spec0 := by
  intro ops ho op hop
  refine Pipeline.sub_tailRefs pre0 spec0 op ((List.forall_iff_forall_mem.mp ((List.forall_iff_forall_mem.mp post_sub) ops ho)) op hop) ?_
  simp only [postOps, List.mem_cons, List.mem_nil_iff, or_false] at ho
  rcases ho with rfl | rfl | rfl | rfl | rfl
  · exact hostOps1_tab op hop
  · exact hostOps1_1_tab op hop
  · exact hostOps1_2_tab op hop
  · exact hostOps1_3_tab op hop
  · exact hostOps1_4_tab op hop

theorem post_none : ∀ ops ∈ postOps (F := F), ∀ op ∈ ops, op.fresh = ∅ := fun ops ho op hop =>
  (List.forall_iff_forall_mem.mp ((List.forall_iff_forall_mem.mp post_fresh) ops ho)) op hop

/-- The tables as the lines before the launch leave them. -/
theorem pre_tab0 (V : Valuation τ sig (Elt F)) : StableHlo.after (preOps (F := F)).flatten V (Proc.devRef .tc main_c) = fun i => lit0 (S132.rowMajor i) := by
  rw [show (preOps (F := F)).flatten = hostOps0 ++ (preOps (F := F)).tail.flatten from rfl, after_app,
    StableHlo.after_of_writes_sub (W := preW.drop 9) _ _ (StableHlo.forall_writes_sub_of_map rfl) (by decide +kernel)]
  after_reads_simp
  rfl

theorem pre_tab1 (V : Valuation τ sig (Elt F)) : StableHlo.after (preOps (F := F)).flatten V (Proc.devRef .tc main_c_0) = fun i => lit1 (S132.rowMajor i) := by
  rw [show (preOps (F := F)).flatten = hostOps0 ++ (preOps (F := F)).tail.flatten from rfl, after_app,
    StableHlo.after_of_writes_sub (W := preW.drop 9) _ _ (StableHlo.forall_writes_sub_of_map rfl) (by decide +kernel)]
  after_reads_simp
  rfl

end Cert.KernelIdeal.Attn

end
-- ==== Proof.Run.lean ====
/- The launch: from any memory, the whole program terminates with every array at the contents the pipeline's data name. -/
module

public import proofs.«01_k».proof.Proof.Frame
public import proofs.«01_k».proof.Proof.HostFacts

@[expose] public section

set_option maxRecDepth 32768
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf UD)

variable {F : FTy → Type} [FloatOps F] [Named F]

local notation "𝕄" => MT nD τ sig Unit (Elt F) ℕ (UD sig nD τ) ℕ

/-- The one semaphore the body owns: its own copy's. -/
abbrev osem : Fin 1 → SemLoc sig := fun _ => SemLoc.dma cc0_scratch3.sem

theorem osem_facts : Pipeline.OwnSemFacts spec0 osem := by decide

variable (V₀ : Dev nD → Valuation τ sig (Elt F))

theorem share_eq (c : Dev nD) (w : Fin (cfgA (F := F)).W) : (dats V₀ 0 c).share w = fullShare := by
  unfold Dat.share; split <;> rfl

/-- The buffer the body writes by its own copy, after the last point. -/
def Gdq (c : Dev nD) (b : Ref sig .tc) : Buf (Elt F) ((c : Thread nD τ).loc b) :=
  if h : b = main_v61_0 then h ▸ gtraj V₀ c (cfgA (F := F)).N else V₀ c (Proc.devRef .tc b)

theorem Gdq_self (c : Dev nD) : Gdq V₀ c main_v61_0 = gtraj V₀ c (cfgA (F := F)).N := by
  unfold Gdq; rw [dif_pos rfl]

theorem prefHeld_two (c : Dev nD) (q : Fin 2 → PosShare TreeShare) (v : pre0.Contents (Elt F)) :
    (Pipeline.prefHeld (Ix := Unit) (Name := ℕ) (U := UD sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide,
    bigSep_insert (by decide), bigSep_singleton]
  rfl

theorem own_one (c : Dev nD) :
    (Pipeline.ownSems0 (Ix := Unit) (Name := ℕ) (U := UD sig nD τ) (Lvl := ℕ) (Val := Elt F) (τ := τ) osem c : sProp 𝕄)
      = semVal ((c : Thread nD τ), SemLoc.dma cc0_scratch3.sem) 0 :=
  (Pipeline.ownSems0_eq_of_list c osem [0] (by decide) (by decide)).trans rfl

theorem phi_in (c : Dev nD) :
    iprop(Pipeline.ΦDRV osem spec0 ∅ {main_v61_0} (fun c b => V₀ c (Proc.devRef .tc b)) (fun c b => V₀ c (Proc.devRef .tc b)) c
      ∗ Pipeline.ΦT pre0 (adm (F := F)).1 c) ⊢ (dats V₀ 0 c).Φ 0 := by
  rw [Phi_at V₀ c 0]
  unfold Pipeline.ΦDRV Pipeline.ΦT Phi
  rw [prefHeld_two, scopedRest0_eq, own_one, bigSep_singleton]
  iintro ⟨⟨⟨⟨%a0, S0⟩, ⟨%a1, S1⟩, ⟨%a2, S2⟩⟩, Hs, -, Hg⟩, HT0, HT1⟩
  isplitl [S0 S1 S2]
  · iexists (⟨a0, a1, a2⟩ : St F)
    isplitr
    · ipureintro; exact fun h => absurd rfl h
    · unfold stOwn
      rw [owns_whole, owns_whole, owns_whole]
      isplitl [S0]; · iexact S0
      isplitl [S1]; · iexact S1
      iexact S2
  isplitl [HT0 HT1]
  · unfold tabOwn
    isplitl [HT0]; · iexact HT0
    iexact HT1
  isplitl [Hg]
  · rw [owns_whole]; iexact Hg
  iexact Hs

theorem phi_out (c : Dev nD) :
    (dats V₀ 0 c).Φ (Fin.last (cfgA (F := F)).N)
      ⊢ Pipeline.ΦDRV osem spec0 ∅ {main_v61_0} (fun c b => V₀ c (Proc.devRef .tc b)) (Gdq V₀) c := by
  rw [Phi_at V₀ c (Fin.last _)]
  unfold Pipeline.ΦDRV Phi
  rw [scopedRest0_eq, own_one, bigSep_singleton]
  unfold stOwn
  simp only [owns_whole]
  rw [Gdq_self]
  iintro ⟨⟨%s, -, S0, S1, S2⟩, -, Hg, Hs⟩
  isplitl [S0 S1 S2]
  · isplitl [S0]; · iexists s.dq; iexact S0
    isplitl [S1]; · iexists s.dk; iexact S1
    iexists s.dv; iexact S2
  isplitl [Hs]; · iexact Hs
  isplitr; · iempintro
  iexact Hg

theorem rest_dq : ({main_v61_0} : Finset (Ref sig .tc)) ⊆ Pipeline.restRefsP sig pre0 spec0 := by decide +kernel

/-- The pipeline's contents at the region's entry, the lines before it run from the memory `m`. -/
abbrev Ventry (m : (ℓ : Loc nD τ sig) → Buf (Elt F) ℓ) (c : Dev nD) : Valuation τ sig (Elt F) :=
  StableHlo.after (preOps (F := F)).flatten (fun b => m (c, b))

/-- What every buffer holds at the end. -/
abbrev Vexit (m : (ℓ : Loc nD τ sig) → Buf (Elt F) ℓ) (c : Dev nD) : Valuation τ sig (Elt F) :=
  StableHlo.after (postOps (F := F)).flatten
    (Pipeline.withArrays spec0 c (Pipeline.withR (Ventry m c) {main_v61_0} c (Gdq (Ventry m) c)) fun w => (dats (Ventry m) 0 c).arrAt w (cfgA (F := F)).N)

set_option maxHeartbeats 4000000 in
theorem hmain (m : (ℓ : Loc nD τ sig) → Buf (Elt F) ℓ) :
    Pipeline.HMainPK (Ix := Unit) (Name := ℕ) (U := UD sig nD τ) (Lvl := ℕ) (pcfgs (F := F)) 0 defs₀ Variants.none m (main (F := F))
      (fun c b => Ventry m c (Proc.devRef .tc b)) (fun _ => Pipeline.chain ((postOps (F := F)).map StableHlo.seq)) :=
  Pipeline.hmainP_around pcfgs 0 defs₀ Variants.none m main preOps postOps pre_sub pre_fresh main_chain

theorem tab_at (m : (ℓ : Loc nD τ sig) → Buf (Elt F) ℓ) (c : Dev nD) (k : Fin 2) :
    Ventry m c (Proc.devRef .tc (pre0.ref k)) = (adm (F := F)).1 k := by
  fin_cases k
  · exact pre_tab0 _
  · exact pre_tab1 _

set_option backward.isDefEq.respectTransparency.types false in
set_option maxHeartbeats 8000000 in
/-- Every weakly fair execution terminates, every buffer the region leaves alone at `Vexit`, every counter at zero. -/
theorem run (m : (ℓ : Loc nD τ sig) → Buf (Elt F) ℓ) (g : Dev nD → PrngReg) :
    θ_run (defs (F := F)) (onTc (τ := τ) (main (F := F))) (s₀ m g) (fun r =>
      (∀ c : Dev nD, ∀ b ∈ Pipeline.restRefsP sig pre0 spec0, r.2.mem ((c : Thread nD τ).loc b) = Vexit m c (Proc.devRef .tc b))
      ∧ r.2.sem = fun _ => 0) :=
  Pipeline.θ_run_frameP_dmaR_aroundV pcfgs (fun _ => adm) (dats (Ventry m)) 0 launch0 osem defs₀ Variants.none
    osem_facts ∅ {main_v61_0} (Finset.empty_subset _) (by rw [Finset.sdiff_empty]; exact rest_dq) m g main
    (fun c => (body_obligation (Ventry m) c).loose) (share_eq (Ventry m)) (fun _ _ => rfl)
    (Ventry m) postOps post_tail post_none post_keep (Gdq (Ventry m)) (hmain m)
    (fun _ _ => rfl) (tab_at m) (phi_in (Ventry m)) (phi_out (Ventry m))
    _ (fun r h => ⟨fun c => (h.1 c).2, h.2⟩)

/-- A buffer no line and no window writes ends as it began. -/
theorem Vexit_keep (m : (ℓ : Loc nD τ sig) → Buf (Elt F) ℓ) (c : Dev nD) (r : Ref sig .tc) (h1 : r ∉ postW) (h2 : ∀ w, Pipeline.arrRef spec0 w ≠ r)
    (h3 : r ∉ ({main_v61_0} : Finset (Ref sig .tc))) (h4 : r ∉ preW) : Vexit m c (Proc.devRef .tc r) = m ((c : Thread nD τ).loc r) := by
  unfold Vexit
  rw [post_keeps _ r h1, Pipeline.withArrays_of_ne spec0 c _ _ r h2, Pipeline.withR_of_not_mem _ _ c _ r h3]
  exact pre_keeps _ r h4

/-- The arguments end unchanged and every counter reads zero. -/
theorem run_args (m : (ℓ : Loc nD τ sig) → Buf (Elt F) ℓ) (g : Dev nD → PrngReg) :
    θ_run (defs (F := F)) (onTc (τ := τ) (main (F := F))) (s₀ m g) (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) ∧ r.2.sem = fun _ => 0) :=
  (θ_run _ _ _).mono (fun r h => ⟨fun c =>
    ⟨(h.1 c main_arg0 (by decide +kernel)).trans (Vexit_keep m c _ (by decide +kernel) (by decide +kernel) (by decide +kernel) (by decide +kernel)),
     (h.1 c main_arg1 (by decide +kernel)).trans (Vexit_keep m c _ (by decide +kernel) (by decide +kernel) (by decide +kernel) (by decide +kernel)),
     (h.1 c main_arg2 (by decide +kernel)).trans (Vexit_keep m c _ (by decide +kernel) (by decide +kernel) (by decide +kernel) (by decide +kernel)),
     (h.1 c main_arg3 (by decide +kernel)).trans (Vexit_keep m c _ (by decide +kernel) (by decide +kernel) (by decide +kernel) (by decide +kernel)),
     (h.1 c main_arg4 (by decide +kernel)).trans (Vexit_keep m c _ (by decide +kernel) (by decide +kernel) (by decide +kernel) (by decide +kernel)),
     (h.1 c main_arg5 (by decide +kernel)).trans (Vexit_keep m c _ (by decide +kernel) (by decide +kernel) (by decide +kernel) (by decide +kernel))⟩, h.2⟩) (run m g)

end Cert.KernelIdeal.Attn

end
-- ==== Proof.Math.lean ====
/- The attention's backward pass over the real numbers, and the two ways in which the programs arrive at it. -/
module

public import Idealize.ShloMosaic.Lib.Pointwise

@[expose] public section

set_option maxRecDepth 16384
set_option Elab.async false

noncomputable section

namespace Cert.Attn

open Idealize.ShloMosaic

/-- The arrays that the attention reads, and the cotangent of what it writes. -/
structure Data where
  qn : Fin 16400 → Fin 8 → Fin 128 → ℝ
  qr : Fin 16400 → Fin 8 → Fin 64 → ℝ
  kn : Fin 16400 → Fin 8 → Fin 128 → ℝ
  kr : Fin 16400 → Fin 64 → ℝ
  v : Fin 16400 → Fin 8 → Fin 128 → ℝ
  o : Fin 16400 → Fin 8 → Fin 128 → ℝ

variable (D : Data) (h : Fin 8) (q k : Fin 16400)

/-- A score, -/
def sc : ℝ := (∑ d, D.qn q h d * D.kn k h d + ∑ d, D.kr k d * D.qr q h d) * (1 / √192)
/-- its exponential where the query may see the key, -/
def ex : ℝ := if k ≤ q then Real.exp (sc D h q k) else 0
/-- the row's sum, -/
def zz : ℝ := ∑ k, ex D h q k
/-- the weight, -/
def pp : ℝ := ex D h q k / zz D h q
/-- the weight's cotangent, -/
def gg : ℝ := ∑ d, D.o q h d * D.v k h d
/-- the row's mean of the cotangents, -/
def dl : ℝ := ∑ k, pp D h q k * gg D h q k
/-- and the cotangent of the score before its scaling. -/
def ds : ℝ := pp D h q k * (gg D h q k - dl D h q) * (1 / √192)

theorem ex_nonneg : 0 ≤ ex D h q k := by unfold ex; split <;> positivity
theorem zz_pos : 0 < zz D h q := by
  refine Finset.sum_pos' (fun k _ => ex_nonneg D h q k) ⟨q, Finset.mem_univ _, ?_⟩
  unfold ex
  rw [if_pos le_rfl]
  positivity

theorem csum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-! ## The row's largest score, and what is left of it -/

/-- A masked score. -/
def xx : EReal := if k ≤ q then (sc D h q k : EReal) else ⊥

theorem max_real : ∃ M : ℝ, Finset.fold max (⊥ : EReal) (xx D h q) Finset.univ = (M : EReal) := by
  have h1 : Finset.fold max (⊥ : EReal) (xx D h q) Finset.univ < ⊤ := by
    rw [Finset.fold_max_lt]
    refine ⟨bot_lt_top, fun k _ => ?_⟩
    unfold xx
    split
    · exact EReal.coe_lt_top _
    · exact bot_lt_top
  have h2 : ⊥ < Finset.fold max (⊥ : EReal) (xx D h q) Finset.univ := by
    rw [Finset.lt_fold_max]
    refine Or.inr ⟨q, Finset.mem_univ _, ?_⟩
    unfold xx
    rw [if_pos le_rfl]
    exact EReal.bot_lt_coe _
  exact ⟨_, (EReal.coe_toReal h1.ne h2.ne').symm⟩

theorem exp_xx (M : ℝ) : Ideal.exp (xx D h q k - (M : EReal)) = ((Real.exp (-M) * ex D h q k : ℝ) : EReal) := by
  unfold xx ex
  split
  · rw [← EReal.coe_sub, Ideal.exp_coe, sub_eq_neg_add, Real.exp_add]
  · rw [EReal.bot_sub, Ideal.exp_bot, mul_zero, EReal.coe_zero]

theorem sum_exp_xx (M : ℝ) : ∑ k, Ideal.exp (xx D h q k - (M : EReal)) = ((Real.exp (-M) * zz D h q : ℝ) : EReal) := by
  simp only [exp_xx, csum, ← Finset.mul_sum]
  rfl

theorem div_real {y : ℝ} (x : ℝ) (hy : y ≠ 0) : Ideal.div (x : EReal) (y : EReal) = ((x / y : ℝ) : EReal) := by
  rw [Ideal.div_coe hy, ← EReal.coe_mul, mul_one_div]

theorem weight (M : ℝ) : Ideal.div (Ideal.exp (xx D h q k - (M : EReal))) (∑ k, Ideal.exp (xx D h q k - (M : EReal))) = (pp D h q k : EReal) := by
  have hz := (zz_pos D h q).ne'
  have hM := (Real.exp_pos (-M)).ne'
  rw [exp_xx, sum_exp_xx, div_real _ (mul_ne_zero hM hz), mul_div_mul_left _ _ hM]
  rfl

/-- The log-sum that the forward call leaves does not depend on the score subtracted. -/
theorem lse (M : ℝ) : Ideal.div ((M : EReal) + Ideal.log (∑ k, Ideal.exp (xx D h q k - (M : EReal)))) (Ideal.log ((2 : ℝ) : EReal)) =
    ((Real.log (zz D h q) / Real.log 2 : ℝ) : EReal) := by
  have hz := zz_pos D h q
  have hM := Real.exp_pos (-M)
  rw [sum_exp_xx, Ideal.log_coe, if_neg (not_le.2 (mul_pos hM hz)), Ideal.log_coe, if_neg (by norm_num), ← EReal.coe_add,
    div_real _ (Real.log_pos (by norm_num)).ne', Real.log_mul hM.ne' hz.ne', Real.log_exp]
  congr 2
  ring

theorem delta : ∑ d, D.o q h d * ∑ k, pp D h q k * D.v k h d = dl D h q := by
  unfold dl gg
  simp only [Finset.mul_sum]
  rw [Finset.sum_comm]
  refine Finset.sum_congr rfl fun k _ => Finset.sum_congr rfl fun d _ => ?_
  ring

/-- The weight recomputed from its score and the row's log-sum. -/
theorem weight2 (hk : k ≤ q) {s : ℝ} (hs : s * (1 / √192) = sc D h q k) :
    Ideal.exp2 ((s : EReal) * ((1 / √192 * (1 / Real.log 2) : ℝ) : EReal) - ((Real.log (zz D h q) / Real.log 2 : ℝ) : EReal)) = (pp D h q k : EReal) := by
  have hz := zz_pos D h q
  have h2 : Real.log 2 ≠ 0 := (Real.log_pos (by norm_num)).ne'
  rw [← EReal.coe_mul, ← EReal.coe_sub, Ideal.exp2_coe]
  congr 1
  show (2 : ℝ) ^ (_ : ℝ) = _
  rw [show s * (1 / √192 * (1 / Real.log 2)) - Real.log (zz D h q) / Real.log 2 = (sc D h q k - Real.log (zz D h q)) / Real.log 2 by
    rw [← hs]; ring, Real.rpow_def_of_pos (by norm_num), mul_div_cancel₀ _ h2, Real.exp_sub, Real.exp_log hz]
  unfold pp ex
  rw [if_pos hk]

/-- The softmax's backward pass as the reference writes it. -/
theorem soft (M : ℝ) :
    (Ideal.div (gg D h q k : EReal) (∑ k, Ideal.exp (xx D h q k - (M : EReal)))
      + -(∑ k, (gg D h q k : EReal) * Ideal.div ((1 : ℝ) : EReal) ((∑ k, Ideal.exp (xx D h q k - (M : EReal))) * (∑ k, Ideal.exp (xx D h q k - (M : EReal))))
          * Ideal.exp (xx D h q k - (M : EReal)))) * Ideal.exp (xx D h q k - (M : EReal))
      = ((pp D h q k * (gg D h q k - dl D h q) : ℝ) : EReal) := by
  have hz := (zz_pos D h q).ne'
  have hM := (Real.exp_pos (-M)).ne'
  have hl := mul_ne_zero hM hz
  simp only [sum_exp_xx]
  simp only [← EReal.coe_mul, div_real _ hl, div_real _ (mul_ne_zero hl hl), exp_xx, csum, ← EReal.coe_neg, ← EReal.coe_add]
  congr 1
  have e : ∑ x, gg D h q x * (1 / (Real.exp (-M) * zz D h q * (Real.exp (-M) * zz D h q))) * (Real.exp (-M) * ex D h q x)
      = dl D h q / (Real.exp (-M) * zz D h q) := by
    unfold dl pp
    rw [Finset.sum_div]
    refine Finset.sum_congr rfl fun x _ => ?_
    field_simp
  rw [e]
  unfold pp
  field_simp
  try ring

end Cert.Attn

end
-- ==== Proof.Given.lean ====
/- What the precondition says: the arguments are real numbers. -/
module

public import proofs.«01_k».proof.Pre_finite
public import proofs.«01_k».proof.Proof.Math
public import Idealize.ShloMosaic.Lib.ReduceAll
public import Idealize.ShloMosaic.Lib.Pointwise

@[expose] public section

set_option maxRecDepth 16384
set_option Elab.async false

noncomputable section

namespace Cert.Pre_finite

open Idealize.ShloMosaic

instance facts : Cert.Pre_finite.Facts where
  bcast_S_S16400x8x128 := by decide
  reducesTo_S16400x8x128_S_d0_1_2 := by decide
  h_S_ := by decide
  bcast_S_S16400x8x64 := by decide
  reducesTo_S16400x8x64_S_d0_1_2 := by decide
  bcast_S_S16400x64 := by decide
  reducesTo_S16400x64_S_d0_1 := by decide
  slices_S16400x2048_S16400x1024_0_0 := by decide
  bcast_S_S16400x1024 := by decide
  reducesTo_S16400x1024_S_d0_1 := by decide

/-- A number whose absolute value is below infinity is real. -/
theorem real_of_lt (x : EReal) (e : FloatOps.cmpf (F := Ideal) .olt (FloatOps.hostAbsf (F := Ideal) (φ := .f32) x) (FloatOps.ofBits (F := Ideal) .f32 0x7F800000#32) = 1#1) :
    x = ((x.toReal : ℝ) : EReal) := by
  have htop : Ideal.ofBits .f32 0x7F800000#32 = ⊤ := by simp [Ideal.ofBits, Ideal.ieee]
  have e' : Ideal.cmp .olt (max x (-x)) (Ideal.ofBits .f32 0x7F800000#32) = 1#1 := e
  rw [htop] at e'
  unfold Ideal.cmp at e'
  have hlt : max x (-x) < ⊤ := by
    by_contra hh
    simp [hh] at e'
  rw [max_lt_iff] at hlt
  refine (EReal.coe_toReal hlt.1.ne fun hb => ?_).symm
  rw [hb] at hlt
  exact absurd hlt.2 (by simp)

instance : Subsingleton S_.Idx := ⟨fun a b => funext fun i => i.elim0⟩

variable {a0 : FVec Ideal S16400x8x128 .f32} {a1 : FVec Ideal S16400x8x64 .f32} {a2 : FVec Ideal S16400x8x128 .f32}
  {a3 : FVec Ideal S16400x64 .f32} {a4 : FVec Ideal S16400x8x128 .f32} {a5 : FVec Ideal S16400x2048 .f32}

theorem all_real (h : fn (F := Ideal) a0 a1 a2 a3 a4 a5 = fun _ => 1#1) :
    (∀ q h d, (a0 (ix3 q h d) : EReal) = ((EReal.toReal (a0 (ix3 q h d)) : ℝ) : EReal))
    ∧ (∀ q h d, (a1 (ix3 q h d) : EReal) = ((EReal.toReal (a1 (ix3 q h d)) : ℝ) : EReal))
    ∧ (∀ q h d, (a2 (ix3 q h d) : EReal) = ((EReal.toReal (a2 (ix3 q h d)) : ℝ) : EReal))
    ∧ (∀ q d, (a3 (ix2 q d) : EReal) = ((EReal.toReal (a3 (ix2 q d)) : ℝ) : EReal))
    ∧ (∀ q h d, (a4 (ix3 q h d) : EReal) = ((EReal.toReal (a4 (ix3 q h d)) : ℝ) : EReal))
    ∧ (∀ (q : Fin 16400) (h : Fin 8) (d : Fin 128), (a5 (ix2 q ⟨h.val * 128 + d.val, by omega⟩) : EReal) =
        ((EReal.toReal (a5 (ix2 q ⟨h.val * 128 + d.val, by omega⟩)) : ℝ) : EReal)) := by
  have h := congrFun h Idealize.ShloMosaic.ix0
  dsimp only [fn, fn_part1] at h
  obtain ⟨h, e5⟩ := IntOp.andi_eq_one.1 h
  obtain ⟨h, e4⟩ := IntOp.andi_eq_one.1 h
  obtain ⟨h, e3⟩ := IntOp.andi_eq_one.1 h
  obtain ⟨h, e2⟩ := IntOp.andi_eq_one.1 h
  obtain ⟨e0, e1⟩ := IntOp.andi_eq_one.1 h
  refine ⟨fun q h d => real_of_lt _ (Host.reduce_andi_all _ _ _ _ _ e0 (ix3 q h d)), fun q h d => real_of_lt _ (Host.reduce_andi_all _ _ _ _ _ e1 (ix3 q h d)),
    fun q h d => real_of_lt _ (Host.reduce_andi_all _ _ _ _ _ e2 (ix3 q h d)), fun q d => real_of_lt _ (Host.reduce_andi_all _ _ _ _ _ e3 (ix2 q d)),
    fun q h d => real_of_lt _ (Host.reduce_andi_all _ _ _ _ _ e4 (ix3 q h d)), fun q h d => real_of_lt _ ?_⟩
  have e : (extractStridedSlice S16400x1024 ![0, 0] a5 facts.slices_S16400x2048_S16400x1024_0_0 (ix2 q ⟨h.val * 128 + d.val, by omega⟩) : EReal) =
      a5 (ix2 q ⟨h.val * 128 + d.val, by omega⟩) := by
    pointwise
  rw [← e]
  exact Host.reduce_andi_all _ _ _ _ _ e5 (ix2 q ⟨h.val * 128 + d.val, by omega⟩)

end Cert.Pre_finite

end
-- ==== Proof.Pay.lean ====
/- What each block of the kernel's body leaves in the accumulators, element by element, over the reals. -/
module

public import proofs.«01_k».proof.Proof.Blocks
public import Idealize.ShloMosaic.Lib.Pointwise
public import Idealize.ShloMosaic.Lib.WordArith

@[expose] public section

set_option maxRecDepth 16384
set_option Elab.async false

noncomputable section

namespace Cert.KernelIdeal.Attn

open Cert.KernelIdeal Cert.KernelIdeal.Gen
open Idealize.ShloMosaic

/-- The scale of the scores with the change of base in it. -/
def c2 : EReal := (Named.named (F := Ideal) κ "scale_log2" 0x3DD53B95#32 : Ideal .f32)
/-- The scale of the scores. -/
def c1 : EReal := (Named.named (F := Ideal) κ "scale" 0x3D93CD3A#32 : Ideal .f32)

variable (x : Ins Ideal) (s : St Ideal)

/-- A tile's probability of key `k` at query `r`, before any mask. -/
def ptE (k : Fin 768) (r : Fin 1536) : EReal :=
  Ideal.exp2 ((∑ d : Fin 256, x.k (ix3 0 k d) * x.q (ix3 0 r d)) * c2 - x.l (ix3 0 0 r))

/-- The derivative that goes to the score of key `k` at query `r`, its probability given. -/
def dsE (p : EReal) (k : Fin 768) (r : Fin 1536) : EReal :=
  p * ((∑ d : Fin 128, x.v (ix3 0 k d) * x.o (ix2 r d)) - x.d (ix3 0 0 r)) * c1

theorem full_p (k : Fin 768) (r : Fin 1536) : k0_pay11 x.q x.k x.l (ix2 k r) = ptE x k r := by
  pointwise [k0_pay11, k0_pay9, ptE, c2]
  rfl

theorem full_ds (k : Fin 768) (r : Fin 1536) : k0_pay12 x.q x.o x.k x.l x.v x.d (ix2 k r) = dsE x (ptE x k r) k r := by
  rw [← full_p]
  pointwise [k0_pay12, k0_pay10, dsE, c1]

theorem full_dk (p : FVec Ideal S768x1536 .bf16) (k : Fin 768) (d : Fin 256) :
    k0_pay27 (k0_pay9 x.q) p s.dk (ix2 k d) = s.dk (ix2 k d) + ∑ r : Fin 1536, p (ix2 k r) * x.q (ix3 0 r d) := by
  pointwise [k0_pay27, k0_pay9]

theorem full_dv (k : Fin 768) (d : Fin 128) :
    k0_pay13 x.q x.o x.k x.l s.dv (ix2 k d) = s.dv (ix2 k d) + ∑ r : Fin 1536, ptE x k r * x.o (ix2 r d) := by
  simp only [← full_p]
  pointwise [k0_pay13, k0_pay10]

theorem full_dq (p : FVec Ideal S768x1536 .bf16) (w : S1536x256.Idx → EReal) (r : Fin 1536) (d : Fin 256) :
    k0_pay28 p w x.k (ix2 r d) = w (ix2 r d) + ∑ k : Fin 768, p (ix2 k r) * x.k (ix3 0 k d) := by
  pointwise [k0_pay28]

/-- The mask of a tile on the diagonal. -/
theorem sge_iff (a b : ℕ) (ha : a < 1536) (hb : b < 1536) : IntOp.cmpi .sge (BitVec.ofNat 32 a) (BitVec.ofNat 32 b) = 1#1 ↔ b ≤ a := by
  have h : ∀ n : ℕ, n < 1536 → (BitVec.ofNat 32 n).toInt = n := fun n hn => WordArith.toInt_ofNat_small n (by omega)
  simp only [IntOp.cmpi, WordArith.ofBool_eq_one_iff, BitVec.sle_iff_toInt_le, h a ha, h b hb]
  omega

theorem sel_sge (a b : ℕ) (ha : a < 1536) (hb : b < 1536) (u v : EReal) :
    Scalar.select (IntOp.cmpi .sge (BitVec.ofNat 32 a) (BitVec.ofNat 32 b)) u v = if b ≤ a then u else v := by
  exact if_congr (sge_iff a b ha hb) rfl rfl

theorem diag0_p (k : Fin 768) (r : Fin 1536) : k0_pay16 x.q x.k x.l (ix2 k r) = if k.val ≤ r.val then ptE x k r else 0 := by
  rw [← sel_sge r.val k.val r.isLt (by omega)]
  pointwise [k0_pay16, k0_pay14, ptE, c2]
  rfl

theorem diag0_ds (k : Fin 768) (r : Fin 1536) :
    k0_pay17 x.q x.o x.k x.l x.v x.d (ix2 k r) = if k.val ≤ r.val then dsE x (ptE x k r) k r else 0 := by
  have h : k0_pay17 x.q x.o x.k x.l x.v x.d (ix2 k r) = dsE x (k0_pay16 x.q x.k x.l (ix2 k r)) k r := by
    pointwise [k0_pay17, k0_pay15, dsE, c1]
  rw [h, diag0_p]
  split
  · rfl
  · simp only [dsE, zero_mul]

theorem diag0_dk (p : FVec Ideal S768x1536 .bf16) (k : Fin 768) (d : Fin 256) :
    k0_pay2 (k0_pay14 x.q) p s.dk (ix2 k d) = s.dk (ix2 k d) + ∑ r : Fin 1536, p (ix2 k r) * x.q (ix3 0 r d) := by
  pointwise [k0_pay2, k0_pay14]

theorem diag0_dv (k : Fin 768) (d : Fin 128) :
    k0_pay1 (k0_pay18 x.q x.o x.k x.l s.dv) (ix2 k d)
      = s.dv (ix2 k d) + ∑ r : Fin 1536, (if k.val ≤ r.val then ptE x k r else 0) * x.o (ix2 r d) := by
  simp only [← diag0_p]
  pointwise [k0_pay1, k0_pay18, k0_pay15]

theorem diag0_dq (p : FVec Ideal S768x1536 .bf16) (w : S1536x256.Idx → EReal) (r : Fin 1536) (d : Fin 256) :
    k0_pay3 p w x.k (ix2 r d) = w (ix2 r d) + ∑ k : Fin 768, p (ix2 k r) * x.k (ix3 0 k d) := by
  pointwise [k0_pay3]

/-- A row of the lower half of a block of queries. -/
abbrev lo (r : Fin 768) : Fin 1536 := ⟨768 + r.val, by omega⟩

/-- A window read at an index. -/
theorem window_at {α : Type} {s : Shape} (x : s.Idx → α) (off size : Fin s.rank → ℕ) (inb : ∀ a, off a + size a ≤ s.size a)
    (y : (Rect.unit off size inb).shape.Idx) (i : s.Idx) (h : ∀ a, (i a).val = off a + (y a).val) : VecWindow.window x off size inb y = x i :=
  congrArg x (funext fun a => Fin.ext (by
    show off a + 1 * (y a).val = (i a).val
    rw [h a, one_mul]))

theorem loQ_at (r : Fin 768) (d : Fin 256) : loQ x (ix3 0 r d) = x.q (ix3 0 (lo r) d) :=
  window_at x.q _ _ _ _ _ fun a => by fin_cases a <;> first | rfl | exact (zero_add _).symm
theorem loO_at (r : Fin 768) (d : Fin 128) : loO x (ix2 r d) = x.o (ix2 (lo r) d) :=
  window_at x.o _ _ _ _ _ fun a => by fin_cases a <;> first | rfl | exact (zero_add _).symm
theorem loL_at (r : Fin 768) : loL x (ix3 0 0 r) = x.l (ix3 0 0 (lo r)) :=
  window_at x.l _ _ _ _ _ fun a => by fin_cases a <;> first | rfl | exact (zero_add _).symm
theorem loD_at (r : Fin 768) : loD x (ix3 0 0 r) = x.d (ix3 0 0 (lo r)) :=
  window_at x.d _ _ _ _ _ fun a => by fin_cases a <;> first | rfl | exact (zero_add _).symm

theorem diag1_p (k r : Fin 768) : k0_pay21 (loQ x) x.k (loL x) (ix2 k r) = if k.val ≤ r.val then ptE x k (lo r) else 0 := by
  rw [← sel_sge r.val k.val (by omega) (by omega)]
  pointwise [k0_pay21, k0_pay19, ptE, c2]
  simp only [loQ_at, loL_at]
  rfl

theorem diag1_ds (k r : Fin 768) :
    k0_pay22 (loQ x) (loO x) x.k (loL x) x.v (loD x) (ix2 k r) = if k.val ≤ r.val then dsE x (ptE x k (lo r)) k (lo r) else 0 := by
  have h : k0_pay22 (loQ x) (loO x) x.k (loL x) x.v (loD x) (ix2 k r) = dsE x (k0_pay21 (loQ x) x.k (loL x) (ix2 k r)) k (lo r) := by
    pointwise [k0_pay22, k0_pay20, dsE, c1]
    simp only [loO_at, loD_at]
  rw [h, diag1_p]
  split
  · rfl
  · simp only [dsE, zero_mul]

theorem diag1_dk (p : FVec Ideal S768x768 .bf16) (k : Fin 768) (d : Fin 256) :
    k0_pay5 (k0_pay19 (loQ x)) p s.dk (ix2 k d) = s.dk (ix2 k d) + ∑ r : Fin 768, p (ix2 k r) * x.q (ix3 0 (lo r) d) := by
  simp only [← loQ_at]
  pointwise [k0_pay5, k0_pay19]

theorem diag1_dv (k : Fin 768) (d : Fin 128) :
    k0_pay4 (k0_pay23 (loQ x) (loO x) x.k (loL x) s.dv) (ix2 k d)
      = s.dv (ix2 k d) + ∑ r : Fin 768, (if k.val ≤ r.val then ptE x k (lo r) else 0) * x.o (ix2 (lo r) d) := by
  simp only [← diag1_p, ← loO_at]
  pointwise [k0_pay4, k0_pay23, k0_pay20]

theorem diag1_dq (p : FVec Ideal S768x768 .bf16) (w : S768x256.Idx → EReal) (r : Fin 768) (d : Fin 256) :
    k0_pay6 p w x.k (ix2 r d) = w (ix2 r d) + ∑ k : Fin 768, p (ix2 k r) * x.k (ix3 0 k d) := by
  pointwise [k0_pay6]

theorem zero_dq (i : S16896x256.Idx) : k0_pay24 (F := Ideal) i = 0 := by idx_vars i; pointwise [k0_pay24]
theorem zero_dk (i : S768x256.Idx) : k0_pay25 (F := Ideal) i = 0 := by idx_vars i; pointwise [k0_pay25]
theorem zero_dv (i : S768x128.Idx) : k0_pay26 (F := Ideal) i = 0 := by idx_vars i; pointwise [k0_pay26]

end Cert.KernelIdeal.Attn
-- ==== Proof.Step.lean ====
/- One grid point's step over the reals, in one form for the three kinds of tile: every accumulator gains the sum over
   the tile's pairs of a key and a query no earlier than it. -/
module

public import proofs.«01_k».proof.Proof.Pay
public import proofs.«01_k».proof.Proof.Tables

@[expose] public section

set_option maxRecDepth 16384
set_option Elab.async false

noncomputable section

namespace Cert.KernelIdeal.Attn

open Cert.KernelIdeal Cert.KernelIdeal.Gen
open Idealize.ShloMosaic

/-- Pair `p`'s block of queries -/
def iq (p : Fin 132) : ℕ := (lit0 p).toNat
/-- and its block of keys. -/
def jk (p : Fin 132) : ℕ := (lit1 p).toNat

theorem iq_lt : ∀ p, iq p < 11 := by decide +kernel
theorem jk_lt : ∀ p, jk p < 22 := by decide +kernel
theorem jk_le : ∀ p, jk p ≤ 2 * iq p + 1 := by decide +kernel
theorem cond3_iff : ∀ p, k0_cond3 (lit0 p) (lit1 p) = 1#1 ↔ jk p < 2 * iq p := by decide +kernel
theorem cond4_iff : ∀ p, k0_cond4 (lit0 p) (lit1 p) = 1#1 ↔ jk p = 2 * iq p := by decide +kernel
theorem cond5_iff : ∀ p, k0_cond5 (lit0 p) (lit1 p) = 1#1 ↔ jk p = 2 * iq p + 1 := by decide +kernel
theorem off2_eq : ∀ p, k0_off2 (lit0 p) = ![iq p * 1536, 0] := by decide +kernel
theorem off3_eq : ∀ p, k0_off3 (lit0 p) = ![iq p * 1536, 0] := by decide +kernel
theorem off4_eq : ∀ p, k0_off4 (lit0 p) = ![iq p * 1536 + 768, 0] := by decide +kernel

variable (x : Ins Ideal) (s : St Ideal)

/-- A tile's probability with the mask, the blocks `i` of queries and `j` of keys given. -/
def ptM (i j : ℕ) (k : Fin 768) (r : Fin 1536) : EReal := if j * 768 + k.val ≤ i * 1536 + r.val then ptE x k r else 0
/-- The derivative that goes to a score, with the mask. -/
def dsM (i j : ℕ) (k : Fin 768) (r : Fin 1536) : EReal := if j * 768 + k.val ≤ i * 1536 + r.val then dsE x (ptE x k r) k r else 0

/-- A put read inside its window. -/
theorem put_in {α : Type} {s : Shape} (x : s.Idx → α) (off size : Fin s.rank → ℕ) (w : ((a : Fin s.rank) → Fin (size a)) → α)
    (y : s.Idx) (z : (a : Fin s.rank) → Fin (size a)) (h : ∀ a, (y a).val = off a + (z a).val) : VecWindow.put x off size w y = w z := by
  have hh : ∀ a, off a ≤ (y a).val ∧ (y a).val < off a + size a := fun a => by have := h a; have := (z a).isLt; omega
  unfold VecWindow.put
  rw [dif_pos hh]
  exact congrArg w (funext fun a => Fin.ext (by
    show (y a).val - off a = (z a).val
    have := h a; omega))

/-- A put read outside its window. -/
theorem put_out {α : Type} {s : Shape} (x : s.Idx → α) (off size : Fin s.rank → ℕ) (w : ((a : Fin s.rank) → Fin (size a)) → α)
    (y : s.Idx) (a : Fin s.rank) (h : (y a).val < off a ∨ off a + size a ≤ (y a).val) : VecWindow.put x off size w y = x y := by
  unfold VecWindow.put
  rw [dif_neg]
  intro hh
  have := hh a; omega

/-- A sum over the rows of a block of queries whose upper half contributes nothing. -/
theorem sum_lo (f : Fin 1536 → EReal) (g : Fin 768 → EReal) (h0 : ∀ r : Fin 1536, r.val < 768 → f r = 0) (h1 : ∀ r : Fin 768, f (lo r) = g r) :
    ∑ r : Fin 1536, f r = ∑ r : Fin 768, g r := by
  rw [show (∑ r : Fin 1536, f r) = ∑ r : Fin (768 + 768), f r from rfl, Fin.sum_univ_add]
  rw [Finset.sum_eq_zero (fun r _ => h0 (Fin.castAdd 768 r) r.isLt), zero_add]
  exact Finset.sum_congr rfl fun r _ => h1 r

/-- What a step adds to the keys' gradient, -/
def addK (i j : ℕ) (k : Fin 768) (d : Fin 256) : EReal := ∑ r : Fin 1536, dsM x i j k r * x.q (ix3 0 r d)
/-- to the values' -/
def addV (i j : ℕ) (k : Fin 768) (d : Fin 128) : EReal := ∑ r : Fin 1536, ptM x i j k r * x.o (ix2 r d)
/-- and to a row of its block of the queries'. -/
def addQ (i j : ℕ) (r : Fin 1536) (d : Fin 256) : EReal := ∑ k : Fin 768, dsM x i j k r * x.k (ix3 0 k d)

/-- What a state holds after a step that adds. -/
structure Added (i j : ℕ) (s t : St Ideal) : Prop where
  dk : ∀ k d, t.dk (ix2 k d) = s.dk (ix2 k d) + addK x i j k d
  dv : ∀ k d, t.dv (ix2 k d) = s.dv (ix2 k d) + addV x i j k d
  dq : ∀ (r : Fin 1536) (R : Fin 16896) d, R.val = i * 1536 + r.val → t.dq (ix2 R d) = s.dq (ix2 R d) + addQ x i j r d
  other : ∀ (R : Fin 16896) d, R.val / 1536 ≠ i → t.dq (ix2 R d) = s.dq (ix2 R d)

theorem added_full (p : Fin 132) (hw : k0_chk1 (lit0 p) (lit1 p)) (h : jk p < 2 * iq p) :
    Added x (iq p) (jk p) s (stFull x s (lit0 p) (lit1 p) hw) := by
  have hc := (cond3_iff p).2 h
  have hm : ∀ (k : Fin 768) (r : Fin 1536), jk p * 768 + k.val ≤ iq p * 1536 + r.val := fun k r => by have := k.isLt; omega
  have hds : ∀ k r, dsM x (iq p) (jk p) k r = k0_pay12 x.q x.o x.k x.l x.v x.d (ix2 k r) := fun k r => by
    rw [full_ds, dsM, if_pos (hm k r)]
  have hpt : ∀ k r, ptM x (iq p) (jk p) k r = ptE x k r := fun k r => by rw [ptM, if_pos (hm k r)]
  unfold stFull
  rw [dif_pos hc]
  refine ⟨fun k d => ?_, fun k d => ?_, fun r R d hR => ?_, fun R d hR => ?_⟩
  · simp only [addK, hds]; exact full_dk x s _ k d
  · simp only [addV, hpt]; exact full_dv x s k d
  · simp only [addQ, hds]
    have e : ∀ a : Fin 2, (ix2 R d a).val = k0_off2 (lit0 p) a + (ix2 r d a).val := fun a => by
      rw [off2_eq p]; fin_cases a
      · exact hR
      · exact (zero_add _).symm
    exact (put_in (s := S16896x256) s.dq (k0_off2 (lit0 p)) S1536x256.size _ (ix2 R d) (ix2 r d) e).trans
      ((full_dq x _ _ r d).trans (congrArg (· + _) (window_at (s := S16896x256) s.dq _ _ _ _ (ix2 R d) e)))
  · refine put_out (s := S16896x256) s.dq (k0_off2 (lit0 p)) S1536x256.size _ (ix2 R d) 0 ?_
    rw [off2_eq p]
    show R.val < iq p * 1536 ∨ iq p * 1536 + 1536 ≤ R.val
    omega

theorem added_diag0 (p : Fin 132) (hw : k0_chk1 (lit0 p) (lit1 p)) (h : jk p = 2 * iq p) :
    Added x (iq p) (jk p) s (stDiag0 x s (lit0 p) (lit1 p) hw) := by
  have hc := (cond4_iff p).2 h
  have hm : ∀ (k : Fin 768) (r : Fin 1536), (jk p * 768 + k.val ≤ iq p * 1536 + r.val) ↔ k.val ≤ r.val := fun k r => by omega
  have hds : ∀ k r, dsM x (iq p) (jk p) k r = k0_pay17 x.q x.o x.k x.l x.v x.d (ix2 k r) := fun k r => by
    rw [diag0_ds]; exact if_congr (hm k r) rfl rfl
  have hpt : ∀ k r, ptM x (iq p) (jk p) k r = if k.val ≤ r.val then ptE x k r else 0 := fun k r => if_congr (hm k r) rfl rfl
  unfold stDiag0
  rw [dif_pos hc]
  refine ⟨fun k d => ?_, fun k d => ?_, fun r R d hR => ?_, fun R d hR => ?_⟩
  · simp only [addK, hds]; exact diag0_dk x s _ k d
  · simp only [addV, hpt]; exact diag0_dv x s k d
  · simp only [addQ, hds]
    have e : ∀ a : Fin 2, (ix2 R d a).val = k0_off3 (lit0 p) a + (ix2 r d a).val := fun a => by
      rw [off3_eq p]; fin_cases a
      · exact hR
      · exact (zero_add _).symm
    exact (put_in (s := S16896x256) s.dq (k0_off3 (lit0 p)) S1536x256.size _ (ix2 R d) (ix2 r d) e).trans
      ((diag0_dq x _ _ r d).trans (congrArg (· + _) (window_at (s := S16896x256) s.dq _ _ _ _ (ix2 R d) e)))
  · refine put_out (s := S16896x256) s.dq (k0_off3 (lit0 p)) S1536x256.size _ (ix2 R d) 0 ?_
    rw [off3_eq p]
    show R.val < iq p * 1536 ∨ iq p * 1536 + 1536 ≤ R.val
    omega

theorem added_diag1 (p : Fin 132) (hw : k0_chk1 (lit0 p) (lit1 p)) (h : jk p = 2 * iq p + 1) :
    Added x (iq p) (jk p) s (stDiag1 x s (lit0 p) (lit1 p) hw) := by
  have hc := (cond5_iff p).2 h
  have hm : ∀ (k r : Fin 768), (jk p * 768 + k.val ≤ iq p * 1536 + (lo r).val) ↔ k.val ≤ r.val := fun k r => by
    show (_ ≤ _ + (768 + r.val)) ↔ _
    omega
  have hn : ∀ (k : Fin 768) (r : Fin 1536), r.val < 768 → ¬ (jk p * 768 + k.val ≤ iq p * 1536 + r.val) := fun k r hr => by omega
  have hds : ∀ k r, dsM x (iq p) (jk p) k (lo r) = k0_pay22 (loQ x) (loO x) x.k (loL x) x.v (loD x) (ix2 k r) := fun k r => by
    rw [diag1_ds]; exact if_congr (hm k r) rfl rfl
  have hpt : ∀ k r, ptM x (iq p) (jk p) k (lo r) = if k.val ≤ r.val then ptE x k (lo r) else 0 := fun k r => if_congr (hm k r) rfl rfl
  unfold stDiag1
  rw [dif_pos hc]
  refine ⟨fun k d => ?_, fun k d => ?_, fun r R d hR => ?_, fun R d hR => ?_⟩
  · refine (diag1_dk x s _ k d).trans (congrArg (s.dk (ix2 k d) + ·) (sum_lo _ _ (fun r hr => ?_) fun r => ?_).symm)
    · rw [dsM, if_neg (hn k r hr), zero_mul]
    · rw [hds]
  · refine (diag1_dv x s k d).trans (congrArg (s.dv (ix2 k d) + ·) (sum_lo _ _ (fun r hr => ?_) fun r => ?_).symm)
    · rw [ptM, if_neg (hn k r hr), zero_mul]
    · rw [hpt]
  · have e := off4_eq p
    rcases lt_or_ge r.val 768 with hr | hr
    · have h0 : addQ x (iq p) (jk p) r d = 0 := Finset.sum_eq_zero fun k _ => by rw [dsM, if_neg (hn k r hr), zero_mul]
      rw [h0, add_zero]
      refine put_out (s := S16896x256) s.dq (k0_off4 (lit0 p)) S768x256.size _ (ix2 R d) 0 ?_
      rw [e]
      show R.val < iq p * 1536 + 768 ∨ iq p * 1536 + 768 + 768 ≤ R.val
      omega
    · obtain ⟨q, rfl⟩ : ∃ q : Fin 768, r = lo q := ⟨⟨r.val - 768, by omega⟩, Fin.ext (by show r.val = 768 + (r.val - 768); omega)⟩
      have e' : ∀ a : Fin 2, (ix2 R d a).val = k0_off4 (lit0 p) a + (ix2 q d a).val := fun a => by
        rw [e]; fin_cases a
        · have h0 : R.val = iq p * 1536 + (768 + q.val) := hR
          show R.val = iq p * 1536 + 768 + q.val
          omega
        · exact (zero_add _).symm
      have hq : addQ x (iq p) (jk p) (lo q) d = ∑ k : Fin 768, k0_pay22 (loQ x) (loO x) x.k (loL x) x.v (loD x) (ix2 k q) * x.k (ix3 0 k d) :=
        Finset.sum_congr rfl fun k _ => by rw [hds]
      rw [hq]
      exact (put_in (s := S16896x256) s.dq (k0_off4 (lit0 p)) S768x256.size _ (ix2 R d) (ix2 q d) e').trans
        ((diag1_dq x _ _ _ d).trans (congrArg (· + _) (window_at (s := S16896x256) s.dq _ _ _ _ (ix2 R d) e')))
  · refine put_out (s := S16896x256) s.dq (k0_off4 (lit0 p)) S768x256.size _ (ix2 R d) 0 ?_
    rw [off4_eq p]
    show R.val < iq p * 1536 + 768 ∨ iq p * 1536 + 768 + 768 ≤ R.val
    omega

/-- A whole step adds its tile to the state that the resets leave. -/
theorem added_step (i : grid0.Coords) :
    Added x (iq (i 1)) (jk (i 1)) (stInit (stZero s i) (wq i) (wk i)) (stStep x s i (wq i) (wk i) (chk i)) := by
  have key : ∀ (p : Fin 132) (s0 : St Ideal) (hw : k0_chk1 (lit0 p) (lit1 p)),
      Added x (iq p) (jk p) s0 (stDiag1 x (stDiag0 x (stFull x s0 (lit0 p) (lit1 p) hw) (lit0 p) (lit1 p) hw) (lit0 p) (lit1 p) hw) := by
    intro p s0 hw
    have f3 : ¬ jk p < 2 * iq p → ∀ s, stFull x s (lit0 p) (lit1 p) hw = s := fun h s => dif_neg (mt (cond3_iff p).1 h)
    have f4 : ¬ jk p = 2 * iq p → ∀ s, stDiag0 x s (lit0 p) (lit1 p) hw = s := fun h s => dif_neg (mt (cond4_iff p).1 h)
    have f5 : ¬ jk p = 2 * iq p + 1 → ∀ s, stDiag1 x s (lit0 p) (lit1 p) hw = s := fun h s => dif_neg (mt (cond5_iff p).1 h)
    have hle := jk_le p
    rcases Nat.lt_trichotomy (jk p) (2 * iq p) with h | h | h
    · rw [f5 (by omega), f4 (by omega)]; exact added_full x s0 p hw h
    · rw [f5 (by omega), f3 (by omega)]; exact added_diag0 x s0 p hw h
    · rw [f4 (by omega), f3 (by omega)]; exact added_diag1 x s0 p hw (by omega)
  exact key (i 1) _ (chk i)

end Cert.KernelIdeal.Attn
-- ==== Proof.Comb.lean ====
/- Sums over the pairs of a block of queries and a block of keys, in the order the grid takes them, as sums over the
   blocks and then over the rows. -/
module

public import proofs.«01_k».proof.Proof.Step
public import Idealize.ShloMosaic.Lib.Pipeline.ValueKit.Acc

@[expose] public section

set_option maxRecDepth 16384
set_option Elab.async false

noncomputable section

namespace Cert.KernelIdeal.Attn

open Cert.KernelIdeal Cert.KernelIdeal.Gen
open Idealize.ShloMosaic

/-! ## The order of the pairs -/

theorem first_new : ∀ p : Fin 132, cond2 (lit0 p) (lit1 p) = 1#1 → ∀ q : Fin 132, q.val < p.val → jk q ≠ jk p := by decide +kernel
theorem first_old : ∀ p : Fin 132, cond2 (lit0 p) (lit1 p) ≠ 1#1 → ∃ h : 0 < p.val, jk ⟨p.val - 1, by omega⟩ = jk p := by decide +kernel
theorem last_done : ∀ p : Fin 132, k0_cond6 (lit0 p) = 1#1 → ∀ q : Fin 132, p.val < q.val → jk q ≠ jk p := by decide +kernel
theorem pairs_once : ∀ (i : Fin 11) (j : Fin 22), (Finset.univ.filter fun p : Fin 132 => iq p = i.val ∧ jk p = j.val).card = if j.val ≤ 2 * i.val + 1 then 1 else 0 := by
  decide +kernel

/-- A sum over the pairs whose block of keys is `j` is one over the blocks of queries that reach it. -/
theorem sum_col (j : Fin 22) (G : Fin 11 → EReal) :
    (∑ p : Fin 132, if jk p = j.val then G ⟨iq p, iq_lt p⟩ else 0) = ∑ i : Fin 11, if j.val ≤ 2 * i.val + 1 then G i else 0 := by
  have e : ∀ p : Fin 132, (if jk p = j.val then G ⟨iq p, iq_lt p⟩ else 0) = ∑ i : Fin 11, if iq p = i.val ∧ jk p = j.val then G i else 0 := fun p => by
    rw [Finset.sum_eq_single (⟨iq p, iq_lt p⟩ : Fin 11) (fun i _ hi => if_neg fun h => hi (Fin.ext h.1.symm)) (fun h => absurd (Finset.mem_univ _) h)]
    exact if_congr (by simp) rfl rfl
  rw [Finset.sum_congr rfl fun p _ => e p, Finset.sum_comm]
  refine Finset.sum_congr rfl fun i _ => ?_
  rw [← Finset.sum_filter, Finset.sum_const, pairs_once i j]
  split <;> simp

/-- A sum over the pairs whose block of queries is `i` is one over the blocks of keys that it reaches. -/
theorem sum_row (i : Fin 11) (G : Fin 22 → EReal) :
    (∑ p : Fin 132, if iq p = i.val then G ⟨jk p, jk_lt p⟩ else 0) = ∑ j : Fin 22, if j.val ≤ 2 * i.val + 1 then G j else 0 := by
  have e : ∀ p : Fin 132, (if iq p = i.val then G ⟨jk p, jk_lt p⟩ else 0) = ∑ j : Fin 22, if iq p = i.val ∧ jk p = j.val then G j else 0 := fun p => by
    rw [Finset.sum_eq_single (⟨jk p, jk_lt p⟩ : Fin 22) (fun j _ hj => if_neg fun h => hj (Fin.ext h.2.symm)) (fun h => absurd (Finset.mem_univ _) h)]
    exact if_congr (by simp) rfl rfl
  rw [Finset.sum_congr rfl fun p _ => e p, Finset.sum_comm]
  refine Finset.sum_congr rfl fun j _ => ?_
  rw [← Finset.sum_filter, Finset.sum_const, pairs_once i j]
  split <;> simp

/-- A sum up to a pair is the sum before it and, if it counts, its own term. -/
theorem sum_upto (m : Fin 132) (C : Fin 132 → Prop) [DecidablePred C] (f : Fin 132 → EReal) :
    (∑ p : Fin 132, if p.val ≤ m.val ∧ C p then f p else 0) = (∑ p : Fin 132, if p.val < m.val ∧ C p then f p else 0) + if C m then f m else 0 := by
  have e : ∀ p : Fin 132, (if p.val ≤ m.val ∧ C p then f p else 0) = (if p.val < m.val ∧ C p then f p else 0) + if p = m then (if C p then f p else 0) else 0 := fun p => by
    by_cases hc : C p
    · rcases Nat.lt_trichotomy p.val m.val with h | h | h
      · rw [if_pos ⟨h.le, hc⟩, if_pos ⟨h, hc⟩, if_neg (fun e => by rw [e] at h; omega), add_zero]
      · rw [if_pos ⟨h.le, hc⟩, if_neg (fun e => by omega), if_pos (Fin.ext h), if_pos hc, zero_add]
      · rw [if_neg (fun e => by omega), if_neg (fun e => by omega), if_neg (fun e => by rw [e] at h; omega), add_zero]
    · rw [if_neg (fun h => hc h.2), if_neg (fun h => hc h.2), if_neg hc, zero_add]; split <;> rfl
  rw [Finset.sum_congr rfl fun p _ => e p, Finset.sum_add_distrib, Finset.sum_ite_eq' Finset.univ m, if_pos (Finset.mem_univ m)]

/-! ## Rows and blocks -/

/-- Row `r` of block `i` of queries, -/
def rrow (i : Fin 11) (r : Fin 1536) : Fin 16896 := ⟨i.val * 1536 + r.val, by omega⟩
/-- and row `k` of block `j` of keys. -/
def krow (j : Fin 22) (k : Fin 768) : Fin 16896 := ⟨j.val * 768 + k.val, by omega⟩

theorem sum_rrow (f : Fin 16896 → EReal) : (∑ i : Fin 11, ∑ r : Fin 1536, f (rrow i r)) = ∑ R : Fin 16896, f R := by
  have h := Fin.sum_univ_univ_mul_add 11 1536 fun n => if h : n < 16896 then f ⟨n, h⟩ else 0
  refine Eq.trans (Finset.sum_congr rfl fun i _ => Finset.sum_congr rfl fun r _ => ?_) (h.trans (Finset.sum_congr rfl fun R _ => ?_))
  · rw [dif_pos (show i.val * 1536 + r.val < 16896 by omega)]; rfl
  · exact dif_pos R.isLt

theorem sum_krow (f : Fin 16896 → EReal) : (∑ j : Fin 22, ∑ k : Fin 768, f (krow j k)) = ∑ K : Fin 16896, f K := by
  have h := Fin.sum_univ_univ_mul_add 22 768 fun n => if h : n < 16896 then f ⟨n, h⟩ else 0
  refine Eq.trans (Finset.sum_congr rfl fun i _ => Finset.sum_congr rfl fun r _ => ?_) (h.trans (Finset.sum_congr rfl fun R _ => ?_))
  · rw [dif_pos (show i.val * 768 + r.val < 16896 by omega)]; rfl
  · exact dif_pos R.isLt

/-- Over a block of keys' pairs, a summand that vanishes before the key sums over every row. -/
theorem sum_col_rows (j : Fin 22) (k : Fin 768) (f : Fin 16896 → EReal) (h0 : ∀ R : Fin 16896, R.val < (krow j k).val → f R = 0) :
    (∑ p : Fin 132, if jk p = j.val then ∑ r : Fin 1536, f (rrow ⟨iq p, iq_lt p⟩ r) else 0) = ∑ R : Fin 16896, f R := by
  rw [sum_col j fun i => ∑ r : Fin 1536, f (rrow i r), ← sum_rrow f]
  refine Finset.sum_congr rfl fun i _ => ?_
  split
  · rfl
  · next h =>
    exact (Finset.sum_eq_zero fun r _ => h0 _ (by show i.val * 1536 + r.val < j.val * 768 + k.val; omega)).symm

/-- Over a block of queries' pairs, a summand that vanishes after the query sums over every row. -/
theorem sum_row_rows (i : Fin 11) (r : Fin 1536) (f : Fin 16896 → EReal) (h0 : ∀ K : Fin 16896, (rrow i r).val < K.val → f K = 0) :
    (∑ p : Fin 132, if iq p = i.val then ∑ k : Fin 768, f (krow ⟨jk p, jk_lt p⟩ k) else 0) = ∑ K : Fin 16896, f K := by
  rw [sum_row i fun j => ∑ k : Fin 768, f (krow j k), ← sum_krow f]
  refine Finset.sum_congr rfl fun j _ => ?_
  split
  · rfl
  · next h =>
    exact (Finset.sum_eq_zero fun k _ => h0 _ (by show i.val * 1536 + r.val < j.val * 768 + k.val; omega)).symm

end Cert.KernelIdeal.Attn
-- ==== Proof.Traj.lean ====
/- What the scratch buffers hold after each grid point, over the reals: sums over the pairs taken so far. -/
module

public import proofs.«01_k».proof.Proof.Comb
public import proofs.«01_k».proof.Proof.Frame

@[expose] public section

set_option maxRecDepth 16384
set_option Elab.async false

noncomputable section

namespace Cert.KernelIdeal.Attn

open Cert.KernelIdeal Cert.KernelIdeal.Gen
open Idealize.ShloMosaic Idealize.ShloMosaic.TcCoe

variable (V₀ : Dev nD → Valuation τ sig (Elt Ideal)) (c : Dev nD)

/-- The arrays that the call reads: keys, -/
def aK : S8x16896x256.Idx → EReal := V₀ c (Proc.devRef .tc main_v19)
/-- values, -/
def aV : S8x16896x128.Idx → EReal := V₀ c (Proc.devRef .tc main_v21)
/-- queries, -/
def aQ : S8x16896x256.Idx → EReal := V₀ c (Proc.devRef .tc main_v17)
/-- the output's cotangents, -/
def aO : S16896x2048.Idx → EReal := V₀ c (Proc.devRef .tc main_v60)
/-- the log-sums -/
def aL : S8x1x16896.Idx → EReal := V₀ c (Proc.devRef .tc main_v56)
/-- and the sums of products. -/
def aD : S8x1x16896.Idx → EReal := V₀ c (Proc.devRef .tc main_v58)

/-- Point `(h, p)` of the grid. -/
def pt (h : Fin 8) (p : Fin 132) : Fin (cfgA (F := Ideal)).N := ⟨h.val * 132 + p.val, by
  have : (cfgA (F := Ideal)).N = 1056 := by decide +kernel
  rw [this]; omega⟩

theorem crd_pt0 (h : Fin 8) (p : Fin 132) : (crd (F := Ideal) (pt h p) 0).val = h.val := by
  rw [show crd (F := Ideal) (pt h p) = grid0.coords (pt h p) from rfl, coords0]
  show (h.val * 132 + p.val) / 132 = h.val
  omega
theorem crd_pt1 (h : Fin 8) (p : Fin 132) : crd (F := Ideal) (pt h p) 1 = p := Fin.ext (by
  rw [show crd (F := Ideal) (pt h p) = grid0.coords (pt h p) from rfl]
  refine (coords1 _).trans ?_
  show (h.val * 132 + p.val) % 132 = p.val
  omega)
theorem wq_pt (h : Fin 8) (p : Fin 132) : wq (crd (F := Ideal) (pt h p)) = lit0 p := congrArg lit0 (crd_pt1 h p)
theorem wk_pt (h : Fin 8) (p : Fin 132) : wk (crd (F := Ideal) (pt h p)) = lit1 p := congrArg lit1 (crd_pt1 h p)

/-- Pair `p`'s rows of queries -/
def rw' (p : Fin 132) (r : Fin 1536) : Fin 16896 := rrow ⟨iq p, iq_lt p⟩ r
/-- and of keys. -/
def kw' (p : Fin 132) (k : Fin 768) : Fin 16896 := krow ⟨jk p, jk_lt p⟩ k

/-- A head's columns of the cotangents. -/
def ocol (h : Fin 8) (d : Fin 128) : Fin 2048 := ⟨h.val * 128 + d.val, by omega⟩

theorem ins_k (h : Fin 8) (p : Fin 132) (k : Fin 768) (d : Fin 256) : (ins V₀ c (pt h p)).k (ix3 0 k d) = aK V₀ c (ix3 h (kw' p k) d) := by
  refine congrArg (aK V₀ c) (funext fun a => Fin.ext ?_)
  refine (Pipeline.Window.rect_emb_val ((cfgA (F := Ideal)).win (0 : Fin 8)) (pt h p) (ix3 0 k d) a).trans ?_
  have e := tr0 (F := Ideal) (crd (F := Ideal) (pt h p))
  fin_cases a
  · exact (congrArg (· * 1 + 0) ((e 0).trans (crd_pt0 h p))).trans (by show h.val * 1 + 0 = h.val; omega)
  · exact congrArg (· * 768 + k.val) ((e 1).trans (congrArg BitVec.toNat (wk_pt h p)))
  · exact (congrArg (· * 256 + d.val) (e 2)).trans (by show 0 * 256 + d.val = d.val; omega)

theorem ins_v (h : Fin 8) (p : Fin 132) (k : Fin 768) (d : Fin 128) : (ins V₀ c (pt h p)).v (ix3 0 k d) = aV V₀ c (ix3 h (kw' p k) d) := by
  refine congrArg (aV V₀ c) (funext fun a => Fin.ext ?_)
  refine (Pipeline.Window.rect_emb_val ((cfgA (F := Ideal)).win (1 : Fin 8)) (pt h p) (ix3 0 k d) a).trans ?_
  have e := tr1 (F := Ideal) (crd (F := Ideal) (pt h p))
  fin_cases a
  · exact (congrArg (· * 1 + 0) ((e 0).trans (crd_pt0 h p))).trans (by show h.val * 1 + 0 = h.val; omega)
  · exact congrArg (· * 768 + k.val) ((e 1).trans (congrArg BitVec.toNat (wk_pt h p)))
  · exact (congrArg (· * 128 + d.val) (e 2)).trans (by show 0 * 128 + d.val = d.val; omega)

theorem ins_q (h : Fin 8) (p : Fin 132) (r : Fin 1536) (d : Fin 256) : (ins V₀ c (pt h p)).q (ix3 0 r d) = aQ V₀ c (ix3 h (rw' p r) d) := by
  refine congrArg (aQ V₀ c) (funext fun a => Fin.ext ?_)
  refine (Pipeline.Window.rect_emb_val ((cfgA (F := Ideal)).win (2 : Fin 8)) (pt h p) (ix3 0 r d) a).trans ?_
  have e := tr2 (F := Ideal) (crd (F := Ideal) (pt h p))
  fin_cases a
  · exact (congrArg (· * 1 + 0) ((e 0).trans (crd_pt0 h p))).trans (by show h.val * 1 + 0 = h.val; omega)
  · exact congrArg (· * 1536 + r.val) ((e 1).trans (congrArg BitVec.toNat (wq_pt h p)))
  · exact (congrArg (· * 256 + d.val) (e 2)).trans (by show 0 * 256 + d.val = d.val; omega)

theorem ins_o (h : Fin 8) (p : Fin 132) (r : Fin 1536) (d : Fin 128) : (ins V₀ c (pt h p)).o (ix2 r d) = aO V₀ c (ix2 (rw' p r) (ocol h d)) := by
  refine congrArg (aO V₀ c) (funext fun a => Fin.ext ?_)
  refine (Pipeline.Window.rect_emb_val ((cfgA (F := Ideal)).win (3 : Fin 8)) (pt h p) (ix2 r d) a).trans ?_
  have e := tr3 (F := Ideal) (crd (F := Ideal) (pt h p))
  fin_cases a
  · exact congrArg (· * 1536 + r.val) ((e 0).trans (congrArg BitVec.toNat (wq_pt h p)))
  · exact congrArg (· * 128 + d.val) ((e 1).trans (crd_pt0 h p))

theorem ins_l (h : Fin 8) (p : Fin 132) (r : Fin 1536) : (ins V₀ c (pt h p)).l (ix3 0 0 r) = aL V₀ c (ix3 h 0 (rw' p r)) := by
  refine congrArg (aL V₀ c) (funext fun a => Fin.ext ?_)
  refine (Pipeline.Window.rect_emb_val ((cfgA (F := Ideal)).win (4 : Fin 8)) (pt h p) (ix3 0 0 r) a).trans ?_
  have e := tr4 (F := Ideal) (crd (F := Ideal) (pt h p))
  fin_cases a
  · exact (congrArg (· * 1 + 0) ((e 0).trans (crd_pt0 h p))).trans (by show h.val * 1 + 0 = h.val; omega)
  · exact (congrArg (· * 1 + 0) (e 1)).trans rfl
  · exact congrArg (· * 1536 + r.val) ((e 2).trans (congrArg BitVec.toNat (wq_pt h p)))

theorem ins_d (h : Fin 8) (p : Fin 132) (r : Fin 1536) : (ins V₀ c (pt h p)).d (ix3 0 0 r) = aD V₀ c (ix3 h 0 (rw' p r)) := by
  refine congrArg (aD V₀ c) (funext fun a => Fin.ext ?_)
  refine (Pipeline.Window.rect_emb_val ((cfgA (F := Ideal)).win (5 : Fin 8)) (pt h p) (ix3 0 0 r) a).trans ?_
  have e := tr5 (F := Ideal) (crd (F := Ideal) (pt h p))
  fin_cases a
  · exact (congrArg (· * 1 + 0) ((e 0).trans (crd_pt0 h p))).trans (by show h.val * 1 + 0 = h.val; omega)
  · exact (congrArg (· * 1 + 0) (e 1)).trans rfl
  · exact congrArg (· * 1536 + r.val) ((e 2).trans (congrArg BitVec.toNat (wq_pt h p)))

/-! ## The tile's numbers over the whole arrays -/

/-- The probability of key `K` at query `R` in head `h`, -/
def PT (h : Fin 8) (R K : Fin 16896) : EReal :=
  Ideal.exp2 ((∑ d : Fin 256, aK V₀ c (ix3 h K d) * aQ V₀ c (ix3 h R d)) * c2 - aL V₀ c (ix3 h 0 R))
/-- the derivative that goes to its score, -/
def DS (h : Fin 8) (R K : Fin 16896) : EReal :=
  PT V₀ c h R K * ((∑ d : Fin 128, aV V₀ c (ix3 h K d) * aO V₀ c (ix2 R (ocol h d))) - aD V₀ c (ix3 h 0 R)) * c1
/-- and both where the key is no later than the query, zero elsewhere. -/
def PTm (h : Fin 8) (R K : Fin 16896) : EReal := if K.val ≤ R.val then PT V₀ c h R K else 0
/-- The derivative under the mask. -/
def DSm (h : Fin 8) (R K : Fin 16896) : EReal := if K.val ≤ R.val then DS V₀ c h R K else 0

theorem ptE_pt (h : Fin 8) (p : Fin 132) (k : Fin 768) (r : Fin 1536) : ptE (ins V₀ c (pt h p)) k r = PT V₀ c h (rw' p r) (kw' p k) := by
  simp only [ptE, PT, ins_k, ins_q, ins_l]
theorem ptM_pt (h : Fin 8) (p : Fin 132) (k : Fin 768) (r : Fin 1536) : ptM (ins V₀ c (pt h p)) (iq p) (jk p) k r = PTm V₀ c h (rw' p r) (kw' p k) :=
  if_congr Iff.rfl (ptE_pt V₀ c h p k r) rfl
theorem dsM_pt (h : Fin 8) (p : Fin 132) (k : Fin 768) (r : Fin 1536) : dsM (ins V₀ c (pt h p)) (iq p) (jk p) k r = DSm V₀ c h (rw' p r) (kw' p k) :=
  if_congr Iff.rfl (by simp only [dsE, DS, ptE_pt, ins_v, ins_o, ins_d]) rfl

/-- What pair `p` adds to the keys' gradient, -/
def tK (h : Fin 8) (p : Fin 132) (k : Fin 768) (d : Fin 256) : EReal := ∑ r : Fin 1536, DSm V₀ c h (rw' p r) (kw' p k) * aQ V₀ c (ix3 h (rw' p r) d)
/-- to the values' -/
def tV (h : Fin 8) (p : Fin 132) (k : Fin 768) (d : Fin 128) : EReal := ∑ r : Fin 1536, PTm V₀ c h (rw' p r) (kw' p k) * aO V₀ c (ix2 (rw' p r) (ocol h d))
/-- and to a row of the queries'. -/
def tQ (h : Fin 8) (p : Fin 132) (R : Fin 16896) (d : Fin 256) : EReal := ∑ k : Fin 768, DSm V₀ c h R (kw' p k) * aK V₀ c (ix3 h (kw' p k) d)

/-- The scratch buffers after pair `m` of head `h`. -/
structure Inv (h : Fin 8) (m : Fin 132) (s : St Ideal) : Prop where
  dk : ∀ k d, s.dk (ix2 k d) = ∑ p : Fin 132, if p.val ≤ m.val ∧ jk p = jk m then tK V₀ c h p k d else 0
  dv : ∀ k d, s.dv (ix2 k d) = ∑ p : Fin 132, if p.val ≤ m.val ∧ jk p = jk m then tV V₀ c h p k d else 0
  dq : ∀ R d, s.dq (ix2 R d) = ∑ p : Fin 132, if p.val ≤ m.val ∧ iq p = R.val / 1536 then tQ V₀ c h p R d else 0

theorem cond1_iff : ∀ p : Fin 132, Scalar.cmpi .ne (Scalar.extui (Scalar.cmpi .eq (BitVec.ofNat 32 p.val) 0#32)) 0#32 = 1#1 ↔ p.val = 0 := by decide +kernel

theorem cond1_pt (h : Fin 8) (p : Fin 132) : cond1 (crd (F := Ideal) (pt h p)) = 1#1 ↔ p.val = 0 := by
  unfold cond1
  rw [crd_pt1]
  exact cond1_iff p

/-- One step: from what the head's pairs before `m` left (nothing, at the first) to what they and `m` leave. -/
theorem inv_step (h : Fin 8) (m : Fin 132) (s : St Ideal) (hs : m.val ≠ 0 → ∃ hm : 0 < m.val, Inv V₀ c h ⟨m.val - 1, by omega⟩ s) :
    Inv V₀ c h m (stepAt V₀ c (pt h m) s) := by
  have A := added_step (ins V₀ c (pt h m)) s (crd (F := Ideal) (pt h m))
  have hT : stepAt V₀ c (pt h m) s = stStep (ins V₀ c (pt h m)) s (crd (F := Ideal) (pt h m)) (wq (crd (F := Ideal) (pt h m))) (wk (crd (F := Ideal) (pt h m))) (chk (crd (F := Ideal) (pt h m))) := rfl
  rw [← hT, crd_pt1, wq_pt, wk_pt] at A
  have hK : ∀ k d, addK (ins V₀ c (pt h m)) (iq m) (jk m) k d = tK V₀ c h m k d := fun k d =>
    Finset.sum_congr rfl fun r _ => by rw [dsM_pt, ins_q]
  have hV : ∀ k d, addV (ins V₀ c (pt h m)) (iq m) (jk m) k d = tV V₀ c h m k d := fun k d =>
    Finset.sum_congr rfl fun r _ => by rw [ptM_pt, ins_o]
  have hQ : ∀ r d, addQ (ins V₀ c (pt h m)) (iq m) (jk m) r d = tQ V₀ c h m (rw' m r) d := fun r d =>
    Finset.sum_congr rfl fun k _ => by rw [dsM_pt, ins_k]
  -- the sums before this pair
  have Bk : ∀ f : Fin 132 → EReal, cond2 (lit0 m) (lit1 m) = 1#1 → (∑ p : Fin 132, if p.val < m.val ∧ jk p = jk m then f p else 0) = 0 := fun f hc =>
    Finset.sum_eq_zero fun p _ => if_neg fun hp => first_new m hc p hp.1 hp.2
  have s0k : ∀ k d, (stInit (stZero s (crd (F := Ideal) (pt h m))) (lit0 m) (lit1 m)).dk (ix2 k d) = ∑ p : Fin 132, if p.val < m.val ∧ jk p = jk m then tK V₀ c h p k d else 0 := by
    intro k d
    unfold stInit
    split
    · next hc => rw [Bk _ hc]; exact zero_dk (ix2 k d)
    · next hc =>
      obtain ⟨h0, hj⟩ := first_old m hc
      obtain ⟨_, I⟩ := hs (by omega)
      have e : (stZero s (crd (F := Ideal) (pt h m))).dk = s.dk := by unfold stZero; split <;> rfl
      rw [e, I.dk k d, hj]
      exact Finset.sum_congr rfl fun p _ => if_congr (and_congr_left fun _ => by show p.val ≤ m.val - 1 ↔ _; omega) rfl rfl
  have s0v : ∀ k d, (stInit (stZero s (crd (F := Ideal) (pt h m))) (lit0 m) (lit1 m)).dv (ix2 k d) = ∑ p : Fin 132, if p.val < m.val ∧ jk p = jk m then tV V₀ c h p k d else 0 := by
    intro k d
    unfold stInit
    split
    · next hc => rw [Bk _ hc]; exact zero_dv (ix2 k d)
    · next hc =>
      obtain ⟨h0, hj⟩ := first_old m hc
      obtain ⟨_, I⟩ := hs (by omega)
      have e : (stZero s (crd (F := Ideal) (pt h m))).dv = s.dv := by unfold stZero; split <;> rfl
      rw [e, I.dv k d, hj]
      exact Finset.sum_congr rfl fun p _ => if_congr (and_congr_left fun _ => by show p.val ≤ m.val - 1 ↔ _; omega) rfl rfl
  have s0q : ∀ R d, (stInit (stZero s (crd (F := Ideal) (pt h m))) (lit0 m) (lit1 m)).dq (ix2 R d) = ∑ p : Fin 132, if p.val < m.val ∧ iq p = R.val / 1536 then tQ V₀ c h p R d else 0 := by
    intro R d
    have e : (stInit (stZero s (crd (F := Ideal) (pt h m))) (lit0 m) (lit1 m)).dq = (stZero s (crd (F := Ideal) (pt h m))).dq := by unfold stInit; split <;> rfl
    rw [e]
    unfold stZero
    split
    · next hc =>
      have h0 := (cond1_pt h m).1 hc
      refine (zero_dq (ix2 R d)).trans (Finset.sum_eq_zero fun p _ => if_neg fun hp => ?_).symm
      omega
    · next hc =>
      have h0 := mt (cond1_pt h m).2 hc
      obtain ⟨_, I⟩ := hs h0
      rw [I.dq R d]
      exact Finset.sum_congr rfl fun p _ => if_congr (and_congr_left fun _ => by show p.val ≤ m.val - 1 ↔ _; omega) rfl rfl
  refine ⟨fun k d => ?_, fun k d => ?_, fun R d => ?_⟩
  · rw [sum_upto m (fun p => jk p = jk m), if_pos rfl, ← s0k, ← hK]
    exact A.dk k d
  · rw [sum_upto m (fun p => jk p = jk m), if_pos rfl, ← s0v, ← hV]
    exact A.dv k d
  · rw [sum_upto m (fun p => iq p = R.val / 1536), ← s0q]
    by_cases hR : iq m = R.val / 1536
    · have e : R = rw' m ⟨R.val % 1536, Nat.mod_lt _ (by omega)⟩ := Fin.ext (by show R.val = iq m * 1536 + R.val % 1536; omega)
      rw [if_pos hR]
      have q := hQ ⟨R.val % 1536, Nat.mod_lt _ (by omega)⟩ d
      rw [← e] at q
      rw [← q]
      exact A.dq _ R d (by show R.val = iq m * 1536 + R.val % 1536; omega)
    · rw [if_neg hR, add_zero]
      exact A.other R d (fun h => hR h.symm)

theorem inv (h : Fin 8) : ∀ (n : ℕ) (hn : n < 132), Inv V₀ c h ⟨n, hn⟩ (traj V₀ c (h.val * 132 + n + 1))
  | 0, hn => by
    rw [show h.val * 132 + 0 + 1 = (pt h ⟨0, hn⟩).val + 1 from rfl, traj_succ]
    exact inv_step V₀ c h ⟨0, hn⟩ _ fun h0 => absurd rfl h0
  | n + 1, hn => by
    rw [show h.val * 132 + (n + 1) + 1 = (pt h ⟨n + 1, hn⟩).val + 1 from rfl, traj_succ]
    exact inv_step V₀ c h ⟨n + 1, hn⟩ _ fun _ => ⟨Nat.succ_pos n, inv h n (by omega)⟩

/-- The queries' gradient after a head's last pair. -/
theorem dq_done (h : Fin 8) (R : Fin 16896) (d : Fin 256) :
    (traj V₀ c (h.val * 132 + 131 + 1)).dq (ix2 R d) = ∑ K : Fin 16896, DSm V₀ c h R K * aK V₀ c (ix3 h K d) := by
  rw [(inv V₀ c h 131 (by omega)).dq R d]
  have e : R = rrow ⟨R.val / 1536, by omega⟩ ⟨R.val % 1536, Nat.mod_lt _ (by omega)⟩ := Fin.ext (by show R.val = R.val / 1536 * 1536 + R.val % 1536; omega)
  rw [← sum_row_rows ⟨R.val / 1536, by omega⟩ ⟨R.val % 1536, Nat.mod_lt _ (by omega)⟩ (fun K => DSm V₀ c h R K * aK V₀ c (ix3 h K d)) (fun K hK => by
    rw [← e] at hK
    show DSm V₀ c h R K * _ = 0
    rw [DSm, if_neg (by omega), zero_mul])]
  exact Finset.sum_congr rfl fun p _ => if_congr ⟨fun hp => hp.2, fun hp => ⟨by show p.val ≤ 131; omega, hp⟩⟩ rfl rfl

/-- The keys' gradient after a block of keys' last pair. -/
theorem dk_done (h : Fin 8) (m : Fin 132) (hm : k0_cond6 (lit0 m) = 1#1) (k : Fin 768) (d : Fin 256) :
    (traj V₀ c (h.val * 132 + m.val + 1)).dk (ix2 k d) = ∑ R : Fin 16896, DSm V₀ c h R (kw' m k) * aQ V₀ c (ix3 h R d) := by
  rw [(inv V₀ c h m.val m.isLt).dk k d]
  rw [← sum_col_rows ⟨jk m, jk_lt m⟩ k (fun R => DSm V₀ c h R (kw' m k) * aQ V₀ c (ix3 h R d)) (fun R hR => by
    show DSm V₀ c h R (kw' m k) * _ = 0
    rw [DSm, if_neg (by show ¬ (krow ⟨jk m, jk_lt m⟩ k).val ≤ R.val; omega), zero_mul])]
  refine Finset.sum_congr rfl fun p _ => ?_
  by_cases hp : jk p = jk m
  · rw [if_pos ⟨by show p.val ≤ m.val; by_contra hh; exact last_done m hm p (by omega) hp, hp⟩, if_pos hp]
    have e : kw' p k = kw' m k := Fin.ext (by show jk p * 768 + k.val = jk m * 768 + k.val; rw [hp])
    unfold tK
    rw [e]
    rfl
  · rw [if_neg (fun hh => hp hh.2), if_neg hp]

/-- The values' gradient after a block of keys' last pair. -/
theorem dv_done (h : Fin 8) (m : Fin 132) (hm : k0_cond6 (lit0 m) = 1#1) (k : Fin 768) (d : Fin 128) :
    (traj V₀ c (h.val * 132 + m.val + 1)).dv (ix2 k d) = ∑ R : Fin 16896, PTm V₀ c h R (kw' m k) * aO V₀ c (ix2 R (ocol h d)) := by
  rw [(inv V₀ c h m.val m.isLt).dv k d]
  rw [← sum_col_rows ⟨jk m, jk_lt m⟩ k (fun R => PTm V₀ c h R (kw' m k) * aO V₀ c (ix2 R (ocol h d))) (fun R hR => by
    show PTm V₀ c h R (kw' m k) * _ = 0
    rw [PTm, if_neg (by show ¬ (krow ⟨jk m, jk_lt m⟩ k).val ≤ R.val; omega), zero_mul])]
  refine Finset.sum_congr rfl fun p _ => ?_
  by_cases hp : jk p = jk m
  · rw [if_pos ⟨by show p.val ≤ m.val; by_contra hh; exact last_done m hm p (by omega) hp, hp⟩, if_pos hp]
    have e : kw' p k = kw' m k := Fin.ext (by show jk p * 768 + k.val = jk m * 768 + k.val; rw [hp])
    unfold tV
    rw [e]
    rfl
  · rw [if_neg (fun hh => hp hh.2), if_neg hp]

end Cert.KernelIdeal.Attn
-- ==== Proof.Arrays.lean ====
/- The three arrays that the call leaves, over the reals: sums over every row. -/
module

public import proofs.«01_k».proof.Proof.Traj
public import Idealize.ShloMosaic.Lib.Pipeline.ValueKit.Geometry

@[expose] public section

set_option maxRecDepth 16384
set_option Elab.async false

noncomputable section

namespace Cert.KernelIdeal.Attn

open Cert.KernelIdeal Cert.KernelIdeal.Gen
open Idealize.ShloMosaic Idealize.ShloMosaic.TcCoe

variable (V₀ : Dev nD → Valuation τ sig (Elt Ideal)) (c : Dev nD)

/-- The queries' gradient, -/
def GQ : S8x16896x256.Idx → EReal := fun i => ∑ K : Fin 16896, DSm V₀ c (i 0) (i 1) K * aK V₀ c (ix3 (i 0) K (i 2))
/-- the keys' -/
def GK : S8x16896x256.Idx → EReal := fun i => ∑ R : Fin 16896, DSm V₀ c (i 0) R (i 1) * aQ V₀ c (ix3 (i 0) R (i 2))
/-- and the values'. -/
def GV : S8x16896x128.Idx → EReal := fun i => ∑ R : Fin 16896, PTm V₀ c (i 0) R (i 1) * aO V₀ c (ix2 R (ocol (i 0) (i 2)))

theorem numN : (cfgA (F := Ideal)).N = 1056 := by decide +kernel

/-- Every point is a head's pair. -/
theorem exists_pt (t : Fin (cfgA (F := Ideal)).N) : ∃ (h : Fin 8) (p : Fin 132), t = pt h p := by
  have ht : t.val < 1056 := numN ▸ t.isLt
  exact ⟨⟨t.val / 132, by omega⟩, ⟨t.val % 132, by omega⟩, Fin.ext (by show t.val = t.val / 132 * 132 + t.val % 132; omega)⟩

/-! ## The queries' gradient -/

theorem cond7_iff : ∀ p : Fin 132, Scalar.cmpi .ne (Scalar.extui (Scalar.cmpi .eq (BitVec.ofNat 32 p.val) 131#32)) 0#32 = 1#1 ↔ p.val = 131 := by decide +kernel

theorem cond7_pt (h : Fin 8) (p : Fin 132) : k0_cond7 (crd (F := Ideal) (pt h p)) = 1#1 ↔ p.val = 131 := by
  unfold k0_cond7
  rw [crd_pt1]
  exact cond7_iff p

theorem off5_pt (h : Fin 8) (p : Fin 132) : k0_off5 (crd (F := Ideal) (pt h p)) = ![h.val, 0, 0] := by
  unfold k0_off5
  rw [crd_pt0]
  show ![(BitVec.ofNat 32 h.val).toNat, 0, 0] = ![h.val, 0, 0]
  have e : (BitVec.ofNat 32 h.val).toNat = h.val := by
    rw [BitVec.toNat_ofNat]; omega
  rw [e]

theorem squeeze_at (R : Fin 16896) (d : Fin 256) :
    (Shape.reshapeEquiv (squeezes_S1x16896x256_S16896x256).numel_eq).symm (ix3 0 R d : S1x16896x256.Idx) = (ix2 R d : S16896x256.Idx) := by
  rw [Equiv.symm_apply_eq]
  pointwise

theorem g_done : ∀ (n : ℕ) (hn : n ≤ 1056) (h : Fin 8) (R : Fin 16896) (d : Fin 256), (h.val + 1) * 132 ≤ n → gtraj V₀ c n (ix3 h R d) = GQ V₀ c (ix3 h R d)
  | 0, _, h, R, d, hh => by omega
  | n + 1, hn, h, R, d, hh => by
    obtain ⟨g, p, hp⟩ := exists_pt ⟨n, by rw [numN]; omega⟩
    have hn' : n = g.val * 132 + p.val := congrArg Fin.val hp
    have e := gtraj_succ V₀ c (pt g p)
    rw [show (pt g p).val = n from hn'.symm] at e
    rw [e]
    unfold dqOut
    by_cases hc : p.val = 131
    · rw [if_pos ((cond7_pt g p).2 hc), off5_pt]
      by_cases hg : h = g
      · subst hg
        refine (put_in (s := S8x16896x256) _ ![h.val, 0, 0] S1x16896x256.size _ (ix3 h R d) (ix3 (0 : Fin 1) R d) fun a => ?_).trans ?_
        · fin_cases a
          · rfl
          · exact (zero_add _).symm
          · exact (zero_add _).symm
        · show (traj V₀ c (n + 1)).dq ((Shape.reshapeEquiv (squeezes_S1x16896x256_S16896x256).numel_eq).symm (ix3 0 R d : S1x16896x256.Idx)) = _
          rw [squeeze_at, show n + 1 = h.val * 132 + 131 + 1 by omega]
          exact dq_done V₀ c h R d
      · refine (put_out (s := S8x16896x256) _ ![g.val, 0, 0] S1x16896x256.size _ (ix3 h R d) 0 ?_).trans (g_done n (by omega) h R d ?_)
        · show h.val < g.val ∨ g.val + 1 ≤ h.val
          have : h.val ≠ g.val := fun e => hg (Fin.ext e)
          omega
        · have : h.val ≠ g.val := fun e => hg (Fin.ext e)
          omega
    · rw [if_neg (mt (cond7_pt g p).1 hc)]
      exact g_done n (by omega) h R d (by omega)

/-- The array of the queries' gradient after the call. -/
theorem g_last : gtraj V₀ c (cfgA (F := Ideal)).N = GQ V₀ c := by
  rw [numN]
  funext i
  idx_vars i
  exact g_done V₀ c 1056 le_rfl _ _ _ (by omega)

/-! ## The keys' and the values' gradients -/

theorem last_pair : ∀ j : Fin 22, ∃ p : Fin 132, jk p = j.val ∧ k0_cond6 (lit0 p) = 1#1 := by decide +kernel

theorem flush6_last (h : Fin 8) (p : Fin 132) (hc : k0_cond6 (lit0 p) = 1#1) : ((cfgA (F := Ideal)).win (6 : Fin 8)).flush (pt h p) = true := by
  rw [Pipeline.Window.flush_eq_flushF]
  unfold Pipeline.Window.flushF
  rw [Bool.and_eq_true]
  refine ⟨rfl, ?_⟩
  rw [Bool.or_eq_true, decide_eq_true_eq, decide_eq_true_eq]
  by_cases hl : (pt h p).val + 1 = (cfgA (F := Ideal)).grid.N
  · exact .inl hl
  · refine .inr ⟨lt_of_le_of_ne (pt h p).isLt hl, ?_⟩
    have hN : (cfgA (F := Ideal)).grid.N = 1056 := numN
    have hv : (pt h p).val = h.val * 132 + p.val := rfl
    by_cases hp : p.val = 131
    · refine ⟨(0 : Fin 3), ?_⟩
      have e : (⟨(pt h p).val + 1, lt_of_le_of_ne (pt h p).isLt hl⟩ : Fin (cfgA (F := Ideal)).grid.N) = pt ⟨h.val + 1, by omega⟩ 0 := Fin.ext (by
        show h.val * 132 + p.val + 1 = (h.val + 1) * 132 + 0; omega)
      rw [e]
      intro hh
      have hh' := (tr7 (F := Ideal) (crd (F := Ideal) (pt ⟨h.val + 1, by omega⟩ 0)) (0 : Fin 3)).symm.trans (hh.trans (tr7 (F := Ideal) (crd (F := Ideal) (pt h p)) (0 : Fin 3)))
      have h1 := (crd_pt0 ⟨h.val + 1, by omega⟩ 0).symm.trans (hh'.trans (crd_pt0 h p))
      exact absurd h1 (Nat.succ_ne_self _)
    · refine ⟨(1 : Fin 3), ?_⟩
      have e : (⟨(pt h p).val + 1, lt_of_le_of_ne (pt h p).isLt hl⟩ : Fin (cfgA (F := Ideal)).grid.N) = pt h ⟨p.val + 1, by omega⟩ := Fin.ext (by
        show h.val * 132 + p.val + 1 = h.val * 132 + (p.val + 1); omega)
      rw [e]
      intro hh
      have hh' := (tr7 (F := Ideal) (crd (F := Ideal) (pt h ⟨p.val + 1, by omega⟩)) (1 : Fin 3)).symm.trans (hh.trans (tr7 (F := Ideal) (crd (F := Ideal) (pt h p)) (1 : Fin 3)))
      have h1 := (congrArg BitVec.toNat (wk_pt h ⟨p.val + 1, by omega⟩)).symm.trans (hh'.trans (congrArg BitVec.toNat (wk_pt h p)))
      exact last_done p hc ⟨p.val + 1, by omega⟩ (Nat.lt_succ_self _) h1

theorem flush7_last (h : Fin 8) (p : Fin 132) (hc : k0_cond6 (lit0 p) = 1#1) : ((cfgA (F := Ideal)).win (7 : Fin 8)).flush (pt h p) = true := by
  rw [Pipeline.Window.flush_eq_flushF]
  unfold Pipeline.Window.flushF
  rw [Bool.and_eq_true]
  refine ⟨rfl, ?_⟩
  rw [Bool.or_eq_true, decide_eq_true_eq, decide_eq_true_eq]
  by_cases hl : (pt h p).val + 1 = (cfgA (F := Ideal)).grid.N
  · exact .inl hl
  · refine .inr ⟨lt_of_le_of_ne (pt h p).isLt hl, ?_⟩
    have hN : (cfgA (F := Ideal)).grid.N = 1056 := numN
    have hv : (pt h p).val = h.val * 132 + p.val := rfl
    by_cases hp : p.val = 131
    · refine ⟨(0 : Fin 3), ?_⟩
      have e : (⟨(pt h p).val + 1, lt_of_le_of_ne (pt h p).isLt hl⟩ : Fin (cfgA (F := Ideal)).grid.N) = pt ⟨h.val + 1, by omega⟩ 0 := Fin.ext (by
        show h.val * 132 + p.val + 1 = (h.val + 1) * 132 + 0; omega)
      rw [e]
      intro hh
      have hh' := (tr8 (F := Ideal) (crd (F := Ideal) (pt ⟨h.val + 1, by omega⟩ 0)) (0 : Fin 3)).symm.trans (hh.trans (tr8 (F := Ideal) (crd (F := Ideal) (pt h p)) (0 : Fin 3)))
      have h1 := (crd_pt0 ⟨h.val + 1, by omega⟩ 0).symm.trans (hh'.trans (crd_pt0 h p))
      exact absurd h1 (Nat.succ_ne_self _)
    · refine ⟨(1 : Fin 3), ?_⟩
      have e : (⟨(pt h p).val + 1, lt_of_le_of_ne (pt h p).isLt hl⟩ : Fin (cfgA (F := Ideal)).grid.N) = pt h ⟨p.val + 1, by omega⟩ := Fin.ext (by
        show h.val * 132 + p.val + 1 = h.val * 132 + (p.val + 1); omega)
      rw [e]
      intro hh
      have hh' := (tr8 (F := Ideal) (crd (F := Ideal) (pt h ⟨p.val + 1, by omega⟩)) (1 : Fin 3)).symm.trans (hh.trans (tr8 (F := Ideal) (crd (F := Ideal) (pt h p)) (1 : Fin 3)))
      have h1 := (congrArg BitVec.toNat (wk_pt h ⟨p.val + 1, by omega⟩)).symm.trans (hh'.trans (congrArg BitVec.toNat (wk_pt h p)))
      exact last_done p hc ⟨p.val + 1, by omega⟩ (Nat.lt_succ_self _) h1

theorem emb6 (h : Fin 8) (p : Fin 132) (k : Fin 768) (d : Fin 256) :
    (((cfgA (F := Ideal)).win (6 : Fin 8)).blk (pt h p)).view.emb (ix3 0 k d) = (ix3 h (kw' p k) d : S8x16896x256.Idx) := by
  refine funext fun a => Fin.ext ?_
  refine (Pipeline.Window.rect_emb_val ((cfgA (F := Ideal)).win (6 : Fin 8)) (pt h p) (ix3 0 k d) a).trans ?_
  have e := tr7 (F := Ideal) (crd (F := Ideal) (pt h p))
  fin_cases a
  · exact (congrArg (· * 1 + 0) ((e 0).trans (crd_pt0 h p))).trans (by show h.val * 1 + 0 = h.val; omega)
  · exact congrArg (· * 768 + k.val) ((e 1).trans (congrArg BitVec.toNat (wk_pt h p)))
  · exact (congrArg (· * 256 + d.val) (e 2)).trans (by show 0 * 256 + d.val = d.val; omega)

theorem emb7 (h : Fin 8) (p : Fin 132) (k : Fin 768) (d : Fin 128) :
    (((cfgA (F := Ideal)).win (7 : Fin 8)).blk (pt h p)).view.emb (ix3 0 k d) = (ix3 h (kw' p k) d : S8x16896x128.Idx) := by
  refine funext fun a => Fin.ext ?_
  refine (Pipeline.Window.rect_emb_val ((cfgA (F := Ideal)).win (7 : Fin 8)) (pt h p) (ix3 0 k d) a).trans ?_
  have e := tr8 (F := Ideal) (crd (F := Ideal) (pt h p))
  fin_cases a
  · exact (congrArg (· * 1 + 0) ((e 0).trans (crd_pt0 h p))).trans (by show h.val * 1 + 0 = h.val; omega)
  · exact congrArg (· * 768 + k.val) ((e 1).trans (congrArg BitVec.toNat (wk_pt h p)))
  · exact (congrArg (· * 128 + d.val) (e 2)).trans (by show 0 * 128 + d.val = d.val; omega)

theorem pay7_at (X : S768x256.Idx → EReal) (k : Fin 768) (d : Fin 256) : k0_pay7 (F := Ideal) X (ix3 0 k d) = X (ix2 k d) := by pointwise [k0_pay7]
theorem pay8_at (X : S768x128.Idx → EReal) (k : Fin 768) (d : Fin 128) : k0_pay8 (F := Ideal) X (ix3 0 k d) = X (ix2 k d) := by pointwise [k0_pay8]

/-- The array of the keys' gradient after the call. -/
theorem arr6 : (dats V₀ 0 c).arrAt (6 : Fin 8) (cfgA (F := Ideal)).N = GK V₀ c := by
  refine (dats V₀ 0 c).arrAt_eq_of_emb (6 : Fin 8) (GK V₀ c) (fun t hf y => ?_) (fun i => ?_)
  · obtain ⟨h, p, rfl⟩ := exists_pt t
    have hc : k0_cond6 (lit0 p) = 1#1 := by
      by_contra hh
      have := flush6 (F := Ideal) (pt h p) (by rw [wq_pt]; exact hh)
      exact absurd (hf.symm.trans this) (by decide)
    obtain ⟨z, k, d, rfl⟩ : ∃ (z : Fin 1) (k : Fin 768) (d : Fin 256), y = ix3 z k d := ⟨y 0, y 1, y 2, eq_ix3 (n0 := 1) (n1 := 768) (n2 := 256) y⟩
    obtain rfl : z = 0 := Subsingleton.elim _ _
    refine Eq.trans ?_ (congrArg (GK V₀ c) (emb6 h p k d)).symm
    refine (pay7_at (traj V₀ c (h.val * 132 + p.val + 1)).dk k d).trans ?_
    exact dk_done V₀ c h p hc k d
  · obtain ⟨h, K, d, rfl⟩ : ∃ (h : Fin 8) (K : Fin 16896) (d : Fin 256), i = ix3 h K d := ⟨i 0, i 1, i 2, eq_ix3 (n0 := 8) (n1 := 16896) (n2 := 256) i⟩
    obtain ⟨p, hj, hc⟩ := last_pair ⟨K.val / 768, by omega⟩
    refine ⟨pt h p, flush6_last h p hc, ?_⟩
    have e : kw' p ⟨K.val % 768, Nat.mod_lt _ (by omega)⟩ = K := Fin.ext (by show jk p * 768 + K.val % 768 = K.val; rw [hj]; show K.val / 768 * 768 + K.val % 768 = K.val; omega)
    have := (((cfgA (F := Ideal)).win (6 : Fin 8)).blk (pt h p)).view.emb_mem_set (ix3 0 ⟨K.val % 768, Nat.mod_lt _ (by omega)⟩ d)
    rw [emb6, e] at this
    exact this

/-- The array of the values' gradient after the call. -/
theorem arr7 : (dats V₀ 0 c).arrAt (7 : Fin 8) (cfgA (F := Ideal)).N = GV V₀ c := by
  refine (dats V₀ 0 c).arrAt_eq_of_emb (7 : Fin 8) (GV V₀ c) (fun t hf y => ?_) (fun i => ?_)
  · obtain ⟨h, p, rfl⟩ := exists_pt t
    have hc : k0_cond6 (lit0 p) = 1#1 := by
      by_contra hh
      have := flush7 (F := Ideal) (pt h p) (by rw [wq_pt]; exact hh)
      exact absurd (hf.symm.trans this) (by decide)
    obtain ⟨z, k, d, rfl⟩ : ∃ (z : Fin 1) (k : Fin 768) (d : Fin 128), y = ix3 z k d := ⟨y 0, y 1, y 2, eq_ix3 (n0 := 1) (n1 := 768) (n2 := 128) y⟩
    obtain rfl : z = 0 := Subsingleton.elim _ _
    refine Eq.trans ?_ (congrArg (GV V₀ c) (emb7 h p k d)).symm
    refine (pay8_at (traj V₀ c (h.val * 132 + p.val + 1)).dv k d).trans ?_
    exact dv_done V₀ c h p hc k d
  · obtain ⟨h, K, d, rfl⟩ : ∃ (h : Fin 8) (K : Fin 16896) (d : Fin 128), i = ix3 h K d := ⟨i 0, i 1, i 2, eq_ix3 (n0 := 8) (n1 := 16896) (n2 := 128) i⟩
    obtain ⟨p, hj, hc⟩ := last_pair ⟨K.val / 768, by omega⟩
    refine ⟨pt h p, flush7_last h p hc, ?_⟩
    have e : kw' p ⟨K.val % 768, Nat.mod_lt _ (by omega)⟩ = K := Fin.ext (by show jk p * 768 + K.val % 768 = K.val; rw [hj]; show K.val / 768 * 768 + K.val % 768 = K.val; omega)
    have := (((cfgA (F := Ideal)).win (7 : Fin 8)).blk (pt h p)).view.emb_mem_set (ix3 0 ⟨K.val % 768, Nat.mod_lt _ (by omega)⟩ d)
    rw [emb7, e] at this
    exact this

end Cert.KernelIdeal.Attn
-- ==== Proof.PreA.lean ====
/- The host lines before the launch, read at an index: the slabs and the masked scores. -/
module

public import proofs.«01_k».proof.Proof.HostFacts
public import proofs.«01_k».proof.Proof.Math
public import Idealize.ShloMosaic.Lib.StableHlo.ReadAt
public import Idealize.ShloMosaic.Lib.Pointwise
public import Idealize.ShloMosaic.Lib.WordArith

@[expose] public section

set_option maxRecDepth 32768
set_option Elab.async false

noncomputable section

namespace Cert.KernelIdeal.Attn

open Cert.KernelIdeal Cert.KernelIdeal.Gen
open Idealize.ShloMosaic Idealize.ShloMosaic.TcCoe

/-- The lines that find the even heads, -/
abbrev line0 : List (HloOp τ sig (Elt Ideal)) := hostOps0 ++ (hostOps0_1 ++ hostOps0_2)
/-- those that pack the slabs and form the masked scores -/
abbrev line1 : List (HloOp τ sig (Elt Ideal)) :=
  hostOps0_3 ++ (hostOps0_4 ++ (hostOps0_5 ++ (hostOps0_6 ++ (hostOps0_7 ++ (hostOps0_8 ++ (hostOps0_9 ++ (hostOps0_10 ++ (hostOps0_11 ++ (hostOps0_12 ++ hostOps0_13)))))))))
/-- and those that reduce them. -/
abbrev line2 : List (HloOp τ sig (Elt Ideal)) :=
  hostOps0_14 ++ (hostOps0_15 ++ (hostOps0_16 ++ (hostOps0_17 ++ (hostOps0_18 ++ (hostOps0_19 ++ hostOps0_20)))))

theorem pre_split (V : Valuation τ sig (Elt Ideal)) :
    StableHlo.after (preOps (F := Ideal)).flatten V = StableHlo.after line2 (StableHlo.after line1 (StableHlo.after line0 V)) := by
  rw [← StableHlo.after_append, ← StableHlo.after_append]
  rfl

open Cert.Attn

/-- The arguments hold the attention's arrays. -/
structure Holds (D : Data) (V : Valuation τ sig (Elt Ideal)) : Prop where
  a0 : ∀ (q : Fin 16400) (h : Fin 8) (d : Fin 128), (V (Proc.devRef .tc main_arg0) (ix3 q h d) : EReal) = (D.qn q h d : EReal)
  a1 : ∀ (q : Fin 16400) (h : Fin 8) (d : Fin 64), (V (Proc.devRef .tc main_arg1) (ix3 q h d) : EReal) = (D.qr q h d : EReal)
  a2 : ∀ (q : Fin 16400) (h : Fin 8) (d : Fin 128), (V (Proc.devRef .tc main_arg2) (ix3 q h d) : EReal) = (D.kn q h d : EReal)
  a3 : ∀ (q : Fin 16400) (d : Fin 64), (V (Proc.devRef .tc main_arg3) (ix2 q d) : EReal) = (D.kr q d : EReal)
  a4 : ∀ (q : Fin 16400) (h : Fin 8) (d : Fin 128), (V (Proc.devRef .tc main_arg4) (ix3 q h d) : EReal) = (D.v q h d : EReal)
  a5 : ∀ (q : Fin 16400) (h : Fin 8) (d : Fin 128), (V (Proc.devRef .tc main_arg5) (ix2 q ⟨h.val * 128 + d.val, by omega⟩) : EReal) = (D.o q h d : EReal)

variable {D : Data} {V : Valuation τ sig (Elt Ideal)}

theorem int_zero : (FloatOps.sitofp (F := Ideal) .f32 0#32 : EReal) = 0 := by
  show (((0#32 : BitVec 32).toInt : ℝ) : EReal) = 0
  simp
theorem bits_zero : (Ideal.ofBits .f32 0#32 : EReal) = 0 := by simp [Ideal.ofBits, Ideal.ieee]
theorem bits_bot : (Ideal.ofBits .f32 4286578688#32 : EReal) = ⊥ := by simp [Ideal.ofBits, Ideal.ieee]
theorem bits_two : (Ideal.ofBits .f32 1073741824#32 : EReal) = ((2 : ℝ) : EReal) := by
  simp [Ideal.ofBits, Ideal.ieee, -EReal.coe_mul]; norm_num
theorem bits_192 : (Ideal.ofBits .f32 1128267776#32 : EReal) = ((192 : ℝ) : EReal) := by
  simp [Ideal.ofBits, Ideal.ieee, -EReal.coe_mul]; norm_num

theorem v8_at (h : Fin 8) : (StableHlo.after line0 V (Proc.devRef .tc main_v8) (ix3 h 0 0) : BitVec 1) = if h.val % 2 = 0 then 1#1 else 0#1 := by
  after_reads_at
  revert h
  decide

theorem v3_at (h : Fin 8) (q : Fin 16400) (d : Fin 64) : (StableHlo.after line0 V (Proc.devRef .tc main_v3) (ix3 h q d) : EReal) = V (Proc.devRef .tc main_arg1) (ix3 q h d) := by
  after_reads_at
theorem v2_at (h : Fin 8) (q : Fin 16400) (d : Fin 128) : (StableHlo.after line0 V (Proc.devRef .tc main_v2) (ix3 h q d) : EReal) = V (Proc.devRef .tc main_arg0) (ix3 q h d) := by
  after_reads_at
theorem v4_at (h : Fin 8) (q : Fin 16400) (d : Fin 128) : (StableHlo.after line0 V (Proc.devRef .tc main_v4) (ix3 h q d) : EReal) = V (Proc.devRef .tc main_arg2) (ix3 q h d) := by
  after_reads_at
theorem v10_at (h : Fin 8) (q : Fin 16400) (d : Fin 64) : (StableHlo.after line0 V (Proc.devRef .tc main_v10) (ix3 h q d) : EReal) = V (Proc.devRef .tc main_arg3) (ix2 q d) := by
  after_reads_at
theorem v1_at (h : Fin 8) (q : Fin 16400) (d : Fin 128) : (StableHlo.after line0 V (Proc.devRef .tc main_v1) (ix3 q h d) : EReal) = V (Proc.devRef .tc main_arg5) (ix2 q ⟨h.val * 128 + d.val, by omega⟩) := by
  after_reads_at

variable (D) in
/-- A row of the queries' slab, -/
def qslab (h : Fin 8) (r : Fin 16896) (d : Fin 256) : ℝ :=
  if hr : r.val < 16400 then
    if hd : d.val < 128 then D.qn ⟨r, hr⟩ h ⟨d, hd⟩
    else if hd : d.val - 128 < 64 then (if h.val % 2 = 0 then D.qr ⟨r, hr⟩ h ⟨d.val - 128, hd⟩ else 0)
    else (if h.val % 2 = 0 then 0 else D.qr ⟨r, hr⟩ h ⟨d.val - 128 - 64, by omega⟩)
  else 0
variable (D) in
/-- of the keys' slab -/
def kslab (h : Fin 8) (r : Fin 16896) (d : Fin 256) : ℝ :=
  if hr : r.val < 16400 then
    if hd : d.val < 128 then D.kn ⟨r, hr⟩ h ⟨d, hd⟩
    else if hd : d.val - 128 < 64 then D.kr ⟨r, hr⟩ ⟨d.val - 128, hd⟩
    else D.kr ⟨r, hr⟩ ⟨d.val - 128 - 64, by omega⟩
  else 0
variable (D) in
/-- and of the values'. -/
def vslab (h : Fin 8) (r : Fin 16896) (d : Fin 128) : ℝ := if hr : r.val < 16400 then D.v ⟨r, hr⟩ h d else 0

theorem sel_even (h : Fin 8) (a b : EReal) : Scalar.select (if h.val % 2 = 0 then 1#1 else 0#1) a b = if h.val % 2 = 0 then a else b := by
  by_cases e : h.val % 2 = 0
  · simp only [e, if_true]; rfl
  · simp only [e, if_false]; rfl

theorem q1_at (W : Valuation τ sig (Elt Ideal)) (h : Fin 8) (r : Fin 16896) (d : Fin 256) : (StableHlo.after line1 W (Proc.devRef .tc main_v17) (ix3 h r d) : EReal) =
    if hr : r.val < 16400 then
      if hd : d.val < 128 then W (Proc.devRef .tc main_v2) (ix3 h ⟨r, hr⟩ ⟨d, hd⟩)
      else if hd : d.val - 128 < 64 then Scalar.select (W (Proc.devRef .tc main_v8) (ix3 h 0 0)) (W (Proc.devRef .tc main_v3) (ix3 h ⟨r, hr⟩ ⟨d.val - 128, hd⟩)) (W (Proc.devRef .tc main_cst) Idealize.ShloMosaic.ix0)
      else Scalar.select (W (Proc.devRef .tc main_v8) (ix3 h 0 0)) (0 : EReal) (W (Proc.devRef .tc main_v3) (ix3 h ⟨r, hr⟩ ⟨d.val - 128 - 64, by omega⟩))
    else FloatOps.sitofp (F := Ideal) .f32 0#32 := by
  after_reads_at
  after_reads_at
  have z : (id (constant (F := Ideal) S_ .f32 0#32) Idealize.ShloMosaic.ix0 : EReal) = 0 := bits_zero
  rw [z]
  rfl

theorem cst_at : (StableHlo.after line0 V (Proc.devRef .tc main_cst) Idealize.ShloMosaic.ix0 : EReal) = (0 : EReal) := by
  after_reads_at

theorem q_of {W : Valuation τ sig (Elt Ideal)} (h : Fin 8) (r : Fin 16896) (d : Fin 256)
    (e2 : ∀ (q : Fin 16400) (d : Fin 128), (W (Proc.devRef .tc main_v2) (ix3 h q d) : EReal) = (D.qn q h d : EReal))
    (e3 : ∀ (q : Fin 16400) (d : Fin 64), (W (Proc.devRef .tc main_v3) (ix3 h q d) : EReal) = (D.qr q h d : EReal))
    (e8 : (W (Proc.devRef .tc main_v8) (ix3 h 0 0) : BitVec 1) = if h.val % 2 = 0 then 1#1 else 0#1)
    (ec : (W (Proc.devRef .tc main_cst) Idealize.ShloMosaic.ix0 : EReal) = (0 : EReal)) :
    (StableHlo.after line1 W (Proc.devRef .tc main_v17) (ix3 h r d) : EReal) = (qslab D h r d : EReal) := by
  rw [q1_at]
  unfold qslab
  simp only [e2, e3, e8, ec, sel_even, int_zero, bits_zero]
  split_ifs <;> first | rfl | simp

theorem q_at (H : Holds D V) (h : Fin 8) (r : Fin 16896) (d : Fin 256) :
    (StableHlo.after line1 (StableHlo.after line0 V) (Proc.devRef .tc main_v17) (ix3 h r d) : EReal) = (qslab D h r d : EReal) :=
  q_of h r d (fun q d => (v2_at h q d).trans (H.a0 q h d)) (fun q d => (v3_at h q d).trans (H.a1 q h d)) (v8_at h) cst_at

theorem k_at (H : Holds D V) (h : Fin 8) (r : Fin 16896) (d : Fin 256) :
    (StableHlo.after line1 (StableHlo.after line0 V) (Proc.devRef .tc main_v19) (ix3 h r d) : EReal) = (kslab D h r d : EReal) := by
  after_reads_at
  after_reads_at
  unfold kslab
  simp only [H.a2, H.a3, int_zero]
  split_ifs <;> first | rfl | simp

theorem v_at (H : Holds D V) (h : Fin 8) (r : Fin 16896) (d : Fin 128) :
    (StableHlo.after line1 (StableHlo.after line0 V) (Proc.devRef .tc main_v21) (ix3 h r d) : EReal) = (vslab D h r d : EReal) := by
  after_reads_at
  unfold vslab
  simp only [H.a4, int_zero]
  split_ifs <;> first | rfl | simp

theorem sle_iff (a b : Fin 16400) : IntOp.cmpi .sle (BitVec.ofNat 32 a.val) (BitVec.ofNat 32 b.val) = 1#1 ↔ a ≤ b := by
  have h : ∀ n : Fin 16400, (BitVec.ofNat 32 n.val).toInt = n.val := fun n => WordArith.toInt_ofNat_small n.val (by omega)
  simp only [IntOp.cmpi, WordArith.ofBool_eq_one_iff, BitVec.sle_iff_toInt_le, h a, h b]
  rw [Fin.le_def]
  omega

theorem scale_real (x : ℝ) : Ideal.div (x : EReal) (Ideal.sqrt (Ideal.ofBits .f32 1128267776#32)) = ((x * (1 / √192) : ℝ) : EReal) := by
  have h : √(192 : ℝ) ≠ 0 := (Real.sqrt_pos.2 (by norm_num)).ne'
  rw [bits_192, Ideal.sqrt_coe, if_neg (by norm_num), Ideal.div_coe h, ← EReal.coe_mul]

theorem s_at (H : Holds D V) (h : Fin 8) (q k : Fin 16400) :
    (StableHlo.after line1 (StableHlo.after line0 V) (Proc.devRef .tc main_v35) (ix3 h q k) : EReal) = xx D h q k := by
  after_reads_at
  simp only [H.a0, H.a1, H.a2, H.a3, ← EReal.coe_mul, csum, ← EReal.coe_add, scale_real]
  unfold xx
  refine if_congr (sle_iff k q) ?_ bits_bot
  rfl

end Cert.KernelIdeal.Attn

end
-- ==== Proof.PreB.lean ====
/- The arrays that the call reads, from arguments that are real numbers. -/
module

public import proofs.«01_k».proof.Proof.PreA
public import proofs.«01_k».proof.Proof.Arrays

@[expose] public section

set_option maxRecDepth 32768
set_option Elab.async false

noncomputable section

namespace Cert.KernelIdeal.Attn

open Cert.KernelIdeal Cert.KernelIdeal.Gen
open Idealize.ShloMosaic Idealize.ShloMosaic.TcCoe
open Cert.Attn

variable {D : Data} (W : Valuation τ sig (Elt Ideal))

theorem keep2_v17 : StableHlo.after line2 W (Proc.devRef .tc main_v17) = W (Proc.devRef .tc main_v17) := by after_reads_simp
theorem keep2_v19 : StableHlo.after line2 W (Proc.devRef .tc main_v19) = W (Proc.devRef .tc main_v19) := by after_reads_simp
theorem keep2_v21 : StableHlo.after line2 W (Proc.devRef .tc main_v21) = W (Proc.devRef .tc main_v21) := by after_reads_simp
theorem keep1_v1 : StableHlo.after line1 W (Proc.devRef .tc main_v1) = W (Proc.devRef .tc main_v1) := by after_reads_simp
theorem keep1_a4 : StableHlo.after line1 (StableHlo.after line0 W) (Proc.devRef .tc main_arg4) = W (Proc.devRef .tc main_arg4) := by after_reads_simp
theorem keep1_a5 : StableHlo.after line1 (StableHlo.after line0 W) (Proc.devRef .tc main_arg5) = W (Proc.devRef .tc main_arg5) := by after_reads_simp

variable (D) in
/-- A row's log-sum to base 2, -/
def lslab (h : Fin 8) (r : Fin 16896) : ℝ := if hr : r.val < 16400 then Real.log (zz D h ⟨r, hr⟩) / Real.log 2 else 0
variable (D) in
/-- its mean of cotangents -/
def dslab (h : Fin 8) (r : Fin 16896) : ℝ := if hr : r.val < 16400 then dl D h ⟨r, hr⟩ else 0
variable (D) in
/-- and its cotangents. -/
def oslab (h : Fin 8) (r : Fin 16896) (d : Fin 128) : ℝ := if hr : r.val < 16400 then D.o ⟨r, hr⟩ h d else 0

variable {W}

theorem log_line (X Y : FVec Ideal S8x16400x1 .f32) (c : FVec Ideal S_ .f32) (h : Fin 8) (q : Fin 16400) :
    Host.divf (addf X (Host.log Y)) (broadcastInDim S8x16400x1 ![] bcast_S_S8x16400x1 (Host.log c)) (ix3 h q 0) =
      Ideal.div (X (ix3 h q 0) + Ideal.log (Y (ix3 h q 0))) (Ideal.log (c Idealize.ShloMosaic.ix0)) := by
  pointwise

/-- The log-sums, the means of the cotangents -/
theorem lse_of {M : ℝ} (h : Fin 8) (q : Fin 16400)
    (hs : ∀ k : Fin 16400, (W (Proc.devRef .tc main_v35) (ix3 h q k) : EReal) = xx D h q k)
    (hm : Finset.fold max (⊥ : EReal) (fun k => xx D h q k) Finset.univ = (M : EReal)) :
    (StableHlo.after hostOps0_14 W (Proc.devRef .tc main_v50) (ix3 h q 0) : EReal) = ((Real.log (zz D h q) / Real.log 2 : ℝ) : EReal) := by
  after_reads_simp
  refine (log_line _ _ _ h q).trans ?_
  pointwise
  simp only [hs, bits_bot, bits_two, hm]
  exact lse D h q M

theorem delta_of {M : ℝ} (h : Fin 8) (q : Fin 16400)
    (hs : ∀ k : Fin 16400, (W (Proc.devRef .tc main_v35) (ix3 h q k) : EReal) = xx D h q k)
    (h4 : ∀ (k : Fin 16400) (d : Fin 128), (W (Proc.devRef .tc main_arg4) (ix3 k h d) : EReal) = (D.v k h d : EReal))
    (h1 : ∀ (d : Fin 128), (W (Proc.devRef .tc main_v1) (ix3 q h d) : EReal) = (D.o q h d : EReal))
    (hm : Finset.fold max (⊥ : EReal) (fun k => xx D h q k) Finset.univ = (M : EReal)) :
    (StableHlo.after hostOps0_14 W (Proc.devRef .tc main_v54) (ix3 h q 0) : EReal) = (dl D h q : EReal) := by
  after_reads_at
  simp only [hs, h4, h1, bits_bot, hm, weight, ← EReal.coe_mul, csum]
  exact congrArg _ (delta D h q)

/-- and the padding. -/
abbrev line3 : List (HloOp τ sig (Elt Ideal)) :=
  hostOps0_15 ++ (hostOps0_16 ++ (hostOps0_17 ++ (hostOps0_18 ++ (hostOps0_19 ++ hostOps0_20))))

theorem l_of (h : Fin 8) (r : Fin 16896)
    (hl : ∀ q : Fin 16400, (W (Proc.devRef .tc main_v50) (ix3 h q 0) : EReal) = ((Real.log (zz D h q) / Real.log 2 : ℝ) : EReal))
    (hc : ∀ i, (W (Proc.devRef .tc main_c_13) i : BitVec 32) = 0#32) :
    (StableHlo.after line3 W (Proc.devRef .tc main_v56) (ix3 h 0 r) : EReal) = (lslab D h r : EReal) := by
  after_reads_at
  unfold lslab
  simp only [hl]
  split_ifs with hr
  · rfl
  · rw [EReal.coe_zero]
    exact (congrArg (FloatOps.sitofp (F := Ideal) .f32) (hc _)).trans int_zero

theorem d_of (h : Fin 8) (r : Fin 16896)
    (hl : ∀ q : Fin 16400, (W (Proc.devRef .tc main_v54) (ix3 h q 0) : EReal) = (dl D h q : EReal)) :
    (StableHlo.after line3 W (Proc.devRef .tc main_v58) (ix3 h 0 r) : EReal) = (dslab D h r : EReal) := by
  after_reads_at
  unfold dslab
  simp only [hl, int_zero]
  split_ifs with hr
  · rfl
  · simp

theorem o_of (h5 : ∀ (q : Fin 16400) (h : Fin 8) (d : Fin 128), (W (Proc.devRef .tc main_arg5) (ix2 q ⟨h.val * 128 + d.val, by omega⟩) : EReal) = (D.o q h d : EReal))
    (h : Fin 8) (r : Fin 16896) (d : Fin 128) :
    (StableHlo.after line2 W (Proc.devRef .tc main_v60) (ix2 r (ocol h d)) : EReal) = (oslab D h r d : EReal) := by
  after_reads_at
  unfold oslab
  simp only [int_zero]
  split_ifs with hr
  · exact h5 _ _ _
  · simp

/-! ## At the launch -/

variable {V : Valuation τ sig (Elt Ideal)} (H : Holds D V)
include H

theorem pre_q (h : Fin 8) (r : Fin 16896) (d : Fin 256) :
    (StableHlo.after (preOps (F := Ideal)).flatten V (Proc.devRef .tc main_v17) (ix3 h r d) : EReal) = (qslab D h r d : EReal) := by
  rw [pre_split, keep2_v17]; exact q_at H h r d
theorem pre_k (h : Fin 8) (r : Fin 16896) (d : Fin 256) :
    (StableHlo.after (preOps (F := Ideal)).flatten V (Proc.devRef .tc main_v19) (ix3 h r d) : EReal) = (kslab D h r d : EReal) := by
  rw [pre_split, keep2_v19]; exact k_at H h r d
theorem pre_v (h : Fin 8) (r : Fin 16896) (d : Fin 128) :
    (StableHlo.after (preOps (F := Ideal)).flatten V (Proc.devRef .tc main_v21) (ix3 h r d) : EReal) = (vslab D h r d : EReal) := by
  rw [pre_split, keep2_v21]; exact v_at H h r d
theorem pre_l (h : Fin 8) (r : Fin 16896) :
    (StableHlo.after (preOps (F := Ideal)).flatten V (Proc.devRef .tc main_v56) (ix3 h 0 r) : EReal) = (lslab D h r : EReal) := by
  rw [pre_split, show line2 = hostOps0_14 ++ line3 from rfl, StableHlo.after_append]
  refine l_of h r (fun q => ?_) (fun i => by after_reads_simp; rfl)
  obtain ⟨M, hM⟩ := max_real D h q
  exact lse_of h q (fun k => s_at H h q k) hM
theorem pre_d (h : Fin 8) (r : Fin 16896) :
    (StableHlo.after (preOps (F := Ideal)).flatten V (Proc.devRef .tc main_v58) (ix3 h 0 r) : EReal) = (dslab D h r : EReal) := by
  rw [pre_split, show line2 = hostOps0_14 ++ line3 from rfl, StableHlo.after_append]
  refine d_of h r fun q => ?_
  obtain ⟨M, hM⟩ := max_real D h q
  exact delta_of h q (fun k => s_at H h q k) (fun k d => (congrFun (keep1_a4 V) _).trans (H.a4 k h d))
    (fun d => ((congrFun (keep1_v1 _) _).trans (v1_at h q d)).trans (H.a5 q h d)) hM
theorem pre_o (h : Fin 8) (r : Fin 16896) (d : Fin 128) :
    (StableHlo.after (preOps (F := Ideal)).flatten V (Proc.devRef .tc main_v60) (ix2 r (ocol h d)) : EReal) = (oslab D h r d : EReal) := by
  rw [pre_split]
  exact o_of (fun q h d => (congrFun (keep1_a5 V) _).trans (H.a5 q h d)) h r d

end Cert.KernelIdeal.Attn

end
-- ==== Proof.KRes.lean ====
/- The arrays that the call leaves are the gradients, packed as the slabs are. -/
module

public import proofs.«01_k».proof.Proof.PreB

@[expose] public section

set_option maxRecDepth 16384
set_option Elab.async false

noncomputable section

namespace Cert.KernelIdeal.Attn

open Cert.KernelIdeal Cert.KernelIdeal.Gen
open Idealize.ShloMosaic Idealize.ShloMosaic.TcCoe
open Cert.Attn

variable {D : Data} {V₀ : Dev nD → Valuation τ sig (Elt Ideal)} {c : Dev nD} {V : Valuation τ sig (Elt Ideal)}

theorem c1_val : c1 = ((1 / √192 : ℝ) : EReal) := by
  unfold c1
  rw [one_div]
  exact IdealRules.named_const.ideal_named_scalar _ _ _ _ rfl
theorem c2_val : c2 = ((1 / √192 * (1 / Real.log 2) : ℝ) : EReal) := by
  unfold c2
  rw [one_div, one_div]
  exact IdealRules.named_const.ideal_named_scalar _ _ _ _ rfl

/-- A row among the padded rows. -/
def up (q : Fin 16400) : Fin 16896 := ⟨q.val, by omega⟩

/-- Rows past the last hold nothing. -/
theorem sum_pad (f : Fin 16896 → ℝ) (h0 : ∀ r : Fin 16896, ¬ r.val < 16400 → f r = 0) : ∑ r, f r = ∑ q : Fin 16400, f (up q) := by
  rw [show (∑ r, f r) = ∑ r : Fin (16400 + 496), f r from rfl, Fin.sum_univ_add]
  rw [Finset.sum_eq_zero (s := Finset.univ) (f := fun i : Fin 496 => f (Fin.natAdd 16400 i)) (fun i _ => h0 _ (by show ¬ 16400 + i.val < 16400; omega)), add_zero]
  rfl

/-! The lanes of a head: its own, and the two rotary halves. -/

def nope (d : Fin 128) : Fin 256 := ⟨d.val, by omega⟩
def lo' (d : Fin 64) : Fin 256 := ⟨128 + d.val, by omega⟩
def hi' (d : Fin 64) : Fin 256 := ⟨192 + d.val, by omega⟩

theorem kslab_nope (h : Fin 8) (k : Fin 16400) (d : Fin 128) : kslab D h (up k) (nope d) = D.kn k h d := by
  unfold kslab
  rw [dif_pos (show (up k).val < 16400 from k.isLt), dif_pos (show (nope d).val < 128 from d.isLt)]
  rfl
theorem kslab_lo (h : Fin 8) (k : Fin 16400) (d : Fin 64) : kslab D h (up k) (lo' d) = D.kr k d := by
  unfold kslab
  rw [dif_pos (show (up k).val < 16400 from k.isLt), dif_neg (show ¬ (lo' d).val < 128 by show ¬ 128 + d.val < 128; omega),
    dif_pos (show (lo' d).val - 128 < 64 by show 128 + d.val - 128 < 64; omega)]
  congr 1
  exact Fin.ext (show 128 + d.val - 128 = d.val by omega)
theorem kslab_hi (h : Fin 8) (k : Fin 16400) (d : Fin 64) : kslab D h (up k) (hi' d) = D.kr k d := by
  unfold kslab
  rw [dif_pos (show (up k).val < 16400 from k.isLt), dif_neg (show ¬ (hi' d).val < 128 by show ¬ 192 + d.val < 128; omega),
    dif_neg (show ¬ (hi' d).val - 128 < 64 by show ¬ 192 + d.val - 128 < 64; omega)]
  congr 1
  exact Fin.ext (show 192 + d.val - 128 - 64 = d.val by omega)
theorem qslab_nope (h : Fin 8) (k : Fin 16400) (d : Fin 128) : qslab D h (up k) (nope d) = D.qn k h d := by
  unfold qslab
  rw [dif_pos (show (up k).val < 16400 from k.isLt), dif_pos (show (nope d).val < 128 from d.isLt)]
  rfl
theorem qslab_lo (h : Fin 8) (k : Fin 16400) (d : Fin 64) : qslab D h (up k) (lo' d) = if h.val % 2 = 0 then D.qr k h d else 0 := by
  unfold qslab
  rw [dif_pos (show (up k).val < 16400 from k.isLt), dif_neg (show ¬ (lo' d).val < 128 by show ¬ 128 + d.val < 128; omega),
    dif_pos (show (lo' d).val - 128 < 64 by show 128 + d.val - 128 < 64; omega)]
  congr 2
  exact Fin.ext (show 128 + d.val - 128 = d.val by omega)
theorem qslab_hi (h : Fin 8) (k : Fin 16400) (d : Fin 64) : qslab D h (up k) (hi' d) = if h.val % 2 = 0 then 0 else D.qr k h d := by
  unfold qslab
  rw [dif_pos (show (up k).val < 16400 from k.isLt), dif_neg (show ¬ (hi' d).val < 128 by show ¬ 192 + d.val < 128; omega),
    dif_neg (show ¬ (hi' d).val - 128 < 64 by show ¬ 192 + d.val - 128 < 64; omega)]
  congr 2
  exact Fin.ext (show 192 + d.val - 128 - 64 = d.val by omega)

theorem sum_lanes (f : Fin 256 → ℝ) : ∑ d, f d = ∑ d, f (nope d) + (∑ d, f (lo' d) + ∑ d, f (hi' d)) := by
  rw [show (∑ d, f d) = ∑ d : Fin (128 + (64 + 64)), f d from rfl, Fin.sum_univ_add, Fin.sum_univ_add]
  rfl

/-- The slabs' product is the score before its scaling. -/
theorem slab_dot (h : Fin 8) (q k : Fin 16400) : (∑ d : Fin 256, kslab D h (up k) d * qslab D h (up q) d) * (1 / √192) = sc D h q k := by
  rw [sum_lanes]
  simp only [kslab_nope, kslab_lo, kslab_hi, qslab_nope, qslab_lo, qslab_hi]
  unfold sc
  congr 2
  · exact Finset.sum_congr rfl fun d _ => mul_comm _ _
  · by_cases e : h.val % 2 = 0
    · simp only [e, if_true, mul_zero, Finset.sum_const_zero, add_zero]
    · simp only [e, if_false, mul_zero, Finset.sum_const_zero, zero_add]

variable (H : Holds D V) (e : V₀ c = StableHlo.after (preOps (F := Ideal)).flatten V)
include H e

theorem aQ_real (h : Fin 8) (r : Fin 16896) (d : Fin 256) : aQ V₀ c (ix3 h r d) = (qslab D h r d : EReal) := by
  unfold aQ; rw [e]; exact pre_q H h r d
theorem aK_real (h : Fin 8) (r : Fin 16896) (d : Fin 256) : aK V₀ c (ix3 h r d) = (kslab D h r d : EReal) := by
  unfold aK; rw [e]; exact pre_k H h r d
theorem aV_real (h : Fin 8) (r : Fin 16896) (d : Fin 128) : aV V₀ c (ix3 h r d) = (vslab D h r d : EReal) := by
  unfold aV; rw [e]; exact pre_v H h r d
theorem aO_real (h : Fin 8) (r : Fin 16896) (d : Fin 128) : aO V₀ c (ix2 r (ocol h d)) = (oslab D h r d : EReal) := by
  unfold aO; rw [e]; exact pre_o H h r d
theorem aL_real (h : Fin 8) (r : Fin 16896) : aL V₀ c (ix3 h 0 r) = (lslab D h r : EReal) := by
  unfold aL; rw [e]; exact pre_l H h r
theorem aD_real (h : Fin 8) (r : Fin 16896) : aD V₀ c (ix3 h 0 r) = (dslab D h r : EReal) := by
  unfold aD; rw [e]; exact pre_d H h r

theorem PT_real (h : Fin 8) (q k : Fin 16400) (hk : k ≤ q) : PT V₀ c h (up q) (up k) = (pp D h q k : EReal) := by
  unfold PT
  simp only [aK_real H e, aQ_real H e, aL_real H e, ← EReal.coe_mul, csum, c2_val]
  unfold lslab
  rw [dif_pos (show (up q).val < 16400 from q.isLt)]
  rw [EReal.coe_mul (∑ d, _)]
  exact weight2 D h q k hk (s := ∑ d, kslab D h (up k) d * qslab D h (up q) d) (slab_dot h q k)

theorem DS_real (h : Fin 8) (q k : Fin 16400) (hk : k ≤ q) : DS V₀ c h (up q) (up k) = (ds D h q k : EReal) := by
  unfold DS
  rw [PT_real H e h q k hk]
  simp only [aV_real H e, aO_real H e, aD_real H e, ← EReal.coe_mul, csum, c1_val, ← EReal.coe_sub]
  congr 1
  unfold ds gg vslab oslab dslab
  simp only [dif_pos (show (up q).val < 16400 from q.isLt), dif_pos (show (up k).val < 16400 from k.isLt)]
  congr 3
  exact Finset.sum_congr rfl fun d _ => mul_comm _ _

omit H e in
theorem pp_zero (h : Fin 8) (q k : Fin 16400) (hk : ¬ k ≤ q) : pp D h q k = 0 := by unfold pp ex; rw [if_neg hk, zero_div]

variable (D) in
omit H e in
/-- The weights over the padded rows, -/
def ppad (h : Fin 8) (R K : Fin 16896) : ℝ := if hR : R.val < 16400 then if hK : K.val < 16400 then pp D h ⟨R, hR⟩ ⟨K, hK⟩ else 0 else 0
variable (D) in
omit H e in
/-- and the scores' cotangents. -/
def dpad (h : Fin 8) (R K : Fin 16896) : ℝ := if hR : R.val < 16400 then if hK : K.val < 16400 then ds D h ⟨R, hR⟩ ⟨K, hK⟩ else 0 else 0

theorem DSm_real (h : Fin 8) (R K : Fin 16896) : DSm V₀ c h R K = (dpad D h R K : EReal) := by
  unfold DSm dpad
  by_cases hR : R.val < 16400
  · rw [dif_pos hR]
    by_cases hk : K.val ≤ R.val
    · rw [if_pos hk, dif_pos (show K.val < 16400 by omega)]
      exact DS_real H e h ⟨R, hR⟩ ⟨K, by omega⟩ hk
    · rw [if_neg hk]
      split
      · unfold ds
        rw [pp_zero _ _ _ hk, zero_mul, zero_mul, EReal.coe_zero]
      · rfl
  · rw [dif_neg hR]
    split
    · unfold DS
      simp only [aO_real H e, aD_real H e]
      unfold oslab dslab
      simp only [dif_neg hR, EReal.coe_zero, mul_zero, Finset.sum_const_zero, sub_zero, zero_mul]
    · rfl

theorem PTm_real (h : Fin 8) (R K : Fin 16896) (d : Fin 128) : PTm V₀ c h R K * aO V₀ c (ix2 R (ocol h d)) = ((ppad D h R K * oslab D h R d : ℝ) : EReal) := by
  rw [aO_real H e]
  unfold PTm ppad
  by_cases hR : R.val < 16400
  · rw [dif_pos hR]
    by_cases hk : K.val ≤ R.val
    · rw [if_pos hk, dif_pos (show K.val < 16400 by omega), EReal.coe_mul]
      exact congrArg (· * _) (PT_real H e h ⟨R, hR⟩ ⟨K, by omega⟩ hk)
    · rw [if_neg hk]
      split
      · rw [pp_zero _ _ _ hk, zero_mul, zero_mul, EReal.coe_zero]
      · rw [zero_mul, zero_mul, EReal.coe_zero]
  · unfold oslab
    rw [dif_neg hR, dif_neg hR, EReal.coe_zero, mul_zero, mul_zero, EReal.coe_zero]

/-- The queries' gradient at a real row, -/
theorem GQ_real (h : Fin 8) (q : Fin 16400) (d : Fin 256) :
    GQ V₀ c (ix3 h (up q) d) = ((∑ k : Fin 16400, ds D h q k * kslab D h (up k) d : ℝ) : EReal) := by
  show ∑ K : Fin 16896, DSm V₀ c h (up q) K * aK V₀ c (ix3 h K d) = _
  simp only [DSm_real H e, aK_real H e, ← EReal.coe_mul, csum]
  refine congrArg (fun x : ℝ => (x : EReal)) ?_
  rw [sum_pad _ fun r hr => by unfold kslab; rw [dif_neg hr, mul_zero]]
  refine Finset.sum_congr rfl fun k _ => ?_
  unfold dpad
  rw [dif_pos (show (up q).val < 16400 from q.isLt), dif_pos (show (up k).val < 16400 from k.isLt)]
  rfl
/-- the keys' -/
theorem GK_real (h : Fin 8) (k : Fin 16400) (d : Fin 256) :
    GK V₀ c (ix3 h (up k) d) = ((∑ q : Fin 16400, ds D h q k * qslab D h (up q) d : ℝ) : EReal) := by
  show ∑ R : Fin 16896, DSm V₀ c h R (up k) * aQ V₀ c (ix3 h R d) = _
  simp only [DSm_real H e, aQ_real H e, ← EReal.coe_mul, csum]
  refine congrArg (fun x : ℝ => (x : EReal)) ?_
  rw [sum_pad _ fun r hr => by unfold qslab; rw [dif_neg hr, mul_zero]]
  refine Finset.sum_congr rfl fun q _ => ?_
  unfold dpad
  rw [dif_pos (show (up q).val < 16400 from q.isLt), dif_pos (show (up k).val < 16400 from k.isLt)]
  rfl
/-- and the values'. -/
theorem GV_real (h : Fin 8) (k : Fin 16400) (d : Fin 128) :
    GV V₀ c (ix3 h (up k) d) = ((∑ q : Fin 16400, pp D h q k * D.o q h d : ℝ) : EReal) := by
  show ∑ R : Fin 16896, PTm V₀ c h R (up k) * aO V₀ c (ix2 R (ocol h d)) = _
  simp only [PTm_real H e, csum]
  refine congrArg (fun x : ℝ => (x : EReal)) ?_
  rw [sum_pad _ fun r hr => by unfold oslab; rw [dif_neg hr, mul_zero]]
  refine Finset.sum_congr rfl fun q _ => ?_
  unfold ppad oslab
  rw [dif_pos (show (up q).val < 16400 from q.isLt), dif_pos (show (up q).val < 16400 from q.isLt), dif_pos (show (up k).val < 16400 from k.isLt)]
  rfl

end Cert.KernelIdeal.Attn

end
-- ==== Proof.Post.lean ====
/- The host lines after the launch, read at an index. -/
module

public import proofs.«01_k».proof.Proof.PreA

@[expose] public section

set_option maxRecDepth 32768
set_option Elab.async false

noncomputable section

namespace Cert.KernelIdeal.Attn

open Cert.KernelIdeal Cert.KernelIdeal.Gen
open Idealize.ShloMosaic Idealize.ShloMosaic.TcCoe

/-- The lines that find the even heads, -/
abbrev lineP0 : List (HloOp τ sig (Elt Ideal)) := hostOps1 ++ (hostOps1_1 ++ hostOps1_2)
/-- and those that take the slabs apart. -/
abbrev lineP1 : List (HloOp τ sig (Elt Ideal)) := hostOps1_3 ++ hostOps1_4

theorem post_split (W : Valuation τ sig (Elt Ideal)) :
    StableHlo.after (postOps (F := Ideal)).flatten W = StableHlo.after lineP1 (StableHlo.after lineP0 W) := by
  rw [← StableHlo.after_append]
  rfl

variable (W : Valuation τ sig (Elt Ideal))

theorem v68_at (h : Fin 8) : (StableHlo.after lineP0 W (Proc.devRef .tc main_v68) (ix3 h 0 0) : BitVec 1) = if h.val % 2 = 0 then 1#1 else 0#1 := by
  after_reads_at
  revert h
  decide

theorem out0_at (q : Fin 16400) (h : Fin 8) (d : Fin 128) :
    (StableHlo.after lineP1 (StableHlo.after lineP0 W) (Proc.devRef .tc main_v77) (ix3 q h d) : EReal) = W (Proc.devRef .tc main_v61_0) (ix3 h ⟨q.val, by omega⟩ ⟨d.val, by omega⟩) := by
  after_reads_at

theorem out2_at (q : Fin 16400) (h : Fin 8) (d : Fin 128) :
    (StableHlo.after lineP1 (StableHlo.after lineP0 W) (Proc.devRef .tc main_v80) (ix3 q h d) : EReal) = W (Proc.devRef .tc main_v61_1) (ix3 h ⟨q.val, by omega⟩ ⟨d.val, by omega⟩) := by
  after_reads_at

theorem out4_at (q : Fin 16400) (h : Fin 8) (d : Fin 128) :
    (StableHlo.after lineP1 (StableHlo.after lineP0 W) (Proc.devRef .tc main_v81) (ix3 q h d) : EReal) = W (Proc.devRef .tc main_v61_2) (ix3 h ⟨q.val, by omega⟩ d) := by
  after_reads_at

/-- The two rotary halves of a head's keys, added. -/
def halves (q : Fin 16400) (d : Fin 64) (h : Fin 8) : EReal :=
  HAdd.hAdd (α := EReal) (β := EReal) (γ := EReal) (W (Proc.devRef .tc main_v61_1) (ix3 h ⟨q.val, by omega⟩ ⟨128 + d.val, by omega⟩))
    (W (Proc.devRef .tc main_v61_1) (ix3 h ⟨q.val, by omega⟩ ⟨192 + d.val, by omega⟩))

theorem out3_at (q : Fin 16400) (d : Fin 64) :
    (StableHlo.after lineP1 (StableHlo.after lineP0 W) (Proc.devRef .tc main_v75) (ix2 q d) : EReal) = ((∑ h : Fin 8, halves W q d h : EReal) : EReal) := by
  after_reads_at
  rfl

theorem out1_at1 (q : Fin 16400) (h : Fin 8) (d : Fin 64) :
    (StableHlo.after lineP1 W (Proc.devRef .tc main_v78) (ix3 q h d) : EReal) =
      Scalar.select (W (Proc.devRef .tc main_v68) (ix3 h 0 0)) (W (Proc.devRef .tc main_v69) (ix3 h q d)) (W (Proc.devRef .tc main_v70) (ix3 h q d)) := by
  after_reads_at

theorem v69_at (q : Fin 16400) (h : Fin 8) (d : Fin 64) :
    (StableHlo.after lineP0 W (Proc.devRef .tc main_v69) (ix3 h q d) : EReal) = W (Proc.devRef .tc main_v61_0) (ix3 h ⟨q.val, by omega⟩ ⟨128 + d.val, by omega⟩) := by
  after_reads_at
theorem v70_at (q : Fin 16400) (h : Fin 8) (d : Fin 64) :
    (StableHlo.after lineP0 W (Proc.devRef .tc main_v70) (ix3 h q d) : EReal) = W (Proc.devRef .tc main_v61_0) (ix3 h ⟨q.val, by omega⟩ ⟨192 + d.val, by omega⟩) := by
  after_reads_at

theorem out1_at (q : Fin 16400) (h : Fin 8) (d : Fin 64) :
    (StableHlo.after lineP1 (StableHlo.after lineP0 W) (Proc.devRef .tc main_v78) (ix3 q h d) : EReal) =
      if h.val % 2 = 0 then W (Proc.devRef .tc main_v61_0) (ix3 h ⟨q.val, by omega⟩ ⟨128 + d.val, by omega⟩)
      else W (Proc.devRef .tc main_v61_0) (ix3 h ⟨q.val, by omega⟩ ⟨192 + d.val, by omega⟩) :=
  (out1_at1 _ q h d).trans (((congr (congr (congrArg Scalar.select (v68_at W h)) (v69_at W q h d)) (v70_at W q h d))).trans (sel_even h _ _))

end Cert.KernelIdeal.Attn

end
-- ==== Proof.Out.lean ====
/- The kernel's results as real sums. -/
module

public import proofs.«01_k».proof.Proof.Arrays
public import proofs.«01_k».proof.Proof.KRes
public import proofs.«01_k».proof.Proof.Post
public import proofs.«01_k».proof.Proof.Run

@[expose] public section

set_option maxRecDepth 16384
set_option Elab.async false

noncomputable section

namespace Cert.KernelIdeal.Attn

open Cert.KernelIdeal Cert.KernelIdeal.Gen
open Idealize.ShloMosaic Idealize.ShloMosaic.TcCoe
open Cert.Attn

variable (m : (ℓ : Loc nD τ sig) → Buf (Elt Ideal) ℓ) (c : Dev nD)

/-- What every buffer holds when the call ends. -/
def Wmid : Valuation τ sig (Elt Ideal) :=
  Pipeline.withArrays spec0 c (Pipeline.withR (Ventry m c) {main_v61_0} c (Gdq (Ventry m) c)) fun w => (dats (Ventry m) 0 c).arrAt w (cfgA (F := Ideal)).N

theorem exit_eq : Vexit m c = StableHlo.after lineP1 (StableHlo.after lineP0 (Wmid m c)) := post_split (Wmid m c)

theorem inj0 : Function.Injective (Pipeline.arrRef spec0) := by decide +kernel

theorem mid_q : Wmid m c (Proc.devRef .tc main_v61_0) = GQ (Ventry m) c := by
  unfold Wmid
  rw [Pipeline.withArrays_of_ne spec0 c _ _ main_v61_0 (by decide +kernel), Pipeline.withR_of_mem _ _ c _ main_v61_0 (by decide +kernel), Gdq_self, g_last]
theorem mid_k : Wmid m c (Proc.devRef .tc main_v61_1) = GK (Ventry m) c :=
  (Pipeline.withArrays_arr spec0 inj0 c _ _ (6 : Fin 8)).trans (arr6 (Ventry m) c)
theorem mid_v : Wmid m c (Proc.devRef .tc main_v61_2) = GV (Ventry m) c :=
  (Pipeline.withArrays_arr spec0 inj0 c _ _ (7 : Fin 8)).trans (arr7 (Ventry m) c)

variable {m c} {D : Data} (H : Holds D (fun b => m (c, b)))
include H

theorem res0 (q : Fin 16400) (h : Fin 8) (d : Fin 128) :
    (Vexit m c (Proc.devRef .tc main_v77) (ix3 q h d) : EReal) = ((∑ k, ds D h q k * D.kn k h d : ℝ) : EReal) := by
  rw [exit_eq]
  refine (out0_at (Wmid m c) q h d).trans ((congrFun (mid_q m c) _).trans ((GQ_real H rfl h q (nope d)).trans ?_))
  simp only [kslab_nope]

theorem res1 (q : Fin 16400) (h : Fin 8) (d : Fin 64) :
    (Vexit m c (Proc.devRef .tc main_v78) (ix3 q h d) : EReal) = ((∑ k, ds D h q k * D.kr k d : ℝ) : EReal) := by
  rw [exit_eq]
  refine (out1_at (Wmid m c) q h d).trans ?_
  split
  · refine (congrFun (mid_q m c) _).trans ((GQ_real H rfl h q (lo' d)).trans ?_)
    simp only [kslab_lo]
  · refine (congrFun (mid_q m c) _).trans ((GQ_real H rfl h q (hi' d)).trans ?_)
    simp only [kslab_hi]

theorem res2 (k : Fin 16400) (h : Fin 8) (d : Fin 128) :
    (Vexit m c (Proc.devRef .tc main_v80) (ix3 k h d) : EReal) = ((∑ q, ds D h q k * D.qn q h d : ℝ) : EReal) := by
  rw [exit_eq]
  refine (out2_at (Wmid m c) k h d).trans ((congrFun (mid_k m c) _).trans ((GK_real H rfl h k (nope d)).trans ?_))
  simp only [qslab_nope]

theorem half_real (k : Fin 16400) (d : Fin 64) (h : Fin 8) : halves (Wmid m c) k d h = ((∑ q, ds D h q k * D.qr q h d : ℝ) : EReal) := by
  have e1 : (Wmid m c (Proc.devRef .tc main_v61_1) (ix3 h ⟨k.val, by omega⟩ ⟨128 + d.val, by omega⟩) : EReal) = _ := (congrFun (mid_k m c) _).trans (GK_real H rfl h k (lo' d))
  have e2 : (Wmid m c (Proc.devRef .tc main_v61_1) (ix3 h ⟨k.val, by omega⟩ ⟨192 + d.val, by omega⟩) : EReal) = _ := (congrFun (mid_k m c) _).trans (GK_real H rfl h k (hi' d))
  unfold halves
  refine (congr (congrArg (HAdd.hAdd (α := EReal) (β := EReal) (γ := EReal)) e1) e2).trans ?_
  rw [← EReal.coe_add]
  refine congrArg (fun x : ℝ => (x : EReal)) ?_
  simp only [qslab_lo, qslab_hi]
  by_cases hh : h.val % 2 = 0
  · simp only [hh, if_true, mul_zero, Finset.sum_const_zero, add_zero]
  · simp only [hh, if_false, mul_zero, Finset.sum_const_zero, zero_add]

theorem res3 (k : Fin 16400) (d : Fin 64) :
    (Vexit m c (Proc.devRef .tc main_v75) (ix2 k d) : EReal) = ((∑ h, ∑ q, ds D h q k * D.qr q h d : ℝ) : EReal) := by
  rw [exit_eq]
  exact (out3_at (Wmid m c) k d).trans ((Finset.sum_congr rfl fun h _ => half_real H k d h).trans (csum _ _))

theorem res4 (k : Fin 16400) (h : Fin 8) (d : Fin 128) :
    (Vexit m c (Proc.devRef .tc main_v81) (ix3 k h d) : EReal) = ((∑ q, D.o q h d * pp D h q k : ℝ) : EReal) := by
  rw [exit_eq]
  refine (out4_at (Wmid m c) k h d).trans ((congrFun (mid_v m c) _).trans ((GV_real H rfl h k d).trans ?_))
  simp only [mul_comm]

end Cert.KernelIdeal.Attn

end
-- ==== Proof.RefRead.lean ====
/- The reference's lines, stage by stage, read at an index as real numbers. -/
module

public import proofs.«01_k».proof.Proof.Gen.ReferenceIdeal.Run
public import proofs.«01_k».proof.Proof.PreA
public import Idealize.ShloMosaic.Lib.Pointwise
public import Idealize.ShloMosaic.Lib.StableHlo.ReadAt

@[expose] public section

set_option maxRecDepth 32768
set_option Elab.async false

noncomputable section

namespace Cert.ReferenceIdeal.Attn

open Cert.ReferenceIdeal Cert.ReferenceIdeal.Gen
open Idealize.ShloMosaic Idealize.ShloMosaic.TcCoe
open Cert.Attn
open Idealize.ShloMosaic.StableHlo

variable {F : FTy → Type} [FloatOps F]

/-- The masked scores. -/
abbrev opsA : List (HloOp τ sig (Elt F)) :=
  [ unary main_arg5 main_v0 ((extractStridedSlice S16400x1024 ![0, 0] · slices_S16400x2048_S16400x1024_0_0) : (⟨S16400x2048, .f32⟩ : BufTy).Contents (Elt F) → (⟨S16400x1024, .f32⟩ : BufTy).Contents (Elt F)),
    reshape main_v0 main_v1 (rfl : (.f32 : EltTy) = .f32) shapeCasts_S16400x1024_S16400x8x128,
    nullary main_v2 (iotaInDim S16400 32 0),
    binary main_arg0 main_arg2 main_v3 ((fun l r => Host.dotGeneral dot_S16400x8x128_S16400x8x128_S8x16400x16400_2_2_0_0_1_1 none l r) : (⟨S16400x8x128, .f32⟩ : BufTy).Contents (Elt F) → (⟨S16400x8x128, .f32⟩ : BufTy).Contents (Elt F) → (⟨S8x16400x16400, .f32⟩ : BufTy).Contents (Elt F)),
    binary main_arg3 main_arg1 main_v4 ((fun l r => Host.dotGeneral dot_S16400x64_S16400x8x64_S16400x16400x8_1_2_0_01_n_n none l r) : (⟨S16400x64, .f32⟩ : BufTy).Contents (Elt F) → (⟨S16400x8x64, .f32⟩ : BufTy).Contents (Elt F) → (⟨S16400x16400x8, .f32⟩ : BufTy).Contents (Elt F)),
    unary main_v4 main_v5 ((transpose S8x16400x16400 [2, 1, 0] · transposes_S16400x16400x8_S8x16400x16400_2_1_0) : (⟨S16400x16400x8, .f32⟩ : BufTy).Contents (Elt F) → (⟨S8x16400x16400, .f32⟩ : BufTy).Contents (Elt F)),
    binary main_v3 main_v5 main_v6 (addf : (⟨S8x16400x16400, .f32⟩ : BufTy).Contents (Elt F) → (⟨S8x16400x16400, .f32⟩ : BufTy).Contents (Elt F) → (⟨S8x16400x16400, .f32⟩ : BufTy).Contents (Elt F)),
    nullary main_cst (constant S_ .f32 0x43400000#32),
    unary main_cst main_v7 (Host.sqrt : (⟨S_, .f32⟩ : BufTy).Contents (Elt F) → (⟨S_, .f32⟩ : BufTy).Contents (Elt F)),
    unary main_v7 main_v8 (broadcastInDim S8x16400x16400 ![] bcast_S_S8x16400x16400 : (⟨S_, .f32⟩ : BufTy).Contents (Elt F) → (⟨S8x16400x16400, .f32⟩ : BufTy).Contents (Elt F)),
    binary main_v6 main_v8 main_v9 (Host.divf : (⟨S8x16400x16400, .f32⟩ : BufTy).Contents (Elt F) → (⟨S8x16400x16400, .f32⟩ : BufTy).Contents (Elt F) → (⟨S8x16400x16400, .f32⟩ : BufTy).Contents (Elt F)),
    unary main_v2 main_v10 (broadcastInDim S1x1x16400 ![2] bcast_S16400_S1x1x16400_2 : (⟨S16400, .i32⟩ : BufTy).Contents (Elt F) → (⟨S1x1x16400, .i32⟩ : BufTy).Contents (Elt F)),
    unary main_v2 main_v11 (broadcastInDim S1x16400x1 ![1] bcast_S16400_S1x16400x1_1 : (⟨S16400, .i32⟩ : BufTy).Contents (Elt F) → (⟨S1x16400x1, .i32⟩ : BufTy).Contents (Elt F)),
    unary main_v10 main_v12 (broadcastInDim S1x16400x16400 ![0, 1, 2] bcast_S1x1x16400_S1x16400x16400_0_1_2 : (⟨S1x1x16400, .i32⟩ : BufTy).Contents (Elt F) → (⟨S1x16400x16400, .i32⟩ : BufTy).Contents (Elt F)),
    unary main_v11 main_v13 (broadcastInDim S1x16400x16400 ![0, 1, 2] bcast_S1x16400x1_S1x16400x16400_0_1_2 : (⟨S1x16400x1, .i32⟩ : BufTy).Contents (Elt F) → (⟨S1x16400x16400, .i32⟩ : BufTy).Contents (Elt F)),
    binary main_v12 main_v13 main_v14 (cmpi .sle : (⟨S1x16400x16400, .i32⟩ : BufTy).Contents (Elt F) → (⟨S1x16400x16400, .i32⟩ : BufTy).Contents (Elt F) → (⟨S1x16400x16400, .i1⟩ : BufTy).Contents (Elt F)),
    nullary main_cst_0 (constant S_ .f32 0xFF800000#32),
    TRef.unary (TRef.of (T := ⟨S_, .f32⟩) main_cst_0) (TRef.of (T := ⟨S_, .f32⟩) main_call0_v0) id,
    TRef.unary (TRef.of (T := ⟨S1x16400x16400, .i1⟩) main_v14) (TRef.of (T := ⟨S8x16400x16400, .i1⟩) main_v15_1) (broadcastInDim S8x16400x16400 ![0, 1, 2] bcast_S1x16400x16400_S8x16400x16400_0_1_2),
    TRef.unary (TRef.of (T := ⟨S_, .f32⟩) main_call0_v0) (TRef.of (T := ⟨S8x16400x16400, .f32⟩) main_call0_v2) (broadcastInDim S8x16400x16400 ![] bcast_S_S8x16400x16400),
    TRef.ternary (TRef.of (T := ⟨S8x16400x16400, .i1⟩) main_v15_1) (TRef.of (T := ⟨S8x16400x16400, .f32⟩) main_v9) (TRef.of (T := ⟨S8x16400x16400, .f32⟩) main_call0_v2) (TRef.of (T := ⟨S8x16400x16400, .f32⟩) main_v15_0) select,
    TRef.nullary (TRef.of (T := ⟨S_, .f32⟩) main_call0_cst) (constant S_ .f32 0x00000000#32),
    TRef.unary (TRef.of (T := ⟨S_, .f32⟩) main_call0_cst) (TRef.of (T := ⟨S8x16400x16400, .f32⟩) main_v15_2) (broadcastInDim S8x16400x16400 ![] bcast_S_S8x16400x16400) ]

/-- The row's largest score. -/
abbrev opsB : List (HloOp τ sig (Elt F)) :=
  [ nullary main_cst_1 (constant S_ .f32 0xFF800000#32),
    binary main_v15_0 main_cst_1 main_v16 ((fun x v => Host.reduce FloatOps.maximumf x v reducesTo_S8x16400x16400_S8x16400_d2 h_S_) : (⟨S8x16400x16400, .f32⟩ : BufTy).Contents (Elt F) → (⟨S_, .f32⟩ : BufTy).Contents (Elt F) → (⟨S8x16400, .f32⟩ : BufTy).Contents (Elt F)) ]

/-- The score that is subtracted. -/
abbrev opsT : List (HloOp τ sig (Elt F)) :=
  [ reshape main_v16 main_v17 (rfl : (.f32 : EltTy) = .f32) shapeCasts_S8x16400_S8x16400x1,
    unary main_v17 main_v18 (broadcastInDim S8x16400x16400 ![0, 1, 2] bcast_S8x16400x1_S8x16400x16400_0_1_2 : (⟨S8x16400x1, .f32⟩ : BufTy).Contents (Elt F) → (⟨S8x16400x16400, .f32⟩ : BufTy).Contents (Elt F)),
    binary main_v15_0 main_v18 main_v19 (cmpf .oeq : (⟨S8x16400x16400, .f32⟩ : BufTy).Contents (Elt F) → (⟨S8x16400x16400, .f32⟩ : BufTy).Contents (Elt F) → (⟨S8x16400x16400, .i1⟩ : BufTy).Contents (Elt F)),
    unary main_v19 main_v20 (uitofp .f32 : (⟨S8x16400x16400, .i1⟩ : BufTy).Contents (Elt F) → (⟨S8x16400x16400, .f32⟩ : BufTy).Contents (Elt F)),
    nullary main_cst_2 (constant S_ .f32 0x00000000#32),
    binary main_v20 main_cst_2 main_v21 ((fun x v => Host.reduceAdd x v reducesTo_S8x16400x16400_S8x16400_d2 h_S_) : (⟨S8x16400x16400, .f32⟩ : BufTy).Contents (Elt F) → (⟨S_, .f32⟩ : BufTy).Contents (Elt F) → (⟨S8x16400, .f32⟩ : BufTy).Contents (Elt F)),
    nullary main_cst_3 (constant S_ .f32 0xFF800000#32),
    unary main_cst_3 main_v22 (broadcastInDim S8x16400 ![] bcast_S_S8x16400 : (⟨S_, .f32⟩ : BufTy).Contents (Elt F) → (⟨S8x16400, .f32⟩ : BufTy).Contents (Elt F)),
    binary main_v22 main_v16 main_v23 (maximumf : (⟨S8x16400, .f32⟩ : BufTy).Contents (Elt F) → (⟨S8x16400, .f32⟩ : BufTy).Contents (Elt F) → (⟨S8x16400, .f32⟩ : BufTy).Contents (Elt F)) ]

/-- The exponentials, their sum and the weights. -/
abbrev opsC : List (HloOp τ sig (Elt F)) :=
  [ nullary main_cst_4 (constant S_ .f32 0xFF800000#32),
    unary main_cst_4 main_v24 (broadcastInDim S8x16400 ![] bcast_S_S8x16400 : (⟨S_, .f32⟩ : BufTy).Contents (Elt F) → (⟨S8x16400, .f32⟩ : BufTy).Contents (Elt F)),
    binary main_v16 main_v24 main_v25 (cmpf .ogt : (⟨S8x16400, .f32⟩ : BufTy).Contents (Elt F) → (⟨S8x16400, .f32⟩ : BufTy).Contents (Elt F) → (⟨S8x16400, .i1⟩ : BufTy).Contents (Elt F)),
    nullary main_cst_5 (constant S_ .f32 0xFF800000#32),
    unary main_cst_5 main_v26 (broadcastInDim S8x16400 ![] bcast_S_S8x16400 : (⟨S_, .f32⟩ : BufTy).Contents (Elt F) → (⟨S8x16400, .f32⟩ : BufTy).Contents (Elt F)),
    binary main_v16 main_v26 main_v27 (cmpf .oeq : (⟨S8x16400, .f32⟩ : BufTy).Contents (Elt F) → (⟨S8x16400, .f32⟩ : BufTy).Contents (Elt F) → (⟨S8x16400, .i1⟩ : BufTy).Contents (Elt F)),
    nullary main_cst_6 (constant S_ .f32 0x3F800000#32),
    unary main_cst_6 main_v28 (broadcastInDim S8x16400 ![] bcast_S_S8x16400 : (⟨S_, .f32⟩ : BufTy).Contents (Elt F) → (⟨S8x16400, .f32⟩ : BufTy).Contents (Elt F)),
    nullary main_cst_7 (constant S_ .f32 0x00000000#32),
    unary main_cst_7 main_v29 (broadcastInDim S8x16400 ![] bcast_S_S8x16400 : (⟨S_, .f32⟩ : BufTy).Contents (Elt F) → (⟨S8x16400, .f32⟩ : BufTy).Contents (Elt F)),
    nullary main_cst_8 (constant S_ .f32 0x3F000000#32),
    unary main_cst_8 main_v30 (broadcastInDim S8x16400 ![] bcast_S_S8x16400 : (⟨S_, .f32⟩ : BufTy).Contents (Elt F) → (⟨S8x16400, .f32⟩ : BufTy).Contents (Elt F)),
    ternary main_v27 main_v30 main_v29 main_v31 (select : (⟨S8x16400, .i1⟩ : BufTy).Contents (Elt F) → (⟨S8x16400, .f32⟩ : BufTy).Contents (Elt F) → (⟨S8x16400, .f32⟩ : BufTy).Contents (Elt F) → (⟨S8x16400, .f32⟩ : BufTy).Contents (Elt F)),
    ternary main_v25 main_v28 main_v31 main_v32 (select : (⟨S8x16400, .i1⟩ : BufTy).Contents (Elt F) → (⟨S8x16400, .f32⟩ : BufTy).Contents (Elt F) → (⟨S8x16400, .f32⟩ : BufTy).Contents (Elt F) → (⟨S8x16400, .f32⟩ : BufTy).Contents (Elt F)),
    unary main_v23 main_v33 (broadcastInDim S8x16400x1 ![0, 1] bcast_S8x16400_S8x16400x1_0_1 : (⟨S8x16400, .f32⟩ : BufTy).Contents (Elt F) → (⟨S8x16400x1, .f32⟩ : BufTy).Contents (Elt F)),
    unary main_v33 main_v34 (broadcastInDim S8x16400x16400 ![0, 1, 2] bcast_S8x16400x1_S8x16400x16400_0_1_2 : (⟨S8x16400x1, .f32⟩ : BufTy).Contents (Elt F) → (⟨S8x16400x16400, .f32⟩ : BufTy).Contents (Elt F)),
    binary main_v15_0 main_v34 main_v35 (subf : (⟨S8x16400x16400, .f32⟩ : BufTy).Contents (Elt F) → (⟨S8x16400x16400, .f32⟩ : BufTy).Contents (Elt F) → (⟨S8x16400x16400, .f32⟩ : BufTy).Contents (Elt F)),
    unary main_v35 main_v36 (Host.exp : (⟨S8x16400x16400, .f32⟩ : BufTy).Contents (Elt F) → (⟨S8x16400x16400, .f32⟩ : BufTy).Contents (Elt F)),
    nullary main_cst_9 (constant S_ .f32 0x00000000#32),
    binary main_v36 main_cst_9 main_v37 ((fun x v => Host.reduceAdd x v reducesTo_S8x16400x16400_S8x16400_d2 h_S_) : (⟨S8x16400x16400, .f32⟩ : BufTy).Contents (Elt F) → (⟨S_, .f32⟩ : BufTy).Contents (Elt F) → (⟨S8x16400, .f32⟩ : BufTy).Contents (Elt F)),
    unary main_v37 main_v38 (broadcastInDim S8x16400x1 ![0, 1] bcast_S8x16400_S8x16400x1_0_1 : (⟨S8x16400, .f32⟩ : BufTy).Contents (Elt F) → (⟨S8x16400x1, .f32⟩ : BufTy).Contents (Elt F)),
    unary main_v38 main_v39 (broadcastInDim S8x16400x16400 ![0, 1, 2] bcast_S8x16400x1_S8x16400x16400_0_1_2 : (⟨S8x16400x1, .f32⟩ : BufTy).Contents (Elt F) → (⟨S8x16400x16400, .f32⟩ : BufTy).Contents (Elt F)),
    binary main_v36 main_v39 main_v40 (Host.divf : (⟨S8x16400x16400, .f32⟩ : BufTy).Contents (Elt F) → (⟨S8x16400x16400, .f32⟩ : BufTy).Contents (Elt F) → (⟨S8x16400x16400, .f32⟩ : BufTy).Contents (Elt F)),
    binary main_v38 main_v38 main_v41 (mulf : (⟨S8x16400x1, .f32⟩ : BufTy).Contents (Elt F) → (⟨S8x16400x1, .f32⟩ : BufTy).Contents (Elt F) → (⟨S8x16400x1, .f32⟩ : BufTy).Contents (Elt F)),
    nullary main_cst_10 (constant S_ .f32 0x3F800000#32),
    unary main_cst_10 main_v42 (broadcastInDim S8x16400x1 ![] bcast_S_S8x16400x1 : (⟨S_, .f32⟩ : BufTy).Contents (Elt F) → (⟨S8x16400x1, .f32⟩ : BufTy).Contents (Elt F)),
    binary main_v42 main_v41 main_v43 (Host.divf : (⟨S8x16400x1, .f32⟩ : BufTy).Contents (Elt F) → (⟨S8x16400x1, .f32⟩ : BufTy).Contents (Elt F) → (⟨S8x16400x1, .f32⟩ : BufTy).Contents (Elt F)) ]

/-- The weights' cotangents and the values' gradient. -/
abbrev opsD : List (HloOp τ sig (Elt F)) :=
  [ binary main_arg4 main_v40 main_v44 ((fun l r => Host.dotGeneral dot_S16400x8x128_S8x16400x16400_S8x128x16400_0_2_2_1_1_0 none l r) : (⟨S16400x8x128, .f32⟩ : BufTy).Contents (Elt F) → (⟨S8x16400x16400, .f32⟩ : BufTy).Contents (Elt F) → (⟨S8x128x16400, .f32⟩ : BufTy).Contents (Elt F)),
    unary main_v44 main_v45 ((transpose S16400x8x128 [2, 0, 1] · transposes_S8x128x16400_S16400x8x128_2_0_1) : (⟨S8x128x16400, .f32⟩ : BufTy).Contents (Elt F) → (⟨S16400x8x128, .f32⟩ : BufTy).Contents (Elt F)),
    unary main_v1 main_v46 ((transpose S8x128x16400 [1, 2, 0] · transposes_S16400x8x128_S8x128x16400_1_2_0) : (⟨S16400x8x128, .f32⟩ : BufTy).Contents (Elt F) → (⟨S8x128x16400, .f32⟩ : BufTy).Contents (Elt F)),
    binary main_v46 main_arg4 main_v47 ((fun l r => Host.dotGeneral dot_S8x128x16400_S16400x8x128_S8x16400x16400_1_2_2_0_0_1 none l r) : (⟨S8x128x16400, .f32⟩ : BufTy).Contents (Elt F) → (⟨S16400x8x128, .f32⟩ : BufTy).Contents (Elt F) → (⟨S8x16400x16400, .f32⟩ : BufTy).Contents (Elt F)),
    binary main_v46 main_v40 main_v48 ((fun l r => Host.dotGeneral dot_S8x128x16400_S8x16400x16400_S8x128x16400_2_1_1_2_0_0 none l r) : (⟨S8x128x16400, .f32⟩ : BufTy).Contents (Elt F) → (⟨S8x16400x16400, .f32⟩ : BufTy).Contents (Elt F) → (⟨S8x128x16400, .f32⟩ : BufTy).Contents (Elt F)),
    unary main_v48 main_v49 ((transpose S16400x8x128 [2, 0, 1] · transposes_S8x128x16400_S16400x8x128_2_0_1) : (⟨S8x128x16400, .f32⟩ : BufTy).Contents (Elt F) → (⟨S16400x8x128, .f32⟩ : BufTy).Contents (Elt F)) ]

/-- The scores' cotangents. -/
abbrev opsE : List (HloOp τ sig (Elt F)) :=
  [ unary main_v43 main_v50 (broadcastInDim S8x16400x16400 ![0, 1, 2] bcast_S8x16400x1_S8x16400x16400_0_1_2 : (⟨S8x16400x1, .f32⟩ : BufTy).Contents (Elt F) → (⟨S8x16400x16400, .f32⟩ : BufTy).Contents (Elt F)),
    binary main_v47 main_v50 main_v51 (mulf : (⟨S8x16400x16400, .f32⟩ : BufTy).Contents (Elt F) → (⟨S8x16400x16400, .f32⟩ : BufTy).Contents (Elt F) → (⟨S8x16400x16400, .f32⟩ : BufTy).Contents (Elt F)),
    binary main_v51 main_v36 main_v52 (mulf : (⟨S8x16400x16400, .f32⟩ : BufTy).Contents (Elt F) → (⟨S8x16400x16400, .f32⟩ : BufTy).Contents (Elt F) → (⟨S8x16400x16400, .f32⟩ : BufTy).Contents (Elt F)),
    nullary main_cst_11 (constant S_ .f32 0x00000000#32),
    binary main_v52 main_cst_11 main_v53 ((fun x v => Host.reduceAdd x v reducesTo_S8x16400x16400_S8x16400_d2 h_S_) : (⟨S8x16400x16400, .f32⟩ : BufTy).Contents (Elt F) → (⟨S_, .f32⟩ : BufTy).Contents (Elt F) → (⟨S8x16400, .f32⟩ : BufTy).Contents (Elt F)),
    reshape main_v53 main_v54 (rfl : (.f32 : EltTy) = .f32) shapeCasts_S8x16400_S8x16400x1,
    unary main_v54 main_v55 (Host.negf : (⟨S8x16400x1, .f32⟩ : BufTy).Contents (Elt F) → (⟨S8x16400x1, .f32⟩ : BufTy).Contents (Elt F)),
    unary main_v38 main_v56 (broadcastInDim S8x16400x16400 ![0, 1, 2] bcast_S8x16400x1_S8x16400x16400_0_1_2 : (⟨S8x16400x1, .f32⟩ : BufTy).Contents (Elt F) → (⟨S8x16400x16400, .f32⟩ : BufTy).Contents (Elt F)),
    binary main_v47 main_v56 main_v57 (Host.divf : (⟨S8x16400x16400, .f32⟩ : BufTy).Contents (Elt F) → (⟨S8x16400x16400, .f32⟩ : BufTy).Contents (Elt F) → (⟨S8x16400x16400, .f32⟩ : BufTy).Contents (Elt F)),
    nullary main_cst_12 (constant S_ .f32 0x00000000#32),
    binary main_v55 main_cst_12 main_v58 ((fun x v => Host.reduceAdd x v reducesTo_S8x16400x1_S8x16400_d2 h_S_) : (⟨S8x16400x1, .f32⟩ : BufTy).Contents (Elt F) → (⟨S_, .f32⟩ : BufTy).Contents (Elt F) → (⟨S8x16400, .f32⟩ : BufTy).Contents (Elt F)),
    unary main_v58 main_v59 (broadcastInDim S8x16400x16400 ![0, 1] bcast_S8x16400_S8x16400x16400_0_1 : (⟨S8x16400, .f32⟩ : BufTy).Contents (Elt F) → (⟨S8x16400x16400, .f32⟩ : BufTy).Contents (Elt F)),
    binary main_v57 main_v59 main_v60 (addf : (⟨S8x16400x16400, .f32⟩ : BufTy).Contents (Elt F) → (⟨S8x16400x16400, .f32⟩ : BufTy).Contents (Elt F) → (⟨S8x16400x16400, .f32⟩ : BufTy).Contents (Elt F)),
    binary main_v60 main_v36 main_v61 (mulf : (⟨S8x16400x16400, .f32⟩ : BufTy).Contents (Elt F) → (⟨S8x16400x16400, .f32⟩ : BufTy).Contents (Elt F) → (⟨S8x16400x16400, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S8x16400x16400, .f32⟩) main_call1_v0) (broadcastInDim S8x16400x16400 ![] bcast_S_S8x16400x16400),
    TRef.ternary (TRef.of (T := ⟨S8x16400x16400, .i1⟩) main_v15_1) (TRef.of (T := ⟨S8x16400x16400, .f32⟩) main_v61) (TRef.of (T := ⟨S8x16400x16400, .f32⟩) main_call1_v0) (TRef.of (T := ⟨S8x16400x16400, .f32⟩) main_v62) select,
    unary main_v7 main_v63 (broadcastInDim S8x16400x16400 ![] bcast_S_S8x16400x16400 : (⟨S_, .f32⟩ : BufTy).Contents (Elt F) → (⟨S8x16400x16400, .f32⟩ : BufTy).Contents (Elt F)),
    binary main_v62 main_v63 main_v64 (Host.divf : (⟨S8x16400x16400, .f32⟩ : BufTy).Contents (Elt F) → (⟨S8x16400x16400, .f32⟩ : BufTy).Contents (Elt F) → (⟨S8x16400x16400, .f32⟩ : BufTy).Contents (Elt F)) ]

/-- The products with them. -/
abbrev opsF : List (HloOp τ sig (Elt F)) :=
  [ unary main_v64 main_v65 ((transpose S16400x16400x8 [2, 1, 0] · transposes_S8x16400x16400_S16400x16400x8_2_1_0) : (⟨S8x16400x16400, .f32⟩ : BufTy).Contents (Elt F) → (⟨S16400x16400x8, .f32⟩ : BufTy).Contents (Elt F)),
    binary main_v65 main_arg3 main_v66 ((fun l r => Host.dotGeneral dot_S16400x16400x8_S16400x64_S16400x8x64_0_0_12_1_n_n none l r) : (⟨S16400x16400x8, .f32⟩ : BufTy).Contents (Elt F) → (⟨S16400x64, .f32⟩ : BufTy).Contents (Elt F) → (⟨S16400x8x64, .f32⟩ : BufTy).Contents (Elt F)),
    binary main_v65 main_arg1 main_v67 ((fun l r => Host.dotGeneral dot_S16400x16400x8_S16400x8x64_S16400x64_12_01_0_2_n_n none l r) : (⟨S16400x16400x8, .f32⟩ : BufTy).Contents (Elt F) → (⟨S16400x8x64, .f32⟩ : BufTy).Contents (Elt F) → (⟨S16400x64, .f32⟩ : BufTy).Contents (Elt F)),
    binary main_v64 main_arg0 main_v68 ((fun l r => Host.dotGeneral dot_S8x16400x16400_S16400x8x128_S8x16400x128_1_0_2_2_0_1 none l r) : (⟨S8x16400x16400, .f32⟩ : BufTy).Contents (Elt F) → (⟨S16400x8x128, .f32⟩ : BufTy).Contents (Elt F) → (⟨S8x16400x128, .f32⟩ : BufTy).Contents (Elt F)),
    unary main_v68 main_v69 ((transpose S16400x8x128 [1, 0, 2] · transposes_S8x16400x128_S16400x8x128_1_0_2) : (⟨S8x16400x128, .f32⟩ : BufTy).Contents (Elt F) → (⟨S16400x8x128, .f32⟩ : BufTy).Contents (Elt F)),
    binary main_v64 main_arg2 main_v70 ((fun l r => Host.dotGeneral dot_S8x16400x16400_S16400x8x128_S8x16400x128_2_0_1_2_0_1 none l r) : (⟨S8x16400x16400, .f32⟩ : BufTy).Contents (Elt F) → (⟨S16400x8x128, .f32⟩ : BufTy).Contents (Elt F) → (⟨S8x16400x128, .f32⟩ : BufTy).Contents (Elt F)),
    unary main_v70 main_v71 ((transpose S16400x8x128 [1, 0, 2] · transposes_S8x16400x128_S16400x8x128_1_0_2) : (⟨S8x16400x128, .f32⟩ : BufTy).Contents (Elt F) → (⟨S16400x8x128, .f32⟩ : BufTy).Contents (Elt F)) ]

theorem ops_split (V : Valuation τ sig (Elt Ideal)) :
    StableHlo.after (Value.ops (F := Ideal)) V =
      StableHlo.after (opsF (F := Ideal)) (StableHlo.after (opsE (F := Ideal)) (StableHlo.after (opsD (F := Ideal)) (StableHlo.after (opsC (F := Ideal)) (StableHlo.after (opsT (F := Ideal)) (StableHlo.after (opsB (F := Ideal)) (StableHlo.after (opsA (F := Ideal)) V)))))) := by
  rw [← StableHlo.after_append, ← StableHlo.after_append, ← StableHlo.after_append, ← StableHlo.after_append, ← StableHlo.after_append, ← StableHlo.after_append]
  rfl

/-- The arguments hold the attention's arrays. -/
structure Args (D : Data) (V : Valuation τ sig (Elt Ideal)) : Prop where
  a0 : ∀ (q : Fin 16400) (h : Fin 8) (d : Fin 128), (V (Proc.devRef .tc main_arg0) (ix3 q h d) : EReal) = (D.qn q h d : EReal)
  a1 : ∀ (q : Fin 16400) (h : Fin 8) (d : Fin 64), (V (Proc.devRef .tc main_arg1) (ix3 q h d) : EReal) = (D.qr q h d : EReal)
  a2 : ∀ (q : Fin 16400) (h : Fin 8) (d : Fin 128), (V (Proc.devRef .tc main_arg2) (ix3 q h d) : EReal) = (D.kn q h d : EReal)
  a3 : ∀ (q : Fin 16400) (d : Fin 64), (V (Proc.devRef .tc main_arg3) (ix2 q d) : EReal) = (D.kr q d : EReal)
  a4 : ∀ (q : Fin 16400) (h : Fin 8) (d : Fin 128), (V (Proc.devRef .tc main_arg4) (ix3 q h d) : EReal) = (D.v q h d : EReal)

theorem Args.after {D : Data} {V : Valuation τ sig (Elt Ideal)} (H : Args D V) (L : List (HloOp τ sig (Elt Ideal)))
    (h0 : StableHlo.after L V (Proc.devRef .tc main_arg0) = V (Proc.devRef .tc main_arg0))
    (h1 : StableHlo.after L V (Proc.devRef .tc main_arg1) = V (Proc.devRef .tc main_arg1))
    (h2 : StableHlo.after L V (Proc.devRef .tc main_arg2) = V (Proc.devRef .tc main_arg2))
    (h3 : StableHlo.after L V (Proc.devRef .tc main_arg3) = V (Proc.devRef .tc main_arg3))
    (h4 : StableHlo.after L V (Proc.devRef .tc main_arg4) = V (Proc.devRef .tc main_arg4)) : Args D (StableHlo.after L V) :=
  ⟨by rw [h0]; exact H.a0, by rw [h1]; exact H.a1, by rw [h2]; exact H.a2, by rw [h3]; exact H.a3, by rw [h4]; exact H.a4⟩

variable {D : Data} {V : Valuation τ sig (Elt Ideal)}

/-! ## The masked scores -/

theorem argsA (H : Args D V) : Args D (StableHlo.after (opsA (F := Ideal)) V) :=
  H.after _ (by after_reads_simp) (by after_reads_simp) (by after_reads_simp) (by after_reads_simp) (by after_reads_simp)
theorem argsB (H : Args D V) : Args D (StableHlo.after (opsB (F := Ideal)) V) :=
  H.after _ (by after_reads_simp) (by after_reads_simp) (by after_reads_simp) (by after_reads_simp) (by after_reads_simp)
theorem argsT (H : Args D V) : Args D (StableHlo.after (opsT (F := Ideal)) V) :=
  H.after _ (by after_reads_simp) (by after_reads_simp) (by after_reads_simp) (by after_reads_simp) (by after_reads_simp)
theorem argsC (H : Args D V) : Args D (StableHlo.after (opsC (F := Ideal)) V) :=
  H.after _ (by after_reads_simp) (by after_reads_simp) (by after_reads_simp) (by after_reads_simp) (by after_reads_simp)
theorem argsD (H : Args D V) : Args D (StableHlo.after (opsD (F := Ideal)) V) :=
  H.after _ (by after_reads_simp) (by after_reads_simp) (by after_reads_simp) (by after_reads_simp) (by after_reads_simp)
theorem argsE (H : Args D V) : Args D (StableHlo.after (opsE (F := Ideal)) V) :=
  H.after _ (by after_reads_simp) (by after_reads_simp) (by after_reads_simp) (by after_reads_simp) (by after_reads_simp)

theorem xx_at (H : Args D V) (h : Fin 8) (q k : Fin 16400) :
    (StableHlo.after (opsA (F := Ideal)) V (Proc.devRef .tc main_v15_0) (ix3 h q k) : EReal) = xx D h q k := by
  after_reads_at
  simp only [H.a0, H.a1, H.a2, H.a3, ← EReal.coe_mul, csum, ← EReal.coe_add, KernelIdeal.Attn.scale_real]
  unfold xx
  refine if_congr (KernelIdeal.Attn.sle_iff k q) ?_ KernelIdeal.Attn.bits_bot
  rfl

theorem mask_at (h : Fin 8) (q k : Fin 16400) :
    (StableHlo.after (opsA (F := Ideal)) V (Proc.devRef .tc main_v15_1) (ix3 h q k) : BitVec 1) = IntOp.cmpi .sle (BitVec.ofNat 32 k.val) (BitVec.ofNat 32 q.val) := by
  after_reads_at

theorem root_at : (StableHlo.after (opsA (F := Ideal)) V (Proc.devRef .tc main_v7) Idealize.ShloMosaic.ix0 : EReal) = Ideal.sqrt (Ideal.ofBits .f32 1128267776#32) := by
  after_reads_at

theorem ct_at (q : Fin 16400) (h : Fin 8) (d : Fin 128) :
    (StableHlo.after (opsA (F := Ideal)) V (Proc.devRef .tc main_v1) (ix3 q h d) : EReal) = V (Proc.devRef .tc main_arg5) (ix2 q ⟨h.val * 128 + d.val, by omega⟩) := by
  after_reads_at

/-! ## The softmax -/

theorem fold_at (hx : ∀ (h : Fin 8) (q k : Fin 16400), (V (Proc.devRef .tc main_v15_0) (ix3 h q k) : EReal) = xx D h q k) (h : Fin 8) (q : Fin 16400) :
    (StableHlo.after (opsB (F := Ideal)) V (Proc.devRef .tc main_v16) (ix2 h q) : EReal) = Finset.fold max ⊥ (xx D h q) Finset.univ := by
  after_reads_at
  simp only [hx]
  rw [KernelIdeal.Attn.bits_bot]

theorem top_at (h : Fin 8) (q : Fin 16400) :
    (StableHlo.after (opsT (F := Ideal)) V (Proc.devRef .tc main_v23) (ix2 h q) : EReal) = V (Proc.devRef .tc main_v16) (ix2 h q) := by
  after_reads_at
  rw [KernelIdeal.Attn.bits_bot]
  exact max_eq_right bot_le

theorem exp_at (hx : ∀ (h : Fin 8) (q k : Fin 16400), (V (Proc.devRef .tc main_v15_0) (ix3 h q k) : EReal) = xx D h q k)
    {M : Fin 8 → Fin 16400 → ℝ} (hM : ∀ (h : Fin 8) (q : Fin 16400), (V (Proc.devRef .tc main_v23) (ix2 h q) : EReal) = (M h q : EReal)) (h : Fin 8) (q k : Fin 16400) :
    (StableHlo.after (opsC (F := Ideal)) V (Proc.devRef .tc main_v36) (ix3 h q k) : EReal) = Ideal.exp (xx D h q k - (M h q : EReal)) := by
  after_reads_at
  simp only [hx, hM]

theorem sum_at (hx : ∀ (h : Fin 8) (q k : Fin 16400), (V (Proc.devRef .tc main_v15_0) (ix3 h q k) : EReal) = xx D h q k)
    {M : Fin 8 → Fin 16400 → ℝ} (hM : ∀ (h : Fin 8) (q : Fin 16400), (V (Proc.devRef .tc main_v23) (ix2 h q) : EReal) = (M h q : EReal)) (h : Fin 8) (q : Fin 16400) :
    (StableHlo.after (opsC (F := Ideal)) V (Proc.devRef .tc main_v38) (ix3 h q 0) : EReal) = ∑ k, Ideal.exp (xx D h q k - (M h q : EReal)) := by
  after_reads_at
  simp only [hx, hM]

theorem pp_at (hx : ∀ (h : Fin 8) (q k : Fin 16400), (V (Proc.devRef .tc main_v15_0) (ix3 h q k) : EReal) = xx D h q k)
    {M : Fin 8 → Fin 16400 → ℝ} (hM : ∀ (h : Fin 8) (q : Fin 16400), (V (Proc.devRef .tc main_v23) (ix2 h q) : EReal) = (M h q : EReal)) (h : Fin 8) (q k : Fin 16400) :
    (StableHlo.after (opsC (F := Ideal)) V (Proc.devRef .tc main_v40) (ix3 h q k) : EReal) = (pp D h q k : EReal) := by
  after_reads_at
  simp only [hx, hM]
  exact weight D h q k (M h q)

theorem inv_at (hx : ∀ (h : Fin 8) (q k : Fin 16400), (V (Proc.devRef .tc main_v15_0) (ix3 h q k) : EReal) = xx D h q k)
    {M : Fin 8 → Fin 16400 → ℝ} (hM : ∀ (h : Fin 8) (q : Fin 16400), (V (Proc.devRef .tc main_v23) (ix2 h q) : EReal) = (M h q : EReal)) (h : Fin 8) (q : Fin 16400) :
    (StableHlo.after (opsC (F := Ideal)) V (Proc.devRef .tc main_v43) (ix3 h q 0) : EReal) =
      Ideal.div ((1 : ℝ) : EReal) ((∑ k, Ideal.exp (xx D h q k - (M h q : EReal))) * (∑ k, Ideal.exp (xx D h q k - (M h q : EReal)))) := by
  after_reads_at
  simp only [hx, hM]
  rw [EReal.coe_one]

/-! ## The weights' cotangents -/

theorem gg_at (H : Args D V) (ho : ∀ (q : Fin 16400) (h : Fin 8) (d : Fin 128), (V (Proc.devRef .tc main_v1) (ix3 q h d) : EReal) = (D.o q h d : EReal)) (h : Fin 8) (q k : Fin 16400) :
    (StableHlo.after (opsD (F := Ideal)) V (Proc.devRef .tc main_v47) (ix3 h q k) : EReal) = (gg D h q k : EReal) := by
  after_reads_at
  simp only [H.a4, ho, ← EReal.coe_mul, csum]
  rfl

theorem dv_at (ho : ∀ (q : Fin 16400) (h : Fin 8) (d : Fin 128), (V (Proc.devRef .tc main_v1) (ix3 q h d) : EReal) = (D.o q h d : EReal))
    (hp : ∀ (h : Fin 8) (q k : Fin 16400), (V (Proc.devRef .tc main_v40) (ix3 h q k) : EReal) = (pp D h q k : EReal)) (k : Fin 16400) (h : Fin 8) (d : Fin 128) :
    (StableHlo.after (opsD (F := Ideal)) V (Proc.devRef .tc main_v49) (ix3 k h d) : EReal) = ((∑ q, D.o q h d * pp D h q k : ℝ) : EReal) := by
  after_reads_at
  simp only [ho, hp, ← EReal.coe_mul, csum]

/-! ## The scores' cotangents -/

theorem ds_at {M : Fin 8 → Fin 16400 → ℝ}
    (hg : ∀ (h : Fin 8) (q k : Fin 16400), (V (Proc.devRef .tc main_v47) (ix3 h q k) : EReal) = (gg D h q k : EReal))
    (he : ∀ (h : Fin 8) (q k : Fin 16400), (V (Proc.devRef .tc main_v36) (ix3 h q k) : EReal) = Ideal.exp (xx D h q k - (M h q : EReal)))
    (hs : ∀ (h : Fin 8) (q : Fin 16400), (V (Proc.devRef .tc main_v38) (ix3 h q 0) : EReal) = ∑ k, Ideal.exp (xx D h q k - (M h q : EReal)))
    (hi : ∀ (h : Fin 8) (q : Fin 16400), (V (Proc.devRef .tc main_v43) (ix3 h q 0) : EReal) =
      Ideal.div ((1 : ℝ) : EReal) ((∑ k, Ideal.exp (xx D h q k - (M h q : EReal))) * (∑ k, Ideal.exp (xx D h q k - (M h q : EReal)))))
    (hm : ∀ (h : Fin 8) (q k : Fin 16400), (V (Proc.devRef .tc main_v15_1) (ix3 h q k) : BitVec 1) = IntOp.cmpi .sle (BitVec.ofNat 32 k.val) (BitVec.ofNat 32 q.val))
    (hr : (V (Proc.devRef .tc main_v7) Idealize.ShloMosaic.ix0 : EReal) = Ideal.sqrt (Ideal.ofBits .f32 1128267776#32)) (h : Fin 8) (q k : Fin 16400) :
    (StableHlo.after (opsE (F := Ideal)) V (Proc.devRef .tc main_v64) (ix3 h q k) : EReal) = (ds D h q k : EReal) := by
  after_reads_at
  simp only [hg, he, hs, hi, hm, hr]
  simp only [Finset.univ_unique, Finset.sum_singleton]
  rw [soft D h q k (M h q)]
  by_cases hk : k ≤ q
  · rw [(KernelIdeal.Attn.sle_iff k q).2 hk]
    exact KernelIdeal.Attn.scale_real _
  · have z : ds D h q k = 0 := by unfold ds pp ex; rw [if_neg hk, zero_div, zero_mul, zero_mul]
    rw [z]
    refine (congrArg (Ideal.div · _) (if_neg fun e => hk ((KernelIdeal.Attn.sle_iff k q).1 e))).trans ?_
    exact (KernelIdeal.Attn.scale_real 0).trans (by rw [zero_mul])

/-! ## The products -/

variable (hd : ∀ (h : Fin 8) (q k : Fin 16400), (V (Proc.devRef .tc main_v64) (ix3 h q k) : EReal) = (ds D h q k : EReal)) (H : Args D V)
include hd H

theorem dqn_at (q : Fin 16400) (h : Fin 8) (d : Fin 128) :
    (StableHlo.after (opsF (F := Ideal)) V (Proc.devRef .tc main_v71) (ix3 q h d) : EReal) = ((∑ k, ds D h q k * D.kn k h d : ℝ) : EReal) := by
  after_reads_at
  simp only [hd, H.a2, ← EReal.coe_mul, csum]
theorem dqr_at (q : Fin 16400) (h : Fin 8) (d : Fin 64) :
    (StableHlo.after (opsF (F := Ideal)) V (Proc.devRef .tc main_v66) (ix3 q h d) : EReal) = ((∑ k, ds D h q k * D.kr k d : ℝ) : EReal) := by
  after_reads_at
  simp only [hd, H.a3, ← EReal.coe_mul, csum]
theorem dkn_at (k : Fin 16400) (h : Fin 8) (d : Fin 128) :
    (StableHlo.after (opsF (F := Ideal)) V (Proc.devRef .tc main_v69) (ix3 k h d) : EReal) = ((∑ q, ds D h q k * D.qn q h d : ℝ) : EReal) := by
  after_reads_at
  simp only [hd, H.a0, ← EReal.coe_mul, csum]
theorem dkr_at (k : Fin 16400) (d : Fin 64) :
    (StableHlo.after (opsF (F := Ideal)) V (Proc.devRef .tc main_v67) (ix2 k d) : EReal) = ((∑ h, ∑ q, ds D h q k * D.qr q h d : ℝ) : EReal) := by
  after_reads_at
  simp only [hd, H.a1, ← EReal.coe_mul, csum]
  rw [Finset.sum_comm]

end Cert.ReferenceIdeal.Attn

end
-- ==== Proof.RefRes.lean ====
/- The reference's results as real sums. -/
module

public import proofs.«01_k».proof.Proof.RefRead

@[expose] public section

set_option maxRecDepth 32768
set_option Elab.async false

noncomputable section

namespace Cert.ReferenceIdeal.Attn

open Cert.ReferenceIdeal Cert.ReferenceIdeal.Gen
open Idealize.ShloMosaic Idealize.ShloMosaic.TcCoe
open Cert.Attn

section
variable (W : Valuation τ sig (Elt Ideal))

/-! What a stage leaves alone. -/

theorem kB0 : StableHlo.after (opsB (F := Ideal)) W (Proc.devRef .tc main_v15_0) = W (Proc.devRef .tc main_v15_0) := by after_reads_simp
theorem kB1 : StableHlo.after (opsB (F := Ideal)) W (Proc.devRef .tc main_v15_1) = W (Proc.devRef .tc main_v15_1) := by after_reads_simp
theorem kB2 : StableHlo.after (opsB (F := Ideal)) W (Proc.devRef .tc main_v7) = W (Proc.devRef .tc main_v7) := by after_reads_simp
theorem kB3 : StableHlo.after (opsB (F := Ideal)) W (Proc.devRef .tc main_v1) = W (Proc.devRef .tc main_v1) := by after_reads_simp
theorem kT0 : StableHlo.after (opsT (F := Ideal)) W (Proc.devRef .tc main_v15_0) = W (Proc.devRef .tc main_v15_0) := by after_reads_simp
theorem kT1 : StableHlo.after (opsT (F := Ideal)) W (Proc.devRef .tc main_v15_1) = W (Proc.devRef .tc main_v15_1) := by after_reads_simp
theorem kT2 : StableHlo.after (opsT (F := Ideal)) W (Proc.devRef .tc main_v7) = W (Proc.devRef .tc main_v7) := by after_reads_simp
theorem kT3 : StableHlo.after (opsT (F := Ideal)) W (Proc.devRef .tc main_v1) = W (Proc.devRef .tc main_v1) := by after_reads_simp
theorem kC1 : StableHlo.after (opsC (F := Ideal)) W (Proc.devRef .tc main_v15_1) = W (Proc.devRef .tc main_v15_1) := by after_reads_simp
theorem kC2 : StableHlo.after (opsC (F := Ideal)) W (Proc.devRef .tc main_v7) = W (Proc.devRef .tc main_v7) := by after_reads_simp
theorem kC3 : StableHlo.after (opsC (F := Ideal)) W (Proc.devRef .tc main_v1) = W (Proc.devRef .tc main_v1) := by after_reads_simp
theorem kD1 : StableHlo.after (opsD (F := Ideal)) W (Proc.devRef .tc main_v15_1) = W (Proc.devRef .tc main_v15_1) := by after_reads_simp
theorem kD2 : StableHlo.after (opsD (F := Ideal)) W (Proc.devRef .tc main_v7) = W (Proc.devRef .tc main_v7) := by after_reads_simp
theorem kD3 : StableHlo.after (opsD (F := Ideal)) W (Proc.devRef .tc main_v36) = W (Proc.devRef .tc main_v36) := by after_reads_simp
theorem kD4 : StableHlo.after (opsD (F := Ideal)) W (Proc.devRef .tc main_v38) = W (Proc.devRef .tc main_v38) := by after_reads_simp
theorem kD5 : StableHlo.after (opsD (F := Ideal)) W (Proc.devRef .tc main_v43) = W (Proc.devRef .tc main_v43) := by after_reads_simp
theorem kE0 : StableHlo.after (opsE (F := Ideal)) W (Proc.devRef .tc main_v49) = W (Proc.devRef .tc main_v49) := by after_reads_simp
theorem kF0 : StableHlo.after (opsF (F := Ideal)) W (Proc.devRef .tc main_v49) = W (Proc.devRef .tc main_v49) := by after_reads_simp

/-! What no line writes. -/

theorem kept0 : StableHlo.after (Value.ops (F := Ideal)) W (Proc.devRef .tc main_arg0) = W (Proc.devRef .tc main_arg0) := by after_reads_simp
theorem kept1 : StableHlo.after (Value.ops (F := Ideal)) W (Proc.devRef .tc main_arg1) = W (Proc.devRef .tc main_arg1) := by after_reads_simp
theorem kept2 : StableHlo.after (Value.ops (F := Ideal)) W (Proc.devRef .tc main_arg2) = W (Proc.devRef .tc main_arg2) := by after_reads_simp
theorem kept3 : StableHlo.after (Value.ops (F := Ideal)) W (Proc.devRef .tc main_arg3) = W (Proc.devRef .tc main_arg3) := by after_reads_simp
theorem kept4 : StableHlo.after (Value.ops (F := Ideal)) W (Proc.devRef .tc main_arg4) = W (Proc.devRef .tc main_arg4) := by after_reads_simp
theorem kept5 : StableHlo.after (Value.ops (F := Ideal)) W (Proc.devRef .tc main_arg5) = W (Proc.devRef .tc main_arg5) := by after_reads_simp
end

variable {D : Data}

/-- After the products' stage. -/
structure Done (D : Data) (W : Valuation τ sig (Elt Ideal)) : Prop where
  r0 : ∀ (q : Fin 16400) (h : Fin 8) (d : Fin 128), (W (Proc.devRef .tc main_v71) (ix3 q h d) : EReal) = ((∑ k, ds D h q k * D.kn k h d : ℝ) : EReal)
  r1 : ∀ (q : Fin 16400) (h : Fin 8) (d : Fin 64), (W (Proc.devRef .tc main_v66) (ix3 q h d) : EReal) = ((∑ k, ds D h q k * D.kr k d : ℝ) : EReal)
  r2 : ∀ (k : Fin 16400) (h : Fin 8) (d : Fin 128), (W (Proc.devRef .tc main_v69) (ix3 k h d) : EReal) = ((∑ q, ds D h q k * D.qn q h d : ℝ) : EReal)
  r3 : ∀ (k : Fin 16400) (d : Fin 64), (W (Proc.devRef .tc main_v67) (ix2 k d) : EReal) = ((∑ h, ∑ q, ds D h q k * D.qr q h d : ℝ) : EReal)
  r4 : ∀ (k : Fin 16400) (h : Fin 8) (d : Fin 128), (W (Proc.devRef .tc main_v49) (ix3 k h d) : EReal) = ((∑ q, D.o q h d * pp D h q k : ℝ) : EReal)

variable {W : Valuation τ sig (Elt Ideal)} {M : Fin 8 → Fin 16400 → ℝ} (H : Args D W)
include H

theorem doneF (hd : ∀ (h : Fin 8) (q k : Fin 16400), (W (Proc.devRef .tc main_v64) (ix3 h q k) : EReal) = (ds D h q k : EReal))
    (hv : ∀ (k : Fin 16400) (h : Fin 8) (d : Fin 128), (W (Proc.devRef .tc main_v49) (ix3 k h d) : EReal) = ((∑ q, D.o q h d * pp D h q k : ℝ) : EReal)) :
    Done D (StableHlo.after (opsF (F := Ideal)) W) :=
  ⟨dqn_at hd H, dqr_at hd H, dkn_at hd H, dkr_at hd H, by rw [kF0]; exact hv⟩

theorem doneC (hx : ∀ (h : Fin 8) (q k : Fin 16400), (W (Proc.devRef .tc main_v15_0) (ix3 h q k) : EReal) = xx D h q k)
    (hM : ∀ (h : Fin 8) (q : Fin 16400), (W (Proc.devRef .tc main_v23) (ix2 h q) : EReal) = (M h q : EReal))
    (hm : ∀ (h : Fin 8) (q k : Fin 16400), (W (Proc.devRef .tc main_v15_1) (ix3 h q k) : BitVec 1) = IntOp.cmpi .sle (BitVec.ofNat 32 k.val) (BitVec.ofNat 32 q.val))
    (hr : (W (Proc.devRef .tc main_v7) Idealize.ShloMosaic.ix0 : EReal) = Ideal.sqrt (Ideal.ofBits .f32 1128267776#32))
    (ho : ∀ (q : Fin 16400) (h : Fin 8) (d : Fin 128), (W (Proc.devRef .tc main_v1) (ix3 q h d) : EReal) = (D.o q h d : EReal)) :
    Done D (StableHlo.after (opsF (F := Ideal)) (StableHlo.after (opsE (F := Ideal)) (StableHlo.after (opsD (F := Ideal)) (StableHlo.after (opsC (F := Ideal)) W)))) := by
  have a := argsC H
  have x1 := exp_at (D := D) hx hM
  have x2 := sum_at (D := D) hx hM
  have x3 := pp_at (D := D) hx hM
  have x4 := inv_at (D := D) hx hM
  have m : ∀ (h : Fin 8) (q k : Fin 16400), (StableHlo.after (opsC (F := Ideal)) W (Proc.devRef .tc main_v15_1) (ix3 h q k) : BitVec 1) =
      IntOp.cmpi .sle (BitVec.ofNat 32 k.val) (BitVec.ofNat 32 q.val) := by rw [kC1]; exact hm
  have r : (StableHlo.after (opsC (F := Ideal)) W (Proc.devRef .tc main_v7) Idealize.ShloMosaic.ix0 : EReal) = Ideal.sqrt (Ideal.ofBits .f32 1128267776#32) := by rw [kC2]; exact hr
  have o : ∀ (q : Fin 16400) (h : Fin 8) (d : Fin 128), (StableHlo.after (opsC (F := Ideal)) W (Proc.devRef .tc main_v1) (ix3 q h d) : EReal) = (D.o q h d : EReal) := by rw [kC3]; exact ho
  revert a x1 x2 x3 x4 m r o
  generalize StableHlo.after (opsC (F := Ideal)) W = U
  intro a x1 x2 x3 x4 m r o
  have b := argsD a
  have g := gg_at a o
  have v := dv_at (D := D) o x3
  rw [← kD1 U] at m
  rw [← kD2 U] at r
  rw [← kD3 U] at x1
  rw [← kD4 U] at x2
  rw [← kD5 U] at x4
  revert b g v m r x1 x2 x4
  generalize StableHlo.after (opsD (F := Ideal)) U = T
  intro x1 x2 x4 m r b g v
  have s := ds_at (D := D) g x1 x2 x4 m r
  have w : ∀ (k : Fin 16400) (h : Fin 8) (d : Fin 128), (StableHlo.after (opsE (F := Ideal)) T (Proc.devRef .tc main_v49) (ix3 k h d) : EReal) = ((∑ q, D.o q h d * pp D h q k : ℝ) : EReal) := by
    rw [kE0]; exact v
  exact doneF (argsE b) s w

theorem done (ho : ∀ (q : Fin 16400) (h : Fin 8) (d : Fin 128), (W (Proc.devRef .tc main_arg5) (ix2 q ⟨h.val * 128 + d.val, by omega⟩) : EReal) = (D.o q h d : EReal)) :
    Done D (StableHlo.after (Value.ops (F := Ideal)) W) := by
  rw [ops_split]
  have a := argsA H
  have x := xx_at H
  have k := mask_at (V := W)
  have r := root_at (V := W)
  have o := fun q h d => (ct_at (V := W) q h d).trans (ho q h d)
  revert a x k r o
  generalize StableHlo.after (opsA (F := Ideal)) W = U
  intro a x k r o
  have b := argsB a
  have f := fold_at (D := D) x
  rw [← kB0 U] at x
  rw [← kB1 U] at k
  rw [← kB2 U] at r
  rw [← kB3 U] at o
  revert b f x k r o
  generalize StableHlo.after (opsB (F := Ideal)) U = T
  intro x k r o b f
  choose M hM using max_real D
  have g : ∀ (h : Fin 8) (q : Fin 16400), (StableHlo.after (opsT (F := Ideal)) T (Proc.devRef .tc main_v23) (ix2 h q) : EReal) = (M h q : EReal) :=
    fun h q => (top_at (V := T) h q).trans ((f h q).trans (hM h q))
  rw [← kT0 T] at x
  rw [← kT1 T] at k
  rw [← kT2 T] at r
  rw [← kT3 T] at o
  exact doneC (argsT b) x g k r o

end Cert.ReferenceIdeal.Attn

end
-- ==== Proof.More.lean ====
/- The frames of the further calls. -/
module

public import proofs.«01_k».proof.Defs
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Reference9Ideal.Run
public import proofs.«01_k».proof.Proof.Gen.Kernel10.Frame
public import proofs.«01_k».proof.Proof.Gen.Kernel10Ideal.Frame
public import proofs.«01_k».proof.Proof.Gen.Reference10Ideal.Run
public import proofs.«01_k».proof.Proof.Gen.Kernel11.Frame
public import proofs.«01_k».proof.Proof.Gen.Kernel11Ideal.Frame
public import proofs.«01_k».proof.Proof.Gen.Reference11Ideal.Run

@[expose] public section

set_option maxRecDepth 16384
set_option Elab.async false

noncomputable section

namespace Cert.More

open Idealize.ShloMosaic Idealize.SL.Sem

theorem kernel2 : Cert.quiescent_Kernel2 (hKernel2 := Cert.Kernel2.Gen.facts) := fun m g _ =>
  Cert.Kernel2.Gen.frame m g
theorem ideal2 : Cert.quiescent_Kernel2Ideal (hKernel2Ideal := Cert.Kernel2Ideal.Gen.facts) := fun m g _ => Cert.Kernel2Ideal.Gen.frame m g
theorem reference2 : Cert.quiescent_Reference2Ideal (hReference2Ideal := Cert.Reference2Ideal.Gen.facts) := fun m g _ =>
  (θ_run _ _ _).mono (fun r h => ⟨fun c => (h c).2, sem_eq_zero_of_no_sems (by decide) r.2⟩) (Cert.Reference2Ideal.Value.run m g)

theorem kernel3 : Cert.quiescent_Kernel3 (hKernel3 := Cert.Kernel3.Gen.facts) := fun m g _ =>
  Cert.Kernel3.Gen.frame m g
theorem ideal3 : Cert.quiescent_Kernel3Ideal (hKernel3Ideal := Cert.Kernel3Ideal.Gen.facts) := fun m g _ => Cert.Kernel3Ideal.Gen.frame m g
theorem reference3 : Cert.quiescent_Reference3Ideal (hReference3Ideal := Cert.Reference3Ideal.Gen.facts) := fun m g _ =>
  (θ_run _ _ _).mono (fun r h => ⟨fun c => (h c).2, sem_eq_zero_of_no_sems (by decide) r.2⟩) (Cert.Reference3Ideal.Value.run m g)

theorem kernel4 : Cert.quiescent_Kernel4 (hKernel4 := Cert.Kernel4.Gen.facts) := fun m g _ =>
  Cert.Kernel4.Gen.frame m g
theorem ideal4 : Cert.quiescent_Kernel4Ideal (hKernel4Ideal := Cert.Kernel4Ideal.Gen.facts) := fun m g _ => Cert.Kernel4Ideal.Gen.frame m g
theorem reference4 : Cert.quiescent_Reference4Ideal (hReference4Ideal := Cert.Reference4Ideal.Gen.facts) := fun m g _ =>
  (θ_run _ _ _).mono (fun r h => ⟨fun c => (h c).2, sem_eq_zero_of_no_sems (by decide) r.2⟩) (Cert.Reference4Ideal.Value.run m g)

theorem kernel5 : Cert.quiescent_Kernel5 (hKernel5 := Cert.Kernel5.Gen.facts) := fun m g _ =>
  Cert.Kernel5.Gen.frame m g
theorem ideal5 : Cert.quiescent_Kernel5Ideal (hKernel5Ideal := Cert.Kernel5Ideal.Gen.facts) := fun m g _ => Cert.Kernel5Ideal.Gen.frame m g
theorem reference5 : Cert.quiescent_Reference5Ideal (hReference5Ideal := Cert.Reference5Ideal.Gen.facts) := fun m g _ =>
  (θ_run _ _ _).mono (fun r h => ⟨fun c => (h c).2, sem_eq_zero_of_no_sems (by decide) r.2⟩) (Cert.Reference5Ideal.Value.run m g)

theorem kernel6 : Cert.quiescent_Kernel6 (hKernel6 := Cert.Kernel6.Gen.facts) := fun m g _ =>
  Cert.Kernel6.Gen.frame m g
theorem ideal6 : Cert.quiescent_Kernel6Ideal (hKernel6Ideal := Cert.Kernel6Ideal.Gen.facts) := fun m g _ => Cert.Kernel6Ideal.Gen.frame m g
theorem reference6 : Cert.quiescent_Reference6Ideal (hReference6Ideal := Cert.Reference6Ideal.Gen.facts) := fun m g _ =>
  (θ_run _ _ _).mono (fun r h => ⟨fun c => (h c).2.2.2, sem_eq_zero_of_no_sems (by decide) r.2⟩) (Cert.Reference6Ideal.Value.run m g)

theorem kernel7 : Cert.quiescent_Kernel7 (hKernel7 := Cert.Kernel7.Gen.facts) := fun m g _ =>
  Cert.Kernel7.Gen.frame m g
theorem ideal7 : Cert.quiescent_Kernel7Ideal (hKernel7Ideal := Cert.Kernel7Ideal.Gen.facts) := fun m g _ => Cert.Kernel7Ideal.Gen.frame m g
theorem reference7 : Cert.quiescent_Reference7Ideal (hReference7Ideal := Cert.Reference7Ideal.Gen.facts) := fun m g _ =>
  (θ_run _ _ _).mono (fun r h => ⟨fun c => (h c).2.2.2, sem_eq_zero_of_no_sems (by decide) r.2⟩) (Cert.Reference7Ideal.Value.run m g)

theorem kernel8 : Cert.quiescent_Kernel8 (hKernel8 := Cert.Kernel8.Gen.facts) := fun m g _ =>
  Cert.Kernel8.Gen.frame m g
theorem ideal8 : Cert.quiescent_Kernel8Ideal (hKernel8Ideal := Cert.Kernel8Ideal.Gen.facts) := fun m g _ => Cert.Kernel8Ideal.Gen.frame m g
theorem reference8 : Cert.quiescent_Reference8Ideal (hReference8Ideal := Cert.Reference8Ideal.Gen.facts) := fun m g _ =>
  (θ_run _ _ _).mono (fun r h => ⟨fun c => (h c).2.2.2, sem_eq_zero_of_no_sems (by decide) r.2⟩) (Cert.Reference8Ideal.Value.run m g)

theorem kernel9 : Cert.quiescent_Kernel9 (hKernel9 := Cert.Kernel9.Gen.facts) := fun m g _ =>
  Cert.Kernel9.Gen.frame m g
theorem ideal9 : Cert.quiescent_Kernel9Ideal (hKernel9Ideal := Cert.Kernel9Ideal.Gen.facts) := fun m g _ => Cert.Kernel9Ideal.Gen.frame m g
theorem reference9 : Cert.quiescent_Reference9Ideal (hReference9Ideal := Cert.Reference9Ideal.Gen.facts) := fun m g _ =>
  (θ_run _ _ _).mono (fun r h => ⟨fun c => (h c).2.2.2, sem_eq_zero_of_no_sems (by decide) r.2⟩) (Cert.Reference9Ideal.Value.run m g)

theorem kernel10 : Cert.quiescent_Kernel10 (hKernel10 := Cert.Kernel10.Gen.facts) := fun m g _ =>
  Cert.Kernel10.Gen.frame m g
theorem ideal10 : Cert.quiescent_Kernel10Ideal (hKernel10Ideal := Cert.Kernel10Ideal.Gen.facts) := fun m g _ => Cert.Kernel10Ideal.Gen.frame m g
theorem reference10 : Cert.quiescent_Reference10Ideal (hReference10Ideal := Cert.Reference10Ideal.Gen.facts) := fun m g _ =>
  (θ_run _ _ _).mono (fun r h => ⟨fun c => (h c).2.2.2, sem_eq_zero_of_no_sems (by decide) r.2⟩) (Cert.Reference10Ideal.Value.run m g)
theorem kernel11 : Cert.quiescent_Kernel11 (hKernel11 := Cert.Kernel11.Gen.facts) := fun m g _ =>
  Cert.Kernel11.Gen.frame m g
theorem ideal11 : Cert.quiescent_Kernel11Ideal (hKernel11Ideal := Cert.Kernel11Ideal.Gen.facts) := fun m g _ => Cert.Kernel11Ideal.Gen.frame m g
theorem reference11 : Cert.quiescent_Reference11Ideal (hReference11Ideal := Cert.Reference11Ideal.Gen.facts) := fun m g _ =>
  (θ_run _ _ _).mono (fun r h => ⟨fun c => (h c).2.2.2.2.2.2.2.2.2.2.2.2.2.2.2.2.2.2.2.2.2.2.2.2.2.2.2.2.2.2.2.2.2.2.2.2.2.2.2, sem_eq_zero_of_no_sems (by decide) r.2⟩) (Cert.Reference11Ideal.Value.run m g)

end Cert.More
-- ==== Proof.Dense.lean ====
/- Sums over blocks of rows, re-gathered: what the products of the MLP's backward pass need. -/
module

public import Idealize.ShloMosaic.Lib.Pipeline.Value
public import Idealize.ShloMosaic.Lib.Pointwise
public import Idealize.ShloMosaic.PureOps.Ideal

@[expose] public section

set_option Elab.async false

noncomputable section

namespace Cert.Dense

/-- A sum over `n` blocks of `b` rows is the sum over all `n * b` rows, -/
theorem sum_blocks (n b : ℕ) (f : ℕ → EReal) : ∑ s ∈ Finset.range n, ∑ k : Fin b, f (b * s + k.val) = ∑ r ∈ Finset.range (b * n), f r := by
  induction n with
  | zero => simp
  | succ n ih =>
    rw [Finset.sum_range_succ, ih, Nat.mul_succ, Finset.sum_range_add, ← Fin.sum_univ_eq_sum_range (fun k => f (b * n + k)) b]

/-- and rows past the `r`-th whose terms are zero add nothing: eleven blocks of 1536 rows over the first 16400. -/
theorem sum_rows (f : ℕ → EReal) (h0 : ∀ r, 16400 ≤ r → f r = 0) :
    ∑ s ∈ Finset.range 11, ∑ k : Fin 1536, f (1536 * s + k.val) = ∑ r : Fin 16400, f r.val := by
  rw [sum_blocks 11 1536 f, Fin.sum_univ_eq_sum_range f 16400]
  symm
  refine Finset.sum_subset (Finset.range_subset_range.mpr (by norm_num)) fun r _ hr => h0 r ?_
  simpa using hr

/-- What one point adds to an entry of a product: its block of 1536 rows, `q` the number of the entry's block. -/
def part (X Y : ℕ → EReal) (q s : ℕ) : EReal := ∑ k : Fin 1536, X (1536 * (s - 11 * q) + k.val) * Y (1536 * (s - 11 * q) + k.val)

/-- The eleven points of a block add the whole product. -/
theorem sum_parts (X Y : ℕ → EReal) (h0 : ∀ r, 16400 ≤ r → X r = 0) (q : ℕ) :
    ∑ s ∈ Finset.range 11, part X Y q (11 * q + s) = ∑ r : Fin 16400, X r.val * Y r.val := by
  rw [← sum_rows (fun r => X r * Y r) fun r h => by show X r * Y r = 0; rw [h0 r h, zero_mul]]
  refine Finset.sum_congr rfl fun s _ => ?_
  unfold part
  rw [Nat.add_sub_cancel_left]

end Cert.Dense
-- ==== Proof.Down.lean ====
/- The gradient of the MLP's last matrix: the call's blocked sum over rows is the whole product. -/
module

public import proofs.«01_k».proof.Proof.Dense
public import proofs.«01_k».proof.Proof.Gen.Kernel2Ideal.Value
public import proofs.«01_k».proof.Proof.Gen.Reference2Ideal.Run
public import proofs.«01_k».proof.Defs
public import Idealize.ShloMosaic.Lib.StableHlo.ReadAt
public import Idealize.ShloMosaic.Lib.WordArith
public import Idealize.ShloMosaic.Lib.Pipeline.ValueKit.Point

@[expose] public section

set_option maxRecDepth 16384
set_option Elab.async false

noncomputable section

namespace Cert.Down

open Cert.Kernel2Ideal Cert.Kernel2Ideal.Gen Cert.Kernel2Ideal.Value
open Idealize.ShloMosaic Idealize.ShloMosaic.TcCoe Idealize.SL.Sem

attribute [local instance] Cert.Kernel2Ideal.Gen.facts Cert.Reference2Ideal.Gen.facts

variable (m : (ℓ : Loc nD τ sig) → Buf (Elt Ideal) ℓ) (c : Dev nD)

/-- The activations by row and column, zero past the last row, -/
def X (r : ℕ) (a : Fin 4096) : EReal := if h : r < 16400 then m ((c : Thread nD τ).loc main_arg0) (ix2 (⟨r, h⟩ : Fin 16400) a) else 0
/-- and the gradient of the MLP's output. -/
def Y (r : ℕ) (n : Fin 1024) : EReal := if h : r < 16400 then m ((c : Thread nD τ).loc main_arg1) (ix2 (⟨r, h⟩ : Fin 16400) n) else 0

theorem int_zero : (FloatOps.sitofp (F := Ideal) .f32 0#32 : EReal) = 0 := by
  show (((0#32 : BitVec 32).toInt : ℝ) : EReal) = 0
  simp

theorem V1_at (r : Fin 16896) (a : Fin 4096) : (V m c main_v1 (ix2 r a) : EReal) = X m c r.val a := by
  unfold V
  after_reads_at
  unfold X
  split
  · rfl
  · exact int_zero

theorem V3_at (r : Fin 16896) (n : Fin 1024) : (V m c main_v3 (ix2 r n) : EReal) = Y m c r.val n := by
  unfold V
  after_reads_at
  unfold Y
  split
  · rfl
  · exact int_zero

theorem pay_step (acc : Vec Ideal S1024x1024 .f32) (x y : Vec Ideal S1536x1024 .bf16) (a n : Fin 1024) :
    (k0_pay2 acc x y (ix2 a n) : EReal) = acc (ix2 a n) + ∑ k : Fin 1536, x (ix2 k a) * y (ix2 k n) := by
  pointwise [k0_pay2]

theorem pay_zero (a n : Fin 1024) : (k0_pay1 (F := Ideal) (ix2 a n) : EReal) = 0 := by
  pointwise [k0_pay1]

theorem idx : ∀ t : Fin cfg0.N, win0_0.index t = ![t.val % 11, t.val / 11] ∧ win0_1.index t = ![t.val % 11, 0] :=
  (by decide +kernel : ∀ t : Fin grid0.N, _)

theorem blkX (t : Fin cfg0.N) (k : Fin 1536) (a : Fin 1024) (b : Fin 4096) (hb : b.val = 1024 * (t.val / 11) + a.val) :
    (iblk m c 0 t (ix2 k a) : EReal) = X m c (1536 * (t.val % 11) + k.val) b := by
  rw [← V1_at m c ⟨1536 * (t.val % 11) + k.val, by omega⟩]
  blk_ext [iblk, idx t, hb]

theorem blkY (t : Fin cfg0.N) (k : Fin 1536) (n : Fin 1024) : (iblk m c 1 t (ix2 k n) : EReal) = Y m c (1536 * (t.val % 11) + k.val) n := by
  rw [← V3_at m c ⟨1536 * (t.val % 11) + k.val, by omega⟩]
  blk_ext [iblk, idx t]

theorem X_row (r : Fin 16400) (a : Fin 4096) : X m c r.val a = m ((c : Thread nD τ).loc main_arg0) (ix2 r a) := dif_pos r.isLt
theorem Y_row (r : Fin 16400) (n : Fin 1024) : Y m c r.val n = m ((c : Thread nD τ).loc main_arg1) (ix2 r n) := dif_pos r.isLt

/-- A row's entry in column `n` of the result's block `q`. -/
abbrev col (q : ℕ) (n : Fin 1024) : Fin 4096 := ⟨(1024 * q + n.val) % 4096, by omega⟩

/-- What a point adds to its block of the result, -/
def part (q s : ℕ) (i : S1024x1024.Idx) : EReal := Cert.Dense.part (fun r => X m c r (col q (i 0))) (fun r => Y m c r (i 1)) q s

theorem point (q s : ℕ) (h : s < cfg0.N) (h1 : 11 * q ≤ s) (h2 : s ≤ 11 * q + 10) (acc : Vec Ideal S1024x1024 .f32) (i : S1024x1024.Idx) :
    (k0_pay2 acc (iblk m c 0 ⟨s, h⟩) (iblk m c 1 ⟨s, h⟩) i : EReal) = acc i + part m c q s i := by
  have hN : s < 44 := Nat.lt_of_lt_of_eq h N_0
  obtain ⟨a, n, rfl⟩ : ∃ (a : Fin 1024) (n : Fin 1024), i = ix2 a n := ⟨i 0, i 1, eq_ix2 i⟩
  rw [pay_step]
  unfold part Cert.Dense.part
  have e : s % 11 = s - 11 * q := by omega
  have e' : s / 11 = q := by omega
  refine congrArg (acc (ix2 a n) + ·) (Finset.sum_congr rfl fun k _ => ?_)
  rw [blkX m c ⟨s, h⟩ k a (col q a) (by dsimp only; rw [e']; omega), blkY]
  dsimp only
  rw [e]
  rfl

/-- and what the call leaves in its array: the sum over all the rows. -/
theorem result (a : Fin 4096) (n : Fin 1024) : (G2 m c (ix2 a n) : EReal) = ∑ r : Fin 16400, X m c r.val a * Y m c r.val n := by
  have hN : cfg0.N = 44 := N_0
  have ha := a.isLt
  have hr : run2Of (ix2 a n) = a.val / 1024 := by
    show 1 * (a.val / 1024 - 0) + 1 * (n.val / 1024 - 0) = _
    omega
  have hl : loc2Of (ix2 a n) = ix2 (⟨a.val % 1024, by omega⟩ : Fin 1024) n := by
    rw [eq_ix2 (loc2Of (ix2 a n))]
    congr 1
    exact Fin.ext (Nat.mod_eq_of_lt n.isLt)
  have hb : 11 * run2Of (ix2 a n) + 10 < cfg0.N := by rw [hr, hN]; omega
  have key := Pipeline.accAt_add_apply (ι := S1024x1024.Idx) (β := EReal) (reset2 m c) (step2 m c) (fun _ => 0) (part m c (run2Of (ix2 a n))) (11 * run2Of (ix2 a n)) 10
    (fun h i => (point m c _ _ h (le_refl _) (Nat.le_add_right _ _) _ i).trans (congrArg (· + _) (by rw [eq_ix2 i]; exact pay_zero _ _)))
    (fun s h acc i h1 h2 => point m c _ _ h h1.le h2 acc i) 10 (le_refl _) hb (loc2Of (ix2 a n))
  unfold G2
  rw [dif_pos hb]
  refine key.trans ?_
  rw [zero_add, hl]
  refine (Cert.Dense.sum_parts _ _ (fun r h => by unfold X; exact dif_neg (by omega)) _).trans ?_
  have e : col (run2Of (ix2 a n)) ⟨a.val % 1024, by omega⟩ = a := Fin.ext (by dsimp only; rw [hr]; omega)
  exact congrArg (fun b => ∑ r : Fin 16400, X m c r.val b * Y m c r.val n) e

/-- The call's result is the gradient. -/
theorem grad : Cert.algebraic_Kernel2Ideal_Reference2Ideal := by
  intro m g m' g' _ hin
  refine ⟨_, Cert.Kernel2Ideal.Value.run m g, ?_⟩
  refine (θ_run _ _ _).mono (fun r h c => ?_) (Cert.Reference2Ideal.Value.run m' g')
  obtain ⟨h0, h1⟩ := hin c
  obtain ⟨e0, k⟩ := h c
  refine ⟨e0.trans ?_, k⟩
  rw [h0, h1]
  funext i
  obtain ⟨a, n, rfl⟩ : ∃ (a : Fin 4096) (n : Fin 1024), i = ix2 a n := ⟨i 0, i 1, eq_ix2 i⟩
  refine Eq.trans ?_ (result m c a n).symm
  pointwise
  refine Finset.sum_congr rfl fun r _ => ?_
  rw [X_row, Y_row]
  exact mul_comm _ _

end Cert.Down
-- ==== Proof.Up.lean ====
/- The gradient of the MLP's first matrix: the call's blocked sum over rows is the whole product. -/
module

public import proofs.«01_k».proof.Proof.Dense
public import proofs.«01_k».proof.Proof.Gen.Kernel3Ideal.Value
public import proofs.«01_k».proof.Proof.Gen.Reference3Ideal.Run
public import proofs.«01_k».proof.Defs
public import Idealize.ShloMosaic.Lib.StableHlo.ReadAt
public import Idealize.ShloMosaic.Lib.WordArith
public import Idealize.ShloMosaic.Lib.Pipeline.ValueKit.Point

@[expose] public section

set_option maxRecDepth 16384
set_option Elab.async false

noncomputable section

namespace Cert.Up

open Cert.Kernel3Ideal Cert.Kernel3Ideal.Gen Cert.Kernel3Ideal.Value
open Idealize.ShloMosaic Idealize.ShloMosaic.TcCoe Idealize.SL.Sem

attribute [local instance] Cert.Kernel3Ideal.Gen.facts Cert.Reference3Ideal.Gen.facts

variable (m : (ℓ : Loc nD τ sig) → Buf (Elt Ideal) ℓ) (c : Dev nD)

/-- The MLP's input by row and column, zero past the last row, -/
def X (r : ℕ) (a : Fin 1024) : EReal := if h : r < 16400 then m ((c : Thread nD τ).loc main_arg0) (ix2 (⟨r, h⟩ : Fin 16400) a) else 0
/-- and the gradient of its first product. -/
def Y (r : ℕ) (n : Fin 4096) : EReal := if h : r < 16400 then m ((c : Thread nD τ).loc main_arg1) (ix2 (⟨r, h⟩ : Fin 16400) n) else 0

theorem int_zero : (FloatOps.sitofp (F := Ideal) .f32 0#32 : EReal) = 0 := by
  show (((0#32 : BitVec 32).toInt : ℝ) : EReal) = 0
  simp

theorem V1_at (r : Fin 16896) (a : Fin 1024) : (V m c main_v1 (ix2 r a) : EReal) = X m c r.val a := by
  unfold V
  after_reads_at
  unfold X
  split
  · rfl
  · exact int_zero

theorem V3_at (r : Fin 16896) (n : Fin 4096) : (V m c main_v3 (ix2 r n) : EReal) = Y m c r.val n := by
  unfold V
  after_reads_at
  unfold Y
  split
  · rfl
  · exact int_zero

theorem pay_step (acc : Vec Ideal S1024x1024 .f32) (x y : Vec Ideal S1536x1024 .bf16) (a n : Fin 1024) :
    (k0_pay2 acc x y (ix2 a n) : EReal) = acc (ix2 a n) + ∑ k : Fin 1536, x (ix2 k a) * y (ix2 k n) := by
  pointwise [k0_pay2]

theorem pay_zero (a n : Fin 1024) : (k0_pay1 (F := Ideal) (ix2 a n) : EReal) = 0 := by
  pointwise [k0_pay1]

theorem idx : ∀ t : Fin cfg0.N, win0_0.index t = ![t.val % 11, 0] ∧ win0_1.index t = ![t.val % 11, t.val / 11] :=
  (by decide +kernel : ∀ t : Fin grid0.N, _)

theorem blkX (t : Fin cfg0.N) (k : Fin 1536) (a : Fin 1024) : (iblk m c 0 t (ix2 k a) : EReal) = X m c (1536 * (t.val % 11) + k.val) a := by
  rw [← V1_at m c ⟨1536 * (t.val % 11) + k.val, by omega⟩]
  blk_ext [iblk, idx t]

theorem blkY (t : Fin cfg0.N) (k : Fin 1536) (n : Fin 1024) (b : Fin 4096) (hb : b.val = 1024 * (t.val / 11) + n.val) :
    (iblk m c 1 t (ix2 k n) : EReal) = Y m c (1536 * (t.val % 11) + k.val) b := by
  rw [← V3_at m c ⟨1536 * (t.val % 11) + k.val, by omega⟩]
  blk_ext [iblk, idx t, hb]

theorem X_row (r : Fin 16400) (a : Fin 1024) : X m c r.val a = m ((c : Thread nD τ).loc main_arg0) (ix2 r a) := dif_pos r.isLt
theorem Y_row (r : Fin 16400) (n : Fin 4096) : Y m c r.val n = m ((c : Thread nD τ).loc main_arg1) (ix2 r n) := dif_pos r.isLt

/-- A row's entry in column `n` of the result's block `q`. -/
abbrev col (q : ℕ) (n : Fin 1024) : Fin 4096 := ⟨(1024 * q + n.val) % 4096, by omega⟩

/-- What a point adds to its block of the result, -/
def part (q s : ℕ) (i : S1024x1024.Idx) : EReal := Cert.Dense.part (fun r => X m c r (i 0)) (fun r => Y m c r (col q (i 1))) q s

theorem point (q s : ℕ) (h : s < cfg0.N) (h1 : 11 * q ≤ s) (h2 : s ≤ 11 * q + 10) (acc : Vec Ideal S1024x1024 .f32) (i : S1024x1024.Idx) :
    (k0_pay2 acc (iblk m c 0 ⟨s, h⟩) (iblk m c 1 ⟨s, h⟩) i : EReal) = acc i + part m c q s i := by
  have hN : s < 44 := Nat.lt_of_lt_of_eq h N_0
  obtain ⟨a, n, rfl⟩ : ∃ (a : Fin 1024) (n : Fin 1024), i = ix2 a n := ⟨i 0, i 1, eq_ix2 i⟩
  rw [pay_step]
  unfold part Cert.Dense.part
  have e : s % 11 = s - 11 * q := by omega
  have e' : s / 11 = q := by omega
  refine congrArg (acc (ix2 a n) + ·) (Finset.sum_congr rfl fun k _ => ?_)
  rw [blkX, blkY m c ⟨s, h⟩ k n (col q n) (by dsimp only; rw [e']; omega)]
  dsimp only
  rw [e]
  rfl

/-- and what the call leaves in its array: the sum over all the rows. -/
theorem result (a : Fin 1024) (n : Fin 4096) : (G2 m c (ix2 a n) : EReal) = ∑ r : Fin 16400, X m c r.val a * Y m c r.val n := by
  have hN : cfg0.N = 44 := N_0
  have hn := n.isLt
  have hr : run2Of (ix2 a n) = n.val / 1024 := by
    show 4 * (a.val / 1024 - 0) + 1 * (n.val / 1024 - 0) = _
    omega
  have hl : loc2Of (ix2 a n) = ix2 a (⟨n.val % 1024, by omega⟩ : Fin 1024) := by
    rw [eq_ix2 (loc2Of (ix2 a n))]
    congr 1
    exact Fin.ext (Nat.mod_eq_of_lt a.isLt)
  have hb : 11 * run2Of (ix2 a n) + 10 < cfg0.N := by rw [hr, hN]; omega
  have key := Pipeline.accAt_add_apply (ι := S1024x1024.Idx) (β := EReal) (reset2 m c) (step2 m c) (fun _ => 0) (part m c (run2Of (ix2 a n))) (11 * run2Of (ix2 a n)) 10
    (fun h i => (point m c _ _ h (le_refl _) (Nat.le_add_right _ _) _ i).trans (congrArg (· + _) (by rw [eq_ix2 i]; exact pay_zero _ _)))
    (fun s h acc i h1 h2 => point m c _ _ h h1.le h2 acc i) 10 (le_refl _) hb (loc2Of (ix2 a n))
  unfold G2
  rw [dif_pos hb]
  refine key.trans ?_
  rw [zero_add, hl]
  refine (Cert.Dense.sum_parts _ _ (fun r h => by unfold X; exact dif_neg (by omega)) _).trans ?_
  have e : col (run2Of (ix2 a n)) ⟨n.val % 1024, by omega⟩ = n := Fin.ext (by dsimp only; rw [hr]; omega)
  exact congrArg (fun b => ∑ r : Fin 16400, X m c r.val a * Y m c r.val b) e

/-- The call's result is the gradient. -/
theorem grad : Cert.algebraic_Kernel3Ideal_Reference3Ideal := by
  intro m g m' g' _ hin
  refine ⟨_, Cert.Kernel3Ideal.Value.run m g, ?_⟩
  refine (θ_run _ _ _).mono (fun r h c => ?_) (Cert.Reference3Ideal.Value.run m' g')
  obtain ⟨h0, h1⟩ := hin c
  obtain ⟨e0, k⟩ := h c
  refine ⟨e0.trans ?_, k⟩
  rw [h0, h1]
  funext i
  obtain ⟨a, n, rfl⟩ : ∃ (a : Fin 1024) (n : Fin 4096), i = ix2 a n := ⟨i 0, i 1, eq_ix2 i⟩
  refine Eq.trans ?_ (result m c a n).symm
  pointwise
  refine Finset.sum_congr rfl fun r _ => ?_
  rw [X_row, Y_row]
  exact mul_comm _ _

end Cert.Up
-- ==== Proof.Act.lean ====
/- The gradient before the squared relu: the call multiplies by twice the root of the saved activation where
   calculus multiplies by twice the relu and selects by sign. -/
module

public import proofs.«01_k».proof.Proof.Gen.Kernel4Ideal.Value
public import proofs.«01_k».proof.Proof.Gen.Reference4Ideal.Run
public import proofs.«01_k».proof.Defs
public import Idealize.ShloMosaic.Lib.StableHlo.ReadAt
public import Idealize.ShloMosaic.Lib.Pipeline.ValueKit.Point
public import Idealize.ShloMosaic.PureOps.Ideal

@[expose] public section

set_option maxRecDepth 16384
set_option Elab.async false

noncomputable section

namespace Cert.Act

open Cert.Kernel4Ideal Cert.Kernel4Ideal.Gen Cert.Kernel4Ideal.Value
open Idealize.ShloMosaic Idealize.ShloMosaic.TcCoe Idealize.SL.Sem

attribute [local instance] Cert.Kernel4Ideal.Gen.facts Cert.Reference4Ideal.Gen.facts

variable (m : (ℓ : Loc nD τ sig) → Buf (Elt Ideal) ℓ) (c : Dev nD)

/-- The saved activation: the squared relu. -/
def act (u : EReal) : EReal := max u 0 * max u 0

theorem V3_at (r : Fin 16896) (a : Fin 4096) : (V m c main_v3 (ix2 r a) : EReal) = act (m ((c : Thread nD τ).loc main_arg0) (ix2 r a)) := by
  unfold V
  after_reads_at
  rfl

theorem V4_at (r : Fin 16896) (a : Fin 1024) : (V m c main_v4 (ix2 r a) : EReal) = m ((c : Thread nD τ).loc main_arg2) (ix2 r a) := by
  unfold V
  after_reads_at

theorem V5_at (r : Fin 4096) (a : Fin 1024) : (V m c main_v5 (ix2 r a) : EReal) = m ((c : Thread nD τ).loc main_arg1) (ix2 r a) := by
  unfold V
  after_reads_at

theorem bits_two : (Ideal.ofBits .f32 1073741824#32 : EReal) = 2 := by
  have h : (Ideal.ofBits .f32 1073741824#32 : EReal) = ((2 : ℝ) : EReal) := by
    simp [Ideal.ofBits, Ideal.ieee, -EReal.coe_mul]; norm_num
  exact h

theorem pay (x : Vec Ideal S512x1024 .bf16) (y : Vec Ideal S4096x1024 .bf16) (z : Vec Ideal S512x4096 .bf16) (a : Fin 512) (n : Fin 4096) :
    (k0_pay1 x y z (ix2 a n) : EReal) = (∑ k : Fin 1024, x (ix2 a k) * y (ix2 n k)) * (2 * Ideal.sqrt (z (ix2 a n))) := by
  pointwise [k0_pay1]
  rw [bits_two]

/-- Twice the root of the squared relu is the squared relu's derivative. -/
theorem slope (S u : EReal) : S * (2 * Ideal.sqrt (act u)) = if 0 < u then S * (2 * max u 0) else 0 := by
  unfold act
  split
  · rename_i h
    rw [max_eq_left h.le]
    congr 2
    induction u with
    | bot => exact absurd h (by simp)
    | top => simp
    | coe u =>
      have h' : 0 < u := by exact_mod_cast h
      rw [← EReal.coe_mul, Ideal.sqrt_coe, if_neg (not_lt.mpr (mul_self_nonneg u)), Real.sqrt_mul_self h'.le]
  · rename_i h
    rw [max_eq_right (not_lt.mp h), mul_zero]
    rw [show Ideal.sqrt 0 = 0 from by rw [← EReal.coe_zero, Ideal.sqrt_coe]; simp]
    rw [mul_zero, mul_zero]

theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- A row of the gradient of the output, -/
def D (r : Fin 16896) (k : Fin 1024) : EReal := m ((c : Thread nD τ).loc main_arg2) (ix2 r k)
/-- a row of the matrix, -/
def W (n : Fin 4096) (k : Fin 1024) : EReal := m ((c : Thread nD τ).loc main_arg1) (ix2 n k)
/-- an entry before the activation, -/
def U (r : Fin 16896) (n : Fin 4096) : EReal := m ((c : Thread nD τ).loc main_arg0) (ix2 r n)
/-- and the gradient. -/
def G : S16896x4096.Idx → EReal := fun i => (∑ k : Fin 1024, D m c (i 0) k * W m c (i 1) k) * (2 * Ideal.sqrt (act (U m c (i 0) (i 1))))

theorem blkD (t : Fin cfg0.N) (a : Fin 512) (k : Fin 1024) (r : Fin 16896) (hr : r.val = 512 * t.val + a.val) : (iblk m c 0 t (ix2 a k) : EReal) = D m c r k := by
  refine Eq.trans ?_ (V4_at m c r k)
  blk_ext [iblk, idx t, hr]

theorem blkW (t : Fin cfg0.N) (n : Fin 4096) (k : Fin 1024) : (iblk m c 1 t (ix2 n k) : EReal) = W m c n k := by
  refine Eq.trans ?_ (V5_at m c n k)
  blk_ext [iblk, idx t]

theorem blkU (t : Fin cfg0.N) (a : Fin 512) (n : Fin 4096) (r : Fin 16896) (hr : r.val = 512 * t.val + a.val) : (iblk m c 2 t (ix2 a n) : EReal) = act (U m c r n) := by
  refine Eq.trans ?_ (V3_at m c r n)
  blk_ext [iblk, idx t, hr]

/-- What the call leaves in its array is the gradient. -/
theorem final : (dats m 0 c).arrAt 3 (cfgs 0).N = G m c := by
  refine (dats m 0 c).arrAt_eq_of_covers 3 _ (by decide +kernel) fun t hf y => ?_
  have e0 : ((((cfg0.win 3).blk t).view.emb y) 0).val = 512 * t.val + (y 0).val := by
    blk_simp [idx t]
    omega
  have e1 : ((((cfg0.win 3).blk t).view.emb y) 1).val = (y 1).val := by
    blk_simp [idx t]
  obtain ⟨i, hi⟩ : ∃ i, i = ((cfg0.win 3).blk t).view.emb y := ⟨_, rfl⟩
  rw [← hi] at e0 e1 ⊢
  blk_simp
  rw [after0_3]
  frame_out
  obtain ⟨a, n, rfl⟩ : ∃ (a : Fin 512) (n : Fin 4096), y = ix2 a n := ⟨y 0, y 1, eq_ix2 y⟩
  obtain ⟨r, n', rfl⟩ : ∃ (r : Fin 16896) (n' : Fin 4096), i = ix2 r n' := ⟨i 0, i 1, eq_ix2 i⟩
  obtain rfl : n' = n := Fin.ext e1
  refine (pay _ _ _ a n').trans ?_
  show _ = (∑ k : Fin 1024, D m c r k * W m c n' k) * (2 * Ideal.sqrt (act (U m c r n')))
  refine congrArg₂ (· * ·) (Finset.sum_congr rfl fun k _ => congrArg₂ (· * ·) (blkD m c t a k r e0) (blkW m c t n' k)) ?_
  exact congrArg (fun z => 2 * Ideal.sqrt z) (blkU m c t a n' r e0)

/-- The call's result is the gradient of the reference. -/
theorem grad : Cert.algebraic_Kernel4Ideal_Reference4Ideal := by
  intro m g m' g' _ hin
  refine ⟨_, Cert.Kernel4Ideal.Value.run_blocks m g, ?_⟩
  refine (θ_run _ _ _).mono (fun r h c => ?_) (Cert.Reference4Ideal.Value.run m' g')
  obtain ⟨h0, h1, h2⟩ := hin c
  obtain ⟨e0, k⟩ := h c
  refine ⟨e0.trans ?_, k⟩
  rw [h0, h1, h2]
  refine Eq.trans ?_ (final m c).symm
  funext i
  obtain ⟨r, n, rfl⟩ : ∃ (r : Fin 16896) (n : Fin 4096), i = ix2 r n := ⟨i 0, i 1, eq_ix2 i⟩
  refine Eq.trans ?_ (slope (∑ k : Fin 1024, D m c r k * W m c n k) (U m c r n)).symm
  pointwise
  rw [bits_two]
  rfl

end Cert.Act
-- ==== Proof.Inner.lean ====
/- The gradient of the MLP's input: the call writes the product block by block of 768 rows. -/
module

public import proofs.«01_k».proof.Proof.Gen.Kernel5Ideal.Value
public import proofs.«01_k».proof.Proof.Gen.Reference5Ideal.Run
public import proofs.«01_k».proof.Defs
public import Idealize.ShloMosaic.Lib.StableHlo.ReadAt
public import Idealize.ShloMosaic.Lib.Pipeline.ValueKit.Point
public import Idealize.ShloMosaic.PureOps.Ideal

@[expose] public section

set_option maxRecDepth 16384
set_option Elab.async false

noncomputable section

namespace Cert.Inner

open Cert.Kernel5Ideal Cert.Kernel5Ideal.Gen Cert.Kernel5Ideal.Value
open Idealize.ShloMosaic Idealize.ShloMosaic.TcCoe Idealize.SL.Sem

attribute [local instance] Cert.Kernel5Ideal.Gen.facts Cert.Reference5Ideal.Gen.facts

variable (m : (ℓ : Loc nD τ sig) → Buf (Elt Ideal) ℓ) (c : Dev nD)

theorem V0_at (r : Fin 16896) (a : Fin 4096) : (V m c main_v0 (ix2 r a) : EReal) = m ((c : Thread nD τ).loc main_arg1) (ix2 r a) := by
  unfold V
  after_reads_at

theorem V1_at (r : Fin 1024) (a : Fin 4096) : (V m c main_v1 (ix2 r a) : EReal) = m ((c : Thread nD τ).loc main_arg0) (ix2 r a) := by
  unfold V
  after_reads_at

theorem pay (x : Vec Ideal S768x4096 .bf16) (y : Vec Ideal S1024x4096 .bf16) (a : Fin 768) (n : Fin 1024) :
    (k0_pay1 x y (ix2 a n) : EReal) = ∑ k : Fin 4096, x (ix2 a k) * y (ix2 n k) := by
  pointwise [k0_pay1]

/-- A row of the gradient of the first product, -/
def D (r : Fin 16896) (k : Fin 4096) : EReal := m ((c : Thread nD τ).loc main_arg1) (ix2 r k)
/-- a row of the matrix, -/
def W (n : Fin 1024) (k : Fin 4096) : EReal := m ((c : Thread nD τ).loc main_arg0) (ix2 n k)
/-- and the gradient of the input: every row against every row. -/
def G : S16896x1024.Idx → EReal := fun i => ∑ k : Fin 4096, D m c (i 0) k * W m c (i 1) k

theorem idx : ∀ t : Fin cfg0.N, win0_0.index t = ![t.val, 0] ∧ win0_1.index t = ![0, 0] ∧ win0_2.index t = ![t.val, 0] :=
  (by decide +kernel : ∀ t : Fin grid0.N, _)

theorem blkD (t : Fin cfg0.N) (a : Fin 768) (k : Fin 4096) (r : Fin 16896) (hr : r.val = 768 * t.val + a.val) : (iblk m c 0 t (ix2 a k) : EReal) = D m c r k := by
  refine Eq.trans ?_ (V0_at m c r k)
  blk_ext [iblk, idx t, hr]

theorem blkW (t : Fin cfg0.N) (n : Fin 1024) (k : Fin 4096) : (iblk m c 1 t (ix2 n k) : EReal) = W m c n k := by
  refine Eq.trans ?_ (V1_at m c n k)
  blk_ext [iblk, idx t]

/-- What the call leaves in its array is the gradient. -/
theorem final : (dats m 0 c).arrAt 2 (cfgs 0).N = G m c := by
  refine (dats m 0 c).arrAt_eq_of_covers 2 _ (by decide +kernel) fun t hf y => ?_
  have e0 : ((((cfg0.win 2).blk t).view.emb y) 0).val = 768 * t.val + (y 0).val := by
    blk_simp [idx t]
    omega
  have e1 : ((((cfg0.win 2).blk t).view.emb y) 1).val = (y 1).val := by
    blk_simp [idx t]
  obtain ⟨i, hi⟩ : ∃ i, i = ((cfg0.win 2).blk t).view.emb y := ⟨_, rfl⟩
  rw [← hi] at e0 e1 ⊢
  blk_simp
  rw [after0_2]
  frame_out
  obtain ⟨a, n, rfl⟩ : ∃ (a : Fin 768) (n : Fin 1024), y = ix2 a n := ⟨y 0, y 1, eq_ix2 y⟩
  refine (pay _ _ a n).trans ?_
  show _ = ∑ k : Fin 4096, D m c (i 0) k * W m c (i 1) k
  refine Finset.sum_congr rfl fun k _ => congrArg₂ (· * ·) (blkD m c t a k (i 0) e0) ?_
  refine (blkW m c t n k).trans (congrArg (W m c · k) ?_)
  exact Fin.ext e1.symm

/-- The call's result is the gradient of the reference. -/
theorem grad : Cert.algebraic_Kernel5Ideal_Reference5Ideal := by
  intro m g m' g' _ hin
  refine ⟨_, Cert.Kernel5Ideal.Value.run_blocks m g, ?_⟩
  refine (θ_run _ _ _).mono (fun r h c => ?_) (Cert.Reference5Ideal.Value.run m' g')
  obtain ⟨h0, h1⟩ := hin c
  obtain ⟨e0, k⟩ := h c
  refine ⟨e0.trans ?_, k⟩
  rw [h0, h1]
  refine Eq.trans ?_ (final m c).symm
  funext i
  obtain ⟨a, n, rfl⟩ : ∃ (a : Fin 16896) (n : Fin 1024), i = ix2 a n := ⟨i 0, i 1, eq_ix2 i⟩
  show _ = ∑ k : Fin 4096, D m c a k * W m c n k
  pointwise
  rfl

end Cert.Inner
-- ==== Proof.Adam.lean ====
/- The optimiser's update of each matrix: what the kernel's call writes is AdamW's step, entry by entry. -/
module

public import proofs.«01_k».proof.Proof.Gen.Kernel6Ideal.Value
public import proofs.«01_k».proof.Proof.Gen.Reference6Ideal.Run
public import proofs.«01_k».proof.Proof.Gen.Kernel7Ideal.Value
public import proofs.«01_k».proof.Proof.Gen.Reference7Ideal.Run
public import proofs.«01_k».proof.Proof.Gen.Kernel8Ideal.Value
public import proofs.«01_k».proof.Proof.Gen.Reference8Ideal.Run
public import proofs.«01_k».proof.Proof.Gen.Kernel9Ideal.Value
public import proofs.«01_k».proof.Proof.Gen.Reference9Ideal.Run
public import proofs.«01_k».proof.Proof.Gen.Kernel10Ideal.Value
public import proofs.«01_k».proof.Proof.Gen.Reference10Ideal.Run
public import proofs.«01_k».proof.Defs
public import Idealize.ShloMosaic.Lib.Pointwise
public import Idealize.ShloMosaic.PureOps.Ideal

@[expose] public section

set_option maxRecDepth 16384
set_option Elab.async false

noncomputable section

namespace Cert.Adam

open Idealize.ShloMosaic Idealize.ShloMosaic.TcCoe Idealize.SL.Sem

attribute [local instance] Cert.Kernel6Ideal.Gen.facts Cert.Reference6Ideal.Gen.facts Cert.Kernel7Ideal.Gen.facts Cert.Reference7Ideal.Gen.facts Cert.Kernel8Ideal.Gen.facts Cert.Reference8Ideal.Gen.facts Cert.Kernel9Ideal.Gen.facts Cert.Reference9Ideal.Gen.facts Cert.Kernel10Ideal.Gen.facts Cert.Reference10Ideal.Gen.facts

/-- The shard of the input projection, -/
theorem w_in : Cert.algebraic_Kernel6Ideal_Reference6Ideal := by
  intro m g m' g' _ hin
  refine ⟨_, _, _, Cert.Kernel6Ideal.Value.run m g, (θ_run _ _ _).mono (fun r h c => ?_) (Cert.Reference6Ideal.Value.run m' g')⟩
  obtain ⟨h0, h1, h2, h3⟩ := hin c
  obtain ⟨e0, e1, e2, k⟩ := h c
  exact ⟨e0.trans (by rw [h0, h1, h2, h3]; rfl), e1.trans (by rw [h0, h2]; rfl), e2.trans (by rw [h0, h3]; rfl), k⟩

/-- of the queries' matrix, -/
theorem w_q_up : Cert.algebraic_Kernel7Ideal_Reference7Ideal := by
  intro m g m' g' _ hin
  refine ⟨_, _, _, Cert.Kernel7Ideal.Value.run m g, (θ_run _ _ _).mono (fun r h c => ?_) (Cert.Reference7Ideal.Value.run m' g')⟩
  obtain ⟨h0, h1, h2, h3⟩ := hin c
  obtain ⟨e0, e1, e2, k⟩ := h c
  exact ⟨e0.trans (by rw [h0, h1, h2, h3]; rfl), e1.trans (by rw [h0, h2]; rfl), e2.trans (by rw [h0, h3]; rfl), k⟩

/-- of the keys' and values' matrix, -/
theorem w_kv_up : Cert.algebraic_Kernel8Ideal_Reference8Ideal := by
  intro m g m' g' _ hin
  refine ⟨_, _, _, Cert.Kernel8Ideal.Value.run m g, (θ_run _ _ _).mono (fun r h c => ?_) (Cert.Reference8Ideal.Value.run m' g')⟩
  obtain ⟨h0, h1, h2, h3⟩ := hin c
  obtain ⟨e0, e1, e2, k⟩ := h c
  exact ⟨e0.trans (by rw [h0, h1, h2, h3]; rfl), e1.trans (by rw [h0, h2]; rfl), e2.trans (by rw [h0, h3]; rfl), k⟩

/-- of the output projection, -/
theorem w_out : Cert.algebraic_Kernel9Ideal_Reference9Ideal := by
  intro m g m' g' _ hin
  refine ⟨_, _, _, Cert.Kernel9Ideal.Value.run m g, (θ_run _ _ _).mono (fun r h c => ?_) (Cert.Reference9Ideal.Value.run m' g')⟩
  obtain ⟨h0, h1, h2, h3⟩ := hin c
  obtain ⟨e0, e1, e2, k⟩ := h c
  exact ⟨e0.trans (by rw [h0, h1, h2, h3]; rfl), e1.trans (by rw [h0, h2]; rfl), e2.trans (by rw [h0, h3]; rfl), k⟩

/-- and of either matrix of the MLP. -/
theorem w_mlp : Cert.algebraic_Kernel10Ideal_Reference10Ideal := by
  intro m g m' g' _ hin
  refine ⟨_, _, _, Cert.Kernel10Ideal.Value.run m g, (θ_run _ _ _).mono (fun r h c => ?_) (Cert.Reference10Ideal.Value.run m' g')⟩
  obtain ⟨h0, h1, h2, h3⟩ := hin c
  obtain ⟨e0, e1, e2, k⟩ := h c
  exact ⟨e0.trans (by rw [h0, h1, h2, h3]; rfl), e1.trans (by rw [h0, h2]; rfl), e2.trans (by rw [h0, h3]; rfl), k⟩

end Cert.Adam
-- ==== Proof.Pack.lean ====
/- The thirteen small weights as rows of one array: each is read back from its rows as it was put there. -/
module

public import proofs.«01_k».proof.Proof.Gen.Kernel11Ideal.Launch
public import Idealize.ShloMosaic.Lib.Pointwise
public import Idealize.ShloMosaic.PureOps.Ideal

@[expose] public section

set_option maxRecDepth 16384
set_option Elab.async false

noncomputable section

namespace Cert.Pack

open Idealize.ShloMosaic Idealize.ShloMosaic.TcCoe Idealize.SL.Sem
open Cert.Kernel11Ideal Cert.Kernel11Ideal.Facts₀ Cert.Kernel11Ideal.Facts

attribute [local instance] Cert.Kernel11Ideal.Gen.facts

/-- What fills the rest of the rows, -/
def zero : FVec Ideal S_ .f32 := sitofp .f32 (constantI S_ 32 0#32)

/-- the thirteen weights one below the other, -/
def pack (x0 : Vec Ideal S16x256 .f32) (x1 : Vec Ideal S4x384 .f32) (x2 : Vec Ideal S1x1024 .f32) (x3 : Vec Ideal S1x384 .f32) (x4 : Vec Ideal S1x256 .f32) (x5 : Vec Ideal S1x1536 .f32) (x6 : Vec Ideal S1x16 .f32) (x7 : Vec Ideal S1x16 .f32) (x8 : Vec Ideal S1x16 .f32) (x9 : Vec Ideal S1x1024 .f32) (x10 : Vec Ideal S1x1024 .f32) (x11 : Vec Ideal S1x1024 .f32) (x12 : Vec Ideal S1x1024 .f32) : Vec Ideal S112x1024 .f32 :=
  concatenate S112x1024 0
    [⟨S16x1024, pad S16x1024 ![0, 0] ![0, 768] ![0, 0] x0 zero pads_S16x256_S16x1024_000_07680 h_S_⟩,
     ⟨S8x1024, pad S8x1024 ![0, 0] ![4, 640] ![0, 0] x1 zero pads_S4x384_S8x1024_040_06400 h_S_⟩,
     ⟨S8x1024, pad S8x1024 ![0, 0] ![7, 0] ![0, 0] x2 zero pads_S1x1024_S8x1024_070_000 h_S_⟩,
     ⟨S8x1024, pad S8x1024 ![0, 0] ![7, 640] ![0, 0] x3 zero pads_S1x384_S8x1024_070_06400 h_S_⟩,
     ⟨S8x1024, pad S8x1024 ![0, 0] ![7, 768] ![0, 0] x4 zero pads_S1x256_S8x1024_070_07680 h_S_⟩,
     ⟨S8x1024, pad S8x1024 ![0, 0] ![6, 0] ![0, 0] (shapeCast S2x1024 (pad S1x2048 ![0, 0] ![0, 512] ![0, 0] x5 zero pads_S1x1536_S1x2048_000_05120 h_S_) shapeCasts_S1x2048_S2x1024) zero pads_S2x1024_S8x1024_060_000 h_S_⟩,
     ⟨S8x1024, pad S8x1024 ![0, 0] ![7, 1008] ![0, 0] x6 zero pads_S1x16_S8x1024_070_010080 h_S_⟩,
     ⟨S8x1024, pad S8x1024 ![0, 0] ![7, 1008] ![0, 0] x7 zero pads_S1x16_S8x1024_070_010080 h_S_⟩,
     ⟨S8x1024, pad S8x1024 ![0, 0] ![7, 1008] ![0, 0] x8 zero pads_S1x16_S8x1024_070_010080 h_S_⟩,
     ⟨S8x1024, pad S8x1024 ![0, 0] ![7, 0] ![0, 0] x9 zero pads_S1x1024_S8x1024_070_000 h_S_⟩,
     ⟨S8x1024, pad S8x1024 ![0, 0] ![7, 0] ![0, 0] x10 zero pads_S1x1024_S8x1024_070_000 h_S_⟩,
     ⟨S8x1024, pad S8x1024 ![0, 0] ![7, 0] ![0, 0] x11 zero pads_S1x1024_S8x1024_070_000 h_S_⟩,
     ⟨S8x1024, pad S8x1024 ![0, 0] ![7, 0] ![0, 0] x12 zero pads_S1x1024_S8x1024_070_000 h_S_⟩]
    concatenates_S16x1024_S8x1024_S8x1024_S8x1024_S8x1024_S8x1024_S8x1024_S8x1024_S8x1024_S8x1024_S8x1024_S8x1024_S8x1024_S112x1024_d0

/-- and each weight's entries among the rows. -/
def cut0 (y : Vec Ideal S112x1024 .f32) : Vec Ideal S16x256 .f32 :=
  extractStridedSlice S16x256 ![0, 0] (extractStridedSlice S16x1024 ![0, 0] y slices_S112x1024_S16x1024_0_0) slices_S16x1024_S16x256_0_0
def cut1 (y : Vec Ideal S112x1024 .f32) : Vec Ideal S4x384 .f32 :=
  extractStridedSlice S4x384 ![0, 0] (extractStridedSlice S4x1024 ![16, 0] y slices_S112x1024_S4x1024_16_0) slices_S4x1024_S4x384_0_0
def cut2 (y : Vec Ideal S112x1024 .f32) : Vec Ideal S1x1024 .f32 :=
  extractStridedSlice S1x1024 ![24, 0] y slices_S112x1024_S1x1024_24_0
def cut3 (y : Vec Ideal S112x1024 .f32) : Vec Ideal S1x384 .f32 :=
  extractStridedSlice S1x384 ![0, 0] (extractStridedSlice S1x1024 ![32, 0] y slices_S112x1024_S1x1024_32_0) slices_S1x1024_S1x384_0_0
def cut4 (y : Vec Ideal S112x1024 .f32) : Vec Ideal S1x256 .f32 :=
  extractStridedSlice S1x256 ![0, 0] (extractStridedSlice S1x1024 ![40, 0] y slices_S112x1024_S1x1024_40_0) slices_S1x1024_S1x256_0_0
def cut5 (y : Vec Ideal S112x1024 .f32) : Vec Ideal S1x1536 .f32 :=
  extractStridedSlice S1x1536 ![0, 0] (shapeCast S1x2048 (extractStridedSlice S2x1024 ![48, 0] y slices_S112x1024_S2x1024_48_0) shapeCasts_S2x1024_S1x2048) slices_S1x2048_S1x1536_0_0
def cut6 (y : Vec Ideal S112x1024 .f32) : Vec Ideal S1x16 .f32 :=
  extractStridedSlice S1x16 ![0, 0] (extractStridedSlice S1x1024 ![56, 0] y slices_S112x1024_S1x1024_56_0) slices_S1x1024_S1x16_0_0
def cut7 (y : Vec Ideal S112x1024 .f32) : Vec Ideal S1x16 .f32 :=
  extractStridedSlice S1x16 ![0, 0] (extractStridedSlice S1x1024 ![64, 0] y slices_S112x1024_S1x1024_64_0) slices_S1x1024_S1x16_0_0
def cut8 (y : Vec Ideal S112x1024 .f32) : Vec Ideal S1x16 .f32 :=
  extractStridedSlice S1x16 ![0, 0] (extractStridedSlice S1x1024 ![72, 0] y slices_S112x1024_S1x1024_72_0) slices_S1x1024_S1x16_0_0
def cut9 (y : Vec Ideal S112x1024 .f32) : Vec Ideal S1x1024 .f32 :=
  extractStridedSlice S1x1024 ![80, 0] y slices_S112x1024_S1x1024_80_0
def cut10 (y : Vec Ideal S112x1024 .f32) : Vec Ideal S1x1024 .f32 :=
  extractStridedSlice S1x1024 ![88, 0] y slices_S112x1024_S1x1024_88_0
def cut11 (y : Vec Ideal S112x1024 .f32) : Vec Ideal S1x1024 .f32 :=
  extractStridedSlice S1x1024 ![96, 0] y slices_S112x1024_S1x1024_96_0
def cut12 (y : Vec Ideal S112x1024 .f32) : Vec Ideal S1x1024 .f32 :=
  extractStridedSlice S1x1024 ![104, 0] y slices_S112x1024_S1x1024_104_0

section

variable (x0 : Vec Ideal S16x256 .f32) (x1 : Vec Ideal S4x384 .f32) (x2 : Vec Ideal S1x1024 .f32) (x3 : Vec Ideal S1x384 .f32) (x4 : Vec Ideal S1x256 .f32) (x5 : Vec Ideal S1x1536 .f32) (x6 : Vec Ideal S1x16 .f32) (x7 : Vec Ideal S1x16 .f32) (x8 : Vec Ideal S1x16 .f32) (x9 : Vec Ideal S1x1024 .f32) (x10 : Vec Ideal S1x1024 .f32) (x11 : Vec Ideal S1x1024 .f32) (x12 : Vec Ideal S1x1024 .f32)

theorem cut0_pack : cut0 (pack x0 x1 x2 x3 x4 x5 x6 x7 x8 x9 x10 x11 x12) = x0 := by
  funext i
  obtain ⟨a, n, rfl⟩ : ∃ (a : Fin 16) (n : Fin 256), i = ix2 a n := ⟨i 0, i 1, eq_ix2 i⟩
  pointwise [pack, cut0]
theorem cut1_pack : cut1 (pack x0 x1 x2 x3 x4 x5 x6 x7 x8 x9 x10 x11 x12) = x1 := by
  funext i
  obtain ⟨a, n, rfl⟩ : ∃ (a : Fin 4) (n : Fin 384), i = ix2 a n := ⟨i 0, i 1, eq_ix2 i⟩
  obtain rfl | rfl | rfl | rfl : a = 0 ∨ a = 1 ∨ a = 2 ∨ a = 3 := by revert a; decide
  all_goals pointwise [pack, cut1]
theorem cut2_pack : cut2 (pack x0 x1 x2 x3 x4 x5 x6 x7 x8 x9 x10 x11 x12) = x2 := by
  funext i
  obtain ⟨a, n, rfl⟩ : ∃ (a : Fin 1) (n : Fin 1024), i = ix2 a n := ⟨i 0, i 1, eq_ix2 i⟩
  pointwise [pack, cut2]
  rw [Subsingleton.elim a 0]
theorem cut3_pack : cut3 (pack x0 x1 x2 x3 x4 x5 x6 x7 x8 x9 x10 x11 x12) = x3 := by
  funext i
  obtain ⟨a, n, rfl⟩ : ∃ (a : Fin 1) (n : Fin 384), i = ix2 a n := ⟨i 0, i 1, eq_ix2 i⟩
  pointwise [pack, cut3]
  rw [Subsingleton.elim a 0]
theorem cut4_pack : cut4 (pack x0 x1 x2 x3 x4 x5 x6 x7 x8 x9 x10 x11 x12) = x4 := by
  funext i
  obtain ⟨a, n, rfl⟩ : ∃ (a : Fin 1) (n : Fin 256), i = ix2 a n := ⟨i 0, i 1, eq_ix2 i⟩
  pointwise [pack, cut4]
  rw [Subsingleton.elim a 0]
theorem cut5_pack : cut5 (pack x0 x1 x2 x3 x4 x5 x6 x7 x8 x9 x10 x11 x12) = x5 := by
  have e : extractStridedSlice S2x1024 ![48, 0] (pack x0 x1 x2 x3 x4 x5 x6 x7 x8 x9 x10 x11 x12) slices_S112x1024_S2x1024_48_0
      = shapeCast S2x1024 (pad S1x2048 ![0, 0] ![0, 512] ![0, 0] x5 zero pads_S1x1536_S1x2048_000_05120 h_S_) shapeCasts_S1x2048_S2x1024 := by
    unfold pack
    generalize shapeCast S2x1024 (pad S1x2048 ![0, 0] ![0, 512] ![0, 0] x5 zero pads_S1x1536_S1x2048_000_05120 h_S_) shapeCasts_S1x2048_S2x1024 = q
    funext i
    obtain ⟨a, n, rfl⟩ : ∃ (a : Fin 2) (n : Fin 1024), i = ix2 a n := ⟨i 0, i 1, eq_ix2 i⟩
    obtain rfl | rfl : a = 0 ∨ a = 1 := by revert a; decide
    all_goals pointwise
  unfold cut5
  rw [e, shapeCast_shapeCast]
  funext i
  obtain ⟨a, n, rfl⟩ : ∃ (a : Fin 1) (n : Fin 1536), i = ix2 a n := ⟨i 0, i 1, eq_ix2 i⟩
  pointwise
  rw [Subsingleton.elim a 0]
theorem cut6_pack : cut6 (pack x0 x1 x2 x3 x4 x5 x6 x7 x8 x9 x10 x11 x12) = x6 := by
  funext i
  obtain ⟨a, n, rfl⟩ : ∃ (a : Fin 1) (n : Fin 16), i = ix2 a n := ⟨i 0, i 1, eq_ix2 i⟩
  pointwise [pack, cut6]
  rw [Subsingleton.elim a 0]
theorem cut7_pack : cut7 (pack x0 x1 x2 x3 x4 x5 x6 x7 x8 x9 x10 x11 x12) = x7 := by
  funext i
  obtain ⟨a, n, rfl⟩ : ∃ (a : Fin 1) (n : Fin 16), i = ix2 a n := ⟨i 0, i 1, eq_ix2 i⟩
  pointwise [pack, cut7]
  rw [Subsingleton.elim a 0]
theorem cut8_pack : cut8 (pack x0 x1 x2 x3 x4 x5 x6 x7 x8 x9 x10 x11 x12) = x8 := by
  funext i
  obtain ⟨a, n, rfl⟩ : ∃ (a : Fin 1) (n : Fin 16), i = ix2 a n := ⟨i 0, i 1, eq_ix2 i⟩
  pointwise [pack, cut8]
  rw [Subsingleton.elim a 0]
theorem cut9_pack : cut9 (pack x0 x1 x2 x3 x4 x5 x6 x7 x8 x9 x10 x11 x12) = x9 := by
  funext i
  obtain ⟨a, n, rfl⟩ : ∃ (a : Fin 1) (n : Fin 1024), i = ix2 a n := ⟨i 0, i 1, eq_ix2 i⟩
  pointwise [pack, cut9]
  rw [Subsingleton.elim a 0]
theorem cut10_pack : cut10 (pack x0 x1 x2 x3 x4 x5 x6 x7 x8 x9 x10 x11 x12) = x10 := by
  funext i
  obtain ⟨a, n, rfl⟩ : ∃ (a : Fin 1) (n : Fin 1024), i = ix2 a n := ⟨i 0, i 1, eq_ix2 i⟩
  pointwise [pack, cut10]
  rw [Subsingleton.elim a 0]
theorem cut11_pack : cut11 (pack x0 x1 x2 x3 x4 x5 x6 x7 x8 x9 x10 x11 x12) = x11 := by
  funext i
  obtain ⟨a, n, rfl⟩ : ∃ (a : Fin 1) (n : Fin 1024), i = ix2 a n := ⟨i 0, i 1, eq_ix2 i⟩
  pointwise [pack, cut11]
  rw [Subsingleton.elim a 0]
theorem cut12_pack : cut12 (pack x0 x1 x2 x3 x4 x5 x6 x7 x8 x9 x10 x11 x12) = x12 := by
  funext i
  obtain ⟨a, n, rfl⟩ : ∃ (a : Fin 1) (n : Fin 1024), i = ix2 a n := ⟨i 0, i 1, eq_ix2 i⟩
  pointwise [pack, cut12]
  rw [Subsingleton.elim a 0]

end

end Cert.Pack
-- ==== Proof.SmallRows.lean ====
/- The optimiser's update of the thirteen small weights: packed into one array, they are updated together, and every weight's rows are AdamW's step of it. -/
module

public import proofs.«01_k».proof.Proof.Pack
public import proofs.«01_k».proof.Proof.Gen.Kernel11Ideal.Frame
public import proofs.«01_k».proof.Proof.Gen.Reference11Ideal.Run
public import proofs.«01_k».proof.Defs
public import Idealize.ShloMosaic.Lib.StableHlo.ReadAt
public import Idealize.ShloMosaic.Lib.Pipeline.ValueKit.Point
public import Idealize.ShloMosaic.PureOps.Ideal

@[expose] public section

set_option maxRecDepth 16384
set_option Elab.async false

noncomputable section

namespace Cert.Small

open Cert.Kernel11Ideal Cert.Kernel11Ideal.Gen Cert.Pack
open Idealize.ShloMosaic Idealize.ShloMosaic.TcCoe Idealize.SL.Sem

attribute [local instance] Cert.Kernel11Ideal.Gen.facts Cert.Reference11Ideal.Gen.facts

/-- The mean of the gradients, -/
def mean {s : Shape} (g m : Vec Ideal s .f32) : Vec Ideal s .f32 := fun i =>
  (Ideal.ofBits .f32 0x3F666666#32 * m i + Ideal.ofBits .f32 0x3DCCCCCD#32 * g i : EReal)
/-- the mean of their squares, -/
def square {s : Shape} (g v : Vec Ideal s .f32) : Vec Ideal s .f32 := fun i =>
  (Ideal.ofBits .f32 0x3F7FBE77#32 * v i + Ideal.ofBits .f32 0x3A83126F#32 * (g i * g i) : EReal)
/-- and AdamW's step from the two. -/
def step {s : Shape} (g w m v : Vec Ideal s .f32) : Vec Ideal s .f32 := fun i =>
  (Ideal.ofBits .f32 0xBA83126F#32 * (Ideal.div (Ideal.div (mean g m i) (Ideal.ofBits .f32 0x3F26BD02#32))
    (Ideal.sqrt (Ideal.div (square g v i) (Ideal.ofBits .f32 0x3C231ACC#32)) + Ideal.ofBits .f32 0x322BCC77#32)
    + Ideal.ofBits .f32 0x3C23D70A#32 * w i) : EReal)

/-- After the call every weight's results are its rows of the call's three arrays. -/
theorem rows (U : Valuation τ sig (Elt Ideal)) :
    StableHlo.after hostOps1 U (Proc.devRef .tc main_v66) = cut0 (U (Proc.devRef .tc main_v64_0))
    ∧ StableHlo.after hostOps1 U (Proc.devRef .tc main_v88) = cut0 (U (Proc.devRef .tc main_v64_1))
    ∧ StableHlo.after hostOps1 U (Proc.devRef .tc main_v110) = cut0 (U (Proc.devRef .tc main_v64_2))
    ∧ StableHlo.after hostOps1 U (Proc.devRef .tc main_v68) = cut1 (U (Proc.devRef .tc main_v64_0))
    ∧ StableHlo.after hostOps1 U (Proc.devRef .tc main_v90) = cut1 (U (Proc.devRef .tc main_v64_1))
    ∧ StableHlo.after hostOps1 U (Proc.devRef .tc main_v112) = cut1 (U (Proc.devRef .tc main_v64_2))
    ∧ StableHlo.after hostOps1 U (Proc.devRef .tc main_v69) = cut2 (U (Proc.devRef .tc main_v64_0))
    ∧ StableHlo.after hostOps1 U (Proc.devRef .tc main_v91) = cut2 (U (Proc.devRef .tc main_v64_1))
    ∧ StableHlo.after hostOps1 U (Proc.devRef .tc main_v113) = cut2 (U (Proc.devRef .tc main_v64_2))
    ∧ StableHlo.after hostOps1 U (Proc.devRef .tc main_v71) = cut3 (U (Proc.devRef .tc main_v64_0))
    ∧ StableHlo.after hostOps1 U (Proc.devRef .tc main_v93) = cut3 (U (Proc.devRef .tc main_v64_1))
    ∧ StableHlo.after hostOps1 U (Proc.devRef .tc main_v115) = cut3 (U (Proc.devRef .tc main_v64_2))
    ∧ StableHlo.after hostOps1 U (Proc.devRef .tc main_v73) = cut4 (U (Proc.devRef .tc main_v64_0))
    ∧ StableHlo.after hostOps1 U (Proc.devRef .tc main_v95) = cut4 (U (Proc.devRef .tc main_v64_1))
    ∧ StableHlo.after hostOps1 U (Proc.devRef .tc main_v117) = cut4 (U (Proc.devRef .tc main_v64_2))
    ∧ StableHlo.after hostOps1 U (Proc.devRef .tc main_v76) = cut5 (U (Proc.devRef .tc main_v64_0))
    ∧ StableHlo.after hostOps1 U (Proc.devRef .tc main_v98) = cut5 (U (Proc.devRef .tc main_v64_1))
    ∧ StableHlo.after hostOps1 U (Proc.devRef .tc main_v120) = cut5 (U (Proc.devRef .tc main_v64_2))
    ∧ StableHlo.after hostOps1 U (Proc.devRef .tc main_v78) = cut6 (U (Proc.devRef .tc main_v64_0))
    ∧ StableHlo.after hostOps1 U (Proc.devRef .tc main_v100) = cut6 (U (Proc.devRef .tc main_v64_1))
    ∧ StableHlo.after hostOps1 U (Proc.devRef .tc main_v122) = cut6 (U (Proc.devRef .tc main_v64_2))
    ∧ StableHlo.after hostOps1 U (Proc.devRef .tc main_v80) = cut7 (U (Proc.devRef .tc main_v64_0))
    ∧ StableHlo.after hostOps1 U (Proc.devRef .tc main_v102) = cut7 (U (Proc.devRef .tc main_v64_1))
    ∧ StableHlo.after hostOps1 U (Proc.devRef .tc main_v124) = cut7 (U (Proc.devRef .tc main_v64_2))
    ∧ StableHlo.after hostOps1 U (Proc.devRef .tc main_v82) = cut8 (U (Proc.devRef .tc main_v64_0))
    ∧ StableHlo.after hostOps1 U (Proc.devRef .tc main_v104) = cut8 (U (Proc.devRef .tc main_v64_1))
    ∧ StableHlo.after hostOps1 U (Proc.devRef .tc main_v126) = cut8 (U (Proc.devRef .tc main_v64_2))
    ∧ StableHlo.after hostOps1 U (Proc.devRef .tc main_v83) = cut9 (U (Proc.devRef .tc main_v64_0))
    ∧ StableHlo.after hostOps1 U (Proc.devRef .tc main_v105) = cut9 (U (Proc.devRef .tc main_v64_1))
    ∧ StableHlo.after hostOps1 U (Proc.devRef .tc main_v127) = cut9 (U (Proc.devRef .tc main_v64_2))
    ∧ StableHlo.after hostOps1 U (Proc.devRef .tc main_v84) = cut10 (U (Proc.devRef .tc main_v64_0))
    ∧ StableHlo.after hostOps1 U (Proc.devRef .tc main_v106) = cut10 (U (Proc.devRef .tc main_v64_1))
    ∧ StableHlo.after hostOps1 U (Proc.devRef .tc main_v128) = cut10 (U (Proc.devRef .tc main_v64_2))
    ∧ StableHlo.after hostOps1 U (Proc.devRef .tc main_v85) = cut11 (U (Proc.devRef .tc main_v64_0))
    ∧ StableHlo.after hostOps1 U (Proc.devRef .tc main_v107) = cut11 (U (Proc.devRef .tc main_v64_1))
    ∧ StableHlo.after hostOps1 U (Proc.devRef .tc main_v129) = cut11 (U (Proc.devRef .tc main_v64_2))
    ∧ StableHlo.after hostOps1 U (Proc.devRef .tc main_v86) = cut12 (U (Proc.devRef .tc main_v64_0))
    ∧ StableHlo.after hostOps1 U (Proc.devRef .tc main_v108) = cut12 (U (Proc.devRef .tc main_v64_1))
    ∧ StableHlo.after hostOps1 U (Proc.devRef .tc main_v130) = cut12 (U (Proc.devRef .tc main_v64_2)) := by
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals
    after_reads_simp
    rfl

variable (m : (ℓ : Loc nD τ sig) → Buf (Elt Ideal) ℓ) (c : Dev nD)

/-- The thirteen gradients one below the other, -/
def G : Vec Ideal S112x1024 .f32 :=
  pack (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
/-- the weights, -/
def W : Vec Ideal S112x1024 .f32 :=
  pack (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25))
/-- the means -/
def M : Vec Ideal S112x1024 .f32 :=
  pack (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35)) (m ((c : Thread nD τ).loc main_arg36)) (m ((c : Thread nD τ).loc main_arg37)) (m ((c : Thread nD τ).loc main_arg38))
/-- and the mean squares. -/
def Q : Vec Ideal S112x1024 .f32 :=
  pack (m ((c : Thread nD τ).loc main_arg39)) (m ((c : Thread nD τ).loc main_arg40)) (m ((c : Thread nD τ).loc main_arg41)) (m ((c : Thread nD τ).loc main_arg42)) (m ((c : Thread nD τ).loc main_arg43)) (m ((c : Thread nD τ).loc main_arg44)) (m ((c : Thread nD τ).loc main_arg45)) (m ((c : Thread nD τ).loc main_arg46)) (m ((c : Thread nD τ).loc main_arg47)) (m ((c : Thread nD τ).loc main_arg48)) (m ((c : Thread nD τ).loc main_arg49)) (m ((c : Thread nD τ).loc main_arg50)) (m ((c : Thread nD τ).loc main_arg51))

theorem V_G : V m c main_v15 = G m c := by
  unfold V V0
  after_reads_simp
  rfl

theorem V_W : V m c main_v31 = W m c := by
  unfold V V0
  after_reads_simp
  rfl

theorem V_M : V m c main_v47 = M m c := by
  unfold V V0
  after_reads_simp
  rfl

theorem V_Q : V m c main_v63 = Q m c := by
  unfold V V0
  after_reads_simp
  rfl

theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] :=
  (by decide +kernel : ∀ t : Fin grid0.N, _)

end Cert.Small
-- ==== Proof.Small.lean ====
/- The optimiser's update of the thirteen small weights: packed into one array, they are updated together, and every weight's rows are AdamW's step of it. -/
module

public import proofs.«01_k».proof.Proof.SmallRows

@[expose] public section

set_option maxRecDepth 16384
set_option Elab.async false

noncomputable section

namespace Cert.Small

open Cert.Kernel11Ideal Cert.Kernel11Ideal.Gen Cert.Pack
open Idealize.ShloMosaic Idealize.ShloMosaic.TcCoe Idealize.SL.Sem

attribute [local instance] Cert.Kernel11Ideal.Gen.facts Cert.Reference11Ideal.Gen.facts

variable (m : (ℓ : Loc nD τ sig) → Buf (Elt Ideal) ℓ) (c : Dev nD)

/-- The call has one point, whose blocks are the whole arrays. -/
theorem blkG (t : Fin cfg0.N) : iblk m c 0 t = G m c := by
  rw [← V_G]
  funext y
  obtain ⟨a, n, rfl⟩ : ∃ (a : Fin 112) (n : Fin 1024), y = ix2 a n := ⟨y 0, y 1, eq_ix2 y⟩
  blk_ext [iblk, idx t]
theorem blkW (t : Fin cfg0.N) : iblk m c 1 t = W m c := by
  rw [← V_W]
  funext y
  obtain ⟨a, n, rfl⟩ : ∃ (a : Fin 112) (n : Fin 1024), y = ix2 a n := ⟨y 0, y 1, eq_ix2 y⟩
  blk_ext [iblk, idx t]
theorem blkM (t : Fin cfg0.N) : iblk m c 2 t = M m c := by
  rw [← V_M]
  funext y
  obtain ⟨a, n, rfl⟩ : ∃ (a : Fin 112) (n : Fin 1024), y = ix2 a n := ⟨y 0, y 1, eq_ix2 y⟩
  blk_ext [iblk, idx t]
theorem blkQ (t : Fin cfg0.N) : iblk m c 3 t = Q m c := by
  rw [← V_Q]
  funext y
  obtain ⟨a, n, rfl⟩ : ∃ (a : Fin 112) (n : Fin 1024), y = ix2 a n := ⟨y 0, y 1, eq_ix2 y⟩
  blk_ext [iblk, idx t]

/-- The body's arithmetic, entry by entry. -/
theorem pay4 (g w n q : Vec Ideal S112x1024 .f32) : k0_pay4 g n q w = step g w n q := by
  simp only [k0_pay4, k0_pay3, k0_pay2, k0_pay1, shapeCast_self]
  rfl
theorem pay2 (g n : Vec Ideal S112x1024 .f32) : k0_pay2 g n = mean g n := by
  simp only [k0_pay2, k0_pay1, shapeCast_self]
  rfl
theorem pay3 (g q : Vec Ideal S112x1024 .f32) : k0_pay3 g q = square g q := by
  simp only [k0_pay3, k0_pay1, shapeCast_self]
  rfl

/-- What the call leaves in its three arrays. -/
theorem arr4 : (dats m 0 c).arrAt 4 (cfgs 0).N = step (G m c) (W m c) (M m c) (Q m c) := by
  refine (dats m 0 c).arrAt_eq_of_covers 4 _ (by decide +kernel) fun t hf y => ?_
  have e0 : ((((cfg0.win 4).blk t).view.emb y) 0).val = (y 0).val := by
    blk_simp [idx t]
  have e1 : ((((cfg0.win 4).blk t).view.emb y) 1).val = (y 1).val := by
    blk_simp [idx t]
  obtain ⟨i, hi⟩ : ∃ i, i = ((cfg0.win 4).blk t).view.emb y := ⟨_, rfl⟩
  rw [← hi] at e0 e1 ⊢
  blk_simp
  rw [after0_4, blkG, blkW, blkM, blkQ]
  frame_out
  obtain ⟨a, n, rfl⟩ : ∃ (a : Fin 112) (n : Fin 1024), y = ix2 a n := ⟨y 0, y 1, eq_ix2 y⟩
  obtain ⟨r, k, rfl⟩ : ∃ (r : Fin 112) (k : Fin 1024), i = ix2 r k := ⟨i 0, i 1, eq_ix2 i⟩
  obtain rfl : r = a := Fin.ext e0
  obtain rfl : k = n := Fin.ext e1
  exact congrFun (pay4 ..) _
theorem arr5 : (dats m 0 c).arrAt 5 (cfgs 0).N = mean (G m c) (M m c) := by
  refine (dats m 0 c).arrAt_eq_of_covers 5 _ (by decide +kernel) fun t hf y => ?_
  have e0 : ((((cfg0.win 5).blk t).view.emb y) 0).val = (y 0).val := by
    blk_simp [idx t]
  have e1 : ((((cfg0.win 5).blk t).view.emb y) 1).val = (y 1).val := by
    blk_simp [idx t]
  obtain ⟨i, hi⟩ : ∃ i, i = ((cfg0.win 5).blk t).view.emb y := ⟨_, rfl⟩
  rw [← hi] at e0 e1 ⊢
  blk_simp
  rw [after0_5, blkG, blkW, blkM, blkQ]
  frame_out
  obtain ⟨a, n, rfl⟩ : ∃ (a : Fin 112) (n : Fin 1024), y = ix2 a n := ⟨y 0, y 1, eq_ix2 y⟩
  obtain ⟨r, k, rfl⟩ : ∃ (r : Fin 112) (k : Fin 1024), i = ix2 r k := ⟨i 0, i 1, eq_ix2 i⟩
  obtain rfl : r = a := Fin.ext e0
  obtain rfl : k = n := Fin.ext e1
  exact congrFun (pay2 ..) _
theorem arr6 : (dats m 0 c).arrAt 6 (cfgs 0).N = square (G m c) (Q m c) := by
  refine (dats m 0 c).arrAt_eq_of_covers 6 _ (by decide +kernel) fun t hf y => ?_
  have e0 : ((((cfg0.win 6).blk t).view.emb y) 0).val = (y 0).val := by
    blk_simp [idx t]
  have e1 : ((((cfg0.win 6).blk t).view.emb y) 1).val = (y 1).val := by
    blk_simp [idx t]
  obtain ⟨i, hi⟩ : ∃ i, i = ((cfg0.win 6).blk t).view.emb y := ⟨_, rfl⟩
  rw [← hi] at e0 e1 ⊢
  blk_simp
  rw [after0_6, blkG, blkW, blkM, blkQ]
  frame_out
  obtain ⟨a, n, rfl⟩ : ∃ (a : Fin 112) (n : Fin 1024), y = ix2 a n := ⟨y 0, y 1, eq_ix2 y⟩
  obtain ⟨r, k, rfl⟩ : ∃ (r : Fin 112) (k : Fin 1024), i = ix2 r k := ⟨i 0, i 1, eq_ix2 i⟩
  obtain rfl : r = a := Fin.ext e0
  obtain rfl : k = n := Fin.ext e1
  exact congrFun (pay3 ..) _

end Cert.Small
-- ==== Proof.Weights.lean ====
/- What the optimiser's call over the small weights leaves at its results: the step, the mean and the mean of the squares of each weight. -/
module

public import proofs.«01_k».proof.Proof.Small

@[expose] public section

set_option maxRecDepth 16384
set_option Elab.async false

noncomputable section

namespace Cert.Small

open Cert.Kernel11Ideal Cert.Kernel11Ideal.Gen Cert.Pack
open Idealize.ShloMosaic Idealize.ShloMosaic.TcCoe Idealize.SL.Sem

attribute [local instance] Cert.Kernel11Ideal.Gen.facts Cert.Reference11Ideal.Gen.facts

variable (m : (ℓ : Loc nD τ sig) → Buf (Elt Ideal) ℓ)

section

variable (c : Dev nD)

/- The rows of each weight in the call's three arrays. -/
theorem w0 : cut0 (step (G m c) (W m c) (M m c) (Q m c)) = step (s := S16x256) (m ((c.tc : Thread nD τ).loc main_arg0)) (m ((c.tc : Thread nD τ).loc main_arg13)) (m ((c.tc : Thread nD τ).loc main_arg26)) (m ((c.tc : Thread nD τ).loc main_arg39))
    ∧ cut0 (mean (G m c) (M m c)) = mean (s := S16x256) (m ((c.tc : Thread nD τ).loc main_arg0)) (m ((c.tc : Thread nD τ).loc main_arg26))
    ∧ cut0 (square (G m c) (Q m c)) = square (s := S16x256) (m ((c.tc : Thread nD τ).loc main_arg0)) (m ((c.tc : Thread nD τ).loc main_arg39)) := by
  have g : cut0 (G m c) = m ((c.tc : Thread nD τ).loc main_arg0) := cut0_pack ..
  have w : cut0 (W m c) = m ((c.tc : Thread nD τ).loc main_arg13) := cut0_pack ..
  have n : cut0 (M m c) = m ((c.tc : Thread nD τ).loc main_arg26) := cut0_pack ..
  have q : cut0 (Q m c) = m ((c.tc : Thread nD τ).loc main_arg39) := cut0_pack ..
  rw [← g, ← w, ← n, ← q]
  exact ⟨rfl, rfl, rfl⟩
theorem w1 : cut1 (step (G m c) (W m c) (M m c) (Q m c)) = step (s := S4x384) (m ((c.tc : Thread nD τ).loc main_arg1)) (m ((c.tc : Thread nD τ).loc main_arg14)) (m ((c.tc : Thread nD τ).loc main_arg27)) (m ((c.tc : Thread nD τ).loc main_arg40))
    ∧ cut1 (mean (G m c) (M m c)) = mean (s := S4x384) (m ((c.tc : Thread nD τ).loc main_arg1)) (m ((c.tc : Thread nD τ).loc main_arg27))
    ∧ cut1 (square (G m c) (Q m c)) = square (s := S4x384) (m ((c.tc : Thread nD τ).loc main_arg1)) (m ((c.tc : Thread nD τ).loc main_arg40)) := by
  have g : cut1 (G m c) = m ((c.tc : Thread nD τ).loc main_arg1) := cut1_pack ..
  have w : cut1 (W m c) = m ((c.tc : Thread nD τ).loc main_arg14) := cut1_pack ..
  have n : cut1 (M m c) = m ((c.tc : Thread nD τ).loc main_arg27) := cut1_pack ..
  have q : cut1 (Q m c) = m ((c.tc : Thread nD τ).loc main_arg40) := cut1_pack ..
  rw [← g, ← w, ← n, ← q]
  exact ⟨rfl, rfl, rfl⟩
theorem w2 : cut2 (step (G m c) (W m c) (M m c) (Q m c)) = step (s := S1x1024) (m ((c.tc : Thread nD τ).loc main_arg2)) (m ((c.tc : Thread nD τ).loc main_arg15)) (m ((c.tc : Thread nD τ).loc main_arg28)) (m ((c.tc : Thread nD τ).loc main_arg41))
    ∧ cut2 (mean (G m c) (M m c)) = mean (s := S1x1024) (m ((c.tc : Thread nD τ).loc main_arg2)) (m ((c.tc : Thread nD τ).loc main_arg28))
    ∧ cut2 (square (G m c) (Q m c)) = square (s := S1x1024) (m ((c.tc : Thread nD τ).loc main_arg2)) (m ((c.tc : Thread nD τ).loc main_arg41)) := by
  have g : cut2 (G m c) = m ((c.tc : Thread nD τ).loc main_arg2) := cut2_pack ..
  have w : cut2 (W m c) = m ((c.tc : Thread nD τ).loc main_arg15) := cut2_pack ..
  have n : cut2 (M m c) = m ((c.tc : Thread nD τ).loc main_arg28) := cut2_pack ..
  have q : cut2 (Q m c) = m ((c.tc : Thread nD τ).loc main_arg41) := cut2_pack ..
  rw [← g, ← w, ← n, ← q]
  exact ⟨rfl, rfl, rfl⟩
theorem w3 : cut3 (step (G m c) (W m c) (M m c) (Q m c)) = step (s := S1x384) (m ((c.tc : Thread nD τ).loc main_arg3)) (m ((c.tc : Thread nD τ).loc main_arg16)) (m ((c.tc : Thread nD τ).loc main_arg29)) (m ((c.tc : Thread nD τ).loc main_arg42))
    ∧ cut3 (mean (G m c) (M m c)) = mean (s := S1x384) (m ((c.tc : Thread nD τ).loc main_arg3)) (m ((c.tc : Thread nD τ).loc main_arg29))
    ∧ cut3 (square (G m c) (Q m c)) = square (s := S1x384) (m ((c.tc : Thread nD τ).loc main_arg3)) (m ((c.tc : Thread nD τ).loc main_arg42)) := by
  have g : cut3 (G m c) = m ((c.tc : Thread nD τ).loc main_arg3) := cut3_pack ..
  have w : cut3 (W m c) = m ((c.tc : Thread nD τ).loc main_arg16) := cut3_pack ..
  have n : cut3 (M m c) = m ((c.tc : Thread nD τ).loc main_arg29) := cut3_pack ..
  have q : cut3 (Q m c) = m ((c.tc : Thread nD τ).loc main_arg42) := cut3_pack ..
  rw [← g, ← w, ← n, ← q]
  exact ⟨rfl, rfl, rfl⟩
theorem w4 : cut4 (step (G m c) (W m c) (M m c) (Q m c)) = step (s := S1x256) (m ((c.tc : Thread nD τ).loc main_arg4)) (m ((c.tc : Thread nD τ).loc main_arg17)) (m ((c.tc : Thread nD τ).loc main_arg30)) (m ((c.tc : Thread nD τ).loc main_arg43))
    ∧ cut4 (mean (G m c) (M m c)) = mean (s := S1x256) (m ((c.tc : Thread nD τ).loc main_arg4)) (m ((c.tc : Thread nD τ).loc main_arg30))
    ∧ cut4 (square (G m c) (Q m c)) = square (s := S1x256) (m ((c.tc : Thread nD τ).loc main_arg4)) (m ((c.tc : Thread nD τ).loc main_arg43)) := by
  have g : cut4 (G m c) = m ((c.tc : Thread nD τ).loc main_arg4) := cut4_pack ..
  have w : cut4 (W m c) = m ((c.tc : Thread nD τ).loc main_arg17) := cut4_pack ..
  have n : cut4 (M m c) = m ((c.tc : Thread nD τ).loc main_arg30) := cut4_pack ..
  have q : cut4 (Q m c) = m ((c.tc : Thread nD τ).loc main_arg43) := cut4_pack ..
  rw [← g, ← w, ← n, ← q]
  exact ⟨rfl, rfl, rfl⟩
theorem w5 : cut5 (step (G m c) (W m c) (M m c) (Q m c)) = step (s := S1x1536) (m ((c.tc : Thread nD τ).loc main_arg5)) (m ((c.tc : Thread nD τ).loc main_arg18)) (m ((c.tc : Thread nD τ).loc main_arg31)) (m ((c.tc : Thread nD τ).loc main_arg44))
    ∧ cut5 (mean (G m c) (M m c)) = mean (s := S1x1536) (m ((c.tc : Thread nD τ).loc main_arg5)) (m ((c.tc : Thread nD τ).loc main_arg31))
    ∧ cut5 (square (G m c) (Q m c)) = square (s := S1x1536) (m ((c.tc : Thread nD τ).loc main_arg5)) (m ((c.tc : Thread nD τ).loc main_arg44)) := by
  have g : cut5 (G m c) = m ((c.tc : Thread nD τ).loc main_arg5) := cut5_pack ..
  have w : cut5 (W m c) = m ((c.tc : Thread nD τ).loc main_arg18) := cut5_pack ..
  have n : cut5 (M m c) = m ((c.tc : Thread nD τ).loc main_arg31) := cut5_pack ..
  have q : cut5 (Q m c) = m ((c.tc : Thread nD τ).loc main_arg44) := cut5_pack ..
  rw [← g, ← w, ← n, ← q]
  exact ⟨rfl, rfl, rfl⟩
theorem w6 : cut6 (step (G m c) (W m c) (M m c) (Q m c)) = step (s := S1x16) (m ((c.tc : Thread nD τ).loc main_arg6)) (m ((c.tc : Thread nD τ).loc main_arg19)) (m ((c.tc : Thread nD τ).loc main_arg32)) (m ((c.tc : Thread nD τ).loc main_arg45))
    ∧ cut6 (mean (G m c) (M m c)) = mean (s := S1x16) (m ((c.tc : Thread nD τ).loc main_arg6)) (m ((c.tc : Thread nD τ).loc main_arg32))
    ∧ cut6 (square (G m c) (Q m c)) = square (s := S1x16) (m ((c.tc : Thread nD τ).loc main_arg6)) (m ((c.tc : Thread nD τ).loc main_arg45)) := by
  have g : cut6 (G m c) = m ((c.tc : Thread nD τ).loc main_arg6) := cut6_pack ..
  have w : cut6 (W m c) = m ((c.tc : Thread nD τ).loc main_arg19) := cut6_pack ..
  have n : cut6 (M m c) = m ((c.tc : Thread nD τ).loc main_arg32) := cut6_pack ..
  have q : cut6 (Q m c) = m ((c.tc : Thread nD τ).loc main_arg45) := cut6_pack ..
  rw [← g, ← w, ← n, ← q]
  exact ⟨rfl, rfl, rfl⟩
theorem w7 : cut7 (step (G m c) (W m c) (M m c) (Q m c)) = step (s := S1x16) (m ((c.tc : Thread nD τ).loc main_arg7)) (m ((c.tc : Thread nD τ).loc main_arg20)) (m ((c.tc : Thread nD τ).loc main_arg33)) (m ((c.tc : Thread nD τ).loc main_arg46))
    ∧ cut7 (mean (G m c) (M m c)) = mean (s := S1x16) (m ((c.tc : Thread nD τ).loc main_arg7)) (m ((c.tc : Thread nD τ).loc main_arg33))
    ∧ cut7 (square (G m c) (Q m c)) = square (s := S1x16) (m ((c.tc : Thread nD τ).loc main_arg7)) (m ((c.tc : Thread nD τ).loc main_arg46)) := by
  have g : cut7 (G m c) = m ((c.tc : Thread nD τ).loc main_arg7) := cut7_pack ..
  have w : cut7 (W m c) = m ((c.tc : Thread nD τ).loc main_arg20) := cut7_pack ..
  have n : cut7 (M m c) = m ((c.tc : Thread nD τ).loc main_arg33) := cut7_pack ..
  have q : cut7 (Q m c) = m ((c.tc : Thread nD τ).loc main_arg46) := cut7_pack ..
  rw [← g, ← w, ← n, ← q]
  exact ⟨rfl, rfl, rfl⟩
theorem w8 : cut8 (step (G m c) (W m c) (M m c) (Q m c)) = step (s := S1x16) (m ((c.tc : Thread nD τ).loc main_arg8)) (m ((c.tc : Thread nD τ).loc main_arg21)) (m ((c.tc : Thread nD τ).loc main_arg34)) (m ((c.tc : Thread nD τ).loc main_arg47))
    ∧ cut8 (mean (G m c) (M m c)) = mean (s := S1x16) (m ((c.tc : Thread nD τ).loc main_arg8)) (m ((c.tc : Thread nD τ).loc main_arg34))
    ∧ cut8 (square (G m c) (Q m c)) = square (s := S1x16) (m ((c.tc : Thread nD τ).loc main_arg8)) (m ((c.tc : Thread nD τ).loc main_arg47)) := by
  have g : cut8 (G m c) = m ((c.tc : Thread nD τ).loc main_arg8) := cut8_pack ..
  have w : cut8 (W m c) = m ((c.tc : Thread nD τ).loc main_arg21) := cut8_pack ..
  have n : cut8 (M m c) = m ((c.tc : Thread nD τ).loc main_arg34) := cut8_pack ..
  have q : cut8 (Q m c) = m ((c.tc : Thread nD τ).loc main_arg47) := cut8_pack ..
  rw [← g, ← w, ← n, ← q]
  exact ⟨rfl, rfl, rfl⟩
theorem w9 : cut9 (step (G m c) (W m c) (M m c) (Q m c)) = step (s := S1x1024) (m ((c.tc : Thread nD τ).loc main_arg9)) (m ((c.tc : Thread nD τ).loc main_arg22)) (m ((c.tc : Thread nD τ).loc main_arg35)) (m ((c.tc : Thread nD τ).loc main_arg48))
    ∧ cut9 (mean (G m c) (M m c)) = mean (s := S1x1024) (m ((c.tc : Thread nD τ).loc main_arg9)) (m ((c.tc : Thread nD τ).loc main_arg35))
    ∧ cut9 (square (G m c) (Q m c)) = square (s := S1x1024) (m ((c.tc : Thread nD τ).loc main_arg9)) (m ((c.tc : Thread nD τ).loc main_arg48)) := by
  have g : cut9 (G m c) = m ((c.tc : Thread nD τ).loc main_arg9) := cut9_pack ..
  have w : cut9 (W m c) = m ((c.tc : Thread nD τ).loc main_arg22) := cut9_pack ..
  have n : cut9 (M m c) = m ((c.tc : Thread nD τ).loc main_arg35) := cut9_pack ..
  have q : cut9 (Q m c) = m ((c.tc : Thread nD τ).loc main_arg48) := cut9_pack ..
  rw [← g, ← w, ← n, ← q]
  exact ⟨rfl, rfl, rfl⟩
theorem w10 : cut10 (step (G m c) (W m c) (M m c) (Q m c)) = step (s := S1x1024) (m ((c.tc : Thread nD τ).loc main_arg10)) (m ((c.tc : Thread nD τ).loc main_arg23)) (m ((c.tc : Thread nD τ).loc main_arg36)) (m ((c.tc : Thread nD τ).loc main_arg49))
    ∧ cut10 (mean (G m c) (M m c)) = mean (s := S1x1024) (m ((c.tc : Thread nD τ).loc main_arg10)) (m ((c.tc : Thread nD τ).loc main_arg36))
    ∧ cut10 (square (G m c) (Q m c)) = square (s := S1x1024) (m ((c.tc : Thread nD τ).loc main_arg10)) (m ((c.tc : Thread nD τ).loc main_arg49)) := by
  have g : cut10 (G m c) = m ((c.tc : Thread nD τ).loc main_arg10) := cut10_pack ..
  have w : cut10 (W m c) = m ((c.tc : Thread nD τ).loc main_arg23) := cut10_pack ..
  have n : cut10 (M m c) = m ((c.tc : Thread nD τ).loc main_arg36) := cut10_pack ..
  have q : cut10 (Q m c) = m ((c.tc : Thread nD τ).loc main_arg49) := cut10_pack ..
  rw [← g, ← w, ← n, ← q]
  exact ⟨rfl, rfl, rfl⟩
theorem w11 : cut11 (step (G m c) (W m c) (M m c) (Q m c)) = step (s := S1x1024) (m ((c.tc : Thread nD τ).loc main_arg11)) (m ((c.tc : Thread nD τ).loc main_arg24)) (m ((c.tc : Thread nD τ).loc main_arg37)) (m ((c.tc : Thread nD τ).loc main_arg50))
    ∧ cut11 (mean (G m c) (M m c)) = mean (s := S1x1024) (m ((c.tc : Thread nD τ).loc main_arg11)) (m ((c.tc : Thread nD τ).loc main_arg37))
    ∧ cut11 (square (G m c) (Q m c)) = square (s := S1x1024) (m ((c.tc : Thread nD τ).loc main_arg11)) (m ((c.tc : Thread nD τ).loc main_arg50)) := by
  have g : cut11 (G m c) = m ((c.tc : Thread nD τ).loc main_arg11) := cut11_pack ..
  have w : cut11 (W m c) = m ((c.tc : Thread nD τ).loc main_arg24) := cut11_pack ..
  have n : cut11 (M m c) = m ((c.tc : Thread nD τ).loc main_arg37) := cut11_pack ..
  have q : cut11 (Q m c) = m ((c.tc : Thread nD τ).loc main_arg50) := cut11_pack ..
  rw [← g, ← w, ← n, ← q]
  exact ⟨rfl, rfl, rfl⟩
theorem w12 : cut12 (step (G m c) (W m c) (M m c) (Q m c)) = step (s := S1x1024) (m ((c.tc : Thread nD τ).loc main_arg12)) (m ((c.tc : Thread nD τ).loc main_arg25)) (m ((c.tc : Thread nD τ).loc main_arg38)) (m ((c.tc : Thread nD τ).loc main_arg51))
    ∧ cut12 (mean (G m c) (M m c)) = mean (s := S1x1024) (m ((c.tc : Thread nD τ).loc main_arg12)) (m ((c.tc : Thread nD τ).loc main_arg38))
    ∧ cut12 (square (G m c) (Q m c)) = square (s := S1x1024) (m ((c.tc : Thread nD τ).loc main_arg12)) (m ((c.tc : Thread nD τ).loc main_arg51)) := by
  have g : cut12 (G m c) = m ((c.tc : Thread nD τ).loc main_arg12) := cut12_pack ..
  have w : cut12 (W m c) = m ((c.tc : Thread nD τ).loc main_arg25) := cut12_pack ..
  have n : cut12 (M m c) = m ((c.tc : Thread nD τ).loc main_arg38) := cut12_pack ..
  have q : cut12 (Q m c) = m ((c.tc : Thread nD τ).loc main_arg51) := cut12_pack ..
  rw [← g, ← w, ← n, ← q]
  exact ⟨rfl, rfl, rfl⟩

/-- What the run leaves at each result. -/
theorem results :
    Pipeline.afterTail₀ cfgs (dats m) 0 (V0 m) [hostOps1] c main_v66 = step (s := S16x256) (m ((c.tc : Thread nD τ).loc main_arg0)) (m ((c.tc : Thread nD τ).loc main_arg13)) (m ((c.tc : Thread nD τ).loc main_arg26)) (m ((c.tc : Thread nD τ).loc main_arg39))
    ∧ Pipeline.afterTail₀ cfgs (dats m) 0 (V0 m) [hostOps1] c main_v68 = step (s := S4x384) (m ((c.tc : Thread nD τ).loc main_arg1)) (m ((c.tc : Thread nD τ).loc main_arg14)) (m ((c.tc : Thread nD τ).loc main_arg27)) (m ((c.tc : Thread nD τ).loc main_arg40))
    ∧ Pipeline.afterTail₀ cfgs (dats m) 0 (V0 m) [hostOps1] c main_v69 = step (s := S1x1024) (m ((c.tc : Thread nD τ).loc main_arg2)) (m ((c.tc : Thread nD τ).loc main_arg15)) (m ((c.tc : Thread nD τ).loc main_arg28)) (m ((c.tc : Thread nD τ).loc main_arg41))
    ∧ Pipeline.afterTail₀ cfgs (dats m) 0 (V0 m) [hostOps1] c main_v71 = step (s := S1x384) (m ((c.tc : Thread nD τ).loc main_arg3)) (m ((c.tc : Thread nD τ).loc main_arg16)) (m ((c.tc : Thread nD τ).loc main_arg29)) (m ((c.tc : Thread nD τ).loc main_arg42))
    ∧ Pipeline.afterTail₀ cfgs (dats m) 0 (V0 m) [hostOps1] c main_v73 = step (s := S1x256) (m ((c.tc : Thread nD τ).loc main_arg4)) (m ((c.tc : Thread nD τ).loc main_arg17)) (m ((c.tc : Thread nD τ).loc main_arg30)) (m ((c.tc : Thread nD τ).loc main_arg43))
    ∧ Pipeline.afterTail₀ cfgs (dats m) 0 (V0 m) [hostOps1] c main_v76 = step (s := S1x1536) (m ((c.tc : Thread nD τ).loc main_arg5)) (m ((c.tc : Thread nD τ).loc main_arg18)) (m ((c.tc : Thread nD τ).loc main_arg31)) (m ((c.tc : Thread nD τ).loc main_arg44))
    ∧ Pipeline.afterTail₀ cfgs (dats m) 0 (V0 m) [hostOps1] c main_v78 = step (s := S1x16) (m ((c.tc : Thread nD τ).loc main_arg6)) (m ((c.tc : Thread nD τ).loc main_arg19)) (m ((c.tc : Thread nD τ).loc main_arg32)) (m ((c.tc : Thread nD τ).loc main_arg45))
    ∧ Pipeline.afterTail₀ cfgs (dats m) 0 (V0 m) [hostOps1] c main_v80 = step (s := S1x16) (m ((c.tc : Thread nD τ).loc main_arg7)) (m ((c.tc : Thread nD τ).loc main_arg20)) (m ((c.tc : Thread nD τ).loc main_arg33)) (m ((c.tc : Thread nD τ).loc main_arg46))
    ∧ Pipeline.afterTail₀ cfgs (dats m) 0 (V0 m) [hostOps1] c main_v82 = step (s := S1x16) (m ((c.tc : Thread nD τ).loc main_arg8)) (m ((c.tc : Thread nD τ).loc main_arg21)) (m ((c.tc : Thread nD τ).loc main_arg34)) (m ((c.tc : Thread nD τ).loc main_arg47))
    ∧ Pipeline.afterTail₀ cfgs (dats m) 0 (V0 m) [hostOps1] c main_v83 = step (s := S1x1024) (m ((c.tc : Thread nD τ).loc main_arg9)) (m ((c.tc : Thread nD τ).loc main_arg22)) (m ((c.tc : Thread nD τ).loc main_arg35)) (m ((c.tc : Thread nD τ).loc main_arg48))
    ∧ Pipeline.afterTail₀ cfgs (dats m) 0 (V0 m) [hostOps1] c main_v84 = step (s := S1x1024) (m ((c.tc : Thread nD τ).loc main_arg10)) (m ((c.tc : Thread nD τ).loc main_arg23)) (m ((c.tc : Thread nD τ).loc main_arg36)) (m ((c.tc : Thread nD τ).loc main_arg49))
    ∧ Pipeline.afterTail₀ cfgs (dats m) 0 (V0 m) [hostOps1] c main_v85 = step (s := S1x1024) (m ((c.tc : Thread nD τ).loc main_arg11)) (m ((c.tc : Thread nD τ).loc main_arg24)) (m ((c.tc : Thread nD τ).loc main_arg37)) (m ((c.tc : Thread nD τ).loc main_arg50))
    ∧ Pipeline.afterTail₀ cfgs (dats m) 0 (V0 m) [hostOps1] c main_v86 = step (s := S1x1024) (m ((c.tc : Thread nD τ).loc main_arg12)) (m ((c.tc : Thread nD τ).loc main_arg25)) (m ((c.tc : Thread nD τ).loc main_arg38)) (m ((c.tc : Thread nD τ).loc main_arg51))
    ∧ Pipeline.afterTail₀ cfgs (dats m) 0 (V0 m) [hostOps1] c main_v88 = mean (s := S16x256) (m ((c.tc : Thread nD τ).loc main_arg0)) (m ((c.tc : Thread nD τ).loc main_arg26))
    ∧ Pipeline.afterTail₀ cfgs (dats m) 0 (V0 m) [hostOps1] c main_v90 = mean (s := S4x384) (m ((c.tc : Thread nD τ).loc main_arg1)) (m ((c.tc : Thread nD τ).loc main_arg27))
    ∧ Pipeline.afterTail₀ cfgs (dats m) 0 (V0 m) [hostOps1] c main_v91 = mean (s := S1x1024) (m ((c.tc : Thread nD τ).loc main_arg2)) (m ((c.tc : Thread nD τ).loc main_arg28))
    ∧ Pipeline.afterTail₀ cfgs (dats m) 0 (V0 m) [hostOps1] c main_v93 = mean (s := S1x384) (m ((c.tc : Thread nD τ).loc main_arg3)) (m ((c.tc : Thread nD τ).loc main_arg29))
    ∧ Pipeline.afterTail₀ cfgs (dats m) 0 (V0 m) [hostOps1] c main_v95 = mean (s := S1x256) (m ((c.tc : Thread nD τ).loc main_arg4)) (m ((c.tc : Thread nD τ).loc main_arg30))
    ∧ Pipeline.afterTail₀ cfgs (dats m) 0 (V0 m) [hostOps1] c main_v98 = mean (s := S1x1536) (m ((c.tc : Thread nD τ).loc main_arg5)) (m ((c.tc : Thread nD τ).loc main_arg31))
    ∧ Pipeline.afterTail₀ cfgs (dats m) 0 (V0 m) [hostOps1] c main_v100 = mean (s := S1x16) (m ((c.tc : Thread nD τ).loc main_arg6)) (m ((c.tc : Thread nD τ).loc main_arg32))
    ∧ Pipeline.afterTail₀ cfgs (dats m) 0 (V0 m) [hostOps1] c main_v102 = mean (s := S1x16) (m ((c.tc : Thread nD τ).loc main_arg7)) (m ((c.tc : Thread nD τ).loc main_arg33))
    ∧ Pipeline.afterTail₀ cfgs (dats m) 0 (V0 m) [hostOps1] c main_v104 = mean (s := S1x16) (m ((c.tc : Thread nD τ).loc main_arg8)) (m ((c.tc : Thread nD τ).loc main_arg34))
    ∧ Pipeline.afterTail₀ cfgs (dats m) 0 (V0 m) [hostOps1] c main_v105 = mean (s := S1x1024) (m ((c.tc : Thread nD τ).loc main_arg9)) (m ((c.tc : Thread nD τ).loc main_arg35))
    ∧ Pipeline.afterTail₀ cfgs (dats m) 0 (V0 m) [hostOps1] c main_v106 = mean (s := S1x1024) (m ((c.tc : Thread nD τ).loc main_arg10)) (m ((c.tc : Thread nD τ).loc main_arg36))
    ∧ Pipeline.afterTail₀ cfgs (dats m) 0 (V0 m) [hostOps1] c main_v107 = mean (s := S1x1024) (m ((c.tc : Thread nD τ).loc main_arg11)) (m ((c.tc : Thread nD τ).loc main_arg37))
    ∧ Pipeline.afterTail₀ cfgs (dats m) 0 (V0 m) [hostOps1] c main_v108 = mean (s := S1x1024) (m ((c.tc : Thread nD τ).loc main_arg12)) (m ((c.tc : Thread nD τ).loc main_arg38))
    ∧ Pipeline.afterTail₀ cfgs (dats m) 0 (V0 m) [hostOps1] c main_v110 = square (s := S16x256) (m ((c.tc : Thread nD τ).loc main_arg0)) (m ((c.tc : Thread nD τ).loc main_arg39))
    ∧ Pipeline.afterTail₀ cfgs (dats m) 0 (V0 m) [hostOps1] c main_v112 = square (s := S4x384) (m ((c.tc : Thread nD τ).loc main_arg1)) (m ((c.tc : Thread nD τ).loc main_arg40))
    ∧ Pipeline.afterTail₀ cfgs (dats m) 0 (V0 m) [hostOps1] c main_v113 = square (s := S1x1024) (m ((c.tc : Thread nD τ).loc main_arg2)) (m ((c.tc : Thread nD τ).loc main_arg41))
    ∧ Pipeline.afterTail₀ cfgs (dats m) 0 (V0 m) [hostOps1] c main_v115 = square (s := S1x384) (m ((c.tc : Thread nD τ).loc main_arg3)) (m ((c.tc : Thread nD τ).loc main_arg42))
    ∧ Pipeline.afterTail₀ cfgs (dats m) 0 (V0 m) [hostOps1] c main_v117 = square (s := S1x256) (m ((c.tc : Thread nD τ).loc main_arg4)) (m ((c.tc : Thread nD τ).loc main_arg43))
    ∧ Pipeline.afterTail₀ cfgs (dats m) 0 (V0 m) [hostOps1] c main_v120 = square (s := S1x1536) (m ((c.tc : Thread nD τ).loc main_arg5)) (m ((c.tc : Thread nD τ).loc main_arg44))
    ∧ Pipeline.afterTail₀ cfgs (dats m) 0 (V0 m) [hostOps1] c main_v122 = square (s := S1x16) (m ((c.tc : Thread nD τ).loc main_arg6)) (m ((c.tc : Thread nD τ).loc main_arg45))
    ∧ Pipeline.afterTail₀ cfgs (dats m) 0 (V0 m) [hostOps1] c main_v124 = square (s := S1x16) (m ((c.tc : Thread nD τ).loc main_arg7)) (m ((c.tc : Thread nD τ).loc main_arg46))
    ∧ Pipeline.afterTail₀ cfgs (dats m) 0 (V0 m) [hostOps1] c main_v126 = square (s := S1x16) (m ((c.tc : Thread nD τ).loc main_arg8)) (m ((c.tc : Thread nD τ).loc main_arg47))
    ∧ Pipeline.afterTail₀ cfgs (dats m) 0 (V0 m) [hostOps1] c main_v127 = square (s := S1x1024) (m ((c.tc : Thread nD τ).loc main_arg9)) (m ((c.tc : Thread nD τ).loc main_arg48))
    ∧ Pipeline.afterTail₀ cfgs (dats m) 0 (V0 m) [hostOps1] c main_v128 = square (s := S1x1024) (m ((c.tc : Thread nD τ).loc main_arg10)) (m ((c.tc : Thread nD τ).loc main_arg49))
    ∧ Pipeline.afterTail₀ cfgs (dats m) 0 (V0 m) [hostOps1] c main_v129 = square (s := S1x1024) (m ((c.tc : Thread nD τ).loc main_arg11)) (m ((c.tc : Thread nD τ).loc main_arg50))
    ∧ Pipeline.afterTail₀ cfgs (dats m) 0 (V0 m) [hostOps1] c main_v130 = square (s := S1x1024) (m ((c.tc : Thread nD τ).loc main_arg12)) (m ((c.tc : Thread nD τ).loc main_arg51)) := by
  unfold Pipeline.afterTail₀
  rw [show List.flatten [hostOps1 (F := Ideal)] = hostOps1 from List.append_nil _]
  have a4 := (Pipeline.withArrays_arr (cfgs 0).spec (by decide) c (V0 m c) (fun w => (dats m 0 c).arrAt w (cfgs 0).N) 4).trans (arr4 m c)
  have a5 := (Pipeline.withArrays_arr (cfgs 0).spec (by decide) c (V0 m c) (fun w => (dats m 0 c).arrAt w (cfgs 0).N) 5).trans (arr5 m c)
  have a6 := (Pipeline.withArrays_arr (cfgs 0).spec (by decide) c (V0 m c) (fun w => (dats m 0 c).arrAt w (cfgs 0).N) 6).trans (arr6 m c)
  obtain ⟨d0, e0, f0, d1, e1, f1, d2, e2, f2, d3, e3, f3, d4, e4, f4, d5, e5, f5, d6, e6, f6, d7, e7, f7, d8, e8, f8, d9, e9, f9, d10, e10, f10, d11, e11, f11, d12, e12, f12⟩ := rows (Pipeline.withArrays (cfgs 0).spec c (V0 m c) fun w => (dats m 0 c).arrAt w (cfgs 0).N)
  exact ⟨d0.trans ((congrArg cut0 a4).trans (w0 m c).1),
    d1.trans ((congrArg cut1 a4).trans (w1 m c).1),
    d2.trans ((congrArg cut2 a4).trans (w2 m c).1),
    d3.trans ((congrArg cut3 a4).trans (w3 m c).1),
    d4.trans ((congrArg cut4 a4).trans (w4 m c).1),
    d5.trans ((congrArg cut5 a4).trans (w5 m c).1),
    d6.trans ((congrArg cut6 a4).trans (w6 m c).1),
    d7.trans ((congrArg cut7 a4).trans (w7 m c).1),
    d8.trans ((congrArg cut8 a4).trans (w8 m c).1),
    d9.trans ((congrArg cut9 a4).trans (w9 m c).1),
    d10.trans ((congrArg cut10 a4).trans (w10 m c).1),
    d11.trans ((congrArg cut11 a4).trans (w11 m c).1),
    d12.trans ((congrArg cut12 a4).trans (w12 m c).1),
    e0.trans ((congrArg cut0 a5).trans (w0 m c).2.1),
    e1.trans ((congrArg cut1 a5).trans (w1 m c).2.1),
    e2.trans ((congrArg cut2 a5).trans (w2 m c).2.1),
    e3.trans ((congrArg cut3 a5).trans (w3 m c).2.1),
    e4.trans ((congrArg cut4 a5).trans (w4 m c).2.1),
    e5.trans ((congrArg cut5 a5).trans (w5 m c).2.1),
    e6.trans ((congrArg cut6 a5).trans (w6 m c).2.1),
    e7.trans ((congrArg cut7 a5).trans (w7 m c).2.1),
    e8.trans ((congrArg cut8 a5).trans (w8 m c).2.1),
    e9.trans ((congrArg cut9 a5).trans (w9 m c).2.1),
    e10.trans ((congrArg cut10 a5).trans (w10 m c).2.1),
    e11.trans ((congrArg cut11 a5).trans (w11 m c).2.1),
    e12.trans ((congrArg cut12 a5).trans (w12 m c).2.1),
    f0.trans ((congrArg cut0 a6).trans (w0 m c).2.2),
    f1.trans ((congrArg cut1 a6).trans (w1 m c).2.2),
    f2.trans ((congrArg cut2 a6).trans (w2 m c).2.2),
    f3.trans ((congrArg cut3 a6).trans (w3 m c).2.2),
    f4.trans ((congrArg cut4 a6).trans (w4 m c).2.2),
    f5.trans ((congrArg cut5 a6).trans (w5 m c).2.2),
    f6.trans ((congrArg cut6 a6).trans (w6 m c).2.2),
    f7.trans ((congrArg cut7 a6).trans (w7 m c).2.2),
    f8.trans ((congrArg cut8 a6).trans (w8 m c).2.2),
    f9.trans ((congrArg cut9 a6).trans (w9 m c).2.2),
    f10.trans ((congrArg cut10 a6).trans (w10 m c).2.2),
    f11.trans ((congrArg cut11 a6).trans (w11 m c).2.2),
    f12.trans ((congrArg cut12 a6).trans (w12 m c).2.2)⟩

end

/-- The call's run: its results, and its arguments as they were. -/
theorem run (g : Dev nD → PrngReg) : θ_run (defs (F := Ideal)) (onTc (τ := τ) (main (F := Ideal))) ⟨m, fun _ => 0, g⟩ (fun r => ∀ c : Dev nD,
    r.2.mem ((c.tc : Thread nD τ).loc main_v66) = step (s := S16x256) (m ((c.tc : Thread nD τ).loc main_arg0)) (m ((c.tc : Thread nD τ).loc main_arg13)) (m ((c.tc : Thread nD τ).loc main_arg26)) (m ((c.tc : Thread nD τ).loc main_arg39))
    ∧ r.2.mem ((c.tc : Thread nD τ).loc main_v68) = step (s := S4x384) (m ((c.tc : Thread nD τ).loc main_arg1)) (m ((c.tc : Thread nD τ).loc main_arg14)) (m ((c.tc : Thread nD τ).loc main_arg27)) (m ((c.tc : Thread nD τ).loc main_arg40))
    ∧ r.2.mem ((c.tc : Thread nD τ).loc main_v69) = step (s := S1x1024) (m ((c.tc : Thread nD τ).loc main_arg2)) (m ((c.tc : Thread nD τ).loc main_arg15)) (m ((c.tc : Thread nD τ).loc main_arg28)) (m ((c.tc : Thread nD τ).loc main_arg41))
    ∧ r.2.mem ((c.tc : Thread nD τ).loc main_v71) = step (s := S1x384) (m ((c.tc : Thread nD τ).loc main_arg3)) (m ((c.tc : Thread nD τ).loc main_arg16)) (m ((c.tc : Thread nD τ).loc main_arg29)) (m ((c.tc : Thread nD τ).loc main_arg42))
    ∧ r.2.mem ((c.tc : Thread nD τ).loc main_v73) = step (s := S1x256) (m ((c.tc : Thread nD τ).loc main_arg4)) (m ((c.tc : Thread nD τ).loc main_arg17)) (m ((c.tc : Thread nD τ).loc main_arg30)) (m ((c.tc : Thread nD τ).loc main_arg43))
    ∧ r.2.mem ((c.tc : Thread nD τ).loc main_v76) = step (s := S1x1536) (m ((c.tc : Thread nD τ).loc main_arg5)) (m ((c.tc : Thread nD τ).loc main_arg18)) (m ((c.tc : Thread nD τ).loc main_arg31)) (m ((c.tc : Thread nD τ).loc main_arg44))
    ∧ r.2.mem ((c.tc : Thread nD τ).loc main_v78) = step (s := S1x16) (m ((c.tc : Thread nD τ).loc main_arg6)) (m ((c.tc : Thread nD τ).loc main_arg19)) (m ((c.tc : Thread nD τ).loc main_arg32)) (m ((c.tc : Thread nD τ).loc main_arg45))
    ∧ r.2.mem ((c.tc : Thread nD τ).loc main_v80) = step (s := S1x16) (m ((c.tc : Thread nD τ).loc main_arg7)) (m ((c.tc : Thread nD τ).loc main_arg20)) (m ((c.tc : Thread nD τ).loc main_arg33)) (m ((c.tc : Thread nD τ).loc main_arg46))
    ∧ r.2.mem ((c.tc : Thread nD τ).loc main_v82) = step (s := S1x16) (m ((c.tc : Thread nD τ).loc main_arg8)) (m ((c.tc : Thread nD τ).loc main_arg21)) (m ((c.tc : Thread nD τ).loc main_arg34)) (m ((c.tc : Thread nD τ).loc main_arg47))
    ∧ r.2.mem ((c.tc : Thread nD τ).loc main_v83) = step (s := S1x1024) (m ((c.tc : Thread nD τ).loc main_arg9)) (m ((c.tc : Thread nD τ).loc main_arg22)) (m ((c.tc : Thread nD τ).loc main_arg35)) (m ((c.tc : Thread nD τ).loc main_arg48))
    ∧ r.2.mem ((c.tc : Thread nD τ).loc main_v84) = step (s := S1x1024) (m ((c.tc : Thread nD τ).loc main_arg10)) (m ((c.tc : Thread nD τ).loc main_arg23)) (m ((c.tc : Thread nD τ).loc main_arg36)) (m ((c.tc : Thread nD τ).loc main_arg49))
    ∧ r.2.mem ((c.tc : Thread nD τ).loc main_v85) = step (s := S1x1024) (m ((c.tc : Thread nD τ).loc main_arg11)) (m ((c.tc : Thread nD τ).loc main_arg24)) (m ((c.tc : Thread nD τ).loc main_arg37)) (m ((c.tc : Thread nD τ).loc main_arg50))
    ∧ r.2.mem ((c.tc : Thread nD τ).loc main_v86) = step (s := S1x1024) (m ((c.tc : Thread nD τ).loc main_arg12)) (m ((c.tc : Thread nD τ).loc main_arg25)) (m ((c.tc : Thread nD τ).loc main_arg38)) (m ((c.tc : Thread nD τ).loc main_arg51))
    ∧ r.2.mem ((c.tc : Thread nD τ).loc main_v88) = mean (s := S16x256) (m ((c.tc : Thread nD τ).loc main_arg0)) (m ((c.tc : Thread nD τ).loc main_arg26))
    ∧ r.2.mem ((c.tc : Thread nD τ).loc main_v90) = mean (s := S4x384) (m ((c.tc : Thread nD τ).loc main_arg1)) (m ((c.tc : Thread nD τ).loc main_arg27))
    ∧ r.2.mem ((c.tc : Thread nD τ).loc main_v91) = mean (s := S1x1024) (m ((c.tc : Thread nD τ).loc main_arg2)) (m ((c.tc : Thread nD τ).loc main_arg28))
    ∧ r.2.mem ((c.tc : Thread nD τ).loc main_v93) = mean (s := S1x384) (m ((c.tc : Thread nD τ).loc main_arg3)) (m ((c.tc : Thread nD τ).loc main_arg29))
    ∧ r.2.mem ((c.tc : Thread nD τ).loc main_v95) = mean (s := S1x256) (m ((c.tc : Thread nD τ).loc main_arg4)) (m ((c.tc : Thread nD τ).loc main_arg30))
    ∧ r.2.mem ((c.tc : Thread nD τ).loc main_v98) = mean (s := S1x1536) (m ((c.tc : Thread nD τ).loc main_arg5)) (m ((c.tc : Thread nD τ).loc main_arg31))
    ∧ r.2.mem ((c.tc : Thread nD τ).loc main_v100) = mean (s := S1x16) (m ((c.tc : Thread nD τ).loc main_arg6)) (m ((c.tc : Thread nD τ).loc main_arg32))
    ∧ r.2.mem ((c.tc : Thread nD τ).loc main_v102) = mean (s := S1x16) (m ((c.tc : Thread nD τ).loc main_arg7)) (m ((c.tc : Thread nD τ).loc main_arg33))
    ∧ r.2.mem ((c.tc : Thread nD τ).loc main_v104) = mean (s := S1x16) (m ((c.tc : Thread nD τ).loc main_arg8)) (m ((c.tc : Thread nD τ).loc main_arg34))
    ∧ r.2.mem ((c.tc : Thread nD τ).loc main_v105) = mean (s := S1x1024) (m ((c.tc : Thread nD τ).loc main_arg9)) (m ((c.tc : Thread nD τ).loc main_arg35))
    ∧ r.2.mem ((c.tc : Thread nD τ).loc main_v106) = mean (s := S1x1024) (m ((c.tc : Thread nD τ).loc main_arg10)) (m ((c.tc : Thread nD τ).loc main_arg36))
    ∧ r.2.mem ((c.tc : Thread nD τ).loc main_v107) = mean (s := S1x1024) (m ((c.tc : Thread nD τ).loc main_arg11)) (m ((c.tc : Thread nD τ).loc main_arg37))
    ∧ r.2.mem ((c.tc : Thread nD τ).loc main_v108) = mean (s := S1x1024) (m ((c.tc : Thread nD τ).loc main_arg12)) (m ((c.tc : Thread nD τ).loc main_arg38))
    ∧ r.2.mem ((c.tc : Thread nD τ).loc main_v110) = square (s := S16x256) (m ((c.tc : Thread nD τ).loc main_arg0)) (m ((c.tc : Thread nD τ).loc main_arg39))
    ∧ r.2.mem ((c.tc : Thread nD τ).loc main_v112) = square (s := S4x384) (m ((c.tc : Thread nD τ).loc main_arg1)) (m ((c.tc : Thread nD τ).loc main_arg40))
    ∧ r.2.mem ((c.tc : Thread nD τ).loc main_v113) = square (s := S1x1024) (m ((c.tc : Thread nD τ).loc main_arg2)) (m ((c.tc : Thread nD τ).loc main_arg41))
    ∧ r.2.mem ((c.tc : Thread nD τ).loc main_v115) = square (s := S1x384) (m ((c.tc : Thread nD τ).loc main_arg3)) (m ((c.tc : Thread nD τ).loc main_arg42))
    ∧ r.2.mem ((c.tc : Thread nD τ).loc main_v117) = square (s := S1x256) (m ((c.tc : Thread nD τ).loc main_arg4)) (m ((c.tc : Thread nD τ).loc main_arg43))
    ∧ r.2.mem ((c.tc : Thread nD τ).loc main_v120) = square (s := S1x1536) (m ((c.tc : Thread nD τ).loc main_arg5)) (m ((c.tc : Thread nD τ).loc main_arg44))
    ∧ r.2.mem ((c.tc : Thread nD τ).loc main_v122) = square (s := S1x16) (m ((c.tc : Thread nD τ).loc main_arg6)) (m ((c.tc : Thread nD τ).loc main_arg45))
    ∧ r.2.mem ((c.tc : Thread nD τ).loc main_v124) = square (s := S1x16) (m ((c.tc : Thread nD τ).loc main_arg7)) (m ((c.tc : Thread nD τ).loc main_arg46))
    ∧ r.2.mem ((c.tc : Thread nD τ).loc main_v126) = square (s := S1x16) (m ((c.tc : Thread nD τ).loc main_arg8)) (m ((c.tc : Thread nD τ).loc main_arg47))
    ∧ r.2.mem ((c.tc : Thread nD τ).loc main_v127) = square (s := S1x1024) (m ((c.tc : Thread nD τ).loc main_arg9)) (m ((c.tc : Thread nD τ).loc main_arg48))
    ∧ r.2.mem ((c.tc : Thread nD τ).loc main_v128) = square (s := S1x1024) (m ((c.tc : Thread nD τ).loc main_arg10)) (m ((c.tc : Thread nD τ).loc main_arg49))
    ∧ r.2.mem ((c.tc : Thread nD τ).loc main_v129) = square (s := S1x1024) (m ((c.tc : Thread nD τ).loc main_arg11)) (m ((c.tc : Thread nD τ).loc main_arg50))
    ∧ r.2.mem ((c.tc : Thread nD τ).loc main_v130) = square (s := S1x1024) (m ((c.tc : Thread nD τ).loc main_arg12)) (m ((c.tc : Thread nD τ).loc main_arg51))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)
    ∧ r.2.mem ((c.tc : Thread nD τ).loc main_arg15) = m ((c.tc : Thread nD τ).loc main_arg15)
    ∧ r.2.mem ((c.tc : Thread nD τ).loc main_arg16) = m ((c.tc : Thread nD τ).loc main_arg16)
    ∧ r.2.mem ((c.tc : Thread nD τ).loc main_arg17) = m ((c.tc : Thread nD τ).loc main_arg17)
    ∧ r.2.mem ((c.tc : Thread nD τ).loc main_arg18) = m ((c.tc : Thread nD τ).loc main_arg18)
    ∧ r.2.mem ((c.tc : Thread nD τ).loc main_arg19) = m ((c.tc : Thread nD τ).loc main_arg19)
    ∧ r.2.mem ((c.tc : Thread nD τ).loc main_arg20) = m ((c.tc : Thread nD τ).loc main_arg20)
    ∧ r.2.mem ((c.tc : Thread nD τ).loc main_arg21) = m ((c.tc : Thread nD τ).loc main_arg21)
    ∧ r.2.mem ((c.tc : Thread nD τ).loc main_arg22) = m ((c.tc : Thread nD τ).loc main_arg22)
    ∧ r.2.mem ((c.tc : Thread nD τ).loc main_arg23) = m ((c.tc : Thread nD τ).loc main_arg23)
    ∧ r.2.mem ((c.tc : Thread nD τ).loc main_arg24) = m ((c.tc : Thread nD τ).loc main_arg24)
    ∧ r.2.mem ((c.tc : Thread nD τ).loc main_arg25) = m ((c.tc : Thread nD τ).loc main_arg25)
    ∧ r.2.mem ((c.tc : Thread nD τ).loc main_arg26) = m ((c.tc : Thread nD τ).loc main_arg26)
    ∧ r.2.mem ((c.tc : Thread nD τ).loc main_arg27) = m ((c.tc : Thread nD τ).loc main_arg27)
    ∧ r.2.mem ((c.tc : Thread nD τ).loc main_arg28) = m ((c.tc : Thread nD τ).loc main_arg28)
    ∧ r.2.mem ((c.tc : Thread nD τ).loc main_arg29) = m ((c.tc : Thread nD τ).loc main_arg29)
    ∧ r.2.mem ((c.tc : Thread nD τ).loc main_arg30) = m ((c.tc : Thread nD τ).loc main_arg30)
    ∧ r.2.mem ((c.tc : Thread nD τ).loc main_arg31) = m ((c.tc : Thread nD τ).loc main_arg31)
    ∧ r.2.mem ((c.tc : Thread nD τ).loc main_arg32) = m ((c.tc : Thread nD τ).loc main_arg32)
    ∧ r.2.mem ((c.tc : Thread nD τ).loc main_arg33) = m ((c.tc : Thread nD τ).loc main_arg33)
    ∧ r.2.mem ((c.tc : Thread nD τ).loc main_arg34) = m ((c.tc : Thread nD τ).loc main_arg34)
    ∧ r.2.mem ((c.tc : Thread nD τ).loc main_arg35) = m ((c.tc : Thread nD τ).loc main_arg35)
    ∧ r.2.mem ((c.tc : Thread nD τ).loc main_arg36) = m ((c.tc : Thread nD τ).loc main_arg36)
    ∧ r.2.mem ((c.tc : Thread nD τ).loc main_arg37) = m ((c.tc : Thread nD τ).loc main_arg37)
    ∧ r.2.mem ((c.tc : Thread nD τ).loc main_arg38) = m ((c.tc : Thread nD τ).loc main_arg38)
    ∧ r.2.mem ((c.tc : Thread nD τ).loc main_arg39) = m ((c.tc : Thread nD τ).loc main_arg39)
    ∧ r.2.mem ((c.tc : Thread nD τ).loc main_arg40) = m ((c.tc : Thread nD τ).loc main_arg40)
    ∧ r.2.mem ((c.tc : Thread nD τ).loc main_arg41) = m ((c.tc : Thread nD τ).loc main_arg41)
    ∧ r.2.mem ((c.tc : Thread nD τ).loc main_arg42) = m ((c.tc : Thread nD τ).loc main_arg42)
    ∧ r.2.mem ((c.tc : Thread nD τ).loc main_arg43) = m ((c.tc : Thread nD τ).loc main_arg43)
    ∧ r.2.mem ((c.tc : Thread nD τ).loc main_arg44) = m ((c.tc : Thread nD τ).loc main_arg44)
    ∧ r.2.mem ((c.tc : Thread nD τ).loc main_arg45) = m ((c.tc : Thread nD τ).loc main_arg45)
    ∧ r.2.mem ((c.tc : Thread nD τ).loc main_arg46) = m ((c.tc : Thread nD τ).loc main_arg46)
    ∧ r.2.mem ((c.tc : Thread nD τ).loc main_arg47) = m ((c.tc : Thread nD τ).loc main_arg47)
    ∧ r.2.mem ((c.tc : Thread nD τ).loc main_arg48) = m ((c.tc : Thread nD τ).loc main_arg48)
    ∧ r.2.mem ((c.tc : Thread nD τ).loc main_arg49) = m ((c.tc : Thread nD τ).loc main_arg49)
    ∧ r.2.mem ((c.tc : Thread nD τ).loc main_arg50) = m ((c.tc : Thread nD τ).loc main_arg50)
    ∧ r.2.mem ((c.tc : Thread nD τ).loc main_arg51) = m ((c.tc : Thread nD τ).loc main_arg51)) := by
  refine (θ_run _ _ _).mono (fun r h c => ?_) (θ_run_and (run_main m g) (unchanged m g))
  obtain ⟨e0, e1, e2, e3, e4, e5, e6, e7, e8, e9, e10, e11, e12, e13, e14, e15, e16, e17, e18, e19, e20, e21, e22, e23, e24, e25, e26, e27, e28, e29, e30, e31, e32, e33, e34, e35, e36, e37, e38⟩ := results m c
  have at' (b : Ref sig .tc) (h1 h2) := (h.1 c).2 b (Pipeline.mem_restRefs_of b h1 h2)
  exact ⟨(at' main_v66 (by decide) (by decide)).trans e0,
    (at' main_v68 (by decide) (by decide)).trans e1,
    (at' main_v69 (by decide) (by decide)).trans e2,
    (at' main_v71 (by decide) (by decide)).trans e3,
    (at' main_v73 (by decide) (by decide)).trans e4,
    (at' main_v76 (by decide) (by decide)).trans e5,
    (at' main_v78 (by decide) (by decide)).trans e6,
    (at' main_v80 (by decide) (by decide)).trans e7,
    (at' main_v82 (by decide) (by decide)).trans e8,
    (at' main_v83 (by decide) (by decide)).trans e9,
    (at' main_v84 (by decide) (by decide)).trans e10,
    (at' main_v85 (by decide) (by decide)).trans e11,
    (at' main_v86 (by decide) (by decide)).trans e12,
    (at' main_v88 (by decide) (by decide)).trans e13,
    (at' main_v90 (by decide) (by decide)).trans e14,
    (at' main_v91 (by decide) (by decide)).trans e15,
    (at' main_v93 (by decide) (by decide)).trans e16,
    (at' main_v95 (by decide) (by decide)).trans e17,
    (at' main_v98 (by decide) (by decide)).trans e18,
    (at' main_v100 (by decide) (by decide)).trans e19,
    (at' main_v102 (by decide) (by decide)).trans e20,
    (at' main_v104 (by decide) (by decide)).trans e21,
    (at' main_v105 (by decide) (by decide)).trans e22,
    (at' main_v106 (by decide) (by decide)).trans e23,
    (at' main_v107 (by decide) (by decide)).trans e24,
    (at' main_v108 (by decide) (by decide)).trans e25,
    (at' main_v110 (by decide) (by decide)).trans e26,
    (at' main_v112 (by decide) (by decide)).trans e27,
    (at' main_v113 (by decide) (by decide)).trans e28,
    (at' main_v115 (by decide) (by decide)).trans e29,
    (at' main_v117 (by decide) (by decide)).trans e30,
    (at' main_v120 (by decide) (by decide)).trans e31,
    (at' main_v122 (by decide) (by decide)).trans e32,
    (at' main_v124 (by decide) (by decide)).trans e33,
    (at' main_v126 (by decide) (by decide)).trans e34,
    (at' main_v127 (by decide) (by decide)).trans e35,
    (at' main_v128 (by decide) (by decide)).trans e36,
    (at' main_v129 (by decide) (by decide)).trans e37,
    (at' main_v130 (by decide) (by decide)).trans e38,
    h.2 c⟩

end Cert.Small
-- ==== Proof.WeightsRef.lean ====
/- What the reference leaves at its results: AdamW's step of each weight. -/
module

public import proofs.«01_k».proof.Proof.SmallRows

@[expose] public section

set_option maxRecDepth 16384
set_option Elab.async false

noncomputable section

namespace Cert.Small

open Cert.Reference11Ideal
open Idealize.ShloMosaic Idealize.ShloMosaic.TcCoe Idealize.SL.Sem

attribute [local instance] Cert.Kernel11Ideal.Gen.facts Cert.Reference11Ideal.Gen.facts

/-- The reference's spelling of the mean of the gradients, -/
theorem ref_mean {s : Shape} (b : S_.BroadcastsInDim s ![]) (g n : FVec Ideal s .f32) :
    addf (mulf (broadcastInDim s ![] b (constant (F := Ideal) S_ .f32 0x3F666666#32)) n) (mulf (broadcastInDim s ![] b (constant (F := Ideal) S_ .f32 0x3DCCCCCD#32)) g) = mean g n := rfl
/-- of the mean of their squares, -/
theorem ref_square {s : Shape} (b : S_.BroadcastsInDim s ![]) (g q : FVec Ideal s .f32) :
    addf (mulf (broadcastInDim s ![] b (constant (F := Ideal) S_ .f32 0x3F7FBE77#32)) q) (mulf (broadcastInDim s ![] b (constant (F := Ideal) S_ .f32 0x3A83126F#32)) (mulf g g)) = square g q := rfl
/-- and of the step. -/
theorem ref_step {s : Shape} (b : S_.BroadcastsInDim s ![]) (g w n q : FVec Ideal s .f32) :
    mulf (broadcastInDim s ![] b (constant (F := Ideal) S_ .f32 0xBA83126F#32)) (addf (Host.divf (Host.divf (addf (mulf (broadcastInDim s ![] b (constant (F := Ideal) S_ .f32 0x3F666666#32)) n) (mulf (broadcastInDim s ![] b (constant (F := Ideal) S_ .f32 0x3DCCCCCD#32)) g)) (broadcastInDim s ![] b (constant (F := Ideal) S_ .f32 0x3F26BD02#32))) (addf (Host.sqrt (Host.divf (addf (mulf (broadcastInDim s ![] b (constant (F := Ideal) S_ .f32 0x3F7FBE77#32)) q) (mulf (broadcastInDim s ![] b (constant (F := Ideal) S_ .f32 0x3A83126F#32)) (mulf g g))) (broadcastInDim s ![] b (constant (F := Ideal) S_ .f32 0x3C231ACC#32)))) (broadcastInDim s ![] b (constant (F := Ideal) S_ .f32 0x322BCC77#32)))) (mulf (broadcastInDim s ![] b (constant (F := Ideal) S_ .f32 0x3C23D70A#32)) w)) = step g w n q := rfl

variable (m : (ℓ : Loc nD τ sig) → Buf (Elt Ideal) ℓ)

/-- The reference's run. -/
theorem refRun (g : Dev nD → PrngReg) : θ_run (defs (F := Ideal)) (onTc (τ := τ) (main (F := Ideal))) ⟨m, fun _ => 0, g⟩ (fun r => ∀ c : Dev nD,
    r.2.mem ((c.tc : Thread nD τ).loc main_v23) = step (s := S16x256) (m ((c.tc : Thread nD τ).loc main_arg0)) (m ((c.tc : Thread nD τ).loc main_arg13)) (m ((c.tc : Thread nD τ).loc main_arg26)) (m ((c.tc : Thread nD τ).loc main_arg39))
    ∧ r.2.mem ((c.tc : Thread nD τ).loc main_v47) = step (s := S4x384) (m ((c.tc : Thread nD τ).loc main_arg1)) (m ((c.tc : Thread nD τ).loc main_arg14)) (m ((c.tc : Thread nD τ).loc main_arg27)) (m ((c.tc : Thread nD τ).loc main_arg40))
    ∧ r.2.mem ((c.tc : Thread nD τ).loc main_v71) = step (s := S1x1024) (m ((c.tc : Thread nD τ).loc main_arg2)) (m ((c.tc : Thread nD τ).loc main_arg15)) (m ((c.tc : Thread nD τ).loc main_arg28)) (m ((c.tc : Thread nD τ).loc main_arg41))
    ∧ r.2.mem ((c.tc : Thread nD τ).loc main_v95) = step (s := S1x384) (m ((c.tc : Thread nD τ).loc main_arg3)) (m ((c.tc : Thread nD τ).loc main_arg16)) (m ((c.tc : Thread nD τ).loc main_arg29)) (m ((c.tc : Thread nD τ).loc main_arg42))
    ∧ r.2.mem ((c.tc : Thread nD τ).loc main_v119) = step (s := S1x256) (m ((c.tc : Thread nD τ).loc main_arg4)) (m ((c.tc : Thread nD τ).loc main_arg17)) (m ((c.tc : Thread nD τ).loc main_arg30)) (m ((c.tc : Thread nD τ).loc main_arg43))
    ∧ r.2.mem ((c.tc : Thread nD τ).loc main_v143) = step (s := S1x1536) (m ((c.tc : Thread nD τ).loc main_arg5)) (m ((c.tc : Thread nD τ).loc main_arg18)) (m ((c.tc : Thread nD τ).loc main_arg31)) (m ((c.tc : Thread nD τ).loc main_arg44))
    ∧ r.2.mem ((c.tc : Thread nD τ).loc main_v167) = step (s := S1x16) (m ((c.tc : Thread nD τ).loc main_arg6)) (m ((c.tc : Thread nD τ).loc main_arg19)) (m ((c.tc : Thread nD τ).loc main_arg32)) (m ((c.tc : Thread nD τ).loc main_arg45))
    ∧ r.2.mem ((c.tc : Thread nD τ).loc main_v191) = step (s := S1x16) (m ((c.tc : Thread nD τ).loc main_arg7)) (m ((c.tc : Thread nD τ).loc main_arg20)) (m ((c.tc : Thread nD τ).loc main_arg33)) (m ((c.tc : Thread nD τ).loc main_arg46))
    ∧ r.2.mem ((c.tc : Thread nD τ).loc main_v215) = step (s := S1x16) (m ((c.tc : Thread nD τ).loc main_arg8)) (m ((c.tc : Thread nD τ).loc main_arg21)) (m ((c.tc : Thread nD τ).loc main_arg34)) (m ((c.tc : Thread nD τ).loc main_arg47))
    ∧ r.2.mem ((c.tc : Thread nD τ).loc main_v239) = step (s := S1x1024) (m ((c.tc : Thread nD τ).loc main_arg9)) (m ((c.tc : Thread nD τ).loc main_arg22)) (m ((c.tc : Thread nD τ).loc main_arg35)) (m ((c.tc : Thread nD τ).loc main_arg48))
    ∧ r.2.mem ((c.tc : Thread nD τ).loc main_v263) = step (s := S1x1024) (m ((c.tc : Thread nD τ).loc main_arg10)) (m ((c.tc : Thread nD τ).loc main_arg23)) (m ((c.tc : Thread nD τ).loc main_arg36)) (m ((c.tc : Thread nD τ).loc main_arg49))
    ∧ r.2.mem ((c.tc : Thread nD τ).loc main_v287) = step (s := S1x1024) (m ((c.tc : Thread nD τ).loc main_arg11)) (m ((c.tc : Thread nD τ).loc main_arg24)) (m ((c.tc : Thread nD τ).loc main_arg37)) (m ((c.tc : Thread nD τ).loc main_arg50))
    ∧ r.2.mem ((c.tc : Thread nD τ).loc main_v311) = step (s := S1x1024) (m ((c.tc : Thread nD τ).loc main_arg12)) (m ((c.tc : Thread nD τ).loc main_arg25)) (m ((c.tc : Thread nD τ).loc main_arg38)) (m ((c.tc : Thread nD τ).loc main_arg51))
    ∧ r.2.mem ((c.tc : Thread nD τ).loc main_v4) = mean (s := S16x256) (m ((c.tc : Thread nD τ).loc main_arg0)) (m ((c.tc : Thread nD τ).loc main_arg26))
    ∧ r.2.mem ((c.tc : Thread nD τ).loc main_v28) = mean (s := S4x384) (m ((c.tc : Thread nD τ).loc main_arg1)) (m ((c.tc : Thread nD τ).loc main_arg27))
    ∧ r.2.mem ((c.tc : Thread nD τ).loc main_v52) = mean (s := S1x1024) (m ((c.tc : Thread nD τ).loc main_arg2)) (m ((c.tc : Thread nD τ).loc main_arg28))
    ∧ r.2.mem ((c.tc : Thread nD τ).loc main_v76) = mean (s := S1x384) (m ((c.tc : Thread nD τ).loc main_arg3)) (m ((c.tc : Thread nD τ).loc main_arg29))
    ∧ r.2.mem ((c.tc : Thread nD τ).loc main_v100) = mean (s := S1x256) (m ((c.tc : Thread nD τ).loc main_arg4)) (m ((c.tc : Thread nD τ).loc main_arg30))
    ∧ r.2.mem ((c.tc : Thread nD τ).loc main_v124) = mean (s := S1x1536) (m ((c.tc : Thread nD τ).loc main_arg5)) (m ((c.tc : Thread nD τ).loc main_arg31))
    ∧ r.2.mem ((c.tc : Thread nD τ).loc main_v148) = mean (s := S1x16) (m ((c.tc : Thread nD τ).loc main_arg6)) (m ((c.tc : Thread nD τ).loc main_arg32))
    ∧ r.2.mem ((c.tc : Thread nD τ).loc main_v172) = mean (s := S1x16) (m ((c.tc : Thread nD τ).loc main_arg7)) (m ((c.tc : Thread nD τ).loc main_arg33))
    ∧ r.2.mem ((c.tc : Thread nD τ).loc main_v196) = mean (s := S1x16) (m ((c.tc : Thread nD τ).loc main_arg8)) (m ((c.tc : Thread nD τ).loc main_arg34))
    ∧ r.2.mem ((c.tc : Thread nD τ).loc main_v220) = mean (s := S1x1024) (m ((c.tc : Thread nD τ).loc main_arg9)) (m ((c.tc : Thread nD τ).loc main_arg35))
    ∧ r.2.mem ((c.tc : Thread nD τ).loc main_v244) = mean (s := S1x1024) (m ((c.tc : Thread nD τ).loc main_arg10)) (m ((c.tc : Thread nD τ).loc main_arg36))
    ∧ r.2.mem ((c.tc : Thread nD τ).loc main_v268) = mean (s := S1x1024) (m ((c.tc : Thread nD τ).loc main_arg11)) (m ((c.tc : Thread nD τ).loc main_arg37))
    ∧ r.2.mem ((c.tc : Thread nD τ).loc main_v292) = mean (s := S1x1024) (m ((c.tc : Thread nD τ).loc main_arg12)) (m ((c.tc : Thread nD τ).loc main_arg38))
    ∧ r.2.mem ((c.tc : Thread nD τ).loc main_v10) = square (s := S16x256) (m ((c.tc : Thread nD τ).loc main_arg0)) (m ((c.tc : Thread nD τ).loc main_arg39))
    ∧ r.2.mem ((c.tc : Thread nD τ).loc main_v34) = square (s := S4x384) (m ((c.tc : Thread nD τ).loc main_arg1)) (m ((c.tc : Thread nD τ).loc main_arg40))
    ∧ r.2.mem ((c.tc : Thread nD τ).loc main_v58) = square (s := S1x1024) (m ((c.tc : Thread nD τ).loc main_arg2)) (m ((c.tc : Thread nD τ).loc main_arg41))
    ∧ r.2.mem ((c.tc : Thread nD τ).loc main_v82) = square (s := S1x384) (m ((c.tc : Thread nD τ).loc main_arg3)) (m ((c.tc : Thread nD τ).loc main_arg42))
    ∧ r.2.mem ((c.tc : Thread nD τ).loc main_v106) = square (s := S1x256) (m ((c.tc : Thread nD τ).loc main_arg4)) (m ((c.tc : Thread nD τ).loc main_arg43))
    ∧ r.2.mem ((c.tc : Thread nD τ).loc main_v130) = square (s := S1x1536) (m ((c.tc : Thread nD τ).loc main_arg5)) (m ((c.tc : Thread nD τ).loc main_arg44))
    ∧ r.2.mem ((c.tc : Thread nD τ).loc main_v154) = square (s := S1x16) (m ((c.tc : Thread nD τ).loc main_arg6)) (m ((c.tc : Thread nD τ).loc main_arg45))
    ∧ r.2.mem ((c.tc : Thread nD τ).loc main_v178) = square (s := S1x16) (m ((c.tc : Thread nD τ).loc main_arg7)) (m ((c.tc : Thread nD τ).loc main_arg46))
    ∧ r.2.mem ((c.tc : Thread nD τ).loc main_v202) = square (s := S1x16) (m ((c.tc : Thread nD τ).loc main_arg8)) (m ((c.tc : Thread nD τ).loc main_arg47))
    ∧ r.2.mem ((c.tc : Thread nD τ).loc main_v226) = square (s := S1x1024) (m ((c.tc : Thread nD τ).loc main_arg9)) (m ((c.tc : Thread nD τ).loc main_arg48))
    ∧ r.2.mem ((c.tc : Thread nD τ).loc main_v250) = square (s := S1x1024) (m ((c.tc : Thread nD τ).loc main_arg10)) (m ((c.tc : Thread nD τ).loc main_arg49))
    ∧ r.2.mem ((c.tc : Thread nD τ).loc main_v274) = square (s := S1x1024) (m ((c.tc : Thread nD τ).loc main_arg11)) (m ((c.tc : Thread nD τ).loc main_arg50))
    ∧ r.2.mem ((c.tc : Thread nD τ).loc main_v298) = square (s := S1x1024) (m ((c.tc : Thread nD τ).loc main_arg12)) (m ((c.tc : Thread nD τ).loc main_arg51))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)
    ∧ r.2.mem ((c.tc : Thread nD τ).loc main_arg15) = m ((c.tc : Thread nD τ).loc main_arg15)
    ∧ r.2.mem ((c.tc : Thread nD τ).loc main_arg16) = m ((c.tc : Thread nD τ).loc main_arg16)
    ∧ r.2.mem ((c.tc : Thread nD τ).loc main_arg17) = m ((c.tc : Thread nD τ).loc main_arg17)
    ∧ r.2.mem ((c.tc : Thread nD τ).loc main_arg18) = m ((c.tc : Thread nD τ).loc main_arg18)
    ∧ r.2.mem ((c.tc : Thread nD τ).loc main_arg19) = m ((c.tc : Thread nD τ).loc main_arg19)
    ∧ r.2.mem ((c.tc : Thread nD τ).loc main_arg20) = m ((c.tc : Thread nD τ).loc main_arg20)
    ∧ r.2.mem ((c.tc : Thread nD τ).loc main_arg21) = m ((c.tc : Thread nD τ).loc main_arg21)
    ∧ r.2.mem ((c.tc : Thread nD τ).loc main_arg22) = m ((c.tc : Thread nD τ).loc main_arg22)
    ∧ r.2.mem ((c.tc : Thread nD τ).loc main_arg23) = m ((c.tc : Thread nD τ).loc main_arg23)
    ∧ r.2.mem ((c.tc : Thread nD τ).loc main_arg24) = m ((c.tc : Thread nD τ).loc main_arg24)
    ∧ r.2.mem ((c.tc : Thread nD τ).loc main_arg25) = m ((c.tc : Thread nD τ).loc main_arg25)
    ∧ r.2.mem ((c.tc : Thread nD τ).loc main_arg26) = m ((c.tc : Thread nD τ).loc main_arg26)
    ∧ r.2.mem ((c.tc : Thread nD τ).loc main_arg27) = m ((c.tc : Thread nD τ).loc main_arg27)
    ∧ r.2.mem ((c.tc : Thread nD τ).loc main_arg28) = m ((c.tc : Thread nD τ).loc main_arg28)
    ∧ r.2.mem ((c.tc : Thread nD τ).loc main_arg29) = m ((c.tc : Thread nD τ).loc main_arg29)
    ∧ r.2.mem ((c.tc : Thread nD τ).loc main_arg30) = m ((c.tc : Thread nD τ).loc main_arg30)
    ∧ r.2.mem ((c.tc : Thread nD τ).loc main_arg31) = m ((c.tc : Thread nD τ).loc main_arg31)
    ∧ r.2.mem ((c.tc : Thread nD τ).loc main_arg32) = m ((c.tc : Thread nD τ).loc main_arg32)
    ∧ r.2.mem ((c.tc : Thread nD τ).loc main_arg33) = m ((c.tc : Thread nD τ).loc main_arg33)
    ∧ r.2.mem ((c.tc : Thread nD τ).loc main_arg34) = m ((c.tc : Thread nD τ).loc main_arg34)
    ∧ r.2.mem ((c.tc : Thread nD τ).loc main_arg35) = m ((c.tc : Thread nD τ).loc main_arg35)
    ∧ r.2.mem ((c.tc : Thread nD τ).loc main_arg36) = m ((c.tc : Thread nD τ).loc main_arg36)
    ∧ r.2.mem ((c.tc : Thread nD τ).loc main_arg37) = m ((c.tc : Thread nD τ).loc main_arg37)
    ∧ r.2.mem ((c.tc : Thread nD τ).loc main_arg38) = m ((c.tc : Thread nD τ).loc main_arg38)
    ∧ r.2.mem ((c.tc : Thread nD τ).loc main_arg39) = m ((c.tc : Thread nD τ).loc main_arg39)
    ∧ r.2.mem ((c.tc : Thread nD τ).loc main_arg40) = m ((c.tc : Thread nD τ).loc main_arg40)
    ∧ r.2.mem ((c.tc : Thread nD τ).loc main_arg41) = m ((c.tc : Thread nD τ).loc main_arg41)
    ∧ r.2.mem ((c.tc : Thread nD τ).loc main_arg42) = m ((c.tc : Thread nD τ).loc main_arg42)
    ∧ r.2.mem ((c.tc : Thread nD τ).loc main_arg43) = m ((c.tc : Thread nD τ).loc main_arg43)
    ∧ r.2.mem ((c.tc : Thread nD τ).loc main_arg44) = m ((c.tc : Thread nD τ).loc main_arg44)
    ∧ r.2.mem ((c.tc : Thread nD τ).loc main_arg45) = m ((c.tc : Thread nD τ).loc main_arg45)
    ∧ r.2.mem ((c.tc : Thread nD τ).loc main_arg46) = m ((c.tc : Thread nD τ).loc main_arg46)
    ∧ r.2.mem ((c.tc : Thread nD τ).loc main_arg47) = m ((c.tc : Thread nD τ).loc main_arg47)
    ∧ r.2.mem ((c.tc : Thread nD τ).loc main_arg48) = m ((c.tc : Thread nD τ).loc main_arg48)
    ∧ r.2.mem ((c.tc : Thread nD τ).loc main_arg49) = m ((c.tc : Thread nD τ).loc main_arg49)
    ∧ r.2.mem ((c.tc : Thread nD τ).loc main_arg50) = m ((c.tc : Thread nD τ).loc main_arg50)
    ∧ r.2.mem ((c.tc : Thread nD τ).loc main_arg51) = m ((c.tc : Thread nD τ).loc main_arg51)) := by
  refine (θ_run _ _ _).mono (fun r h c => ?_) (Cert.Reference11Ideal.Value.run m g)
  obtain ⟨e0, e1, e2, e3, e4, e5, e6, e7, e8, e9, e10, e11, e12, e13, e14, e15, e16, e17, e18, e19, e20, e21, e22, e23, e24, e25, e26, e27, e28, e29, e30, e31, e32, e33, e34, e35, e36, e37, e38, k⟩ := h c
  exact ⟨e0.trans (ref_step ..),
    e1.trans (ref_step ..),
    e2.trans (ref_step ..),
    e3.trans (ref_step ..),
    e4.trans (ref_step ..),
    e5.trans (ref_step ..),
    e6.trans (ref_step ..),
    e7.trans (ref_step ..),
    e8.trans (ref_step ..),
    e9.trans (ref_step ..),
    e10.trans (ref_step ..),
    e11.trans (ref_step ..),
    e12.trans (ref_step ..),
    e13.trans (ref_mean ..),
    e14.trans (ref_mean ..),
    e15.trans (ref_mean ..),
    e16.trans (ref_mean ..),
    e17.trans (ref_mean ..),
    e18.trans (ref_mean ..),
    e19.trans (ref_mean ..),
    e20.trans (ref_mean ..),
    e21.trans (ref_mean ..),
    e22.trans (ref_mean ..),
    e23.trans (ref_mean ..),
    e24.trans (ref_mean ..),
    e25.trans (ref_mean ..),
    e26.trans (ref_square ..),
    e27.trans (ref_square ..),
    e28.trans (ref_square ..),
    e29.trans (ref_square ..),
    e30.trans (ref_square ..),
    e31.trans (ref_square ..),
    e32.trans (ref_square ..),
    e33.trans (ref_square ..),
    e34.trans (ref_square ..),
    e35.trans (ref_square ..),
    e36.trans (ref_square ..),
    e37.trans (ref_square ..),
    e38.trans (ref_square ..),
    k⟩

end Cert.Small
-- ==== Proof.WeightsEq.lean ====
/- Every result of the optimiser's call over the small weights is the reference's: the step, the mean and the mean of the squares of each weight. -/
module

public import proofs.«01_k».proof.Proof.Weights
public import proofs.«01_k».proof.Proof.WeightsRef

@[expose] public section

set_option maxRecDepth 16384
set_option Elab.async false

noncomputable section

namespace Cert.Small

open Cert.Kernel11Ideal Cert.Kernel11Ideal.Gen Cert.Pack
open Idealize.ShloMosaic Idealize.ShloMosaic.TcCoe Idealize.SL.Sem

attribute [local instance] Cert.Kernel11Ideal.Gen.facts Cert.Reference11Ideal.Gen.facts

theorem mean_congr {s : Shape} {g g' n n' : Vec Ideal s .f32} (hg : g = g') (hn : n = n') : mean g n = mean g' n' := by rw [hg, hn]
theorem square_congr {s : Shape} {g g' q q' : Vec Ideal s .f32} (hg : g = g') (hq : q = q') : square g q = square g' q' := by rw [hg, hq]
theorem step_congr {s : Shape} {g g' w w' n n' q q' : Vec Ideal s .f32} (hg : g = g') (hw : w = w') (hn : n = n') (hq : q = q') :
    step g w n q = step g' w' n' q' := by rw [hg, hw, hn, hq]

set_option maxHeartbeats 4000000 in
/-- The optimiser's step of the thirteen small weights. -/
theorem adamw : Cert.algebraic_Kernel11Ideal_Reference11Ideal := by
  intro m g m' g' _ hin
  refine ⟨fun c => step (s := S16x256) (m ((c.tc : Thread nD τ).loc main_arg0)) (m ((c.tc : Thread nD τ).loc main_arg13)) (m ((c.tc : Thread nD τ).loc main_arg26)) (m ((c.tc : Thread nD τ).loc main_arg39)),
    fun c => step (s := S4x384) (m ((c.tc : Thread nD τ).loc main_arg1)) (m ((c.tc : Thread nD τ).loc main_arg14)) (m ((c.tc : Thread nD τ).loc main_arg27)) (m ((c.tc : Thread nD τ).loc main_arg40)),
    fun c => step (s := S1x1024) (m ((c.tc : Thread nD τ).loc main_arg2)) (m ((c.tc : Thread nD τ).loc main_arg15)) (m ((c.tc : Thread nD τ).loc main_arg28)) (m ((c.tc : Thread nD τ).loc main_arg41)),
    fun c => step (s := S1x384) (m ((c.tc : Thread nD τ).loc main_arg3)) (m ((c.tc : Thread nD τ).loc main_arg16)) (m ((c.tc : Thread nD τ).loc main_arg29)) (m ((c.tc : Thread nD τ).loc main_arg42)),
    fun c => step (s := S1x256) (m ((c.tc : Thread nD τ).loc main_arg4)) (m ((c.tc : Thread nD τ).loc main_arg17)) (m ((c.tc : Thread nD τ).loc main_arg30)) (m ((c.tc : Thread nD τ).loc main_arg43)),
    fun c => step (s := S1x1536) (m ((c.tc : Thread nD τ).loc main_arg5)) (m ((c.tc : Thread nD τ).loc main_arg18)) (m ((c.tc : Thread nD τ).loc main_arg31)) (m ((c.tc : Thread nD τ).loc main_arg44)),
    fun c => step (s := S1x16) (m ((c.tc : Thread nD τ).loc main_arg6)) (m ((c.tc : Thread nD τ).loc main_arg19)) (m ((c.tc : Thread nD τ).loc main_arg32)) (m ((c.tc : Thread nD τ).loc main_arg45)),
    fun c => step (s := S1x16) (m ((c.tc : Thread nD τ).loc main_arg7)) (m ((c.tc : Thread nD τ).loc main_arg20)) (m ((c.tc : Thread nD τ).loc main_arg33)) (m ((c.tc : Thread nD τ).loc main_arg46)),
    fun c => step (s := S1x16) (m ((c.tc : Thread nD τ).loc main_arg8)) (m ((c.tc : Thread nD τ).loc main_arg21)) (m ((c.tc : Thread nD τ).loc main_arg34)) (m ((c.tc : Thread nD τ).loc main_arg47)),
    fun c => step (s := S1x1024) (m ((c.tc : Thread nD τ).loc main_arg9)) (m ((c.tc : Thread nD τ).loc main_arg22)) (m ((c.tc : Thread nD τ).loc main_arg35)) (m ((c.tc : Thread nD τ).loc main_arg48)),
    fun c => step (s := S1x1024) (m ((c.tc : Thread nD τ).loc main_arg10)) (m ((c.tc : Thread nD τ).loc main_arg23)) (m ((c.tc : Thread nD τ).loc main_arg36)) (m ((c.tc : Thread nD τ).loc main_arg49)),
    fun c => step (s := S1x1024) (m ((c.tc : Thread nD τ).loc main_arg11)) (m ((c.tc : Thread nD τ).loc main_arg24)) (m ((c.tc : Thread nD τ).loc main_arg37)) (m ((c.tc : Thread nD τ).loc main_arg50)),
    fun c => step (s := S1x1024) (m ((c.tc : Thread nD τ).loc main_arg12)) (m ((c.tc : Thread nD τ).loc main_arg25)) (m ((c.tc : Thread nD τ).loc main_arg38)) (m ((c.tc : Thread nD τ).loc main_arg51)),
    fun c => mean (s := S16x256) (m ((c.tc : Thread nD τ).loc main_arg0)) (m ((c.tc : Thread nD τ).loc main_arg26)),
    fun c => mean (s := S4x384) (m ((c.tc : Thread nD τ).loc main_arg1)) (m ((c.tc : Thread nD τ).loc main_arg27)),
    fun c => mean (s := S1x1024) (m ((c.tc : Thread nD τ).loc main_arg2)) (m ((c.tc : Thread nD τ).loc main_arg28)),
    fun c => mean (s := S1x384) (m ((c.tc : Thread nD τ).loc main_arg3)) (m ((c.tc : Thread nD τ).loc main_arg29)),
    fun c => mean (s := S1x256) (m ((c.tc : Thread nD τ).loc main_arg4)) (m ((c.tc : Thread nD τ).loc main_arg30)),
    fun c => mean (s := S1x1536) (m ((c.tc : Thread nD τ).loc main_arg5)) (m ((c.tc : Thread nD τ).loc main_arg31)),
    fun c => mean (s := S1x16) (m ((c.tc : Thread nD τ).loc main_arg6)) (m ((c.tc : Thread nD τ).loc main_arg32)),
    fun c => mean (s := S1x16) (m ((c.tc : Thread nD τ).loc main_arg7)) (m ((c.tc : Thread nD τ).loc main_arg33)),
    fun c => mean (s := S1x16) (m ((c.tc : Thread nD τ).loc main_arg8)) (m ((c.tc : Thread nD τ).loc main_arg34)),
    fun c => mean (s := S1x1024) (m ((c.tc : Thread nD τ).loc main_arg9)) (m ((c.tc : Thread nD τ).loc main_arg35)),
    fun c => mean (s := S1x1024) (m ((c.tc : Thread nD τ).loc main_arg10)) (m ((c.tc : Thread nD τ).loc main_arg36)),
    fun c => mean (s := S1x1024) (m ((c.tc : Thread nD τ).loc main_arg11)) (m ((c.tc : Thread nD τ).loc main_arg37)),
    fun c => mean (s := S1x1024) (m ((c.tc : Thread nD τ).loc main_arg12)) (m ((c.tc : Thread nD τ).loc main_arg38)),
    fun c => square (s := S16x256) (m ((c.tc : Thread nD τ).loc main_arg0)) (m ((c.tc : Thread nD τ).loc main_arg39)),
    fun c => square (s := S4x384) (m ((c.tc : Thread nD τ).loc main_arg1)) (m ((c.tc : Thread nD τ).loc main_arg40)),
    fun c => square (s := S1x1024) (m ((c.tc : Thread nD τ).loc main_arg2)) (m ((c.tc : Thread nD τ).loc main_arg41)),
    fun c => square (s := S1x384) (m ((c.tc : Thread nD τ).loc main_arg3)) (m ((c.tc : Thread nD τ).loc main_arg42)),
    fun c => square (s := S1x256) (m ((c.tc : Thread nD τ).loc main_arg4)) (m ((c.tc : Thread nD τ).loc main_arg43)),
    fun c => square (s := S1x1536) (m ((c.tc : Thread nD τ).loc main_arg5)) (m ((c.tc : Thread nD τ).loc main_arg44)),
    fun c => square (s := S1x16) (m ((c.tc : Thread nD τ).loc main_arg6)) (m ((c.tc : Thread nD τ).loc main_arg45)),
    fun c => square (s := S1x16) (m ((c.tc : Thread nD τ).loc main_arg7)) (m ((c.tc : Thread nD τ).loc main_arg46)),
    fun c => square (s := S1x16) (m ((c.tc : Thread nD τ).loc main_arg8)) (m ((c.tc : Thread nD τ).loc main_arg47)),
    fun c => square (s := S1x1024) (m ((c.tc : Thread nD τ).loc main_arg9)) (m ((c.tc : Thread nD τ).loc main_arg48)),
    fun c => square (s := S1x1024) (m ((c.tc : Thread nD τ).loc main_arg10)) (m ((c.tc : Thread nD τ).loc main_arg49)),
    fun c => square (s := S1x1024) (m ((c.tc : Thread nD τ).loc main_arg11)) (m ((c.tc : Thread nD τ).loc main_arg50)),
    fun c => square (s := S1x1024) (m ((c.tc : Thread nD τ).loc main_arg12)) (m ((c.tc : Thread nD τ).loc main_arg51)),
    run m g, (θ_run _ _ _).mono (fun r h c => ?_) (refRun m' g')⟩
  obtain ⟨h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47, h48, h49, h50, h51⟩ := hin c
  obtain ⟨e0, e1, e2, e3, e4, e5, e6, e7, e8, e9, e10, e11, e12, e13, e14, e15, e16, e17, e18, e19, e20, e21, e22, e23, e24, e25, e26, e27, e28, e29, e30, e31, e32, e33, e34, e35, e36, e37, e38, k⟩ := h c
  exact ⟨e0.trans (step_congr h0 h13 h26 h39),
    e1.trans (step_congr h1 h14 h27 h40),
    e2.trans (step_congr h2 h15 h28 h41),
    e3.trans (step_congr h3 h16 h29 h42),
    e4.trans (step_congr h4 h17 h30 h43),
    e5.trans (step_congr h5 h18 h31 h44),
    e6.trans (step_congr h6 h19 h32 h45),
    e7.trans (step_congr h7 h20 h33 h46),
    e8.trans (step_congr h8 h21 h34 h47),
    e9.trans (step_congr h9 h22 h35 h48),
    e10.trans (step_congr h10 h23 h36 h49),
    e11.trans (step_congr h11 h24 h37 h50),
    e12.trans (step_congr h12 h25 h38 h51),
    e13.trans (mean_congr h0 h26),
    e14.trans (mean_congr h1 h27),
    e15.trans (mean_congr h2 h28),
    e16.trans (mean_congr h3 h29),
    e17.trans (mean_congr h4 h30),
    e18.trans (mean_congr h5 h31),
    e19.trans (mean_congr h6 h32),
    e20.trans (mean_congr h7 h33),
    e21.trans (mean_congr h8 h34),
    e22.trans (mean_congr h9 h35),
    e23.trans (mean_congr h10 h36),
    e24.trans (mean_congr h11 h37),
    e25.trans (mean_congr h12 h38),
    e26.trans (square_congr h0 h39),
    e27.trans (square_congr h1 h40),
    e28.trans (square_congr h2 h41),
    e29.trans (square_congr h3 h42),
    e30.trans (square_congr h4 h43),
    e31.trans (square_congr h5 h44),
    e32.trans (square_congr h6 h45),
    e33.trans (square_congr h7 h46),
    e34.trans (square_congr h8 h47),
    e35.trans (square_congr h9 h48),
    e36.trans (square_congr h10 h49),
    e37.trans (square_congr h11 h50),
    e38.trans (square_congr h12 h51),
    k⟩

end Cert.Small
-- ==== Proof.Products.lean ====
/- The frames of the remaining products: each call ends, and leaves its arguments as they were. -/
module

public import proofs.«01_k».proof.Defs
public import proofs.«01_k».proof.Proof.Gen.Kernel12.Frame
public import proofs.«01_k».proof.Proof.Gen.Kernel12Ideal.Frame
public import proofs.«01_k».proof.Proof.Gen.Reference12Ideal.Run
public import proofs.«01_k».proof.Proof.Gen.Kernel13.Frame
public import proofs.«01_k».proof.Proof.Gen.Kernel13Ideal.Frame
public import proofs.«01_k».proof.Proof.Gen.Reference13Ideal.Run
public import proofs.«01_k».proof.Proof.Gen.Kernel14.Frame
public import proofs.«01_k».proof.Proof.Gen.Kernel14Ideal.Frame
public import proofs.«01_k».proof.Proof.Gen.Reference14Ideal.Run
public import proofs.«01_k».proof.Proof.Gen.Kernel15.Frame
public import proofs.«01_k».proof.Proof.Gen.Kernel15Ideal.Frame
public import proofs.«01_k».proof.Proof.Gen.Reference15Ideal.Run
public import proofs.«01_k».proof.Proof.Gen.Kernel16.Frame
public import proofs.«01_k».proof.Proof.Gen.Kernel16Ideal.Frame
public import proofs.«01_k».proof.Proof.Gen.Reference16Ideal.Run
public import proofs.«01_k».proof.Proof.Gen.Kernel17.Frame
public import proofs.«01_k».proof.Proof.Gen.Kernel17Ideal.Frame
public import proofs.«01_k».proof.Proof.Gen.Reference17Ideal.Run
public import proofs.«01_k».proof.Proof.Gen.Kernel18.Frame
public import proofs.«01_k».proof.Proof.Gen.Kernel18Ideal.Frame
public import proofs.«01_k».proof.Proof.Gen.Reference18Ideal.Run
public import proofs.«01_k».proof.Proof.Gen.Kernel19.Frame
public import proofs.«01_k».proof.Proof.Gen.Kernel19Ideal.Frame
public import proofs.«01_k».proof.Proof.Gen.Reference19Ideal.Run
public import proofs.«01_k».proof.Proof.Gen.Kernel20.Frame
public import proofs.«01_k».proof.Proof.Gen.Kernel20Ideal.Frame
public import proofs.«01_k».proof.Proof.Gen.Reference20Ideal.Run
public import proofs.«01_k».proof.Proof.Gen.Kernel21.Frame
public import proofs.«01_k».proof.Proof.Gen.Kernel21Ideal.Frame
public import proofs.«01_k».proof.Proof.Gen.Reference21Ideal.Run
public import proofs.«01_k».proof.Proof.Gen.Kernel22.Frame
public import proofs.«01_k».proof.Proof.Gen.Kernel22Ideal.Frame
public import proofs.«01_k».proof.Proof.Gen.Reference22Ideal.Run
public import proofs.«01_k».proof.Proof.Gen.Kernel23.Frame
public import proofs.«01_k».proof.Proof.Gen.Kernel23Ideal.Frame
public import proofs.«01_k».proof.Proof.Gen.Reference23Ideal.Run
public import proofs.«01_k».proof.Proof.Gen.Kernel24.Frame
public import proofs.«01_k».proof.Proof.Gen.Kernel24Ideal.Frame
public import proofs.«01_k».proof.Proof.Gen.Reference24Ideal.Run
public import proofs.«01_k».proof.Proof.Gen.Kernel25.Frame
public import proofs.«01_k».proof.Proof.Gen.Kernel25Ideal.Frame
public import proofs.«01_k».proof.Proof.Gen.Reference25Ideal.Run

@[expose] public section

set_option maxRecDepth 16384
set_option Elab.async false

noncomputable section

namespace Cert.Products

open Idealize.ShloMosaic Idealize.SL.Sem

theorem kernel12 : Cert.quiescent_Kernel12 (hKernel12 := Cert.Kernel12.Gen.facts) := fun m g _ =>
  Cert.Kernel12.Gen.frame m g
theorem ideal12 : Cert.quiescent_Kernel12Ideal (hKernel12Ideal := Cert.Kernel12Ideal.Gen.facts) := fun m g _ => Cert.Kernel12Ideal.Gen.frame m g
theorem reference12 : Cert.quiescent_Reference12Ideal (hReference12Ideal := Cert.Reference12Ideal.Gen.facts) := fun m g _ =>
  (θ_run _ _ _).mono (fun r h => ⟨fun c => (h c).2, sem_eq_zero_of_no_sems (by decide) r.2⟩) (Cert.Reference12Ideal.Value.run m g)

theorem kernel13 : Cert.quiescent_Kernel13 (hKernel13 := Cert.Kernel13.Gen.facts) := fun m g _ =>
  Cert.Kernel13.Gen.frame m g
theorem ideal13 : Cert.quiescent_Kernel13Ideal (hKernel13Ideal := Cert.Kernel13Ideal.Gen.facts) := fun m g _ => Cert.Kernel13Ideal.Gen.frame m g
theorem reference13 : Cert.quiescent_Reference13Ideal (hReference13Ideal := Cert.Reference13Ideal.Gen.facts) := fun m g _ =>
  (θ_run _ _ _).mono (fun r h => ⟨fun c => (h c).2.2, sem_eq_zero_of_no_sems (by decide) r.2⟩) (Cert.Reference13Ideal.Value.run m g)

theorem kernel14 : Cert.quiescent_Kernel14 (hKernel14 := Cert.Kernel14.Gen.facts) := fun m g _ =>
  Cert.Kernel14.Gen.frame m g
theorem ideal14 : Cert.quiescent_Kernel14Ideal (hKernel14Ideal := Cert.Kernel14Ideal.Gen.facts) := fun m g _ => Cert.Kernel14Ideal.Gen.frame m g
theorem reference14 : Cert.quiescent_Reference14Ideal (hReference14Ideal := Cert.Reference14Ideal.Gen.facts) := fun m g _ =>
  (θ_run _ _ _).mono (fun r h => ⟨fun c => (h c).2, sem_eq_zero_of_no_sems (by decide) r.2⟩) (Cert.Reference14Ideal.Value.run m g)

theorem kernel15 : Cert.quiescent_Kernel15 (hKernel15 := Cert.Kernel15.Gen.facts) := fun m g _ =>
  Cert.Kernel15.Gen.frame m g
theorem ideal15 : Cert.quiescent_Kernel15Ideal (hKernel15Ideal := Cert.Kernel15Ideal.Gen.facts) := fun m g _ => Cert.Kernel15Ideal.Gen.frame m g
theorem reference15 : Cert.quiescent_Reference15Ideal (hReference15Ideal := Cert.Reference15Ideal.Gen.facts) := fun m g _ =>
  (θ_run _ _ _).mono (fun r h => ⟨fun c => (h c).2, sem_eq_zero_of_no_sems (by decide) r.2⟩) (Cert.Reference15Ideal.Value.run m g)

theorem kernel16 : Cert.quiescent_Kernel16 (hKernel16 := Cert.Kernel16.Gen.facts) := fun m g _ =>
  Cert.Kernel16.Gen.frame m g
theorem ideal16 : Cert.quiescent_Kernel16Ideal (hKernel16Ideal := Cert.Kernel16Ideal.Gen.facts) := fun m g _ => Cert.Kernel16Ideal.Gen.frame m g
theorem reference16 : Cert.quiescent_Reference16Ideal (hReference16Ideal := Cert.Reference16Ideal.Gen.facts) := fun m g _ =>
  (θ_run _ _ _).mono (fun r h => ⟨fun c => (h c).2, sem_eq_zero_of_no_sems (by decide) r.2⟩) (Cert.Reference16Ideal.Value.run m g)

theorem kernel17 : Cert.quiescent_Kernel17 (hKernel17 := Cert.Kernel17.Gen.facts) := fun m g _ =>
  Cert.Kernel17.Gen.frame m g
theorem ideal17 : Cert.quiescent_Kernel17Ideal (hKernel17Ideal := Cert.Kernel17Ideal.Gen.facts) := fun m g _ => Cert.Kernel17Ideal.Gen.frame m g
theorem reference17 : Cert.quiescent_Reference17Ideal (hReference17Ideal := Cert.Reference17Ideal.Gen.facts) := fun m g _ =>
  (θ_run _ _ _).mono (fun r h => ⟨fun c => (h c).2, sem_eq_zero_of_no_sems (by decide) r.2⟩) (Cert.Reference17Ideal.Value.run m g)

theorem kernel18 : Cert.quiescent_Kernel18 (hKernel18 := Cert.Kernel18.Gen.facts) := fun m g _ =>
  Cert.Kernel18.Gen.frame m g
theorem ideal18 : Cert.quiescent_Kernel18Ideal (hKernel18Ideal := Cert.Kernel18Ideal.Gen.facts) := fun m g _ => Cert.Kernel18Ideal.Gen.frame m g
theorem reference18 : Cert.quiescent_Reference18Ideal (hReference18Ideal := Cert.Reference18Ideal.Gen.facts) := fun m g _ =>
  (θ_run _ _ _).mono (fun r h => ⟨fun c => (h c).2, sem_eq_zero_of_no_sems (by decide) r.2⟩) (Cert.Reference18Ideal.Value.run m g)

theorem kernel19 : Cert.quiescent_Kernel19 (hKernel19 := Cert.Kernel19.Gen.facts) := fun m g _ =>
  Cert.Kernel19.Gen.frame m g
theorem ideal19 : Cert.quiescent_Kernel19Ideal (hKernel19Ideal := Cert.Kernel19Ideal.Gen.facts) := fun m g _ => Cert.Kernel19Ideal.Gen.frame m g
theorem reference19 : Cert.quiescent_Reference19Ideal (hReference19Ideal := Cert.Reference19Ideal.Gen.facts) := fun m g _ =>
  (θ_run _ _ _).mono (fun r h => ⟨fun c => (h c).2, sem_eq_zero_of_no_sems (by decide) r.2⟩) (Cert.Reference19Ideal.Value.run m g)

theorem kernel20 : Cert.quiescent_Kernel20 (hKernel20 := Cert.Kernel20.Gen.facts) := fun m g _ =>
  Cert.Kernel20.Gen.frame m g
theorem ideal20 : Cert.quiescent_Kernel20Ideal (hKernel20Ideal := Cert.Kernel20Ideal.Gen.facts) := fun m g _ => Cert.Kernel20Ideal.Gen.frame m g
theorem reference20 : Cert.quiescent_Reference20Ideal (hReference20Ideal := Cert.Reference20Ideal.Gen.facts) := fun m g _ =>
  (θ_run _ _ _).mono (fun r h => ⟨fun c => (h c).2, sem_eq_zero_of_no_sems (by decide) r.2⟩) (Cert.Reference20Ideal.Value.run m g)

theorem kernel21 : Cert.quiescent_Kernel21 (hKernel21 := Cert.Kernel21.Gen.facts) := fun m g _ =>
  Cert.Kernel21.Gen.frame m g
theorem ideal21 : Cert.quiescent_Kernel21Ideal (hKernel21Ideal := Cert.Kernel21Ideal.Gen.facts) := fun m g _ => Cert.Kernel21Ideal.Gen.frame m g
theorem reference21 : Cert.quiescent_Reference21Ideal (hReference21Ideal := Cert.Reference21Ideal.Gen.facts) := fun m g _ =>
  (θ_run _ _ _).mono (fun r h => ⟨fun c => (h c).2, sem_eq_zero_of_no_sems (by decide) r.2⟩) (Cert.Reference21Ideal.Value.run m g)

theorem kernel22 : Cert.quiescent_Kernel22 (hKernel22 := Cert.Kernel22.Gen.facts) := fun m g _ =>
  Cert.Kernel22.Gen.frame m g
theorem ideal22 : Cert.quiescent_Kernel22Ideal (hKernel22Ideal := Cert.Kernel22Ideal.Gen.facts) := fun m g _ => Cert.Kernel22Ideal.Gen.frame m g
theorem reference22 : Cert.quiescent_Reference22Ideal (hReference22Ideal := Cert.Reference22Ideal.Gen.facts) := fun m g _ =>
  (θ_run _ _ _).mono (fun r h => ⟨fun c => (h c).2, sem_eq_zero_of_no_sems (by decide) r.2⟩) (Cert.Reference22Ideal.Value.run m g)

theorem kernel23 : Cert.quiescent_Kernel23 (hKernel23 := Cert.Kernel23.Gen.facts) := fun m g _ =>
  Cert.Kernel23.Gen.frame m g
theorem ideal23 : Cert.quiescent_Kernel23Ideal (hKernel23Ideal := Cert.Kernel23Ideal.Gen.facts) := fun m g _ => Cert.Kernel23Ideal.Gen.frame m g
theorem reference23 : Cert.quiescent_Reference23Ideal (hReference23Ideal := Cert.Reference23Ideal.Gen.facts) := fun m g _ =>
  (θ_run _ _ _).mono (fun r h => ⟨fun c => (h c).2, sem_eq_zero_of_no_sems (by decide) r.2⟩) (Cert.Reference23Ideal.Value.run m g)

theorem kernel24 : Cert.quiescent_Kernel24 (hKernel24 := Cert.Kernel24.Gen.facts) := fun m g _ =>
  Cert.Kernel24.Gen.frame m g
theorem ideal24 : Cert.quiescent_Kernel24Ideal (hKernel24Ideal := Cert.Kernel24Ideal.Gen.facts) := fun m g _ => Cert.Kernel24Ideal.Gen.frame m g
theorem reference24 : Cert.quiescent_Reference24Ideal (hReference24Ideal := Cert.Reference24Ideal.Gen.facts) := fun m g _ =>
  (θ_run _ _ _).mono (fun r h => ⟨fun c => (h c).2, sem_eq_zero_of_no_sems (by decide) r.2⟩) (Cert.Reference24Ideal.Value.run m g)

theorem kernel25 : Cert.quiescent_Kernel25 (hKernel25 := Cert.Kernel25.Gen.facts) := fun m g _ =>
  Cert.Kernel25.Gen.frame m g
theorem ideal25 : Cert.quiescent_Kernel25Ideal (hKernel25Ideal := Cert.Kernel25Ideal.Gen.facts) := fun m g _ => Cert.Kernel25Ideal.Gen.frame m g
theorem reference25 : Cert.quiescent_Reference25Ideal (hReference25Ideal := Cert.Reference25Ideal.Gen.facts) := fun m g _ =>
  (θ_run _ _ _).mono (fun r h => ⟨fun c => (h c).2, sem_eq_zero_of_no_sems (by decide) r.2⟩) (Cert.Reference25Ideal.Value.run m g)

end Cert.Products
-- ==== Proof.OutW.lean ====
/- The gradient of one half of the output matrix: the call's blocked sum over rows is the whole product. -/
module

public import proofs.«01_k».proof.Proof.Dense
public import proofs.«01_k».proof.Proof.Gen.Kernel12Ideal.Value
public import proofs.«01_k».proof.Proof.Gen.Reference12Ideal.Run
public import proofs.«01_k».proof.Defs
public import Idealize.ShloMosaic.Lib.StableHlo.ReadAt
public import Idealize.ShloMosaic.Lib.WordArith
public import Idealize.ShloMosaic.Lib.Pipeline.ValueKit.Point

@[expose] public section

set_option maxRecDepth 16384
set_option Elab.async false

noncomputable section

namespace Cert.OutW

open Cert.Kernel12Ideal Cert.Kernel12Ideal.Gen Cert.Kernel12Ideal.Value
open Idealize.ShloMosaic Idealize.ShloMosaic.TcCoe Idealize.SL.Sem

attribute [local instance] Cert.Kernel12Ideal.Gen.facts Cert.Reference12Ideal.Gen.facts

variable (m : (ℓ : Loc nD τ sig) → Buf (Elt Ideal) ℓ) (c : Dev nD)

/-- The heads' output by row and column, zero past the last row, -/
def X (r : ℕ) (a : Fin 1024) : EReal := if h : r < 16400 then m ((c : Thread nD τ).loc main_arg0) (ix2 (⟨r, h⟩ : Fin 16400) a) else 0
/-- and the gradient of the product. -/
def Y (r : ℕ) (n : Fin 1024) : EReal := if h : r < 16400 then m ((c : Thread nD τ).loc main_arg1) (ix2 (⟨r, h⟩ : Fin 16400) n) else 0

theorem int_zero : (FloatOps.sitofp (F := Ideal) .f32 0#32 : EReal) = 0 := by
  show (((0#32 : BitVec 32).toInt : ℝ) : EReal) = 0
  simp

theorem V1_at (r : Fin 16896) (a : Fin 1024) : (V m c main_v1 (ix2 r a) : EReal) = X m c r.val a := by
  unfold V
  after_reads_at
  unfold X
  split
  · rfl
  · exact int_zero

theorem V3_at (r : Fin 16896) (n : Fin 1024) : (V m c main_v3 (ix2 r n) : EReal) = Y m c r.val n := by
  unfold V
  after_reads_at
  unfold Y
  split
  · rfl
  · exact int_zero

theorem pay_step (acc : Vec Ideal S1024x1024 .f32) (x y : Vec Ideal S1536x1024 .bf16) (a n : Fin 1024) :
    (k0_pay2 acc x y (ix2 a n) : EReal) = acc (ix2 a n) + ∑ k : Fin 1536, x (ix2 k a) * y (ix2 k n) := by
  pointwise [k0_pay2]

theorem pay_zero (a n : Fin 1024) : (k0_pay1 (F := Ideal) (ix2 a n) : EReal) = 0 := by
  pointwise [k0_pay1]

theorem idx : ∀ t : Fin cfg0.N, win0_0.index t = ![t.val % 11, 0] ∧ win0_1.index t = ![t.val % 11, t.val / 11] :=
  (by decide +kernel : ∀ t : Fin grid0.N, _)

theorem blkX (t : Fin cfg0.N) (k : Fin 1536) (a : Fin 1024) : (iblk m c 0 t (ix2 k a) : EReal) = X m c (1536 * (t.val % 11) + k.val) a := by
  rw [← V1_at m c ⟨1536 * (t.val % 11) + k.val, by omega⟩]
  blk_ext [iblk, idx t]

theorem blkY (t : Fin cfg0.N) (k : Fin 1536) (n : Fin 1024) (b : Fin 1024) (hb : b.val = 1024 * (t.val / 11) + n.val) :
    (iblk m c 1 t (ix2 k n) : EReal) = Y m c (1536 * (t.val % 11) + k.val) b := by
  rw [← V3_at m c ⟨1536 * (t.val % 11) + k.val, by omega⟩]
  blk_ext [iblk, idx t, hb]

theorem X_row (r : Fin 16400) (a : Fin 1024) : X m c r.val a = m ((c : Thread nD τ).loc main_arg0) (ix2 r a) := dif_pos r.isLt
theorem Y_row (r : Fin 16400) (n : Fin 1024) : Y m c r.val n = m ((c : Thread nD τ).loc main_arg1) (ix2 r n) := dif_pos r.isLt

/-- A row's entry in column `n` of the result's block `q`. -/
abbrev col (q : ℕ) (n : Fin 1024) : Fin 1024 := ⟨(1024 * q + n.val) % 1024, by omega⟩

/-- What a point adds to its block of the result, -/
def part (q s : ℕ) (i : S1024x1024.Idx) : EReal := Cert.Dense.part (fun r => X m c r (i 0)) (fun r => Y m c r (col q (i 1))) q s

theorem point (q s : ℕ) (h : s < cfg0.N) (h1 : 11 * q ≤ s) (h2 : s ≤ 11 * q + 10) (acc : Vec Ideal S1024x1024 .f32) (i : S1024x1024.Idx) :
    (k0_pay2 acc (iblk m c 0 ⟨s, h⟩) (iblk m c 1 ⟨s, h⟩) i : EReal) = acc i + part m c q s i := by
  have hN : s < 11 := Nat.lt_of_lt_of_eq h N_0
  obtain ⟨a, n, rfl⟩ : ∃ (a : Fin 1024) (n : Fin 1024), i = ix2 a n := ⟨i 0, i 1, eq_ix2 i⟩
  rw [pay_step]
  unfold part Cert.Dense.part
  have e : s % 11 = s - 11 * q := by omega
  have e' : s / 11 = q := by omega
  refine congrArg (acc (ix2 a n) + ·) (Finset.sum_congr rfl fun k _ => ?_)
  rw [blkX, blkY m c ⟨s, h⟩ k n (col q n) (by dsimp only; rw [e']; omega)]
  dsimp only
  rw [e]
  rfl

/-- and what the call leaves in its array: the sum over all the rows. -/
theorem result (a : Fin 1024) (n : Fin 1024) : (G2 m c (ix2 a n) : EReal) = ∑ r : Fin 16400, X m c r.val a * Y m c r.val n := by
  have hN : cfg0.N = 11 := N_0
  have hn := n.isLt
  have hr : run2Of (ix2 a n) = n.val / 1024 := by
    show 1 * (a.val / 1024 - 0) + 1 * (n.val / 1024 - 0) = _
    omega
  have hl : loc2Of (ix2 a n) = ix2 a (⟨n.val % 1024, by omega⟩ : Fin 1024) := by
    rw [eq_ix2 (loc2Of (ix2 a n))]
    congr 1
    exact Fin.ext (Nat.mod_eq_of_lt a.isLt)
  have hb : 11 * run2Of (ix2 a n) + 10 < cfg0.N := by rw [hr, hN]; omega
  have key := Pipeline.accAt_add_apply (ι := S1024x1024.Idx) (β := EReal) (reset2 m c) (step2 m c) (fun _ => 0) (part m c (run2Of (ix2 a n))) (11 * run2Of (ix2 a n)) 10
    (fun h i => (point m c _ _ h (le_refl _) (Nat.le_add_right _ _) _ i).trans (congrArg (· + _) (by rw [eq_ix2 i]; exact pay_zero _ _)))
    (fun s h acc i h1 h2 => point m c _ _ h h1.le h2 acc i) 10 (le_refl _) hb (loc2Of (ix2 a n))
  unfold G2
  rw [dif_pos hb]
  refine key.trans ?_
  rw [zero_add, hl]
  refine (Cert.Dense.sum_parts _ _ (fun r h => by unfold X; exact dif_neg (by omega)) _).trans ?_
  have e : col (run2Of (ix2 a n)) ⟨n.val % 1024, by omega⟩ = n := Fin.ext (by dsimp only; rw [hr]; omega)
  exact congrArg (fun b => ∑ r : Fin 16400, X m c r.val a * Y m c r.val b) e

/-- The call's result is the gradient. -/
theorem grad : Cert.algebraic_Kernel12Ideal_Reference12Ideal := by
  intro m g m' g' _ hin
  refine ⟨_, Cert.Kernel12Ideal.Value.run m g, ?_⟩
  refine (θ_run _ _ _).mono (fun r h c => ?_) (Cert.Reference12Ideal.Value.run m' g')
  obtain ⟨h0, h1⟩ := hin c
  obtain ⟨e0, k⟩ := h c
  refine ⟨e0.trans ?_, k⟩
  rw [h0, h1]
  funext i
  obtain ⟨a, n, rfl⟩ : ∃ (a : Fin 1024) (n : Fin 1024), i = ix2 a n := ⟨i 0, i 1, eq_ix2 i⟩
  refine Eq.trans ?_ (result m c a n).symm
  pointwise
  refine Finset.sum_congr rfl fun r _ => ?_
  rw [X_row, Y_row]
  exact mul_comm _ _

end Cert.OutW
-- ==== Proof.Cat.lean ====
/- The gradient of the two halves of heads' output: the call writes the product twice, block by block of 768 rows. -/
module

public import proofs.«01_k».proof.Proof.Gen.Kernel13Ideal.Value
public import proofs.«01_k».proof.Proof.Gen.Reference13Ideal.Run
public import proofs.«01_k».proof.Defs
public import Idealize.ShloMosaic.Lib.StableHlo.ReadAt
public import Idealize.ShloMosaic.Lib.Pipeline.ValueKit.Point
public import Idealize.ShloMosaic.PureOps.Ideal

@[expose] public section

set_option maxRecDepth 16384
set_option Elab.async false

noncomputable section

namespace Cert.Cat

open Cert.Kernel13Ideal Cert.Kernel13Ideal.Gen Cert.Kernel13Ideal.Value
open Idealize.ShloMosaic Idealize.ShloMosaic.TcCoe Idealize.SL.Sem

attribute [local instance] Cert.Kernel13Ideal.Gen.facts Cert.Reference13Ideal.Gen.facts

variable (m : (ℓ : Loc nD τ sig) → Buf (Elt Ideal) ℓ) (c : Dev nD)

theorem V0_at (r : Fin 16896) (a : Fin 1024) : (V m c main_v0 (ix2 r a) : EReal) = m ((c : Thread nD τ).loc main_arg1) (ix2 r a) := by
  unfold V
  after_reads_at

theorem V1_at (r : Fin 2048) (a : Fin 1024) : (V m c main_v1 (ix2 r a) : EReal) = m ((c : Thread nD τ).loc main_arg0) (ix2 r a) := by
  unfold V
  after_reads_at

theorem pay (x : Vec Ideal S768x1024 .bf16) (y : Vec Ideal S2048x1024 .bf16) (a : Fin 768) (n : Fin 2048) :
    (k0_pay1 x y (ix2 a n) : EReal) = ∑ k : Fin 1024, x (ix2 a k) * y (ix2 n k) := by
  pointwise [k0_pay1]

theorem pay2 (x : Vec Ideal S768x1024 .bf16) (y : Vec Ideal S2048x1024 .bf16) (a : Fin 768) (n : Fin 2048) :
    (k0_pay2 x y (ix2 a n) : EReal) = ∑ k : Fin 1024, x (ix2 a k) * y (ix2 n k) := by
  pointwise [k0_pay2, k0_pay1]

/-- A row of the product's gradient, -/
def D (r : Fin 16896) (k : Fin 1024) : EReal := m ((c : Thread nD τ).loc main_arg1) (ix2 r k)
/-- a row of the matrix, -/
def W (n : Fin 2048) (k : Fin 1024) : EReal := m ((c : Thread nD τ).loc main_arg0) (ix2 n k)
/-- and the gradient of the input: every row against every row. -/
def G : S16896x2048.Idx → EReal := fun i => ∑ k : Fin 1024, D m c (i 0) k * W m c (i 1) k

theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

theorem blkD (t : Fin cfg0.N) (a : Fin 768) (k : Fin 1024) (r : Fin 16896) (hr : r.val = 768 * t.val + a.val) : (iblk m c 0 t (ix2 a k) : EReal) = D m c r k := by
  refine Eq.trans ?_ (V0_at m c r k)
  blk_ext [iblk, idx t, hr]

theorem blkW (t : Fin cfg0.N) (n : Fin 2048) (k : Fin 1024) : (iblk m c 1 t (ix2 n k) : EReal) = W m c n k := by
  refine Eq.trans ?_ (V1_at m c n k)
  blk_ext [iblk, idx t]

/-- What the call leaves in its first array is the gradient. -/
theorem final : (dats m 0 c).arrAt 2 (cfgs 0).N = G m c := by
  refine (dats m 0 c).arrAt_eq_of_covers 2 _ (by decide +kernel) fun t hf y => ?_
  have e0 : ((((cfg0.win 2).blk t).view.emb y) 0).val = 768 * t.val + (y 0).val := by
    blk_simp [idx t]
    omega
  have e1 : ((((cfg0.win 2).blk t).view.emb y) 1).val = (y 1).val := by
    blk_simp [idx t]
  obtain ⟨i, hi⟩ : ∃ i, i = ((cfg0.win 2).blk t).view.emb y := ⟨_, rfl⟩
  rw [← hi] at e0 e1 ⊢
  blk_simp
  rw [after0_2]
  frame_out
  obtain ⟨a, n, rfl⟩ : ∃ (a : Fin 768) (n : Fin 2048), y = ix2 a n := ⟨y 0, y 1, eq_ix2 y⟩
  refine (pay _ _ a n).trans ?_
  show _ = ∑ k : Fin 1024, D m c (i 0) k * W m c (i 1) k
  refine Finset.sum_congr rfl fun k _ => congrArg₂ (· * ·) (blkD m c t a k (i 0) e0) ?_
  refine (blkW m c t n k).trans (congrArg (W m c · k) ?_)
  exact Fin.ext e1.symm

/-- The second array holds the same. -/
theorem final2 : (dats m 0 c).arrAt 3 (cfgs 0).N = G m c := by
  refine (dats m 0 c).arrAt_eq_of_covers 3 _ (by decide +kernel) fun t hf y => ?_
  have e0 : ((((cfg0.win 3).blk t).view.emb y) 0).val = 768 * t.val + (y 0).val := by
    blk_simp [idx t]
    omega
  have e1 : ((((cfg0.win 3).blk t).view.emb y) 1).val = (y 1).val := by
    blk_simp [idx t]
  obtain ⟨i, hi⟩ : ∃ i, i = ((cfg0.win 3).blk t).view.emb y := ⟨_, rfl⟩
  rw [← hi] at e0 e1 ⊢
  blk_simp
  rw [after0_3]
  frame_out
  obtain ⟨a, n, rfl⟩ : ∃ (a : Fin 768) (n : Fin 2048), y = ix2 a n := ⟨y 0, y 1, eq_ix2 y⟩
  refine (pay2 _ _ a n).trans ?_
  show _ = ∑ k : Fin 1024, D m c (i 0) k * W m c (i 1) k
  refine Finset.sum_congr rfl fun k _ => congrArg₂ (· * ·) (blkD m c t a k (i 0) e0) ?_
  refine (blkW m c t n k).trans (congrArg (W m c · k) ?_)
  exact Fin.ext e1.symm

/-- The call's result is the gradient of the reference. -/
theorem grad : Cert.algebraic_Kernel13Ideal_Reference13Ideal := by
  intro m g m' g' _ hin
  refine ⟨_, _, Cert.Kernel13Ideal.Value.run_blocks m g, ?_⟩
  refine (θ_run _ _ _).mono (fun r h c => ?_) (Cert.Reference13Ideal.Value.run m' g')
  obtain ⟨h0, h1⟩ := hin c
  obtain ⟨e0, e1, k⟩ := h c
  have e : ∀ i, (Idealize.ShloMosaic.Host.dotGeneral (F := Ideal) (φ₁ := .f32) (φ₂ := .f32) Cert.Reference13Ideal.dot_S16896x1024_S2048x1024_S16896x2048_1_1_0_0_n_n none (m ((c : Thread nD τ).loc main_arg1)) (m ((c : Thread nD τ).loc main_arg0)) i : EReal) = G m c i := by
    intro i
    obtain ⟨a, n, rfl⟩ : ∃ (a : Fin 16896) (n : Fin 2048), i = ix2 a n := ⟨i 0, i 1, eq_ix2 i⟩
    show _ = ∑ k : Fin 1024, D m c a k * W m c n k
    pointwise
    rfl
  refine ⟨e0.trans ?_, e1.trans ?_, k⟩
  · rw [h0, h1]
    exact Eq.trans (funext e) (final m c).symm
  · rw [h0, h1]
    exact Eq.trans (funext e) (final2 m c).symm

end Cert.Cat
-- ==== Proof.InW.lean ====
/- The gradient of the projection's matrix: the call's blocked sum over rows is the whole product. -/
module

public import proofs.«01_k».proof.Proof.Dense
public import proofs.«01_k».proof.Proof.Gen.Kernel14Ideal.Value
public import proofs.«01_k».proof.Proof.Gen.Reference14Ideal.Run
public import proofs.«01_k».proof.Defs
public import Idealize.ShloMosaic.Lib.StableHlo.ReadAt
public import Idealize.ShloMosaic.Lib.WordArith
public import Idealize.ShloMosaic.Lib.Pipeline.ValueKit.Point

@[expose] public section

set_option maxRecDepth 16384
set_option Elab.async false

noncomputable section

namespace Cert.InW

open Cert.Kernel14Ideal Cert.Kernel14Ideal.Gen Cert.Kernel14Ideal.Value
open Idealize.ShloMosaic Idealize.ShloMosaic.TcCoe Idealize.SL.Sem

attribute [local instance] Cert.Kernel14Ideal.Gen.facts Cert.Reference14Ideal.Gen.facts

variable (m : (ℓ : Loc nD τ sig) → Buf (Elt Ideal) ℓ) (c : Dev nD)

/-- The layer's normed input by row and column, zero past the last row, -/
def X (r : ℕ) (a : Fin 1024) : EReal := if h : r < 16400 then m ((c : Thread nD τ).loc main_arg0) (ix2 (⟨r, h⟩ : Fin 16400) a) else 0
/-- and the gradient of the projection. -/
def Y (r : ℕ) (n : Fin 3584) : EReal := if h : r < 16400 then m ((c : Thread nD τ).loc main_arg1) (ix2 (⟨r, h⟩ : Fin 16400) n) else 0

theorem int_zero : (FloatOps.sitofp (F := Ideal) .f32 0#32 : EReal) = 0 := by
  show (((0#32 : BitVec 32).toInt : ℝ) : EReal) = 0
  simp

theorem V1_at (r : Fin 16896) (a : Fin 1024) : (V m c main_v1 (ix2 r a) : EReal) = X m c r.val a := by
  unfold V
  after_reads_at
  unfold X
  split
  · rfl
  · exact int_zero

theorem V3_at (r : Fin 16896) (n : Fin 3584) : (V m c main_v3 (ix2 r n) : EReal) = Y m c r.val n := by
  unfold V
  after_reads_at
  unfold Y
  split
  · rfl
  · exact int_zero

theorem pay_step (acc : Vec Ideal S1024x896 .f32) (x : Vec Ideal S1536x1024 .bf16) (y : Vec Ideal S1536x896 .bf16) (a : Fin 1024) (n : Fin 896) :
    (k0_pay2 acc x y (ix2 a n) : EReal) = acc (ix2 a n) + ∑ k : Fin 1536, x (ix2 k a) * y (ix2 k n) := by
  pointwise [k0_pay2]

theorem pay_zero (a : Fin 1024) (n : Fin 896) : (k0_pay1 (F := Ideal) (ix2 a n) : EReal) = 0 := by
  pointwise [k0_pay1]

theorem idx : ∀ t : Fin cfg0.N, win0_0.index t = ![t.val % 11, 0] ∧ win0_1.index t = ![t.val % 11, t.val / 11] :=
  (by decide +kernel : ∀ t : Fin grid0.N, _)

theorem blkX (t : Fin cfg0.N) (k : Fin 1536) (a : Fin 1024) : (iblk m c 0 t (ix2 k a) : EReal) = X m c (1536 * (t.val % 11) + k.val) a := by
  rw [← V1_at m c ⟨1536 * (t.val % 11) + k.val, by omega⟩]
  blk_ext [iblk, idx t]

theorem blkY (t : Fin cfg0.N) (k : Fin 1536) (n : Fin 896) (b : Fin 3584) (hb : b.val = 896 * (t.val / 11) + n.val) :
    (iblk m c 1 t (ix2 k n) : EReal) = Y m c (1536 * (t.val % 11) + k.val) b := by
  rw [← V3_at m c ⟨1536 * (t.val % 11) + k.val, by omega⟩]
  blk_ext [iblk, idx t, hb]

theorem X_row (r : Fin 16400) (a : Fin 1024) : X m c r.val a = m ((c : Thread nD τ).loc main_arg0) (ix2 r a) := dif_pos r.isLt
theorem Y_row (r : Fin 16400) (n : Fin 3584) : Y m c r.val n = m ((c : Thread nD τ).loc main_arg1) (ix2 r n) := dif_pos r.isLt

/-- A row's entry in column `n` of the result's block `q`. -/
abbrev col (q : ℕ) (n : Fin 896) : Fin 3584 := ⟨(896 * q + n.val) % 3584, by omega⟩

/-- What a point adds to its block of the result, -/
def part (q s : ℕ) (i : S1024x896.Idx) : EReal := Cert.Dense.part (fun r => X m c r (i 0)) (fun r => Y m c r (col q (i 1))) q s

theorem point (q s : ℕ) (h : s < cfg0.N) (h1 : 11 * q ≤ s) (h2 : s ≤ 11 * q + 10) (acc : Vec Ideal S1024x896 .f32) (i : S1024x896.Idx) :
    (k0_pay2 acc (iblk m c 0 ⟨s, h⟩) (iblk m c 1 ⟨s, h⟩) i : EReal) = acc i + part m c q s i := by
  have hN : s < 44 := Nat.lt_of_lt_of_eq h N_0
  obtain ⟨a, n, rfl⟩ : ∃ (a : Fin 1024) (n : Fin 896), i = ix2 a n := ⟨i 0, i 1, eq_ix2 i⟩
  rw [pay_step]
  unfold part Cert.Dense.part
  have e : s % 11 = s - 11 * q := by omega
  have e' : s / 11 = q := by omega
  refine congrArg (acc (ix2 a n) + ·) (Finset.sum_congr rfl fun k _ => ?_)
  rw [blkX, blkY m c ⟨s, h⟩ k n (col q n) (by dsimp only; rw [e']; omega)]
  dsimp only
  rw [e]
  rfl

/-- and what the call leaves in its array: the sum over all the rows. -/
theorem result (a : Fin 1024) (n : Fin 3584) : (G2 m c (ix2 a n) : EReal) = ∑ r : Fin 16400, X m c r.val a * Y m c r.val n := by
  have hN : cfg0.N = 44 := N_0
  have hn := n.isLt
  have hr : run2Of (ix2 a n) = n.val / 896 := by
    show 4 * (a.val / 1024 - 0) + 1 * (n.val / 896 - 0) = _
    omega
  have hl : loc2Of (ix2 a n) = ix2 a (⟨n.val % 896, by omega⟩ : Fin 896) := by
    rw [eq_ix2 (loc2Of (ix2 a n))]
    congr 1
    exact Fin.ext (Nat.mod_eq_of_lt a.isLt)
  have hb : 11 * run2Of (ix2 a n) + 10 < cfg0.N := by rw [hr, hN]; omega
  have key := Pipeline.accAt_add_apply (ι := S1024x896.Idx) (β := EReal) (reset2 m c) (step2 m c) (fun _ => 0) (part m c (run2Of (ix2 a n))) (11 * run2Of (ix2 a n)) 10
    (fun h i => (point m c _ _ h (le_refl _) (Nat.le_add_right _ _) _ i).trans (congrArg (· + _) (by rw [eq_ix2 i]; exact pay_zero _ _)))
    (fun s h acc i h1 h2 => point m c _ _ h h1.le h2 acc i) 10 (le_refl _) hb (loc2Of (ix2 a n))
  unfold G2
  rw [dif_pos hb]
  refine key.trans ?_
  rw [zero_add, hl]
  refine (Cert.Dense.sum_parts _ _ (fun r h => by unfold X; exact dif_neg (by omega)) _).trans ?_
  have e : col (run2Of (ix2 a n)) ⟨n.val % 896, by omega⟩ = n := Fin.ext (by dsimp only; rw [hr]; omega)
  exact congrArg (fun b => ∑ r : Fin 16400, X m c r.val a * Y m c r.val b) e

/-- The call's result is the gradient. -/
theorem grad : Cert.algebraic_Kernel14Ideal_Reference14Ideal := by
  intro m g m' g' _ hin
  refine ⟨_, Cert.Kernel14Ideal.Value.run m g, ?_⟩
  refine (θ_run _ _ _).mono (fun r h c => ?_) (Cert.Reference14Ideal.Value.run m' g')
  obtain ⟨h0, h1⟩ := hin c
  obtain ⟨e0, k⟩ := h c
  refine ⟨e0.trans ?_, k⟩
  rw [h0, h1]
  funext i
  obtain ⟨a, n, rfl⟩ : ∃ (a : Fin 1024) (n : Fin 3584), i = ix2 a n := ⟨i 0, i 1, eq_ix2 i⟩
  refine Eq.trans ?_ (result m c a n).symm
  pointwise
  refine Finset.sum_congr rfl fun r _ => ?_
  rw [X_row, Y_row]
  exact mul_comm _ _

end Cert.InW
-- ==== Proof.Enter.lean ====
/- The gradient of the layer's normed input: the call writes the product block by block of 768 rows. -/
module

public import proofs.«01_k».proof.Proof.Gen.Kernel15Ideal.Value
public import proofs.«01_k».proof.Proof.Gen.Reference15Ideal.Run
public import proofs.«01_k».proof.Defs
public import Idealize.ShloMosaic.Lib.StableHlo.ReadAt
public import Idealize.ShloMosaic.Lib.Pipeline.ValueKit.Point
public import Idealize.ShloMosaic.PureOps.Ideal

@[expose] public section

set_option maxRecDepth 16384
set_option Elab.async false

noncomputable section

namespace Cert.Enter

open Cert.Kernel15Ideal Cert.Kernel15Ideal.Gen Cert.Kernel15Ideal.Value
open Idealize.ShloMosaic Idealize.ShloMosaic.TcCoe Idealize.SL.Sem

attribute [local instance] Cert.Kernel15Ideal.Gen.facts Cert.Reference15Ideal.Gen.facts

variable (m : (ℓ : Loc nD τ sig) → Buf (Elt Ideal) ℓ) (c : Dev nD)

theorem V0_at (r : Fin 16896) (a : Fin 3584) : (V m c main_v0 (ix2 r a) : EReal) = m ((c : Thread nD τ).loc main_arg1) (ix2 r a) := by
  unfold V
  after_reads_at

theorem V1_at (r : Fin 1024) (a : Fin 3584) : (V m c main_v1 (ix2 r a) : EReal) = m ((c : Thread nD τ).loc main_arg0) (ix2 r a) := by
  unfold V
  after_reads_at

theorem pay (x : Vec Ideal S768x3584 .bf16) (y : Vec Ideal S1024x3584 .bf16) (a : Fin 768) (n : Fin 1024) :
    (k0_pay1 x y (ix2 a n) : EReal) = ∑ k : Fin 3584, x (ix2 a k) * y (ix2 n k) := by
  pointwise [k0_pay1]

/-- A row of the gradient of the projection, -/
def D (r : Fin 16896) (k : Fin 3584) : EReal := m ((c : Thread nD τ).loc main_arg1) (ix2 r k)
/-- a row of the matrix, -/
def W (n : Fin 1024) (k : Fin 3584) : EReal := m ((c : Thread nD τ).loc main_arg0) (ix2 n k)
/-- and the gradient of the input: every row against every row. -/
def G : S16896x1024.Idx → EReal := fun i => ∑ k : Fin 3584, D m c (i 0) k * W m c (i 1) k

theorem idx : ∀ t : Fin cfg0.N, win0_0.index t = ![t.val, 0] ∧ win0_1.index t = ![0, 0] ∧ win0_2.index t = ![t.val, 0] :=
  (by decide +kernel : ∀ t : Fin grid0.N, _)

theorem blkD (t : Fin cfg0.N) (a : Fin 768) (k : Fin 3584) (r : Fin 16896) (hr : r.val = 768 * t.val + a.val) : (iblk m c 0 t (ix2 a k) : EReal) = D m c r k := by
  refine Eq.trans ?_ (V0_at m c r k)
  blk_ext [iblk, idx t, hr]

theorem blkW (t : Fin cfg0.N) (n : Fin 1024) (k : Fin 3584) : (iblk m c 1 t (ix2 n k) : EReal) = W m c n k := by
  refine Eq.trans ?_ (V1_at m c n k)
  blk_ext [iblk, idx t]

/-- What the call leaves in its array is the gradient. -/
theorem final : (dats m 0 c).arrAt 2 (cfgs 0).N = G m c := by
  refine (dats m 0 c).arrAt_eq_of_covers 2 _ (by decide +kernel) fun t hf y => ?_
  have e0 : ((((cfg0.win 2).blk t).view.emb y) 0).val = 768 * t.val + (y 0).val := by
    blk_simp [idx t]
    omega
  have e1 : ((((cfg0.win 2).blk t).view.emb y) 1).val = (y 1).val := by
    blk_simp [idx t]
  obtain ⟨i, hi⟩ : ∃ i, i = ((cfg0.win 2).blk t).view.emb y := ⟨_, rfl⟩
  rw [← hi] at e0 e1 ⊢
  blk_simp
  rw [after0_2]
  frame_out
  obtain ⟨a, n, rfl⟩ : ∃ (a : Fin 768) (n : Fin 1024), y = ix2 a n := ⟨y 0, y 1, eq_ix2 y⟩
  refine (pay _ _ a n).trans ?_
  show _ = ∑ k : Fin 3584, D m c (i 0) k * W m c (i 1) k
  refine Finset.sum_congr rfl fun k _ => congrArg₂ (· * ·) (blkD m c t a k (i 0) e0) ?_
  refine (blkW m c t n k).trans (congrArg (W m c · k) ?_)
  exact Fin.ext e1.symm

/-- The call's result is the gradient of the reference. -/
theorem grad : Cert.algebraic_Kernel15Ideal_Reference15Ideal := by
  intro m g m' g' _ hin
  refine ⟨_, Cert.Kernel15Ideal.Value.run_blocks m g, ?_⟩
  refine (θ_run _ _ _).mono (fun r h c => ?_) (Cert.Reference15Ideal.Value.run m' g')
  obtain ⟨h0, h1⟩ := hin c
  obtain ⟨e0, k⟩ := h c
  refine ⟨e0.trans ?_, k⟩
  rw [h0, h1]
  refine Eq.trans ?_ (final m c).symm
  funext i
  obtain ⟨a, n, rfl⟩ : ∃ (a : Fin 16896) (n : Fin 1024), i = ix2 a n := ⟨i 0, i 1, eq_ix2 i⟩
  show _ = ∑ k : Fin 3584, D m c a k * W m c n k
  pointwise
  rfl

end Cert.Enter
-- ==== Proof.MlpUp.lean ====
/- The MLP's first product with its squared relu, written block by block of 512 rows. -/
module

public import proofs.«01_k».proof.Proof.Gen.Kernel16Ideal.Value
public import proofs.«01_k».proof.Proof.Gen.Reference16Ideal.Run
public import proofs.«01_k».proof.Defs
public import Idealize.ShloMosaic.Lib.StableHlo.ReadAt
public import Idealize.ShloMosaic.Lib.Pipeline.ValueKit.Point
public import Idealize.ShloMosaic.PureOps.Ideal

@[expose] public section

set_option maxRecDepth 16384
set_option Elab.async false

noncomputable section

namespace Cert.MlpUp

open Cert.Kernel16Ideal Cert.Kernel16Ideal.Gen Cert.Kernel16Ideal.Value
open Idealize.ShloMosaic Idealize.ShloMosaic.TcCoe Idealize.SL.Sem

attribute [local instance] Cert.Kernel16Ideal.Gen.facts Cert.Reference16Ideal.Gen.facts

variable (m : (ℓ : Loc nD τ sig) → Buf (Elt Ideal) ℓ) (c : Dev nD)

theorem V0_at (r : Fin 16896) (k : Fin 1024) : (V m c main_v0 (ix2 r k) : EReal) = m ((c : Thread nD τ).loc main_arg0) (ix2 r k) := by
  unfold V
  after_reads_at

theorem V1_at (k : Fin 1024) (n : Fin 4096) : (V m c main_v1 (ix2 k n) : EReal) = m ((c : Thread nD τ).loc main_arg1) (ix2 k n) := by
  unfold V
  after_reads_at

theorem pay (x : Vec Ideal S512x1024 .bf16) (y : Vec Ideal S1024x4096 .bf16) (a : Fin 512) (n : Fin 4096) :
    (k0_pay1 x y (ix2 a n) : EReal) = max (∑ k : Fin 1024, x (ix2 a k) * y (ix2 k n)) 0 * max (∑ k : Fin 1024, x (ix2 a k) * y (ix2 k n)) 0 := by
  pointwise [k0_pay1]

/-- The MLP's normed input by row and column, -/
def X (r : Fin 16896) (k : Fin 1024) : EReal := m ((c : Thread nD τ).loc main_arg0) (ix2 r k)
/-- the matrix, -/
def W (k : Fin 1024) (n : Fin 4096) : EReal := m ((c : Thread nD τ).loc main_arg1) (ix2 k n)
/-- and the squared relu of the product: every row against every column. -/
def G : S16896x4096.Idx → EReal := fun i => max (∑ k : Fin 1024, X m c (i 0) k * W m c k (i 1)) 0 * max (∑ k : Fin 1024, X m c (i 0) k * W m c k (i 1)) 0

theorem idx : ∀ t : Fin cfg0.N, win0_0.index t = ![t.val, 0] ∧ win0_1.index t = ![0, 0] ∧ win0_2.index t = ![t.val, 0] :=
  (by decide +kernel : ∀ t : Fin grid0.N, _)

theorem blkX (t : Fin cfg0.N) (a : Fin 512) (k : Fin 1024) (r : Fin 16896) (hr : r.val = 512 * t.val + a.val) : (iblk m c 0 t (ix2 a k) : EReal) = X m c r k := by
  refine Eq.trans ?_ (V0_at m c r k)
  blk_ext [iblk, idx t, hr]

theorem blkW (t : Fin cfg0.N) (k : Fin 1024) (n : Fin 4096) : (iblk m c 1 t (ix2 k n) : EReal) = W m c k n := by
  refine Eq.trans ?_ (V1_at m c k n)
  blk_ext [iblk, idx t]

/-- What the call leaves in its array is the squared relu of the product. -/
theorem final : (dats m 0 c).arrAt 2 (cfgs 0).N = G m c := by
  refine (dats m 0 c).arrAt_eq_of_covers 2 _ (by decide +kernel) fun t hf y => ?_
  have e0 : ((((cfg0.win 2).blk t).view.emb y) 0).val = 512 * t.val + (y 0).val := by
    blk_simp [idx t]
    omega
  have e1 : ((((cfg0.win 2).blk t).view.emb y) 1).val = (y 1).val := by
    blk_simp [idx t]
  obtain ⟨i, hi⟩ : ∃ i, i = ((cfg0.win 2).blk t).view.emb y := ⟨_, rfl⟩
  rw [← hi] at e0 e1 ⊢
  blk_simp
  rw [after0_2]
  frame_out
  obtain ⟨a, n, rfl⟩ : ∃ (a : Fin 512) (n : Fin 4096), y = ix2 a n := ⟨y 0, y 1, eq_ix2 y⟩
  refine (pay _ _ a n).trans ?_
  refine congrArg (fun p : EReal => max p 0 * max p 0) (?_ : _ = ∑ k : Fin 1024, X m c (i 0) k * W m c k (i 1))
  refine Finset.sum_congr rfl fun k _ => congrArg₂ (· * ·) (blkX m c t a k (i 0) e0) ?_
  refine (blkW m c t k n).trans (congrArg (W m c k ·) ?_)
  exact Fin.ext e1.symm

/-- The call's result is the reference's. -/
theorem result : Cert.algebraic_Kernel16Ideal_Reference16Ideal := by
  intro m g m' g' _ hin
  refine ⟨_, Cert.Kernel16Ideal.Value.run_blocks m g, ?_⟩
  refine (θ_run _ _ _).mono (fun r h c => ?_) (Cert.Reference16Ideal.Value.run m' g')
  obtain ⟨h0, h1⟩ := hin c
  obtain ⟨e0, k⟩ := h c
  refine ⟨e0.trans ?_, k⟩
  rw [h0, h1]
  refine Eq.trans ?_ (final m c).symm
  funext i
  obtain ⟨a, n, rfl⟩ : ∃ (a : Fin 16896) (n : Fin 4096), i = ix2 a n := ⟨i 0, i 1, eq_ix2 i⟩
  show _ = max (∑ k : Fin 1024, X m c a k * W m c k n) 0 * max (∑ k : Fin 1024, X m c a k * W m c k n) 0
  pointwise
  rfl

end Cert.MlpUp
-- ==== Proof.MlpDown.lean ====
/- The MLP's second product, written block by block of 768 rows. -/
module

public import proofs.«01_k».proof.Proof.Gen.Kernel17Ideal.Value
public import proofs.«01_k».proof.Proof.Gen.Reference17Ideal.Run
public import proofs.«01_k».proof.Defs
public import Idealize.ShloMosaic.Lib.StableHlo.ReadAt
public import Idealize.ShloMosaic.Lib.Pipeline.ValueKit.Point
public import Idealize.ShloMosaic.PureOps.Ideal

@[expose] public section

set_option maxRecDepth 16384
set_option Elab.async false

noncomputable section

namespace Cert.MlpDown

open Cert.Kernel17Ideal Cert.Kernel17Ideal.Gen Cert.Kernel17Ideal.Value
open Idealize.ShloMosaic Idealize.ShloMosaic.TcCoe Idealize.SL.Sem

attribute [local instance] Cert.Kernel17Ideal.Gen.facts Cert.Reference17Ideal.Gen.facts

variable (m : (ℓ : Loc nD τ sig) → Buf (Elt Ideal) ℓ) (c : Dev nD)

theorem V0_at (r : Fin 16896) (k : Fin 4096) : (V m c main_v0 (ix2 r k) : EReal) = m ((c : Thread nD τ).loc main_arg0) (ix2 r k) := by
  unfold V
  after_reads_at

theorem V1_at (k : Fin 4096) (n : Fin 1024) : (V m c main_v1 (ix2 k n) : EReal) = m ((c : Thread nD τ).loc main_arg1) (ix2 k n) := by
  unfold V
  after_reads_at

theorem pay (x : Vec Ideal S768x4096 .bf16) (y : Vec Ideal S4096x1024 .bf16) (a : Fin 768) (n : Fin 1024) :
    (k0_pay1 x y (ix2 a n) : EReal) = ∑ k : Fin 4096, x (ix2 a k) * y (ix2 k n) := by
  pointwise [k0_pay1]

/-- The activation by row and column, -/
def X (r : Fin 16896) (k : Fin 4096) : EReal := m ((c : Thread nD τ).loc main_arg0) (ix2 r k)
/-- the matrix, -/
def W (k : Fin 4096) (n : Fin 1024) : EReal := m ((c : Thread nD τ).loc main_arg1) (ix2 k n)
/-- and the product: every row against every column. -/
def G : S16896x1024.Idx → EReal := fun i => ∑ k : Fin 4096, X m c (i 0) k * W m c k (i 1)

theorem idx : ∀ t : Fin cfg0.N, win0_0.index t = ![t.val, 0] ∧ win0_1.index t = ![0, 0] ∧ win0_2.index t = ![t.val, 0] :=
  (by decide +kernel : ∀ t : Fin grid0.N, _)

theorem blkX (t : Fin cfg0.N) (a : Fin 768) (k : Fin 4096) (r : Fin 16896) (hr : r.val = 768 * t.val + a.val) : (iblk m c 0 t (ix2 a k) : EReal) = X m c r k := by
  refine Eq.trans ?_ (V0_at m c r k)
  blk_ext [iblk, idx t, hr]

theorem blkW (t : Fin cfg0.N) (k : Fin 4096) (n : Fin 1024) : (iblk m c 1 t (ix2 k n) : EReal) = W m c k n := by
  refine Eq.trans ?_ (V1_at m c k n)
  blk_ext [iblk, idx t]

/-- What the call leaves in its array is the product. -/
theorem final : (dats m 0 c).arrAt 2 (cfgs 0).N = G m c := by
  refine (dats m 0 c).arrAt_eq_of_covers 2 _ (by decide +kernel) fun t hf y => ?_
  have e0 : ((((cfg0.win 2).blk t).view.emb y) 0).val = 768 * t.val + (y 0).val := by
    blk_simp [idx t]
    omega
  have e1 : ((((cfg0.win 2).blk t).view.emb y) 1).val = (y 1).val := by
    blk_simp [idx t]
  obtain ⟨i, hi⟩ : ∃ i, i = ((cfg0.win 2).blk t).view.emb y := ⟨_, rfl⟩
  rw [← hi] at e0 e1 ⊢
  blk_simp
  rw [after0_2]
  frame_out
  obtain ⟨a, n, rfl⟩ : ∃ (a : Fin 768) (n : Fin 1024), y = ix2 a n := ⟨y 0, y 1, eq_ix2 y⟩
  refine (pay _ _ a n).trans ?_
  show _ = ∑ k : Fin 4096, X m c (i 0) k * W m c k (i 1)
  refine Finset.sum_congr rfl fun k _ => congrArg₂ (· * ·) (blkX m c t a k (i 0) e0) ?_
  refine (blkW m c t k n).trans (congrArg (W m c k ·) ?_)
  exact Fin.ext e1.symm

/-- The call's result is the reference's. -/
theorem result : Cert.algebraic_Kernel17Ideal_Reference17Ideal := by
  intro m g m' g' _ hin
  refine ⟨_, Cert.Kernel17Ideal.Value.run_blocks m g, ?_⟩
  refine (θ_run _ _ _).mono (fun r h c => ?_) (Cert.Reference17Ideal.Value.run m' g')
  obtain ⟨h0, h1⟩ := hin c
  obtain ⟨e0, k⟩ := h c
  refine ⟨e0.trans ?_, k⟩
  rw [h0, h1]
  refine Eq.trans ?_ (final m c).symm
  funext i
  obtain ⟨a, n, rfl⟩ : ∃ (a : Fin 16896) (n : Fin 1024), i = ix2 a n := ⟨i 0, i 1, eq_ix2 i⟩
  show _ = ∑ k : Fin 4096, X m c a k * W m c k n
  pointwise
  rfl

end Cert.MlpDown
-- ==== Proof.OutProj.lean ====
/- The output product: the call adds the products of the two halves, block by block of 1536 rows. -/
module

public import proofs.«01_k».proof.Proof.Gen.Kernel18Ideal.Value
public import proofs.«01_k».proof.Proof.Gen.Reference18Ideal.Run
public import proofs.«01_k».proof.Defs
public import Idealize.ShloMosaic.Lib.StableHlo.ReadAt
public import Idealize.ShloMosaic.Lib.Pipeline.ValueKit.Point
public import Idealize.ShloMosaic.PureOps.Ideal

@[expose] public section

set_option maxRecDepth 16384
set_option Elab.async false

noncomputable section

namespace Cert.OutProj

open Cert.Kernel18Ideal Cert.Kernel18Ideal.Gen Cert.Kernel18Ideal.Value
open Idealize.ShloMosaic Idealize.ShloMosaic.TcCoe Idealize.SL.Sem

attribute [local instance] Cert.Kernel18Ideal.Gen.facts Cert.Reference18Ideal.Gen.facts

variable (m : (ℓ : Loc nD τ sig) → Buf (Elt Ideal) ℓ) (c : Dev nD)

theorem V0_at (r : Fin 16896) (k : Fin 1024) : (V m c main_v0 (ix2 r k) : EReal) = m ((c : Thread nD τ).loc main_arg0) (ix2 r k) := by
  unfold V
  after_reads_at

theorem V1_at (r : Fin 16896) (k : Fin 1024) : (V m c main_v1 (ix2 r k) : EReal) = m ((c : Thread nD τ).loc main_arg1) (ix2 r k) := by
  unfold V
  after_reads_at

theorem V2_at (k : Fin 2048) (n : Fin 1024) : (V m c main_v2 (ix2 k n) : EReal) = m ((c : Thread nD τ).loc main_arg2) (ix2 k n) := by
  unfold V
  after_reads_at

theorem pay (x : Vec Ideal S1536x1024 .bf16) (y : Vec Ideal S1024x1024 .bf16) (x' : Vec Ideal S1536x1024 .bf16) (y' : Vec Ideal S1024x1024 .bf16)
    (a : Fin 1536) (n : Fin 1024) :
    (k0_pay1 x y x' y' (ix2 a n) : EReal) = (∑ k : Fin 1024, x (ix2 a k) * y (ix2 k n)) + ∑ k : Fin 1024, x' (ix2 a k) * y' (ix2 k n) := by
  pointwise [k0_pay1]

/-- The attention's half of the heads' output by row and column, -/
def X (r : Fin 16896) (k : Fin 1024) : EReal := m ((c : Thread nD τ).loc main_arg0) (ix2 r k)
/-- the other half, -/
def Y (r : Fin 16896) (k : Fin 1024) : EReal := m ((c : Thread nD τ).loc main_arg1) (ix2 r k)
/-- the matrix, -/
def W (k : Fin 2048) (n : Fin 1024) : EReal := m ((c : Thread nD τ).loc main_arg2) (ix2 k n)
/-- and the product: each half's rows against its rows of the matrix. -/
def G : S16896x1024.Idx → EReal := fun i =>
  (∑ k : Fin 1024, X m c (i 0) k * W m c (Fin.castAdd 1024 k) (i 1)) + ∑ k : Fin 1024, Y m c (i 0) k * W m c (Fin.natAdd 1024 k) (i 1)

theorem idx : ∀ t : Fin cfg0.N, win0_0.index t = ![t.val, 0] ∧ win0_1.index t = ![t.val, 0] ∧ win0_2.index t = ![0, 0] ∧ win0_3.index t = ![t.val, 0] :=
  (by decide +kernel : ∀ t : Fin grid0.N, _)

theorem blkX (t : Fin cfg0.N) (a : Fin 1536) (k : Fin 1024) (r : Fin 16896) (hr : r.val = 1536 * t.val + a.val) : (iblk m c 0 t (ix2 a k) : EReal) = X m c r k := by
  refine Eq.trans ?_ (V0_at m c r k)
  blk_ext [iblk, idx t, hr]

theorem blkY (t : Fin cfg0.N) (a : Fin 1536) (k : Fin 1024) (r : Fin 16896) (hr : r.val = 1536 * t.val + a.val) : (iblk m c 1 t (ix2 a k) : EReal) = Y m c r k := by
  refine Eq.trans ?_ (V1_at m c r k)
  blk_ext [iblk, idx t, hr]

theorem blkW (t : Fin cfg0.N) (k : Fin 2048) (n : Fin 1024) : (iblk m c 2 t (ix2 k n) : EReal) = W m c k n := by
  refine Eq.trans ?_ (V2_at m c k n)
  blk_ext [iblk, idx t]

/-- The upper half of the matrix's block, as the body loads it, -/
theorem upper (t : Fin cfg0.N) (k n : Fin 1024) : (View.ld (iblk m c 2 t) r0_1 (ix2 k n) : EReal) = W m c (Fin.castAdd 1024 k) n := by
  refine Eq.trans ?_ (blkW m c t _ n)
  blk_ext [View.ld]
  · show 0 + 1 * k.val = k.val
    omega
  · show 0 + 1 * n.val = _
    omega

/-- and the lower one. -/
theorem lower (t : Fin cfg0.N) (k n : Fin 1024) : (View.ld (iblk m c 2 t) r0_2 (ix2 k n) : EReal) = W m c (Fin.natAdd 1024 k) n := by
  refine Eq.trans ?_ (blkW m c t _ n)
  blk_ext [View.ld]
  · show 1024 + 1 * k.val = 1024 + k.val
    omega
  · show 0 + 1 * n.val = _
    omega

/-- What the call leaves in its array is the product. -/
theorem final : (dats m 0 c).arrAt 3 (cfgs 0).N = G m c := by
  refine (dats m 0 c).arrAt_eq_of_covers 3 _ (by decide +kernel) fun t hf y => ?_
  have e0 : ((((cfg0.win 3).blk t).view.emb y) 0).val = 1536 * t.val + (y 0).val := by
    blk_simp [idx t]
    omega
  have e1 : ((((cfg0.win 3).blk t).view.emb y) 1).val = (y 1).val := by
    blk_simp [idx t]
  obtain ⟨i, hi⟩ : ∃ i, i = ((cfg0.win 3).blk t).view.emb y := ⟨_, rfl⟩
  rw [← hi] at e0 e1 ⊢
  blk_simp
  rw [after0_3]
  frame_out
  obtain ⟨a, n, rfl⟩ : ∃ (a : Fin 1536) (n : Fin 1024), y = ix2 a n := ⟨y 0, y 1, eq_ix2 y⟩
  refine (pay _ _ _ _ a n).trans ?_
  have en : n = i 1 := Fin.ext e1.symm
  refine congrArg₂ (· + ·) (?_ : _ = ∑ k : Fin 1024, X m c (i 0) k * W m c (Fin.castAdd 1024 k) (i 1))
    (?_ : _ = ∑ k : Fin 1024, Y m c (i 0) k * W m c (Fin.natAdd 1024 k) (i 1))
  · exact Finset.sum_congr rfl fun k _ => congrArg₂ (· * ·) (blkX m c t a k (i 0) e0) ((upper m c t k n).trans (congrArg (W m c _ ·) en))
  · exact Finset.sum_congr rfl fun k _ => congrArg₂ (· * ·) (blkY m c t a k (i 0) e0) ((lower m c t k n).trans (congrArg (W m c _ ·) en))

/-- The call's result is the reference's. -/
theorem result : Cert.algebraic_Kernel18Ideal_Reference18Ideal := by
  intro m g m' g' _ hin
  refine ⟨_, Cert.Kernel18Ideal.Value.run_blocks m g, ?_⟩
  refine (θ_run _ _ _).mono (fun r h c => ?_) (Cert.Reference18Ideal.Value.run m' g')
  obtain ⟨h0, h1, h2⟩ := hin c
  obtain ⟨e0, k⟩ := h c
  refine ⟨e0.trans ?_, k⟩
  rw [h0, h1, h2]
  refine Eq.trans ?_ (final m c).symm
  funext i
  obtain ⟨a, n, rfl⟩ : ∃ (a : Fin 16896) (n : Fin 1024), i = ix2 a n := ⟨i 0, i 1, eq_ix2 i⟩
  show _ = (∑ k : Fin 1024, X m c a k * W m c (Fin.castAdd 1024 k) n) + ∑ k : Fin 1024, Y m c a k * W m c (Fin.natAdd 1024 k) n
  pointwise
  rfl

end Cert.OutProj
-- ==== Proof.Proj.lean ====
/- The projection of the layer's normed input, written block by block of 512 rows. -/
module

public import proofs.«01_k».proof.Proof.Gen.Kernel19Ideal.Value
public import proofs.«01_k».proof.Proof.Gen.Reference19Ideal.Run
public import proofs.«01_k».proof.Defs
public import Idealize.ShloMosaic.Lib.StableHlo.ReadAt
public import Idealize.ShloMosaic.Lib.Pipeline.ValueKit.Point
public import Idealize.ShloMosaic.PureOps.Ideal

@[expose] public section

set_option maxRecDepth 16384
set_option Elab.async false

noncomputable section

namespace Cert.Proj

open Cert.Kernel19Ideal Cert.Kernel19Ideal.Gen Cert.Kernel19Ideal.Value
open Idealize.ShloMosaic Idealize.ShloMosaic.TcCoe Idealize.SL.Sem

attribute [local instance] Cert.Kernel19Ideal.Gen.facts Cert.Reference19Ideal.Gen.facts

variable (m : (ℓ : Loc nD τ sig) → Buf (Elt Ideal) ℓ) (c : Dev nD)

theorem V0_at (r : Fin 16896) (k : Fin 1024) : (V m c main_v0 (ix2 r k) : EReal) = m ((c : Thread nD τ).loc main_arg0) (ix2 r k) := by
  unfold V
  after_reads_at

theorem V1_at (k : Fin 1024) (n : Fin 3584) : (V m c main_v1 (ix2 k n) : EReal) = m ((c : Thread nD τ).loc main_arg1) (ix2 k n) := by
  unfold V
  after_reads_at

theorem pay (x : Vec Ideal S512x1024 .bf16) (y : Vec Ideal S1024x3584 .bf16) (a : Fin 512) (n : Fin 3584) :
    (k0_pay1 x y (ix2 a n) : EReal) = ∑ k : Fin 1024, x (ix2 a k) * y (ix2 k n) := by
  pointwise [k0_pay1]

/-- The layer's normed input by row and column, -/
def X (r : Fin 16896) (k : Fin 1024) : EReal := m ((c : Thread nD τ).loc main_arg0) (ix2 r k)
/-- the matrix, -/
def W (k : Fin 1024) (n : Fin 3584) : EReal := m ((c : Thread nD τ).loc main_arg1) (ix2 k n)
/-- and the product: every row against every column. -/
def G : S16896x3584.Idx → EReal := fun i => ∑ k : Fin 1024, X m c (i 0) k * W m c k (i 1)

theorem idx : ∀ t : Fin cfg0.N, win0_0.index t = ![t.val, 0] ∧ win0_1.index t = ![0, 0] ∧ win0_2.index t = ![t.val, 0] :=
  (by decide +kernel : ∀ t : Fin grid0.N, _)

theorem blkX (t : Fin cfg0.N) (a : Fin 512) (k : Fin 1024) (r : Fin 16896) (hr : r.val = 512 * t.val + a.val) : (iblk m c 0 t (ix2 a k) : EReal) = X m c r k := by
  refine Eq.trans ?_ (V0_at m c r k)
  blk_ext [iblk, idx t, hr]

theorem blkW (t : Fin cfg0.N) (k : Fin 1024) (n : Fin 3584) : (iblk m c 1 t (ix2 k n) : EReal) = W m c k n := by
  refine Eq.trans ?_ (V1_at m c k n)
  blk_ext [iblk, idx t]

/-- What the call leaves in its array is the product. -/
theorem final : (dats m 0 c).arrAt 2 (cfgs 0).N = G m c := by
  refine (dats m 0 c).arrAt_eq_of_covers 2 _ (by decide +kernel) fun t hf y => ?_
  have e0 : ((((cfg0.win 2).blk t).view.emb y) 0).val = 512 * t.val + (y 0).val := by
    blk_simp [idx t]
    omega
  have e1 : ((((cfg0.win 2).blk t).view.emb y) 1).val = (y 1).val := by
    blk_simp [idx t]
  obtain ⟨i, hi⟩ : ∃ i, i = ((cfg0.win 2).blk t).view.emb y := ⟨_, rfl⟩
  rw [← hi] at e0 e1 ⊢
  blk_simp
  rw [after0_2]
  frame_out
  obtain ⟨a, n, rfl⟩ : ∃ (a : Fin 512) (n : Fin 3584), y = ix2 a n := ⟨y 0, y 1, eq_ix2 y⟩
  refine (pay _ _ a n).trans ?_
  show _ = ∑ k : Fin 1024, X m c (i 0) k * W m c k (i 1)
  refine Finset.sum_congr rfl fun k _ => congrArg₂ (· * ·) (blkX m c t a k (i 0) e0) ?_
  refine (blkW m c t k n).trans (congrArg (W m c k ·) ?_)
  exact Fin.ext e1.symm

/-- The call's result is the reference's. -/
theorem result : Cert.algebraic_Kernel19Ideal_Reference19Ideal := by
  intro m g m' g' _ hin
  refine ⟨_, Cert.Kernel19Ideal.Value.run_blocks m g, ?_⟩
  refine (θ_run _ _ _).mono (fun r h c => ?_) (Cert.Reference19Ideal.Value.run m' g')
  obtain ⟨h0, h1⟩ := hin c
  obtain ⟨e0, k⟩ := h c
  refine ⟨e0.trans ?_, k⟩
  rw [h0, h1]
  refine Eq.trans ?_ (final m c).symm
  funext i
  obtain ⟨a, n, rfl⟩ : ∃ (a : Fin 16896) (n : Fin 3584), i = ix2 a n := ⟨i 0, i 1, eq_ix2 i⟩
  show _ = ∑ k : Fin 1024, X m c a k * W m c k n
  pointwise
  rfl

end Cert.Proj
-- ==== Proof.QW.lean ====
/- The gradient of the queries' matrix: the call's blocked sum over rows is the whole product. -/
module

public import proofs.«01_k».proof.Proof.Dense
public import proofs.«01_k».proof.Proof.Gen.Kernel20Ideal.Value
public import proofs.«01_k».proof.Proof.Gen.Reference20Ideal.Run
public import proofs.«01_k».proof.Defs
public import Idealize.ShloMosaic.Lib.StableHlo.ReadAt
public import Idealize.ShloMosaic.Lib.WordArith
public import Idealize.ShloMosaic.Lib.Pipeline.ValueKit.Point

@[expose] public section

set_option maxRecDepth 16384
set_option Elab.async false

noncomputable section

namespace Cert.QW

open Cert.Kernel20Ideal Cert.Kernel20Ideal.Gen Cert.Kernel20Ideal.Value
open Idealize.ShloMosaic Idealize.ShloMosaic.TcCoe Idealize.SL.Sem

attribute [local instance] Cert.Kernel20Ideal.Gen.facts Cert.Reference20Ideal.Gen.facts

variable (m : (ℓ : Loc nD τ sig) → Buf (Elt Ideal) ℓ) (c : Dev nD)

/-- The normed low-rank factor by row and column, zero past the last row, -/
def X (r : ℕ) (a : Fin 384) : EReal := if h : r < 16400 then m ((c : Thread nD τ).loc main_arg0) (ix2 (⟨r, h⟩ : Fin 16400) a) else 0
/-- and the gradient of its product. -/
def Y (r : ℕ) (n : Fin 1536) : EReal := if h : r < 16400 then m ((c : Thread nD τ).loc main_arg1) (ix2 (⟨r, h⟩ : Fin 16400) n) else 0

theorem int_zero : (FloatOps.sitofp (F := Ideal) .f32 0#32 : EReal) = 0 := by
  show (((0#32 : BitVec 32).toInt : ℝ) : EReal) = 0
  simp

theorem V1_at (r : Fin 16896) (a : Fin 384) : (V m c main_v1 (ix2 r a) : EReal) = X m c r.val a := by
  unfold V
  after_reads_at
  unfold X
  split
  · rfl
  · exact int_zero

theorem V3_at (r : Fin 16896) (n : Fin 1536) : (V m c main_v3 (ix2 r n) : EReal) = Y m c r.val n := by
  unfold V
  after_reads_at
  unfold Y
  split
  · rfl
  · exact int_zero

theorem pay_step (acc : Vec Ideal S384x768 .f32) (x : Vec Ideal S1536x384 .bf16) (y : Vec Ideal S1536x768 .bf16) (a : Fin 384) (n : Fin 768) :
    (k0_pay2 acc x y (ix2 a n) : EReal) = acc (ix2 a n) + ∑ k : Fin 1536, x (ix2 k a) * y (ix2 k n) := by
  pointwise [k0_pay2]

theorem pay_zero (a : Fin 384) (n : Fin 768) : (k0_pay1 (F := Ideal) (ix2 a n) : EReal) = 0 := by
  pointwise [k0_pay1]

theorem idx : ∀ t : Fin cfg0.N, win0_0.index t = ![t.val % 11, 0] ∧ win0_1.index t = ![t.val % 11, t.val / 11] :=
  (by decide +kernel : ∀ t : Fin grid0.N, _)

theorem blkX (t : Fin cfg0.N) (k : Fin 1536) (a : Fin 384) : (iblk m c 0 t (ix2 k a) : EReal) = X m c (1536 * (t.val % 11) + k.val) a := by
  rw [← V1_at m c ⟨1536 * (t.val % 11) + k.val, by omega⟩]
  blk_ext [iblk, idx t]

theorem blkY (t : Fin cfg0.N) (k : Fin 1536) (n : Fin 768) (b : Fin 1536) (hb : b.val = 768 * (t.val / 11) + n.val) :
    (iblk m c 1 t (ix2 k n) : EReal) = Y m c (1536 * (t.val % 11) + k.val) b := by
  rw [← V3_at m c ⟨1536 * (t.val % 11) + k.val, by omega⟩]
  blk_ext [iblk, idx t, hb]

theorem X_row (r : Fin 16400) (a : Fin 384) : X m c r.val a = m ((c : Thread nD τ).loc main_arg0) (ix2 r a) := dif_pos r.isLt
theorem Y_row (r : Fin 16400) (n : Fin 1536) : Y m c r.val n = m ((c : Thread nD τ).loc main_arg1) (ix2 r n) := dif_pos r.isLt

/-- A row's entry in column `n` of the result's block `q`. -/
abbrev col (q : ℕ) (n : Fin 768) : Fin 1536 := ⟨(768 * q + n.val) % 1536, by omega⟩

/-- What a point adds to its block of the result, -/
def part (q s : ℕ) (i : S384x768.Idx) : EReal := Cert.Dense.part (fun r => X m c r (i 0)) (fun r => Y m c r (col q (i 1))) q s

theorem point (q s : ℕ) (h : s < cfg0.N) (h1 : 11 * q ≤ s) (h2 : s ≤ 11 * q + 10) (acc : Vec Ideal S384x768 .f32) (i : S384x768.Idx) :
    (k0_pay2 acc (iblk m c 0 ⟨s, h⟩) (iblk m c 1 ⟨s, h⟩) i : EReal) = acc i + part m c q s i := by
  have hN : s < 22 := Nat.lt_of_lt_of_eq h N_0
  obtain ⟨a, n, rfl⟩ : ∃ (a : Fin 384) (n : Fin 768), i = ix2 a n := ⟨i 0, i 1, eq_ix2 i⟩
  rw [pay_step]
  unfold part Cert.Dense.part
  have e : s % 11 = s - 11 * q := by omega
  have e' : s / 11 = q := by omega
  refine congrArg (acc (ix2 a n) + ·) (Finset.sum_congr rfl fun k _ => ?_)
  rw [blkX, blkY m c ⟨s, h⟩ k n (col q n) (by dsimp only; rw [e']; omega)]
  dsimp only
  rw [e]
  rfl

/-- and what the call leaves in its array: the sum over all the rows. -/
theorem result (a : Fin 384) (n : Fin 1536) : (G2 m c (ix2 a n) : EReal) = ∑ r : Fin 16400, X m c r.val a * Y m c r.val n := by
  have hN : cfg0.N = 22 := N_0
  have hn := n.isLt
  have hr : run2Of (ix2 a n) = n.val / 768 := by
    show 2 * (a.val / 384 - 0) + 1 * (n.val / 768 - 0) = _
    omega
  have hl : loc2Of (ix2 a n) = ix2 a (⟨n.val % 768, by omega⟩ : Fin 768) := by
    rw [eq_ix2 (loc2Of (ix2 a n))]
    congr 1
    exact Fin.ext (Nat.mod_eq_of_lt a.isLt)
  have hb : 11 * run2Of (ix2 a n) + 10 < cfg0.N := by rw [hr, hN]; omega
  have key := Pipeline.accAt_add_apply (ι := S384x768.Idx) (β := EReal) (reset2 m c) (step2 m c) (fun _ => 0) (part m c (run2Of (ix2 a n))) (11 * run2Of (ix2 a n)) 10
    (fun h i => (point m c _ _ h (le_refl _) (Nat.le_add_right _ _) _ i).trans (congrArg (· + _) (by rw [eq_ix2 i]; exact pay_zero _ _)))
    (fun s h acc i h1 h2 => point m c _ _ h h1.le h2 acc i) 10 (le_refl _) hb (loc2Of (ix2 a n))
  unfold G2
  rw [dif_pos hb]
  refine key.trans ?_
  rw [zero_add, hl]
  refine (Cert.Dense.sum_parts _ _ (fun r h => by unfold X; exact dif_neg (by omega)) _).trans ?_
  have e : col (run2Of (ix2 a n)) ⟨n.val % 768, by omega⟩ = n := Fin.ext (by dsimp only; rw [hr]; omega)
  exact congrArg (fun b => ∑ r : Fin 16400, X m c r.val a * Y m c r.val b) e

/-- The call's result is the gradient. -/
theorem grad : Cert.algebraic_Kernel20Ideal_Reference20Ideal := by
  intro m g m' g' _ hin
  refine ⟨_, Cert.Kernel20Ideal.Value.run m g, ?_⟩
  refine (θ_run _ _ _).mono (fun r h c => ?_) (Cert.Reference20Ideal.Value.run m' g')
  obtain ⟨h0, h1⟩ := hin c
  obtain ⟨e0, k⟩ := h c
  refine ⟨e0.trans ?_, k⟩
  rw [h0, h1]
  funext i
  obtain ⟨a, n, rfl⟩ : ∃ (a : Fin 384) (n : Fin 1536), i = ix2 a n := ⟨i 0, i 1, eq_ix2 i⟩
  refine Eq.trans ?_ (result m c a n).symm
  pointwise
  refine Finset.sum_congr rfl fun r _ => ?_
  rw [X_row, Y_row]
  exact mul_comm _ _

end Cert.QW
-- ==== Proof.KvW.lean ====
/- The gradient of the keys' and values' matrix: the call's blocked sum over rows is the whole product. -/
module

public import proofs.«01_k».proof.Proof.Dense
public import proofs.«01_k».proof.Proof.Gen.Kernel21Ideal.Value
public import proofs.«01_k».proof.Proof.Gen.Reference21Ideal.Run
public import proofs.«01_k».proof.Defs
public import Idealize.ShloMosaic.Lib.StableHlo.ReadAt
public import Idealize.ShloMosaic.Lib.WordArith
public import Idealize.ShloMosaic.Lib.Pipeline.ValueKit.Point

@[expose] public section

set_option maxRecDepth 16384
set_option Elab.async false

noncomputable section

namespace Cert.KvW

open Cert.Kernel21Ideal Cert.Kernel21Ideal.Gen Cert.Kernel21Ideal.Value
open Idealize.ShloMosaic Idealize.ShloMosaic.TcCoe Idealize.SL.Sem

attribute [local instance] Cert.Kernel21Ideal.Gen.facts Cert.Reference21Ideal.Gen.facts

variable (m : (ℓ : Loc nD τ sig) → Buf (Elt Ideal) ℓ) (c : Dev nD)

/-- The normed low-rank factor by row and column, zero past the last row, -/
def X (r : ℕ) (a : Fin 256) : EReal := if h : r < 16400 then m ((c : Thread nD τ).loc main_arg0) (ix2 (⟨r, h⟩ : Fin 16400) a) else 0
/-- and the gradient of its product. -/
def Y (r : ℕ) (n : Fin 2048) : EReal := if h : r < 16400 then m ((c : Thread nD τ).loc main_arg1) (ix2 (⟨r, h⟩ : Fin 16400) n) else 0

theorem int_zero : (FloatOps.sitofp (F := Ideal) .f32 0#32 : EReal) = 0 := by
  show (((0#32 : BitVec 32).toInt : ℝ) : EReal) = 0
  simp

theorem V1_at (r : Fin 16896) (a : Fin 256) : (V m c main_v1 (ix2 r a) : EReal) = X m c r.val a := by
  unfold V
  after_reads_at
  unfold X
  split
  · rfl
  · exact int_zero

theorem V3_at (r : Fin 16896) (n : Fin 2048) : (V m c main_v3 (ix2 r n) : EReal) = Y m c r.val n := by
  unfold V
  after_reads_at
  unfold Y
  split
  · rfl
  · exact int_zero

theorem pay_step (acc : Vec Ideal S256x1024 .f32) (x : Vec Ideal S1536x256 .bf16) (y : Vec Ideal S1536x1024 .bf16) (a : Fin 256) (n : Fin 1024) :
    (k0_pay2 acc x y (ix2 a n) : EReal) = acc (ix2 a n) + ∑ k : Fin 1536, x (ix2 k a) * y (ix2 k n) := by
  pointwise [k0_pay2]

theorem pay_zero (a : Fin 256) (n : Fin 1024) : (k0_pay1 (F := Ideal) (ix2 a n) : EReal) = 0 := by
  pointwise [k0_pay1]

theorem idx : ∀ t : Fin cfg0.N, win0_0.index t = ![t.val % 11, 0] ∧ win0_1.index t = ![t.val % 11, t.val / 11] :=
  (by decide +kernel : ∀ t : Fin grid0.N, _)

theorem blkX (t : Fin cfg0.N) (k : Fin 1536) (a : Fin 256) : (iblk m c 0 t (ix2 k a) : EReal) = X m c (1536 * (t.val % 11) + k.val) a := by
  rw [← V1_at m c ⟨1536 * (t.val % 11) + k.val, by omega⟩]
  blk_ext [iblk, idx t]

theorem blkY (t : Fin cfg0.N) (k : Fin 1536) (n : Fin 1024) (b : Fin 2048) (hb : b.val = 1024 * (t.val / 11) + n.val) :
    (iblk m c 1 t (ix2 k n) : EReal) = Y m c (1536 * (t.val % 11) + k.val) b := by
  rw [← V3_at m c ⟨1536 * (t.val % 11) + k.val, by omega⟩]
  blk_ext [iblk, idx t, hb]

theorem X_row (r : Fin 16400) (a : Fin 256) : X m c r.val a = m ((c : Thread nD τ).loc main_arg0) (ix2 r a) := dif_pos r.isLt
theorem Y_row (r : Fin 16400) (n : Fin 2048) : Y m c r.val n = m ((c : Thread nD τ).loc main_arg1) (ix2 r n) := dif_pos r.isLt

/-- A row's entry in column `n` of the result's block `q`. -/
abbrev col (q : ℕ) (n : Fin 1024) : Fin 2048 := ⟨(1024 * q + n.val) % 2048, by omega⟩

/-- What a point adds to its block of the result, -/
def part (q s : ℕ) (i : S256x1024.Idx) : EReal := Cert.Dense.part (fun r => X m c r (i 0)) (fun r => Y m c r (col q (i 1))) q s

theorem point (q s : ℕ) (h : s < cfg0.N) (h1 : 11 * q ≤ s) (h2 : s ≤ 11 * q + 10) (acc : Vec Ideal S256x1024 .f32) (i : S256x1024.Idx) :
    (k0_pay2 acc (iblk m c 0 ⟨s, h⟩) (iblk m c 1 ⟨s, h⟩) i : EReal) = acc i + part m c q s i := by
  have hN : s < 22 := Nat.lt_of_lt_of_eq h N_0
  obtain ⟨a, n, rfl⟩ : ∃ (a : Fin 256) (n : Fin 1024), i = ix2 a n := ⟨i 0, i 1, eq_ix2 i⟩
  rw [pay_step]
  unfold part Cert.Dense.part
  have e : s % 11 = s - 11 * q := by omega
  have e' : s / 11 = q := by omega
  refine congrArg (acc (ix2 a n) + ·) (Finset.sum_congr rfl fun k _ => ?_)
  rw [blkX, blkY m c ⟨s, h⟩ k n (col q n) (by dsimp only; rw [e']; omega)]
  dsimp only
  rw [e]
  rfl

/-- and what the call leaves in its array: the sum over all the rows. -/
theorem result (a : Fin 256) (n : Fin 2048) : (G2 m c (ix2 a n) : EReal) = ∑ r : Fin 16400, X m c r.val a * Y m c r.val n := by
  have hN : cfg0.N = 22 := N_0
  have hn := n.isLt
  have hr : run2Of (ix2 a n) = n.val / 1024 := by
    show 2 * (a.val / 256 - 0) + 1 * (n.val / 1024 - 0) = _
    omega
  have hl : loc2Of (ix2 a n) = ix2 a (⟨n.val % 1024, by omega⟩ : Fin 1024) := by
    rw [eq_ix2 (loc2Of (ix2 a n))]
    congr 1
    exact Fin.ext (Nat.mod_eq_of_lt a.isLt)
  have hb : 11 * run2Of (ix2 a n) + 10 < cfg0.N := by rw [hr, hN]; omega
  have key := Pipeline.accAt_add_apply (ι := S256x1024.Idx) (β := EReal) (reset2 m c) (step2 m c) (fun _ => 0) (part m c (run2Of (ix2 a n))) (11 * run2Of (ix2 a n)) 10
    (fun h i => (point m c _ _ h (le_refl _) (Nat.le_add_right _ _) _ i).trans (congrArg (· + _) (by rw [eq_ix2 i]; exact pay_zero _ _)))
    (fun s h acc i h1 h2 => point m c _ _ h h1.le h2 acc i) 10 (le_refl _) hb (loc2Of (ix2 a n))
  unfold G2
  rw [dif_pos hb]
  refine key.trans ?_
  rw [zero_add, hl]
  refine (Cert.Dense.sum_parts _ _ (fun r h => by unfold X; exact dif_neg (by omega)) _).trans ?_
  have e : col (run2Of (ix2 a n)) ⟨n.val % 1024, by omega⟩ = n := Fin.ext (by dsimp only; rw [hr]; omega)
  exact congrArg (fun b => ∑ r : Fin 16400, X m c r.val a * Y m c r.val b) e

/-- The call's result is the gradient. -/
theorem grad : Cert.algebraic_Kernel21Ideal_Reference21Ideal := by
  intro m g m' g' _ hin
  refine ⟨_, Cert.Kernel21Ideal.Value.run m g, ?_⟩
  refine (θ_run _ _ _).mono (fun r h c => ?_) (Cert.Reference21Ideal.Value.run m' g')
  obtain ⟨h0, h1⟩ := hin c
  obtain ⟨e0, k⟩ := h c
  refine ⟨e0.trans ?_, k⟩
  rw [h0, h1]
  funext i
  obtain ⟨a, n, rfl⟩ : ∃ (a : Fin 256) (n : Fin 2048), i = ix2 a n := ⟨i 0, i 1, eq_ix2 i⟩
  refine Eq.trans ?_ (result m c a n).symm
  pointwise
  refine Finset.sum_congr rfl fun r _ => ?_
  rw [X_row, Y_row]
  exact mul_comm _ _

end Cert.KvW
-- ==== Proof.QIn.lean ====
/- The gradient of the queries' low-rank factor: the call writes the product block by block of 1536 rows. -/
module

public import proofs.«01_k».proof.Proof.Gen.Kernel22Ideal.Value
public import proofs.«01_k».proof.Proof.Gen.Reference22Ideal.Run
public import proofs.«01_k».proof.Defs
public import Idealize.ShloMosaic.Lib.StableHlo.ReadAt
public import Idealize.ShloMosaic.Lib.Pipeline.ValueKit.Point
public import Idealize.ShloMosaic.PureOps.Ideal

@[expose] public section

set_option maxRecDepth 16384
set_option Elab.async false

noncomputable section

namespace Cert.QIn

open Cert.Kernel22Ideal Cert.Kernel22Ideal.Gen Cert.Kernel22Ideal.Value
open Idealize.ShloMosaic Idealize.ShloMosaic.TcCoe Idealize.SL.Sem

attribute [local instance] Cert.Kernel22Ideal.Gen.facts Cert.Reference22Ideal.Gen.facts

variable (m : (ℓ : Loc nD τ sig) → Buf (Elt Ideal) ℓ) (c : Dev nD)

theorem V0_at (r : Fin 16896) (a : Fin 1536) : (V m c main_v0 (ix2 r a) : EReal) = m ((c : Thread nD τ).loc main_arg1) (ix2 r a) := by
  unfold V
  after_reads_at

theorem V1_at (r : Fin 384) (a : Fin 1536) : (V m c main_v1 (ix2 r a) : EReal) = m ((c : Thread nD τ).loc main_arg0) (ix2 r a) := by
  unfold V
  after_reads_at

theorem pay (x : Vec Ideal S1536x1536 .bf16) (y : Vec Ideal S384x1536 .bf16) (a : Fin 1536) (n : Fin 384) :
    (k0_pay1 x y (ix2 a n) : EReal) = ∑ k : Fin 1536, x (ix2 a k) * y (ix2 n k) := by
  pointwise [k0_pay1]

/-- A row of the gradient of its product, -/
def D (r : Fin 16896) (k : Fin 1536) : EReal := m ((c : Thread nD τ).loc main_arg1) (ix2 r k)
/-- a row of the matrix, -/
def W (n : Fin 384) (k : Fin 1536) : EReal := m ((c : Thread nD τ).loc main_arg0) (ix2 n k)
/-- and the gradient of the input: every row against every row. -/
def G : S16896x384.Idx → EReal := fun i => ∑ k : Fin 1536, D m c (i 0) k * W m c (i 1) k

theorem idx : ∀ t : Fin cfg0.N, win0_0.index t = ![t.val, 0] ∧ win0_1.index t = ![0, 0] ∧ win0_2.index t = ![t.val, 0] :=
  (by decide +kernel : ∀ t : Fin grid0.N, _)

theorem blkD (t : Fin cfg0.N) (a : Fin 1536) (k : Fin 1536) (r : Fin 16896) (hr : r.val = 1536 * t.val + a.val) : (iblk m c 0 t (ix2 a k) : EReal) = D m c r k := by
  refine Eq.trans ?_ (V0_at m c r k)
  blk_ext [iblk, idx t, hr]

theorem blkW (t : Fin cfg0.N) (n : Fin 384) (k : Fin 1536) : (iblk m c 1 t (ix2 n k) : EReal) = W m c n k := by
  refine Eq.trans ?_ (V1_at m c n k)
  blk_ext [iblk, idx t]

/-- What the call leaves in its array is the gradient. -/
theorem final : (dats m 0 c).arrAt 2 (cfgs 0).N = G m c := by
  refine (dats m 0 c).arrAt_eq_of_covers 2 _ (by decide +kernel) fun t hf y => ?_
  have e0 : ((((cfg0.win 2).blk t).view.emb y) 0).val = 1536 * t.val + (y 0).val := by
    blk_simp [idx t]
    omega
  have e1 : ((((cfg0.win 2).blk t).view.emb y) 1).val = (y 1).val := by
    blk_simp [idx t]
  obtain ⟨i, hi⟩ : ∃ i, i = ((cfg0.win 2).blk t).view.emb y := ⟨_, rfl⟩
  rw [← hi] at e0 e1 ⊢
  blk_simp
  rw [after0_2]
  frame_out
  obtain ⟨a, n, rfl⟩ : ∃ (a : Fin 1536) (n : Fin 384), y = ix2 a n := ⟨y 0, y 1, eq_ix2 y⟩
  refine (pay _ _ a n).trans ?_
  show _ = ∑ k : Fin 1536, D m c (i 0) k * W m c (i 1) k
  refine Finset.sum_congr rfl fun k _ => congrArg₂ (· * ·) (blkD m c t a k (i 0) e0) ?_
  refine (blkW m c t n k).trans (congrArg (W m c · k) ?_)
  exact Fin.ext e1.symm

/-- The call's result is the gradient of the reference. -/
theorem grad : Cert.algebraic_Kernel22Ideal_Reference22Ideal := by
  intro m g m' g' _ hin
  refine ⟨_, Cert.Kernel22Ideal.Value.run_blocks m g, ?_⟩
  refine (θ_run _ _ _).mono (fun r h c => ?_) (Cert.Reference22Ideal.Value.run m' g')
  obtain ⟨h0, h1⟩ := hin c
  obtain ⟨e0, k⟩ := h c
  refine ⟨e0.trans ?_, k⟩
  rw [h0, h1]
  refine Eq.trans ?_ (final m c).symm
  funext i
  obtain ⟨a, n, rfl⟩ : ∃ (a : Fin 16896) (n : Fin 384), i = ix2 a n := ⟨i 0, i 1, eq_ix2 i⟩
  show _ = ∑ k : Fin 1536, D m c a k * W m c n k
  pointwise
  rfl

end Cert.QIn
-- ==== Proof.KvIn.lean ====
/- The gradient of the keys' and values' low-rank factor: the call writes the product block by block of 1536 rows. -/
module

public import proofs.«01_k».proof.Proof.Gen.Kernel23Ideal.Value
public import proofs.«01_k».proof.Proof.Gen.Reference23Ideal.Run
public import proofs.«01_k».proof.Defs
public import Idealize.ShloMosaic.Lib.StableHlo.ReadAt
public import Idealize.ShloMosaic.Lib.Pipeline.ValueKit.Point
public import Idealize.ShloMosaic.PureOps.Ideal

@[expose] public section

set_option maxRecDepth 16384
set_option Elab.async false

noncomputable section

namespace Cert.KvIn

open Cert.Kernel23Ideal Cert.Kernel23Ideal.Gen Cert.Kernel23Ideal.Value
open Idealize.ShloMosaic Idealize.ShloMosaic.TcCoe Idealize.SL.Sem

attribute [local instance] Cert.Kernel23Ideal.Gen.facts Cert.Reference23Ideal.Gen.facts

variable (m : (ℓ : Loc nD τ sig) → Buf (Elt Ideal) ℓ) (c : Dev nD)

theorem V0_at (r : Fin 16896) (a : Fin 2048) : (V m c main_v0 (ix2 r a) : EReal) = m ((c : Thread nD τ).loc main_arg1) (ix2 r a) := by
  unfold V
  after_reads_at

theorem V1_at (r : Fin 256) (a : Fin 2048) : (V m c main_v1 (ix2 r a) : EReal) = m ((c : Thread nD τ).loc main_arg0) (ix2 r a) := by
  unfold V
  after_reads_at

theorem pay (x : Vec Ideal S1536x2048 .bf16) (y : Vec Ideal S256x2048 .bf16) (a : Fin 1536) (n : Fin 256) :
    (k0_pay1 x y (ix2 a n) : EReal) = ∑ k : Fin 2048, x (ix2 a k) * y (ix2 n k) := by
  pointwise [k0_pay1]

/-- A row of the gradient of its product, -/
def D (r : Fin 16896) (k : Fin 2048) : EReal := m ((c : Thread nD τ).loc main_arg1) (ix2 r k)
/-- a row of the matrix, -/
def W (n : Fin 256) (k : Fin 2048) : EReal := m ((c : Thread nD τ).loc main_arg0) (ix2 n k)
/-- and the gradient of the input: every row against every row. -/
def G : S16896x256.Idx → EReal := fun i => ∑ k : Fin 2048, D m c (i 0) k * W m c (i 1) k

theorem idx : ∀ t : Fin cfg0.N, win0_0.index t = ![t.val, 0] ∧ win0_1.index t = ![0, 0] ∧ win0_2.index t = ![t.val, 0] :=
  (by decide +kernel : ∀ t : Fin grid0.N, _)

theorem blkD (t : Fin cfg0.N) (a : Fin 1536) (k : Fin 2048) (r : Fin 16896) (hr : r.val = 1536 * t.val + a.val) : (iblk m c 0 t (ix2 a k) : EReal) = D m c r k := by
  refine Eq.trans ?_ (V0_at m c r k)
  blk_ext [iblk, idx t, hr]

theorem blkW (t : Fin cfg0.N) (n : Fin 256) (k : Fin 2048) : (iblk m c 1 t (ix2 n k) : EReal) = W m c n k := by
  refine Eq.trans ?_ (V1_at m c n k)
  blk_ext [iblk, idx t]

/-- What the call leaves in its array is the gradient. -/
theorem final : (dats m 0 c).arrAt 2 (cfgs 0).N = G m c := by
  refine (dats m 0 c).arrAt_eq_of_covers 2 _ (by decide +kernel) fun t hf y => ?_
  have e0 : ((((cfg0.win 2).blk t).view.emb y) 0).val = 1536 * t.val + (y 0).val := by
    blk_simp [idx t]
    omega
  have e1 : ((((cfg0.win 2).blk t).view.emb y) 1).val = (y 1).val := by
    blk_simp [idx t]
  obtain ⟨i, hi⟩ : ∃ i, i = ((cfg0.win 2).blk t).view.emb y := ⟨_, rfl⟩
  rw [← hi] at e0 e1 ⊢
  blk_simp
  rw [after0_2]
  frame_out
  obtain ⟨a, n, rfl⟩ : ∃ (a : Fin 1536) (n : Fin 256), y = ix2 a n := ⟨y 0, y 1, eq_ix2 y⟩
  refine (pay _ _ a n).trans ?_
  show _ = ∑ k : Fin 2048, D m c (i 0) k * W m c (i 1) k
  refine Finset.sum_congr rfl fun k _ => congrArg₂ (· * ·) (blkD m c t a k (i 0) e0) ?_
  refine (blkW m c t n k).trans (congrArg (W m c · k) ?_)
  exact Fin.ext e1.symm

/-- The call's result is the gradient of the reference. -/
theorem grad : Cert.algebraic_Kernel23Ideal_Reference23Ideal := by
  intro m g m' g' _ hin
  refine ⟨_, Cert.Kernel23Ideal.Value.run_blocks m g, ?_⟩
  refine (θ_run _ _ _).mono (fun r h c => ?_) (Cert.Reference23Ideal.Value.run m' g')
  obtain ⟨h0, h1⟩ := hin c
  obtain ⟨e0, k⟩ := h c
  refine ⟨e0.trans ?_, k⟩
  rw [h0, h1]
  refine Eq.trans ?_ (final m c).symm
  funext i
  obtain ⟨a, n, rfl⟩ : ∃ (a : Fin 16896) (n : Fin 256), i = ix2 a n := ⟨i 0, i 1, eq_ix2 i⟩
  show _ = ∑ k : Fin 2048, D m c a k * W m c n k
  pointwise
  rfl

end Cert.KvIn
-- ==== Proof.QUp.lean ====
/- The queries, from their low-rank factor, written block by block of 1536 rows. -/
module

public import proofs.«01_k».proof.Proof.Gen.Kernel24Ideal.Value
public import proofs.«01_k».proof.Proof.Gen.Reference24Ideal.Run
public import proofs.«01_k».proof.Defs
public import Idealize.ShloMosaic.Lib.StableHlo.ReadAt
public import Idealize.ShloMosaic.Lib.Pipeline.ValueKit.Point
public import Idealize.ShloMosaic.PureOps.Ideal

@[expose] public section

set_option maxRecDepth 16384
set_option Elab.async false

noncomputable section

namespace Cert.QUp

open Cert.Kernel24Ideal Cert.Kernel24Ideal.Gen Cert.Kernel24Ideal.Value
open Idealize.ShloMosaic Idealize.ShloMosaic.TcCoe Idealize.SL.Sem

attribute [local instance] Cert.Kernel24Ideal.Gen.facts Cert.Reference24Ideal.Gen.facts

variable (m : (ℓ : Loc nD τ sig) → Buf (Elt Ideal) ℓ) (c : Dev nD)

theorem V0_at (r : Fin 16896) (k : Fin 384) : (V m c main_v0 (ix2 r k) : EReal) = m ((c : Thread nD τ).loc main_arg0) (ix2 r k) := by
  unfold V
  after_reads_at

theorem V1_at (k : Fin 384) (n : Fin 1536) : (V m c main_v1 (ix2 k n) : EReal) = m ((c : Thread nD τ).loc main_arg1) (ix2 k n) := by
  unfold V
  after_reads_at

theorem pay (x : Vec Ideal S1536x384 .bf16) (y : Vec Ideal S384x1536 .bf16) (a : Fin 1536) (n : Fin 1536) :
    (k0_pay1 x y (ix2 a n) : EReal) = ∑ k : Fin 384, x (ix2 a k) * y (ix2 k n) := by
  pointwise [k0_pay1]

/-- The normed low-rank factor by row and column, -/
def X (r : Fin 16896) (k : Fin 384) : EReal := m ((c : Thread nD τ).loc main_arg0) (ix2 r k)
/-- the matrix, -/
def W (k : Fin 384) (n : Fin 1536) : EReal := m ((c : Thread nD τ).loc main_arg1) (ix2 k n)
/-- and the product: every row against every column. -/
def G : S16896x1536.Idx → EReal := fun i => ∑ k : Fin 384, X m c (i 0) k * W m c k (i 1)

theorem idx : ∀ t : Fin cfg0.N, win0_0.index t = ![t.val, 0] ∧ win0_1.index t = ![0, 0] ∧ win0_2.index t = ![t.val, 0] :=
  (by decide +kernel : ∀ t : Fin grid0.N, _)

theorem blkX (t : Fin cfg0.N) (a : Fin 1536) (k : Fin 384) (r : Fin 16896) (hr : r.val = 1536 * t.val + a.val) : (iblk m c 0 t (ix2 a k) : EReal) = X m c r k := by
  refine Eq.trans ?_ (V0_at m c r k)
  blk_ext [iblk, idx t, hr]

theorem blkW (t : Fin cfg0.N) (k : Fin 384) (n : Fin 1536) : (iblk m c 1 t (ix2 k n) : EReal) = W m c k n := by
  refine Eq.trans ?_ (V1_at m c k n)
  blk_ext [iblk, idx t]

/-- What the call leaves in its array is the product. -/
theorem final : (dats m 0 c).arrAt 2 (cfgs 0).N = G m c := by
  refine (dats m 0 c).arrAt_eq_of_covers 2 _ (by decide +kernel) fun t hf y => ?_
  have e0 : ((((cfg0.win 2).blk t).view.emb y) 0).val = 1536 * t.val + (y 0).val := by
    blk_simp [idx t]
    omega
  have e1 : ((((cfg0.win 2).blk t).view.emb y) 1).val = (y 1).val := by
    blk_simp [idx t]
  obtain ⟨i, hi⟩ : ∃ i, i = ((cfg0.win 2).blk t).view.emb y := ⟨_, rfl⟩
  rw [← hi] at e0 e1 ⊢
  blk_simp
  rw [after0_2]
  frame_out
  obtain ⟨a, n, rfl⟩ : ∃ (a : Fin 1536) (n : Fin 1536), y = ix2 a n := ⟨y 0, y 1, eq_ix2 y⟩
  refine (pay _ _ a n).trans ?_
  show _ = ∑ k : Fin 384, X m c (i 0) k * W m c k (i 1)
  refine Finset.sum_congr rfl fun k _ => congrArg₂ (· * ·) (blkX m c t a k (i 0) e0) ?_
  refine (blkW m c t k n).trans (congrArg (W m c k ·) ?_)
  exact Fin.ext e1.symm

/-- The call's result is the reference's. -/
theorem result : Cert.algebraic_Kernel24Ideal_Reference24Ideal := by
  intro m g m' g' _ hin
  refine ⟨_, Cert.Kernel24Ideal.Value.run_blocks m g, ?_⟩
  refine (θ_run _ _ _).mono (fun r h c => ?_) (Cert.Reference24Ideal.Value.run m' g')
  obtain ⟨h0, h1⟩ := hin c
  obtain ⟨e0, k⟩ := h c
  refine ⟨e0.trans ?_, k⟩
  rw [h0, h1]
  refine Eq.trans ?_ (final m c).symm
  funext i
  obtain ⟨a, n, rfl⟩ : ∃ (a : Fin 16896) (n : Fin 1536), i = ix2 a n := ⟨i 0, i 1, eq_ix2 i⟩
  show _ = ∑ k : Fin 384, X m c a k * W m c k n
  pointwise
  rfl

end Cert.QUp
-- ==== Proof.KvUp.lean ====
/- The keys and values, from their low-rank factor, written block by block of 1536 rows. -/
module

public import proofs.«01_k».proof.Proof.Gen.Kernel25Ideal.Value
public import proofs.«01_k».proof.Proof.Gen.Reference25Ideal.Run
public import proofs.«01_k».proof.Defs
public import Idealize.ShloMosaic.Lib.StableHlo.ReadAt
public import Idealize.ShloMosaic.Lib.Pipeline.ValueKit.Point
public import Idealize.ShloMosaic.PureOps.Ideal

@[expose] public section

set_option maxRecDepth 16384
set_option Elab.async false

noncomputable section

namespace Cert.KvUp

open Cert.Kernel25Ideal Cert.Kernel25Ideal.Gen Cert.Kernel25Ideal.Value
open Idealize.ShloMosaic Idealize.ShloMosaic.TcCoe Idealize.SL.Sem

attribute [local instance] Cert.Kernel25Ideal.Gen.facts Cert.Reference25Ideal.Gen.facts

variable (m : (ℓ : Loc nD τ sig) → Buf (Elt Ideal) ℓ) (c : Dev nD)

theorem V0_at (r : Fin 16896) (k : Fin 256) : (V m c main_v0 (ix2 r k) : EReal) = m ((c : Thread nD τ).loc main_arg0) (ix2 r k) := by
  unfold V
  after_reads_at

theorem V1_at (k : Fin 256) (n : Fin 2048) : (V m c main_v1 (ix2 k n) : EReal) = m ((c : Thread nD τ).loc main_arg1) (ix2 k n) := by
  unfold V
  after_reads_at

theorem pay (x : Vec Ideal S1536x256 .bf16) (y : Vec Ideal S256x2048 .bf16) (a : Fin 1536) (n : Fin 2048) :
    (k0_pay1 x y (ix2 a n) : EReal) = ∑ k : Fin 256, x (ix2 a k) * y (ix2 k n) := by
  pointwise [k0_pay1]

/-- The normed low-rank factor by row and column, -/
def X (r : Fin 16896) (k : Fin 256) : EReal := m ((c : Thread nD τ).loc main_arg0) (ix2 r k)
/-- the matrix, -/
def W (k : Fin 256) (n : Fin 2048) : EReal := m ((c : Thread nD τ).loc main_arg1) (ix2 k n)
/-- and the product: every row against every column. -/
def G : S16896x2048.Idx → EReal := fun i => ∑ k : Fin 256, X m c (i 0) k * W m c k (i 1)

theorem idx : ∀ t : Fin cfg0.N, win0_0.index t = ![t.val, 0] ∧ win0_1.index t = ![0, 0] ∧ win0_2.index t = ![t.val, 0] :=
  (by decide +kernel : ∀ t : Fin grid0.N, _)

theorem blkX (t : Fin cfg0.N) (a : Fin 1536) (k : Fin 256) (r : Fin 16896) (hr : r.val = 1536 * t.val + a.val) : (iblk m c 0 t (ix2 a k) : EReal) = X m c r k := by
  refine Eq.trans ?_ (V0_at m c r k)
  blk_ext [iblk, idx t, hr]

theorem blkW (t : Fin cfg0.N) (k : Fin 256) (n : Fin 2048) : (iblk m c 1 t (ix2 k n) : EReal) = W m c k n := by
  refine Eq.trans ?_ (V1_at m c k n)
  blk_ext [iblk, idx t]

/-- What the call leaves in its array is the product. -/
theorem final : (dats m 0 c).arrAt 2 (cfgs 0).N = G m c := by
  refine (dats m 0 c).arrAt_eq_of_covers 2 _ (by decide +kernel) fun t hf y => ?_
  have e0 : ((((cfg0.win 2).blk t).view.emb y) 0).val = 1536 * t.val + (y 0).val := by
    blk_simp [idx t]
    omega
  have e1 : ((((cfg0.win 2).blk t).view.emb y) 1).val = (y 1).val := by
    blk_simp [idx t]
  obtain ⟨i, hi⟩ : ∃ i, i = ((cfg0.win 2).blk t).view.emb y := ⟨_, rfl⟩
  rw [← hi] at e0 e1 ⊢
  blk_simp
  rw [after0_2]
  frame_out
  obtain ⟨a, n, rfl⟩ : ∃ (a : Fin 1536) (n : Fin 2048), y = ix2 a n := ⟨y 0, y 1, eq_ix2 y⟩
  refine (pay _ _ a n).trans ?_
  show _ = ∑ k : Fin 256, X m c (i 0) k * W m c k (i 1)
  refine Finset.sum_congr rfl fun k _ => congrArg₂ (· * ·) (blkX m c t a k (i 0) e0) ?_
  refine (blkW m c t k n).trans (congrArg (W m c k ·) ?_)
  exact Fin.ext e1.symm

/-- The call's result is the reference's. -/
theorem result : Cert.algebraic_Kernel25Ideal_Reference25Ideal := by
  intro m g m' g' _ hin
  refine ⟨_, Cert.Kernel25Ideal.Value.run_blocks m g, ?_⟩
  refine (θ_run _ _ _).mono (fun r h c => ?_) (Cert.Reference25Ideal.Value.run m' g')
  obtain ⟨h0, h1⟩ := hin c
  obtain ⟨e0, k⟩ := h c
  refine ⟨e0.trans ?_, k⟩
  rw [h0, h1]
  refine Eq.trans ?_ (final m c).symm
  funext i
  obtain ⟨a, n, rfl⟩ : ∃ (a : Fin 16896) (n : Fin 2048), i = ix2 a n := ⟨i 0, i 1, eq_ix2 i⟩
  show _ = ∑ k : Fin 256, X m c a k * W m c k n
  pointwise
  rfl

end Cert.KvUp
-- ==== Proof.lean ====
/- The claims, put together from the modules under proof/Proof/. -/
module

public import proofs.«01_k».proof.Defs
public import proofs.«01_k».proof.Proof.Run
public import proofs.«01_k».proof.Proof.K.Run
public import proofs.«01_k».proof.Proof.Gen.ReferenceIdeal.Run
public import proofs.«01_k».proof.Proof.Given
public import proofs.«01_k».proof.Proof.Out
public import proofs.«01_k».proof.Proof.RefRes
public import proofs.«01_k».proof.Proof.More
public import proofs.«01_k».proof.Proof.Down
public import proofs.«01_k».proof.Proof.Up
public import proofs.«01_k».proof.Proof.Act
public import proofs.«01_k».proof.Proof.Inner
public import proofs.«01_k».proof.Proof.Adam
public import proofs.«01_k».proof.Proof.WeightsEq
public import proofs.«01_k».proof.Proof.Products
public import proofs.«01_k».proof.Proof.OutW
public import proofs.«01_k».proof.Proof.Cat
public import proofs.«01_k».proof.Proof.InW
public import proofs.«01_k».proof.Proof.Enter
public import proofs.«01_k».proof.Proof.MlpUp
public import proofs.«01_k».proof.Proof.MlpDown
public import proofs.«01_k».proof.Proof.OutProj
public import proofs.«01_k».proof.Proof.Proj
public import proofs.«01_k».proof.Proof.QW
public import proofs.«01_k».proof.Proof.KvW
public import proofs.«01_k».proof.Proof.QIn
public import proofs.«01_k».proof.Proof.KvIn
public import proofs.«01_k».proof.Proof.QUp
public import proofs.«01_k».proof.Proof.KvUp
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Kernel11.Frame
public import proofs.«01_k».proof.Proof.Gen.Kernel11Ideal.Frame
public import proofs.«01_k».proof.Proof.Gen.Reference11Ideal.Run
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Kernel14.Frame
public import proofs.«01_k».proof.Proof.Gen.Kernel14Ideal.Value
public import proofs.«01_k».proof.Proof.Gen.Reference14Ideal.Run
public import proofs.«01_k».proof.Proof.Gen.Kernel15.Frame
public import proofs.«01_k».proof.Proof.Gen.Kernel15Ideal.Value
public import proofs.«01_k».proof.Proof.Gen.Reference15Ideal.Run
public import proofs.«01_k».proof.Proof.Gen.Kernel16.Frame
public import proofs.«01_k».proof.Proof.Gen.Kernel16Ideal.Value
public import proofs.«01_k».proof.Proof.Gen.Reference16Ideal.Run
public import proofs.«01_k».proof.Proof.Gen.Kernel17.Frame
public import proofs.«01_k».proof.Proof.Gen.Kernel17Ideal.Value
public import proofs.«01_k».proof.Proof.Gen.Reference17Ideal.Run
public import proofs.«01_k».proof.Proof.Gen.Kernel18.Frame
public import proofs.«01_k».proof.Proof.Gen.Kernel18Ideal.Value
public import proofs.«01_k».proof.Proof.Gen.Reference18Ideal.Run
public import proofs.«01_k».proof.Proof.Gen.Kernel19.Frame
public import proofs.«01_k».proof.Proof.Gen.Kernel19Ideal.Value
public import proofs.«01_k».proof.Proof.Gen.Reference19Ideal.Run
public import proofs.«01_k».proof.Proof.Gen.Kernel20.Frame
public import proofs.«01_k».proof.Proof.Gen.Kernel20Ideal.Value
public import proofs.«01_k».proof.Proof.Gen.Reference20Ideal.Run
public import proofs.«01_k».proof.Proof.Gen.Kernel21.Frame
public import proofs.«01_k».proof.Proof.Gen.Kernel21Ideal.Value
public import proofs.«01_k».proof.Proof.Gen.Reference21Ideal.Run
public import proofs.«01_k».proof.Proof.Gen.Kernel22.Frame
public import proofs.«01_k».proof.Proof.Gen.Kernel22Ideal.Value
public import proofs.«01_k».proof.Proof.Gen.Reference22Ideal.Run
public import proofs.«01_k».proof.Proof.Gen.Kernel23.Frame
public import proofs.«01_k».proof.Proof.Gen.Kernel23Ideal.Value
public import proofs.«01_k».proof.Proof.Gen.Reference23Ideal.Run
public import proofs.«01_k».proof.Proof.Gen.Kernel24.Frame
public import proofs.«01_k».proof.Proof.Gen.Kernel24Ideal.Value
public import proofs.«01_k».proof.Proof.Gen.Reference24Ideal.Run
public import proofs.«01_k».proof.Proof.Gen.Kernel25.Frame
public import proofs.«01_k».proof.Proof.Gen.Kernel25Ideal.Value
public import proofs.«01_k».proof.Proof.Gen.Reference25Ideal.Run
public import Idealize.ShloMosaic.Adequacy
public import Idealize.ShloMosaic.Init

@[expose] public section

set_option maxRecDepth 16384

noncomputable section

namespace Cert.Proof

open Idealize.ShloMosaic Idealize.SL.Sem

theorem kernel_frame : Cert.quiescent_Kernel (hKernel := Cert.Kernel.Gen.facts) := fun m g _ =>
  Cert.Kernel.Attn.run_args m g

theorem kernelIdeal_frame : Cert.quiescent_KernelIdeal (hKernelIdeal := Cert.KernelIdeal.Gen.facts) := fun m g _ =>
  Cert.KernelIdeal.Attn.run_args m g

theorem named : Cert.preserves_Kernel_KernelIdeal :=
  ⟨IdealRules.named_const.statement _ _ _ _ _ rfl, IdealRules.named_const.statement _ _ _ _ _ rfl⟩

theorem reference_frame : Cert.quiescent_ReferenceIdeal (hReferenceIdeal := Cert.ReferenceIdeal.Gen.facts) := fun m g _ =>
  (θ_run _ _ _).mono (fun r h => ⟨fun c => (h c).2.2.2.2.2, sem_eq_zero_of_no_sems (by decide) r.2⟩)
    (Cert.ReferenceIdeal.Value.run m g)

theorem kernelIdeal_frame_pre : Cert.quiescent_KernelIdeal_pre_finite (hKernelIdeal := Cert.KernelIdeal.Gen.facts) (hPre_finite := Cert.Pre_finite.facts) := fun m g _ =>
  kernelIdeal_frame m g trivial

theorem reference_frame_pre : Cert.quiescent_ReferenceIdeal_pre_finite (hReferenceIdeal := Cert.ReferenceIdeal.Gen.facts) (hPre_finite := Cert.Pre_finite.facts) := fun m g _ =>
  reference_frame m g trivial

/-! ## The gradients agree -/

section
open Cert.Attn Idealize.ShloMosaic.TcCoe

abbrev KMem := (ℓ : Loc Cert.KernelIdeal.nD Cert.KernelIdeal.τ Cert.KernelIdeal.sig) → Buf (Elt Ideal) ℓ
abbrev RMem := (ℓ : Loc Cert.ReferenceIdeal.nD Cert.ReferenceIdeal.τ Cert.ReferenceIdeal.sig) → Buf (Elt Ideal) ℓ

/-- The arrays that a device holds, as real numbers. -/
def data (m : KMem) (c : Dev Cert.KernelIdeal.nD) : Data where
  qn q h d := EReal.toReal (m ((c.tc : Thread Cert.KernelIdeal.nD Cert.KernelIdeal.τ).loc Cert.KernelIdeal.main_arg0) (ix3 q h d))
  qr q h d := EReal.toReal (m ((c.tc : Thread Cert.KernelIdeal.nD Cert.KernelIdeal.τ).loc Cert.KernelIdeal.main_arg1) (ix3 q h d))
  kn q h d := EReal.toReal (m ((c.tc : Thread Cert.KernelIdeal.nD Cert.KernelIdeal.τ).loc Cert.KernelIdeal.main_arg2) (ix3 q h d))
  kr q d := EReal.toReal (m ((c.tc : Thread Cert.KernelIdeal.nD Cert.KernelIdeal.τ).loc Cert.KernelIdeal.main_arg3) (ix2 q d))
  v q h d := EReal.toReal (m ((c.tc : Thread Cert.KernelIdeal.nD Cert.KernelIdeal.τ).loc Cert.KernelIdeal.main_arg4) (ix3 q h d))
  o q h d := EReal.toReal (m ((c.tc : Thread Cert.KernelIdeal.nD Cert.KernelIdeal.τ).loc Cert.KernelIdeal.main_arg5) (ix2 q ⟨h.val * 128 + d.val, by omega⟩))

theorem holds (m : KMem) (hm : Cert.Pre_KernelIdeal_finite m) (c : Dev Cert.KernelIdeal.nD) :
    Cert.KernelIdeal.Attn.Holds (data m c) (fun b => m (c, b)) := by
  obtain ⟨h0, h1, h2, h3, h4, h5⟩ := Cert.Pre_finite.all_real (hm c)
  exact ⟨h0, h1, h2, h3, h4, h5⟩

theorem args (m : KMem) (m' : RMem) (hm : Cert.Pre_KernelIdeal_finite m) (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Attn.Done (data m c) (StableHlo.after (Cert.ReferenceIdeal.Value.ops (F := Ideal)) (StableHlo.launchContents m' c)) := by
  have H := holds m hm c
  exact Cert.ReferenceIdeal.Attn.done
    ⟨fun q h d => (congrFun e0 _).trans (H.a0 q h d), fun q h d => (congrFun e1 _).trans (H.a1 q h d), fun q h d => (congrFun e2 _).trans (H.a2 q h d),
      fun q d => (congrFun e3 _).trans (H.a3 q d), fun q h d => (congrFun e4 _).trans (H.a4 q h d)⟩
    fun q h d => (congrFun e5 _).trans (H.a5 q h d)

open Cert.KernelIdeal.Attn in
theorem gradients : Cert.algebraic_KernelIdeal_ReferenceIdeal_pre_finite (hKernelIdeal := Cert.KernelIdeal.Gen.facts)
    (hReferenceIdeal := Cert.ReferenceIdeal.Gen.facts) (hPre_finite := Cert.Pre_finite.facts) := by
  intro m g m' g' hm ha
  refine ⟨fun c => Vexit m c (Proc.devRef .tc Cert.KernelIdeal.main_v77), fun c => Vexit m c (Proc.devRef .tc Cert.KernelIdeal.main_v78),
    fun c => Vexit m c (Proc.devRef .tc Cert.KernelIdeal.main_v80), fun c => Vexit m c (Proc.devRef .tc Cert.KernelIdeal.main_v75),
    fun c => Vexit m c (Proc.devRef .tc Cert.KernelIdeal.main_v81), ?_, ?_⟩
  · refine (θ_run _ _ _).mono (fun r h c => ?_) (Cert.KernelIdeal.Attn.run m g)
    have k : ∀ b : Ref Cert.KernelIdeal.sig .tc, b ∈ Pipeline.restRefsP Cert.KernelIdeal.sig Cert.KernelIdeal.pre0 Cert.KernelIdeal.spec0 → b ∉ postW → (∀ w, Pipeline.arrRef Cert.KernelIdeal.spec0 w ≠ b) →
        b ∉ ({Cert.KernelIdeal.main_v61_0} : Finset (Ref Cert.KernelIdeal.sig .tc)) → b ∉ preW → r.2.mem ((c.tc : Thread Cert.KernelIdeal.nD Cert.KernelIdeal.τ).loc b) = m ((c.tc : Thread Cert.KernelIdeal.nD Cert.KernelIdeal.τ).loc b) :=
      fun b h1 h2 h3 h4 h5 => (h.1 c b h1).trans (Vexit_keep m c b h2 h3 h4 h5)
    exact ⟨h.1 c _ (by decide +kernel), h.1 c _ (by decide +kernel), h.1 c _ (by decide +kernel), h.1 c _ (by decide +kernel), h.1 c _ (by decide +kernel),
      k _ (by decide +kernel) (by decide +kernel) (by decide +kernel) (by decide +kernel) (by decide +kernel),
      k _ (by decide +kernel) (by decide +kernel) (by decide +kernel) (by decide +kernel) (by decide +kernel),
      k _ (by decide +kernel) (by decide +kernel) (by decide +kernel) (by decide +kernel) (by decide +kernel),
      k _ (by decide +kernel) (by decide +kernel) (by decide +kernel) (by decide +kernel) (by decide +kernel),
      k _ (by decide +kernel) (by decide +kernel) (by decide +kernel) (by decide +kernel) (by decide +kernel),
      k _ (by decide +kernel) (by decide +kernel) (by decide +kernel) (by decide +kernel) (by decide +kernel)⟩
  · have hv := StableHlo.run_seq Cert.ReferenceIdeal.Value.scopedRefs_eq Cert.ReferenceIdeal.Value.scopedSems_eq (Cert.ReferenceIdeal.defs (F := Ideal)) Cert.ReferenceIdeal.main
      (fun _ => Cert.ReferenceIdeal.Value.ops (F := Ideal)) Cert.ReferenceIdeal.Value.main_eq (fun _ => Cert.ReferenceIdeal.Value.ops_sub) m' g'
    refine (θ_run _ _ _).mono (fun r h c => ?_) hv
    obtain ⟨e0, e1, e2, e3, e4, e5⟩ := ha c
    have R := args m m' hm c e0 e1 e2 e3 e4 e5
    have H := holds m hm c
    refine ⟨(h c _).trans (funext fun i => ?_), (h c _).trans (funext fun i => ?_), (h c _).trans (funext fun i => ?_), (h c _).trans (funext fun i => ?_),
      (h c _).trans (funext fun i => ?_), (h c _).trans (Cert.ReferenceIdeal.Attn.kept0 _), (h c _).trans (Cert.ReferenceIdeal.Attn.kept1 _),
      (h c _).trans (Cert.ReferenceIdeal.Attn.kept2 _), (h c _).trans (Cert.ReferenceIdeal.Attn.kept3 _), (h c _).trans (Cert.ReferenceIdeal.Attn.kept4 _),
      (h c _).trans (Cert.ReferenceIdeal.Attn.kept5 _)⟩
    · rw [eq_ix3 i]; exact (R.r0 _ _ _).trans (res0 H _ _ _).symm
    · rw [eq_ix3 i]; exact (R.r1 _ _ _).trans (res1 H _ _ _).symm
    · rw [eq_ix3 i]; exact (R.r2 _ _ _).trans (res2 H _ _ _).symm
    · rw [eq_ix2 i]; exact (R.r3 _ _).trans (res3 H _ _).symm
    · rw [eq_ix3 i]; exact (R.r4 _ _ _).trans (res4 H _ _ _).symm

end

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Pre_finite.facts,
    kernel_frame, kernelIdeal_frame, kernelIdeal_frame_pre, reference_frame, reference_frame_pre,
    Cert.More.kernel2, Cert.More.ideal2, Cert.More.reference2,
    Cert.More.kernel3, Cert.More.ideal3, Cert.More.reference3,
    Cert.More.kernel4, Cert.More.ideal4, Cert.More.reference4,
    Cert.More.kernel5, Cert.More.ideal5, Cert.More.reference5,
    Cert.More.kernel6, Cert.More.ideal6, Cert.More.reference6,
    Cert.More.kernel7, Cert.More.ideal7, Cert.More.reference7,
    Cert.More.kernel8, Cert.More.ideal8, Cert.More.reference8,
    Cert.More.kernel9, Cert.More.ideal9, Cert.More.reference9,
    Cert.More.kernel10, Cert.More.ideal10, Cert.More.reference10,
    Cert.More.kernel11, Cert.More.ideal11, Cert.More.reference11,
    Cert.Products.kernel12, Cert.Products.ideal12, Cert.Products.reference12,
    Cert.Products.kernel13, Cert.Products.ideal13, Cert.Products.reference13,
    Cert.Products.kernel14, Cert.Products.ideal14, Cert.Products.reference14,
    Cert.Products.kernel15, Cert.Products.ideal15, Cert.Products.reference15,
    Cert.Products.kernel16, Cert.Products.ideal16, Cert.Products.reference16,
    Cert.Products.kernel17, Cert.Products.ideal17, Cert.Products.reference17,
    Cert.Products.kernel18, Cert.Products.ideal18, Cert.Products.reference18,
    Cert.Products.kernel19, Cert.Products.ideal19, Cert.Products.reference19,
    Cert.Products.kernel20, Cert.Products.ideal20, Cert.Products.reference20,
    Cert.Products.kernel21, Cert.Products.ideal21, Cert.Products.reference21,
    Cert.Products.kernel22, Cert.Products.ideal22, Cert.Products.reference22,
    Cert.Products.kernel23, Cert.Products.ideal23, Cert.Products.reference23,
    Cert.Products.kernel24, Cert.Products.ideal24, Cert.Products.reference24,
    Cert.Products.kernel25, Cert.Products.ideal25, Cert.Products.reference25,
    named, gradients,
    trivial, Cert.Down.grad, trivial, Cert.Up.grad, trivial, Cert.Act.grad, trivial, Cert.Inner.grad, trivial, Cert.Adam.w_in, trivial, Cert.Adam.w_q_up, trivial, Cert.Adam.w_kv_up, trivial, Cert.Adam.w_out, trivial, Cert.Adam.w_mlp, trivial, Cert.Small.adamw,
    trivial, Cert.OutW.grad, trivial, Cert.Cat.grad, trivial, Cert.InW.grad, trivial, Cert.Enter.grad, trivial, Cert.MlpUp.result, trivial, Cert.MlpDown.result, trivial, Cert.OutProj.result, trivial, Cert.Proj.result,
    trivial, Cert.QW.grad, trivial, Cert.KvW.grad, trivial, Cert.QIn.grad, trivial, Cert.KvIn.grad, trivial, Cert.QUp.result, trivial, Cert.KvUp.result⟩

end Cert.Proof

end
